-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0))) = (fun _ => 1#1)

def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleRefIdeal (m : (ℓ : Loc Cert.ScaleRefIdeal.nD Cert.ScaleRefIdeal.τ Cert.ScaleRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_finite [hPre_pool_finite : Cert.Pre_pool_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_finite.fn (F := Ideal) (m ((c.tc : Thread Cert.PoolFwdIdeal.nD Cert.PoolFwdIdeal.τ).loc Cert.PoolFwdIdeal.main_arg0))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_finite [hPre_pool_finite : Cert.Pre_pool_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_finite.fn (F := Ideal) (m ((c.tc : Thread Cert.PoolFwdRefIdeal.nD Cert.PoolFwdRefIdeal.τ).loc Cert.PoolFwdRefIdeal.main_arg0))) = (fun _ => 1#1)

def Pre_Group (m : (ℓ : Loc Cert.Group.nD Cert.Group.τ Cert.Group.sig) → Buf (Elt Bits) ℓ) : Prop :=
  True

def Pre_GroupIdeal (m : (ℓ : Loc Cert.GroupIdeal.nD Cert.GroupIdeal.τ Cert.GroupIdeal.sig) → Buf (Elt Ideal) ℓ) : Prop :=
  True

def Pre_GroupRefIdeal (m : (ℓ : Loc Cert.GroupRefIdeal.nD Cert.GroupRefIdeal.τ Cert.GroupRefIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_GroupGrad (m : (ℓ : Loc Cert.GroupGrad.nD Cert.GroupGrad.τ Cert.GroupGrad.sig) → Buf (Elt Bits) ℓ) : Prop :=
  True

def Pre_GroupGradIdeal (m : (ℓ : Loc Cert.GroupGradIdeal.nD Cert.GroupGradIdeal.τ Cert.GroupGradIdeal.sig) → Buf (Elt Ideal) ℓ) : Prop :=
  True

def Pre_GroupGradRefIdeal (m : (ℓ : Loc Cert.GroupGradRefIdeal.nD Cert.GroupGradRefIdeal.τ Cert.GroupGradRefIdeal.sig) → Buf (Elt Ideal) ℓ) : Prop :=
  True

def Pre_AddSib (m : (ℓ : Loc Cert.AddSib.nD Cert.AddSib.τ Cert.AddSib.sig) → Buf (Elt Bits) ℓ) : Prop :=
  True

def Pre_AddSibIdeal (m : (ℓ : Loc Cert.AddSibIdeal.nD Cert.AddSibIdeal.τ Cert.AddSibIdeal.sig) → Buf (Elt Ideal) ℓ) : Prop :=
  True

def Pre_AddSibRefIdeal (m : (ℓ : Loc Cert.AddSibRefIdeal.nD Cert.AddSibRefIdeal.τ Cert.AddSibRefIdeal.sig) → Buf (Elt Ideal) ℓ) : Prop :=
  True

def Pre_SmallAdam (m : (ℓ : Loc Cert.SmallAdam.nD Cert.SmallAdam.τ Cert.SmallAdam.sig) → Buf (Elt Bits) ℓ) : Prop :=
  True

def Pre_SmallAdamIdeal (m : (ℓ : Loc Cert.SmallAdamIdeal.nD Cert.SmallAdamIdeal.τ Cert.SmallAdamIdeal.sig) → Buf (Elt Ideal) ℓ) : Prop :=
  True

def Pre_SmallAdamRefIdeal (m : (ℓ : Loc Cert.SmallAdamRefIdeal.nD Cert.SmallAdamRefIdeal.τ Cert.SmallAdamRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_ReduceRefIdeal (m : (ℓ : Loc Cert.ReduceRefIdeal.nD Cert.ReduceRefIdeal.τ Cert.ReduceRefIdeal.sig) → Buf (Elt Ideal) ℓ) : Prop :=
  True

def Pre_Sent (m : (ℓ : Loc Cert.Sent.nD Cert.Sent.τ Cert.Sent.sig) → Buf (Elt Bits) ℓ) : Prop :=
  True

def Pre_SentIdeal (m : (ℓ : Loc Cert.SentIdeal.nD Cert.SentIdeal.τ Cert.SentIdeal.sig) → Buf (Elt Ideal) ℓ) : Prop :=
  True

def Pre_SentRefIdeal (m : (ℓ : Loc Cert.SentRefIdeal.nD Cert.SentRefIdeal.τ Cert.SentRefIdeal.sig) → Buf (Elt Ideal) ℓ) : Prop :=
  True

def Pre_GroupDx (m : (ℓ : Loc Cert.GroupDx.nD Cert.GroupDx.τ Cert.GroupDx.sig) → Buf (Elt Bits) ℓ) : Prop :=
  True

def Pre_GroupDxIdeal (m : (ℓ : Loc Cert.GroupDxIdeal.nD Cert.GroupDxIdeal.τ Cert.GroupDxIdeal.sig) → Buf (Elt Ideal) ℓ) : Prop :=
  True

def Pre_GroupDxRefIdeal (m : (ℓ : Loc Cert.GroupDxRefIdeal.nD Cert.GroupDxRefIdeal.τ Cert.GroupDxRefIdeal.sig) → Buf (Elt Ideal) ℓ) : Prop :=
  True

def Pre_Columns (m : (ℓ : Loc Cert.Columns.nD Cert.Columns.τ Cert.Columns.sig) → Buf (Elt Bits) ℓ) : Prop :=
  True

def Pre_ColumnsIdeal (m : (ℓ : Loc Cert.ColumnsIdeal.nD Cert.ColumnsIdeal.τ Cert.ColumnsIdeal.sig) → Buf (Elt Ideal) ℓ) : Prop :=
  True

def Pre_ColumnsRefIdeal (m : (ℓ : Loc Cert.ColumnsRefIdeal.nD Cert.ColumnsRefIdeal.τ Cert.ColumnsRefIdeal.sig) → Buf (Elt Ideal) ℓ) : Prop :=
  True

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0)
      ∧ r.2.mem ((c.tc : Thread Cert.Scale.nD Cert.Scale.τ).loc Cert.Scale.main_arg1) = m ((c.tc : Thread Cert.Scale.nD Cert.Scale.τ).loc Cert.Scale.main_arg1)
      ∧ r.2.mem ((c.tc : Thread Cert.Scale.nD Cert.Scale.τ).loc Cert.Scale.main_arg2) = m ((c.tc : Thread Cert.Scale.nD Cert.Scale.τ).loc Cert.Scale.main_arg2)
      ∧ r.2.mem ((c.tc : Thread Cert.Scale.nD Cert.Scale.τ).loc Cert.Scale.main_arg3) = m ((c.tc : Thread Cert.Scale.nD Cert.Scale.τ).loc Cert.Scale.main_arg3)
      ∧ r.2.mem ((c.tc : Thread Cert.Scale.nD Cert.Scale.τ).loc Cert.Scale.main_arg4) = m ((c.tc : Thread Cert.Scale.nD Cert.Scale.τ).loc Cert.Scale.main_arg4))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
      ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
      ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2)
      ∧ r.2.mem ((c.tc : Thread Cert.ScaleIdeal.nD Cert.ScaleIdeal.τ).loc Cert.ScaleIdeal.main_arg3) = m ((c.tc : Thread Cert.ScaleIdeal.nD Cert.ScaleIdeal.τ).loc Cert.ScaleIdeal.main_arg3)
      ∧ r.2.mem ((c.tc : Thread Cert.ScaleIdeal.nD Cert.ScaleIdeal.τ).loc Cert.ScaleIdeal.main_arg4) = m ((c.tc : Thread Cert.ScaleIdeal.nD Cert.ScaleIdeal.τ).loc Cert.ScaleIdeal.main_arg4))
      ∧ r.2.sem = fun _ => 0)

def quiescent_ScaleRefIdeal [hScaleRefIdeal : Cert.ScaleRefIdeal.Facts] : Prop :=
  ∀ (m : (ℓ : Loc Cert.ScaleRefIdeal.nD Cert.ScaleRefIdeal.τ Cert.ScaleRefIdeal.sig) → Buf (Elt Ideal) ℓ) (g : Dev Cert.ScaleRefIdeal.nD → PrngReg), Pre_ScaleRefIdeal m →
    θ_run (Cert.ScaleRefIdeal.defs (F := Ideal)) (onTc (τ := Cert.ScaleRefIdeal.τ) (Cert.ScaleRefIdeal.main (F := Ideal))) ⟨m, fun _ => 0, g⟩ (fun r => (∀ c : Dev Cert.ScaleRefIdeal.nD,
      r.2.mem ((c.tc : Thread Cert.ScaleRefIdeal.nD Cert.ScaleRefIdeal.τ).loc Cert.ScaleRefIdeal.main_arg0) = m ((c.tc : Thread Cert.ScaleRefIdeal.nD Cert.ScaleRefIdeal.τ).loc Cert.ScaleRefIdeal.main_arg0)
      ∧ r.2.mem ((c.tc : Thread Cert.ScaleRefIdeal.nD Cert.ScaleRefIdeal.τ).loc Cert.ScaleRefIdeal.main_arg1) = m ((c.tc : Thread Cert.ScaleRefIdeal.nD Cert.ScaleRefIdeal.τ).loc Cert.ScaleRefIdeal.main_arg1)
      ∧ r.2.mem ((c.tc : Thread Cert.ScaleRefIdeal.nD Cert.ScaleRefIdeal.τ).loc Cert.ScaleRefIdeal.main_arg2) = m ((c.tc : Thread Cert.ScaleRefIdeal.nD Cert.ScaleRefIdeal.τ).loc Cert.ScaleRefIdeal.main_arg2)
      ∧ r.2.mem ((c.tc : Thread Cert.ScaleRefIdeal.nD Cert.ScaleRefIdeal.τ).loc Cert.ScaleRefIdeal.main_arg3) = m ((c.tc : Thread Cert.ScaleRefIdeal.nD Cert.ScaleRefIdeal.τ).loc Cert.ScaleRefIdeal.main_arg3)
      ∧ r.2.mem ((c.tc : Thread Cert.ScaleRefIdeal.nD Cert.ScaleRefIdeal.τ).loc Cert.ScaleRefIdeal.main_arg4) = m ((c.tc : Thread Cert.ScaleRefIdeal.nD Cert.ScaleRefIdeal.τ).loc Cert.ScaleRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdIdeal_pre_pool_finite [hPoolFwdIdeal : Cert.PoolFwdIdeal.Facts] [hPre_pool_finite : Cert.Pre_pool_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_PoolFwdRefIdeal_pre_pool_finite [hPoolFwdRefIdeal : Cert.PoolFwdRefIdeal.Facts] [hPre_pool_finite : Cert.Pre_pool_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_Group [hGroup : Cert.Group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (onTc (τ := Cert.Group.τ) (Cert.Group.main (F := Bits))) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1)
      ∧ r.2.mem ((c.tc : Thread Cert.Group.nD Cert.Group.τ).loc Cert.Group.main_arg2) = m ((c.tc : Thread Cert.Group.nD Cert.Group.τ).loc Cert.Group.main_arg2))
      ∧ r.2.sem = fun _ => 0)

def quiescent_GroupIdeal [hGroupIdeal : Cert.GroupIdeal.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
      ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2))
      ∧ r.2.sem = fun _ => 0)

def quiescent_GroupRefIdeal [hGroupRefIdeal : Cert.GroupRefIdeal.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1)
      ∧ r.2.mem ((c.tc : Thread Cert.GroupRefIdeal.nD Cert.GroupRefIdeal.τ).loc Cert.GroupRefIdeal.main_arg2) = m ((c.tc : Thread Cert.GroupRefIdeal.nD Cert.GroupRefIdeal.τ).loc Cert.GroupRefIdeal.main_arg2))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1)
      ∧ r.2.mem ((c.tc : Thread Cert.WeightRefIdeal.nD Cert.WeightRefIdeal.τ).loc Cert.WeightRefIdeal.main_arg2) = m ((c.tc : Thread Cert.WeightRefIdeal.nD Cert.WeightRefIdeal.τ).loc Cert.WeightRefIdeal.main_arg2))
      ∧ r.2.sem = fun _ => 0)

def quiescent_GroupGrad [hGroupGrad : Cert.GroupGrad.Facts] : Prop :=
  ∀ (m : (ℓ : Loc Cert.GroupGrad.nD Cert.GroupGrad.τ Cert.GroupGrad.sig) → Buf (Elt Bits) ℓ) (g : Dev Cert.GroupGrad.nD → PrngReg), Pre_GroupGrad m →
    θ_run (Cert.GroupGrad.defs (F := Bits)) (onTc (τ := Cert.GroupGrad.τ) (Cert.GroupGrad.main (F := Bits))) ⟨m, fun _ => 0, g⟩ (fun r => (∀ c : Dev Cert.GroupGrad.nD,
      r.2.mem ((c.tc : Thread Cert.GroupGrad.nD Cert.GroupGrad.τ).loc Cert.GroupGrad.main_arg0) = m ((c.tc : Thread Cert.GroupGrad.nD Cert.GroupGrad.τ).loc Cert.GroupGrad.main_arg0)
      ∧ r.2.mem ((c.tc : Thread Cert.GroupGrad.nD Cert.GroupGrad.τ).loc Cert.GroupGrad.main_arg1) = m ((c.tc : Thread Cert.GroupGrad.nD Cert.GroupGrad.τ).loc Cert.GroupGrad.main_arg1))
      ∧ r.2.sem = fun _ => 0)

def quiescent_GroupGradIdeal [hGroupGradIdeal : Cert.GroupGradIdeal.Facts] : Prop :=
  ∀ (m : (ℓ : Loc Cert.GroupGradIdeal.nD Cert.GroupGradIdeal.τ Cert.GroupGradIdeal.sig) → Buf (Elt Ideal) ℓ) (g : Dev Cert.GroupGradIdeal.nD → PrngReg), Pre_GroupGradIdeal m →
    θ_run (Cert.GroupGradIdeal.defs (F := Ideal)) (onTc (τ := Cert.GroupGradIdeal.τ) (Cert.GroupGradIdeal.main (F := Ideal))) ⟨m, fun _ => 0, g⟩ (fun r => (∀ c : Dev Cert.GroupGradIdeal.nD,
      r.2.mem ((c.tc : Thread Cert.GroupGradIdeal.nD Cert.GroupGradIdeal.τ).loc Cert.GroupGradIdeal.main_arg0) = m ((c.tc : Thread Cert.GroupGradIdeal.nD Cert.GroupGradIdeal.τ).loc Cert.GroupGradIdeal.main_arg0)
      ∧ r.2.mem ((c.tc : Thread Cert.GroupGradIdeal.nD Cert.GroupGradIdeal.τ).loc Cert.GroupGradIdeal.main_arg1) = m ((c.tc : Thread Cert.GroupGradIdeal.nD Cert.GroupGradIdeal.τ).loc Cert.GroupGradIdeal.main_arg1))
      ∧ r.2.sem = fun _ => 0)

def quiescent_GroupGradRefIdeal [hGroupGradRefIdeal : Cert.GroupGradRefIdeal.Facts] : Prop :=
  ∀ (m : (ℓ : Loc Cert.GroupGradRefIdeal.nD Cert.GroupGradRefIdeal.τ Cert.GroupGradRefIdeal.sig) → Buf (Elt Ideal) ℓ) (g : Dev Cert.GroupGradRefIdeal.nD → PrngReg), Pre_GroupGradRefIdeal m →
    θ_run (Cert.GroupGradRefIdeal.defs (F := Ideal)) (onTc (τ := Cert.GroupGradRefIdeal.τ) (Cert.GroupGradRefIdeal.main (F := Ideal))) ⟨m, fun _ => 0, g⟩ (fun r => (∀ c : Dev Cert.GroupGradRefIdeal.nD,
      r.2.mem ((c.tc : Thread Cert.GroupGradRefIdeal.nD Cert.GroupGradRefIdeal.τ).loc Cert.GroupGradRefIdeal.main_arg0) = m ((c.tc : Thread Cert.GroupGradRefIdeal.nD Cert.GroupGradRefIdeal.τ).loc Cert.GroupGradRefIdeal.main_arg0)
      ∧ r.2.mem ((c.tc : Thread Cert.GroupGradRefIdeal.nD Cert.GroupGradRefIdeal.τ).loc Cert.GroupGradRefIdeal.main_arg1) = m ((c.tc : Thread Cert.GroupGradRefIdeal.nD Cert.GroupGradRefIdeal.τ).loc Cert.GroupGradRefIdeal.main_arg1))
      ∧ r.2.sem = fun _ => 0)

def quiescent_AddSib [hAddSib : Cert.AddSib.Facts] : Prop :=
  ∀ (m : (ℓ : Loc Cert.AddSib.nD Cert.AddSib.τ Cert.AddSib.sig) → Buf (Elt Bits) ℓ) (g : Dev Cert.AddSib.nD → PrngReg), Pre_AddSib m →
    θ_run (Cert.AddSib.defs (F := Bits)) (onTc (τ := Cert.AddSib.τ) (Cert.AddSib.main (F := Bits))) ⟨m, fun _ => 0, g⟩ (fun r => (∀ c : Dev Cert.AddSib.nD,
      r.2.mem ((c.tc : Thread Cert.AddSib.nD Cert.AddSib.τ).loc Cert.AddSib.main_arg0) = m ((c.tc : Thread Cert.AddSib.nD Cert.AddSib.τ).loc Cert.AddSib.main_arg0)
      ∧ r.2.mem ((c.tc : Thread Cert.AddSib.nD Cert.AddSib.τ).loc Cert.AddSib.main_arg1) = m ((c.tc : Thread Cert.AddSib.nD Cert.AddSib.τ).loc Cert.AddSib.main_arg1))
      ∧ r.2.sem = fun _ => 0)

def quiescent_AddSibIdeal [hAddSibIdeal : Cert.AddSibIdeal.Facts] : Prop :=
  ∀ (m : (ℓ : Loc Cert.AddSibIdeal.nD Cert.AddSibIdeal.τ Cert.AddSibIdeal.sig) → Buf (Elt Ideal) ℓ) (g : Dev Cert.AddSibIdeal.nD → PrngReg), Pre_AddSibIdeal m →
    θ_run (Cert.AddSibIdeal.defs (F := Ideal)) (onTc (τ := Cert.AddSibIdeal.τ) (Cert.AddSibIdeal.main (F := Ideal))) ⟨m, fun _ => 0, g⟩ (fun r => (∀ c : Dev Cert.AddSibIdeal.nD,
      r.2.mem ((c.tc : Thread Cert.AddSibIdeal.nD Cert.AddSibIdeal.τ).loc Cert.AddSibIdeal.main_arg0) = m ((c.tc : Thread Cert.AddSibIdeal.nD Cert.AddSibIdeal.τ).loc Cert.AddSibIdeal.main_arg0)
      ∧ r.2.mem ((c.tc : Thread Cert.AddSibIdeal.nD Cert.AddSibIdeal.τ).loc Cert.AddSibIdeal.main_arg1) = m ((c.tc : Thread Cert.AddSibIdeal.nD Cert.AddSibIdeal.τ).loc Cert.AddSibIdeal.main_arg1))
      ∧ r.2.sem = fun _ => 0)

def quiescent_AddSibRefIdeal [hAddSibRefIdeal : Cert.AddSibRefIdeal.Facts] : Prop :=
  ∀ (m : (ℓ : Loc Cert.AddSibRefIdeal.nD Cert.AddSibRefIdeal.τ Cert.AddSibRefIdeal.sig) → Buf (Elt Ideal) ℓ) (g : Dev Cert.AddSibRefIdeal.nD → PrngReg), Pre_AddSibRefIdeal m →
    θ_run (Cert.AddSibRefIdeal.defs (F := Ideal)) (onTc (τ := Cert.AddSibRefIdeal.τ) (Cert.AddSibRefIdeal.main (F := Ideal))) ⟨m, fun _ => 0, g⟩ (fun r => (∀ c : Dev Cert.AddSibRefIdeal.nD,
      r.2.mem ((c.tc : Thread Cert.AddSibRefIdeal.nD Cert.AddSibRefIdeal.τ).loc Cert.AddSibRefIdeal.main_arg0) = m ((c.tc : Thread Cert.AddSibRefIdeal.nD Cert.AddSibRefIdeal.τ).loc Cert.AddSibRefIdeal.main_arg0)
      ∧ r.2.mem ((c.tc : Thread Cert.AddSibRefIdeal.nD Cert.AddSibRefIdeal.τ).loc Cert.AddSibRefIdeal.main_arg1) = m ((c.tc : Thread Cert.AddSibRefIdeal.nD Cert.AddSibRefIdeal.τ).loc Cert.AddSibRefIdeal.main_arg1))
      ∧ r.2.sem = fun _ => 0)

def quiescent_SmallAdam [hSmallAdam : Cert.SmallAdam.Facts] : Prop :=
  ∀ (m : (ℓ : Loc Cert.SmallAdam.nD Cert.SmallAdam.τ Cert.SmallAdam.sig) → Buf (Elt Bits) ℓ) (g : Dev Cert.SmallAdam.nD → PrngReg), Pre_SmallAdam m →
    θ_run (Cert.SmallAdam.defs (F := Bits)) (onTc (τ := Cert.SmallAdam.τ) (Cert.SmallAdam.main (F := Bits))) ⟨m, fun _ => 0, g⟩ (fun r => (∀ c : Dev Cert.SmallAdam.nD,
      r.2.mem ((c.tc : Thread Cert.SmallAdam.nD Cert.SmallAdam.τ).loc Cert.SmallAdam.main_arg0) = m ((c.tc : Thread Cert.SmallAdam.nD Cert.SmallAdam.τ).loc Cert.SmallAdam.main_arg0)
      ∧ r.2.mem ((c.tc : Thread Cert.SmallAdam.nD Cert.SmallAdam.τ).loc Cert.SmallAdam.main_arg1) = m ((c.tc : Thread Cert.SmallAdam.nD Cert.SmallAdam.τ).loc Cert.SmallAdam.main_arg1)
      ∧ r.2.mem ((c.tc : Thread Cert.SmallAdam.nD Cert.SmallAdam.τ).loc Cert.SmallAdam.main_arg2) = m ((c.tc : Thread Cert.SmallAdam.nD Cert.SmallAdam.τ).loc Cert.SmallAdam.main_arg2)
      ∧ r.2.mem ((c.tc : Thread Cert.SmallAdam.nD Cert.SmallAdam.τ).loc Cert.SmallAdam.main_arg3) = m ((c.tc : Thread Cert.SmallAdam.nD Cert.SmallAdam.τ).loc Cert.SmallAdam.main_arg3))
      ∧ r.2.sem = fun _ => 0)

def quiescent_SmallAdamIdeal [hSmallAdamIdeal : Cert.SmallAdamIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg), Pre_SmallAdamIdeal m →
    θ_run (Cert.SmallAdamIdeal.defs (F := Ideal)) (onTc (τ := Cert.SmallAdamIdeal.τ) (Cert.SmallAdamIdeal.main (F := Ideal))) ⟨m, fun _ => 0, g⟩ (fun r => (∀ c : Dev Cert.SmallAdamIdeal.nD,
      r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
      ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
      ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
      ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ r.2.sem = fun _ => 0)

def quiescent_SmallAdamRefIdeal [hSmallAdamRefIdeal : Cert.SmallAdamRefIdeal.Facts] : Prop :=
  ∀ (m : (ℓ : Loc Cert.SmallAdamRefIdeal.nD Cert.SmallAdamRefIdeal.τ Cert.SmallAdamRefIdeal.sig) → Buf (Elt Ideal) ℓ) (g : Dev Cert.SmallAdamRefIdeal.nD → PrngReg), Pre_SmallAdamRefIdeal m →
    θ_run (Cert.SmallAdamRefIdeal.defs (F := Ideal)) (onTc (τ := Cert.SmallAdamRefIdeal.τ) (Cert.SmallAdamRefIdeal.main (F := Ideal))) ⟨m, fun _ => 0, g⟩ (fun r => (∀ c : Dev Cert.SmallAdamRefIdeal.nD,
      r.2.mem ((c.tc : Thread Cert.SmallAdamRefIdeal.nD Cert.SmallAdamRefIdeal.τ).loc Cert.SmallAdamRefIdeal.main_arg0) = m ((c.tc : Thread Cert.SmallAdamRefIdeal.nD Cert.SmallAdamRefIdeal.τ).loc Cert.SmallAdamRefIdeal.main_arg0)
      ∧ r.2.mem ((c.tc : Thread Cert.SmallAdamRefIdeal.nD Cert.SmallAdamRefIdeal.τ).loc Cert.SmallAdamRefIdeal.main_arg1) = m ((c.tc : Thread Cert.SmallAdamRefIdeal.nD Cert.SmallAdamRefIdeal.τ).loc Cert.SmallAdamRefIdeal.main_arg1)
      ∧ r.2.mem ((c.tc : Thread Cert.SmallAdamRefIdeal.nD Cert.SmallAdamRefIdeal.τ).loc Cert.SmallAdamRefIdeal.main_arg2) = m ((c.tc : Thread Cert.SmallAdamRefIdeal.nD Cert.SmallAdamRefIdeal.τ).loc Cert.SmallAdamRefIdeal.main_arg2)
      ∧ r.2.mem ((c.tc : Thread Cert.SmallAdamRefIdeal.nD Cert.SmallAdamRefIdeal.τ).loc Cert.SmallAdamRefIdeal.main_arg3) = m ((c.tc : Thread Cert.SmallAdamRefIdeal.nD Cert.SmallAdamRefIdeal.τ).loc Cert.SmallAdamRefIdeal.main_arg3))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0)
      ∧ r.2.mem ((c.tc : Thread Cert.SmallSum.nD Cert.SmallSum.τ).loc Cert.SmallSum.main_arg1) = m ((c.tc : Thread Cert.SmallSum.nD Cert.SmallSum.τ).loc Cert.SmallSum.main_arg1)
      ∧ r.2.mem ((c.tc : Thread Cert.SmallSum.nD Cert.SmallSum.τ).loc Cert.SmallSum.main_arg2) = m ((c.tc : Thread Cert.SmallSum.nD Cert.SmallSum.τ).loc Cert.SmallSum.main_arg2))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
      ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1)
      ∧ r.2.mem ((c.tc : Thread Cert.SmallSumIdeal.nD Cert.SmallSumIdeal.τ).loc Cert.SmallSumIdeal.main_arg2) = m ((c.tc : Thread Cert.SmallSumIdeal.nD Cert.SmallSumIdeal.τ).loc Cert.SmallSumIdeal.main_arg2))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0)
      ∧ r.2.mem ((c.tc : Thread Cert.SmallSumRefIdeal.nD Cert.SmallSumRefIdeal.τ).loc Cert.SmallSumRefIdeal.main_arg1) = m ((c.tc : Thread Cert.SmallSumRefIdeal.nD Cert.SmallSumRefIdeal.τ).loc Cert.SmallSumRefIdeal.main_arg1)
      ∧ r.2.mem ((c.tc : Thread Cert.SmallSumRefIdeal.nD Cert.SmallSumRefIdeal.τ).loc Cert.SmallSumRefIdeal.main_arg2) = m ((c.tc : Thread Cert.SmallSumRefIdeal.nD Cert.SmallSumRefIdeal.τ).loc Cert.SmallSumRefIdeal.main_arg2))
      ∧ r.2.sem = fun _ => 0)

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1)
      ∧ r.2.mem ((c.tc : Thread Cert.Reduce.nD Cert.Reduce.τ).loc Cert.Reduce.main_arg2) = m ((c.tc : Thread Cert.Reduce.nD Cert.Reduce.τ).loc Cert.Reduce.main_arg2)
      ∧ r.2.mem ((c.tc : Thread Cert.Reduce.nD Cert.Reduce.τ).loc Cert.Reduce.main_arg3) = m ((c.tc : Thread Cert.Reduce.nD Cert.Reduce.τ).loc Cert.Reduce.main_arg3)
      ∧ r.2.mem ((c.tc : Thread Cert.Reduce.nD Cert.Reduce.τ).loc Cert.Reduce.main_arg4) = m ((c.tc : Thread Cert.Reduce.nD Cert.Reduce.τ).loc Cert.Reduce.main_arg4))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
      ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
      ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4))
      ∧ r.2.sem = fun _ => 0)

def quiescent_ReduceRefIdeal [hReduceRefIdeal : Cert.ReduceRefIdeal.Facts] : Prop :=
  ∀ (m : (ℓ : Loc Cert.ReduceRefIdeal.nD Cert.ReduceRefIdeal.τ Cert.ReduceRefIdeal.sig) → Buf (Elt Ideal) ℓ) (g : Dev Cert.ReduceRefIdeal.nD → PrngReg), Pre_ReduceRefIdeal m →
    θ_run (Cert.ReduceRefIdeal.defs (F := Ideal)) (onTc (τ := Cert.ReduceRefIdeal.τ) (Cert.ReduceRefIdeal.main (F := Ideal))) ⟨m, fun _ => 0, g⟩ (fun r => (∀ c : Dev Cert.ReduceRefIdeal.nD,
      r.2.mem ((c.tc : Thread Cert.ReduceRefIdeal.nD Cert.ReduceRefIdeal.τ).loc Cert.ReduceRefIdeal.main_arg0) = m ((c.tc : Thread Cert.ReduceRefIdeal.nD Cert.ReduceRefIdeal.τ).loc Cert.ReduceRefIdeal.main_arg0)
      ∧ r.2.mem ((c.tc : Thread Cert.ReduceRefIdeal.nD Cert.ReduceRefIdeal.τ).loc Cert.ReduceRefIdeal.main_arg1) = m ((c.tc : Thread Cert.ReduceRefIdeal.nD Cert.ReduceRefIdeal.τ).loc Cert.ReduceRefIdeal.main_arg1)
      ∧ r.2.mem ((c.tc : Thread Cert.ReduceRefIdeal.nD Cert.ReduceRefIdeal.τ).loc Cert.ReduceRefIdeal.main_arg2) = m ((c.tc : Thread Cert.ReduceRefIdeal.nD Cert.ReduceRefIdeal.τ).loc Cert.ReduceRefIdeal.main_arg2)
      ∧ r.2.mem ((c.tc : Thread Cert.ReduceRefIdeal.nD Cert.ReduceRefIdeal.τ).loc Cert.ReduceRefIdeal.main_arg3) = m ((c.tc : Thread Cert.ReduceRefIdeal.nD Cert.ReduceRefIdeal.τ).loc Cert.ReduceRefIdeal.main_arg3)
      ∧ r.2.mem ((c.tc : Thread Cert.ReduceRefIdeal.nD Cert.ReduceRefIdeal.τ).loc Cert.ReduceRefIdeal.main_arg4) = m ((c.tc : Thread Cert.ReduceRefIdeal.nD Cert.ReduceRefIdeal.τ).loc Cert.ReduceRefIdeal.main_arg4))
      ∧ r.2.sem = fun _ => 0)

def quiescent_Sent [hSent : Cert.Sent.Facts] : Prop :=
  ∀ (m : (ℓ : Loc Cert.Sent.nD Cert.Sent.τ Cert.Sent.sig) → Buf (Elt Bits) ℓ) (g : Dev Cert.Sent.nD → PrngReg), Pre_Sent m →
    θ_run (Cert.Sent.defs (F := Bits)) (onTc (τ := Cert.Sent.τ) (Cert.Sent.main (F := Bits))) ⟨m, fun _ => 0, g⟩ (fun r => (∀ c : Dev Cert.Sent.nD,
      r.2.mem ((c.tc : Thread Cert.Sent.nD Cert.Sent.τ).loc Cert.Sent.main_arg0) = m ((c.tc : Thread Cert.Sent.nD Cert.Sent.τ).loc Cert.Sent.main_arg0)
      ∧ r.2.mem ((c.tc : Thread Cert.Sent.nD Cert.Sent.τ).loc Cert.Sent.main_arg1) = m ((c.tc : Thread Cert.Sent.nD Cert.Sent.τ).loc Cert.Sent.main_arg1))
      ∧ r.2.sem = fun _ => 0)

def quiescent_SentIdeal [hSentIdeal : Cert.SentIdeal.Facts] : Prop :=
  ∀ (m : (ℓ : Loc Cert.SentIdeal.nD Cert.SentIdeal.τ Cert.SentIdeal.sig) → Buf (Elt Ideal) ℓ) (g : Dev Cert.SentIdeal.nD → PrngReg), Pre_SentIdeal m →
    θ_run (Cert.SentIdeal.defs (F := Ideal)) (onTc (τ := Cert.SentIdeal.τ) (Cert.SentIdeal.main (F := Ideal))) ⟨m, fun _ => 0, g⟩ (fun r => (∀ c : Dev Cert.SentIdeal.nD,
      r.2.mem ((c.tc : Thread Cert.SentIdeal.nD Cert.SentIdeal.τ).loc Cert.SentIdeal.main_arg0) = m ((c.tc : Thread Cert.SentIdeal.nD Cert.SentIdeal.τ).loc Cert.SentIdeal.main_arg0)
      ∧ r.2.mem ((c.tc : Thread Cert.SentIdeal.nD Cert.SentIdeal.τ).loc Cert.SentIdeal.main_arg1) = m ((c.tc : Thread Cert.SentIdeal.nD Cert.SentIdeal.τ).loc Cert.SentIdeal.main_arg1))
      ∧ r.2.sem = fun _ => 0)

def quiescent_SentRefIdeal [hSentRefIdeal : Cert.SentRefIdeal.Facts] : Prop :=
  ∀ (m : (ℓ : Loc Cert.SentRefIdeal.nD Cert.SentRefIdeal.τ Cert.SentRefIdeal.sig) → Buf (Elt Ideal) ℓ) (g : Dev Cert.SentRefIdeal.nD → PrngReg), Pre_SentRefIdeal m →
    θ_run (Cert.SentRefIdeal.defs (F := Ideal)) (onTc (τ := Cert.SentRefIdeal.τ) (Cert.SentRefIdeal.main (F := Ideal))) ⟨m, fun _ => 0, g⟩ (fun r => (∀ c : Dev Cert.SentRefIdeal.nD,
      r.2.mem ((c.tc : Thread Cert.SentRefIdeal.nD Cert.SentRefIdeal.τ).loc Cert.SentRefIdeal.main_arg0) = m ((c.tc : Thread Cert.SentRefIdeal.nD Cert.SentRefIdeal.τ).loc Cert.SentRefIdeal.main_arg0)
      ∧ r.2.mem ((c.tc : Thread Cert.SentRefIdeal.nD Cert.SentRefIdeal.τ).loc Cert.SentRefIdeal.main_arg1) = m ((c.tc : Thread Cert.SentRefIdeal.nD Cert.SentRefIdeal.τ).loc Cert.SentRefIdeal.main_arg1))
      ∧ r.2.sem = fun _ => 0)

def quiescent_GroupDx [hGroupDx : Cert.GroupDx.Facts] : Prop :=
  ∀ (m : (ℓ : Loc Cert.GroupDx.nD Cert.GroupDx.τ Cert.GroupDx.sig) → Buf (Elt Bits) ℓ) (g : Dev Cert.GroupDx.nD → PrngReg), Pre_GroupDx m →
    θ_run (Cert.GroupDx.defs (F := Bits)) (onTc (τ := Cert.GroupDx.τ) (Cert.GroupDx.main (F := Bits))) ⟨m, fun _ => 0, g⟩ (fun r => (∀ c : Dev Cert.GroupDx.nD,
      r.2.mem ((c.tc : Thread Cert.GroupDx.nD Cert.GroupDx.τ).loc Cert.GroupDx.main_arg0) = m ((c.tc : Thread Cert.GroupDx.nD Cert.GroupDx.τ).loc Cert.GroupDx.main_arg0)
      ∧ r.2.mem ((c.tc : Thread Cert.GroupDx.nD Cert.GroupDx.τ).loc Cert.GroupDx.main_arg1) = m ((c.tc : Thread Cert.GroupDx.nD Cert.GroupDx.τ).loc Cert.GroupDx.main_arg1))
      ∧ r.2.sem = fun _ => 0)

def quiescent_GroupDxIdeal [hGroupDxIdeal : Cert.GroupDxIdeal.Facts] : Prop :=
  ∀ (m : (ℓ : Loc Cert.GroupDxIdeal.nD Cert.GroupDxIdeal.τ Cert.GroupDxIdeal.sig) → Buf (Elt Ideal) ℓ) (g : Dev Cert.GroupDxIdeal.nD → PrngReg), Pre_GroupDxIdeal m →
    θ_run (Cert.GroupDxIdeal.defs (F := Ideal)) (onTc (τ := Cert.GroupDxIdeal.τ) (Cert.GroupDxIdeal.main (F := Ideal))) ⟨m, fun _ => 0, g⟩ (fun r => (∀ c : Dev Cert.GroupDxIdeal.nD,
      r.2.mem ((c.tc : Thread Cert.GroupDxIdeal.nD Cert.GroupDxIdeal.τ).loc Cert.GroupDxIdeal.main_arg0) = m ((c.tc : Thread Cert.GroupDxIdeal.nD Cert.GroupDxIdeal.τ).loc Cert.GroupDxIdeal.main_arg0)
      ∧ r.2.mem ((c.tc : Thread Cert.GroupDxIdeal.nD Cert.GroupDxIdeal.τ).loc Cert.GroupDxIdeal.main_arg1) = m ((c.tc : Thread Cert.GroupDxIdeal.nD Cert.GroupDxIdeal.τ).loc Cert.GroupDxIdeal.main_arg1))
      ∧ r.2.sem = fun _ => 0)

def quiescent_GroupDxRefIdeal [hGroupDxRefIdeal : Cert.GroupDxRefIdeal.Facts] : Prop :=
  ∀ (m : (ℓ : Loc Cert.GroupDxRefIdeal.nD Cert.GroupDxRefIdeal.τ Cert.GroupDxRefIdeal.sig) → Buf (Elt Ideal) ℓ) (g : Dev Cert.GroupDxRefIdeal.nD → PrngReg), Pre_GroupDxRefIdeal m →
    θ_run (Cert.GroupDxRefIdeal.defs (F := Ideal)) (onTc (τ := Cert.GroupDxRefIdeal.τ) (Cert.GroupDxRefIdeal.main (F := Ideal))) ⟨m, fun _ => 0, g⟩ (fun r => (∀ c : Dev Cert.GroupDxRefIdeal.nD,
      r.2.mem ((c.tc : Thread Cert.GroupDxRefIdeal.nD Cert.GroupDxRefIdeal.τ).loc Cert.GroupDxRefIdeal.main_arg0) = m ((c.tc : Thread Cert.GroupDxRefIdeal.nD Cert.GroupDxRefIdeal.τ).loc Cert.GroupDxRefIdeal.main_arg0)
      ∧ r.2.mem ((c.tc : Thread Cert.GroupDxRefIdeal.nD Cert.GroupDxRefIdeal.τ).loc Cert.GroupDxRefIdeal.main_arg1) = m ((c.tc : Thread Cert.GroupDxRefIdeal.nD Cert.GroupDxRefIdeal.τ).loc Cert.GroupDxRefIdeal.main_arg1))
      ∧ r.2.sem = fun _ => 0)

def quiescent_Columns [hColumns : Cert.Columns.Facts] : Prop :=
  ∀ (m : (ℓ : Loc Cert.Columns.nD Cert.Columns.τ Cert.Columns.sig) → Buf (Elt Bits) ℓ) (g : Dev Cert.Columns.nD → PrngReg), Pre_Columns m →
    θ_run (Cert.Columns.defs (F := Bits)) (onTc (τ := Cert.Columns.τ) (Cert.Columns.main (F := Bits))) ⟨m, fun _ => 0, g⟩ (fun r => (∀ c : Dev Cert.Columns.nD,
      r.2.mem ((c.tc : Thread Cert.Columns.nD Cert.Columns.τ).loc Cert.Columns.main_arg0) = m ((c.tc : Thread Cert.Columns.nD Cert.Columns.τ).loc Cert.Columns.main_arg0)
      ∧ r.2.mem ((c.tc : Thread Cert.Columns.nD Cert.Columns.τ).loc Cert.Columns.main_arg1) = m ((c.tc : Thread Cert.Columns.nD Cert.Columns.τ).loc Cert.Columns.main_arg1)
      ∧ r.2.mem ((c.tc : Thread Cert.Columns.nD Cert.Columns.τ).loc Cert.Columns.main_arg2) = m ((c.tc : Thread Cert.Columns.nD Cert.Columns.τ).loc Cert.Columns.main_arg2))
      ∧ r.2.sem = fun _ => 0)

def quiescent_ColumnsIdeal [hColumnsIdeal : Cert.ColumnsIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0)
      ∧ r.2.mem ((c.tc : Thread Cert.ColumnsIdeal.nD Cert.ColumnsIdeal.τ).loc Cert.ColumnsIdeal.main_arg1) = m ((c.tc : Thread Cert.ColumnsIdeal.nD Cert.ColumnsIdeal.τ).loc Cert.ColumnsIdeal.main_arg1)
      ∧ r.2.mem ((c.tc : Thread Cert.ColumnsIdeal.nD Cert.ColumnsIdeal.τ).loc Cert.ColumnsIdeal.main_arg2) = m ((c.tc : Thread Cert.ColumnsIdeal.nD Cert.ColumnsIdeal.τ).loc Cert.ColumnsIdeal.main_arg2))
      ∧ r.2.sem = fun _ => 0)

def quiescent_ColumnsRefIdeal [hColumnsRefIdeal : Cert.ColumnsRefIdeal.Facts] : Prop :=
  ∀ (m : (ℓ : Loc Cert.ColumnsRefIdeal.nD Cert.ColumnsRefIdeal.τ Cert.ColumnsRefIdeal.sig) → Buf (Elt Ideal) ℓ) (g : Dev Cert.ColumnsRefIdeal.nD → PrngReg), Pre_ColumnsRefIdeal m →
    θ_run (Cert.ColumnsRefIdeal.defs (F := Ideal)) (onTc (τ := Cert.ColumnsRefIdeal.τ) (Cert.ColumnsRefIdeal.main (F := Ideal))) ⟨m, fun _ => 0, g⟩ (fun r => (∀ c : Dev Cert.ColumnsRefIdeal.nD,
      r.2.mem ((c.tc : Thread Cert.ColumnsRefIdeal.nD Cert.ColumnsRefIdeal.τ).loc Cert.ColumnsRefIdeal.main_arg0) = m ((c.tc : Thread Cert.ColumnsRefIdeal.nD Cert.ColumnsRefIdeal.τ).loc Cert.ColumnsRefIdeal.main_arg0)
      ∧ r.2.mem ((c.tc : Thread Cert.ColumnsRefIdeal.nD Cert.ColumnsRefIdeal.τ).loc Cert.ColumnsRefIdeal.main_arg1) = m ((c.tc : Thread Cert.ColumnsRefIdeal.nD Cert.ColumnsRefIdeal.τ).loc Cert.ColumnsRefIdeal.main_arg1)
      ∧ r.2.mem ((c.tc : Thread Cert.ColumnsRefIdeal.nD Cert.ColumnsRefIdeal.τ).loc Cert.ColumnsRefIdeal.main_arg2) = m ((c.tc : Thread Cert.ColumnsRefIdeal.nD Cert.ColumnsRefIdeal.τ).loc Cert.ColumnsRefIdeal.main_arg2))
      ∧ r.2.sem = fun _ => 0)

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)) →
    ∃ (v0 : (c : Dev Cert.HeadIdeal.nD) → Buf (Elt Ideal) ((c.tc : Thread Cert.HeadIdeal.nD Cert.HeadIdeal.τ).loc Cert.HeadIdeal.main_v1_0)) (v1 : (c : Dev Cert.HeadIdeal.nD) → Buf (Elt Ideal) ((c.tc : Thread Cert.HeadIdeal.nD Cert.HeadIdeal.τ).loc Cert.HeadIdeal.main_v1_1)) (v2 : (c : Dev Cert.HeadIdeal.nD) → Buf (Elt Ideal) ((c.tc : Thread Cert.HeadIdeal.nD Cert.HeadIdeal.τ).loc Cert.HeadIdeal.main_v1_2)) (v3 : (c : Dev Cert.HeadIdeal.nD) → Buf (Elt Ideal) ((c.tc : Thread Cert.HeadIdeal.nD Cert.HeadIdeal.τ).loc Cert.HeadIdeal.main_v1_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v1_0) = v0 c
          ∧ r.2.mem ((c.tc : Thread Cert.HeadIdeal.nD Cert.HeadIdeal.τ).loc Cert.HeadIdeal.main_v1_1) = v1 c
          ∧ r.2.mem ((c.tc : Thread Cert.HeadIdeal.nD Cert.HeadIdeal.τ).loc Cert.HeadIdeal.main_v1_2) = v2 c
          ∧ r.2.mem ((c.tc : Thread Cert.HeadIdeal.nD Cert.HeadIdeal.τ).loc Cert.HeadIdeal.main_v1_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v50) = v0 c
          ∧ r.2.mem ((c.tc : Thread Cert.HeadRefIdeal.nD Cert.HeadRefIdeal.τ).loc Cert.HeadRefIdeal.main_v51) = v1 c
          ∧ r.2.mem ((c.tc : Thread Cert.HeadRefIdeal.nD Cert.HeadRefIdeal.τ).loc Cert.HeadRefIdeal.main_v52) = v2 c
          ∧ r.2.mem ((c.tc : Thread Cert.HeadRefIdeal.nD Cert.HeadRefIdeal.τ).loc Cert.HeadRefIdeal.main_v53) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Gate_GateIdeal : Prop :=
  IdealRules.named_const.Statement Cert.GateIdeal.κ "sqrt_half" .f32 0x3F3504F3#32 ((Real.sqrt (1 / 2) : ℝ) : EReal)
  ∧ IdealRules.named_const.Statement Cert.GateIdeal.κ "inv_sqrt_2pi" .f32 0x3ECC422A#32 (((9465531 / 16777216) * (Real.sqrt (1 / 2)) : ℝ) : EReal)

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)) (v4 : (c : Dev Cert.GateIdeal.nD) → Buf (Elt Ideal) ((c.tc : Thread Cert.GateIdeal.nD Cert.GateIdeal.τ).loc Cert.GateIdeal.main_v3_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_v3_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v119) = v0 c
          ∧ r.2.mem ((c.tc : Thread Cert.GateRefIdeal.nD Cert.GateRefIdeal.τ).loc Cert.GateRefIdeal.main_v120) = v1 c
          ∧ r.2.mem ((c.tc : Thread Cert.GateRefIdeal.nD Cert.GateRefIdeal.τ).loc Cert.GateRefIdeal.main_v121) = v2 c
          ∧ r.2.mem ((c.tc : Thread Cert.GateRefIdeal.nD Cert.GateRefIdeal.τ).loc Cert.GateRefIdeal.main_v71) = v3 c
          ∧ r.2.mem ((c.tc : Thread Cert.GateRefIdeal.nD Cert.GateRefIdeal.τ).loc Cert.GateRefIdeal.main_v122) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v163) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_Scale_ScaleIdeal : Prop :=
  True

def algebraic_ScaleIdeal_ScaleRefIdeal [hScaleIdeal : Cert.ScaleIdeal.Facts] [hScaleRefIdeal : Cert.ScaleRefIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleRefIdeal.nD Cert.ScaleRefIdeal.τ Cert.ScaleRefIdeal.sig) → Buf (Elt Ideal) ℓ) (g' : Dev Cert.ScaleRefIdeal.nD → PrngReg), Pre_ScaleIdeal m →
    (∀ c : Dev Cert.ScaleIdeal.nD,
      m' ((c.tc : Thread Cert.ScaleRefIdeal.nD Cert.ScaleRefIdeal.τ).loc Cert.ScaleRefIdeal.main_arg0) = m ((c.tc : Thread Cert.ScaleIdeal.nD Cert.ScaleIdeal.τ).loc Cert.ScaleIdeal.main_arg0)
      ∧ m' ((c.tc : Thread Cert.ScaleRefIdeal.nD Cert.ScaleRefIdeal.τ).loc Cert.ScaleRefIdeal.main_arg1) = m ((c.tc : Thread Cert.ScaleIdeal.nD Cert.ScaleIdeal.τ).loc Cert.ScaleIdeal.main_arg1)
      ∧ m' ((c.tc : Thread Cert.ScaleRefIdeal.nD Cert.ScaleRefIdeal.τ).loc Cert.ScaleRefIdeal.main_arg2) = m ((c.tc : Thread Cert.ScaleIdeal.nD Cert.ScaleIdeal.τ).loc Cert.ScaleIdeal.main_arg2)
      ∧ m' ((c.tc : Thread Cert.ScaleRefIdeal.nD Cert.ScaleRefIdeal.τ).loc Cert.ScaleRefIdeal.main_arg3) = m ((c.tc : Thread Cert.ScaleIdeal.nD Cert.ScaleIdeal.τ).loc Cert.ScaleIdeal.main_arg3)
      ∧ m' ((c.tc : Thread Cert.ScaleRefIdeal.nD Cert.ScaleRefIdeal.τ).loc Cert.ScaleRefIdeal.main_arg4) = m ((c.tc : Thread Cert.ScaleIdeal.nD Cert.ScaleIdeal.τ).loc Cert.ScaleIdeal.main_arg4)) →
    ∃ (v0 : (c : Dev Cert.ScaleIdeal.nD) → Buf (Elt Ideal) ((c.tc : Thread Cert.ScaleIdeal.nD Cert.ScaleIdeal.τ).loc Cert.ScaleIdeal.main_v9_0)) (v1 : (c : Dev Cert.ScaleIdeal.nD) → Buf (Elt Ideal) ((c.tc : Thread Cert.ScaleIdeal.nD Cert.ScaleIdeal.τ).loc Cert.ScaleIdeal.main_v9_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v9_0) = v0 c
          ∧ r.2.mem ((c.tc : Thread Cert.ScaleIdeal.nD Cert.ScaleIdeal.τ).loc Cert.ScaleIdeal.main_v9_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0)
          ∧ r.2.mem ((c.tc : Thread Cert.ScaleIdeal.nD Cert.ScaleIdeal.τ).loc Cert.ScaleIdeal.main_arg1) = m ((c.tc : Thread Cert.ScaleIdeal.nD Cert.ScaleIdeal.τ).loc Cert.ScaleIdeal.main_arg1)
          ∧ r.2.mem ((c.tc : Thread Cert.ScaleIdeal.nD Cert.ScaleIdeal.τ).loc Cert.ScaleIdeal.main_arg2) = m ((c.tc : Thread Cert.ScaleIdeal.nD Cert.ScaleIdeal.τ).loc Cert.ScaleIdeal.main_arg2)
          ∧ r.2.mem ((c.tc : Thread Cert.ScaleIdeal.nD Cert.ScaleIdeal.τ).loc Cert.ScaleIdeal.main_arg3) = m ((c.tc : Thread Cert.ScaleIdeal.nD Cert.ScaleIdeal.τ).loc Cert.ScaleIdeal.main_arg3)
          ∧ r.2.mem ((c.tc : Thread Cert.ScaleIdeal.nD Cert.ScaleIdeal.τ).loc Cert.ScaleIdeal.main_arg4) = m ((c.tc : Thread Cert.ScaleIdeal.nD Cert.ScaleIdeal.τ).loc Cert.ScaleIdeal.main_arg4))
      ∧ θ_run (Cert.ScaleRefIdeal.defs (F := Ideal)) (onTc (τ := Cert.ScaleRefIdeal.τ) (Cert.ScaleRefIdeal.main (F := Ideal))) ⟨m', fun _ => 0, g'⟩ (fun r => ∀ c : Dev Cert.ScaleRefIdeal.nD,
          r.2.mem ((c.tc : Thread Cert.ScaleRefIdeal.nD Cert.ScaleRefIdeal.τ).loc Cert.ScaleRefIdeal.main_v22) = v0 c
          ∧ r.2.mem ((c.tc : Thread Cert.ScaleRefIdeal.nD Cert.ScaleRefIdeal.τ).loc Cert.ScaleRefIdeal.main_v23) = v1 c
          ∧ r.2.mem ((c.tc : Thread Cert.ScaleRefIdeal.nD Cert.ScaleRefIdeal.τ).loc Cert.ScaleRefIdeal.main_arg0) = m' ((c.tc : Thread Cert.ScaleRefIdeal.nD Cert.ScaleRefIdeal.τ).loc Cert.ScaleRefIdeal.main_arg0)
          ∧ r.2.mem ((c.tc : Thread Cert.ScaleRefIdeal.nD Cert.ScaleRefIdeal.τ).loc Cert.ScaleRefIdeal.main_arg1) = m' ((c.tc : Thread Cert.ScaleRefIdeal.nD Cert.ScaleRefIdeal.τ).loc Cert.ScaleRefIdeal.main_arg1)
          ∧ r.2.mem ((c.tc : Thread Cert.ScaleRefIdeal.nD Cert.ScaleRefIdeal.τ).loc Cert.ScaleRefIdeal.main_arg2) = m' ((c.tc : Thread Cert.ScaleRefIdeal.nD Cert.ScaleRefIdeal.τ).loc Cert.ScaleRefIdeal.main_arg2)
          ∧ r.2.mem ((c.tc : Thread Cert.ScaleRefIdeal.nD Cert.ScaleRefIdeal.τ).loc Cert.ScaleRefIdeal.main_arg3) = m' ((c.tc : Thread Cert.ScaleRefIdeal.nD Cert.ScaleRefIdeal.τ).loc Cert.ScaleRefIdeal.main_arg3)
          ∧ r.2.mem ((c.tc : Thread Cert.ScaleRefIdeal.nD Cert.ScaleRefIdeal.τ).loc Cert.ScaleRefIdeal.main_arg4) = m' ((c.tc : Thread Cert.ScaleRefIdeal.nD Cert.ScaleRefIdeal.τ).loc Cert.ScaleRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)) (v2 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_v5) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_v19) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_GateFwd_GateFwdIdeal : Prop :=
  IdealRules.named_const.Statement Cert.GateFwdIdeal.κ "sqrt_half" .f32 0x3F3504F3#32 ((Real.sqrt (1 / 2) : ℝ) : EReal)

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v3)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v53) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_PoolFwd_PoolFwdIdeal : Prop :=
  True

def algebraic_PoolFwdIdeal_PoolFwdRefIdeal_pre_pool_finite [hPoolFwdIdeal : Cert.PoolFwdIdeal.Facts] [hPoolFwdRefIdeal : Cert.PoolFwdRefIdeal.Facts] [hPre_pool_finite : Cert.Pre_pool_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v89) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def preserves_Group_GroupIdeal : Prop :=
  True

def algebraic_GroupIdeal_GroupRefIdeal [hGroupIdeal : Cert.GroupIdeal.Facts] [hGroupRefIdeal : Cert.GroupRefIdeal.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupIdeal m →
    (∀ c : Dev Cert.GroupIdeal.nD,
      m' ((c.tc : Thread Cert.GroupRefIdeal.nD Cert.GroupRefIdeal.τ).loc Cert.GroupRefIdeal.main_arg0) = m ((c.tc : Thread Cert.GroupIdeal.nD Cert.GroupIdeal.τ).loc Cert.GroupIdeal.main_arg0)
      ∧ m' ((c.tc : Thread Cert.GroupRefIdeal.nD Cert.GroupRefIdeal.τ).loc Cert.GroupRefIdeal.main_arg1) = m ((c.tc : Thread Cert.GroupIdeal.nD Cert.GroupIdeal.τ).loc Cert.GroupIdeal.main_arg1)
      ∧ m' ((c.tc : Thread Cert.GroupRefIdeal.nD Cert.GroupRefIdeal.τ).loc Cert.GroupRefIdeal.main_arg2) = m ((c.tc : Thread Cert.GroupIdeal.nD Cert.GroupIdeal.τ).loc Cert.GroupIdeal.main_arg2)) →
    ∃ (v0 : (c : Dev Cert.GroupIdeal.nD) → Buf (Elt Ideal) ((c.tc : Thread Cert.GroupIdeal.nD Cert.GroupIdeal.τ).loc Cert.GroupIdeal.main_v2_0)) (v1 : (c : Dev Cert.GroupIdeal.nD) → Buf (Elt Ideal) ((c.tc : Thread Cert.GroupIdeal.nD Cert.GroupIdeal.τ).loc Cert.GroupIdeal.main_v2_1)),
      θ_run (Cert.GroupIdeal.defs (F := Ideal)) (onTc (τ := Cert.GroupIdeal.τ) (Cert.GroupIdeal.main (F := Ideal))) ⟨m, fun _ => 0, g⟩ (fun r => ∀ c : Dev Cert.GroupIdeal.nD,
          r.2.mem ((c.tc : Thread Cert.GroupIdeal.nD Cert.GroupIdeal.τ).loc Cert.GroupIdeal.main_v2_0) = v0 c
          ∧ r.2.mem ((c.tc : Thread Cert.GroupIdeal.nD Cert.GroupIdeal.τ).loc Cert.GroupIdeal.main_v2_1) = v1 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
          ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v7) = v0 c
          ∧ r.2.mem ((c.tc : Thread Cert.GroupRefIdeal.nD Cert.GroupRefIdeal.τ).loc Cert.GroupRefIdeal.main_v13) = v1 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1)
          ∧ r.2.mem ((c.tc : Thread Cert.GroupRefIdeal.nD Cert.GroupRefIdeal.τ).loc Cert.GroupRefIdeal.main_arg2) = m' ((c.tc : Thread Cert.GroupRefIdeal.nD Cert.GroupRefIdeal.τ).loc Cert.GroupRefIdeal.main_arg2))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨4, ![4, 2, 256, 512]⟩ ⟨4, ![8, 2, 256, 512]⟩ 0 2 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v5)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![4, 256, 512]⟩ ⟨3, ![8, 256, 512]⟩ 0 2 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v5) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v1) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v3) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)
      ∧ m' ((c.tc : Thread Cert.WeightRefIdeal.nD Cert.WeightRefIdeal.τ).loc Cert.WeightRefIdeal.main_arg2) = m ((c.tc : Thread Cert.WeightIdeal.nD Cert.WeightIdeal.τ).loc Cert.WeightIdeal.main_arg2)) →
    ∃ (v0 : (c : Dev Cert.WeightIdeal.nD) → Buf (Elt Ideal) ((c.tc : Thread Cert.WeightIdeal.nD Cert.WeightIdeal.τ).loc Cert.WeightIdeal.main_v1)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v1) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v11) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1)
          ∧ r.2.mem ((c.tc : Thread Cert.WeightRefIdeal.nD Cert.WeightRefIdeal.τ).loc Cert.WeightRefIdeal.main_arg2) = m' ((c.tc : Thread Cert.WeightRefIdeal.nD Cert.WeightRefIdeal.τ).loc Cert.WeightRefIdeal.main_arg2))

def preserves_GroupGrad_GroupGradIdeal : Prop :=
  True

def algebraic_GroupGradIdeal_GroupGradRefIdeal [hGroupGradIdeal : Cert.GroupGradIdeal.Facts] [hGroupGradRefIdeal : Cert.GroupGradRefIdeal.Facts] : Prop :=
  ∀ (m : (ℓ : Loc Cert.GroupGradIdeal.nD Cert.GroupGradIdeal.τ Cert.GroupGradIdeal.sig) → Buf (Elt Ideal) ℓ) (g : Dev Cert.GroupGradIdeal.nD → PrngReg)
    (m' : (ℓ : Loc Cert.GroupGradRefIdeal.nD Cert.GroupGradRefIdeal.τ Cert.GroupGradRefIdeal.sig) → Buf (Elt Ideal) ℓ) (g' : Dev Cert.GroupGradRefIdeal.nD → PrngReg), Pre_GroupGradIdeal m →
    (∀ c : Dev Cert.GroupGradIdeal.nD,
      m' ((c.tc : Thread Cert.GroupGradRefIdeal.nD Cert.GroupGradRefIdeal.τ).loc Cert.GroupGradRefIdeal.main_arg0) = m ((c.tc : Thread Cert.GroupGradIdeal.nD Cert.GroupGradIdeal.τ).loc Cert.GroupGradIdeal.main_arg0)
      ∧ m' ((c.tc : Thread Cert.GroupGradRefIdeal.nD Cert.GroupGradRefIdeal.τ).loc Cert.GroupGradRefIdeal.main_arg1) = m ((c.tc : Thread Cert.GroupGradIdeal.nD Cert.GroupGradIdeal.τ).loc Cert.GroupGradIdeal.main_arg1)) →
    ∃ (v0 : (c : Dev Cert.GroupGradIdeal.nD) → Buf (Elt Ideal) ((c.tc : Thread Cert.GroupGradIdeal.nD Cert.GroupGradIdeal.τ).loc Cert.GroupGradIdeal.main_v0)),
      θ_run (Cert.GroupGradIdeal.defs (F := Ideal)) (onTc (τ := Cert.GroupGradIdeal.τ) (Cert.GroupGradIdeal.main (F := Ideal))) ⟨m, fun _ => 0, g⟩ (fun r => ∀ c : Dev Cert.GroupGradIdeal.nD,
          r.2.mem ((c.tc : Thread Cert.GroupGradIdeal.nD Cert.GroupGradIdeal.τ).loc Cert.GroupGradIdeal.main_v0) = v0 c
          ∧ r.2.mem ((c.tc : Thread Cert.GroupGradIdeal.nD Cert.GroupGradIdeal.τ).loc Cert.GroupGradIdeal.main_arg0) = m ((c.tc : Thread Cert.GroupGradIdeal.nD Cert.GroupGradIdeal.τ).loc Cert.GroupGradIdeal.main_arg0)
          ∧ r.2.mem ((c.tc : Thread Cert.GroupGradIdeal.nD Cert.GroupGradIdeal.τ).loc Cert.GroupGradIdeal.main_arg1) = m ((c.tc : Thread Cert.GroupGradIdeal.nD Cert.GroupGradIdeal.τ).loc Cert.GroupGradIdeal.main_arg1))
      ∧ θ_run (Cert.GroupGradRefIdeal.defs (F := Ideal)) (onTc (τ := Cert.GroupGradRefIdeal.τ) (Cert.GroupGradRefIdeal.main (F := Ideal))) ⟨m', fun _ => 0, g'⟩ (fun r => ∀ c : Dev Cert.GroupGradRefIdeal.nD,
          r.2.mem ((c.tc : Thread Cert.GroupGradRefIdeal.nD Cert.GroupGradRefIdeal.τ).loc Cert.GroupGradRefIdeal.main_v11) = v0 c
          ∧ r.2.mem ((c.tc : Thread Cert.GroupGradRefIdeal.nD Cert.GroupGradRefIdeal.τ).loc Cert.GroupGradRefIdeal.main_arg0) = m' ((c.tc : Thread Cert.GroupGradRefIdeal.nD Cert.GroupGradRefIdeal.τ).loc Cert.GroupGradRefIdeal.main_arg0)
          ∧ r.2.mem ((c.tc : Thread Cert.GroupGradRefIdeal.nD Cert.GroupGradRefIdeal.τ).loc Cert.GroupGradRefIdeal.main_arg1) = m' ((c.tc : Thread Cert.GroupGradRefIdeal.nD Cert.GroupGradRefIdeal.τ).loc Cert.GroupGradRefIdeal.main_arg1))

def preserves_AddSib_AddSibIdeal : Prop :=
  True

def algebraic_AddSibIdeal_AddSibRefIdeal [hAddSibIdeal : Cert.AddSibIdeal.Facts] [hAddSibRefIdeal : Cert.AddSibRefIdeal.Facts] : Prop :=
  ∀ (m : (ℓ : Loc Cert.AddSibIdeal.nD Cert.AddSibIdeal.τ Cert.AddSibIdeal.sig) → Buf (Elt Ideal) ℓ) (g : Dev Cert.AddSibIdeal.nD → PrngReg)
    (m' : (ℓ : Loc Cert.AddSibRefIdeal.nD Cert.AddSibRefIdeal.τ Cert.AddSibRefIdeal.sig) → Buf (Elt Ideal) ℓ) (g' : Dev Cert.AddSibRefIdeal.nD → PrngReg), Pre_AddSibIdeal m →
    (∀ c : Dev Cert.AddSibIdeal.nD,
      m' ((c.tc : Thread Cert.AddSibRefIdeal.nD Cert.AddSibRefIdeal.τ).loc Cert.AddSibRefIdeal.main_arg0) = m ((c.tc : Thread Cert.AddSibIdeal.nD Cert.AddSibIdeal.τ).loc Cert.AddSibIdeal.main_arg0)
      ∧ m' ((c.tc : Thread Cert.AddSibRefIdeal.nD Cert.AddSibRefIdeal.τ).loc Cert.AddSibRefIdeal.main_arg1) = m ((c.tc : Thread Cert.AddSibIdeal.nD Cert.AddSibIdeal.τ).loc Cert.AddSibIdeal.main_arg1)) →
    ∃ (v0 : (c : Dev Cert.AddSibIdeal.nD) → Buf (Elt Ideal) ((c.tc : Thread Cert.AddSibIdeal.nD Cert.AddSibIdeal.τ).loc Cert.AddSibIdeal.main_v1)),
      θ_run (Cert.AddSibIdeal.defs (F := Ideal)) (onTc (τ := Cert.AddSibIdeal.τ) (Cert.AddSibIdeal.main (F := Ideal))) ⟨m, fun _ => 0, g⟩ (fun r => ∀ c : Dev Cert.AddSibIdeal.nD,
          r.2.mem ((c.tc : Thread Cert.AddSibIdeal.nD Cert.AddSibIdeal.τ).loc Cert.AddSibIdeal.main_v1) = v0 c
          ∧ r.2.mem ((c.tc : Thread Cert.AddSibIdeal.nD Cert.AddSibIdeal.τ).loc Cert.AddSibIdeal.main_arg0) = m ((c.tc : Thread Cert.AddSibIdeal.nD Cert.AddSibIdeal.τ).loc Cert.AddSibIdeal.main_arg0)
          ∧ r.2.mem ((c.tc : Thread Cert.AddSibIdeal.nD Cert.AddSibIdeal.τ).loc Cert.AddSibIdeal.main_arg1) = m ((c.tc : Thread Cert.AddSibIdeal.nD Cert.AddSibIdeal.τ).loc Cert.AddSibIdeal.main_arg1))
      ∧ θ_run (Cert.AddSibRefIdeal.defs (F := Ideal)) (onTc (τ := Cert.AddSibRefIdeal.τ) (Cert.AddSibRefIdeal.main (F := Ideal))) ⟨m', fun _ => 0, g'⟩ (fun r => ∀ c : Dev Cert.AddSibRefIdeal.nD,
          r.2.mem ((c.tc : Thread Cert.AddSibRefIdeal.nD Cert.AddSibRefIdeal.τ).loc Cert.AddSibRefIdeal.main_v5) = v0 c
          ∧ r.2.mem ((c.tc : Thread Cert.AddSibRefIdeal.nD Cert.AddSibRefIdeal.τ).loc Cert.AddSibRefIdeal.main_arg0) = m' ((c.tc : Thread Cert.AddSibRefIdeal.nD Cert.AddSibRefIdeal.τ).loc Cert.AddSibRefIdeal.main_arg0)
          ∧ r.2.mem ((c.tc : Thread Cert.AddSibRefIdeal.nD Cert.AddSibRefIdeal.τ).loc Cert.AddSibRefIdeal.main_arg1) = m' ((c.tc : Thread Cert.AddSibRefIdeal.nD Cert.AddSibRefIdeal.τ).loc Cert.AddSibRefIdeal.main_arg1))

def preserves_SmallAdam_SmallAdamIdeal : Prop :=
  True

def algebraic_SmallAdamIdeal_SmallAdamRefIdeal [hSmallAdamIdeal : Cert.SmallAdamIdeal.Facts] [hSmallAdamRefIdeal : Cert.SmallAdamRefIdeal.Facts] : Prop :=
  ∀ (m : (ℓ : Loc Cert.SmallAdamIdeal.nD Cert.SmallAdamIdeal.τ Cert.SmallAdamIdeal.sig) → Buf (Elt Ideal) ℓ) (g : Dev Cert.SmallAdamIdeal.nD → PrngReg)
    (m' : (ℓ : Loc Cert.SmallAdamRefIdeal.nD Cert.SmallAdamRefIdeal.τ Cert.SmallAdamRefIdeal.sig) → Buf (Elt Ideal) ℓ) (g' : Dev Cert.SmallAdamRefIdeal.nD → PrngReg), Pre_SmallAdamIdeal m →
    (∀ c : Dev Cert.SmallAdamIdeal.nD,
      m' ((c.tc : Thread Cert.SmallAdamRefIdeal.nD Cert.SmallAdamRefIdeal.τ).loc Cert.SmallAdamRefIdeal.main_arg0) = m ((c.tc : Thread Cert.SmallAdamIdeal.nD Cert.SmallAdamIdeal.τ).loc Cert.SmallAdamIdeal.main_arg0)
      ∧ m' ((c.tc : Thread Cert.SmallAdamRefIdeal.nD Cert.SmallAdamRefIdeal.τ).loc Cert.SmallAdamRefIdeal.main_arg1) = m ((c.tc : Thread Cert.SmallAdamIdeal.nD Cert.SmallAdamIdeal.τ).loc Cert.SmallAdamIdeal.main_arg1)
      ∧ m' ((c.tc : Thread Cert.SmallAdamRefIdeal.nD Cert.SmallAdamRefIdeal.τ).loc Cert.SmallAdamRefIdeal.main_arg2) = m ((c.tc : Thread Cert.SmallAdamIdeal.nD Cert.SmallAdamIdeal.τ).loc Cert.SmallAdamIdeal.main_arg2)
      ∧ m' ((c.tc : Thread Cert.SmallAdamRefIdeal.nD Cert.SmallAdamRefIdeal.τ).loc Cert.SmallAdamRefIdeal.main_arg3) = m ((c.tc : Thread Cert.SmallAdamIdeal.nD Cert.SmallAdamIdeal.τ).loc Cert.SmallAdamIdeal.main_arg3)) →
    ∃ (v0 : (c : Dev Cert.SmallAdamIdeal.nD) → Buf (Elt Ideal) ((c.tc : Thread Cert.SmallAdamIdeal.nD Cert.SmallAdamIdeal.τ).loc Cert.SmallAdamIdeal.main_v0_0)) (v1 : (c : Dev Cert.SmallAdamIdeal.nD) → Buf (Elt Ideal) ((c.tc : Thread Cert.SmallAdamIdeal.nD Cert.SmallAdamIdeal.τ).loc Cert.SmallAdamIdeal.main_v0_1)) (v2 : (c : Dev Cert.SmallAdamIdeal.nD) → Buf (Elt Ideal) ((c.tc : Thread Cert.SmallAdamIdeal.nD Cert.SmallAdamIdeal.τ).loc Cert.SmallAdamIdeal.main_v0_2)) (v3 : (c : Dev Cert.SmallAdamIdeal.nD) → Buf (Elt Ideal) ((c.tc : Thread Cert.SmallAdamIdeal.nD Cert.SmallAdamIdeal.τ).loc Cert.SmallAdamIdeal.main_v0_3)) (v4 : (c : Dev Cert.SmallAdamIdeal.nD) → Buf (Elt Ideal) ((c.tc : Thread Cert.SmallAdamIdeal.nD Cert.SmallAdamIdeal.τ).loc Cert.SmallAdamIdeal.main_v0_4)) (v5 : (c : Dev Cert.SmallAdamIdeal.nD) → Buf (Elt Ideal) ((c.tc : Thread Cert.SmallAdamIdeal.nD Cert.SmallAdamIdeal.τ).loc Cert.SmallAdamIdeal.main_v0_5)) (v6 : (c : Dev Cert.SmallAdamIdeal.nD) → Buf (Elt Ideal) ((c.tc : Thread Cert.SmallAdamIdeal.nD Cert.SmallAdamIdeal.τ).loc Cert.SmallAdamIdeal.main_v0_6)) (v7 : (c : Dev Cert.SmallAdamIdeal.nD) → Buf (Elt Ideal) ((c.tc : Thread Cert.SmallAdamIdeal.nD Cert.SmallAdamIdeal.τ).loc Cert.SmallAdamIdeal.main_v0_7)) (v8 : (c : Dev Cert.SmallAdamIdeal.nD) → Buf (Elt Ideal) ((c.tc : Thread Cert.SmallAdamIdeal.nD Cert.SmallAdamIdeal.τ).loc Cert.SmallAdamIdeal.main_v0_8)) (v9 : (c : Dev Cert.SmallAdamIdeal.nD) → Buf (Elt Ideal) ((c.tc : Thread Cert.SmallAdamIdeal.nD Cert.SmallAdamIdeal.τ).loc Cert.SmallAdamIdeal.main_v0_9)) (v10 : (c : Dev Cert.SmallAdamIdeal.nD) → Buf (Elt Ideal) ((c.tc : Thread Cert.SmallAdamIdeal.nD Cert.SmallAdamIdeal.τ).loc Cert.SmallAdamIdeal.main_v0_10)) (v11 : (c : Dev Cert.SmallAdamIdeal.nD) → Buf (Elt Ideal) ((c.tc : Thread Cert.SmallAdamIdeal.nD Cert.SmallAdamIdeal.τ).loc Cert.SmallAdamIdeal.main_v0_11)) (v12 : (c : Dev Cert.SmallAdamIdeal.nD) → Buf (Elt Ideal) ((c.tc : Thread Cert.SmallAdamIdeal.nD Cert.SmallAdamIdeal.τ).loc Cert.SmallAdamIdeal.main_v0_12)) (v13 : (c : Dev Cert.SmallAdamIdeal.nD) → Buf (Elt Ideal) ((c.tc : Thread Cert.SmallAdamIdeal.nD Cert.SmallAdamIdeal.τ).loc Cert.SmallAdamIdeal.main_v0_13)) (v14 : (c : Dev Cert.SmallAdamIdeal.nD) → Buf (Elt Ideal) ((c.tc : Thread Cert.SmallAdamIdeal.nD Cert.SmallAdamIdeal.τ).loc Cert.SmallAdamIdeal.main_v0_14)) (v15 : (c : Dev Cert.SmallAdamIdeal.nD) → Buf (Elt Ideal) ((c.tc : Thread Cert.SmallAdamIdeal.nD Cert.SmallAdamIdeal.τ).loc Cert.SmallAdamIdeal.main_v0_15)) (v16 : (c : Dev Cert.SmallAdamIdeal.nD) → Buf (Elt Ideal) ((c.tc : Thread Cert.SmallAdamIdeal.nD Cert.SmallAdamIdeal.τ).loc Cert.SmallAdamIdeal.main_v0_16)) (v17 : (c : Dev Cert.SmallAdamIdeal.nD) → Buf (Elt Ideal) ((c.tc : Thread Cert.SmallAdamIdeal.nD Cert.SmallAdamIdeal.τ).loc Cert.SmallAdamIdeal.main_v0_17)) (v18 : (c : Dev Cert.SmallAdamIdeal.nD) → Buf (Elt Ideal) ((c.tc : Thread Cert.SmallAdamIdeal.nD Cert.SmallAdamIdeal.τ).loc Cert.SmallAdamIdeal.main_v0_18)) (v19 : (c : Dev Cert.SmallAdamIdeal.nD) → Buf (Elt Ideal) ((c.tc : Thread Cert.SmallAdamIdeal.nD Cert.SmallAdamIdeal.τ).loc Cert.SmallAdamIdeal.main_v0_19)) (v20 : (c : Dev Cert.SmallAdamIdeal.nD) → Buf (Elt Ideal) ((c.tc : Thread Cert.SmallAdamIdeal.nD Cert.SmallAdamIdeal.τ).loc Cert.SmallAdamIdeal.main_v0_20)) (v21 : (c : Dev Cert.SmallAdamIdeal.nD) → Buf (Elt Ideal) ((c.tc : Thread Cert.SmallAdamIdeal.nD Cert.SmallAdamIdeal.τ).loc Cert.SmallAdamIdeal.main_v0_21)) (v22 : (c : Dev Cert.SmallAdamIdeal.nD) → Buf (Elt Ideal) ((c.tc : Thread Cert.SmallAdamIdeal.nD Cert.SmallAdamIdeal.τ).loc Cert.SmallAdamIdeal.main_v0_22)) (v23 : (c : Dev Cert.SmallAdamIdeal.nD) → Buf (Elt Ideal) ((c.tc : Thread Cert.SmallAdamIdeal.nD Cert.SmallAdamIdeal.τ).loc Cert.SmallAdamIdeal.main_v0_23)),
      θ_run (Cert.SmallAdamIdeal.defs (F := Ideal)) (onTc (τ := Cert.SmallAdamIdeal.τ) (Cert.SmallAdamIdeal.main (F := Ideal))) ⟨m, fun _ => 0, g⟩ (fun r => ∀ c : Dev Cert.SmallAdamIdeal.nD,
          r.2.mem ((c.tc : Thread Cert.SmallAdamIdeal.nD Cert.SmallAdamIdeal.τ).loc Cert.SmallAdamIdeal.main_v0_0) = v0 c
          ∧ r.2.mem ((c.tc : Thread Cert.SmallAdamIdeal.nD Cert.SmallAdamIdeal.τ).loc Cert.SmallAdamIdeal.main_v0_1) = v1 c
          ∧ r.2.mem ((c.tc : Thread Cert.SmallAdamIdeal.nD Cert.SmallAdamIdeal.τ).loc Cert.SmallAdamIdeal.main_v0_2) = v2 c
          ∧ r.2.mem ((c.tc : Thread Cert.SmallAdamIdeal.nD Cert.SmallAdamIdeal.τ).loc Cert.SmallAdamIdeal.main_v0_3) = v3 c
          ∧ r.2.mem ((c.tc : Thread Cert.SmallAdamIdeal.nD Cert.SmallAdamIdeal.τ).loc Cert.SmallAdamIdeal.main_v0_4) = v4 c
          ∧ r.2.mem ((c.tc : Thread Cert.SmallAdamIdeal.nD Cert.SmallAdamIdeal.τ).loc Cert.SmallAdamIdeal.main_v0_5) = v5 c
          ∧ r.2.mem ((c.tc : Thread Cert.SmallAdamIdeal.nD Cert.SmallAdamIdeal.τ).loc Cert.SmallAdamIdeal.main_v0_6) = v6 c
          ∧ r.2.mem ((c.tc : Thread Cert.SmallAdamIdeal.nD Cert.SmallAdamIdeal.τ).loc Cert.SmallAdamIdeal.main_v0_7) = v7 c
          ∧ r.2.mem ((c.tc : Thread Cert.SmallAdamIdeal.nD Cert.SmallAdamIdeal.τ).loc Cert.SmallAdamIdeal.main_v0_8) = v8 c
          ∧ r.2.mem ((c.tc : Thread Cert.SmallAdamIdeal.nD Cert.SmallAdamIdeal.τ).loc Cert.SmallAdamIdeal.main_v0_9) = v9 c
          ∧ r.2.mem ((c.tc : Thread Cert.SmallAdamIdeal.nD Cert.SmallAdamIdeal.τ).loc Cert.SmallAdamIdeal.main_v0_10) = v10 c
          ∧ r.2.mem ((c.tc : Thread Cert.SmallAdamIdeal.nD Cert.SmallAdamIdeal.τ).loc Cert.SmallAdamIdeal.main_v0_11) = v11 c
          ∧ r.2.mem ((c.tc : Thread Cert.SmallAdamIdeal.nD Cert.SmallAdamIdeal.τ).loc Cert.SmallAdamIdeal.main_v0_12) = v12 c
          ∧ r.2.mem ((c.tc : Thread Cert.SmallAdamIdeal.nD Cert.SmallAdamIdeal.τ).loc Cert.SmallAdamIdeal.main_v0_13) = v13 c
          ∧ r.2.mem ((c.tc : Thread Cert.SmallAdamIdeal.nD Cert.SmallAdamIdeal.τ).loc Cert.SmallAdamIdeal.main_v0_14) = v14 c
          ∧ r.2.mem ((c.tc : Thread Cert.SmallAdamIdeal.nD Cert.SmallAdamIdeal.τ).loc Cert.SmallAdamIdeal.main_v0_15) = v15 c
          ∧ r.2.mem ((c.tc : Thread Cert.SmallAdamIdeal.nD Cert.SmallAdamIdeal.τ).loc Cert.SmallAdamIdeal.main_v0_16) = v16 c
          ∧ r.2.mem ((c.tc : Thread Cert.SmallAdamIdeal.nD Cert.SmallAdamIdeal.τ).loc Cert.SmallAdamIdeal.main_v0_17) = v17 c
          ∧ r.2.mem ((c.tc : Thread Cert.SmallAdamIdeal.nD Cert.SmallAdamIdeal.τ).loc Cert.SmallAdamIdeal.main_v0_18) = v18 c
          ∧ r.2.mem ((c.tc : Thread Cert.SmallAdamIdeal.nD Cert.SmallAdamIdeal.τ).loc Cert.SmallAdamIdeal.main_v0_19) = v19 c
          ∧ r.2.mem ((c.tc : Thread Cert.SmallAdamIdeal.nD Cert.SmallAdamIdeal.τ).loc Cert.SmallAdamIdeal.main_v0_20) = v20 c
          ∧ r.2.mem ((c.tc : Thread Cert.SmallAdamIdeal.nD Cert.SmallAdamIdeal.τ).loc Cert.SmallAdamIdeal.main_v0_21) = v21 c
          ∧ r.2.mem ((c.tc : Thread Cert.SmallAdamIdeal.nD Cert.SmallAdamIdeal.τ).loc Cert.SmallAdamIdeal.main_v0_22) = v22 c
          ∧ r.2.mem ((c.tc : Thread Cert.SmallAdamIdeal.nD Cert.SmallAdamIdeal.τ).loc Cert.SmallAdamIdeal.main_v0_23) = v23 c
          ∧ r.2.mem ((c.tc : Thread Cert.SmallAdamIdeal.nD Cert.SmallAdamIdeal.τ).loc Cert.SmallAdamIdeal.main_arg0) = m ((c.tc : Thread Cert.SmallAdamIdeal.nD Cert.SmallAdamIdeal.τ).loc Cert.SmallAdamIdeal.main_arg0)
          ∧ r.2.mem ((c.tc : Thread Cert.SmallAdamIdeal.nD Cert.SmallAdamIdeal.τ).loc Cert.SmallAdamIdeal.main_arg1) = m ((c.tc : Thread Cert.SmallAdamIdeal.nD Cert.SmallAdamIdeal.τ).loc Cert.SmallAdamIdeal.main_arg1)
          ∧ r.2.mem ((c.tc : Thread Cert.SmallAdamIdeal.nD Cert.SmallAdamIdeal.τ).loc Cert.SmallAdamIdeal.main_arg2) = m ((c.tc : Thread Cert.SmallAdamIdeal.nD Cert.SmallAdamIdeal.τ).loc Cert.SmallAdamIdeal.main_arg2)
          ∧ r.2.mem ((c.tc : Thread Cert.SmallAdamIdeal.nD Cert.SmallAdamIdeal.τ).loc Cert.SmallAdamIdeal.main_arg3) = m ((c.tc : Thread Cert.SmallAdamIdeal.nD Cert.SmallAdamIdeal.τ).loc Cert.SmallAdamIdeal.main_arg3))
      ∧ θ_run (Cert.SmallAdamRefIdeal.defs (F := Ideal)) (onTc (τ := Cert.SmallAdamRefIdeal.τ) (Cert.SmallAdamRefIdeal.main (F := Ideal))) ⟨m', fun _ => 0, g'⟩ (fun r => ∀ c : Dev Cert.SmallAdamRefIdeal.nD,
          r.2.mem ((c.tc : Thread Cert.SmallAdamRefIdeal.nD Cert.SmallAdamRefIdeal.τ).loc Cert.SmallAdamRefIdeal.main_v24) = v0 c
          ∧ r.2.mem ((c.tc : Thread Cert.SmallAdamRefIdeal.nD Cert.SmallAdamRefIdeal.τ).loc Cert.SmallAdamRefIdeal.main_v25) = v1 c
          ∧ r.2.mem ((c.tc : Thread Cert.SmallAdamRefIdeal.nD Cert.SmallAdamRefIdeal.τ).loc Cert.SmallAdamRefIdeal.main_v26) = v2 c
          ∧ r.2.mem ((c.tc : Thread Cert.SmallAdamRefIdeal.nD Cert.SmallAdamRefIdeal.τ).loc Cert.SmallAdamRefIdeal.main_v27) = v3 c
          ∧ r.2.mem ((c.tc : Thread Cert.SmallAdamRefIdeal.nD Cert.SmallAdamRefIdeal.τ).loc Cert.SmallAdamRefIdeal.main_v28) = v4 c
          ∧ r.2.mem ((c.tc : Thread Cert.SmallAdamRefIdeal.nD Cert.SmallAdamRefIdeal.τ).loc Cert.SmallAdamRefIdeal.main_v29) = v5 c
          ∧ r.2.mem ((c.tc : Thread Cert.SmallAdamRefIdeal.nD Cert.SmallAdamRefIdeal.τ).loc Cert.SmallAdamRefIdeal.main_v30) = v6 c
          ∧ r.2.mem ((c.tc : Thread Cert.SmallAdamRefIdeal.nD Cert.SmallAdamRefIdeal.τ).loc Cert.SmallAdamRefIdeal.main_v31) = v7 c
          ∧ r.2.mem ((c.tc : Thread Cert.SmallAdamRefIdeal.nD Cert.SmallAdamRefIdeal.τ).loc Cert.SmallAdamRefIdeal.main_v32) = v8 c
          ∧ r.2.mem ((c.tc : Thread Cert.SmallAdamRefIdeal.nD Cert.SmallAdamRefIdeal.τ).loc Cert.SmallAdamRefIdeal.main_v33) = v9 c
          ∧ r.2.mem ((c.tc : Thread Cert.SmallAdamRefIdeal.nD Cert.SmallAdamRefIdeal.τ).loc Cert.SmallAdamRefIdeal.main_v34) = v10 c
          ∧ r.2.mem ((c.tc : Thread Cert.SmallAdamRefIdeal.nD Cert.SmallAdamRefIdeal.τ).loc Cert.SmallAdamRefIdeal.main_v35) = v11 c
          ∧ r.2.mem ((c.tc : Thread Cert.SmallAdamRefIdeal.nD Cert.SmallAdamRefIdeal.τ).loc Cert.SmallAdamRefIdeal.main_v36) = v12 c
          ∧ r.2.mem ((c.tc : Thread Cert.SmallAdamRefIdeal.nD Cert.SmallAdamRefIdeal.τ).loc Cert.SmallAdamRefIdeal.main_v37) = v13 c
          ∧ r.2.mem ((c.tc : Thread Cert.SmallAdamRefIdeal.nD Cert.SmallAdamRefIdeal.τ).loc Cert.SmallAdamRefIdeal.main_v38) = v14 c
          ∧ r.2.mem ((c.tc : Thread Cert.SmallAdamRefIdeal.nD Cert.SmallAdamRefIdeal.τ).loc Cert.SmallAdamRefIdeal.main_v39) = v15 c
          ∧ r.2.mem ((c.tc : Thread Cert.SmallAdamRefIdeal.nD Cert.SmallAdamRefIdeal.τ).loc Cert.SmallAdamRefIdeal.main_v40) = v16 c
          ∧ r.2.mem ((c.tc : Thread Cert.SmallAdamRefIdeal.nD Cert.SmallAdamRefIdeal.τ).loc Cert.SmallAdamRefIdeal.main_v41) = v17 c
          ∧ r.2.mem ((c.tc : Thread Cert.SmallAdamRefIdeal.nD Cert.SmallAdamRefIdeal.τ).loc Cert.SmallAdamRefIdeal.main_v42) = v18 c
          ∧ r.2.mem ((c.tc : Thread Cert.SmallAdamRefIdeal.nD Cert.SmallAdamRefIdeal.τ).loc Cert.SmallAdamRefIdeal.main_v43) = v19 c
          ∧ r.2.mem ((c.tc : Thread Cert.SmallAdamRefIdeal.nD Cert.SmallAdamRefIdeal.τ).loc Cert.SmallAdamRefIdeal.main_v44) = v20 c
          ∧ r.2.mem ((c.tc : Thread Cert.SmallAdamRefIdeal.nD Cert.SmallAdamRefIdeal.τ).loc Cert.SmallAdamRefIdeal.main_v45) = v21 c
          ∧ r.2.mem ((c.tc : Thread Cert.SmallAdamRefIdeal.nD Cert.SmallAdamRefIdeal.τ).loc Cert.SmallAdamRefIdeal.main_v46) = v22 c
          ∧ r.2.mem ((c.tc : Thread Cert.SmallAdamRefIdeal.nD Cert.SmallAdamRefIdeal.τ).loc Cert.SmallAdamRefIdeal.main_v47) = v23 c
          ∧ r.2.mem ((c.tc : Thread Cert.SmallAdamRefIdeal.nD Cert.SmallAdamRefIdeal.τ).loc Cert.SmallAdamRefIdeal.main_arg0) = m' ((c.tc : Thread Cert.SmallAdamRefIdeal.nD Cert.SmallAdamRefIdeal.τ).loc Cert.SmallAdamRefIdeal.main_arg0)
          ∧ r.2.mem ((c.tc : Thread Cert.SmallAdamRefIdeal.nD Cert.SmallAdamRefIdeal.τ).loc Cert.SmallAdamRefIdeal.main_arg1) = m' ((c.tc : Thread Cert.SmallAdamRefIdeal.nD Cert.SmallAdamRefIdeal.τ).loc Cert.SmallAdamRefIdeal.main_arg1)
          ∧ r.2.mem ((c.tc : Thread Cert.SmallAdamRefIdeal.nD Cert.SmallAdamRefIdeal.τ).loc Cert.SmallAdamRefIdeal.main_arg2) = m' ((c.tc : Thread Cert.SmallAdamRefIdeal.nD Cert.SmallAdamRefIdeal.τ).loc Cert.SmallAdamRefIdeal.main_arg2)
          ∧ r.2.mem ((c.tc : Thread Cert.SmallAdamRefIdeal.nD Cert.SmallAdamRefIdeal.τ).loc Cert.SmallAdamRefIdeal.main_arg3) = m' ((c.tc : Thread Cert.SmallAdamRefIdeal.nD Cert.SmallAdamRefIdeal.τ).loc Cert.SmallAdamRefIdeal.main_arg3))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)
      ∧ m' ((c.tc : Thread Cert.SmallSumRefIdeal.nD Cert.SmallSumRefIdeal.τ).loc Cert.SmallSumRefIdeal.main_arg1) = m ((c.tc : Thread Cert.SmallSumIdeal.nD Cert.SmallSumIdeal.τ).loc Cert.SmallSumIdeal.main_arg1)
      ∧ m' ((c.tc : Thread Cert.SmallSumRefIdeal.nD Cert.SmallSumRefIdeal.τ).loc Cert.SmallSumRefIdeal.main_arg2) = m ((c.tc : Thread Cert.SmallSumIdeal.nD Cert.SmallSumIdeal.τ).loc Cert.SmallSumIdeal.main_arg2)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
          ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1)
          ∧ r.2.mem ((c.tc : Thread Cert.SmallSumIdeal.nD Cert.SmallSumIdeal.τ).loc Cert.SmallSumIdeal.main_arg2) = m ((c.tc : Thread Cert.SmallSumIdeal.nD Cert.SmallSumIdeal.τ).loc Cert.SmallSumIdeal.main_arg2))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v7) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0)
          ∧ r.2.mem ((c.tc : Thread Cert.SmallSumRefIdeal.nD Cert.SmallSumRefIdeal.τ).loc Cert.SmallSumRefIdeal.main_arg1) = m' ((c.tc : Thread Cert.SmallSumRefIdeal.nD Cert.SmallSumRefIdeal.τ).loc Cert.SmallSumRefIdeal.main_arg1)
          ∧ r.2.mem ((c.tc : Thread Cert.SmallSumRefIdeal.nD Cert.SmallSumRefIdeal.τ).loc Cert.SmallSumRefIdeal.main_arg2) = m' ((c.tc : Thread Cert.SmallSumRefIdeal.nD Cert.SmallSumRefIdeal.τ).loc Cert.SmallSumRefIdeal.main_arg2))

def preserves_Reduce_ReduceIdeal : Prop :=
  True

def algebraic_ReduceIdeal_ReduceRefIdeal [hReduceIdeal : Cert.ReduceIdeal.Facts] [hReduceRefIdeal : Cert.ReduceRefIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReduceRefIdeal.nD Cert.ReduceRefIdeal.τ Cert.ReduceRefIdeal.sig) → Buf (Elt Ideal) ℓ) (g' : Dev Cert.ReduceRefIdeal.nD → PrngReg), Pre_ReduceIdeal m →
    (∀ c : Dev Cert.ReduceIdeal.nD,
      m' ((c.tc : Thread Cert.ReduceRefIdeal.nD Cert.ReduceRefIdeal.τ).loc Cert.ReduceRefIdeal.main_arg0) = m ((c.tc : Thread Cert.ReduceIdeal.nD Cert.ReduceIdeal.τ).loc Cert.ReduceIdeal.main_arg0)
      ∧ m' ((c.tc : Thread Cert.ReduceRefIdeal.nD Cert.ReduceRefIdeal.τ).loc Cert.ReduceRefIdeal.main_arg1) = m ((c.tc : Thread Cert.ReduceIdeal.nD Cert.ReduceIdeal.τ).loc Cert.ReduceIdeal.main_arg1)
      ∧ m' ((c.tc : Thread Cert.ReduceRefIdeal.nD Cert.ReduceRefIdeal.τ).loc Cert.ReduceRefIdeal.main_arg2) = m ((c.tc : Thread Cert.ReduceIdeal.nD Cert.ReduceIdeal.τ).loc Cert.ReduceIdeal.main_arg2)
      ∧ m' ((c.tc : Thread Cert.ReduceRefIdeal.nD Cert.ReduceRefIdeal.τ).loc Cert.ReduceRefIdeal.main_arg3) = m ((c.tc : Thread Cert.ReduceIdeal.nD Cert.ReduceIdeal.τ).loc Cert.ReduceIdeal.main_arg3)
      ∧ m' ((c.tc : Thread Cert.ReduceRefIdeal.nD Cert.ReduceRefIdeal.τ).loc Cert.ReduceRefIdeal.main_arg4) = m ((c.tc : Thread Cert.ReduceIdeal.nD Cert.ReduceIdeal.τ).loc Cert.ReduceIdeal.main_arg4)) →
    ∃ (v0 : (c : Dev Cert.ReduceIdeal.nD) → Buf (Elt Ideal) ((c.tc : Thread Cert.ReduceIdeal.nD Cert.ReduceIdeal.τ).loc Cert.ReduceIdeal.main_v1_0)) (v1 : (c : Dev Cert.ReduceIdeal.nD) → Buf (Elt Ideal) ((c.tc : Thread Cert.ReduceIdeal.nD Cert.ReduceIdeal.τ).loc Cert.ReduceIdeal.main_v1_1)) (v2 : (c : Dev Cert.ReduceIdeal.nD) → Buf (Elt Ideal) ((c.tc : Thread Cert.ReduceIdeal.nD Cert.ReduceIdeal.τ).loc Cert.ReduceIdeal.main_v1_2)) (v3 : (c : Dev Cert.ReduceIdeal.nD) → Buf (Elt Ideal) ((c.tc : Thread Cert.ReduceIdeal.nD Cert.ReduceIdeal.τ).loc Cert.ReduceIdeal.main_v1_3)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v1_0) = v0 c
          ∧ r.2.mem ((c.tc : Thread Cert.ReduceIdeal.nD Cert.ReduceIdeal.τ).loc Cert.ReduceIdeal.main_v1_1) = v1 c
          ∧ r.2.mem ((c.tc : Thread Cert.ReduceIdeal.nD Cert.ReduceIdeal.τ).loc Cert.ReduceIdeal.main_v1_2) = v2 c
          ∧ r.2.mem ((c.tc : Thread Cert.ReduceIdeal.nD Cert.ReduceIdeal.τ).loc Cert.ReduceIdeal.main_v1_3) = v3 c
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
          ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
          ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
          ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4))
      ∧ θ_run (Cert.ReduceRefIdeal.defs (F := Ideal)) (onTc (τ := Cert.ReduceRefIdeal.τ) (Cert.ReduceRefIdeal.main (F := Ideal))) ⟨m', fun _ => 0, g'⟩ (fun r => ∀ c : Dev Cert.ReduceRefIdeal.nD,
          r.2.mem ((c.tc : Thread Cert.ReduceRefIdeal.nD Cert.ReduceRefIdeal.τ).loc Cert.ReduceRefIdeal.main_v6) = v0 c
          ∧ r.2.mem ((c.tc : Thread Cert.ReduceRefIdeal.nD Cert.ReduceRefIdeal.τ).loc Cert.ReduceRefIdeal.main_v30) = v1 c
          ∧ r.2.mem ((c.tc : Thread Cert.ReduceRefIdeal.nD Cert.ReduceRefIdeal.τ).loc Cert.ReduceRefIdeal.main_v11) = v2 c
          ∧ r.2.mem ((c.tc : Thread Cert.ReduceRefIdeal.nD Cert.ReduceRefIdeal.τ).loc Cert.ReduceRefIdeal.main_v17) = v3 c
          ∧ r.2.mem ((c.tc : Thread Cert.ReduceRefIdeal.nD Cert.ReduceRefIdeal.τ).loc Cert.ReduceRefIdeal.main_arg0) = m' ((c.tc : Thread Cert.ReduceRefIdeal.nD Cert.ReduceRefIdeal.τ).loc Cert.ReduceRefIdeal.main_arg0)
          ∧ r.2.mem ((c.tc : Thread Cert.ReduceRefIdeal.nD Cert.ReduceRefIdeal.τ).loc Cert.ReduceRefIdeal.main_arg1) = m' ((c.tc : Thread Cert.ReduceRefIdeal.nD Cert.ReduceRefIdeal.τ).loc Cert.ReduceRefIdeal.main_arg1)
          ∧ r.2.mem ((c.tc : Thread Cert.ReduceRefIdeal.nD Cert.ReduceRefIdeal.τ).loc Cert.ReduceRefIdeal.main_arg2) = m' ((c.tc : Thread Cert.ReduceRefIdeal.nD Cert.ReduceRefIdeal.τ).loc Cert.ReduceRefIdeal.main_arg2)
          ∧ r.2.mem ((c.tc : Thread Cert.ReduceRefIdeal.nD Cert.ReduceRefIdeal.τ).loc Cert.ReduceRefIdeal.main_arg3) = m' ((c.tc : Thread Cert.ReduceRefIdeal.nD Cert.ReduceRefIdeal.τ).loc Cert.ReduceRefIdeal.main_arg3)
          ∧ r.2.mem ((c.tc : Thread Cert.ReduceRefIdeal.nD Cert.ReduceRefIdeal.τ).loc Cert.ReduceRefIdeal.main_arg4) = m' ((c.tc : Thread Cert.ReduceRefIdeal.nD Cert.ReduceRefIdeal.τ).loc Cert.ReduceRefIdeal.main_arg4))

def preserves_Sent_SentIdeal : Prop :=
  True

def algebraic_SentIdeal_SentRefIdeal [hSentIdeal : Cert.SentIdeal.Facts] [hSentRefIdeal : Cert.SentRefIdeal.Facts] : Prop :=
  ∀ (m : (ℓ : Loc Cert.SentIdeal.nD Cert.SentIdeal.τ Cert.SentIdeal.sig) → Buf (Elt Ideal) ℓ) (g : Dev Cert.SentIdeal.nD → PrngReg)
    (m' : (ℓ : Loc Cert.SentRefIdeal.nD Cert.SentRefIdeal.τ Cert.SentRefIdeal.sig) → Buf (Elt Ideal) ℓ) (g' : Dev Cert.SentRefIdeal.nD → PrngReg), Pre_SentIdeal m →
    (∀ c : Dev Cert.SentIdeal.nD,
      m' ((c.tc : Thread Cert.SentRefIdeal.nD Cert.SentRefIdeal.τ).loc Cert.SentRefIdeal.main_arg0) = m ((c.tc : Thread Cert.SentIdeal.nD Cert.SentIdeal.τ).loc Cert.SentIdeal.main_arg0)
      ∧ m' ((c.tc : Thread Cert.SentRefIdeal.nD Cert.SentRefIdeal.τ).loc Cert.SentRefIdeal.main_arg1) = m ((c.tc : Thread Cert.SentIdeal.nD Cert.SentIdeal.τ).loc Cert.SentIdeal.main_arg1)) →
    ∃ (v0 : (c : Dev Cert.SentIdeal.nD) → Buf (Elt Ideal) ((c.tc : Thread Cert.SentIdeal.nD Cert.SentIdeal.τ).loc Cert.SentIdeal.main_v1)),
      θ_run (Cert.SentIdeal.defs (F := Ideal)) (onTc (τ := Cert.SentIdeal.τ) (Cert.SentIdeal.main (F := Ideal))) ⟨m, fun _ => 0, g⟩ (fun r => ∀ c : Dev Cert.SentIdeal.nD,
          r.2.mem ((c.tc : Thread Cert.SentIdeal.nD Cert.SentIdeal.τ).loc Cert.SentIdeal.main_v1) = v0 c
          ∧ r.2.mem ((c.tc : Thread Cert.SentIdeal.nD Cert.SentIdeal.τ).loc Cert.SentIdeal.main_arg0) = m ((c.tc : Thread Cert.SentIdeal.nD Cert.SentIdeal.τ).loc Cert.SentIdeal.main_arg0)
          ∧ r.2.mem ((c.tc : Thread Cert.SentIdeal.nD Cert.SentIdeal.τ).loc Cert.SentIdeal.main_arg1) = m ((c.tc : Thread Cert.SentIdeal.nD Cert.SentIdeal.τ).loc Cert.SentIdeal.main_arg1))
      ∧ θ_run (Cert.SentRefIdeal.defs (F := Ideal)) (onTc (τ := Cert.SentRefIdeal.τ) (Cert.SentRefIdeal.main (F := Ideal))) ⟨m', fun _ => 0, g'⟩ (fun r => ∀ c : Dev Cert.SentRefIdeal.nD,
          r.2.mem ((c.tc : Thread Cert.SentRefIdeal.nD Cert.SentRefIdeal.τ).loc Cert.SentRefIdeal.main_v9) = v0 c
          ∧ r.2.mem ((c.tc : Thread Cert.SentRefIdeal.nD Cert.SentRefIdeal.τ).loc Cert.SentRefIdeal.main_arg0) = m' ((c.tc : Thread Cert.SentRefIdeal.nD Cert.SentRefIdeal.τ).loc Cert.SentRefIdeal.main_arg0)
          ∧ r.2.mem ((c.tc : Thread Cert.SentRefIdeal.nD Cert.SentRefIdeal.τ).loc Cert.SentRefIdeal.main_arg1) = m' ((c.tc : Thread Cert.SentRefIdeal.nD Cert.SentRefIdeal.τ).loc Cert.SentRefIdeal.main_arg1))

def preserves_GroupDx_GroupDxIdeal : Prop :=
  True

def algebraic_GroupDxIdeal_GroupDxRefIdeal [hGroupDxIdeal : Cert.GroupDxIdeal.Facts] [hGroupDxRefIdeal : Cert.GroupDxRefIdeal.Facts] : Prop :=
  ∀ (m : (ℓ : Loc Cert.GroupDxIdeal.nD Cert.GroupDxIdeal.τ Cert.GroupDxIdeal.sig) → Buf (Elt Ideal) ℓ) (g : Dev Cert.GroupDxIdeal.nD → PrngReg)
    (m' : (ℓ : Loc Cert.GroupDxRefIdeal.nD Cert.GroupDxRefIdeal.τ Cert.GroupDxRefIdeal.sig) → Buf (Elt Ideal) ℓ) (g' : Dev Cert.GroupDxRefIdeal.nD → PrngReg), Pre_GroupDxIdeal m →
    (∀ c : Dev Cert.GroupDxIdeal.nD,
      m' ((c.tc : Thread Cert.GroupDxRefIdeal.nD Cert.GroupDxRefIdeal.τ).loc Cert.GroupDxRefIdeal.main_arg0) = m ((c.tc : Thread Cert.GroupDxIdeal.nD Cert.GroupDxIdeal.τ).loc Cert.GroupDxIdeal.main_arg0)
      ∧ m' ((c.tc : Thread Cert.GroupDxRefIdeal.nD Cert.GroupDxRefIdeal.τ).loc Cert.GroupDxRefIdeal.main_arg1) = m ((c.tc : Thread Cert.GroupDxIdeal.nD Cert.GroupDxIdeal.τ).loc Cert.GroupDxIdeal.main_arg1)) →
    ∃ (v0 : (c : Dev Cert.GroupDxIdeal.nD) → Buf (Elt Ideal) ((c.tc : Thread Cert.GroupDxIdeal.nD Cert.GroupDxIdeal.τ).loc Cert.GroupDxIdeal.main_v2)),
      θ_run (Cert.GroupDxIdeal.defs (F := Ideal)) (onTc (τ := Cert.GroupDxIdeal.τ) (Cert.GroupDxIdeal.main (F := Ideal))) ⟨m, fun _ => 0, g⟩ (fun r => ∀ c : Dev Cert.GroupDxIdeal.nD,
          r.2.mem ((c.tc : Thread Cert.GroupDxIdeal.nD Cert.GroupDxIdeal.τ).loc Cert.GroupDxIdeal.main_v2) = v0 c
          ∧ r.2.mem ((c.tc : Thread Cert.GroupDxIdeal.nD Cert.GroupDxIdeal.τ).loc Cert.GroupDxIdeal.main_arg0) = m ((c.tc : Thread Cert.GroupDxIdeal.nD Cert.GroupDxIdeal.τ).loc Cert.GroupDxIdeal.main_arg0)
          ∧ r.2.mem ((c.tc : Thread Cert.GroupDxIdeal.nD Cert.GroupDxIdeal.τ).loc Cert.GroupDxIdeal.main_arg1) = m ((c.tc : Thread Cert.GroupDxIdeal.nD Cert.GroupDxIdeal.τ).loc Cert.GroupDxIdeal.main_arg1))
      ∧ θ_run (Cert.GroupDxRefIdeal.defs (F := Ideal)) (onTc (τ := Cert.GroupDxRefIdeal.τ) (Cert.GroupDxRefIdeal.main (F := Ideal))) ⟨m', fun _ => 0, g'⟩ (fun r => ∀ c : Dev Cert.GroupDxRefIdeal.nD,
          r.2.mem ((c.tc : Thread Cert.GroupDxRefIdeal.nD Cert.GroupDxRefIdeal.τ).loc Cert.GroupDxRefIdeal.main_v11) = v0 c
          ∧ r.2.mem ((c.tc : Thread Cert.GroupDxRefIdeal.nD Cert.GroupDxRefIdeal.τ).loc Cert.GroupDxRefIdeal.main_arg0) = m' ((c.tc : Thread Cert.GroupDxRefIdeal.nD Cert.GroupDxRefIdeal.τ).loc Cert.GroupDxRefIdeal.main_arg0)
          ∧ r.2.mem ((c.tc : Thread Cert.GroupDxRefIdeal.nD Cert.GroupDxRefIdeal.τ).loc Cert.GroupDxRefIdeal.main_arg1) = m' ((c.tc : Thread Cert.GroupDxRefIdeal.nD Cert.GroupDxRefIdeal.τ).loc Cert.GroupDxRefIdeal.main_arg1))

def preserves_Columns_ColumnsIdeal : Prop :=
  True

def algebraic_ColumnsIdeal_ColumnsRefIdeal [hColumnsIdeal : Cert.ColumnsIdeal.Facts] [hColumnsRefIdeal : Cert.ColumnsRefIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg)
    (m' : (ℓ : Loc Cert.ColumnsRefIdeal.nD Cert.ColumnsRefIdeal.τ Cert.ColumnsRefIdeal.sig) → Buf (Elt Ideal) ℓ) (g' : Dev Cert.ColumnsRefIdeal.nD → PrngReg), Pre_ColumnsIdeal m →
    (∀ c : Dev Cert.ColumnsIdeal.nD,
      m' ((c.tc : Thread Cert.ColumnsRefIdeal.nD Cert.ColumnsRefIdeal.τ).loc Cert.ColumnsRefIdeal.main_arg0) = m ((c.tc : Thread Cert.ColumnsIdeal.nD Cert.ColumnsIdeal.τ).loc Cert.ColumnsIdeal.main_arg0)
      ∧ m' ((c.tc : Thread Cert.ColumnsRefIdeal.nD Cert.ColumnsRefIdeal.τ).loc Cert.ColumnsRefIdeal.main_arg1) = m ((c.tc : Thread Cert.ColumnsIdeal.nD Cert.ColumnsIdeal.τ).loc Cert.ColumnsIdeal.main_arg1)
      ∧ m' ((c.tc : Thread Cert.ColumnsRefIdeal.nD Cert.ColumnsRefIdeal.τ).loc Cert.ColumnsRefIdeal.main_arg2) = m ((c.tc : Thread Cert.ColumnsIdeal.nD Cert.ColumnsIdeal.τ).loc Cert.ColumnsIdeal.main_arg2)) →
    ∃ (v0 : (c : Dev Cert.ColumnsIdeal.nD) → Buf (Elt Ideal) ((c.tc : Thread Cert.ColumnsIdeal.nD Cert.ColumnsIdeal.τ).loc Cert.ColumnsIdeal.main_v1)),
      θ_run (Cert.ColumnsIdeal.defs (F := Ideal)) (onTc (τ := Cert.ColumnsIdeal.τ) (Cert.ColumnsIdeal.main (F := Ideal))) ⟨m, fun _ => 0, g⟩ (fun r => ∀ c : Dev Cert.ColumnsIdeal.nD,
          r.2.mem ((c.tc : Thread Cert.ColumnsIdeal.nD Cert.ColumnsIdeal.τ).loc Cert.ColumnsIdeal.main_v1) = v0 c
          ∧ r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0)
          ∧ r.2.mem ((c.tc : Thread Cert.ColumnsIdeal.nD Cert.ColumnsIdeal.τ).loc Cert.ColumnsIdeal.main_arg1) = m ((c.tc : Thread Cert.ColumnsIdeal.nD Cert.ColumnsIdeal.τ).loc Cert.ColumnsIdeal.main_arg1)
          ∧ r.2.mem ((c.tc : Thread Cert.ColumnsIdeal.nD Cert.ColumnsIdeal.τ).loc Cert.ColumnsIdeal.main_arg2) = m ((c.tc : Thread Cert.ColumnsIdeal.nD Cert.ColumnsIdeal.τ).loc Cert.ColumnsIdeal.main_arg2))
      ∧ θ_run (Cert.ColumnsRefIdeal.defs (F := Ideal)) (onTc (τ := Cert.ColumnsRefIdeal.τ) (Cert.ColumnsRefIdeal.main (F := Ideal))) ⟨m', fun _ => 0, g'⟩ (fun r => ∀ c : Dev Cert.ColumnsRefIdeal.nD,
          r.2.mem ((c.tc : Thread Cert.ColumnsRefIdeal.nD Cert.ColumnsRefIdeal.τ).loc Cert.ColumnsRefIdeal.main_v12) = v0 c
          ∧ r.2.mem ((c.tc : Thread Cert.ColumnsRefIdeal.nD Cert.ColumnsRefIdeal.τ).loc Cert.ColumnsRefIdeal.main_arg0) = m' ((c.tc : Thread Cert.ColumnsRefIdeal.nD Cert.ColumnsRefIdeal.τ).loc Cert.ColumnsRefIdeal.main_arg0)
          ∧ r.2.mem ((c.tc : Thread Cert.ColumnsRefIdeal.nD Cert.ColumnsRefIdeal.τ).loc Cert.ColumnsRefIdeal.main_arg1) = m' ((c.tc : Thread Cert.ColumnsRefIdeal.nD Cert.ColumnsRefIdeal.τ).loc Cert.ColumnsRefIdeal.main_arg1)
          ∧ r.2.mem ((c.tc : Thread Cert.ColumnsRefIdeal.nD Cert.ColumnsRefIdeal.τ).loc Cert.ColumnsRefIdeal.main_arg2) = m' ((c.tc : Thread Cert.ColumnsRefIdeal.nD Cert.ColumnsRefIdeal.τ).loc Cert.ColumnsRefIdeal.main_arg2))

def Claim : Prop :=
  ∃ (hHead : Cert.Head.Facts) (hHeadIdeal : Cert.HeadIdeal.Facts) (hHeadRefIdeal : Cert.HeadRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hPool : Cert.Pool.Facts) (hPoolIdeal : Cert.PoolIdeal.Facts) (hPoolRefIdeal : Cert.PoolRefIdeal.Facts) (hScale : Cert.Scale.Facts) (hScaleIdeal : Cert.ScaleIdeal.Facts) (hScaleRefIdeal : Cert.ScaleRefIdeal.Facts) (hDown : Cert.Down.Facts) (hDownIdeal : Cert.DownIdeal.Facts) (hDownRefIdeal : Cert.DownRefIdeal.Facts) (hGateFwd : Cert.GateFwd.Facts) (hGateFwdIdeal : Cert.GateFwdIdeal.Facts) (hGateFwdRefIdeal : Cert.GateFwdRefIdeal.Facts) (hNormFwd : Cert.NormFwd.Facts) (hNormFwdIdeal : Cert.NormFwdIdeal.Facts) (hNormFwdRefIdeal : Cert.NormFwdRefIdeal.Facts) (hPoolFwd : Cert.PoolFwd.Facts) (hPoolFwdIdeal : Cert.PoolFwdIdeal.Facts) (hPoolFwdRefIdeal : Cert.PoolFwdRefIdeal.Facts) (hGroup : Cert.Group.Facts) (hGroupIdeal : Cert.GroupIdeal.Facts) (hGroupRefIdeal : Cert.GroupRefIdeal.Facts) (hExchange : Cert.Exchange.Facts) (hExchangeIdeal : Cert.ExchangeIdeal.Facts) (hExchangeRefIdeal : Cert.ExchangeRefIdeal.Facts) (hMlpDown : Cert.MlpDown.Facts) (hMlpDownIdeal : Cert.MlpDownIdeal.Facts) (hMlpDownRefIdeal : Cert.MlpDownRefIdeal.Facts) (hUpDx : Cert.UpDx.Facts) (hUpDxIdeal : Cert.UpDxIdeal.Facts) (hUpDxRefIdeal : Cert.UpDxRefIdeal.Facts) (hWeight : Cert.Weight.Facts) (hWeightIdeal : Cert.WeightIdeal.Facts) (hWeightRefIdeal : Cert.WeightRefIdeal.Facts) (hGroupGrad : Cert.GroupGrad.Facts) (hGroupGradIdeal : Cert.GroupGradIdeal.Facts) (hGroupGradRefIdeal : Cert.GroupGradRefIdeal.Facts) (hAddSib : Cert.AddSib.Facts) (hAddSibIdeal : Cert.AddSibIdeal.Facts) (hAddSibRefIdeal : Cert.AddSibRefIdeal.Facts) (hSmallAdam : Cert.SmallAdam.Facts) (hSmallAdamIdeal : Cert.SmallAdamIdeal.Facts) (hSmallAdamRefIdeal : Cert.SmallAdamRefIdeal.Facts) (hSmallSum : Cert.SmallSum.Facts) (hSmallSumIdeal : Cert.SmallSumIdeal.Facts) (hSmallSumRefIdeal : Cert.SmallSumRefIdeal.Facts) (hReduce : Cert.Reduce.Facts) (hReduceIdeal : Cert.ReduceIdeal.Facts) (hReduceRefIdeal : Cert.ReduceRefIdeal.Facts) (hSent : Cert.Sent.Facts) (hSentIdeal : Cert.SentIdeal.Facts) (hSentRefIdeal : Cert.SentRefIdeal.Facts) (hGroupDx : Cert.GroupDx.Facts) (hGroupDxIdeal : Cert.GroupDxIdeal.Facts) (hGroupDxRefIdeal : Cert.GroupDxRefIdeal.Facts) (hColumns : Cert.Columns.Facts) (hColumnsIdeal : Cert.ColumnsIdeal.Facts) (hColumnsRefIdeal : Cert.ColumnsRefIdeal.Facts) (hPre_head_finite : Cert.Pre_head_finite.Facts) (hPre_norm_finite : Cert.Pre_norm_finite.Facts) (hPre_gate_finite : Cert.Pre_gate_finite.Facts) (hPre_pool_finite : Cert.Pre_pool_finite.Facts),
    quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Scale (hScale := hScale)
    ∧ quiescent_ScaleIdeal (hScaleIdeal := hScaleIdeal)
    ∧ quiescent_ScaleRefIdeal (hScaleRefIdeal := hScaleRefIdeal)
    ∧ quiescent_Down (hDown := hDown)
    ∧ quiescent_DownIdeal (hDownIdeal := hDownIdeal)
    ∧ quiescent_DownRefIdeal (hDownRefIdeal := hDownRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_PoolFwd (hPoolFwd := hPoolFwd)
    ∧ quiescent_PoolFwdIdeal (hPoolFwdIdeal := hPoolFwdIdeal)
    ∧ quiescent_PoolFwdIdeal_pre_pool_finite (hPoolFwdIdeal := hPoolFwdIdeal) (hPre_pool_finite := hPre_pool_finite)
    ∧ quiescent_PoolFwdRefIdeal (hPoolFwdRefIdeal := hPoolFwdRefIdeal)
    ∧ quiescent_PoolFwdRefIdeal_pre_pool_finite (hPoolFwdRefIdeal := hPoolFwdRefIdeal) (hPre_pool_finite := hPre_pool_finite)
    ∧ quiescent_Group (hGroup := hGroup)
    ∧ quiescent_GroupIdeal (hGroupIdeal := hGroupIdeal)
    ∧ quiescent_GroupRefIdeal (hGroupRefIdeal := hGroupRefIdeal)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Weight (hWeight := hWeight)
    ∧ quiescent_WeightIdeal (hWeightIdeal := hWeightIdeal)
    ∧ quiescent_WeightRefIdeal (hWeightRefIdeal := hWeightRefIdeal)
    ∧ quiescent_GroupGrad (hGroupGrad := hGroupGrad)
    ∧ quiescent_GroupGradIdeal (hGroupGradIdeal := hGroupGradIdeal)
    ∧ quiescent_GroupGradRefIdeal (hGroupGradRefIdeal := hGroupGradRefIdeal)
    ∧ quiescent_AddSib (hAddSib := hAddSib)
    ∧ quiescent_AddSibIdeal (hAddSibIdeal := hAddSibIdeal)
    ∧ quiescent_AddSibRefIdeal (hAddSibRefIdeal := hAddSibRefIdeal)
    ∧ quiescent_SmallAdam (hSmallAdam := hSmallAdam)
    ∧ quiescent_SmallAdamIdeal (hSmallAdamIdeal := hSmallAdamIdeal)
    ∧ quiescent_SmallAdamRefIdeal (hSmallAdamRefIdeal := hSmallAdamRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_Reduce (hReduce := hReduce)
    ∧ quiescent_ReduceIdeal (hReduceIdeal := hReduceIdeal)
    ∧ quiescent_ReduceRefIdeal (hReduceRefIdeal := hReduceRefIdeal)
    ∧ quiescent_Sent (hSent := hSent)
    ∧ quiescent_SentIdeal (hSentIdeal := hSentIdeal)
    ∧ quiescent_SentRefIdeal (hSentRefIdeal := hSentRefIdeal)
    ∧ quiescent_GroupDx (hGroupDx := hGroupDx)
    ∧ quiescent_GroupDxIdeal (hGroupDxIdeal := hGroupDxIdeal)
    ∧ quiescent_GroupDxRefIdeal (hGroupDxRefIdeal := hGroupDxRefIdeal)
    ∧ quiescent_Columns (hColumns := hColumns)
    ∧ quiescent_ColumnsIdeal (hColumnsIdeal := hColumnsIdeal)
    ∧ quiescent_ColumnsRefIdeal (hColumnsRefIdeal := hColumnsRefIdeal)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Scale_ScaleIdeal
    ∧ algebraic_ScaleIdeal_ScaleRefIdeal (hScaleIdeal := hScaleIdeal) (hScaleRefIdeal := hScaleRefIdeal)
    ∧ preserves_Down_DownIdeal
    ∧ algebraic_DownIdeal_DownRefIdeal (hDownIdeal := hDownIdeal) (hDownRefIdeal := hDownRefIdeal)
    ∧ preserves_GateFwd_GateFwdIdeal
    ∧ algebraic_GateFwdIdeal_GateFwdRefIdeal (hGateFwdIdeal := hGateFwdIdeal) (hGateFwdRefIdeal := hGateFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_PoolFwd_PoolFwdIdeal
    ∧ algebraic_PoolFwdIdeal_PoolFwdRefIdeal_pre_pool_finite (hPoolFwdIdeal := hPoolFwdIdeal) (hPoolFwdRefIdeal := hPoolFwdRefIdeal) (hPre_pool_finite := hPre_pool_finite)
    ∧ preserves_Group_GroupIdeal
    ∧ algebraic_GroupIdeal_GroupRefIdeal (hGroupIdeal := hGroupIdeal) (hGroupRefIdeal := hGroupRefIdeal)
    ∧ preserves_Exchange_ExchangeIdeal
    ∧ algebraic_ExchangeIdeal_ExchangeRefIdeal (hExchangeIdeal := hExchangeIdeal) (hExchangeRefIdeal := hExchangeRefIdeal)
    ∧ preserves_MlpDown_MlpDownIdeal
    ∧ algebraic_MlpDownIdeal_MlpDownRefIdeal (hMlpDownIdeal := hMlpDownIdeal) (hMlpDownRefIdeal := hMlpDownRefIdeal)
    ∧ preserves_UpDx_UpDxIdeal
    ∧ algebraic_UpDxIdeal_UpDxRefIdeal (hUpDxIdeal := hUpDxIdeal) (hUpDxRefIdeal := hUpDxRefIdeal)
    ∧ preserves_Weight_WeightIdeal
    ∧ algebraic_WeightIdeal_WeightRefIdeal (hWeightIdeal := hWeightIdeal) (hWeightRefIdeal := hWeightRefIdeal)
    ∧ preserves_GroupGrad_GroupGradIdeal
    ∧ algebraic_GroupGradIdeal_GroupGradRefIdeal (hGroupGradIdeal := hGroupGradIdeal) (hGroupGradRefIdeal := hGroupGradRefIdeal)
    ∧ preserves_AddSib_AddSibIdeal
    ∧ algebraic_AddSibIdeal_AddSibRefIdeal (hAddSibIdeal := hAddSibIdeal) (hAddSibRefIdeal := hAddSibRefIdeal)
    ∧ preserves_SmallAdam_SmallAdamIdeal
    ∧ algebraic_SmallAdamIdeal_SmallAdamRefIdeal (hSmallAdamIdeal := hSmallAdamIdeal) (hSmallAdamRefIdeal := hSmallAdamRefIdeal)
    ∧ preserves_SmallSum_SmallSumIdeal
    ∧ algebraic_SmallSumIdeal_SmallSumRefIdeal (hSmallSumIdeal := hSmallSumIdeal) (hSmallSumRefIdeal := hSmallSumRefIdeal)
    ∧ preserves_Reduce_ReduceIdeal
    ∧ algebraic_ReduceIdeal_ReduceRefIdeal (hReduceIdeal := hReduceIdeal) (hReduceRefIdeal := hReduceRefIdeal)
    ∧ preserves_Sent_SentIdeal
    ∧ algebraic_SentIdeal_SentRefIdeal (hSentIdeal := hSentIdeal) (hSentRefIdeal := hSentRefIdeal)
    ∧ preserves_GroupDx_GroupDxIdeal
    ∧ algebraic_GroupDxIdeal_GroupDxRefIdeal (hGroupDxIdeal := hGroupDxIdeal) (hGroupDxRefIdeal := hGroupDxRefIdeal)
    ∧ preserves_Columns_ColumnsIdeal
    ∧ algebraic_ColumnsIdeal_ColumnsRefIdeal (hColumnsIdeal := hColumnsIdeal) (hColumnsRefIdeal := hColumnsRefIdeal)
-- ==== Pre_gate_finite.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x8x128x128 .f32) (main_arg5 : FVec F S1x8x128 .f32) (main_v3 : IVec S_ 1) (main_v7 : IVec S_ 1) (main_v11 : IVec S_ 1) (main_v15 : IVec S_ 1) : IVec S_ 1 :=
  let main_v16 : FVec F S1x8x128x128 .f32 := Host.absf main_arg4
  let main_cst_6 : FVec F S_ .f32 := constant S_ .f32 0x7F800000#32
  let main_v17 : FVec F S1x8x128x128 .f32 := broadcastInDim S1x8x128x128 ![] bcast_S_S1x8x128x128 main_cst_6
  let main_v18 : IVec S1x8x128x128 1 := cmpf .olt main_v16 main_v17
  let main_c_7 : IVec S_ 1 := constantI S_ 1 1#1
  let main_v19 : IVec S_ 1 := (fun x v => Host.reduce IntOp.andi x v reducesTo_S1x8x128x128_S_d0_1_2_3 h_S_) main_v18 main_c_7
  let main_v20 : FVec F S1x8x128 .f32 := Host.absf main_arg5
  let main_cst_8 : FVec F S_ .f32 := constant S_ .f32 0x7F800000#32
  let main_v21 : FVec F S1x8x128 .f32 := broadcastInDim S1x8x128 ![] bcast_S_S1x8x128 main_cst_8
  let main_v22 : IVec S1x8x128 1 := cmpf .olt main_v20 main_v21
  let main_c_9 : IVec S_ 1 := constantI S_ 1 1#1
  let main_v23 : IVec S_ 1 := (fun x v => Host.reduce IntOp.andi x v reducesTo_S1x8x128_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x4096 .f32) (main_arg1 : FVec F S2048x2048 .f32) (main_arg2 : FVec F S1x2048 .f32) (main_arg3 : FVec F S1x2048 .f32) (main_arg4 : FVec F S1x8x128x128 .f32) (main_arg5 : FVec F S1x8x128 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_arg5 main_v3 main_v7 main_v11 main_v15
-- ==== Pre_head_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048 .f32) (main_arg2 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S2048x2048 .f32 := Host.absf main_arg2
  let main_cst_2 : FVec F S_ .f32 := constant S_ .f32 0x7F800000#32
  let main_v9 : FVec F S2048x2048 .f32 := broadcastInDim S2048x2048 ![] bcast_S_S2048x2048 main_cst_2
  let main_v10 : IVec S2048x2048 1 := cmpf .olt main_v8 main_v9
  let main_c_3 : IVec S_ 1 := constantI S_ 1 1#1
  let main_v11 : IVec S_ 1 := (fun x v => Host.reduce IntOp.andi x v reducesTo_S2048x2048_S_d0_1 h_S_) main_v10 main_c_3
  let main_v12 : IVec S_ 1 := andi main_v3 main_v7
  let main_v13 : IVec S_ 1 := andi main_v12 main_v11
  main_v13
-- ==== Pre_norm_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048x2048 .f32) (main_arg2 : FVec F S2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v3 main_v7
  let main_v13 : IVec S_ 1 := andi main_v12 main_v11
  main_v13
-- ==== Pre_pool_finite.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Head.lean ====
abbrev S2048x2048 : Shape := ⟨2, ![2048, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S16x2048 : Shape := ⟨2, ![16, 2048]⟩
abbrev S16x1 : Shape := ⟨2, ![16, 1]⟩
abbrev S16 : Shape := ⟨1, ![16]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x1, .f32⟩
  | .local _ .vmem, ⟨11, _⟩ => ⟨S16x2048, .f32⟩
  | .local _ .vmem, ⟨12, _⟩ => ⟨S16x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c16_i32 : BitVec 32 := 16#32
  let v9 : BitVec 32 := Scalar.muli arg10 c16_i32
  v9
def k0_off1 (k0_t1 : Fin k0_t1_loop.trips) : Fin 2 → Nat :=
  let c0_i32_2 : BitVec 32 := 0#32
  let c1_i32 : BitVec 32 := 1#32
  let arg10 : BitVec 32 := Scf.iv c0_i32_2 c1_i32 k0_t1
  let c16_i32 : BitVec 32 := 16#32
  let v9 : BitVec 32 := Scalar.muli arg10 c16_i32
  let v10 : BitVec 32 := v9
  let v11 : Index := Scalar.indexCast v10
  let c0_5 : Index := 0#32
  ![v11.toNat, 0]
def k0_cond2 (i : grid0.Coords) : BitVec 1 :=
  let arg0 : BitVec 32 := BitVec.ofNat 32 (i 0).val
  let c3_i32 : BitVec 32 := 3#32
  let v6 : BitVec 1 := Scalar.cmpi .eq arg0 c3_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== HeadRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S1x2048, .f32⟩
  | .hbm, ⟨73, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S16x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg9 : BitVec 32 := Scf.iv c0_i32_2 c1_i32 k0_t1
  let c16_i32 : BitVec 32 := 16#32
  let v9 : BitVec 32 := Scalar.muli arg9 c16_i32
  v9
def k0_off1 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let c16_i32 : BitVec 32 := 16#32
  let v9 : BitVec 32 := Scalar.muli arg9 c16_i32
  let v10 : BitVec 32 := v9
  let v11 : Index := Scalar.indexCast v10
  let c0_5 : Index := 0#32
  ![v11.toNat, 0]
def k0_cond2 (i : grid0.Coords) : BitVec 1 :=
  let arg0 : BitVec 32 := BitVec.ofNat 32 (i 0).val
  let c3_i32 : BitVec 32 := 3#32
  let v6 : BitVec 1 := Scalar.cmpi .eq arg0 c3_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Gate.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S128x4096 : Shape := ⟨2, ![128, 4096]⟩
abbrev S128x2048 : Shape := ⟨2, ![128, 2048]⟩
abbrev S128x1 : Shape := ⟨2, ![128, 1]⟩
abbrev S128x256 : Shape := ⟨2, ![128, 256]⟩
abbrev S128 : Shape := ⟨1, ![128]⟩
abbrev S128x128 : Shape := ⟨2, ![128, 128]⟩
abbrev S1x256 : Shape := ⟨2, ![1, 256]⟩
abbrev S1x128x128 : Shape := ⟨3, ![1, 128, 128]⟩
abbrev S1x128x1 : Shape := ⟨3, ![1, 128, 1]⟩
abbrev S256 : Shape := ⟨1, ![256]⟩

abbrev nBuf : Space → Nat
  | .hbm => 14
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S8x128x1, .f32⟩
  | .hbm, ⟨9, _⟩ => ⟨S2048x4096, .bf16⟩
  | .hbm, ⟨10, _⟩ => ⟨S1x2048, .f32⟩
  | .hbm, ⟨11, _⟩ => ⟨S1x2048, .f32⟩
  | .hbm, ⟨12, _⟩ => ⟨S8x128x128, .f32⟩
  | .hbm, ⟨13, _⟩ => ⟨S8x128x1, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S128x4096, .bf16⟩
  | .local _ .vmem, ⟨9, _⟩ => ⟨S128x4096, .bf16⟩
  | .local _ .vmem, ⟨10, _⟩ => ⟨S1x2048, .f32⟩
  | .local _ .vmem, ⟨11, _⟩ => ⟨S1x2048, .f32⟩
  | .local _ .vmem, ⟨12, _⟩ => ⟨S8x128x128, .f32⟩
  | .local _ .vmem, ⟨13, _⟩ => ⟨S8x128x1, .f32⟩
  | .local _ .vmem, ⟨14, _⟩ => ⟨S128x2048, .f32⟩
  | .local _ .vmem, ⟨15, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateIdeal.lean ====
variable {F : FTy → Type} [FloatOps F] [Named F]
def κ : String → Option EReal := fun
  | "inv_sqrt_2pi" => some (((9465531 / 16777216) * (Real.sqrt (1 / 2)) : ℝ) : EReal)
  | "sqrt_half" => some ((Real.sqrt (1 / 2) : ℝ) : EReal)
  | _ => none
-- ==== GateRefIdeal.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x4096 : Shape := ⟨3, ![1, 2048, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S1x2048x2048 : Shape := ⟨3, ![1, 2048, 2048]⟩
abbrev S1x2048x1 : Shape := ⟨3, ![1, 2048, 1]⟩
abbrev S1x1x2048 : Shape := ⟨3, ![1, 1, 2048]⟩
abbrev S1x16x128x8x256 : Shape := ⟨5, ![1, 16, 128, 8, 256]⟩
abbrev S128x128 : Shape := ⟨2, ![128, 128]⟩
abbrev S1x128x128 : Shape := ⟨3, ![1, 128, 128]⟩
abbrev S8x1x16x256x128 : Shape := ⟨5, ![8, 1, 16, 256, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8x128x1 : Shape := ⟨3, ![8, 128, 1]⟩

abbrev nBuf : Space → Nat
  | .hbm => 160
  | .vmem => 0
  | .smem => 0
  | _ => 0

abbrev hbmTy0_0 (i : Nat) : BufTy := match i % 128 with
  | 0 => ⟨S2048x4096, .f32⟩
  | 1 => ⟨S2048x2048, .f32⟩
  | 2 => ⟨S1x2048, .f32⟩
  | 3 => ⟨S1x2048, .f32⟩
  | 4 => ⟨S1x8x128x128, .f32⟩
  | 5 => ⟨S1x8x128, .f32⟩
  | 6 => ⟨S1x2048x4096, .f32⟩
  | 7 => ⟨S2048, .f32⟩
  | 8 => ⟨S2048, .f32⟩
  | 9 => ⟨S8x128x128, .f32⟩
  | 10 => ⟨S8x128, .f32⟩
  | 11 => ⟨S_, .f32⟩
  | 12 => ⟨S1x2048x4096, .f32⟩
  | 13 => ⟨S1x2048x4096, .f32⟩
  | 14 => ⟨S1x2048x4096, .f32⟩
  | 15 => ⟨S_, .f32⟩
  | 16 => ⟨S_, .f32⟩
  | 17 => ⟨S_, .f32⟩
  | 18 => ⟨S1x2048x4096, .f32⟩
  | 19 => ⟨S1x2048x4096, .f32⟩
  | 20 => ⟨S1x2048x4096, .f32⟩
  | 21 => ⟨S1x2048x4096, .f32⟩
  | 22 => ⟨S1x2048x4096, .f32⟩
  | 23 => ⟨S1x2048x4096, .f32⟩
  | 24 => ⟨S1x2048x4096, .f32⟩
  | 25 => ⟨S1x2048x2048, .f32⟩
  | 26 => ⟨S1x2048x2048, .f32⟩
  | 27 => ⟨S_, .f32⟩
  | 28 => ⟨S1x2048, .f32⟩
  | 29 => ⟨S1x2048x1, .f32⟩
  | 30 => ⟨S_, .f32⟩
  | 31 => ⟨S1x2048x1, .f32⟩
  | 32 => ⟨S1x2048x1, .f32⟩
  | 33 => ⟨S1x2048x2048, .f32⟩
  | 34 => ⟨S1x2048x2048, .f32⟩
  | 35 => ⟨S1x2048x2048, .f32⟩
  | 36 => ⟨S_, .f32⟩
  | 37 => ⟨S1x2048, .f32⟩
  | 38 => ⟨S1x2048x1, .f32⟩
  | 39 => ⟨S_, .f32⟩
  | 40 => ⟨S1x2048x1, .f32⟩
  | 41 => ⟨S1x2048x1, .f32⟩
  | 42 => ⟨S_, .f32⟩
  | 43 => ⟨S1x2048x1, .f32⟩
  | 44 => ⟨S1x2048x1, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S1x2048x2048, .f32⟩
  | 51 => ⟨S1x2048x2048, .f32⟩
  | 52 => ⟨S1x1x2048, .f32⟩
  | 53 => ⟨S1x2048x2048, .f32⟩
  | 54 => ⟨S1x2048x2048, .f32⟩
  | 55 => ⟨S1x1x2048, .f32⟩
  | 56 => ⟨S1x2048x2048, .f32⟩
  | 57 => ⟨S1x2048x2048, .f32⟩
  | 58 => ⟨S1x16x128x8x256, .f32⟩
  | 59 => ⟨S_, .f32⟩
  | 60 => ⟨S128x128, .f32⟩
  | 61 => ⟨S128x128, .i32⟩
  | 62 => ⟨S_, .i32⟩
  | 63 => ⟨S128x128, .i32⟩
  | 64 => ⟨S128x128, .i32⟩
  | 65 => ⟨S128x128, .i32⟩
  | 66 => ⟨S128x128, .i1⟩
  | 67 => ⟨S_, .f32⟩
  | 68 => ⟨S128x128, .f32⟩
  | 69 => ⟨S128x128, .f32⟩
  | 70 => ⟨S1x128x128, .f32⟩
  | 71 => ⟨S8x128x128, .f32⟩
  | 72 => ⟨S8x128x128, .f32⟩
  | 73 => ⟨S8x1x16x256x128, .f32⟩
  | 74 => ⟨S1x16x128x8x256, .f32⟩
  | 75 => ⟨S128x8, .f32⟩
  | 76 => ⟨S1x1x128x8x1, .f32⟩
  | 77 => ⟨S1x16x128x8x256, .f32⟩
  | 78 => ⟨S1x16x128x8x256, .f32⟩
  | 79 => ⟨S1x2048x2048, .f32⟩
  | 80 => ⟨S1x2048x2048, .f32⟩
  | 81 => ⟨S1x2048x2048, .f32⟩
  | 82 => ⟨S1x2048x2048, .f32⟩
  | 83 => ⟨S1x2048x2048, .f32⟩
  | 84 => ⟨S1x16x128x8x256, .f32⟩
  | 85 => ⟨S_, .f32⟩
  | 86 => ⟨S1x128x8, .f32⟩
  | 87 => ⟨S1x1x128x8x1, .f32⟩
  | 88 => ⟨S_, .f32⟩
  | 89 => ⟨S128x8, .f32⟩
  | 90 => ⟨S8x128, .f32⟩
  | 91 => ⟨S8x1x16x256x128, .f32⟩
  | 92 => ⟨S8x128x128, .f32⟩
  | 93 => ⟨S8x1x16x256x128, .f32⟩
  | 94 => ⟨S1x16x128x8x256, .f32⟩
  | 95 => ⟨S8x128x128, .f32⟩
  | 96 => ⟨S8x128x128, .f32⟩
  | 97 => ⟨S1x2048x2048, .f32⟩
  | 98 => ⟨S_, .f32⟩
  | 99 => ⟨S1x2048, .f32⟩
  | 100 => ⟨S1x1x2048, .f32⟩
  | 101 => ⟨S_, .f32⟩
  | 102 => ⟨S2048, .f32⟩
  | 103 => ⟨S1x2048x2048, .f32⟩
  | 104 => ⟨S_, .f32⟩
  | 105 => ⟨S1x2048, .f32⟩
  | 106 => ⟨S1x1x2048, .f32⟩
  | 107 => ⟨S1x2048x2048, .f32⟩
  | 108 => ⟨S1x2048x2048, .f32⟩
  | 109 => ⟨S_, .f32⟩
  | 110 => ⟨S2048, .f32⟩
  | 111 => ⟨S1x2048x2048, .f32⟩
  | 112 => ⟨S_, .f32⟩
  | 113 => ⟨S1x2048, .f32⟩
  | 114 => ⟨S1x2048x1, .f32⟩
  | 115 => ⟨S1x2048x2048, .f32⟩
  | 116 => ⟨S1x2048x2048, .f32⟩
  | 117 => ⟨S1x2048x1, .f32⟩
  | 118 => ⟨S_, .f32⟩
  | 119 => ⟨S1x2048x1, .f32⟩
  | 120 => ⟨S1x2048x1, .f32⟩
  | 121 => ⟨S_, .f32⟩
  | 122 => ⟨S2048, .f32⟩
  | 123 => ⟨S1x2048, .f32⟩
  | 124 => ⟨S1x2048x2048, .f32⟩
  | 125 => ⟨S1x2048x2048, .f32⟩
  | 126 => ⟨S1x2048x2048, .f32⟩
  | 127 => ⟨S1x2048x2048, .f32⟩
  | _ => ⟨S2048x4096, .f32⟩

abbrev hbmTy0_1 (i : Nat) : BufTy := match i % 128 with
  | 0 => ⟨S1x2048x2048, .f32⟩
  | 1 => ⟨S1x2048x2048, .f32⟩
  | 2 => ⟨S_, .f32⟩
  | 3 => ⟨S1x2048, .f32⟩
  | 4 => ⟨S1x2048x1, .f32⟩
  | 5 => ⟨S_, .f32⟩
  | 6 => ⟨S1x2048x1, .f32⟩
  | 7 => ⟨S1x2048x1, .f32⟩
  | 8 => ⟨S_, .f32⟩
  | 9 => ⟨S2048, .f32⟩
  | 10 => ⟨S1x2048, .f32⟩
  | 11 => ⟨S1x2048x2048, .f32⟩
  | 12 => ⟨S1x2048x2048, .f32⟩
  | 13 => ⟨S1x2048x4096, .f32⟩
  | 14 => ⟨S1x2048x4096, .f32⟩
  | 15 => ⟨S1x2048x4096, .f32⟩
  | 16 => ⟨S_, .f32⟩
  | 17 => ⟨S1x2048x4096, .f32⟩
  | 18 => ⟨S1x2048x4096, .f32⟩
  | 19 => ⟨S1x2048x4096, .f32⟩
  | 20 => ⟨S1x2048x4096, .f32⟩
  | 21 => ⟨S1x2048x4096, .f32⟩
  | 22 => ⟨S1x2048x4096, .f32⟩
  | 23 => ⟨S_, .f32⟩
  | 24 => ⟨S1x2048x4096, .f32⟩
  | 25 => ⟨S1x2048x4096, .f32⟩
  | 26 => ⟨S1x2048x4096, .f32⟩
  | 27 => ⟨S2048x4096, .f32⟩
  | 28 => ⟨S2048x4096, .bf16⟩
  | 29 => ⟨S1x2048, .f32⟩
  | 30 => ⟨S1x2048, .f32⟩
  | 31 => ⟨S8x128x1, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_cst : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_17 : Ref sig .tc := ⟨.hbm, 130, rfl⟩
abbrev main_v98 : Ref sig .tc := ⟨.hbm, 131, rfl⟩
abbrev main_v99 : Ref sig .tc := ⟨.hbm, 132, rfl⟩
abbrev main_cst_18 : Ref sig .tc := ⟨.hbm, 133, rfl⟩
abbrev main_v100 : Ref sig .tc := ⟨.hbm, 134, rfl⟩
abbrev main_v101 : Ref sig .tc := ⟨.hbm, 135, rfl⟩
abbrev main_cst_19 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_20 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_21 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]
-- ==== Pool.lean ====
abbrev S2048x2048 : Shape := ⟨2, ![2048, 2048]⟩
abbrev S2048x512 : Shape := ⟨2, ![2048, 512]⟩
abbrev S2048x128 : Shape := ⟨2, ![2048, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolRefIdeal.lean ====
abbrev S2048x2048 : Shape := ⟨2, ![2048, 2048]⟩
abbrev S_ : Shape := ⟨0, ![]⟩
abbrev S1x2048x2048 : Shape := ⟨3, ![1, 2048, 2048]⟩
abbrev S1x2048x4x512 : Shape := ⟨4, ![1, 2048, 4, 512]⟩
abbrev S1x2048x1x512 : Shape := ⟨4, ![1, 2048, 1, 512]⟩
abbrev S1x2048x512 : Shape := ⟨3, ![1, 2048, 512]⟩
abbrev S1x2x512 : Shape := ⟨3, ![1, 2, 512]⟩
abbrev S1x2046x512 : Shape := ⟨3, ![1, 2046, 512]⟩
abbrev S2048 : Shape := ⟨1, ![2048]⟩
abbrev S1x2048x1 : Shape := ⟨3, ![1, 2048, 1]⟩
abbrev S1x4x512 : Shape := ⟨3, ![1, 4, 512]⟩
abbrev S1x2044x512 : Shape := ⟨3, ![1, 2044, 512]⟩
abbrev S1x8x512 : Shape := ⟨3, ![1, 8, 512]⟩
abbrev S1x2040x512 : Shape := ⟨3, ![1, 2040, 512]⟩
abbrev S1x16x512 : Shape := ⟨3, ![1, 16, 512]⟩
abbrev S1x2032x512 : Shape := ⟨3, ![1, 2032, 512]⟩

abbrev nBuf : Space → Nat
  | .hbm => 210
  | .vmem => 0
  | .smem => 0
  | _ => 0

abbrev hbmTy0_0 (i : Nat) : BufTy := match i % 128 with
  | 0 => ⟨S2048x2048, .f32⟩
  | 1 => ⟨S_, .f32⟩
  | 2 => ⟨S1x2048x2048, .f32⟩
  | 3 => ⟨S1x2048x4x512, .f32⟩
  | 4 => ⟨S1x2048x1x512, .f32⟩
  | 5 => ⟨S1x2048x512, .f32⟩
  | 6 => ⟨S_, .f32⟩
  | 7 => ⟨S_, .f32⟩
  | 8 => ⟨S1x2048x512, .f32⟩
  | 9 => ⟨S1x2x512, .f32⟩
  | 10 => ⟨S_, .f32⟩
  | 11 => ⟨S1x2x512, .f32⟩
  | 12 => ⟨S1x2046x512, .f32⟩
  | 13 => ⟨S1x2048x512, .f32⟩
  | 14 => ⟨S_, .f32⟩
  | 15 => ⟨S1x2x512, .f32⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048, .f32⟩
  | 24 => ⟨S1x2048x512, .f32⟩
  | 25 => ⟨S1x2048x1, .f32⟩
  | 26 => ⟨S1x2048x512, .f32⟩
  | 27 => ⟨S1x2048x512, .f32⟩
  | 28 => ⟨S1x2048x1x512, .f32⟩
  | 29 => ⟨S1x2048x512, .f32⟩
  | 30 => ⟨S1x2048x512, .f32⟩
  | 31 => ⟨S1x2048x1x512, .f32⟩
  | 32 => ⟨S1x2048x512, .f32⟩
  | 33 => ⟨S_, .f32⟩
  | 34 => ⟨S_, .f32⟩
  | 35 => ⟨S1x2048x512, .f32⟩
  | 36 => ⟨S1x4x512, .f32⟩
  | 37 => ⟨S_, .f32⟩
  | 38 => ⟨S1x4x512, .f32⟩
  | 39 => ⟨S1x2044x512, .f32⟩
  | 40 => ⟨S1x2048x512, .f32⟩
  | 41 => ⟨S_, .f32⟩
  | 42 => ⟨S1x4x512, .f32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S2048, .f32⟩
  | 51 => ⟨S1x2048x512, .f32⟩
  | 52 => ⟨S1x2048x1, .f32⟩
  | 53 => ⟨S1x2048x512, .f32⟩
  | 54 => ⟨S1x2048x512, .f32⟩
  | 55 => ⟨S1x2048x1x512, .f32⟩
  | 56 => ⟨S1x2048x512, .f32⟩
  | 57 => ⟨S1x2048x512, .f32⟩
  | 58 => ⟨S1x2048x1x512, .f32⟩
  | 59 => ⟨S1x2048x512, .f32⟩
  | 60 => ⟨S_, .f32⟩
  | 61 => ⟨S_, .f32⟩
  | 62 => ⟨S1x2048x512, .f32⟩
  | 63 => ⟨S1x8x512, .f32⟩
  | 64 => ⟨S_, .f32⟩
  | 65 => ⟨S1x8x512, .f32⟩
  | 66 => ⟨S1x2040x512, .f32⟩
  | 67 => ⟨S1x2048x512, .f32⟩
  | 68 => ⟨S_, .f32⟩
  | 69 => ⟨S1x8x512, .f32⟩
  | 70 => ⟨S2048, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S2048, .f32⟩
  | 78 => ⟨S1x2048x512, .f32⟩
  | 79 => ⟨S1x2048x1, .f32⟩
  | 80 => ⟨S1x2048x512, .f32⟩
  | 81 => ⟨S1x2048x512, .f32⟩
  | 82 => ⟨S1x2048x1x512, .f32⟩
  | 83 => ⟨S1x2048x512, .f32⟩
  | 84 => ⟨S1x2048x512, .f32⟩
  | 85 => ⟨S1x2048x1x512, .f32⟩
  | 86 => ⟨S1x2048x512, .f32⟩
  | 87 => ⟨S_, .f32⟩
  | 88 => ⟨S_, .f32⟩
  | 89 => ⟨S1x2048x512, .f32⟩
  | 90 => ⟨S1x16x512, .f32⟩
  | 91 => ⟨S_, .f32⟩
  | 92 => ⟨S1x16x512, .f32⟩
  | 93 => ⟨S1x2032x512, .f32⟩
  | 94 => ⟨S1x2048x512, .f32⟩
  | 95 => ⟨S_, .f32⟩
  | 96 => ⟨S1x16x512, .f32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S2048, .f32⟩
  | 105 => ⟨S1x2048x512, .f32⟩
  | 106 => ⟨S1x2048x1, .f32⟩
  | 107 => ⟨S1x2048x512, .f32⟩
  | 108 => ⟨S1x2048x512, .f32⟩
  | 109 => ⟨S1x2048x1x512, .f32⟩
  | 110 => ⟨S1x2048x512, .f32⟩
  | 111 => ⟨S1x2048x512, .f32⟩
  | 112 => ⟨S1x2048x1x512, .f32⟩
  | 113 => ⟨S1x2048x1x512, .f32⟩
  | 114 => ⟨S1x2048x1x512, .f32⟩
  | 115 => ⟨S1x2048x1x512, .f32⟩
  | 116 => ⟨S1x2048x4x512, .f32⟩
  | 117 => ⟨S1x2048x2048, .f32⟩
  | 118 => ⟨S1x2048x2048, .f32⟩
  | 119 => ⟨S1x2048x4x512, .f32⟩
  | 120 => ⟨S1x2048x1x512, .f32⟩
  | 121 => ⟨S1x2048x512, .f32⟩
  | 122 => ⟨S1x2048x1x512, .f32⟩
  | 123 => ⟨S1x2048x512, .f32⟩
  | 124 => ⟨S1x2048x1x512, .f32⟩
  | 125 => ⟨S1x2048x512, .f32⟩
  | 126 => ⟨S1x2048x1x512, .f32⟩
  | 127 => ⟨S1x2048x512, .f32⟩
  | _ => ⟨S2048x2048, .f32⟩

abbrev hbmTy0_1 (i : Nat) : BufTy := match i % 128 with
  | 0 => ⟨S1x2048x512, .f32⟩
  | 1 => ⟨S1x2048x1x512, .f32⟩
  | 2 => ⟨S_, .f32⟩
  | 3 => ⟨S1x2048x4x512, .f32⟩
  | 4 => ⟨S1x2048x512, .f32⟩
  | 5 => ⟨S1x2048x512, .f32⟩
  | 6 => ⟨S1x2048x512, .f32⟩
  | 7 => ⟨S1x16x512, .f32⟩
  | 8 => ⟨S1x2032x512, .f32⟩
  | 9 => ⟨S_, .f32⟩
  | 10 => ⟨S1x2048x512, .f32⟩
  | 11 => ⟨S1x2048x512, .f32⟩
  | 12 => ⟨S_, .f32⟩
  | 13 => ⟨S_, .f32⟩
  | 14 => ⟨S1x2048x512, .f32⟩
  | 15 => ⟨S1x2048x1x512, .f32⟩
  | 16 => ⟨S_, .f32⟩
  | 17 => ⟨S1x2048x4x512, .f32⟩
  | 18 => ⟨S1x2048x4x512, .f32⟩
  | 19 => ⟨S1x2048x512, .f32⟩
  | 20 => ⟨S1x2048x1x512, .f32⟩
  | 21 => ⟨S_, .f32⟩
  | 22 => ⟨S1x2048x4x512, .f32⟩
  | 23 => ⟨S1x2048x4x512, .f32⟩
  | 24 => ⟨S1x2048x512, .f32⟩
  | 25 => ⟨S1x2048x512, .f32⟩
  | 26 => ⟨S1x2048x512, .f32⟩
  | 27 => ⟨S1x8x512, .f32⟩
  | 28 => ⟨S1x2040x512, .f32⟩
  | 29 => ⟨S_, .f32⟩
  | 30 => ⟨S1x2048x512, .f32⟩
  | 31 => ⟨S1x2048x512, .f32⟩
  | 32 => ⟨S_, .f32⟩
  | 33 => ⟨S_, .f32⟩
  | 34 => ⟨S1x2048x512, .f32⟩
  | 35 => ⟨S1x2048x1x512, .f32⟩
  | 36 => ⟨S_, .f32⟩
  | 37 => ⟨S1x2048x4x512, .f32⟩
  | 38 => ⟨S1x2048x4x512, .f32⟩
  | 39 => ⟨S1x2048x512, .f32⟩
  | 40 => ⟨S1x2048x1x512, .f32⟩
  | 41 => ⟨S_, .f32⟩
  | 42 => ⟨S1x2048x4x512, .f32⟩
  | 43 => ⟨S1x2048x4x512, .f32⟩
  | 44 => ⟨S1x2048x512, .f32⟩
  | 45 => ⟨S1x2048x512, .f32⟩
  | 46 => ⟨S1x2048x512, .f32⟩
  | 47 => ⟨S1x4x512, .f32⟩
  | 48 => ⟨S1x2044x512, .f32⟩
  | 49 => ⟨S_, .f32⟩
  | 50 => ⟨S1x2048x512, .f32⟩
  | 51 => ⟨S1x2048x512, .f32⟩
  | 52 => ⟨S_, .f32⟩
  | 53 => ⟨S_, .f32⟩
  | 54 => ⟨S1x2048x512, .f32⟩
  | 55 => ⟨S1x2048x1x512, .f32⟩
  | 56 => ⟨S_, .f32⟩
  | 57 => ⟨S1x2048x4x512, .f32⟩
  | 58 => ⟨S1x2048x4x512, .f32⟩
  | 59 => ⟨S1x2048x512, .f32⟩
  | 60 => ⟨S1x2048x1x512, .f32⟩
  | 61 => ⟨S_, .f32⟩
  | 62 => ⟨S1x2048x4x512, .f32⟩
  | 63 => ⟨S1x2048x4x512, .f32⟩
  | 64 => ⟨S1x2048x512, .f32⟩
  | 65 => ⟨S1x2048x512, .f32⟩
  | 66 => ⟨S1x2048x512, .f32⟩
  | 67 => ⟨S1x2x512, .f32⟩
  | 68 => ⟨S1x2046x512, .f32⟩
  | 69 => ⟨S_, .f32⟩
  | 70 => ⟨S1x2048x512, .f32⟩
  | 71 => ⟨S1x2048x512, .f32⟩
  | 72 => ⟨S_, .f32⟩
  | 73 => ⟨S_, .f32⟩
  | 74 => ⟨S1x2048x512, .f32⟩
  | 75 => ⟨S1x2048x1x512, .f32⟩
  | 76 => ⟨S_, .f32⟩
  | 77 => ⟨S1x2048x4x512, .f32⟩
  | 78 => ⟨S1x2048x4x512, .f32⟩
  | 79 => ⟨S1x2048x2048, .f32⟩
  | 80 => ⟨S2048x2048, .f32⟩
  | 81 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_call0_cst : Ref sig .tc := ⟨.hbm, 33, rfl⟩
abbrev main_call1_call0_v0 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call2_call0_cst : Ref sig .tc := ⟨.hbm, 60, rfl⟩
abbrev main_call2_call0_v0 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call3_call0_cst : Ref sig .tc := ⟨.hbm, 87, rfl⟩
abbrev main_call3_call0_v0 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_c_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_15 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_16 : Ref sig .tc := ⟨.hbm, 137, rfl⟩
abbrev main_v110 : Ref sig .tc := ⟨.hbm, 138, rfl⟩
abbrev main_v111 : Ref sig .tc := ⟨.hbm, 139, rfl⟩
abbrev main_call4_call0_cst : Ref sig .tc := ⟨.hbm, 140, rfl⟩
abbrev main_call4_call0_v0 : Ref sig .tc := ⟨.hbm, 141, rfl⟩
abbrev main_v112 : Ref sig .tc := ⟨.hbm, 142, rfl⟩
abbrev main_v113 : Ref sig .tc := ⟨.hbm, 143, rfl⟩
abbrev main_cst_17 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_18 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_19 : Ref sig .tc := ⟨.hbm, 157, rfl⟩
abbrev main_v125 : Ref sig .tc := ⟨.hbm, 158, rfl⟩
abbrev main_v126 : Ref sig .tc := ⟨.hbm, 159, rfl⟩
abbrev main_call5_call0_cst : Ref sig .tc := ⟨.hbm, 160, rfl⟩
abbrev main_call5_call0_v0 : Ref sig .tc := ⟨.hbm, 161, rfl⟩
abbrev main_v127 : Ref sig .tc := ⟨.hbm, 162, rfl⟩
abbrev main_v128 : Ref sig .tc := ⟨.hbm, 163, rfl⟩
abbrev main_cst_20 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_21 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_22 : Ref sig .tc := ⟨.hbm, 177, rfl⟩
abbrev main_v140 : Ref sig .tc := ⟨.hbm, 178, rfl⟩
abbrev main_v141 : Ref sig .tc := ⟨.hbm, 179, rfl⟩
abbrev main_call6_call0_cst : Ref sig .tc := ⟨.hbm, 180, rfl⟩
abbrev main_call6_call0_v0 : Ref sig .tc := ⟨.hbm, 181, rfl⟩
abbrev main_v142 : Ref sig .tc := ⟨.hbm, 182, rfl⟩
abbrev main_v143 : Ref sig .tc := ⟨.hbm, 183, rfl⟩
abbrev main_cst_23 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_24 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_25 : Ref sig .tc := ⟨.hbm, 197, rfl⟩
abbrev main_v155 : Ref sig .tc := ⟨.hbm, 198, rfl⟩
abbrev main_v156 : Ref sig .tc := ⟨.hbm, 199, rfl⟩
abbrev main_call7_call0_cst : Ref sig .tc := ⟨.hbm, 200, rfl⟩
abbrev main_call7_call0_v0 : Ref sig .tc := ⟨.hbm, 201, rfl⟩
abbrev main_v157 : Ref sig .tc := ⟨.hbm, 202, rfl⟩
abbrev main_v158 : Ref sig .tc := ⟨.hbm, 203, rfl⟩
abbrev main_cst_26 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩

abbrev nD : Nat := 1
abbrev τ : Topo := Topo.v7x

variable {F : FTy → Type} [FloatOps F]
-- ==== Scale.lean ====
abbrev S2048x2048 : Shape := ⟨2, ![2048, 2048]⟩
abbrev S1x4x512x512 : Shape := ⟨4, ![1, 4, 512, 512]⟩
abbrev S1x2048 : Shape := ⟨2, ![1, 2048]⟩
abbrev S1x2048x2048 : Shape := ⟨3, ![1, 2048, 2048]⟩
abbrev S2048x4x512 : Shape := ⟨3, ![2048, 4, 512]⟩
abbrev S4x512x512 : Shape := ⟨3, ![4, 512, 512]⟩
abbrev S4x512x2048 : Shape := ⟨3, ![4, 512, 2048]⟩
abbrev S1024x2048 : Shape := ⟨2, ![1024, 2048]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 16
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S1x4x512x512, .f32⟩
  | .hbm, ⟨2, _⟩ => ⟨S1x2048, .f32⟩
  | .hbm, ⟨3, _⟩ => ⟨S1x2048x2048, .f32⟩
  | .hbm, ⟨4, _⟩ => ⟨S2048x2048, .bf16⟩
  | .hbm, ⟨5, _⟩ => ⟨S2048x2048, .f32⟩
  | .hbm, ⟨6, _⟩ => ⟨S2048x4x512, .f32⟩
  | .hbm, ⟨7, _⟩ => ⟨S4x512x512, .f32⟩
  | .hbm, ⟨8, _⟩ => ⟨S4x512x2048, .f32⟩
  | .hbm, ⟨9, _⟩ => ⟨S2048x4x512, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S2048x2048, .bf16⟩
  | .hbm, ⟨15, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_10 : BitVec 32 := 0#32
  let v17 : BitVec 1 := Scalar.cmpi .ne v16 c0_i32_10
  v17

def k0_cond2 (i : grid0.Coords) : BitVec 1 :=
  let arg1 : BitVec 32 := BitVec.ofNat 32 (i 1).val
  let c0_i32_11 : BitVec 32 := 0#32
  let v18 : BitVec 1 := Scalar.cmpi .sgt arg1 c0_i32_11
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ScaleRefIdeal.lean ====
abbrev S2048x2048 : Shape := ⟨2, ![2048, 2048]⟩
abbrev S1x4x512x512 : Shape := ⟨4, ![1, 4, 512, 512]⟩
abbrev S1x2048 : Shape := ⟨2, ![1, 2048]⟩
abbrev S1x2048x2048 : Shape := ⟨3, ![1, 2048, 2048]⟩
abbrev S1x2048x4x512 : Shape := ⟨4, ![1, 2048, 4, 512]⟩
abbrev S4x512x512 : Shape := ⟨3, ![4, 512, 512]⟩
abbrev S4x512x1x2048 : Shape := ⟨4, ![4, 512, 1, 2048]⟩
abbrev S2048 : Shape := ⟨1, ![2048]⟩
abbrev S1x1x2048 : Shape := ⟨3, ![1, 1, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x4x512x512, .f32⟩
  | .hbm, ⟨2, _⟩ => ⟨S1x2048, .f32⟩
  | .hbm, ⟨3, _⟩ => ⟨S1x2048x2048, .f32⟩
  | .hbm, ⟨4, _⟩ => ⟨S2048x2048, .bf16⟩
  | .hbm, ⟨5, _⟩ => ⟨S2048x2048, .f32⟩
  | .hbm, ⟨6, _⟩ => ⟨S1x2048x4x512, .f32⟩
  | .hbm, ⟨7, _⟩ => ⟨S4x512x512, .f32⟩
  | .hbm, ⟨8, _⟩ => ⟨S4x512x1x2048, .f32⟩
  | .hbm, ⟨9, _⟩ => ⟨S1x2048x4x512, .f32⟩
  | .hbm, ⟨10, _⟩ => ⟨S1x2048x2048, .f32⟩
  | .hbm, ⟨11, _⟩ => ⟨S2048, .f32⟩
  | .hbm, ⟨12, _⟩ => ⟨S1x1x2048, .f32⟩
  | .hbm, ⟨13, _⟩ => ⟨S1x2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048, .f32⟩
  | .hbm, ⟨23, _⟩ => ⟨S1x1x2048, .f32⟩
  | .hbm, ⟨24, _⟩ => ⟨S1x2048x2048, .f32⟩
  | .hbm, ⟨25, _⟩ => ⟨S1x2048x2048, .f32⟩
  | .hbm, ⟨26, _⟩ => ⟨S_, .f32⟩
  | .hbm, ⟨27, _⟩ => ⟨S2048, .f32⟩
  | .hbm, ⟨28, _⟩ => ⟨S2048x2048, .f32⟩
  | .hbm, ⟨29, _⟩ => ⟨S2048x2048, .bf16⟩
  | .hbm, ⟨30, _⟩ => ⟨S1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Down.lean ====
abbrev S2048x2048 : Shape := ⟨2, ![2048, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S8192x2048, .f32⟩
  | .hbm, ⟨3, _⟩ => ⟨S2048x2048, .bf16⟩
  | .hbm, ⟨4, _⟩ => ⟨S2048x8192, .bf16⟩
  | .hbm, ⟨5, _⟩ => ⟨S2048x8x1024, .bf16⟩
  | .hbm, ⟨6, _⟩ => ⟨S8x2048x1024, .bf16⟩
  | .hbm, ⟨7, _⟩ => ⟨S2048x8192, .bf16⟩
  | .hbm, ⟨8, _⟩ => ⟨S2048x8192, .bf16⟩
  | .hbm, ⟨9, _⟩ => ⟨S8192x2048, .bf16⟩
  | .hbm, ⟨10, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== DownRefIdeal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S8192x2048, .f32⟩
  | .hbm, ⟨3, _⟩ => ⟨S2048x2048, .bf16⟩
  | .hbm, ⟨4, _⟩ => ⟨S2048x2048, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .i1⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S2048x8192, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .f32⟩
  | .hbm, ⟨27, _⟩ => ⟨S2048x8192, .bf16⟩
  | .hbm, ⟨28, _⟩ => ⟨S2048x8192, .f32⟩
  | .hbm, ⟨29, _⟩ => ⟨S2048x8192, .bf16⟩
  | .hbm, ⟨30, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== GateFwd.lean ====
abbrev S2048x4096 : Shape := ⟨2, ![2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S2048x2048 : Shape := ⟨2, ![2048, 2048]⟩
abbrev S128x4096 : Shape := ⟨2, ![128, 4096]⟩
abbrev S128x2048 : Shape := ⟨2, ![128, 2048]⟩
abbrev S128x1 : Shape := ⟨2, ![128, 1]⟩
abbrev S128x256 : Shape := ⟨2, ![128, 256]⟩
abbrev S128 : Shape := ⟨1, ![128]⟩
abbrev S1x256 : Shape := ⟨2, ![1, 256]⟩
abbrev S128x128 : Shape := ⟨2, ![128, 128]⟩
abbrev S1x128x128 : Shape := ⟨3, ![1, 128, 128]⟩
abbrev S1x128x1 : Shape := ⟨3, ![1, 128, 1]⟩

abbrev nBuf : Space → Nat
  | .hbm => 9
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S8x128x1, .f32⟩
  | .hbm, ⟨8, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S8x128x1, .f32⟩
  | .local _ .vmem, ⟨6, _⟩ => ⟨S128x2048, .bf16⟩
  | .local _ .vmem, ⟨7, _⟩ => ⟨S128x2048, .bf16⟩
  | .local _ .vmem, ⟨8, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdIdeal.lean ====
variable {F : FTy → Type} [FloatOps F] [Named F]
def κ : String → Option EReal := fun
  | "sqrt_half" => some ((Real.sqrt (1 / 2) : ℝ) : EReal)
  | _ => none
-- ==== GateFwdRefIdeal.lean ====
abbrev S2048x4096 : Shape := ⟨2, ![2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x4096 : Shape := ⟨3, ![1, 2048, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S1x2048x2048 : Shape := ⟨3, ![1, 2048, 2048]⟩
abbrev S1x2048x1 : Shape := ⟨3, ![1, 2048, 1]⟩
abbrev S1x1x2048 : Shape := ⟨3, ![1, 1, 2048]⟩
abbrev S1x16x128x8x256 : Shape := ⟨5, ![1, 16, 128, 8, 256]⟩
abbrev S128x128 : Shape := ⟨2, ![128, 128]⟩
abbrev S1x128x128 : Shape := ⟨3, ![1, 128, 128]⟩
abbrev S8x1x16x256x128 : Shape := ⟨5, ![8, 1, 16, 256, 128]⟩
abbrev S128x8 : Shape := ⟨2, ![128, 8]⟩
abbrev S1x1x128x8x1 : Shape := ⟨5, ![1, 1, 128, 8, 1]⟩
abbrev S2048x2048 : Shape := ⟨2, ![2048, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S1x2048x4096, .f32⟩
  | .hbm, ⟨6, _⟩ => ⟨S2048, .f32⟩
  | .hbm, ⟨7, _⟩ => ⟨S2048, .f32⟩
  | .hbm, ⟨8, _⟩ => ⟨S8x128x128, .f32⟩
  | .hbm, ⟨9, _⟩ => ⟨S8x128, .f32⟩
  | .hbm, ⟨10, _⟩ => ⟨S_, .f32⟩
  | .hbm, ⟨11, _⟩ => ⟨S1x2048x4096, .f32⟩
  | .hbm, ⟨12, _⟩ => ⟨S1x2048x4096, .f32⟩
  | .hbm, ⟨13, _⟩ => ⟨S1x2048x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x2048x4096, .f32⟩
  | .hbm, ⟨18, _⟩ => ⟨S1x2048x4096, .f32⟩
  | .hbm, ⟨19, _⟩ => ⟨S1x2048x4096, .f32⟩
  | .hbm, ⟨20, _⟩ => ⟨S1x2048x4096, .f32⟩
  | .hbm, ⟨21, _⟩ => ⟨S1x2048x2048, .f32⟩
  | .hbm, ⟨22, _⟩ => ⟨S1x2048x2048, .f32⟩
  | .hbm, ⟨23, _⟩ => ⟨S_, .f32⟩
  | .hbm, ⟨24, _⟩ => ⟨S1x2048, .f32⟩
  | .hbm, ⟨25, _⟩ => ⟨S1x2048x1, .f32⟩
  | .hbm, ⟨26, _⟩ => ⟨S_, .f32⟩
  | .hbm, ⟨27, _⟩ => ⟨S1x2048x1, .f32⟩
  | .hbm, ⟨28, _⟩ => ⟨S1x2048x1, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048, .f32⟩
  | .hbm, ⟨34, _⟩ => ⟨S1x2048x1, .f32⟩
  | .hbm, ⟨35, _⟩ => ⟨S_, .f32⟩
  | .hbm, ⟨36, _⟩ => ⟨S1x2048x1, .f32⟩
  | .hbm, ⟨37, _⟩ => ⟨S1x2048x1, .f32⟩
  | .hbm, ⟨38, _⟩ => ⟨S_, .f32⟩
  | .hbm, ⟨39, _⟩ => ⟨S1x2048x1, .f32⟩
  | .hbm, ⟨40, _⟩ => ⟨S1x2048x1, .f32⟩
  | .hbm, ⟨41, _⟩ => ⟨S1x2048x1, .f32⟩
  | .hbm, ⟨42, _⟩ => ⟨S1x2048x2048, .f32⟩
  | .hbm, ⟨43, _⟩ => ⟨S1x2048x2048, .f32⟩
  | .hbm, ⟨44, _⟩ => ⟨S1x1x2048, .f32⟩
  | .hbm, ⟨45, _⟩ => ⟨S1x2048x2048, .f32⟩
  | .hbm, ⟨46, _⟩ => ⟨S1x2048x2048, .f32⟩
  | .hbm, ⟨47, _⟩ => ⟨S1x1x2048, .f32⟩
  | .hbm, ⟨48, _⟩ => ⟨S1x2048x2048, .f32⟩
  | .hbm, ⟨49, _⟩ => ⟨S1x2048x2048, .f32⟩
  | .hbm, ⟨50, _⟩ => ⟨S1x16x128x8x256, .f32⟩
  | .hbm, ⟨51, _⟩ => ⟨S_, .f32⟩
  | .hbm, ⟨52, _⟩ => ⟨S128x128, .f32⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S_, .f32⟩
  | .hbm, ⟨60, _⟩ => ⟨S128x128, .f32⟩
  | .hbm, ⟨61, _⟩ => ⟨S128x128, .f32⟩
  | .hbm, ⟨62, _⟩ => ⟨S1x128x128, .f32⟩
  | .hbm, ⟨63, _⟩ => ⟨S8x128x128, .f32⟩
  | .hbm, ⟨64, _⟩ => ⟨S8x128x128, .f32⟩
  | .hbm, ⟨65, _⟩ => ⟨S8x1x16x256x128, .f32⟩
  | .hbm, ⟨66, _⟩ => ⟨S1x16x128x8x256, .f32⟩
  | .hbm, ⟨67, _⟩ => ⟨S128x8, .f32⟩
  | .hbm, ⟨68, _⟩ => ⟨S1x1x128x8x1, .f32⟩
  | .hbm, ⟨69, _⟩ => ⟨S1x16x128x8x256, .f32⟩
  | .hbm, ⟨70, _⟩ => ⟨S1x16x128x8x256, .f32⟩
  | .hbm, ⟨71, _⟩ => ⟨S1x2048x2048, .f32⟩
  | .hbm, ⟨72, _⟩ => ⟨S1x2048x2048, .f32⟩
  | .hbm, ⟨73, _⟩ => ⟨S2048x2048, .f32⟩
  | .hbm, ⟨74, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_cst : Ref sig .tc := ⟨.hbm, 59, rfl⟩
abbrev main_call0_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== NormFwd.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PoolFwd.lean ====
abbrev S2048x2048 : Shape := ⟨2, ![2048, 2048]⟩
abbrev S2048x512 : Shape := ⟨2, ![2048, 512]⟩
abbrev S2048x128 : Shape := ⟨2, ![2048, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PoolFwdRefIdeal.lean ====
abbrev S2048x2048 : Shape := ⟨2, ![2048, 2048]⟩
abbrev S1x2048x2048 : Shape := ⟨3, ![1, 2048, 2048]⟩
abbrev S1x2048x4x512 : Shape := ⟨4, ![1, 2048, 4, 512]⟩
abbrev S1x2048x1x512 : Shape := ⟨4, ![1, 2048, 1, 512]⟩
abbrev S1x2048x512 : Shape := ⟨3, ![1, 2048, 512]⟩
abbrev S_ : Shape := ⟨0, ![]⟩
abbrev S1x2x512 : Shape := ⟨3, ![1, 2, 512]⟩
abbrev S1x2046x512 : Shape := ⟨3, ![1, 2046, 512]⟩
abbrev S2048 : Shape := ⟨1, ![2048]⟩
abbrev S1x2048x1 : Shape := ⟨3, ![1, 2048, 1]⟩
abbrev S1x4x512 : Shape := ⟨3, ![1, 4, 512]⟩
abbrev S1x2044x512 : Shape := ⟨3, ![1, 2044, 512]⟩
abbrev S1x8x512 : Shape := ⟨3, ![1, 8, 512]⟩
abbrev S1x2040x512 : Shape := ⟨3, ![1, 2040, 512]⟩
abbrev S1x16x512 : Shape := ⟨3, ![1, 16, 512]⟩
abbrev S1x2032x512 : Shape := ⟨3, ![1, 2032, 512]⟩

abbrev nBuf : Space → Nat
  | .hbm => 111
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048x2048, .f32⟩
  | .hbm, ⟨2, _⟩ => ⟨S1x2048x4x512, .f32⟩
  | .hbm, ⟨3, _⟩ => ⟨S1x2048x1x512, .f32⟩
  | .hbm, ⟨4, _⟩ => ⟨S1x2048x512, .f32⟩
  | .hbm, ⟨5, _⟩ => ⟨S_, .f32⟩
  | .hbm, ⟨6, _⟩ => ⟨S_, .f32⟩
  | .hbm, ⟨7, _⟩ => ⟨S1x2048x512, .f32⟩
  | .hbm, ⟨8, _⟩ => ⟨S1x2x512, .f32⟩
  | .hbm, ⟨9, _⟩ => ⟨S_, .f32⟩
  | .hbm, ⟨10, _⟩ => ⟨S1x2x512, .f32⟩
  | .hbm, ⟨11, _⟩ => ⟨S1x2046x512, .f32⟩
  | .hbm, ⟨12, _⟩ => ⟨S1x2048x512, .f32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S1x2048x512, .f32⟩
  | .hbm, ⟨22, _⟩ => ⟨S1x2048x1, .f32⟩
  | .hbm, ⟨23, _⟩ => ⟨S1x2048x512, .f32⟩
  | .hbm, ⟨24, _⟩ => ⟨S1x2048x512, .f32⟩
  | .hbm, ⟨25, _⟩ => ⟨S1x2048x1x512, .f32⟩
  | .hbm, ⟨26, _⟩ => ⟨S1x2048x512, .f32⟩
  | .hbm, ⟨27, _⟩ => ⟨S1x2048x512, .f32⟩
  | .hbm, ⟨28, _⟩ => ⟨S1x2048x1x512, .f32⟩
  | .hbm, ⟨29, _⟩ => ⟨S1x2048x512, .f32⟩
  | .hbm, ⟨30, _⟩ => ⟨S_, .f32⟩
  | .hbm, ⟨31, _⟩ => ⟨S_, .f32⟩
  | .hbm, ⟨32, _⟩ => ⟨S1x2048x512, .f32⟩
  | .hbm, ⟨33, _⟩ => ⟨S1x4x512, .f32⟩
  | .hbm, ⟨34, _⟩ => ⟨S_, .f32⟩
  | .hbm, ⟨35, _⟩ => ⟨S1x4x512, .f32⟩
  | .hbm, ⟨36, _⟩ => ⟨S1x2044x512, .f32⟩
  | .hbm, ⟨37, _⟩ => ⟨S1x2048x512, .f32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .f32⟩
  | .hbm, ⟨46, _⟩ => ⟨S1x2048x512, .f32⟩
  | .hbm, ⟨47, _⟩ => ⟨S1x2048x1, .f32⟩
  | .hbm, ⟨48, _⟩ => ⟨S1x2048x512, .f32⟩
  | .hbm, ⟨49, _⟩ => ⟨S1x2048x512, .f32⟩
  | .hbm, ⟨50, _⟩ => ⟨S1x2048x1x512, .f32⟩
  | .hbm, ⟨51, _⟩ => ⟨S1x2048x512, .f32⟩
  | .hbm, ⟨52, _⟩ => ⟨S1x2048x512, .f32⟩
  | .hbm, ⟨53, _⟩ => ⟨S1x2048x1x512, .f32⟩
  | .hbm, ⟨54, _⟩ => ⟨S1x2048x512, .f32⟩
  | .hbm, ⟨55, _⟩ => ⟨S_, .f32⟩
  | .hbm, ⟨56, _⟩ => ⟨S_, .f32⟩
  | .hbm, ⟨57, _⟩ => ⟨S1x2048x512, .f32⟩
  | .hbm, ⟨58, _⟩ => ⟨S1x8x512, .f32⟩
  | .hbm, ⟨59, _⟩ => ⟨S_, .f32⟩
  | .hbm, ⟨60, _⟩ => ⟨S1x8x512, .f32⟩
  | .hbm, ⟨61, _⟩ => ⟨S1x2040x512, .f32⟩
  | .hbm, ⟨62, _⟩ => ⟨S1x2048x512, .f32⟩
  | .hbm, ⟨63, _⟩ => ⟨S2048, .i32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .f32⟩
  | .hbm, ⟨71, _⟩ => ⟨S1x2048x512, .f32⟩
  | .hbm, ⟨72, _⟩ => ⟨S1x2048x1, .f32⟩
  | .hbm, ⟨73, _⟩ => ⟨S1x2048x512, .f32⟩
  | .hbm, ⟨74, _⟩ => ⟨S1x2048x512, .f32⟩
  | .hbm, ⟨75, _⟩ => ⟨S1x2048x1x512, .f32⟩
  | .hbm, ⟨76, _⟩ => ⟨S1x2048x512, .f32⟩
  | .hbm, ⟨77, _⟩ => ⟨S1x2048x512, .f32⟩
  | .hbm, ⟨78, _⟩ => ⟨S1x2048x1x512, .f32⟩
  | .hbm, ⟨79, _⟩ => ⟨S1x2048x512, .f32⟩
  | .hbm, ⟨80, _⟩ => ⟨S_, .f32⟩
  | .hbm, ⟨81, _⟩ => ⟨S_, .f32⟩
  | .hbm, ⟨82, _⟩ => ⟨S1x2048x512, .f32⟩
  | .hbm, ⟨83, _⟩ => ⟨S1x16x512, .f32⟩
  | .hbm, ⟨84, _⟩ => ⟨S_, .f32⟩
  | .hbm, ⟨85, _⟩ => ⟨S1x16x512, .f32⟩
  | .hbm, ⟨86, _⟩ => ⟨S1x2032x512, .f32⟩
  | .hbm, ⟨87, _⟩ => ⟨S1x2048x512, .f32⟩
  | .hbm, ⟨88, _⟩ => ⟨S2048, .i32⟩
  | .hbm, ⟨89, _⟩ => ⟨S_, .i32⟩
  | .hbm, ⟨90, _⟩ => ⟨S2048, .i32⟩
  | .hbm, ⟨91, _⟩ => ⟨S2048, .i32⟩
  | .hbm, ⟨92, _⟩ => ⟨S_, .i32⟩
  | .hbm, ⟨93, _⟩ => ⟨S2048, .i32⟩
  | .hbm, ⟨94, _⟩ => ⟨S2048, .i32⟩
  | .hbm, ⟨95, _⟩ => ⟨S2048, .f32⟩
  | .hbm, ⟨96, _⟩ => ⟨S1x2048x512, .f32⟩
  | .hbm, ⟨97, _⟩ => ⟨S1x2048x1, .f32⟩
  | .hbm, ⟨98, _⟩ => ⟨S1x2048x512, .f32⟩
  | .hbm, ⟨99, _⟩ => ⟨S1x2048x512, .f32⟩
  | .hbm, ⟨100, _⟩ => ⟨S1x2048x1x512, .f32⟩
  | .hbm, ⟨101, _⟩ => ⟨S1x2048x512, .f32⟩
  | .hbm, ⟨102, _⟩ => ⟨S1x2048x512, .f32⟩
  | .hbm, ⟨103, _⟩ => ⟨S1x2048x1x512, .f32⟩
  | .hbm, ⟨104, _⟩ => ⟨S1x2048x1x512, .f32⟩
  | .hbm, ⟨105, _⟩ => ⟨S1x2048x1x512, .f32⟩
  | .hbm, ⟨106, _⟩ => ⟨S1x2048x1x512, .f32⟩
  | .hbm, ⟨107, _⟩ => ⟨S1x2048x4x512, .f32⟩
  | .hbm, ⟨108, _⟩ => ⟨S1x2048x2048, .f32⟩
  | .hbm, ⟨109, _⟩ => ⟨S2048x2048, .f32⟩
  | .hbm, ⟨110, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_call0_cst : Ref sig .tc := ⟨.hbm, 5, rfl⟩
abbrev main_call0_call0_v0 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call1_call0_cst : Ref sig .tc := ⟨.hbm, 30, rfl⟩
abbrev main_call1_call0_v0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call2_call0_cst : Ref sig .tc := ⟨.hbm, 55, rfl⟩
abbrev main_call2_call0_v0 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call3_call0_cst : Ref sig .tc := ⟨.hbm, 80, rfl⟩
abbrev main_call3_call0_v0 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_8 : Ref sig .tc := ⟨.hbm, 89, rfl⟩
abbrev main_v70 : Ref sig .tc := ⟨.hbm, 90, rfl⟩
abbrev main_v71 : Ref sig .tc := ⟨.hbm, 91, rfl⟩
abbrev main_c_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Group.lean ====
abbrev S2048x2048 : Shape := ⟨2, ![2048, 2048]⟩
abbrev S1x4x512x512 : Shape := ⟨4, ![1, 4, 512, 512]⟩
abbrev S1x2048 : Shape := ⟨2, ![1, 2048]⟩
abbrev S4x512x512 : Shape := ⟨3, ![4, 512, 512]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S1x4x512x512, .f32⟩
  | .hbm, ⟨2, _⟩ => ⟨S1x2048, .f32⟩
  | .hbm, ⟨3, _⟩ => ⟨S4x512x512, .f32⟩
  | .hbm, ⟨4, _⟩ => ⟨S4x512x512, .bf16⟩
  | .hbm, ⟨5, _⟩ => ⟨S2048x2048, .bf16⟩
  | .hbm, ⟨6, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GroupRefIdeal.lean ====
abbrev S2048x2048 : Shape := ⟨2, ![2048, 2048]⟩
abbrev S1x4x512x512 : Shape := ⟨4, ![1, 4, 512, 512]⟩
abbrev S1x2048 : Shape := ⟨2, ![1, 2048]⟩
abbrev S1x2048x4x512 : Shape := ⟨4, ![1, 2048, 4, 512]⟩
abbrev S4x512x512 : Shape := ⟨3, ![4, 512, 512]⟩
abbrev S4x512x1x2048 : Shape := ⟨4, ![4, 512, 1, 2048]⟩
abbrev S1x2048x2048 : Shape := ⟨3, ![1, 2048, 2048]⟩
abbrev S2048 : Shape := ⟨1, ![2048]⟩
abbrev S1x1x2048 : Shape := ⟨3, ![1, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x4x512x512, .f32⟩
  | .hbm, ⟨2, _⟩ => ⟨S1x2048, .f32⟩
  | .hbm, ⟨3, _⟩ => ⟨S2048x2048, .f32⟩
  | .hbm, ⟨4, _⟩ => ⟨S1x2048x4x512, .f32⟩
  | .hbm, ⟨5, _⟩ => ⟨S4x512x512, .f32⟩
  | .hbm, ⟨6, _⟩ => ⟨S4x512x1x2048, .f32⟩
  | .hbm, ⟨7, _⟩ => ⟨S1x2048x4x512, .f32⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x1x2048, .f32⟩
  | .hbm, ⟨13, _⟩ => ⟨S1x2048x2048, .f32⟩
  | .hbm, ⟨14, _⟩ => ⟨S1x2048x2048, .f32⟩
  | .hbm, ⟨15, _⟩ => ⟨S2048x2048, .f32⟩
  | .hbm, ⟨16, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Exchange.lean ====
abbrev S4x2x256x512 : Shape := ⟨4, ![4, 2, 256, 512]⟩
abbrev S4x256x512 : Shape := ⟨3, ![4, 256, 512]⟩
abbrev S1 : Shape := ⟨1, ![1]⟩
abbrev S_ : Shape := ⟨0, ![]⟩
abbrev S4x1x256x512 : Shape := ⟨4, ![4, 1, 256, 512]⟩

abbrev nBuf : Space → Nat
  | .hbm => 2
  | .vmem => 0
  | .smem => 0
  | _ => 0

abbrev bufTy : (tb : Table) → Fin (tcTables nBuf tb) → BufTy
  | .hbm, ⟨0, _⟩ => ⟨S4x2x256x512, .bf16⟩
  | .hbm, ⟨1, _⟩ => ⟨S4x256x512, .bf16⟩
  | _, _ => ⟨S4x2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 4 → Nat :=
  let c0_i32_5 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_6 : BitVec 32 := 0#32
  let c0_i32_7 : BitVec 32 := 0#32
  ![0, v3.toNat, 0, 0]
def k0_dev1 (d0 : Dev nD) : Nat :=
  let c0_i32_4 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_3 : BitVec 32 := 1#32
  let v5 : BitVec 32 := Scalar.muli v4 c1_i32_3
  let v6 : BitVec 32 := Scalar.addi c0_i32_4 v5
  v6.toNat
-- ==== ExchangeRefIdeal.lean ====
abbrev S8x2x256x512 : Shape := ⟨4, ![8, 2, 256, 512]⟩
abbrev S2x4x2x256x512 : Shape := ⟨5, ![2, 4, 2, 256, 512]⟩
abbrev S1x4x1x256x512 : Shape := ⟨5, ![1, 4, 1, 256, 512]⟩
abbrev S4x256x512 : Shape := ⟨3, ![4, 256, 512]⟩
abbrev S8x256x512 : Shape := ⟨3, ![8, 256, 512]⟩

abbrev nBuf : Space → Nat
  | .hbm => 7
  | .vmem => 0
  | .smem => 0
  | _ => 0

abbrev bufTy : (tb : Table) → Fin (tcTables nBuf tb) → BufTy
  | .hbm, ⟨0, _⟩ => ⟨S8x2x256x512, .bf16⟩
  | .hbm, ⟨1, _⟩ => ⟨S2x4x2x256x512, .bf16⟩
  | .hbm, ⟨2, _⟩ => ⟨S1x4x1x256x512, .bf16⟩
  | .hbm, ⟨3, _⟩ => ⟨S4x256x512, .bf16⟩
  | .hbm, ⟨4, _⟩ => ⟨S1x4x1x256x512, .bf16⟩
  | .hbm, ⟨5, _⟩ => ⟨S4x256x512, .bf16⟩
  | .hbm, ⟨6, _⟩ => ⟨S8x256x512, .bf16⟩
  | _, _ => ⟨S8x2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== MlpDown.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | .hbm, ⟨3, _⟩ => ⟨S8192x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | .hbm, ⟨3, _⟩ => ⟨S2048x8192, .f32⟩
  | .hbm, ⟨4, _⟩ => ⟨S2048x2048, .f32⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDx.lean ====
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Weight.lean ====
abbrev S2048x8192 : Shape := ⟨2, ![2048, 8192]⟩
abbrev S2048x2048 : Shape := ⟨2, ![2048, 2048]⟩
abbrev S4x1024x2048 : Shape := ⟨3, ![4, 1024, 2048]⟩
abbrev S_ : Shape := ⟨0, ![]⟩
abbrev S1 : Shape := ⟨1, ![1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 8
  | .smem => 1
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S4x1024x2048, .bf16⟩
  | .hbm, ⟨3, _⟩ => ⟨S_, .i32⟩
  | .hbm, ⟨4, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .smem, ⟨0, _⟩ => ⟨S1, .i32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let v19 : BitVec 32 := Scalar.addi v17 v18
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WeightRefIdeal.lean ====
abbrev S2048x8192 : Shape := ⟨2, ![2048, 8192]⟩
abbrev S2048x2048 : Shape := ⟨2, ![2048, 2048]⟩
abbrev S4x1024x2048 : Shape := ⟨3, ![4, 1024, 2048]⟩
abbrev S_ : Shape := ⟨0, ![]⟩
abbrev S8192x2048 : Shape := ⟨2, ![8192, 2048]⟩
abbrev S4x2x1024x2048 : Shape := ⟨4, ![4, 2, 1024, 2048]⟩
abbrev S4x1x1024x2048 : Shape := ⟨4, ![4, 1, 1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S4x1024x2048, .bf16⟩
  | .hbm, ⟨3, _⟩ => ⟨S_, .f32⟩
  | .hbm, ⟨4, _⟩ => ⟨S8192x2048, .f32⟩
  | .hbm, ⟨5, _⟩ => ⟨S2048x8192, .f32⟩
  | .hbm, ⟨6, _⟩ => ⟨S2048x2048, .f32⟩
  | .hbm, ⟨7, _⟩ => ⟨S2048x2048, .f32⟩
  | .hbm, ⟨8, _⟩ => ⟨S2048x8192, .f32⟩
  | .hbm, ⟨9, _⟩ => ⟨S8192x2048, .f32⟩
  | .hbm, ⟨10, _⟩ => ⟨S4x2x1024x2048, .f32⟩
  | .hbm, ⟨11, _⟩ => ⟨S4x1x1024x2048, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== GroupGrad.lean ====
abbrev S2048x2048 : Shape := ⟨2, ![2048, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GroupGradRefIdeal.lean ====
abbrev S2048x2048 : Shape := ⟨2, ![2048, 2048]⟩
abbrev S_ : Shape := ⟨0, ![]⟩
abbrev S4x512x512 : Shape := ⟨3, ![4, 512, 512]⟩
abbrev S2048x4x512 : Shape := ⟨3, ![2048, 4, 512]⟩
abbrev S4x512x2048 : Shape := ⟨3, ![4, 512, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S4x512x512, .f32⟩
  | .hbm, ⟨4, _⟩ => ⟨S2048x2048, .f32⟩
  | .hbm, ⟨5, _⟩ => ⟨S2048x4x512, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S4x512x2048, .f32⟩
  | .hbm, ⟨12, _⟩ => ⟨S4x512x512, .f32⟩
  | .hbm, ⟨13, _⟩ => ⟨S4x512x512, .f32⟩
  | .hbm, ⟨14, _⟩ => ⟨S4x512x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== AddSib.lean ====
abbrev S4x2x256x512 : Shape := ⟨4, ![4, 2, 256, 512]⟩
abbrev S4x256x512 : Shape := ⟨3, ![4, 256, 512]⟩
abbrev S_ : Shape := ⟨0, ![]⟩
abbrev S1 : Shape := ⟨1, ![1]⟩
abbrev S1x1x256x512 : Shape := ⟨4, ![1, 1, 256, 512]⟩
abbrev S1x256x512 : Shape := ⟨3, ![1, 256, 512]⟩
abbrev S256x512 : Shape := ⟨2, ![256, 512]⟩

abbrev nBuf : Space → Nat
  | .hbm => 4
  | .vmem => 6
  | .smem => 1
  | _ => 0

abbrev bufTy : (tb : Table) → Fin (tcTables nBuf tb) → BufTy
  | .hbm, ⟨0, _⟩ => ⟨S4x2x256x512, .bf16⟩
  | .hbm, ⟨1, _⟩ => ⟨S4x256x512, .bf16⟩
  | .hbm, ⟨2, _⟩ => ⟨S_, .i32⟩
  | .hbm, ⟨3, _⟩ => ⟨S4x256x512, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .smem, ⟨0, _⟩ => ⟨S1, .i32⟩
  | _, _ => ⟨S4x2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddSibRefIdeal.lean ====
abbrev S4x2x256x512 : Shape := ⟨4, ![4, 2, 256, 512]⟩
abbrev S4x256x512 : Shape := ⟨3, ![4, 256, 512]⟩
abbrev S4x1x256x512 : Shape := ⟨4, ![4, 1, 256, 512]⟩

abbrev nBuf : Space → Nat
  | .hbm => 8
  | .vmem => 0
  | .smem => 0
  | _ => 0

abbrev bufTy : (tb : Table) → Fin (tcTables nBuf tb) → BufTy
  | .hbm, ⟨0, _⟩ => ⟨S4x2x256x512, .bf16⟩
  | .hbm, ⟨1, _⟩ => ⟨S4x256x512, .bf16⟩
  | .hbm, ⟨2, _⟩ => ⟨S4x1x256x512, .bf16⟩
  | .hbm, ⟨3, _⟩ => ⟨S4x256x512, .bf16⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .bf16⟩
  | _, _ => ⟨S4x2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SmallAdam.lean ====
abbrev S1146x128 : Shape := ⟨2, ![1146, 128]⟩
abbrev S16x128 : Shape := ⟨2, ![16, 128]⟩
abbrev S1024x128 : Shape := ⟨2, ![1024, 128]⟩
abbrev S8x128 : Shape := ⟨2, ![8, 128]⟩
abbrev S32x128 : Shape := ⟨2, ![32, 128]⟩
abbrev S2x128 : Shape := ⟨2, ![2, 128]⟩

abbrev nBuf : Space → Nat
  | .hbm => 28
  | .vmem => 28
  | .smem => 0
  | _ => 0

abbrev bufTy : (tb : Table) → Fin (tcTables nBuf tb) → BufTy
  | .hbm, ⟨0, _⟩ => ⟨S1146x128, .f32⟩
  | .hbm, ⟨1, _⟩ => ⟨S1146x128, .f32⟩
  | .hbm, ⟨2, _⟩ => ⟨S1146x128, .f32⟩
  | .hbm, ⟨3, _⟩ => ⟨S1146x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S32x128, .f32⟩
  | .hbm, ⟨22, _⟩ => ⟨S16x128, .f32⟩
  | .hbm, ⟨23, _⟩ => ⟨S16x128, .f32⟩
  | .hbm, ⟨24, _⟩ => ⟨S16x128, .f32⟩
  | .hbm, ⟨25, _⟩ => ⟨S2x128, .f32⟩
  | .hbm, ⟨26, _⟩ => ⟨S2x128, .f32⟩
  | .hbm, ⟨27, _⟩ => ⟨S2x128, .f32⟩
  | .local _ .vmem, ⟨0, _⟩ => ⟨S1146x128, .f32⟩
  | .local _ .vmem, ⟨1, _⟩ => ⟨S1146x128, .f32⟩
  | .local _ .vmem, ⟨2, _⟩ => ⟨S1146x128, .f32⟩
  | .local _ .vmem, ⟨3, _⟩ => ⟨S1146x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S32x128, .f32⟩
  | .local _ .vmem, ⟨22, _⟩ => ⟨S16x128, .f32⟩
  | .local _ .vmem, ⟨23, _⟩ => ⟨S16x128, .f32⟩
  | .local _ .vmem, ⟨24, _⟩ => ⟨S16x128, .f32⟩
  | .local _ .vmem, ⟨25, _⟩ => ⟨S2x128, .f32⟩
  | .local _ .vmem, ⟨26, _⟩ => ⟨S2x128, .f32⟩
  | .local _ .vmem, ⟨27, _⟩ => ⟨S2x128, .f32⟩
  | _, _ => ⟨S1146x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev main_v0_11 : Ref sig .tc := ⟨.hbm, 15, rfl⟩
abbrev main_v0_12 : Ref sig .tc := ⟨.hbm, 16, rfl⟩
abbrev main_v0_13 : Ref sig .tc := ⟨.hbm, 17, rfl⟩
abbrev main_v0_14 : Ref sig .tc := ⟨.hbm, 18, rfl⟩
abbrev main_v0_15 : Ref sig .tc := ⟨.hbm, 19, rfl⟩
abbrev main_v0_16 : Ref sig .tc := ⟨.hbm, 20, rfl⟩
abbrev main_v0_17 : Ref sig .tc := ⟨.hbm, 21, rfl⟩
abbrev main_v0_18 : Ref sig .tc := ⟨.hbm, 22, rfl⟩
abbrev main_v0_19 : Ref sig .tc := ⟨.hbm, 23, rfl⟩
abbrev main_v0_20 : Ref sig .tc := ⟨.hbm, 24, rfl⟩
abbrev main_v0_21 : Ref sig .tc := ⟨.hbm, 25, rfl⟩
abbrev main_v0_22 : Ref sig .tc := ⟨.hbm, 26, rfl⟩
abbrev main_v0_23 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1146x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1146x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1146x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1146x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S16x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S16x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallAdamRefIdeal.lean ====
abbrev S1146x128 : Shape := ⟨2, ![1146, 128]⟩
abbrev S_ : Shape := ⟨0, ![]⟩
abbrev S16x128 : Shape := ⟨2, ![16, 128]⟩
abbrev S1024x128 : Shape := ⟨2, ![1024, 128]⟩
abbrev S8x128 : Shape := ⟨2, ![8, 128]⟩
abbrev S32x128 : Shape := ⟨2, ![32, 128]⟩
abbrev S2x128 : Shape := ⟨2, ![2, 128]⟩

abbrev nBuf : Space → Nat
  | .hbm => 61
  | .vmem => 0
  | .smem => 0
  | _ => 0

abbrev bufTy : (tb : Table) → Fin (tcTables nBuf tb) → BufTy
  | .hbm, ⟨0, _⟩ => ⟨S1146x128, .f32⟩
  | .hbm, ⟨1, _⟩ => ⟨S1146x128, .f32⟩
  | .hbm, ⟨2, _⟩ => ⟨S1146x128, .f32⟩
  | .hbm, ⟨3, _⟩ => ⟨S1146x128, .f32⟩
  | .hbm, ⟨4, _⟩ => ⟨S_, .f32⟩
  | .hbm, ⟨5, _⟩ => ⟨S1146x128, .f32⟩
  | .hbm, ⟨6, _⟩ => ⟨S1146x128, .f32⟩
  | .hbm, ⟨7, _⟩ => ⟨S_, .f32⟩
  | .hbm, ⟨8, _⟩ => ⟨S1146x128, .f32⟩
  | .hbm, ⟨9, _⟩ => ⟨S1146x128, .f32⟩
  | .hbm, ⟨10, _⟩ => ⟨S1146x128, .f32⟩
  | .hbm, ⟨11, _⟩ => ⟨S_, .f32⟩
  | .hbm, ⟨12, _⟩ => ⟨S1146x128, .f32⟩
  | .hbm, ⟨13, _⟩ => ⟨S1146x128, .f32⟩
  | .hbm, ⟨14, _⟩ => ⟨S1146x128, .f32⟩
  | .hbm, ⟨15, _⟩ => ⟨S_, .f32⟩
  | .hbm, ⟨16, _⟩ => ⟨S1146x128, .f32⟩
  | .hbm, ⟨17, _⟩ => ⟨S1146x128, .f32⟩
  | .hbm, ⟨18, _⟩ => ⟨S1146x128, .f32⟩
  | .hbm, ⟨19, _⟩ => ⟨S_, .f32⟩
  | .hbm, ⟨20, _⟩ => ⟨S1146x128, .f32⟩
  | .hbm, ⟨21, _⟩ => ⟨S1146x128, .f32⟩
  | .hbm, ⟨22, _⟩ => ⟨S_, .f32⟩
  | .hbm, ⟨23, _⟩ => ⟨S1146x128, .f32⟩
  | .hbm, ⟨24, _⟩ => ⟨S1146x128, .f32⟩
  | .hbm, ⟨25, _⟩ => ⟨S1146x128, .f32⟩
  | .hbm, ⟨26, _⟩ => ⟨S_, .f32⟩
  | .hbm, ⟨27, _⟩ => ⟨S1146x128, .f32⟩
  | .hbm, ⟨28, _⟩ => ⟨S1146x128, .f32⟩
  | .hbm, ⟨29, _⟩ => ⟨S1146x128, .f32⟩
  | .hbm, ⟨30, _⟩ => ⟨S_, .f32⟩
  | .hbm, ⟨31, _⟩ => ⟨S1146x128, .f32⟩
  | .hbm, ⟨32, _⟩ => ⟨S1146x128, .f32⟩
  | .hbm, ⟨33, _⟩ => ⟨S1146x128, .f32⟩
  | .hbm, ⟨34, _⟩ => ⟨S_, .f32⟩
  | .hbm, ⟨35, _⟩ => ⟨S1146x128, .f32⟩
  | .hbm, ⟨36, _⟩ => ⟨S1146x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S16x128, .f32⟩
  | .hbm, ⟨43, _⟩ => ⟨S1024x128, .f32⟩
  | .hbm, ⟨44, _⟩ => ⟨S1024x128, .f32⟩
  | .hbm, ⟨45, _⟩ => ⟨S1024x128, .f32⟩
  | .hbm, ⟨46, _⟩ => ⟨S8x128, .f32⟩
  | .hbm, ⟨47, _⟩ => ⟨S8x128, .f32⟩
  | .hbm, ⟨48, _⟩ => ⟨S8x128, .f32⟩
  | .hbm, ⟨49, _⟩ => ⟨S32x128, .f32⟩
  | .hbm, ⟨50, _⟩ => ⟨S32x128, .f32⟩
  | .hbm, ⟨51, _⟩ => ⟨S32x128, .f32⟩
  | .hbm, ⟨52, _⟩ => ⟨S32x128, .f32⟩
  | .hbm, ⟨53, _⟩ => ⟨S32x128, .f32⟩
  | .hbm, ⟨54, _⟩ => ⟨S32x128, .f32⟩
  | .hbm, ⟨55, _⟩ => ⟨S16x128, .f32⟩
  | .hbm, ⟨56, _⟩ => ⟨S16x128, .f32⟩
  | .hbm, ⟨57, _⟩ => ⟨S16x128, .f32⟩
  | .hbm, ⟨58, _⟩ => ⟨S2x128, .f32⟩
  | .hbm, ⟨59, _⟩ => ⟨S2x128, .f32⟩
  | .hbm, ⟨60, _⟩ => ⟨S2x128, .f32⟩
  | _, _ => ⟨S1146x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== SmallSum.lean ====
abbrev S8x1161x128 : Shape := ⟨3, ![8, 1161, 128]⟩
abbrev S1161x128 : Shape := ⟨2, ![1161, 128]⟩
abbrev S1 : Shape := ⟨1, ![1]⟩
abbrev S1x1161x128 : Shape := ⟨3, ![1, 1161, 128]⟩

abbrev nBuf : Space → Nat
  | .hbm => 3
  | .vmem => 3
  | .smem => 1
  | _ => 0

abbrev bufTy : (tb : Table) → Fin (tcTables nBuf tb) → BufTy
  | .hbm, ⟨0, _⟩ => ⟨S8x1161x128, .f32⟩
  | .hbm, ⟨1, _⟩ => ⟨S1161x128, .f32⟩
  | .hbm, ⟨2, _⟩ => ⟨S1161x128, .f32⟩
  | .local _ .vmem, ⟨0, _⟩ => ⟨S8x1161x128, .f32⟩
  | .local _ .vmem, ⟨1, _⟩ => ⟨S1161x128, .f32⟩
  | .local _ .vmem, ⟨2, _⟩ => ⟨S1161x128, .f32⟩
  | .local _ .smem, ⟨0, _⟩ => ⟨S1, .i32⟩
  | _, _ => ⟨S8x1161x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1161x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1161x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1161x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SmallSumRefIdeal.lean ====
abbrev S8x1161x128 : Shape := ⟨3, ![8, 1161, 128]⟩
abbrev S1161x128 : Shape := ⟨2, ![1161, 128]⟩
abbrev S1 : Shape := ⟨1, ![1]⟩
abbrev S8 : Shape := ⟨1, ![8]⟩
abbrev S_ : Shape := ⟨0, ![]⟩
abbrev S8x1x1 : Shape := ⟨3, ![8, 1, 1]⟩
abbrev S1x1161x128 : Shape := ⟨3, ![1, 1161, 128]⟩

abbrev nBuf : Space → Nat
  | .hbm => 14
  | .vmem => 0
  | .smem => 0
  | _ => 0

abbrev bufTy : (tb : Table) → Fin (tcTables nBuf tb) → BufTy
  | .hbm, ⟨0, _⟩ => ⟨S8x1161x128, .f32⟩
  | .hbm, ⟨1, _⟩ => ⟨S1161x128, .f32⟩
  | .hbm, ⟨2, _⟩ => ⟨S1, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i1⟩
  | .hbm, ⟨7, _⟩ => ⟨S8x1x1, .i1⟩
  | .hbm, ⟨8, _⟩ => ⟨S1x1161x128, .f32⟩
  | .hbm, ⟨9, _⟩ => ⟨S8x1161x128, .i1⟩
  | .hbm, ⟨10, _⟩ => ⟨S8x1161x128, .f32⟩
  | .hbm, ⟨11, _⟩ => ⟨S8x1161x128, .f32⟩
  | .hbm, ⟨12, _⟩ => ⟨S_, .f32⟩
  | .hbm, ⟨13, _⟩ => ⟨S1161x128, .f32⟩
  | _, _ => ⟨S8x1161x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Reduce.lean ====
abbrev S4x256x512 : Shape := ⟨3, ![4, 256, 512]⟩
abbrev S3x256x512 : Shape := ⟨3, ![3, 256, 512]⟩
abbrev S1x256x512 : Shape := ⟨3, ![1, 256, 512]⟩
abbrev S_ : Shape := ⟨0, ![]⟩
abbrev S1 : Shape := ⟨1, ![1]⟩
abbrev S3x3x256x512 : Shape := ⟨4, ![3, 3, 256, 512]⟩
abbrev S2x256x512 : Shape := ⟨3, ![2, 256, 512]⟩
abbrev S3x5 : Shape := ⟨2, ![3, 5]⟩
abbrev S2x4 : Shape := ⟨2, ![2, 4]⟩
abbrev S1x1 : Shape := ⟨2, ![1, 1]⟩
abbrev S256x512 : Shape := ⟨2, ![256, 512]⟩
abbrev S1x3x256x512 : Shape := ⟨4, ![1, 3, 256, 512]⟩
abbrev S1x1x256x512 : Shape := ⟨4, ![1, 1, 256, 512]⟩

abbrev nBuf : Space → Nat
  | .hbm => 10
  | .vmem => 9
  | .smem => 1
  | _ => 0

abbrev bufTy : (tb : Table) → Fin (tcTables nBuf tb) → BufTy
  | .hbm, ⟨0, _⟩ => ⟨S4x256x512, .bf16⟩
  | .hbm, ⟨1, _⟩ => ⟨S3x256x512, .bf16⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S_, .i32⟩
  | .hbm, ⟨6, _⟩ => ⟨S1x256x512, .f32⟩
  | .hbm, ⟨7, _⟩ => ⟨S1x256x512, .f32⟩
  | .hbm, ⟨8, _⟩ => ⟨S1x256x512, .f32⟩
  | .hbm, ⟨9, _⟩ => ⟨S1x256x512, .f32⟩
  | .local _ .vmem, ⟨0, _⟩ => ⟨S3x256x512, .bf16⟩
  | .local _ .vmem, ⟨1, _⟩ => ⟨S3x3x256x512, .bf16⟩
  | .local _ .vmem, ⟨2, _⟩ => ⟨S3x256x512, .f32⟩
  | .local _ .vmem, ⟨3, _⟩ => ⟨S3x256x512, .f32⟩
  | .local _ .vmem, ⟨4, _⟩ => ⟨S3x256x512, .f32⟩
  | .local _ .vmem, ⟨5, _⟩ => ⟨S2x256x512, .f32⟩
  | .local _ .vmem, ⟨6, _⟩ => ⟨S2x256x512, .f32⟩
  | .local _ .vmem, ⟨7, _⟩ => ⟨S2x256x512, .f32⟩
  | .local _ .vmem, ⟨8, _⟩ => ⟨S2x256x512, .f32⟩
  | .local _ .smem, ⟨0, _⟩ => ⟨S1, .i32⟩
  | _, _ => ⟨S4x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32_4 : BitVec 32 := 0#32
  let c0_i32_5 : BitVec 32 := 0#32
  ![v0.toNat, 0, 0]

def k0_chk1 (v0 : BitVec 32) : Prop :=
  (∀ a, (k0_off1 v0) a + S1x256x512.size a ≤ S4x256x512.size a) ∧
  (∀ (hinb : ∀ a, (k0_off1 v0) a + S1x256x512.size a ≤ S4x256x512.size a), (Rect.unit (s := S4x256x512) (k0_off1 v0) S1x256x512.size hinb).WholeWords (EltTy.packing .bf16))
theorem k0_off1_inb : ∀ (v0 : BitVec 32) (k0_hw1 : k0_chk1 v0), ∀ a, (k0_off1 v0) a + S1x256x512.size a ≤ S4x256x512.size a := fun v0 k0_hw1 => k0_hw1.1
theorem k0_off1_wordsbf16 : ∀ (v0 : BitVec 32) (k0_hw1 : k0_chk1 v0), (Rect.unit (s := S4x256x512) (k0_off1 v0) S1x256x512.size (k0_off1_inb v0 k0_hw1)).WholeWords (EltTy.packing .bf16) := fun v0 k0_hw1 => k0_hw1.2 (k0_off1_inb v0 k0_hw1)

def k0_off2 (v30 : BitVec 32) : Fin 3 → Nat :=
  let c0_i32_41 : BitVec 32 := 0#32
  let c0_i32_42 : BitVec 32 := 0#32
  ![v30.toNat, 0, 0]

def k0_chk2 (v30 : BitVec 32) : Prop :=
  (∀ a, (k0_off2 v30) a + S1x256x512.size a ≤ S4x256x512.size a) ∧
  (∀ (hinb : ∀ a, (k0_off2 v30) a + S1x256x512.size a ≤ S4x256x512.size a), (Rect.unit (s := S4x256x512) (k0_off2 v30) S1x256x512.size hinb).WholeWords (EltTy.packing .bf16))
theorem k0_off2_inb : ∀ (v30 : BitVec 32) (k0_hw2 : k0_chk2 v30), ∀ a, (k0_off2 v30) a + S1x256x512.size a ≤ S4x256x512.size a := fun v30 k0_hw2 => k0_hw2.1
theorem k0_off2_wordsbf16 : ∀ (v30 : BitVec 32) (k0_hw2 : k0_chk2 v30), (Rect.unit (s := S4x256x512) (k0_off2 v30) S1x256x512.size (k0_off2_inb v30 k0_hw2)).WholeWords (EltTy.packing .bf16) := fun v30 k0_hw2 => k0_hw2.2 (k0_off2_inb v30 k0_hw2)
-- ==== ReduceRefIdeal.lean ====
abbrev S4x256x512 : Shape := ⟨3, ![4, 256, 512]⟩
abbrev S3x256x512 : Shape := ⟨3, ![3, 256, 512]⟩
abbrev S1x256x512 : Shape := ⟨3, ![1, 256, 512]⟩
abbrev S256x512 : Shape := ⟨2, ![256, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x256x512, .bf16⟩
  | .hbm, ⟨1, _⟩ => ⟨S3x256x512, .bf16⟩
  | .hbm, ⟨2, _⟩ => ⟨S1x256x512, .f32⟩
  | .hbm, ⟨3, _⟩ => ⟨S1x256x512, .f32⟩
  | .hbm, ⟨4, _⟩ => ⟨S1x256x512, .f32⟩
  | .hbm, ⟨5, _⟩ => ⟨S1x256x512, .bf16⟩
  | .hbm, ⟨6, _⟩ => ⟨S256x512, .bf16⟩
  | .hbm, ⟨7, _⟩ => ⟨S256x512, .f32⟩
  | .hbm, ⟨8, _⟩ => ⟨S3x256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S1x256x512, .f32⟩
  | .hbm, ⟨13, _⟩ => ⟨S_, .f32⟩
  | .hbm, ⟨14, _⟩ => ⟨S1x256x512, .f32⟩
  | .hbm, ⟨15, _⟩ => ⟨S1x256x512, .f32⟩
  | .hbm, ⟨16, _⟩ => ⟨S_, .f32⟩
  | .hbm, ⟨17, _⟩ => ⟨S1x256x512, .f32⟩
  | .hbm, ⟨18, _⟩ => ⟨S1x256x512, .f32⟩
  | .hbm, ⟨19, _⟩ => ⟨S1x256x512, .f32⟩
  | .hbm, ⟨20, _⟩ => ⟨S_, .f32⟩
  | .hbm, ⟨21, _⟩ => ⟨S1x256x512, .f32⟩
  | .hbm, ⟨22, _⟩ => ⟨S1x256x512, .f32⟩
  | .hbm, ⟨23, _⟩ => ⟨S1x256x512, .f32⟩
  | .hbm, ⟨24, _⟩ => ⟨S_, .f32⟩
  | .hbm, ⟨25, _⟩ => ⟨S1x256x512, .f32⟩
  | .hbm, ⟨26, _⟩ => ⟨S1x256x512, .f32⟩
  | .hbm, ⟨27, _⟩ => ⟨S1x256x512, .f32⟩
  | .hbm, ⟨28, _⟩ => ⟨S_, .f32⟩
  | .hbm, ⟨29, _⟩ => ⟨S1x256x512, .f32⟩
  | .hbm, ⟨30, _⟩ => ⟨S1x256x512, .f32⟩
  | .hbm, ⟨31, _⟩ => ⟨S_, .f32⟩
  | .hbm, ⟨32, _⟩ => ⟨S1x256x512, .f32⟩
  | .hbm, ⟨33, _⟩ => ⟨S1x256x512, .f32⟩
  | .hbm, ⟨34, _⟩ => ⟨S1x256x512, .f32⟩
  | .hbm, ⟨35, _⟩ => ⟨S_, .f32⟩
  | .hbm, ⟨36, _⟩ => ⟨S1x256x512, .f32⟩
  | .hbm, ⟨37, _⟩ => ⟨S1x256x512, .f32⟩
  | .hbm, ⟨38, _⟩ => ⟨S1x256x512, .f32⟩
  | .hbm, ⟨39, _⟩ => ⟨S_, .f32⟩
  | .hbm, ⟨40, _⟩ => ⟨S1x256x512, .f32⟩
  | .hbm, ⟨41, _⟩ => ⟨S1x256x512, .f32⟩
  | .hbm, ⟨42, _⟩ => ⟨S1x256x512, .f32⟩
  | .hbm, ⟨43, _⟩ => ⟨S_, .f32⟩
  | .hbm, ⟨44, _⟩ => ⟨S1x256x512, .f32⟩
  | .hbm, ⟨45, _⟩ => ⟨S1x256x512, .f32⟩
  | _, _ => ⟨S4x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Sent.lean ====
abbrev S2048x8192 : Shape := ⟨2, ![2048, 8192]⟩
abbrev S2048x2048 : Shape := ⟨2, ![2048, 2048]⟩
abbrev S_ : Shape := ⟨0, ![]⟩
abbrev S1 : Shape := ⟨1, ![1]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 1
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .i32⟩
  | .hbm, ⟨3, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let c1_i32_5 : BitVec 32 := 1#32
  let v19 : BitVec 32 := Scalar.subi c1_i32_5 v18
  let v20 : BitVec 32 := Scalar.addi v17 v19
  let c1_i32_6 : BitVec 32 := 1#32
  let v21 : BitVec 32 := Scalar.muli v20 c1_i32_6
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SentRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S4x2x1024x2048, .f32⟩
  | .hbm, ⟨10, _⟩ => ⟨S4x1x1024x2048, .f32⟩
  | .hbm, ⟨11, _⟩ => ⟨S4x1024x2048, .f32⟩
  | .hbm, ⟨12, _⟩ => ⟨S4x1024x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GroupDx.lean ====
abbrev S2048x2048 : Shape := ⟨2, ![2048, 2048]⟩
abbrev S1x4x512x512 : Shape := ⟨4, ![1, 4, 512, 512]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x4x512x512, .f32⟩
  | .hbm, ⟨2, _⟩ => ⟨S4x512x512, .f32⟩
  | .hbm, ⟨3, _⟩ => ⟨S4x512x512, .bf16⟩
  | .hbm, ⟨4, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GroupDxRefIdeal.lean ====
abbrev S2048x2048 : Shape := ⟨2, ![2048, 2048]⟩
abbrev S1x4x512x512 : Shape := ⟨4, ![1, 4, 512, 512]⟩
abbrev S_ : Shape := ⟨0, ![]⟩
abbrev S2048x4x512 : Shape := ⟨3, ![2048, 4, 512]⟩
abbrev S4x512x512 : Shape := ⟨3, ![4, 512, 512]⟩
abbrev S4x512x2048 : Shape := ⟨3, ![4, 512, 2048]⟩
abbrev S4x2048x512 : Shape := ⟨3, ![4, 2048, 512]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x4x512x512, .f32⟩
  | .hbm, ⟨2, _⟩ => ⟨S_, .f32⟩
  | .hbm, ⟨3, _⟩ => ⟨S2048x2048, .f32⟩
  | .hbm, ⟨4, _⟩ => ⟨S2048x4x512, .f32⟩
  | .hbm, ⟨5, _⟩ => ⟨S4x512x512, .f32⟩
  | .hbm, ⟨6, _⟩ => ⟨S4x512x2048, .f32⟩
  | .hbm, ⟨7, _⟩ => ⟨S2048x4x512, .f32⟩
  | .hbm, ⟨8, _⟩ => ⟨S2048x2048, .f32⟩
  | .hbm, ⟨9, _⟩ => ⟨S2048x2048, .f32⟩
  | .hbm, ⟨10, _⟩ => ⟨S2048x4x512, .f32⟩
  | .hbm, ⟨11, _⟩ => ⟨S4x512x2048, .f32⟩
  | .hbm, ⟨12, _⟩ => ⟨S4x2048x512, .f32⟩
  | .hbm, ⟨13, _⟩ => ⟨S2048x4x512, .f32⟩
  | .hbm, ⟨14, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Columns.lean ====
abbrev S2048x2048 : Shape := ⟨2, ![2048, 2048]⟩
abbrev S2048x8192 : Shape := ⟨2, ![2048, 8192]⟩
abbrev S4x2048x1024 : Shape := ⟨3, ![4, 2048, 1024]⟩
abbrev S_ : Shape := ⟨0, ![]⟩
abbrev S1 : Shape := ⟨1, ![1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 8
  | .smem => 1
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x1024, .bf16⟩
  | .hbm, ⟨3, _⟩ => ⟨S_, .i32⟩
  | .hbm, ⟨4, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0 : Index := 0#32
  let v18 : BitVec 32 := pf.at 0 (Rect.unit (s := S1) ![0] S1.size inb_S1_S1_0) numel1_S1
  let v19 : BitVec 32 := Scalar.addi v17 v18
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg1 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ColumnsRefIdeal.lean ====
abbrev S2048x2048 : Shape := ⟨2, ![2048, 2048]⟩
abbrev S2048x8192 : Shape := ⟨2, ![2048, 8192]⟩
abbrev S4x2048x1024 : Shape := ⟨3, ![4, 2048, 1024]⟩
abbrev S_ : Shape := ⟨0, ![]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S4x2048x1024, .bf16⟩
  | .hbm, ⟨3, _⟩ => ⟨S_, .f32⟩
  | .hbm, ⟨4, _⟩ => ⟨S2048x8192, .f32⟩
  | .hbm, ⟨5, _⟩ => ⟨S2048x2048, .f32⟩
  | .hbm, ⟨6, _⟩ => ⟨S2048x8192, .f32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S2048x4x2x1024, .f32⟩
  | .hbm, ⟨11, _⟩ => ⟨S4x2x2048x1024, .f32⟩
  | .hbm, ⟨12, _⟩ => ⟨S4x1x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.RowChunks.lean ====
/- A block of 512 rows worked on 16 rows at a time: what a load of 16 rows reads, and what 32 stores of 16 rows leave. -/
module

public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RowChunks

variable {F : FTy → Type} [FloatOps F] {sig : RefSig} {κ : Kind} {sp : Space}

/-- A block, and the rows of one trip. -/
abbrev Blk : Shape := ⟨2, ![512, 2048]⟩
abbrev Lanes : Shape := ⟨2, ![16, 2048]⟩

/-- The 16 rows of a block that trip `k` works on. -/
def chunk (x : Vec F Blk .f32) (k : ℕ) : Vec F Lanes .f32 :=
  fun j => x (ix2 (⟨(16 * k + (j 0).val) % 512, Nat.mod_lt _ (by decide)⟩ : Fin 512) (j 1 : Fin 2048))

/-- What the load of trip `k` reads of a block is the trip's rows. -/
theorem readAt_chunk (M : Memref sig κ sp Blk .f32) (hM : M.IsWhole) (x : Vec F Blk .f32) {off : Fin 2 → ℕ} {k : ℕ}
    (ho : off = ![16 * k, 0]) (hk : k < 32) (inb : ∀ a : Fin 2, off a + Lanes.size a ≤ Blk.size a) :
    M.view.readAt (Elt F) (Rect.unit (s := Blk) off Lanes.size inb).toLoadRect (hM.unread x) = chunk x k := by
  funext j
  rw [hM.readAt_unread]
  unfold chunk
  congr 1
  have h0 : (j 0).val < 16 := (j 0).isLt
  have e0 : off 0 = 16 * k := congrFun ho 0
  have e1 : off 1 = 0 := congrFun ho 1
  funext a
  apply Fin.ext
  refine Fin.cases ?_ (fun a => ?_) a
  · show off 0 + 1 * (j 0).val = (16 * k + (j 0).val) % 512
    rw [Nat.mod_eq_of_lt (by omega)]; omega
  · obtain rfl : a = 0 := Subsingleton.elim _ _
    show off 1 + 1 * (j 1).val = (j 1).val
    omega

/-- What the 32 trips leave in a result's block, each row by the trip that holds it. -/
def rowsOf {e : EltTy} (p : ℕ → Vec F Lanes e) : Vec F Blk e :=
  fun y => p ((y 0).val / 16) (ix2 (⟨(y 0).val % 16, Nat.mod_lt _ (by decide)⟩ : Fin 16) (y 1 : Fin 2048))

/-- A result's block whose rows before trip `k`'s are as the trips left them, the trip's own 16 rows stored, has its
    rows before trip `k + 1`'s as the trips left them. -/
theorem rows_step {e : EltTy} (M : Memref sig κ sp Blk e) (p : ℕ → Vec F Lanes e) {off : Fin 2 → ℕ} {k : ℕ} (ho : off = ![16 * k, 0])
    (inb : ∀ a : Fin 2, off a + Lanes.size a ≤ Blk.size a) (f : M.view.ty.Contents (Elt F))
    (hf : ∀ y : Blk.Idx, (y 0).val < 16 * k → M.view.read (Elt F) f y = rowsOf p y)
    (y : Blk.Idx) (hy : (y 0).val < 16 * (k + 1)) :
    M.view.read (Elt F) (M.view.writes (Elt F) f [⟨Rect.unit (s := Blk) off Lanes.size inb, p k⟩]) y = rowsOf p y := by
  by_cases h : (y 0).val < 16 * k
  · rw [View.read_writes_cons_rows_of_not_mem M.view f (o := 16 * k) (W := 16) _ _ [] y ho rfl (Or.inl h)]
    exact hf y h
  · have hd : (y 0).val / 16 = k := by omega
    refine (View.read_writes_cons_rows_of_mem M.view f (o := 16 * k) inb (p k) [] y
      (ix2 (⟨(y 0).val % 16, Nat.mod_lt _ (by decide)⟩ : Fin 16) (y 1 : Fin 2048)) ho ?_ rfl).trans ?_
    · show (y 0).val = 16 * k + (y 0).val % 16
      omega
    · unfold rowsOf; rw [hd]

end Cert.RowChunks

end
-- ==== Proof.HeadTrip.lean ====
/- One trip of the loop over a block's rows in the kernel of the loss and its gradient, and the loop: what the 16 rows of
   a trip leave in the two results' blocks and in the two accumulators. -/
module

public import proofs.«01_k».proof.Proof.Gen.HeadIdeal.Launch
public import proofs.«01_k».proof.Proof.Gen.HeadIdeal.Skeleton
public import proofs.«01_k».proof.Proof.RowChunks
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Ring
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.HeadIdeal.Value

open Cert.HeadIdeal Cert.HeadIdeal.Gen
open Cert.RowChunks (chunk rowsOf)

variable {F : FTy → Type} [FloatOps F]

local notation "𝕄" => MT nD τ sig Unit (Elt F) ℕ (UR sig nD τ) ℕ

/-- The loop makes 32 trips. -/
theorem trips_eq : k0_t1_loop.trips = 32 := by decide +kernel

/-- The rows of trip `k` begin at row `16 k`. -/
theorem off_eq (k : Fin k0_t1_loop.trips) : k0_off1 k = ![16 * k.val, 0] := by
  revert k; decide +kernel

/-- What the load of trip `k` reads of a block is the trip's rows. -/
theorem readAt_chunk (M : Memref sig .tc .vmem S512x2048 .f32) (hM : M.IsWhole) (x : Vec F S512x2048 .f32)
    (k : Fin k0_t1_loop.trips) :
    M.view.readAt (Elt F) (Rect.unit (s := S512x2048) (k0_off1 k) S16x2048.size (k0_off1_inb k)).toLoadRect (hM.unread x)
      = chunk x k.val :=
  RowChunks.readAt_chunk M hM x (off_eq k) (Nat.lt_of_lt_of_eq k.isLt trips_eq) _

/-- The gain's accumulator after `k` trips that began with `a`. -/
def accAfter (x0 : Vec F S512x2048 .f32) (x1 : Vec F S1x2048 .f32) (x2 : Vec F S512x2048 .f32) (a : Vec F S16x2048 .f32) : ℕ → Vec F S16x2048 .f32
  | 0 => a
  | k + 1 => k0_pay4 (k0_pay14 (k0_pay3 x1) (chunk x0 k) (chunk x2 k) (accAfter x0 x1 x2 a k))

/-- The loss's accumulator after `k` trips that began with `a`. -/
def lossAfter (x0 : Vec F S512x2048 .f32) (x1 : Vec F S1x2048 .f32) (x2 : Vec F S512x2048 .f32) (a : Vec F S16x1 .f32) : ℕ → Vec F S16x1 .f32
  | 0 => a
  | k + 1 => k0_pay5 (k0_pay10 (k0_pay3 x1) (chunk x0 k) (chunk x2 k)) (lossAfter x0 x1 x2 a k)

/-- The gradient of the rows of one block. -/
def outF (x0 : Vec F S512x2048 .f32) (x1 : Vec F S1x2048 .f32) (x2 : Vec F S512x2048 .f32) : Vec F S512x2048 .f32 :=
  rowsOf fun k => k0_pay12 (k0_pay3 x1) (chunk x0 k) (chunk x2 k)

/-- The same rounded to bf16. -/
def outB (x0 : Vec F S512x2048 .f32) (x1 : Vec F S1x2048 .f32) (x2 : Vec F S512x2048 .f32) : Vec F S512x2048 .bf16 :=
  rowsOf fun k => k0_pay13 (k0_pay3 x1) (chunk x0 k) (chunk x2 k)

/-- What the loop holds before trip `k`: the blocks it reads, the two results' blocks right in the rows of the trips
    before, and the two accumulators of the trips before. -/
def Inv (c : Dev nD) (arg1 : Memref sig .tc .vmem S512x2048 .f32) (harg1 : arg1.IsWhole) (arg3 : Memref sig .tc .vmem S512x2048 .f32) (harg3 : arg3.IsWhole)
    (arg4 : Memref sig .tc .vmem S512x2048 .f32) (arg5 : Memref sig .tc .vmem S512x2048 .bf16)
    (arg8 : Memref sig .tc .vmem S16x2048 .f32) (harg8 : arg8.IsWhole) (arg9 : Memref sig .tc .vmem S16x1 .f32) (harg9 : arg9.IsWhole)
    (x0 : Vec F S512x2048 .f32) (x1 : Vec F S1x2048 .f32) (x2 : Vec F S512x2048 .f32) (a : Vec F S16x2048 .f32) (b : Vec F S16x1 .f32) (k : ℕ) : sProp 𝕄 :=
  iprop((arg1.view.loc (c : Thread nD τ) ↦[arg1.view.set]{fullShare} harg1.unread x0)
    ∗ (arg3.view.loc (c : Thread nD τ) ↦[arg3.view.set]{fullShare} harg3.unread x2)
    ∗ (∃ f, (arg4.view.loc (c : Thread nD τ) ↦[arg4.view.set]{fullShare} f)
        ∗ ⌜∀ y : S512x2048.Idx, (y 0).val < 16 * k → arg4.view.read (Elt F) f y = outF x0 x1 x2 y⌝)
    ∗ (∃ f, (arg5.view.loc (c : Thread nD τ) ↦[arg5.view.set]{fullShare} f)
        ∗ ⌜∀ y : S512x2048.Idx, (y 0).val < 16 * k → arg5.view.read (Elt F) f y = outB x0 x1 x2 y⌝)
    ∗ (∃ f, (arg8.view.loc (c : Thread nD τ) ↦[arg8.view.set]{fullShare} f) ∗ ⌜f = harg8.unread (accAfter x0 x1 x2 a k)⌝)
    ∗ (∃ f, (arg9.view.loc (c : Thread nD τ) ↦[arg9.view.set]{fullShare} f) ∗ ⌜f = harg9.unread (lossAfter x0 x1 x2 b k)⌝))

/-- One trip takes what the loop holds before it to what the loop holds before the next. -/
theorem trip (𝒱 : Variants) (c : Dev nD) (bd : Option 𝒱.V) (E : Set ℕ) (i : grid0.Coords)
    (arg1 : Memref sig .tc .vmem S512x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1x1 .f32) (harg7 : arg7.IsWhole) (arg8 : Memref sig .tc .vmem S16x2048 .f32) (harg8 : arg8.IsWhole)
    (arg9 : Memref sig .tc .vmem S16x1 .f32) (harg9 : arg9.IsWhole)
    (x0 : Vec F S512x2048 .f32) (x1 : Vec F S1x2048 .f32) (x2 : Vec F S512x2048 .f32) (a : Vec F S16x2048 .f32) (b : Vec F S16x1 .f32) (k : Fin k0_t1_loop.trips) :
    Inv c arg1 harg1 arg3 harg3 arg4 arg5 arg8 harg8 arg9 harg9 x0 x1 x2 a b k.val
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 x1 k PUnit.unit)
          (fun _ => Inv c arg1 harg1 arg3 harg3 arg4 arg5 arg8 harg8 arg9 harg9 x0 x1 x2 a b (k.val + 1)) := by
  have hk : k.val < 32 := Nat.lt_of_lt_of_eq k.isLt trips_eq
  unfold k0_t1_body Inv
  iintro ⟨H1, H3, ⟨%f4, H4, %h4⟩, ⟨%f5, H5, %h5⟩, ⟨%f8, H8, %h8⟩, ⟨%f9, H9, %h9⟩⟩
  subst h8 h9
  sl_exec
  sl_step
  isplitl [H1]; · iexact H1
  isplitl [H3]; · iexact H3
  isplitl [H4]
  · iexists _; isplitl [H4]; · iexact H4
    ipureintro
    rw [readAt_chunk, readAt_chunk]
    exact RowChunks.rows_step arg4 (fun k => k0_pay12 (k0_pay3 x1) (chunk x0 k) (chunk x2 k)) (off_eq k) _ f4 h4
  isplitl [H5]
  · iexists _; isplitl [H5]; · iexact H5
    ipureintro
    rw [readAt_chunk, readAt_chunk]
    exact RowChunks.rows_step arg5 (fun k => k0_pay13 (k0_pay3 x1) (chunk x0 k) (chunk x2 k)) (off_eq k) _ f5 h5
  isplitl [H8]
  · iexists _; isplitl [H8]; · iexact H8
    ipureintro
    refine harg8.eq_unread ?_
    rw [View.read_writes_full]
    try unfold trip.sl.r
    try unfold trip.sl.r_1
    rw [readAt_chunk, readAt_chunk, View.readAt_full, harg8.read_unread]
    rfl
  iexists _; isplitl [H9]; · iexact H9
  ipureintro
  refine harg9.eq_unread ?_
  rw [View.read_writes_full]
  try unfold trip.sl.r
  try unfold trip.sl.r_1
  rw [readAt_chunk, readAt_chunk, View.readAt_full, harg9.read_unread]
  rfl

/-- THE LOOP: from the blocks it reads, the two results' blocks at any contents and the accumulators `a` and `b`, it ends
    with the results' blocks right in every row and the accumulators of all its trips. -/
theorem loop_bind (𝒱 : Variants) (c : Dev nD) (bd : Option 𝒱.V) (E : Set ℕ) (i : grid0.Coords)
    (arg1 : Memref sig .tc .vmem S512x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1x1 .f32) (harg7 : arg7.IsWhole) (arg8 : Memref sig .tc .vmem S16x2048 .f32) (harg8 : arg8.IsWhole)
    (arg9 : Memref sig .tc .vmem S16x1 .f32) (harg9 : arg9.IsWhole)
    (x0 : Vec F S512x2048 .f32) (x1 : Vec F S1x2048 .f32) (x2 : Vec F S512x2048 .f32) (a : Vec F S16x2048 .f32) (b : Vec F S16x1 .f32)
    (v : Vec F S1x2048 .f32) (hv : v = x1)
    {β : Type} (kk : Unit → Prog (TpuEff nD τ sig (Elt F) Λ₀ .tc) β) (Q : β → sProp 𝕄) :
    Inv c arg1 harg1 arg3 harg3 arg4 arg5 arg8 harg8 arg9 harg9 x0 x1 x2 a b 0
      ⊢ iprop((Inv c arg1 harg1 arg3 harg3 arg4 arg5 arg8 harg8 arg9 harg9 x0 x1 x2 a b 32
          -∗ wp frame (wpE (defs₀ (F := F)) 𝒱 (c : Thread nD τ) bd) E (kk PUnit.unit) Q)
        -∗ wp frame (wpE (defs₀ (F := F)) 𝒱 (c : Thread nD τ) bd) E
            (Scf.Loop.for k0_t1_loop k0_t1_ok PUnit.unit (k0_t1_body (F := F) i arg1 harg1 arg2 harg2 arg3 harg3 arg4 harg4 arg5 harg5 arg6 harg6 arg7 harg7 arg8 harg8 arg9 harg9 v) >>= kk) Q) := by
  subst hv
  iintro HI HK
  iapply (Scf.wp_for_bind frame (wpE (defs₀ (F := F)) 𝒱 (c : Thread nD τ) bd) E _ _ _ k0_t1_ok PUnit.unit _
    (fun k _ => Inv c arg1 harg1 arg3 harg3 arg4 arg5 arg8 harg8 arg9 harg9 x0 v x2 a b k)
    (fun k _ => trip 𝒱 c bd E i arg1 harg1 arg2 harg2 arg3 harg3 arg4 harg4 arg5 harg5 arg6 harg6 arg7 harg7 arg8 harg8 arg9 harg9 x0 v x2 a b k)) $$ [HI]
  · iexact HI
  iintro %u HI
  iapply HK
  rw [show Scf.trips k0_t1_loop.lb k0_t1_loop.ub k0_t1_loop.st = 32 from trips_eq]
  iexact HI

set_option maxHeartbeats 1000000 in
/-- THE BODY at a grid point. From the point's blocks and the accumulators `s` and `u` of the points before it (which the
    first point does not read), it leaves the two results' blocks, the accumulators of this point too and, at the last
    point alone, the gain's gradient and the loss. -/
theorem body (c : Dev nD) (E : Set ℕ) (i : grid0.Coords)
    (arg1 : Memref sig .tc .vmem S512x2048 .f32) (harg1 : arg1.IsWhole) (arg2 : Memref sig .tc .vmem S1x2048 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S1x1 .f32) (harg7 : arg7.IsWhole) (arg8 : Memref sig .tc .vmem S16x2048 .f32) (harg8 : arg8.IsWhole)
    (arg9 : Memref sig .tc .vmem S16x1 .f32) (harg9 : arg9.IsWhole)
    (x0 : Vec F S512x2048 .f32) (x1 : Vec F S1x2048 .f32) (x2 : Vec F S512x2048 .f32) (xi : Vec F S1x2048 .f32) (xj : Vec F S1x1 .f32)
    (s a : Vec F S16x2048 .f32) (u b : Vec F S16x1 .f32)
    (ha : a = if (Scalar.cmpi .ne (Scalar.extui (Scalar.cmpi .eq (BitVec.ofNat 32 (i 0).val) 0#32)) 0#32) = 1#1 then k0_pay1 else s) (hb : b = if (Scalar.cmpi .ne (Scalar.extui (Scalar.cmpi .eq (BitVec.ofNat 32 (i 0).val) 0#32)) 0#32) = 1#1 then k0_pay2 else u)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare xi ∗ owns (c : Thread nD τ) arg7 fullShare xj ∗ owns (c : Thread nD τ) arg8 fullShare s ∗ owns (c : Thread nD τ) arg9 fullShare u
        ∗ (iprop(owns (c : Thread nD τ) arg1 fullShare x0 ∗ owns (c : Thread nD τ) arg2 fullShare x1 ∗ owns (c : Thread nD τ) arg3 fullShare x2
            ∗ owns (c : Thread nD τ) arg4 fullShare (outF x0 x1 x2) ∗ owns (c : Thread nD τ) arg5 fullShare (outB x0 x1 x2)
            ∗ owns (c : Thread nD τ) arg6 fullShare (if k0_cond2 i = 1#1 then k0_pay6 (accAfter x0 x1 x2 a 32) else xi)
            ∗ owns (c : Thread nD τ) arg7 fullShare (if k0_cond2 i = 1#1 then k0_pay7 (lossAfter x0 x1 x2 b 32) else xj)
            ∗ owns (c : Thread nD τ) arg8 fullShare (accAfter x0 x1 x2 a 32)
            ∗ owns (c : Thread nD τ) arg9 fullShare (lossAfter x0 x1 x2 b 32)) -∗ K PUnit.unit))
      ⊢ wp frame (wpE (defs₀ (F := F)) Variants.none c none) E (cc0_loss_head i arg1 harg1 arg2 harg2 arg3 harg3 arg4 harg4 arg5 harg5 arg6 harg6 arg7 harg7 arg8 harg8 arg9 harg9) K := by
  simp only [cc0_loss_head_eq_skeleton]; unfold cc0_loss_head_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf1; obtain rfl := harg2.eq_unread hf2; obtain rfl := harg3.eq_unread hf3
  obtain rfl := harg6.eq_unread hf6; obtain rfl := harg7.eq_unread hf7; obtain rfl := harg8.eq_unread hf8; obtain rfl := harg9.eq_unread hf9
  by_cases h0 : (Scalar.cmpi .ne (Scalar.extui (Scalar.cmpi .eq (BitVec.ofNat 32 (i 0).val) 0#32)) 0#32) = 1#1 <;>
    by_cases h1 : k0_cond2 i = 1#1
  all_goals
    sl_exec (disch := first | sl_exact h0 | sl_exact h1)
    iapply (loop_bind Variants.none c none E i arg1 harg1 arg2 harg2 arg3 harg3 arg4 harg4 arg5 harg5 arg6 harg6 arg7 harg7 arg8 harg8 arg9 harg9 x0 x1 x2 a b _ ((View.readAt_full _ _ _).trans (harg2.read_unread _)) _ _) $$ [H1 H3 H4 H5 H8 H9]
    · unfold Inv
      isplitl [H1]; · iexact H1
      isplitl [H3]; · iexact H3
      isplitl [H4]
      · iexists _; isplitl [H4]; · iexact H4
        ipureintro; intro y hy; omega
      isplitl [H5]
      · iexists _; isplitl [H5]; · iexact H5
        ipureintro; intro y hy; omega
      isplitl [H8]
      · iexists _; isplitl [H8]; · iexact H8
        ipureintro
        first
          | exact harg8.eq_unread ((View.read_writes_full _ _ _ _ _).trans (ha.trans (if_pos h0)).symm)
          | exact harg8.eq_unread ((harg8.read_unread _).trans (ha.trans (if_neg h0)).symm)
      iexists _; isplitl [H9]; · iexact H9
      ipureintro
      first
        | exact harg9.eq_unread ((View.read_writes_full _ _ _ _ _).trans (hb.trans (if_pos h0)).symm)
        | exact harg9.eq_unread ((harg9.read_unread _).trans (hb.trans (if_neg h0)).symm)
    unfold Inv
    iintro ⟨H1, H3, ⟨%g4, H4, %h4⟩, ⟨%g5, H5, %h5⟩, ⟨%g8, H8, %h8⟩, ⟨%g9, H9, %h9⟩⟩
    subst h8 h9
    sl_exec (disch := first | sl_exact h0 | sl_exact h1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; exact funext fun y => h4 y (y 0).isLt
    isplitl [H5]
    · iexists _; isplitr
      swap; · iexact H5
      ipureintro; exact funext fun y => h5 y (y 0).isLt
    isplitl [H6]
    · iexists _; isplitr
      swap; · iexact H6
      ipureintro
      first
        | rw [if_pos h1, View.read_writes_full, View.readAt_full, harg8.read_unread]
        | rw [if_neg h1]; exact hf6
    isplitl [H7]
    · iexists _; isplitr
      swap; · iexact H7
      ipureintro
      first
        | rw [if_pos h1, View.read_writes_full, View.readAt_full, harg9.read_unread]
        | rw [if_neg h1]; exact hf7
    isplitl [H8]
    · iexists _; isplitr
      swap; · iexact H8
      ipureintro; exact harg8.read_unread _
    iexists _; isplitr
    swap; · iexact H9
    ipureintro; exact harg9.read_unread _

end Cert.HeadIdeal.Value

end
-- ==== Proof.HeadFrame.lean ====
/- The run and the frame of the kernel of the loss and its gradient: what each window's buffer holds after each of
   the four grid points, and @main's run from it. -/
module

public import proofs.«01_k».proof.Proof.Gen.HeadIdeal.Frame.Runs
public import proofs.«01_k».proof.Proof.HeadTrip
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.HeadIdeal.Value

open Cert.HeadIdeal Cert.HeadIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three input blocks of a grid point: the rows, the gain, the target. -/
abbrev rowB (c : Dev nD) (t : Fin cfg0.N) : Vec F S512x2048 .f32 := iblk m c 0 t
abbrev wgtB (c : Dev nD) (t : Fin cfg0.N) : Vec F S1x2048 .f32 := iblk m c 1 t
abbrev tgtB (c : Dev nD) (t : Fin cfg0.N) : Vec F S512x2048 .f32 := iblk m c 2 t

/-- The gain's accumulator after point `n`: zeroed at the first point, carried from one point to the next. -/
def accAt (c : Dev nD) : (n : ℕ) → n < cfg0.N → Vec F S16x2048 .f32
  | 0, h => accAfter (rowB m c ⟨0, h⟩) (wgtB m c ⟨0, h⟩) (tgtB m c ⟨0, h⟩) k0_pay1 32
  | n + 1, h => accAfter (rowB m c ⟨n + 1, h⟩) (wgtB m c ⟨n + 1, h⟩) (tgtB m c ⟨n + 1, h⟩) (accAt c n (Nat.lt_of_succ_lt h)) 32

/-- The loss's accumulator after point `n`, likewise. -/
def lossAt (c : Dev nD) : (n : ℕ) → n < cfg0.N → Vec F S16x1 .f32
  | 0, h => lossAfter (rowB m c ⟨0, h⟩) (wgtB m c ⟨0, h⟩) (tgtB m c ⟨0, h⟩) k0_pay2 32
  | n + 1, h => lossAfter (rowB m c ⟨n + 1, h⟩) (wgtB m c ⟨n + 1, h⟩) (tgtB m c ⟨n + 1, h⟩) (lossAt c n (Nat.lt_of_succ_lt h)) 32

/-- What the accumulators' scratch holds before point `n`: anything before the first, afterwards `accAt` and `lossAt`. -/
def PhiS (c : Dev nD) : (n : ℕ) → n ≤ cfg0.N → sProp 𝕄
  | 0, _ => Pipeline.ΦA spec0 c
  | n + 1, h => iprop(iprop(owns (c : Thread nD τ) scM0_0 fullShare (accAt m c n h)
      ∗ owns (c : Thread nD τ) scM0_1 fullShare (lossAt m c n h)) ∗ (∃ r, prngReg c r))

/-- The launch's proof data: each input's buffer keeps its block; the results' buffers end each point at `outF`, `outB` and,
    written back at the last point alone, the accumulators' column sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outF (rowB m c t) (wgtB m c t) (tgtB m c t)
    | ⟨4, _⟩ => outB (rowB m c t) (wgtB m c t) (tgtB m c t)
    | ⟨5, _⟩ => k0_pay6 (accAt m c t.val t.isLt)
    | ⟨6, _⟩ => k0_pay7 (lossAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outF (rowB m c t) (wgtB m c t) (tgtB m c t) := by dsimp only [dats]
theorem after0_4 (c : Dev nD) (t : Fin cfg0.N) : (dats m 0 c).after 4 t = outB (rowB m c t) (wgtB m c t) (tgtB m c t) := by dsimp only [dats]
theorem after0_5 (c : Dev nD) (t : Fin cfg0.N) : (dats m 0 c).after 5 t = k0_pay6 (accAt m c t.val t.isLt) := by dsimp only [dats]
theorem after0_6 (c : Dev nD) (t : Fin cfg0.N) : (dats m 0 c).after 6 t = k0_pay7 (lossAt m c t.val t.isLt) := by dsimp only [dats]

/-- Before its body a grid point finds each input's block in the input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Output 5's buffer: written at the last point, untouched before it. -/
theorem gain_out (c : Dev nD) (t : Fin cfg0.N) (d : Vec F S1x2048 .f32) :
    (owns (c : Thread nD τ) (ms0_5 t) fullShare
        (if k0_cond2 (grid0.coords t) = 1#1 then k0_pay6 (accAt m c t.val t.isLt) else (dats m 0 c).before 5 t d) : sProp 𝕄)
      ⊢ (dats m 0 c).leavesExact 5 t := by
  have hN : t.val < 4 := lt_of_lt_of_eq t.isLt (show cfg0.N = 4 from N_0)
  by_cases h1 : t.val % 4 = 3
  · have h0 : ¬ t.val % 4 = 0 := by omega
    rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5,
      if_pos ((hcond0_1 t).mpr h1)]
  · rw [if_neg (fun h => h1 ((hcond0_1 t).mp h))]
    by_cases h0 : t.val % 4 = 0
    · rw [Dat.leavesExact_idle (dats m 0 c) 5 t (idleAt0_5_A t ((hcond0_0 t).mpr h0) (fun h => h1 ((hcond0_1 t).mp h)))
        (noFlush0_5_A t ((hcond0_0 t).mpr h0) (fun h => h1 ((hcond0_1 t).mp h)))]
      iintro H; iexists _; iexact H
    · rw [Dat.leavesExact_idle (dats m 0 c) 5 t (idleAt0_5_B t (fun h => h0 ((hcond0_0 t).mp h)) (fun h => h1 ((hcond0_1 t).mp h)))
        (noFlush0_5_B t (fun h => h0 ((hcond0_0 t).mp h)) (fun h => h1 ((hcond0_1 t).mp h)))]
      iintro H; iexists _; iexact H

/-- Output 6's buffer: written at the last point, untouched before it. -/
theorem loss_out (c : Dev nD) (t : Fin cfg0.N) (d : Vec F S1x1 .f32) :
    (owns (c : Thread nD τ) (ms0_6 t) fullShare
        (if k0_cond2 (grid0.coords t) = 1#1 then k0_pay7 (lossAt m c t.val t.isLt) else (dats m 0 c).before 6 t d) : sProp 𝕄)
      ⊢ (dats m 0 c).leavesExact 6 t := by
  have hN : t.val < 4 := lt_of_lt_of_eq t.isLt (show cfg0.N = 4 from N_0)
  by_cases h1 : t.val % 4 = 3
  · have h0 : ¬ t.val % 4 = 0 := by omega
    rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6,
      if_pos ((hcond0_1 t).mpr h1)]
  · rw [if_neg (fun h => h1 ((hcond0_1 t).mp h))]
    by_cases h0 : t.val % 4 = 0
    · rw [Dat.leavesExact_idle (dats m 0 c) 6 t (idleAt0_6_A t ((hcond0_0 t).mpr h0) (fun h => h1 ((hcond0_1 t).mp h)))
        (noFlush0_6_A t ((hcond0_0 t).mpr h0) (fun h => h1 ((hcond0_1 t).mp h)))]
      iintro H; iexists _; iexact H
    · rw [Dat.leavesExact_idle (dats m 0 c) 6 t (idleAt0_6_B t (fun h => h0 ((hcond0_0 t).mp h)) (fun h => h1 ((hcond0_1 t).mp h)))
        (noFlush0_6_B t (fun h => h0 ((hcond0_0 t).mp h)) (fun h => h1 ((hcond0_1 t).mp h)))]
      iintro H; iexists _; iexact H

/-- The invariant before any point hands the accumulators' scratch at some contents, of which the point's accumulations
    are functions. -/
theorem PhiS_split (c : Dev nD) (t : Fin cfg0.N) :
    PhiS m c t.val (Nat.le_of_lt t.isLt) ⊢ iprop((∃ (s : Vec F S16x2048 .f32) (u : Vec F S16x1 .f32),
        owns (c : Thread nD τ) scM0_0 fullShare s ∗ owns (c : Thread nD τ) scM0_1 fullShare u
        ∗ ⌜accAt m c t.val t.isLt = accAfter (rowB m c t) (wgtB m c t) (tgtB m c t) (if cond0_0 (grid0.coords t) then k0_pay1 else s) 32
            ∧ lossAt m c t.val t.isLt = lossAfter (rowB m c t) (wgtB m c t) (tgtB m c t) (if cond0_0 (grid0.coords t) then k0_pay2 else u) 32⌝)
      ∗ (∃ r, prngReg c r)) := by
  obtain ⟨n, hn⟩ := t
  cases n with
  | zero =>
    show Pipeline.ΦA spec0 c ⊢ _
    rw [PhiA0_eq]
    iintro ⟨⟨⟨%s, H⟩, ⟨%u, H'⟩⟩, Hg⟩
    isplitl [H H']
    · iexists s; iexists u; isplitl [H]; · iexact H
      isplitl [H']; · iexact H'
      ipureintro
      rw [if_pos ((hcond0_0 ⟨0, hn⟩).mpr (Nat.zero_mod _)), if_pos ((hcond0_0 ⟨0, hn⟩).mpr (Nat.zero_mod _))]
      exact ⟨rfl, rfl⟩
    iexact Hg
  | succ n =>
    have hN : n + 1 < 4 := lt_of_lt_of_eq hn (show cfg0.N = 4 from N_0)
    have h0 : ¬ cond0_0 (grid0.coords ⟨n + 1, hn⟩) := fun h => by
      have := (hcond0_0 ⟨n + 1, hn⟩).mp h; dsimp only at this; omega
    show iprop(iprop(owns (c : Thread nD τ) scM0_0 fullShare (accAt m c n (Nat.lt_of_succ_lt hn))
      ∗ owns (c : Thread nD τ) scM0_1 fullShare (lossAt m c n (Nat.lt_of_succ_lt hn))) ∗ (∃ r, prngReg c r)) ⊢ _
    iintro ⟨⟨H, H'⟩, Hg⟩
    isplitl [H H']
    · iexists _; iexists _; isplitl [H]; · iexact H
      isplitl [H']; · iexact H'
      ipureintro
      rw [if_neg h0, if_neg h0]
      exact ⟨rfl, rfl⟩
    iexact Hg

set_option maxHeartbeats 2000000 in
/-- THE BODY AT ANY POINT meets the launch's proof data. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t
        ∗ (dats m 0 c).leavesExact 5 t ∗ (dats m 0 c).leavesExact 6 t)) := by
  unfold bodyAt0
  simp only [before0_0, before0_1, before0_2]
  rw [show (dats m 0 c).owesAt () t.succ = (dats m 0 c).owesAt () t.castSucc from rfl]
  rw [show (dats m 0 c).Φ t.succ = iprop(iprop(owns (c : Thread nD τ) scM0_0 fullShare (accAt m c t.val t.isLt)
      ∗ owns (c : Thread nD τ) scM0_1 fullShare (lossAt m c t.val t.isLt)) ∗ (∃ r, prngReg c r)) from rfl]
  rw [show (dats m 0 c).Φ t.castSucc = PhiS m c t.val (Nat.le_of_lt t.isLt) from by
    dsimp only [dats]; exact Pipeline.Dat.Φ_castSucc (PhiS m c) t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  iintro ⟨HS, Ho, ⟨%d0, H0⟩, ⟨%d1, H1⟩, ⟨%d2, H2⟩, ⟨%d3, H3⟩, ⟨%d4, H4⟩, ⟨%d5, H5⟩, ⟨%d6, H6⟩⟩
  ihave HS' := (PhiS_split m c t) $$ HS
  icases HS' with ⟨⟨%s, %u, HS, HU, %hs⟩, Hg⟩
  iapply (body c Set.univ (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    scM0_1 (Memref.isWhole_whole _) (iblk m c 0 t) (iblk m c 1 t) (iblk m c 2 t) _ _ s _ u _ rfl rfl _)
  rw [← hs.1, ← hs.2]
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexact H6
  isplitl [HS]; · iexact HS
  isplitl [HU]; · iexact HU
  iintro ⟨H0, H1, H2, H3, H4, H5, H6, HS, HU⟩
  isplitl [HS HU Hg]
  · isplitl [HS HU]
    · isplitl [HS]; · iexact HS
      iexact HU
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (gain_out m c t d5); iexact H5
  iapply (loss_out m c t d6); iexact H6

/-- The launch's obligation for the body, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

/-- What the launch hands the pipeline is the invariant before the first point. -/
theorem hin (c : Dev nD) : Pipeline.ΦA spec0 c ⊢ (dats m 0 c).Φ 0 := by
  rw [show (dats m 0 c).Φ 0 = Pipeline.ΦA spec0 c from rfl]

/-- After the last point the invariant gives it back, the accumulators' contents forgotten. -/
theorem hout (c : Dev nD) : (dats m 0 c).Φ (Fin.last cfg0.N) ⊢ Pipeline.ΦA spec0 c := by
  have hN : cfg0.N = 3 + 1 := N_0
  rw [show (dats m 0 c).Φ (Fin.last cfg0.N) = PhiS m c (3 + 1) (by omega) from by
    dsimp only [dats]; simp only [Fin.val_last]; congr 1, PhiA0_eq]
  show iprop(iprop(owns (c : Thread nD τ) scM0_0 fullShare (accAt m c 3 (by omega))
    ∗ owns (c : Thread nD τ) scM0_1 fullShare (lossAt m c 3 (by omega))) ∗ (∃ r, prngReg c r)) ⊢ _
  iintro ⟨⟨HS, HU⟩, Hg⟩
  isplitl [HS HU]
  · isplitl [HS]
    · iexists _; iexact HS
    iexists _; iexact HU
  iexact Hg

set_option backward.isDefEq.respectTransparency.types false in
/-- @main ends, nothing faulting, with every array of the pipeline at what the proof data say and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- THE FRAME: @main ends, nothing faulting, its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.HeadIdeal.Value

end
-- ==== Proof.NormTrip.lean ====
/- One trip of the loop over a block's rows in the kernel of the normalisation's gradient, and the loop: what the
   16 rows of a trip leave in the two results' blocks and in the accumulator. -/
module

public import proofs.«01_k».proof.Proof.Gen.NormIdeal.Launch
public import proofs.«01_k».proof.Proof.Gen.NormIdeal.Skeleton
public import proofs.«01_k».proof.Proof.RowChunks
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Ring
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

namespace Cert.NormIdeal.Value

open Cert.NormIdeal Cert.NormIdeal.Gen

variable {F : FTy → Type} [FloatOps F]

local notation "𝕄" => MT nD τ sig Unit (Elt F) ℕ (UR sig nD τ) ℕ

/-- The loop makes 32 trips. -/
theorem trips_eq : k0_t1_loop.trips = 32 := by decide +kernel

/-- The rows of trip `k` begin at row `16 k`. -/
theorem off_eq (k : Fin k0_t1_loop.trips) : k0_off1 k = ![16 * k.val, 0] := by
  revert k; decide +kernel

open Cert.RowChunks (chunk rowsOf)

/-- What the load of trip `k` reads of a block is the trip's rows. -/
theorem readAt_chunk (M : Memref sig .tc .vmem S512x2048 .f32) (hM : M.IsWhole) (x : Vec F S512x2048 .f32)
    (k : Fin k0_t1_loop.trips) :
    M.view.readAt (Elt F) (Rect.unit (s := S512x2048) (k0_off1 k) S16x2048.size (k0_off1_inb k)).toLoadRect (hM.unread x)
      = chunk x k.val :=
  RowChunks.readAt_chunk M hM x (off_eq k) (Nat.lt_of_lt_of_eq k.isLt trips_eq) _

/-- The accumulator after `k` trips that began with `a`. -/
def accAfter (x0 x1 : Vec F S512x2048 .f32) (a : Vec F S16x2048 .f32) : ℕ → Vec F S16x2048 .f32
  | 0 => a
  | k + 1 => k0_pay8 (chunk x1 k) (chunk x0 k) (accAfter x0 x1 a k)

/-- The gradient with respect to the normalisation's input, of one block. -/
def outF (x0 x1 : Vec F S512x2048 .f32) (v3 : Vec F S1x2048 .f32) (x3 : Vec F S512x2048 .f32) : Vec F S512x2048 .f32 :=
  rowsOf fun k => k0_pay6 (k0_pay2 v3) (chunk x1 k) (chunk x0 k) (chunk x3 k)

/-- The same rounded to bf16. -/
def outB (x0 x1 : Vec F S512x2048 .f32) (v3 : Vec F S1x2048 .f32) (x3 : Vec F S512x2048 .f32) : Vec F S512x2048 .bf16 :=
  rowsOf fun k => k0_pay7 (k0_pay2 v3) (chunk x1 k) (chunk x0 k) (chunk x3 k)

/-- What the loop holds before trip `k`: the blocks it reads, the two results' blocks right in the rows of the trips
    before, and the accumulator of the trips before. -/
def Inv (c : Dev nD) (arg1 : Memref sig .tc .vmem S512x2048 .f32) (harg1 : arg1.IsWhole) (arg2 : Memref sig .tc .vmem S512x2048 .f32) (harg2 : arg2.IsWhole)
    (arg4 : Memref sig .tc .vmem S512x2048 .f32) (harg4 : arg4.IsWhole)
    (arg5 : Memref sig .tc .vmem S512x2048 .f32) (arg6 : Memref sig .tc .vmem S512x2048 .bf16)
    (arg8 : Memref sig .tc .vmem S16x2048 .f32) (harg8 : arg8.IsWhole)
    (v3 : Vec F S1x2048 .f32) (x0 x1 x3 : Vec F S512x2048 .f32) (a : Vec F S16x2048 .f32) (k : ℕ) : sProp 𝕄 :=
  iprop((arg1.view.loc (c : Thread nD τ) ↦[arg1.view.set]{fullShare} harg1.unread x0) ∗ (arg2.view.loc (c : Thread nD τ) ↦[arg2.view.set]{fullShare} harg2.unread x1)
    ∗ (arg4.view.loc (c : Thread nD τ) ↦[arg4.view.set]{fullShare} harg4.unread x3)
    ∗ (∃ f, (arg5.view.loc (c : Thread nD τ) ↦[arg5.view.set]{fullShare} f)
        ∗ ⌜∀ y : S512x2048.Idx, (y 0).val < 16 * k → arg5.view.read (Elt F) f y = outF x0 x1 v3 x3 y⌝)
    ∗ (∃ f, (arg6.view.loc (c : Thread nD τ) ↦[arg6.view.set]{fullShare} f)
        ∗ ⌜∀ y : S512x2048.Idx, (y 0).val < 16 * k → arg6.view.read (Elt F) f y = outB x0 x1 v3 x3 y⌝)
    ∗ (∃ f, (arg8.view.loc (c : Thread nD τ) ↦[arg8.view.set]{fullShare} f) ∗ ⌜f = harg8.unread (accAfter x0 x1 a k)⌝))

/-- One trip takes what the loop holds before it to what the loop holds before the next. -/
theorem trip (𝒱 : Variants) (c : Dev nD) (bd : Option 𝒱.V) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S16x2048 .f32) (harg8 : arg8.IsWhole)
    (v3 : Vec F S1x2048 .f32) (x0 x1 x3 : Vec F S512x2048 .f32) (a : Vec F S16x2048 .f32) (k : Fin k0_t1_loop.trips) :
    Inv c arg1 harg1 arg2 harg2 arg4 harg4 arg5 arg6 arg8 harg8 v3 x0 x1 x3 a k.val
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 v3 k PUnit.unit)
          (fun _ => Inv c arg1 harg1 arg2 harg2 arg4 harg4 arg5 arg6 arg8 harg8 v3 x0 x1 x3 a (k.val + 1)) := by
  have hk : k.val < 32 := Nat.lt_of_lt_of_eq k.isLt trips_eq
  unfold k0_t1_body Inv
  iintro ⟨H1, H2, H4, ⟨%f5, H5, %h5⟩, ⟨%f6, H6, %h6⟩, ⟨%f8, H8, %h8⟩⟩
  subst h8
  sl_exec
  sl_step
  isplitl [H1]; · iexact H1
  isplitl [H2]; · iexact H2
  isplitl [H4]; · iexact H4
  isplitl [H5]
  · iexists _; isplitl [H5]; · iexact H5
    ipureintro
    rw [readAt_chunk, readAt_chunk, readAt_chunk]
    exact RowChunks.rows_step arg5 (fun k => k0_pay6 (k0_pay2 v3) (chunk x1 k) (chunk x0 k) (chunk x3 k)) (off_eq k) _ f5 h5
  isplitl [H6]
  · iexists _; isplitl [H6]; · iexact H6
    ipureintro
    rw [readAt_chunk, readAt_chunk, readAt_chunk]
    exact RowChunks.rows_step arg6 (fun k => k0_pay7 (k0_pay2 v3) (chunk x1 k) (chunk x0 k) (chunk x3 k)) (off_eq k) _ f6 h6
  iexists _; isplitl [H8]; · iexact H8
  ipureintro
  refine harg8.eq_unread ?_
  rw [View.read_writes_full]
  unfold trip.sl.r
  rw [readAt_chunk, readAt_chunk, View.readAt_full, harg8.read_unread]
  rfl

/-- THE LOOP: from the blocks it reads, the two results' blocks at any contents and the accumulator `a`, it ends with
    the results' blocks right in every row and the accumulator of all its trips. -/
theorem loop_bind (𝒱 : Variants) (c : Dev nD) (bd : Option 𝒱.V) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S16x2048 .f32) (harg8 : arg8.IsWhole)
    (v3 : Vec F S1x2048 .f32) (x0 x1 x3 : Vec F S512x2048 .f32) (a : Vec F S16x2048 .f32)
    {β : Type} (kk : Unit → Prog (TpuEff nD τ sig (Elt F) Λ₀ .tc) β) (Q : β → sProp 𝕄) :
    Inv c arg1 harg1 arg2 harg2 arg4 harg4 arg5 arg6 arg8 harg8 v3 x0 x1 x3 a 0
      ⊢ iprop((Inv c arg1 harg1 arg2 harg2 arg4 harg4 arg5 arg6 arg8 harg8 v3 x0 x1 x3 a 32
          -∗ wp frame (wpE (defs₀ (F := F)) 𝒱 (c : Thread nD τ) bd) E (kk PUnit.unit) Q)
        -∗ wp frame (wpE (defs₀ (F := F)) 𝒱 (c : Thread nD τ) bd) E
            (Scf.Loop.for k0_t1_loop k0_t1_ok PUnit.unit (k0_t1_body (F := F) i arg1 harg1 arg2 harg2 arg3 harg3 arg4 harg4 arg5 harg5 arg6 harg6 arg7 harg7 arg8 harg8 v3) >>= kk) Q) := by
  iintro HI HK
  iapply (Scf.wp_for_bind frame (wpE (defs₀ (F := F)) 𝒱 (c : Thread nD τ) bd) E _ _ _ k0_t1_ok PUnit.unit _
    (fun k _ => Inv c arg1 harg1 arg2 harg2 arg4 harg4 arg5 arg6 arg8 harg8 v3 x0 x1 x3 a k)
    (fun k _ => trip 𝒱 c bd E i arg1 harg1 arg2 harg2 arg3 harg3 arg4 harg4 arg5 harg5 arg6 harg6 arg7 harg7 arg8 harg8 v3 x0 x1 x3 a k)) $$ [HI]
  · iexact HI
  iintro %u HI
  iapply HK
  rw [show Scf.trips k0_t1_loop.lb k0_t1_loop.ub k0_t1_loop.st = 32 from trips_eq]
  iexact HI

set_option maxHeartbeats 1000000 in
/-- THE BODY at a grid point. From the point's blocks and the accumulator `s` of the points before it (which the first
    point does not read), it leaves the two results' blocks, the accumulator of this point too and, at the last point
    alone, the third result's block. -/
theorem body (c : Dev nD) (E : Set ℕ) (i : grid0.Coords)
    (arg1 : Memref sig .tc .vmem S512x2048 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S512x2048 .f32) (harg4 : arg4.IsWhole)
    (arg5 : Memref sig .tc .vmem S512x2048 .f32) (harg5 : arg5.IsWhole) (arg6 : Memref sig .tc .vmem S512x2048 .bf16) (harg6 : arg6.IsWhole)
    (arg7 : Memref sig .tc .vmem S1x2048 .f32) (harg7 : arg7.IsWhole) (arg8 : Memref sig .tc .vmem S16x2048 .f32) (harg8 : arg8.IsWhole)
    (x0 x1 : Vec F S512x2048 .f32) (x2 : Vec F S1x2048 .f32) (x3 : Vec F S512x2048 .f32) (xi : Vec F S1x2048 .f32) (s a : Vec F S16x2048 .f32)
    (ha : a = if (Scalar.cmpi .ne (Scalar.extui (Scalar.cmpi .eq (BitVec.ofNat 32 (i 0).val) 0#32)) 0#32) = 1#1 then k0_pay1 else s)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ owns (c : Thread nD τ) arg7 fullShare xi ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outF x0 x1 x2 x3)
            ∗ owns (c : Thread nD τ) arg6 fullShare (outB x0 x1 x2 x3)
            ∗ owns (c : Thread nD τ) arg7 fullShare (if k0_cond2 i = 1#1 then k0_pay3 (accAfter x0 x1 a 32) else xi)
            ∗ owns (c : Thread nD τ) arg8 fullShare (accAfter x0 x1 a 32)) -∗ K PUnit.unit))
      ⊢ wp frame (wpE (defs₀ (F := F)) Variants.none c none) E (cc0_norm_bwd i arg1 harg1 arg2 harg2 arg3 harg3 arg4 harg4 arg5 harg5 arg6 harg6 arg7 harg7 arg8 harg8) K := by
  simp only [cc0_norm_bwd_eq_skeleton]; unfold cc0_norm_bwd_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg7.eq_unread hf7; obtain rfl := harg8.eq_unread hf8
  by_cases h0 : (Scalar.cmpi .ne (Scalar.extui (Scalar.cmpi .eq (BitVec.ofNat 32 (i 0).val) 0#32)) 0#32) = 1#1 <;>
    by_cases h1 : k0_cond2 i = 1#1
  all_goals
    sl_exec (disch := first | sl_exact h0 | sl_exact h1)
    iapply (loop_bind Variants.none c none E i arg1 harg1 arg2 harg2 arg3 harg3 arg4 harg4 arg5 harg5 arg6 harg6 arg7 harg7 arg8 harg8 _ x0 x1 x3 a _ _) $$ [H1 H2 H4 H5 H6 H8]
    · unfold Inv
      isplitl [H1]; · iexact H1
      isplitl [H2]; · iexact H2
      isplitl [H4]; · iexact H4
      isplitl [H5]
      · iexists _; isplitl [H5]; · iexact H5
        ipureintro; intro y hy; omega
      isplitl [H6]
      · iexists _; isplitl [H6]; · iexact H6
        ipureintro; intro y hy; omega
      iexists _; isplitl [H8]; · iexact H8
      ipureintro
      first
        | exact harg8.eq_unread ((View.read_writes_full _ _ _ _ _).trans (ha.trans (if_pos h0)).symm)
        | exact harg8.eq_unread ((harg8.read_unread _).trans (ha.trans (if_neg h0)).symm)
    unfold Inv
    iintro ⟨H1, H2, H4, ⟨%g5, H5, %h5⟩, ⟨%g6, H6, %h6⟩, ⟨%g8, H8, %h8⟩⟩
    subst h8
    sl_exec (disch := first | sl_exact h0 | sl_exact h1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; rw [View.readAt_full, harg3.read_unread] at h5; exact funext fun y => h5 y (y 0).isLt
    isplitl [H6]
    · iexists _; isplitr
      swap; · iexact H6
      ipureintro; rw [View.readAt_full, harg3.read_unread] at h6; exact funext fun y => h6 y (y 0).isLt
    isplitl [H7]
    · iexists _; isplitr
      swap; · iexact H7
      ipureintro
      first
        | rw [if_pos h1, View.read_writes_full, View.readAt_full, harg8.read_unread]
        | rw [if_neg h1]; exact hf7
    iexists _; isplitr
    swap; · iexact H8
    ipureintro; exact harg8.read_unread _

end Cert.NormIdeal.Value

end
-- ==== Proof.NormFrame.lean ====
/- The run and the frame of the kernel of the normalisation's gradient: what each window's buffer holds after each of
   the four grid points, and @main's run from it. -/
module

public import proofs.«01_k».proof.Proof.Gen.NormIdeal.Frame.Runs
public import proofs.«01_k».proof.Proof.NormTrip
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.NormIdeal.Value

open Cert.NormIdeal Cert.NormIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four input blocks of a grid point: the cotangent, the rows, the weight, the gradient that is added. -/
abbrev cotB (c : Dev nD) (t : Fin cfg0.N) : Vec F S512x2048 .f32 := iblk m c 0 t
abbrev rowB (c : Dev nD) (t : Fin cfg0.N) : Vec F S512x2048 .f32 := iblk m c 1 t
abbrev wgtB (c : Dev nD) (t : Fin cfg0.N) : Vec F S1x2048 .f32 := iblk m c 2 t
abbrev resB (c : Dev nD) (t : Fin cfg0.N) : Vec F S512x2048 .f32 := iblk m c 3 t

/-- The accumulator after point `n`: zeroed at the first point, carried from one point to the next. -/
def accAt (c : Dev nD) : (n : ℕ) → n < cfg0.N → Vec F S16x2048 .f32
  | 0, h => accAfter (cotB m c ⟨0, h⟩) (rowB m c ⟨0, h⟩) k0_pay1 32
  | n + 1, h => accAfter (cotB m c ⟨n + 1, h⟩) (rowB m c ⟨n + 1, h⟩) (accAt c n (Nat.lt_of_succ_lt h)) 32

/-- What the accumulator's scratch holds before point `n`: anything before the first, afterwards `accAt`. -/
def PhiS (c : Dev nD) : (n : ℕ) → n ≤ cfg0.N → sProp 𝕄
  | 0, _ => Pipeline.ΦA spec0 c
  | n + 1, h => iprop(owns (c : Thread nD τ) scM0_0 fullShare (accAt m c n h) ∗ (∃ r, prngReg c r))

/-- The launch's proof data: each input's buffer keeps its block; the results' buffers end each point at `outF`, `outB` and,
    written back at the last point alone, the accumulator's column sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outF (cotB m c t) (rowB m c t) (wgtB m c t) (resB m c t)
    | ⟨5, _⟩ => outB (cotB m c t) (rowB m c t) (wgtB m c t) (resB m c t)
    | ⟨6, _⟩ => k0_pay3 (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outF (cotB m c t) (rowB m c t) (wgtB m c t) (resB m c t) := by dsimp only [dats]
theorem after0_5 (c : Dev nD) (t : Fin cfg0.N) :
    (dats m 0 c).after 5 t = outB (cotB m c t) (rowB m c t) (wgtB m c t) (resB m c t) := by dsimp only [dats]
theorem after0_6 (c : Dev nD) (t : Fin cfg0.N) : (dats m 0 c).after 6 t = k0_pay3 (accAt m c t.val t.isLt) := by dsimp only [dats]

/-- Before its body a grid point finds each input's block in the input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 6's buffer: written at the last point, untouched before it. -/
theorem third (c : Dev nD) (t : Fin cfg0.N) (d : Vec F S1x2048 .f32) :
    (owns (c : Thread nD τ) (ms0_6 t) fullShare
        (if k0_cond2 (grid0.coords t) = 1#1 then k0_pay3 (accAt m c t.val t.isLt) else (dats m 0 c).before 6 t d) : sProp 𝕄)
      ⊢ (dats m 0 c).leavesExact 6 t := by
  have hN : t.val < 4 := lt_of_lt_of_eq t.isLt (show cfg0.N = 4 from N_0)
  by_cases h1 : t.val % 4 = 3
  · have h0 : ¬ t.val % 4 = 0 := by omega
    rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6,
      if_pos ((hcond0_1 t).mpr h1)]
  · rw [if_neg (fun h => h1 ((hcond0_1 t).mp h))]
    by_cases h0 : t.val % 4 = 0
    · rw [Dat.leavesExact_idle (dats m 0 c) 6 t (idleAt0_6_A t ((hcond0_0 t).mpr h0) (fun h => h1 ((hcond0_1 t).mp h)))
        (noFlush0_6_A t ((hcond0_0 t).mpr h0) (fun h => h1 ((hcond0_1 t).mp h)))]
      iintro H; iexists _; iexact H
    · rw [Dat.leavesExact_idle (dats m 0 c) 6 t (idleAt0_6_B t (fun h => h0 ((hcond0_0 t).mp h)) (fun h => h1 ((hcond0_1 t).mp h)))
        (noFlush0_6_B t (fun h => h0 ((hcond0_0 t).mp h)) (fun h => h1 ((hcond0_1 t).mp h)))]
      iintro H; iexists _; iexact H

/-- The invariant before any point hands the accumulator's scratch at some contents `s`, of which the point's accumulation
    is a function. -/
theorem PhiS_split (c : Dev nD) (t : Fin cfg0.N) :
    PhiS m c t.val (Nat.le_of_lt t.isLt) ⊢ iprop((∃ s : Vec F S16x2048 .f32, owns (c : Thread nD τ) scM0_0 fullShare s
        ∗ ⌜accAt m c t.val t.isLt = accAfter (cotB m c t) (rowB m c t) (if cond0_0 (grid0.coords t) then k0_pay1 else s) 32⌝)
      ∗ (∃ r, prngReg c r)) := by
  obtain ⟨n, hn⟩ := t
  cases n with
  | zero =>
    show Pipeline.ΦA spec0 c ⊢ _
    rw [PhiA0_eq]
    iintro ⟨⟨%s, H⟩, Hg⟩
    isplitl [H]
    · iexists s; isplitl [H]; · iexact H
      ipureintro
      rw [if_pos ((hcond0_0 ⟨0, hn⟩).mpr (Nat.zero_mod _))]; rfl
    iexact Hg
  | succ n =>
    have hN : n + 1 < 4 := lt_of_lt_of_eq hn (show cfg0.N = 4 from N_0)
    show iprop(owns (c : Thread nD τ) scM0_0 fullShare (accAt m c n (Nat.lt_of_succ_lt hn)) ∗ (∃ r, prngReg c r)) ⊢ _
    iintro ⟨H, Hg⟩
    isplitl [H]
    · iexists _; isplitl [H]; · iexact H
      ipureintro
      rw [if_neg (fun h => by have := (hcond0_0 ⟨n + 1, hn⟩).mp h; dsimp only at this; omega)]; rfl
    iexact Hg

set_option maxHeartbeats 2000000 in
/-- THE BODY AT ANY POINT meets the launch's proof data. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d)))
    ⊢ wp frame (wpE (defs₀ (F := F)) Variants.none c none) Set.univ (bodyAt0 t) (fun _ =>
      iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t
        ∗ (dats m 0 c).leavesExact 5 t ∗ (dats m 0 c).leavesExact 6 t)) := by
  unfold bodyAt0
  simp only [before0_0, before0_1, before0_2, before0_3]
  rw [show (dats m 0 c).owesAt () t.succ = (dats m 0 c).owesAt () t.castSucc from rfl]
  rw [show (dats m 0 c).Φ t.succ = iprop(owns (c : Thread nD τ) scM0_0 fullShare (accAt m c t.val t.isLt) ∗ (∃ r, prngReg c r)) from rfl]
  rw [show (dats m 0 c).Φ t.castSucc = PhiS m c t.val (Nat.le_of_lt t.isLt) from by
    dsimp only [dats]; exact Pipeline.Dat.Φ_castSucc (PhiS m c) t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨HS, Ho, ⟨%d0, H0⟩, ⟨%d1, H1⟩, ⟨%d2, H2⟩, ⟨%d3, H3⟩, ⟨%d4, H4⟩, ⟨%d5, H5⟩, ⟨%d6, H6⟩⟩
  ihave HS' := (PhiS_split m c t) $$ HS
  icases HS' with ⟨⟨%s, HS, %hs⟩, Hg⟩
  iapply (body c Set.univ (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (iblk m c 0 t) (iblk m c 1 t) (iblk m c 2 t) (iblk m c 3 t) _ s _ rfl _)
  rw [← hs]
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (third m c t d6); iexact H6

/-- The launch's obligation for the body, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

/-- What the launch hands the pipeline is the invariant before the first point. -/
theorem hin (c : Dev nD) : Pipeline.ΦA spec0 c ⊢ (dats m 0 c).Φ 0 := by
  rw [show (dats m 0 c).Φ 0 = Pipeline.ΦA spec0 c from rfl]

/-- After the last point the invariant gives it back, the accumulator's contents forgotten. -/
theorem hout (c : Dev nD) : (dats m 0 c).Φ (Fin.last cfg0.N) ⊢ Pipeline.ΦA spec0 c := by
  have hN : cfg0.N = 3 + 1 := N_0
  rw [show (dats m 0 c).Φ (Fin.last cfg0.N) = PhiS m c (3 + 1) (by omega) from by
    dsimp only [dats]; simp only [Fin.val_last]; congr 1, PhiA0_eq]
  show iprop(owns (c : Thread nD τ) scM0_0 fullShare (accAt m c 3 (by omega)) ∗ (∃ r, prngReg c r)) ⊢ _
  iintro ⟨HS, Hg⟩
  isplitl [HS]
  · iexists _; iexact HS
  iexact Hg

set_option backward.isDefEq.respectTransparency.types false in
/-- @main ends, nothing faulting, with every array of the pipeline at what the proof data say and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_quiescent m ρ)

/-- THE FRAME: @main ends, nothing faulting, its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.NormIdeal.Value

end
-- ==== Proof.Frames.lean ====
/- That every program runs to its end without a fault, leaves its arguments as they were and every counter at zero; and
   that the named constants of the programs are the reals that they stand for. -/
module

public import proofs.«01_k».proof.Defs
public import proofs.«01_k».proof.Proof.Gen.Gate.Frame
public import proofs.«01_k».proof.Proof.Gen.GateIdeal.Frame
public import proofs.«01_k».proof.Proof.Gen.GateRefIdeal.Run
public import proofs.«01_k».proof.Proof.Gen.Pool.Frame
public import proofs.«01_k».proof.Proof.Gen.PoolIdeal.Frame
public import proofs.«01_k».proof.Proof.Gen.PoolRefIdeal.Run
public import proofs.«01_k».proof.Proof.Gen.Scale.Frame
public import proofs.«01_k».proof.Proof.Gen.ScaleIdeal.Frame
public import proofs.«01_k».proof.Proof.Gen.ScaleRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Norm.Launch
public import proofs.«01_k».proof.Proof.HeadFrame
public import proofs.«01_k».proof.Proof.Gen.HeadRefIdeal.Run
public import proofs.«01_k».proof.Proof.Gen.Head.Launch
public import proofs.«01_k».proof.Proof.NormFrame
public import proofs.«01_k».proof.Proof.Gen.NormRefIdeal.Run
public import proofs.«01_k».proof.Proof.Gen.GateFwd.Frame
public import proofs.«01_k».proof.Proof.Gen.GateFwdIdeal.Frame
public import proofs.«01_k».proof.Proof.Gen.GateFwdRefIdeal.Run
public import proofs.«01_k».proof.Proof.Gen.NormFwd.Frame
public import proofs.«01_k».proof.Proof.Gen.NormFwdIdeal.Frame
public import proofs.«01_k».proof.Proof.Gen.NormFwdRefIdeal.Run
public import proofs.«01_k».proof.Proof.Gen.PoolFwd.Frame
public import proofs.«01_k».proof.Proof.Gen.PoolFwdIdeal.Frame
public import proofs.«01_k».proof.Proof.Gen.PoolFwdRefIdeal.Run
public import proofs.«01_k».proof.Proof.Gen.Group.Frame
public import proofs.«01_k».proof.Proof.Gen.GroupIdeal.Frame
public import proofs.«01_k».proof.Proof.Gen.GroupRefIdeal.Run
public import proofs.«01_k».proof.Proof.Gen.MlpDown.Frame
public import proofs.«01_k».proof.Proof.Gen.UpDx.Frame
public import proofs.«01_k».proof.Proof.Gen.GroupGrad.Frame
public import proofs.«01_k».proof.Proof.Gen.MlpDownRefIdeal.Run
public import proofs.«01_k».proof.Proof.Gen.UpDxRefIdeal.Run
public import proofs.«01_k».proof.Proof.Gen.GroupGradRefIdeal.Run
public import proofs.«01_k».proof.Proof.Gen.WeightRefIdeal.Run
public import proofs.«01_k».proof.Proof.Gen.AddSibRefIdeal.Run
public import proofs.«01_k».proof.Proof.Gen.SmallAdam.Frame
public import proofs.«01_k».proof.Proof.Gen.SmallAdamRefIdeal.Run
public import proofs.«01_k».proof.Proof.Gen.SmallSumRefIdeal.Run
public import proofs.«01_k».proof.Proof.Gen.ReduceRefIdeal.Run
public import proofs.«01_k».proof.Proof.Gen.SentRefIdeal.Run
public import proofs.«01_k».proof.Proof.Gen.GroupDxRefIdeal.Run
public import proofs.«01_k».proof.Proof.Gen.ColumnsRefIdeal.Run
public import Idealize.ShloMosaic.Lib.Quiescent

@[expose] public section

noncomputable section

open Idealize.ShloMosaic Idealize.ShloMosaic.TcCoe Idealize.SL.Sem

namespace Cert.Proof.Frames

/-- The spatial gate's reference. -/
theorem gateRef : Cert.quiescent_GateRefIdeal := fun m ρ _ =>
  (θ_run Cert.GateRefIdeal.defs _ _).mono (fun r h => ⟨fun c => (h c).2.2.2.2.2,
    sem_eq_zero_of_no_sems (by decide) r.2⟩) (Cert.GateRefIdeal.Value.run (F := Ideal) m ρ)

/-- The pooling's reference. -/
theorem poolRef : Cert.quiescent_PoolRefIdeal := fun m ρ _ =>
  (θ_run Cert.PoolRefIdeal.defs _ _).mono (fun r h => ⟨fun c => (h c).2,
    sem_eq_zero_of_no_sems (by decide) r.2⟩) (Cert.PoolRefIdeal.Value.run (F := Ideal) m ρ)

/-- The scaled product's reference. -/
theorem scaleRef : Cert.quiescent_ScaleRefIdeal := fun m ρ _ =>
  (θ_run Cert.ScaleRefIdeal.defs _ _).mono (fun r h => ⟨fun c => (h c).2.2,
    sem_eq_zero_of_no_sems (by decide) r.2⟩) (Cert.ScaleRefIdeal.Value.run (F := Ideal) m ρ)

/-- The squared ReLU's reference. -/
theorem downRef : Cert.quiescent_DownRefIdeal := fun m ρ _ =>
  (θ_run Cert.DownRefIdeal.defs _ _).mono (fun r h => ⟨fun c => (h c).2.2.2,
    sem_eq_zero_of_no_sems (by decide) r.2⟩) (Cert.DownRefIdeal.Value.run (F := Ideal) m ρ)

/-- The normalisation's reference. -/
theorem normRef : Cert.quiescent_NormRefIdeal := fun m ρ _ =>
  (θ_run Cert.NormRefIdeal.defs _ _).mono (fun r h => ⟨fun c => (h c).2.2.2,
    sem_eq_zero_of_no_sems (by decide) r.2⟩) (Cert.NormRefIdeal.Value.run (F := Ideal) m ρ)

/-- The loss head's reference. -/
theorem headRef : Cert.quiescent_HeadRefIdeal := fun m ρ _ =>
  (θ_run Cert.HeadRefIdeal.defs _ _).mono (fun r h => ⟨fun c => (h c).2.2.2.2,
    sem_eq_zero_of_no_sems (by decide) r.2⟩) (Cert.HeadRefIdeal.Value.run (F := Ideal) m ρ)

/-- No rewrite touches the normalisation's kernel, so the two programs run the same bodies. -/
theorem normDefs {F : FTy → Type} [FloatOps F] : Cert.Norm.defs (F := F) = Cert.NormIdeal.defs (F := F) := by
  have h : Cert.Norm.defs₀ (F := F) = Cert.NormIdeal.defs₀ (F := F) := by
    unfold Cert.Norm.defs₀ Cert.NormIdeal.defs₀
    refine congrArg Defs.onTc ?_
    funext l x
    match l, x with
    | 0, (t, s) => rfl
    | ⟨_ + 1, h⟩, _ => exact absurd h (Nat.not_lt.2 (Nat.le_add_left _ _))
  unfold Cert.Norm.defs Cert.NormIdeal.defs
  rw [h]; rfl

/-- The normalisation's kernel, on the machine's floats: one run, over any floats, serves both programs. -/
theorem norm : Cert.quiescent_Norm := fun m ρ _ => by
  rw [normDefs]; exact Cert.NormIdeal.Value.frame_main (F := Bits) m ρ

/-- No rewrite touches the loss head's kernel, so the two programs run the same bodies. -/
theorem headDefs {F : FTy → Type} [FloatOps F] : Cert.Head.defs (F := F) = Cert.HeadIdeal.defs (F := F) := by
  have h : Cert.Head.defs₀ (F := F) = Cert.HeadIdeal.defs₀ (F := F) := by
    unfold Cert.Head.defs₀ Cert.HeadIdeal.defs₀
    refine congrArg Defs.onTc ?_
    funext l x
    match l, x with
    | 0, (t, s) => rfl
    | ⟨_ + 1, h⟩, _ => exact absurd h (Nat.not_lt.2 (Nat.le_add_left _ _))
  unfold Cert.Head.defs Cert.HeadIdeal.defs
  rw [h]; rfl

/-- The loss head's kernel, on the machine's floats: one run, over any floats, serves both programs. -/
theorem head : Cert.quiescent_Head := fun m ρ _ => by
  rw [headDefs]; exact Cert.HeadIdeal.Value.frame_main (F := Bits) m ρ

/-- The spatial gate's two constants are `√½` and `1/√(2π)`. -/
theorem gateConsts : Cert.preserves_Gate_GateIdeal :=
  ⟨IdealRules.named_const.statement Cert.GateIdeal.κ "sqrt_half" .f32 0x3F3504F3#32 _ rfl,
    IdealRules.named_const.statement Cert.GateIdeal.κ "inv_sqrt_2pi" .f32 0x3ECC422A#32 _ rfl⟩

/-- The forward gate's reference. -/
theorem gateFwdRef : Cert.quiescent_GateFwdRefIdeal := fun m ρ _ =>
  (θ_run Cert.GateFwdRefIdeal.defs _ _).mono (fun r h => ⟨fun c => (h c).2,
    sem_eq_zero_of_no_sems (by decide) r.2⟩) (Cert.GateFwdRefIdeal.Value.run (F := Ideal) m ρ)

/-- The forward normalisation's reference. -/
theorem normFwdRef : Cert.quiescent_NormFwdRefIdeal := fun m ρ _ =>
  (θ_run Cert.NormFwdRefIdeal.defs _ _).mono (fun r h => ⟨fun c => (h c).2,
    sem_eq_zero_of_no_sems (by decide) r.2⟩) (Cert.NormFwdRefIdeal.Value.run (F := Ideal) m ρ)

/-- The forward pooling's reference. -/
theorem poolFwdRef : Cert.quiescent_PoolFwdRefIdeal := fun m ρ _ =>
  (θ_run Cert.PoolFwdRefIdeal.defs _ _).mono (fun r h => ⟨fun c => (h c).2,
    sem_eq_zero_of_no_sems (by decide) r.2⟩) (Cert.PoolFwdRefIdeal.Value.run (F := Ideal) m ρ)

/-- The scaled grouped product's reference. -/
theorem groupRef : Cert.quiescent_GroupRefIdeal := fun m ρ _ =>
  (θ_run Cert.GroupRefIdeal.defs _ _).mono (fun r h => ⟨fun c => (h c).2.2,
    sem_eq_zero_of_no_sems (by decide) r.2⟩) (Cert.GroupRefIdeal.Value.run (F := Ideal) m ρ)

/-- The forward product and residual: the reference. -/
theorem mlpDownRef : Cert.quiescent_MlpDownRefIdeal := fun m ρ _ =>
  (θ_run Cert.MlpDownRefIdeal.defs _ _).mono (fun r h => ⟨fun c => (h c).2,
    sem_eq_zero_of_no_sems (by decide) r.2⟩) (Cert.MlpDownRefIdeal.Value.run (F := Ideal) m ρ)

/-- The left gradient: the reference. -/
theorem upDxRef : Cert.quiescent_UpDxRefIdeal := fun m ρ _ =>
  (θ_run Cert.UpDxRefIdeal.defs _ _).mono (fun r h => ⟨fun c => (h c).2,
    sem_eq_zero_of_no_sems (by decide) r.2⟩) (Cert.UpDxRefIdeal.Value.run (F := Ideal) m ρ)

/-- The weight gradient: the reference. -/
theorem weightRef : Cert.quiescent_WeightRefIdeal := fun m ρ _ =>
  (θ_run Cert.WeightRefIdeal.defs _ _).mono (fun r h => ⟨fun c => (h c).2,
    sem_eq_zero_of_no_sems (by decide) r.2⟩) (Cert.WeightRefIdeal.Value.run (F := Ideal) m ρ)

/-- The grouped weight gradient: the reference. -/
theorem groupGradRef : Cert.quiescent_GroupGradRefIdeal := fun m ρ _ =>
  (θ_run Cert.GroupGradRefIdeal.defs _ _).mono (fun r h => ⟨fun c => (h c).2,
    sem_eq_zero_of_no_sems (by decide) r.2⟩) (Cert.GroupGradRefIdeal.Value.run (F := Ideal) m ρ)

/-- The sum of the two halves: the reference. -/
theorem addSibRef : Cert.quiescent_AddSibRefIdeal := fun m ρ _ =>
  (θ_run Cert.AddSibRefIdeal.defs _ _).mono (fun r h => ⟨fun c => (h c).2,
    sem_eq_zero_of_no_sems (by decide) r.2⟩) (Cert.AddSibRefIdeal.Value.run (F := Ideal) m ρ)

/-- The optimiser step of the small weights: the reference. -/
theorem smallAdamRef : Cert.quiescent_SmallAdamRefIdeal := fun m ρ _ =>
  (θ_run Cert.SmallAdamRefIdeal.defs _ _).mono (fun r h => ⟨fun c => (h c).2.2.2.2.2.2.2.2.2.2.2.2.2.2.2.2.2.2.2.2.2.2.2.2,
    sem_eq_zero_of_no_sems (by decide) r.2⟩) (Cert.SmallAdamRefIdeal.Value.run (F := Ideal) m ρ)

/-- The sum of the small gradients over the devices: the reference. -/
theorem smallSumRef : Cert.quiescent_SmallSumRefIdeal := fun m ρ _ =>
  (θ_run Cert.SmallSumRefIdeal.defs _ _).mono (fun r h => ⟨fun c => (h c).2,
    sem_eq_zero_of_no_sems (by decide) r.2⟩) (Cert.SmallSumRefIdeal.Value.run (F := Ideal) m ρ)

/-- The sum of four chips' parts and the optimiser's step: the reference. -/
theorem reduceRef : Cert.quiescent_ReduceRefIdeal := fun m ρ _ =>
  (θ_run Cert.ReduceRefIdeal.defs _ _).mono (fun r h => ⟨fun c => (h c).2.2.2.2,
    sem_eq_zero_of_no_sems (by decide) r.2⟩) (Cert.ReduceRefIdeal.Value.run (F := Ideal) m ρ)

/-- The weight gradient's half that is sent: the reference. -/
theorem sentRef : Cert.quiescent_SentRefIdeal := fun m ρ _ =>
  (θ_run Cert.SentRefIdeal.defs _ _).mono (fun r h => ⟨fun c => (h c).2,
    sem_eq_zero_of_no_sems (by decide) r.2⟩) (Cert.SentRefIdeal.Value.run (F := Ideal) m ρ)

/-- The gradient of the grouped product in its left factor: the reference. -/
theorem groupDxRef : Cert.quiescent_GroupDxRefIdeal := fun m ρ _ =>
  (θ_run Cert.GroupDxRefIdeal.defs _ _).mono (fun r h => ⟨fun c => (h c).2,
    sem_eq_zero_of_no_sems (by decide) r.2⟩) (Cert.GroupDxRefIdeal.Value.run (F := Ideal) m ρ)

/-- The weight gradient halved by columns: the reference. -/
theorem columnsRef : Cert.quiescent_ColumnsRefIdeal := fun m ρ _ =>
  (θ_run Cert.ColumnsRefIdeal.defs _ _).mono (fun r h => ⟨fun c => (h c).2,
    sem_eq_zero_of_no_sems (by decide) r.2⟩) (Cert.ColumnsRefIdeal.Value.run (F := Ideal) m ρ)

/-- The forward gate's one constant is `√½`. -/
theorem gateFwdConsts : Cert.preserves_GateFwd_GateFwdIdeal :=
  IdealRules.named_const.statement Cert.GateFwdIdeal.κ "sqrt_half" .f32 0x3F3504F3#32 _ rfl

end Cert.Proof.Frames

end
-- ==== Proof.Sums.lean ====
/- Sums over several axes of an array, as the references' host code takes them: over the two outer axes of a rank 3
   array, over its first and last, and over axes `[1, 4]` and `[0, 1, 4]` of a rank 5 array. -/
module

public import Idealize.ShloMosaic.Lib.Pointwise

@[expose] public section

namespace Idealize.ShloMosaic

variable {n0 n1 n2 n3 n4 : Nat}

/-- A host sum over the indices that `g` runs through: the sum along `g`. -/
theorem Ideal.hostReduceAdd_of_fiber {s t : Shape} {axes : List (Fin s.rank)} (h : s.ReducesTo axes t) {κ : Type*}
    [Fintype κ] (j : t.Idx) (g : κ → s.Idx) (hg : Function.Injective g) (hp : ∀ i, h.drop i = j ↔ ∃ k, g k = i)
    (v : s.Idx → EReal) (init : EReal) : Ideal.hostReduceAdd h v init j = init + ∑ k, v (g k) :=
  congrArg (init + ·) (Finset.sum_filter_eq_sum_of_fiber _ g hg hp v)

/-- Rank 3, the sum over the two outer axes. -/
theorem Ideal.hostReduceAdd_outer (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine (Ideal.hostReduceAdd_of_fiber h (ix1 j) (fun k : Fin n0 × Fin n1 => ix3 k.1 k.2 j)
    (fun _ _ e => Prod.ext (congrFun e 0) (congrFun e 1)) (fun i => ⟨fun e => ⟨(i 0, i 1), ?_⟩, ?_⟩) v init).trans
    (by rw [Fintype.sum_prod_type])
  · funext a; apply Fin.ext
    match a with
    | ⟨0, _⟩ => rfl
    | ⟨1, _⟩ => rfl
    | ⟨2, _⟩ => exact (congrArg Fin.val (congrFun e ⟨0, show 0 < 1 by decide⟩)).symm
  · rintro ⟨k, rfl⟩
    funext b; apply Fin.ext
    match b with
    | ⟨0, _⟩ => rfl

/-- Rank 3, the sum over the first and the last axis. -/
theorem Ideal.hostReduceAdd_ends (h : (⟨3, ![n0, n1, n2]⟩ : Shape).ReducesTo [0, 2] ⟨1, ![n1]⟩)
    (v : (⟨3, ![n0, n1, n2]⟩ : Shape).Idx → EReal) (init : EReal) (j : Fin n1) :
    Ideal.hostReduceAdd h v init (ix1 j) = init + ∑ a : Fin n0, ∑ b : Fin n2, v (ix3 a j b) := by
  refine (Ideal.hostReduceAdd_of_fiber h (ix1 j) (fun k : Fin n0 × Fin n2 => ix3 k.1 j k.2)
    (fun _ _ e => Prod.ext (congrFun e 0) (congrFun e 2)) (fun i => ⟨fun e => ⟨(i 0, i 2), ?_⟩, ?_⟩) v init).trans
    (by rw [Fintype.sum_prod_type])
  · funext a; apply Fin.ext
    match a with
    | ⟨0, _⟩ => rfl
    | ⟨1, _⟩ => exact (congrArg Fin.val (congrFun e ⟨0, show 0 < 1 by decide⟩)).symm
    | ⟨2, _⟩ => rfl
  · rintro ⟨k, rfl⟩
    funext b; apply Fin.ext
    match b with
    | ⟨0, _⟩ => rfl

/-- Rank 5, the sum over axes 1 and 4. -/
theorem Ideal.hostReduceAdd_blocks (h : (⟨5, ![n0, n1, n2, n3, n4]⟩ : Shape).ReducesTo [1, 4] ⟨3, ![n0, n2, n3]⟩)
    (v : (⟨5, ![n0, n1, n2, n3, n4]⟩ : Shape).Idx → EReal) (init : EReal) (i : Fin n0) (j : Fin n2) (l : Fin n3) :
    Ideal.hostReduceAdd h v init (ix3 i j l) = init + ∑ a : Fin n1, ∑ b : Fin n4, v (ix5 i a j l b) := by
  refine (Ideal.hostReduceAdd_of_fiber h (ix3 i j l) (fun k : Fin n1 × Fin n4 => ix5 i k.1 j l k.2)
    (fun _ _ e => Prod.ext (congrFun e 1) (congrFun e 4)) (fun x => ⟨fun e => ⟨(x 1, x 4), ?_⟩, ?_⟩) v init).trans
    (by rw [Fintype.sum_prod_type])
  · funext a; apply Fin.ext
    match a with
    | ⟨0, _⟩ => exact (congrArg Fin.val (congrFun e ⟨0, show 0 < 3 by decide⟩)).symm
    | ⟨1, _⟩ => rfl
    | ⟨2, _⟩ => exact (congrArg Fin.val (congrFun e ⟨1, show 1 < 3 by decide⟩)).symm
    | ⟨3, _⟩ => exact (congrArg Fin.val (congrFun e ⟨2, show 2 < 3 by decide⟩)).symm
    | ⟨4, _⟩ => rfl
  · rintro ⟨k, rfl⟩
    funext b; apply Fin.ext
    match b with
    | ⟨0, _⟩ => rfl
    | ⟨1, _⟩ => rfl
    | ⟨2, _⟩ => rfl

/-- Rank 5, the sum over axes 0, 1 and 4. -/
theorem Ideal.hostReduceAdd_all_blocks (h : (⟨5, ![n0, n1, n2, n3, n4]⟩ : Shape).ReducesTo [0, 1, 4] ⟨2, ![n2, n3]⟩)
    (v : (⟨5, ![n0, n1, n2, n3, n4]⟩ : Shape).Idx → EReal) (init : EReal) (j : Fin n2) (l : Fin n3) :
    Ideal.hostReduceAdd h v init (ix2 j l)
      = init + ∑ c : Fin n0, ∑ a : Fin n1, ∑ b : Fin n4, v (ix5 c a j l b) := by
  refine (Ideal.hostReduceAdd_of_fiber h (ix2 j l) (fun k : Fin n0 × Fin n1 × Fin n4 => ix5 k.1 k.2.1 j l k.2.2)
    (fun _ _ e => Prod.ext (congrFun e 0) (Prod.ext (congrFun e 1) (congrFun e 4)))
    (fun x => ⟨fun e => ⟨(x 0, x 1, x 4), ?_⟩, ?_⟩) v init).trans
    (by simp only [Fintype.sum_prod_type])
  · funext a; apply Fin.ext
    match a with
    | ⟨0, _⟩ => rfl
    | ⟨1, _⟩ => rfl
    | ⟨2, _⟩ => exact (congrArg Fin.val (congrFun e ⟨0, show 0 < 2 by decide⟩)).symm
    | ⟨3, _⟩ => exact (congrArg Fin.val (congrFun e ⟨1, show 1 < 2 by decide⟩)).symm
    | ⟨4, _⟩ => rfl
  · rintro ⟨k, rfl⟩
    funext b; apply Fin.ext
    match b with
    | ⟨0, _⟩ => rfl
    | ⟨1, _⟩ => rfl

/-- An index of a rank 3 shape given by its list of sizes. -/
def Shape.triple (a : Fin n0) (b : Fin n1) (c : Fin n2) : (Shape.ofList [n0, n1, n2]).Idx
  | ⟨0, _⟩ => a
  | ⟨1, _⟩ => b
  | ⟨2, _⟩ => c

/-- A sum over such indices is the sum over the three coordinates. -/
theorem Shape.sum_triple {M : Type*} [AddCommMonoid M] (f : (Shape.ofList [n0, n1, n2]).Idx → M) :
    ∑ i, f i = ∑ a, ∑ b, ∑ c, f (Shape.triple a b c) := by
  refine (Fintype.sum_equiv ⟨fun k : Fin n0 × Fin n1 × Fin n2 => Shape.triple k.1 k.2.1 k.2.2,
    fun i => (i ⟨0, show 0 < 3 by decide⟩, i ⟨1, show 1 < 3 by decide⟩, i ⟨2, show 2 < 3 by decide⟩),
    fun _ => rfl, fun i => funext fun p => ?_⟩ _ f fun _ => rfl).symm.trans (by simp only [Fintype.sum_prod_type]; rfl)
  match p with
  | ⟨0, _⟩ => rfl
  | ⟨1, _⟩ => rfl
  | ⟨2, _⟩ => rfl

end Idealize.ShloMosaic
-- ==== Proof.ScaleValue.lean ====
/- The pooling mixer's scale and output product: what the backward call leaves in its two result arrays, as the terms
   that the reference computes of the same arguments. -/
module

public import proofs.«01_k».proof.Proof.Gen.ScaleIdeal.Frame
public import proofs.«01_k».proof.Proof.Gen.ScaleRefIdeal.Run
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScaleRefIdeal.Value

open Cert.ScaleRefIdeal Cert.ScaleRefIdeal.Gen

/-- The gradient of the scaled mixer output before its product with `w_out`. -/
def outGrad (W : FVec Ideal S1x2048x2048 .f32) (DY : FVec Ideal S2048x2048 .bf16) : FVec Ideal S1x2048x2048 .f32 :=
  Host.dotGeneral dot_S1x2048x2048_S2048x2048_S1x2048x2048_2_1_01_0_n_n none
    (broadcastInDim S1x2048x2048 ![1, 2] bcast_S2048x2048_S1x2048x2048_1_2 (extf .f32 DY bitsLt_bf16_f32))
    (shapeCast _ W shapeCasts_S1x2048x2048_S2048x2048)

/-- The grouped product of the pooled tokens. -/
def mixed (X : FVec Ideal S2048x2048 .bf16) (G : FVec Ideal S1x4x512x512 .f32) : FVec Ideal S1x2048x2048 .f32 :=
  shapeCast _ (transpose S1x2048x4x512 [2, 3, 0, 1]
    (Host.dotGeneral dot_S4x512x512_S1x2048x4x512_S4x512x1x2048_1_3_2_01_0_2 none
      (shapeCast _ G shapeCasts_S1x4x512x512_S4x512x512)
      (shapeCast _ (extf .f32 X bitsLt_bf16_f32) shapeCasts_S2048x2048_S1x2048x4x512))
    transposes_S4x512x1x2048_S1x2048x4x512_2_3_0_1) shapeCasts_S1x2048x4x512_S1x2048x2048

/-- The reference's gradient of the mixed tokens. -/
def refMixed (SC : FVec Ideal S1x2048 .f32) (W : FVec Ideal S1x2048x2048 .f32) (DY : FVec Ideal S2048x2048 .bf16) :
    FVec Ideal S2048x2048 .bf16 :=
  truncf .bf16 (shapeCast _ (mulf (outGrad W DY)
    (broadcastInDim S1x2048x2048 ![0, 1, 2] bcast_S1x1x2048_S1x2048x2048_0_1_2
      (broadcastInDim S1x1x2048 ![2] bcast_S2048_S1x1x2048_2 (shapeCast _ SC shapeCasts_S1x2048_S2048))))
    shapeCasts_S1x2048x2048_S2048x2048) bitsLt_bf16_f32

/-- The reference's gradient of the scale. -/
def refScale (X : FVec Ideal S2048x2048 .bf16) (G : FVec Ideal S1x4x512x512 .f32)
    (W : FVec Ideal S1x2048x2048 .f32) (DY : FVec Ideal S2048x2048 .bf16) : FVec Ideal S1x2048 .f32 :=
  broadcastInDim S1x2048 ![1] bcast_S2048_S1x2048_1
    (Host.reduceAdd (shapeCast _ (Host.reduceAdd (mulf (mixed X G) (outGrad W DY))
      (constant S_ .f32 0x00000000#32) reducesTo_S1x2048x2048_S1x2048_d1 h_S_) shapeCasts_S1x2048_S1x1x2048)
      (constant S_ .f32 0x00000000#32) reducesTo_S1x1x2048_S2048_d0_1 h_S_)

theorem outGrad_at (W : FVec Ideal S1x2048x2048 .f32) (DY : FVec Ideal S2048x2048 .bf16) (i j : Fin 2048) :
    outGrad W DY (ix3 0 i j) = ∑ k : Fin 2048, DY (ix2 i k) * W (ix3 0 j k) := by
  pointwise [outGrad]

theorem refMixed_at (SC : FVec Ideal S1x2048 .f32) (W : FVec Ideal S1x2048x2048 .f32)
    (DY : FVec Ideal S2048x2048 .bf16) (i j : Fin 2048) :
    refMixed SC W DY (ix2 i j) = (∑ k : Fin 2048, DY (ix2 i k) * W (ix3 0 j k)) * SC (ix2 0 j) := by
  pointwise [refMixed, outGrad]

/-- The reference's gradient of the scale: the mixed tokens against the output gradient, summed over the tokens. -/
theorem refScale_at (X : FVec Ideal S2048x2048 .bf16) (G : FVec Ideal S1x4x512x512 .f32)
    (W : FVec Ideal S1x2048x2048 .f32) (DY : FVec Ideal S2048x2048 .bf16) (j : Fin 2048) :
    refScale X G W DY (ix2 0 j)
      = ∑ i : Fin 2048, (∑ k : Fin 2048, DY (ix2 i k) * W (ix3 0 j k)) * mixed X G (ix3 0 i j) := by
  pointwise [refScale, Ideal.hostReduceAdd_outer]
  simp only [Fin.sum_univ_one, outGrad_at]
  exact Fin.sum_fin_congr fun i => mul_comm _ _

end Cert.ScaleRefIdeal.Value

namespace Cert.ScaleIdeal.Value

open Cert.ScaleIdeal Cert.ScaleIdeal.Gen

variable (m : (ℓ : Loc nD τ sig) → Buf (Elt Ideal) ℓ)

/-- A block of the gradient of the mixed tokens. -/
theorem pay2_at (v0 v1 : Vec Ideal S1024x2048 .bf16) (v4 : Vec Ideal S1x1024 .f32) (i j : Fin 1024) :
    k0_pay2 v0 v1 v4 (ix2 i j) = (∑ k : Fin 2048, v0 (ix2 i k) * v1 (ix2 j k)) * v4 (ix2 0 j) := by
  pointwise [k0_pay2, k0_pay1]

/-- What one block of tokens adds to lane `j` of the gradient of the scale. -/
def part (v0 v1 : Vec Ideal S1024x2048 .bf16) (v9 : Vec Ideal S1024x1024 .bf16) (j : Fin 1024) : EReal :=
  ∑ i : Fin 1024, (∑ k : Fin 2048, v0 (ix2 i k) * v1 (ix2 j k)) * v9 (ix2 i j)

theorem pay3_at (v0 v1 : Vec Ideal S1024x2048 .bf16) (v9 : Vec Ideal S1024x1024 .bf16) (j : S1x1024.Idx) :
    k0_pay3 v0 v1 v9 j = part v0 v1 v9 (j 1) := by
  idx_vars j
  pointwise [k0_pay3, k0_pay1, part]

theorem pay4_at (v0 v1 : Vec Ideal S1024x2048 .bf16) (v9 : Vec Ideal S1024x1024 .bf16) (v21 : Vec Ideal S1x1024 .f32)
    (j : S1x1024.Idx) : k0_pay4 v0 v1 v9 v21 j = v21 j + part v0 v1 v9 (j 1) := by
  idx_vars j
  pointwise [k0_pay4, k0_pay3, k0_pay1, part]

theorem idx : ∀ t : Fin cfg0.N, win0_0.index t = ![t.val % 2, 0] ∧ win0_1.index t = ![t.val / 2, 0]
    ∧ win0_2.index t = ![0, t.val / 2] ∧ win0_3.index t = ![t.val % 2, t.val / 2]
    ∧ win0_4.index t = ![t.val % 2, t.val / 2] ∧ win0_5.index t = ![0, t.val / 2] :=
  (by decide +kernel : ∀ t : Fin grid0.N, _)

theorem block4 (c : Dev nD) (t : Fin cfg0.N) (i j : Fin 1024) :
    k0_pay2 (iblk m c 0 t) (iblk m c 1 t) (iblk m c 2 t) (ix2 i j)
      = Cert.ScaleRefIdeal.Value.refMixed (m ((c : Thread nD τ).loc main_arg2)) (m ((c : Thread nD τ).loc main_arg3))
        (m ((c : Thread nD τ).loc main_arg4)) ((win0_4.blk t).view.emb (ix2 i j)) := by
  rw [pay2_at]
  pointwise [Cert.ScaleRefIdeal.Value.refMixed, Cert.ScaleRefIdeal.Value.outGrad]
  blk_point [iblk, V, idx t]

/-- The gradient of the mixed tokens, block by block. -/
theorem final4 (c : Dev nD) : (dats m 0 c).arrAt 4 (cfgs 0).N
    = Cert.ScaleRefIdeal.Value.refMixed (m ((c : Thread nD τ).loc main_arg2)) (m ((c : Thread nD τ).loc main_arg3))
        (m ((c : Thread nD τ).loc main_arg4)) := by
  refine (dats m 0 c).arrAt_eq_of_covers 4 _ (by decide +kernel) fun t hf y => ?_
  blk_simp
  rw [after0_4]
  idx_vars y
  rcases Nat.mod_two_eq_zero_or_one t.val with h | h
  · rw [outsAt0_A m c t h (by omega)]
    frame_out
    exact block4 m c t y0 y1
  · rw [outsAt0_B m c t (by omega) h]
    frame_out
    exact block4 m c t y0 y1

/-- The mixed tokens that the host hands to the call. -/
theorem entry3 (c : Dev nD) (i j : Fin 2048) : V m c main_v6 (ix2 i j)
    = Cert.ScaleRefIdeal.Value.mixed (m ((c : Thread nD τ).loc main_arg0)) (m ((c : Thread nD τ).loc main_arg1))
        (ix3 0 i j) := by
  entry_read
  pointwise [Cert.ScaleRefIdeal.Value.mixed]

/-- The gradient of the scale, added up over the blocks of tokens. -/
theorem final5 (c : Dev nD) : (dats m 0 c).arrAt 5 (cfgs 0).N
    = Cert.ScaleRefIdeal.Value.refScale (m ((c : Thread nD τ).loc main_arg0)) (m ((c : Thread nD τ).loc main_arg1))
        (m ((c : Thread nD τ).loc main_arg3)) (m ((c : Thread nD τ).loc main_arg4)) := by
  refine (dats m 0 c).arrAt_eq_of_covers 5 _ (by decide +kernel) fun t hf y => ?_
  blk_simp
  rw [after0_5]
  rw [Pipeline.eq_sum_fin_of_reset_step_apply_of_flush (fun n h => (outsAt0 m c n h).2) 2 (fun _ => 0)
    (fun p j => part (iblk m c 0 p) (iblk m c 1 p) (iblk m c 3 p) (j 1))
    (fun t h j => by rw [outsAt0_A m c t h (by omega)]; frame_out; rw [pay3_at, zero_add])
    (fun t h j => by rw [outsAt0_B m c t h (by omega)]; frame_out; rw [pay4_at])
    t ((flush0_5 t).mp hf) _, zero_add]
  idx_vars y
  have he : (win0_5.blk t).view.emb (ix2 y0 y1) = ix2 0 ⟨t.val / 2 * 1024 + y1.val, by have := lt_of_lt_of_eq t.isLt N_0; omega⟩ := by
    blk_ext [idx t]
  simp only [part]
  refine Eq.trans ?_ ((congrArg _ he).trans (Cert.ScaleRefIdeal.Value.refScale_at _ _ _ _ _)).symm
  refine Fin.sum_mul_add_congr fun s k hl => ?_
  have h3 : iblk m c 3 ⟨_, Pipeline.run_point_lt_of_flush t ((flush0_5 t).mp hf) s⟩ (ix2 k y1)
      = Cert.ScaleRefIdeal.Value.mixed (m ((c : Thread nD τ).loc main_arg0)) (m ((c : Thread nD τ).loc main_arg1))
        (ix3 0 ⟨s.val * 1024 + k.val, hl⟩
          ⟨t.val / 2 * 1024 + y1.val, by have := lt_of_lt_of_eq t.isLt N_0; omega⟩) := by
    rw [← entry3]
    blk_point [iblk, idx ⟨_, Pipeline.run_point_lt_of_flush t ((flush0_5 t).mp hf) s⟩]
  rw [h3]
  blk_point [iblk, V, idx t, idx ⟨_, Pipeline.run_point_lt_of_flush t ((flush0_5 t).mp hf) s⟩]

end Cert.ScaleIdeal.Value

end
-- ==== Proof.ScaleClaim.lean ====
/- The pooling mixer's scale and output product: the kernel's two results are the reference's. -/
module

public import proofs.«01_k».proof.Defs
public import proofs.«01_k».proof.Proof.ScaleValue

@[expose] public section

noncomputable section

open Idealize.ShloMosaic Idealize.ShloMosaic.TcCoe Idealize.SL.Sem

/-- From arguments that agree the two programs end with the same gradients of the mixed tokens and of the scale. -/
theorem Cert.Proof.scale : Cert.algebraic_ScaleIdeal_ScaleRefIdeal := by
  pair_intro
  · run_from Cert.ScaleIdeal.Gen.run_main m g
  · run_from Cert.ScaleRefIdeal.Value.run m' g'
    · exact (Cert.ScaleIdeal.Value.final4 m c).symm
    · exact (Cert.ScaleIdeal.Value.final5 m c).symm

end
-- ==== Proof.Reals.lean ====
/- Extended reals that are reals: the literals of the programs, finite sums, quotients, roots, and the finiteness
   that a precondition states. -/
module

public import Idealize.ShloMosaic.Lib.Pointwise
public import Idealize.ShloMosaic.Lib.ReduceAll
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.Reals

/-- The number added to a variance before its root. -/
def eps : ℝ := 8796093 / 8796093022208

theorem eps_pos : 0 < eps := by norm_num [eps]

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_inv_2048 : Ideal.ofBits .f32 0x3A000000#32 = ((1 / 2048 : ℝ) : EReal) := by
  simp [Ideal.ofBits, Ideal.ieee, -EReal.coe_mul]; norm_num

theorem lit_eps : Ideal.ofBits .f32 0x358637BD#32 = (eps : EReal) := by
  simp [Ideal.ofBits, Ideal.ieee, -EReal.coe_mul, eps]; norm_num

theorem lit_erfc : Ideal.ofBits .f32 0xBF906EBB#32 = ((-(9465531 / 8388608) : ℝ) : EReal) := by
  simp [Ideal.ofBits, Ideal.ieee, -EReal.coe_mul]; norm_num

theorem coe_sum {n : ℕ} (f : Fin n → ℝ) : ((∑ x, f x : ℝ) : EReal) = ∑ x, (f x : EReal) :=
  map_sum (⟨⟨Real.toEReal, EReal.coe_zero⟩, EReal.coe_add⟩ : ℝ →+ EReal) f Finset.univ

theorem div_coe {y : ℝ} (h : y ≠ 0) (x : ℝ) : Ideal.div (x : EReal) (y : EReal) = ((x / y : ℝ) : EReal) := by
  rw [Ideal.div_coe h, ← EReal.coe_mul, mul_one_div]

theorem div_2048 (x : ℝ) : Ideal.div (x : EReal) ((2048 : ℝ) : EReal) = ((x / 2048 : ℝ) : EReal) :=
  div_coe (by norm_num) x

theorem rsqrt_coe {x : ℝ} (h : 0 < x) : Ideal.rsqrt (x : EReal) = (((Real.sqrt x)⁻¹ : ℝ) : EReal) := by
  rw [Ideal.rsqrt_coe, if_neg h.le.not_gt, if_neg h.ne']

/-- The error function over the reals. -/
def erf (x : ℝ) : ℝ := 2 / Real.sqrt Real.pi * ∫ t in (0 : ℝ)..x, Real.exp (-(t ^ 2))

theorem erf_coe (x : ℝ) : Ideal.erf (x : EReal) = (erf x : EReal) := rfl

theorem real_of_abs_lt {x : EReal} (h : max x (-x) < ⊤) : ∃ r : ℝ, x = r := by
  induction x with
  | bot => exact absurd h (by simp)
  | top => exact absurd h (by simp)
  | coe r => exact ⟨r, rfl⟩

/-- Where every element's absolute value is below infinity, every element is a real. -/
theorem real_of_all {s t : Shape} [Subsingleton t.Idx] {axes : List (Fin s.rank)} (x : FVec Ideal s .f32)
    (hb : Shape.BroadcastsInDim ⟨0, ![]⟩ s ![]) (h : s.ReducesTo axes t) (init) (hu) (j)
    (e : Host.reduce (u := ⟨0, ![]⟩) IntOp.andi (cmpf .olt (Host.absf x) (broadcastInDim s ![] hb (constant ⟨0, ![]⟩ .f32 0x7F800000#32)))
      init h hu j = 1#1) (i : s.Idx) : ∃ r : ℝ, x i = (r : EReal) := by
  have h1 := Host.reduce_andi_all _ _ _ _ j e i
  have h2 : Ideal.cmp .olt (max (x i) (-x i)) (Ideal.ofBits .f32 0x7F800000#32) = 1#1 := h1
  have h3 : Ideal.ofBits .f32 0x7F800000#32 = ⊤ := by simp [Ideal.ofBits, Ideal.ieee]
  rw [h3] at h2
  refine real_of_abs_lt ?_
  by_contra hn
  have h4 : Ideal.cmp .olt (max (x i) (-x i)) ⊤ = 0#1 := by simp [Ideal.cmp, hn]
  exact absurd (h4.symm.trans h2) (by decide)

end Cert.Reals
end
-- ==== Proof.GateSpec.lean ====
/- The gradient of the chunked spatial gate over the reals: what it is row by row and chunk by chunk, and the two
   identities behind it, the derivative of the GELU and the gradient of the layer norm. -/
module

public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.GateSpec
open Cert.Reals

/-- The root of one half. -/
def root : ℝ := Real.sqrt (1 / 2)

theorem root_sq : root * root = 1 / 2 := Real.mul_self_sqrt (by norm_num)

/-- The density factor of the GELU's derivative, as the float of the derivative of `erfc` has it. -/
def dens : ℝ := 9465531 / 16777216 * root

def gelu (x : ℝ) : ℝ := 1 / 2 * x * (1 + erf (x * root))

/-- The derivative of `gelu`. -/
def slope (x : ℝ) : ℝ := 1 / 2 * (1 + erf (x * root)) + x * Real.exp (-(1 / 2) * x * x) * dens

/-- The derivative of `gelu` times `G`, as the derivative of a product of three factors has it. -/
theorem slope_mul (x G : ℝ) :
    -(-(9465531 / 8388608) * (1 / 2 * x * G) * Real.exp (-(-x * root * (-x * root))) * root)
      + 1 / 2 * (G * (1 + erf (x * root))) = G * slope x := by
  have h : -(-x * root * (-x * root)) = -(1 / 2) * x * x := by linear_combination (-x * x) * root_sq
  rw [h, slope, dens]
  ring

/-- Lane `l` of the gated half, and of the gating half, of a row. -/
def lo (l : Fin 2048) : Fin 4096 := ⟨l.val, by omega⟩
def hi (l : Fin 2048) : Fin 4096 := ⟨2048 + l.val, by omega⟩

section Row
variable (p : Fin 4096 → ℝ)

def val (l : Fin 2048) : ℝ := gelu (p (hi l))

def mean : ℝ := (∑ l, val p l) / 2048

def dev (l : Fin 2048) : ℝ := val p l - mean p

/-- The variance of a row, and the small number. -/
def spread : ℝ := (∑ l, dev p l * dev p l) / 2048 + eps

def scale : ℝ := (Real.sqrt (spread p))⁻¹

/-- The normalised row. -/
def unit (l : Fin 2048) : ℝ := dev p l * scale p

def norm (g b : Fin 2048 → ℝ) (l : Fin 2048) : ℝ := unit p l * g l + b l

theorem spread_pos : 0 < spread p :=
  add_pos_of_nonneg_of_pos (div_nonneg (Finset.sum_nonneg fun l _ => mul_self_nonneg _) (by norm_num)) eps_pos

theorem scale_div : scale p / spread p = scale p * (scale p * scale p) := by
  have h := Real.mul_self_sqrt (spread_pos p).le
  have h0 : Real.sqrt (spread p) ≠ 0 := (Real.sqrt_pos.2 (spread_pos p)).ne'
  rw [scale]
  generalize Real.sqrt (spread p) = r at h h0
  rw [← h]
  field_simp

theorem sum_dev : ∑ l, dev p l = 0 := by
  simp only [dev, Finset.sum_sub_distrib, Finset.sum_const, Finset.card_univ, Fintype.card_fin, nsmul_eq_mul, mean]
  push_cast
  ring

/-- The gradient of the normalised row, at a cotangent `y`. -/
def unitGrad (y : Fin 2048 → ℝ) (l : Fin 2048) : ℝ :=
  scale p * (y l - (∑ k, y k) / 2048 - unit p l * ((∑ k, y k * unit p k) / 2048))

/-- What the variance contributes. -/
def spreadGrad (y : Fin 2048 → ℝ) : ℝ := (∑ k, dev p k * y k) * (-(1 / 2) * (scale p / spread p)) / 2048

/-- The gradient of the deviations. -/
def devGrad (y : Fin 2048 → ℝ) (l : Fin 2048) : ℝ :=
  y l * scale p + dev p l * spreadGrad p y + spreadGrad p y * dev p l

/-- The gradient of the normalised row, step by step: of the variance, of the deviations, of the mean. -/
theorem unitGrad_eq (y : Fin 2048 → ℝ) (l : Fin 2048) :
    devGrad p y l + (∑ k, -devGrad p y k) / 2048 = unitGrad p y l := by
  have hs : ∑ k, -devGrad p y k = -(scale p * ∑ k, y k) := by
    simp only [devGrad, Finset.sum_neg_distrib, Finset.sum_add_distrib, ← Finset.sum_mul, ← Finset.mul_sum, sum_dev]
    ring
  have hq : ∑ k, y k * unit p k = scale p * ∑ k, dev p k * y k := by
    rw [Finset.mul_sum]
    exact Finset.sum_congr rfl fun k _ => by rw [unit]; ring
  rw [hs, unitGrad, hq, devGrad, spreadGrad, scale_div, unit]
  ring

end Row

/-- The weight of token `s` in token `t`'s gate: the tokens after `t` have none. -/
def mask (W : Fin 8 → Fin 128 → Fin 128 → ℝ) (k : Fin 8) (t s : Fin 128) : ℝ := if s ≤ t then W k t s else 0

def grp (l : Fin 2048) : Fin 8 := ⟨l.val / 256, by omega⟩

section Chunk
variable (P : Fin 128 → Fin 4096 → ℝ) (Y : Fin 128 → Fin 2048 → ℝ) (g b : Fin 2048 → ℝ)
  (W : Fin 8 → Fin 128 → Fin 128 → ℝ) (B : Fin 8 → Fin 128 → ℝ)

/-- The gate of token `t`. -/
def gate (t : Fin 128) (l : Fin 2048) : ℝ := (∑ s, mask W (grp l) t s * norm (P s) g b l) + B (grp l) t

/-- The gradient of the gate. -/
def gateGrad (t : Fin 128) (l : Fin 2048) : ℝ := Y t l * gelu (P t (lo l))

/-- The gradient of the normalised, scaled and shifted row `s`. -/
def normGrad (s : Fin 128) (l : Fin 2048) : ℝ := ∑ t, mask W (grp l) t s * gateGrad P Y t l

/-- The gradient of `pre`: its gated half. -/
def preLo (t : Fin 128) (l : Fin 2048) : ℝ := Y t l * gate P g b W B t l * slope (P t (lo l))

/-- The gradient of `pre`: its gating half. -/
def preHi (t : Fin 128) (l : Fin 2048) : ℝ :=
  unitGrad (P t) (fun k => normGrad P Y W t k * g k) l * slope (P t (hi l))

end Chunk

/-! The whole arrays: sixteen chunks of 128 tokens. -/

/-- Token `s` of chunk `n`, the chunk of token `i` and its place there, lane `d` of group `k`. -/
def row (n : Fin 16) (s : Fin 128) : Fin 2048 := ⟨n.val * 128 + s.val, by omega⟩
def blk (i : Fin 2048) : Fin 16 := ⟨i.val / 128, by omega⟩
def pos (i : Fin 2048) : Fin 128 := ⟨i.val % 128, by omega⟩
def lane (k : Fin 8) (d : Fin 256) : Fin 2048 := ⟨k.val * 256 + d.val, by omega⟩

theorem row_blk_pos (i : Fin 2048) : row (blk i) (pos i) = i := Fin.ext (by simp only [row, blk, pos]; omega)
theorem blk_row (n : Fin 16) (s : Fin 128) : blk (row n s) = n := Fin.ext (by simp only [row, blk]; omega)
theorem pos_row (n : Fin 16) (s : Fin 128) : pos (row n s) = s := Fin.ext (by simp only [row, pos]; omega)
theorem grp_lane (k : Fin 8) (d : Fin 256) : grp (lane k d) = k := Fin.ext (by simp only [grp, lane]; omega)

/-- A sum over the tokens is one over the chunks and their tokens. -/
theorem sum_rows (f : Fin 2048 → ℝ) : ∑ i, f i = ∑ n, ∑ s, f (row n s) :=
  (Fintype.sum_equiv (finProdFinEquiv (m := 16) (n := 128)) (fun x => f (row x.1 x.2)) f fun x =>
    congrArg f (Fin.ext (by simp only [row, finProdFinEquiv_apply_val]; omega))).symm.trans (Fintype.sum_prod_type _)

/-- A sum over the lanes is one over the groups and their lanes. -/
theorem sum_lanes {M : Type*} [AddCommMonoid M] (f : Fin 2048 → M) : ∑ l, f l = ∑ k, ∑ d, f (lane k d) :=
  (Fintype.sum_equiv (finProdFinEquiv (m := 8) (n := 256)) (fun x => f (lane x.1 x.2)) f fun x =>
    congrArg f (Fin.ext (by simp only [lane, finProdFinEquiv_apply_val]; omega))).symm.trans (Fintype.sum_prod_type _)

section Whole
variable (p : Fin 2048 → Fin 4096 → ℝ) (y : Fin 2048 → Fin 2048 → ℝ) (g b : Fin 2048 → ℝ)
  (W : Fin 8 → Fin 128 → Fin 128 → ℝ) (B : Fin 8 → Fin 128 → ℝ)

/-- The tokens of chunk `n`. -/
def chunk {α : Type} (q : Fin 2048 → α) (n : Fin 16) (s : Fin 128) : α := q (row n s)

theorem chunk_pos {α : Type} (q : Fin 2048 → α) (i : Fin 2048) : chunk q (blk i) (pos i) = q i := by
  rw [chunk, row_blk_pos]

/-- The gradient of `pre`. -/
def outPre (i : Fin 2048) (l : Fin 4096) : ℝ :=
  if h : l.val < 2048 then preLo (chunk p (blk i)) (chunk y (blk i)) g b W B (pos i) ⟨l.val, h⟩
  else preHi (chunk p (blk i)) (chunk y (blk i)) g W (pos i) ⟨l.val - 2048, by omega⟩

/-- The gradient of the layer norm's gain. -/
def outGain (l : Fin 2048) : ℝ := ∑ n, ∑ s, normGrad (chunk p n) (chunk y n) W s l * unit (chunk p n s) l

/-- The gradient of the layer norm's shift. -/
def outBias (l : Fin 2048) : ℝ := ∑ n, ∑ s, normGrad (chunk p n) (chunk y n) W s l

/-- The gradient of the spatial weights. -/
def outWeight (k : Fin 8) (t s : Fin 128) : ℝ :=
  if s ≤ t then ∑ n, ∑ d, gateGrad (chunk p n) (chunk y n) t (lane k d) * norm (chunk p n s) g b (lane k d) else 0

/-- The gradient of the spatial shift. -/
def outShift (k : Fin 8) (t : Fin 128) : ℝ := ∑ n, ∑ d, gateGrad (chunk p n) (chunk y n) t (lane k d)

end Whole

theorem cmp_mask : ∀ t s : Fin 128, IntOp.cmpi .sge (BitVec.ofNat 32 t.val) (BitVec.ofNat 32 s.val) = BitVec.ofBool (decide (s ≤ t)) := by
  decide +kernel

/-- A select by the causal mask. -/
theorem select_mask (t s : Fin 128) (x : EReal) :
    Scalar.select (IntOp.cmpi .sge (BitVec.ofNat 32 t.val) (BitVec.ofNat 32 s.val)) x 0 = if s ≤ t then x else 0 := by
  rw [cmp_mask]
  by_cases h : s ≤ t <;> simp [h, Scalar.select]

theorem select_coe (W : Fin 8 → Fin 128 → Fin 128 → ℝ) (k : Fin 8) (t s : Fin 128) :
    Scalar.select (IntOp.cmpi .sge (BitVec.ofNat 32 t.val) (BitVec.ofNat 32 s.val)) (W k t s : EReal) 0 = (mask W k t s : EReal) := by
  rw [select_mask, mask]
  split <;> rfl

end Cert.GateSpec
end
-- ==== Proof.GateBlock.lean ====
/- One chunk of the spatial gate's backward call: what its stores hold, group by group, of the chunk's blocks, and what
   they are at real arguments. -/
module

public import proofs.«01_k».proof.Proof.Gen.GateIdeal.Frame
public import proofs.«01_k».proof.Proof.GateSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value
open Cert.GateIdeal Cert.GateIdeal.Gen Cert.Reals Cert.GateSpec

theorem named_root : Named.named (F := Ideal) κ "sqrt_half" (φ := .f32) 0x3F3504F3#32 = (root : EReal) :=
  IdealRules.named_const.ideal_named_scalar _ _ _ _ rfl

theorem named_dens : Named.named (F := Ideal) κ "inv_sqrt_2pi" (φ := .f32) 0x3ECC422A#32 = (dens : EReal) :=
  IdealRules.named_const.ideal_named_scalar _ _ _ _ rfl

variable (x0 : Vec Ideal S128x4096 .f32) (x1 : Vec Ideal S128x2048 .f32) (x2 x3 : Vec Ideal S1x2048 .f32)
  (x4 : Vec Ideal S8x128x128 .f32) (x5 : Vec Ideal S8x128x1 .f32)

/-! The loads of group `k`: its lanes of the gated and of the gating half, of the cotangent and of the two rows, its
    spatial weights and its shift. -/

def lowS (k : Fin 8) : Vec Ideal S128x256 .f32 :=
  View.ld (Val := Elt Ideal) x0 (Rect.unit (s := S128x4096) ![0, 256 * k.val] S128x256.size (by intro a; fin_cases a <;> simp <;> omega))

def highS (k : Fin 8) : Vec Ideal S128x256 .f32 :=
  View.ld (Val := Elt Ideal) x0 (Rect.unit (s := S128x4096) ![0, 2048 + 256 * k.val] S128x256.size (by intro a; fin_cases a <;> simp <;> omega))

def cotS (k : Fin 8) : Vec Ideal S128x256 .f32 :=
  View.ld (Val := Elt Ideal) x1 (Rect.unit (s := S128x2048) ![0, 256 * k.val] S128x256.size (by intro a; fin_cases a <;> simp <;> omega))

def rowS (k : Fin 8) : Vec Ideal S1x256 .f32 :=
  View.ld (Val := Elt Ideal) x2 (Rect.unit (s := S1x2048) ![0, 256 * k.val] S1x256.size (by intro a; fin_cases a <;> simp <;> omega))

def weightS (k : Fin 8) : Vec Ideal S1x128x128 .f32 :=
  View.ld (Val := Elt Ideal) x4 (Rect.unit (s := S8x128x128) ![k.val, 0, 0] S1x128x128.size (by intro a; fin_cases a <;> simp <;> omega))

def shiftS (k : Fin 8) : Vec Ideal S1x128x1 .f32 :=
  View.ld (Val := Elt Ideal) x5 (Rect.unit (s := S8x128x1) ![k.val, 0, 0] S1x128x1.size (by intro a; fin_cases a <;> simp <;> omega))

theorem lowS_at (k : Fin 8) (t : Fin 128) (d : Fin 256) : lowS x0 k (ix2 t d) = x0 (ix2 t (lo (lane k d))) := by
  pointwise [lowS]
  blk_ext [lo, hi, lane, mul_comm, add_assoc]

theorem highS_at (k : Fin 8) (t : Fin 128) (d : Fin 256) : highS x0 k (ix2 t d) = x0 (ix2 t (hi (lane k d))) := by
  pointwise [highS]
  blk_ext [lo, hi, lane, mul_comm, add_assoc]

theorem cotS_at (k : Fin 8) (t : Fin 128) (d : Fin 256) : cotS x1 k (ix2 t d) = x1 (ix2 t (lane k d)) := by
  pointwise [cotS]
  blk_ext [lo, hi, lane, mul_comm, add_assoc]

theorem rowS_at (k : Fin 8) (d : Fin 256) : rowS x2 k (ix2 0 d) = x2 (ix2 0 (lane k d)) := by
  pointwise [rowS]
  blk_ext [lo, hi, lane, mul_comm, add_assoc]

theorem weightS_at (k : Fin 8) (t s : Fin 128) : weightS x4 k (ix3 0 t s) = x4 (ix3 k t s) := by
  pointwise [weightS]
  blk_ext [lo, hi, lane, mul_comm, add_assoc]

theorem shiftS_at (k : Fin 8) (t : Fin 128) : shiftS x5 k (ix3 0 t 0) = x5 (ix3 k t 0) := by
  pointwise [shiftS]
  blk_ext [lo, hi, lane, mul_comm, add_assoc]

/-! What the body computes of them, group by group. -/

/-- The gating half after the GELU. -/
def valS (k : Fin 8) : Vec Ideal S128x256 .f32 := k0_pay7 (highS x0 k)

/-- The mean of each row, before its last group and whole. -/
def meanPart : FVec Ideal S128x1 .f32 :=
  k0_pay22 (k0_pay15 (k0_pay10 (highS x0 0) (highS x0 1)) (highS x0 2) (highS x0 3)) (k0_pay16 (highS x0 4)) (highS x0 5) (highS x0 6)
def meanS : FVec Ideal S128x1 .f32 := k0_pay25 (meanPart x0) (highS x0 7)

/-- One over the root of each row's variance. -/
def scaleS : FVec Ideal S128x1 .f32 :=
  k0_pay28 (meanS x0) (k0_pay26 (meanPart x0) (highS x0 7) (valS x0 0) (valS x0 1) (valS x0 2)) (valS x0 3)
    (k0_pay27 (meanPart x0) (highS x0 7)) (valS x0 4) (valS x0 5) (valS x0 6) (valS x0 7)

/-- The normalised rows. -/
def unitS (k : Fin 8) : FVec Ideal S128x256 .f32 := k0_pay32 (meanS x0) (scaleS x0) (valS x0 k)

/-- The gradient of the gate. -/
def gateGradS (k : Fin 8) : FVec Ideal S128x256 .f32 := k0_pay35 (lowS x0 k) (cotS x1 k)

/-- The gradient of the scaled and shifted rows. -/
def normGradS (k : Fin 8) : FVec Ideal S128x256 .f32 :=
  k0_pay41 (k0_pay34 (weightS x4 k)) (k0_pay36 (lowS x0 k) (cotS x1 k)) (constant S128x256 .f32 0x00000000#32)

/-- The gradient of `pre`: the gated half. -/
def preLoS (k : Fin 8) : FVec Ideal S128x256 .bf16 :=
  k0_pay38 (lowS x0 k) (k0_pay37 (meanS x0) (scaleS x0) (valS x0 k) (rowS x2 k) (rowS x3 k) (weightS x4 k) (cotS x1 k) (shiftS x5 k))
    (Named.named κ "sqrt_half" 0x3F3504F3#32)

/-- A sum over the rows' lanes, group `k` added. -/
def sumS (k : Fin 8) (a : FVec Ideal S128x1 .f32) : FVec Ideal S128x1 .f32 :=
  k0_pay46 a (rowS x2 k) (k0_pay34 (weightS x4 k)) (k0_pay36 (lowS x0 k) (cotS x1 k)) (constant S128x256 .f32 0x00000000#32)

/-- The same against the normalised rows. -/
def dotS (k : Fin 8) (a : FVec Ideal S128x1 .f32) : FVec Ideal S128x1 .f32 :=
  k0_pay47 a (unitS x0 k) (rowS x2 k) (k0_pay34 (weightS x4 k)) (k0_pay36 (lowS x0 k) (cotS x1 k)) (constant S128x256 .f32 0x00000000#32)

/-- The mean of the normalised rows' cotangent, and of its product with them. -/
def cotMeanS : FVec Ideal S128x1 .f32 :=
  mulf (sumS x0 x1 x2 x4 7 (sumS x0 x1 x2 x4 6 (sumS x0 x1 x2 x4 5 (sumS x0 x1 x2 x4 4 (sumS x0 x1 x2 x4 3 (sumS x0 x1 x2 x4 2
    (sumS x0 x1 x2 x4 1 (sumS x0 x1 x2 x4 0 k0_pay30)))))))) (broadcast S128x1 (Scalar.ofBits .f32 0x3A000000#32))
def dotMeanS : FVec Ideal S128x1 .f32 :=
  mulf (dotS x0 x1 x2 x4 7 (dotS x0 x1 x2 x4 6 (dotS x0 x1 x2 x4 5 (dotS x0 x1 x2 x4 4 (dotS x0 x1 x2 x4 3 (dotS x0 x1 x2 x4 2
    (dotS x0 x1 x2 x4 1 (dotS x0 x1 x2 x4 0 k0_pay31)))))))) (broadcast S128x1 (Scalar.ofBits .f32 0x3A000000#32))

/-- The gradient of `pre`: the gating half. -/
def preHiS (k : Fin 8) : FVec Ideal S128x256 .bf16 :=
  k0_pay174 (scaleS x0) (cotMeanS x0 x1 x2 x4) (dotMeanS x0 x1 x2 x4) (k0_pay173 (meanS x0) (scaleS x0) (valS x0 k))
    (k0_pay42 (k0_pay34 (weightS x4 k)) (k0_pay36 (lowS x0 k) (cotS x1 k)) (constant S128x256 .f32 0x00000000#32))
    (rowS x2 k) (highS x0 k)

/-- What one chunk adds to the gradients of the gain, of the shift, of the spatial weights and of the spatial shift. -/
def gainS (k : Fin 8) (a : Vec Ideal S1x256 .f32) : FVec Ideal S1x256 .f32 :=
  k0_pay43 (unitS x0 k) (k0_pay34 (weightS x4 k)) (k0_pay36 (lowS x0 k) (cotS x1 k)) (constant S128x256 .f32 0x00000000#32) a
def biasS (k : Fin 8) (a : Vec Ideal S1x256 .f32) : FVec Ideal S1x256 .f32 :=
  k0_pay44 (k0_pay34 (weightS x4 k)) (k0_pay36 (lowS x0 k) (cotS x1 k)) (constant S128x256 .f32 0x00000000#32) a
def weightGradS (k : Fin 8) (a : Vec Ideal S1x128x128 .f32) : FVec Ideal S1x128x128 .f32 :=
  k0_pay39 k0_pay29 (k0_pay33 (meanS x0) (scaleS x0) (valS x0 k) (rowS x2 k) (rowS x3 k)) (k0_pay36 (lowS x0 k) (cotS x1 k)) a
def shiftGradS (k : Fin 8) (a : Vec Ideal S1x128x1 .f32) : FVec Ideal S1x128x1 .f32 :=
  k0_pay40 (gateGradS x0 x1 k) a

/-! At real arguments. -/

variable {P : Fin 128 → Fin 4096 → ℝ} {Y : Fin 128 → Fin 2048 → ℝ} {g b : Fin 2048 → ℝ}
  {W : Fin 8 → Fin 128 → Fin 128 → ℝ} {B : Fin 8 → Fin 128 → ℝ}

/-- The chunk's blocks are the reals `P`, `Y`, `g`, `b`, `W` and `B`. -/
structure Block (x0 : Vec Ideal S128x4096 .f32) (x1 : Vec Ideal S128x2048 .f32) (x2 x3 : Vec Ideal S1x2048 .f32)
    (x4 : Vec Ideal S8x128x128 .f32) (x5 : Vec Ideal S8x128x1 .f32) (P : Fin 128 → Fin 4096 → ℝ) (Y : Fin 128 → Fin 2048 → ℝ)
    (g b : Fin 2048 → ℝ) (W : Fin 8 → Fin 128 → Fin 128 → ℝ) (B : Fin 8 → Fin 128 → ℝ) : Prop where
  pre : ∀ t l, x0 (ix2 t l) = (P t l : EReal)
  cot : ∀ t l, x1 (ix2 t l) = (Y t l : EReal)
  gain : ∀ l, x2 (ix2 0 l) = (g l : EReal)
  bias : ∀ l, x3 (ix2 0 l) = (b l : EReal)
  weight : ∀ k t s, x4 (ix3 k t s) = (W k t s : EReal)
  shift : ∀ k t, x5 (ix3 k t 0) = (B k t : EReal)

variable (h : Block x0 x1 x2 x3 x4 x5 P Y g b W B)

theorem erf_float (x : EReal) : FloatOps.erf (F := Ideal) (φ := .f32) x = Ideal.erf x := rfl

/-- The GELU of a strip of lanes. -/
theorem gelu_strip (v : Vec Ideal S128x256 .f32) (t : Fin 128) (d : Fin 256) (r : ℝ) (hr : v (ix2 t d) = (r : EReal)) :
    k0_pay6 v (ix2 t d) = (gelu r : EReal) := by
  pointwise [k0_pay6]
  simp only [hr, lit_half, named_root, ← EReal.coe_mul, erf_float,
    erf_coe, ← EReal.coe_one, ← EReal.coe_add]
  rfl

/-- The eight strips' GELUs are one function. -/
theorem strips : k0_pay8 (F := Ideal) = k0_pay6 ∧ k0_pay11 (F := Ideal) = k0_pay6 ∧ k0_pay13 (F := Ideal) = k0_pay6
    ∧ k0_pay16 (F := Ideal) = k0_pay6 ∧ k0_pay18 (F := Ideal) = k0_pay6 ∧ k0_pay20 (F := Ideal) = k0_pay6
    ∧ k0_pay23 (F := Ideal) = k0_pay6 := ⟨rfl, rfl, rfl, rfl, rfl, rfl, rfl⟩

include h

theorem gelu_at (k : Fin 8) (t : Fin 128) (d : Fin 256) : k0_pay6 (highS x0 k) (ix2 t d) = (val (P t) (lane k d) : EReal) :=
  gelu_strip _ t d _ ((highS_at x0 k t d).trans (h.pre t _))

theorem valS_at (k : Fin 8) (t : Fin 128) (d : Fin 256) : valS x0 k (ix2 t d) = (val (P t) (lane k d) : EReal) := by
  pointwise [valS, k0_pay7]
  exact gelu_at x0 x1 x2 x3 x4 x5 h k t d

theorem meanS_at (t : Fin 128) : meanS x0 (ix2 t 0) = (mean (P t) : EReal) := by
  obtain ⟨e8, e11, e13, e16, e18, e20, e23⟩ := strips
  pointwise [meanS, k0_pay25, meanPart, k0_pay22, k0_pay15, k0_pay10]
  simp only [e8, e11, e13, e16, e18, e20, e23, gelu_at x0 x1 x2 x3 x4 x5 h, lit_inv_2048, ← coe_sum, ← EReal.coe_add, ← EReal.coe_mul]
  rw [mean, sum_lanes, Fin.sum_univ_eight, mul_one_div]

theorem scaleS_at (t : Fin 128) : scaleS x0 (ix2 t 0) = (scale (P t) : EReal) := by
  have hm : k0_pay25 (meanPart x0) (highS x0 7) = meanS x0 := rfl
  pointwise [scaleS, k0_pay28, k0_pay27, k0_pay26]
  simp only [hm, valS_at x0 x1 x2 x3 x4 x5 h, meanS_at x0 x1 x2 x3 x4 x5 h, lit_inv_2048, lit_eps, ← EReal.coe_sub, ← EReal.coe_mul, ← coe_sum, ← EReal.coe_add]
  refine Eq.trans (congrArg Ideal.rsqrt (congrArg _ ?_)) (rsqrt_coe (spread_pos (P t)))
  rw [spread, sum_lanes, Fin.sum_univ_eight, mul_one_div]
  rfl

theorem unitS_at (k : Fin 8) (t : Fin 128) (d : Fin 256) : unitS x0 k (ix2 t d) = (unit (P t) (lane k d) : EReal) := by
  pointwise [unitS, k0_pay32]
  simp only [valS_at x0 x1 x2 x3 x4 x5 h, meanS_at x0 x1 x2 x3 x4 x5 h, scaleS_at x0 x1 x2 x3 x4 x5 h, ← EReal.coe_sub, ← EReal.coe_mul]
  rfl

theorem gateGradS_at (k : Fin 8) (t : Fin 128) (d : Fin 256) :
    gateGradS x0 x1 k (ix2 t d) = (gateGrad P Y t (lane k d) : EReal) := by
  have e : gateGradS x0 x1 k (ix2 t d) = cotS x1 k (ix2 t d) * k0_pay6 (lowS x0 k) (ix2 t d) := by
    pointwise [gateGradS, k0_pay35, k0_pay6]
  rw [e, gelu_strip _ t d _ ((lowS_at x0 k t d).trans (h.pre t _)), cotS_at, h.cot, ← EReal.coe_mul]
  rfl

theorem maskS_at (k : Fin 8) (t s : Fin 128) : k0_pay34 (weightS x4 k) (ix2 t s) = (mask W k t s : EReal) := by
  pointwise [k0_pay34]
  rw [weightS_at, h.weight]
  exact select_coe W k t s

theorem normS_at (k : Fin 8) (t : Fin 128) (d : Fin 256) :
    k0_pay33 (meanS x0) (scaleS x0) (valS x0 k) (rowS x2 k) (rowS x3 k) (ix2 t d) = (GateSpec.norm (P t) g b (lane k d) : EReal) := by
  have e : k0_pay32 (meanS x0) (scaleS x0) (valS x0 k) = unitS x0 k := rfl
  pointwise [k0_pay33]
  simp only [e, unitS_at x0 x1 x2 x3 x4 x5 h, rowS_at, h.gain, h.bias, ← EReal.coe_mul, ← EReal.coe_add]
  rfl

theorem normGradS_at (k : Fin 8) (s : Fin 128) (d : Fin 256) :
    normGradS x0 x1 x4 k (ix2 s d) = (normGrad P Y W s (lane k d) : EReal) := by
  have e : ∀ t, k0_pay36 (lowS x0 k) (cotS x1 k) (ix2 t d) = (gateGrad P Y t (lane k d) : EReal) := fun t =>
    gateGradS_at x0 x1 x2 x3 x4 x5 h k t d
  pointwise [normGradS, k0_pay41]
  simp only [e, maskS_at x0 x1 x2 x3 x4 x5 h, ← EReal.coe_mul, ← coe_sum]
  simp only [normGrad, grp_lane]

theorem preLoS_at (k : Fin 8) (t : Fin 128) (d : Fin 256) :
    preLoS x0 x1 x2 x3 x4 x5 k (ix2 t d) = (preLo P Y g b W B t (lane k d) : EReal) := by
  have e : k0_pay32 (meanS x0) (scaleS x0) (valS x0 k) = unitS x0 k := rfl
  pointwise [preLoS, k0_pay38, k0_pay37]
  simp only [cotS_at, h.cot, maskS_at x0 x1 x2 x3 x4 x5 h, normS_at x0 x1 x2 x3 x4 x5 h, shiftS_at, h.shift, lowS_at, h.pre, named_root,
    named_dens, lit_half, lit_neg_half, erf_float, erf_coe, ← EReal.coe_one, ← EReal.coe_mul, ← EReal.coe_add, ← coe_sum, Ideal.exp_coe]
  rw [preLo, gate, grp_lane]
  rfl

theorem sumS_at (k : Fin 8) (a : FVec Ideal S128x1 .f32) (t : Fin 128) :
    sumS x0 x1 x2 x4 k a (ix2 t 0) = a (ix2 t 0) + ((∑ d, normGrad P Y W t (lane k d) * g (lane k d) : ℝ) : EReal) := by
  have e : k0_pay41 (k0_pay34 (weightS x4 k)) (k0_pay36 (lowS x0 k) (cotS x1 k)) (constant S128x256 .f32 0x00000000#32)
      = normGradS x0 x1 x4 k := rfl
  pointwise [sumS, k0_pay46, k0_pay45]
  simp only [e, normGradS_at x0 x1 x2 x3 x4 x5 h, rowS_at, h.gain, ← EReal.coe_mul, ← coe_sum]

theorem dotS_at (k : Fin 8) (a : FVec Ideal S128x1 .f32) (t : Fin 128) :
    dotS x0 x1 x2 x4 k a (ix2 t 0)
      = a (ix2 t 0) + ((∑ d, normGrad P Y W t (lane k d) * g (lane k d) * unit (P t) (lane k d) : ℝ) : EReal) := by
  have e : k0_pay41 (k0_pay34 (weightS x4 k)) (k0_pay36 (lowS x0 k) (cotS x1 k)) (constant S128x256 .f32 0x00000000#32)
      = normGradS x0 x1 x4 k := rfl
  pointwise [dotS, k0_pay47, k0_pay45]
  simp only [e, normGradS_at x0 x1 x2 x3 x4 x5 h, unitS_at x0 x1 x2 x3 x4 x5 h, rowS_at, h.gain, ← EReal.coe_mul, ← coe_sum]

theorem cotMeanS_at (t : Fin 128) :
    cotMeanS x0 x1 x2 x4 (ix2 t 0) = (((∑ l, normGrad P Y W t l * g l) / 2048 : ℝ) : EReal) := by
  pointwise [cotMeanS, k0_pay30]
  simp only [sumS_at x0 x1 x2 x3 x4 x5 h, lit_inv_2048]
  pointwise [k0_pay30]
  simp only [← EReal.coe_mul, ← EReal.coe_add]
  rw [sum_lanes, Fin.sum_univ_eight, mul_one_div]

theorem dotMeanS_at (t : Fin 128) :
    dotMeanS x0 x1 x2 x4 (ix2 t 0) = (((∑ l, normGrad P Y W t l * g l * unit (P t) l) / 2048 : ℝ) : EReal) := by
  pointwise [dotMeanS]
  simp only [dotS_at x0 x1 x2 x3 x4 x5 h, lit_inv_2048]
  pointwise [k0_pay31]
  simp only [← EReal.coe_mul, ← EReal.coe_add]
  rw [sum_lanes, Fin.sum_univ_eight, mul_one_div]

theorem preHiS_at (k : Fin 8) (t : Fin 128) (d : Fin 256) :
    preHiS x0 x1 x2 x4 k (ix2 t d) = (preHi P Y g W t (lane k d) : EReal) := by
  have e : k0_pay173 (meanS x0) (scaleS x0) (valS x0 k) = unitS x0 k := rfl
  have e' : k0_pay41 (k0_pay34 (weightS x4 k)) (k0_pay36 (lowS x0 k) (cotS x1 k)) (constant S128x256 .f32 0x00000000#32)
      = normGradS x0 x1 x4 k := rfl
  pointwise [preHiS, k0_pay174, k0_pay42]
  simp only [e, e', cotMeanS_at x0 x1 x2 x3 x4 x5 h, dotMeanS_at x0 x1 x2 x3 x4 x5 h, scaleS_at x0 x1 x2 x3 x4 x5 h, unitS_at x0 x1 x2 x3 x4 x5 h,
    normGradS_at x0 x1 x2 x3 x4 x5 h, rowS_at, h.gain, highS_at, h.pre, named_root, named_dens, lit_half, lit_neg_half, erf_float, erf_coe,
    ← EReal.coe_one, ← EReal.coe_mul, ← EReal.coe_add, ← EReal.coe_sub, Ideal.exp_coe]
  rfl

theorem gainS_at (k : Fin 8) (a : Vec Ideal S1x256 .f32) (d : Fin 256) :
    gainS x0 x1 x4 k a (ix2 0 d) = a (ix2 0 d) + ((∑ s, normGrad P Y W s (lane k d) * unit (P s) (lane k d) : ℝ) : EReal) := by
  have e : k0_pay41 (k0_pay34 (weightS x4 k)) (k0_pay36 (lowS x0 k) (cotS x1 k)) (constant S128x256 .f32 0x00000000#32)
      = normGradS x0 x1 x4 k := rfl
  pointwise [gainS, k0_pay43]
  simp only [e, normGradS_at x0 x1 x2 x3 x4 x5 h, unitS_at x0 x1 x2 x3 x4 x5 h, ← EReal.coe_mul, ← coe_sum]

theorem biasS_at (k : Fin 8) (a : Vec Ideal S1x256 .f32) (d : Fin 256) :
    biasS x0 x1 x4 k a (ix2 0 d) = a (ix2 0 d) + ((∑ s, normGrad P Y W s (lane k d) : ℝ) : EReal) := by
  have e : k0_pay41 (k0_pay34 (weightS x4 k)) (k0_pay36 (lowS x0 k) (cotS x1 k)) (constant S128x256 .f32 0x00000000#32)
      = normGradS x0 x1 x4 k := rfl
  pointwise [biasS, k0_pay44]
  simp only [e, normGradS_at x0 x1 x2 x3 x4 x5 h, ← coe_sum]

theorem weightGradS_at (k : Fin 8) (a : Vec Ideal S1x128x128 .f32) (t s : Fin 128) :
    weightGradS x0 x1 x2 x3 k a (ix3 0 t s)
      = a (ix3 0 t s) + ((if s ≤ t then ∑ d, gateGrad P Y t (lane k d) * GateSpec.norm (P s) g b (lane k d) else 0 : ℝ) : EReal) := by
  have e : ∀ d, k0_pay36 (lowS x0 k) (cotS x1 k) (ix2 t d) = (gateGrad P Y t (lane k d) : EReal) := fun d =>
    gateGradS_at x0 x1 x2 x3 x4 x5 h k t d
  pointwise [weightGradS, k0_pay39, k0_pay29]
  simp only [e, normS_at x0 x1 x2 x3 x4 x5 h, ← EReal.coe_mul, ← coe_sum, select_mask]
  split <;> rfl

theorem shiftGradS_at (k : Fin 8) (a : Vec Ideal S1x128x1 .f32) (t : Fin 128) :
    shiftGradS x0 x1 k a (ix3 0 t 0) = a (ix3 0 t 0) + ((∑ d, gateGrad P Y t (lane k d) : ℝ) : EReal) := by
  pointwise [shiftGradS, k0_pay40]
  simp only [gateGradS_at x0 x1 x2 x3 x4 x5 h, ← coe_sum]
end Cert.GateIdeal.Value
end
-- ==== Proof.GateKernel.lean ====
/- The spatial gate's backward call: what it leaves in its five result arrays, at real arguments. -/
module

public import proofs.«01_k».proof.Proof.GateBlock
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value
open Cert.GateIdeal Cert.GateIdeal.Gen Cert.Reals Cert.GateSpec

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![0, 0] ∧ win0_3.index t = ![0, 0] ∧ win0_4.index t = ![0, 0, 0] ∧ win0_5.index t = ![0, 0, 0]
    ∧ win0_6.index t = ![t.val, 0] ∧ win0_7.index t = ![0, 0] ∧ win0_8.index t = ![0, 0]
    ∧ win0_9.index t = ![0, 0, 0] ∧ win0_10.index t = ![0, 0, 0] :=
  (by decide +kernel : ∀ t : Fin grid0.N, _)

/-- The kernel's arguments are the reals `p`, `y`, `g`, `b`, `W` and `B`. -/
structure Args (m : (ℓ : Loc nD τ sig) → Buf (Elt Ideal) ℓ) (c : Dev nD) (p : Fin 2048 → Fin 4096 → ℝ) (y : Fin 2048 → Fin 2048 → ℝ)
    (g b : Fin 2048 → ℝ) (W : Fin 8 → Fin 128 → Fin 128 → ℝ) (B : Fin 8 → Fin 128 → ℝ) : Prop where
  pre : ∀ i l, m ((c : Thread nD τ).loc main_arg0) (ix2 i l) = (p i l : EReal)
  cot : ∀ i l, m ((c : Thread nD τ).loc main_arg1) (ix2 i l) = (y i l : EReal)
  gain : ∀ l, m ((c : Thread nD τ).loc main_arg2) (ix2 0 l) = (g l : EReal)
  bias : ∀ l, m ((c : Thread nD τ).loc main_arg3) (ix2 0 l) = (b l : EReal)
  weight : ∀ k t s, m ((c : Thread nD τ).loc main_arg4) (ix4 0 k t s) = (W k t s : EReal)
  shift : ∀ k t, m ((c : Thread nD τ).loc main_arg5) (ix3 0 k t) = (B k t : EReal)

variable {p : Fin 2048 → Fin 4096 → ℝ} {y : Fin 2048 → Fin 2048 → ℝ} {g b : Fin 2048 → ℝ}
  {W : Fin 8 → Fin 128 → Fin 128 → ℝ} {B : Fin 8 → Fin 128 → ℝ} (h : Args m c p y g b W B)
include h

/-- The chunk of point `t`. -/
abbrev num (t : Fin cfg0.N) : Fin 16 := ⟨t.val, lt_of_lt_of_eq t.isLt N_0⟩

theorem block_at (t : Fin cfg0.N) :
    Block (iblk m c 0 t) (iblk m c 1 t) (iblk m c 2 t) (iblk m c 3 t) (iblk m c 4 t) (iblk m c 5 t) (chunk p (num t)) (chunk y (num t)) g b W B where
  pre s l := by
    refine Eq.trans ?_ (h.pre _ _)
    blk_point [iblk, V, idx t, row]
  cot s l := by
    refine Eq.trans ?_ (h.cot _ _)
    blk_point [iblk, V, idx t, row]
  gain l := by
    refine Eq.trans ?_ (h.gain _)
    blk_point [iblk, V, idx t]
  bias l := by
    refine Eq.trans ?_ (h.bias _)
    blk_point [iblk, V, idx t]
  weight k r s := by
    refine Eq.trans ?_ (h.weight _ _ _)
    blk_simp [iblk, idx t]
    entry_read
    pointwise
    blk_ext [idx t]
  shift k r := by
    refine Eq.trans ?_ (h.shift _ _)
    blk_simp [iblk, idx t]
    entry_read
    pointwise
    blk_ext [idx t]

omit h in
theorem outPre_lo (n : Fin 16) (s : Fin 128) (l : Fin 2048) :
    outPre p y g b W B (row n s) (lo l) = preLo (chunk p n) (chunk y n) g b W B s l := by
  rw [outPre, dif_pos (show (lo l).val < 2048 from l.isLt), blk_row, pos_row]
  rfl

omit h in
theorem outPre_hi (n : Fin 16) (s : Fin 128) (l : Fin 2048) :
    outPre p y g b W B (row n s) (hi l) = preHi (chunk p n) (chunk y n) g W s l := by
  rw [outPre, dif_neg (show ¬ (hi l).val < 2048 by simp [hi]), blk_row, pos_row]
  exact congrArg _ (Fin.ext (by simp [hi]))

/-- A stored piece of the gated half. -/
theorem pieceLo (t : Fin cfg0.N) (k : Fin 8) (x : S128x256.Idx) (i : S2048x4096.Idx) (h0 : (i 0).val = t.val * 128 + (x 0).val)
    (h1 : (i 1).val = 256 * k.val + (x 1).val) :
    preLoS (iblk m c 0 t) (iblk m c 1 t) (iblk m c 2 t) (iblk m c 3 t) (iblk m c 4 t) (iblk m c 5 t) k x
      = ((outPre p y g b W B (i 0) (i 1) : ℝ) : EReal) := by
  idx_vars x
  rw [preLoS_at _ _ _ _ _ _ (block_at m c h t) k x0 x1, ← outPre_lo]
  exact congrArg _ (congrArg₂ _ (Fin.ext h0.symm) (Fin.ext (by rw [h1]; simp only [lo, lane]; omega)))

/-- A stored piece of the gating half. -/
theorem pieceHi (t : Fin cfg0.N) (k : Fin 8) (x : S128x256.Idx) (i : S2048x4096.Idx) (h0 : (i 0).val = t.val * 128 + (x 0).val)
    (h1 : (i 1).val = 2048 + 256 * k.val + (x 1).val) :
    preHiS (iblk m c 0 t) (iblk m c 1 t) (iblk m c 2 t) (iblk m c 4 t) k x
      = ((outPre p y g b W B (i 0) (i 1) : ℝ) : EReal) := by
  idx_vars x
  rw [preHiS_at _ _ _ _ _ _ (block_at m c h t) k x0 x1, ← outPre_hi]
  exact congrArg _ (congrArg₂ _ (Fin.ext h0.symm) (Fin.ext (by rw [h1]; simp only [hi, lane]; omega)))

set_option maxHeartbeats 4000000 in
theorem final6 : (dats m 0 c).arrAt 6 (cfgs 0).N = fun i => ((outPre p y g b W B (i 0) (i 1) : ℝ) : EReal) := by
  refine (dats m 0 c).arrAt_eq_of_covers 6 _ (by decide +kernel) fun t hf y => ?_
  blk_simp
  rw [after0_6]
  rcases Nat.eq_zero_or_pos (t.val % 16) with h0 | h0
  rw [outsAt0_A m c t h0]
  rotate_left
  rw [outsAt0_B m c t h0.ne']
  all_goals
    frame_open
    simp (disch := decide) only [↓View.readCov_skip, ↓View.readCov_cons_toLoadRect]
    frame_out
    generalize eM : k0_pay25 (F := Ideal) _ _ = M
    obtain rfl : meanS (iblk m c 0 t) = M := eM
    generalize eR : rsqrt (F := Ideal) (s := S128x1) (φ := .f32) _ = R
    obtain rfl : scaleS (iblk m c 0 t) = R := eR
    generalize eS : mulf (F := Ideal) (s := S128x1) (φ := .f32) (addf (addf (k0_pay137 _ _ _) _) _) _ = S
    obtain rfl : cotMeanS (iblk m c 0 t) (iblk m c 1 t) (iblk m c 2 t) (iblk m c 4 t) = S := eS
    generalize eD : mulf (F := Ideal) (s := S128x1) (φ := .f32) (addf _ _) (broadcast S128x1 _) = D
    obtain rfl : dotMeanS (iblk m c 0 t) (iblk m c 1 t) (iblk m c 2 t) (iblk m c 4 t) = D := eD
    clear hf h0
    canon_tiles x q
    case piece0 => exact pieceHi m c h t 7 x _ (by blk_simp [idx t]; omega) (by blk_simp [idx t]; omega)
    case piece1 => exact pieceHi m c h t 6 x _ (by blk_simp [idx t]; omega) (by blk_simp [idx t]; omega)
    case piece2 => exact pieceHi m c h t 5 x _ (by blk_simp [idx t]; omega) (by blk_simp [idx t]; omega)
    case piece3 => exact pieceHi m c h t 4 x _ (by blk_simp [idx t]; omega) (by blk_simp [idx t]; omega)
    case piece4 => exact pieceHi m c h t 3 x _ (by blk_simp [idx t]; omega) (by blk_simp [idx t]; omega)
    case piece5 => exact pieceHi m c h t 2 x _ (by blk_simp [idx t]; omega) (by blk_simp [idx t]; omega)
    case piece6 => exact pieceHi m c h t 1 x _ (by blk_simp [idx t]; omega) (by blk_simp [idx t]; omega)
    case piece7 => exact pieceHi m c h t 0 x _ (by blk_simp [idx t]; omega) (by blk_simp [idx t]; omega)
    case piece8 => exact pieceLo m c h t 7 x _ (by blk_simp [idx t]; omega) (by blk_simp [idx t]; omega)
    case piece9 => exact pieceLo m c h t 6 x _ (by blk_simp [idx t]; omega) (by blk_simp [idx t]; omega)
    case piece10 => exact pieceLo m c h t 5 x _ (by blk_simp [idx t]; omega) (by blk_simp [idx t]; omega)
    case piece11 => exact pieceLo m c h t 4 x _ (by blk_simp [idx t]; omega) (by blk_simp [idx t]; omega)
    case piece12 => exact pieceLo m c h t 3 x _ (by blk_simp [idx t]; omega) (by blk_simp [idx t]; omega)
    case piece13 => exact pieceLo m c h t 2 x _ (by blk_simp [idx t]; omega) (by blk_simp [idx t]; omega)
    case piece14 => exact pieceLo m c h t 1 x _ (by blk_simp [idx t]; omega) (by blk_simp [idx t]; omega)
    case piece15 => exact pieceLo m c h t 0 x _ (by blk_simp [idx t]; omega) (by blk_simp [idx t]; omega)

end Cert.GateIdeal.Value
end
-- ==== Proof.Fill.lean ====
/- Stores of which the later ones cover the buffer: the first is unseen. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Fill

/-- A first store is unseen where a later one covers. -/
theorem canon_append_of_cover {S : Shape} {e : EltTy} (q : List (View.Piece (Elt Ideal) S e)) (y : S.Idx) :
    ∀ L : List (View.Piece (Elt Ideal) S e), (∃ x ∈ L, y ∈ x.1.set) → View.canon (L ++ q) y = View.canon L y
  | [], h => by obtain ⟨_, hm, _⟩ := h; exact absurd hm List.not_mem_nil
  | x :: L, h => by
    by_cases hx : y ∈ x.1.set
    · obtain ⟨z, rfl⟩ := x.1.exists_idx_of_mem hx
      exact (View.canon_cons_emb x.1 x.2 (L ++ q) z).trans (View.canon_cons_emb x.1 x.2 L z).symm
    · rw [List.cons_append, View.canon_cons_of_not_mem _ _ hx, View.canon_cons_of_not_mem _ _ hx]
      obtain ⟨w, hw, hy⟩ := h
      refine canon_append_of_cover q y L ⟨w, (List.mem_cons.1 hw).resolve_left ?_, hy⟩
      rintro rfl
      exact hx hy

end Cert.Fill
end
-- ==== Proof.GateRows.lean ====
/- The spatial gate's backward call: the gradients of the layer norm's gain and shift, summed over the chunks. -/
module

public import proofs.«01_k».proof.Proof.GateKernel
public import proofs.«01_k».proof.Proof.Fill
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value
open Cert.GateIdeal Cert.GateIdeal.Gen Cert.Reals Cert.GateSpec

variable (m : (ℓ : Loc nD τ sig) → Buf (Elt Ideal) ℓ) (c : Dev nD)
  {p : Fin 2048 → Fin 4096 → ℝ} {y : Fin 2048 → Fin 2048 → ℝ} {g b : Fin 2048 → ℝ}
  {W : Fin 8 → Fin 128 → Fin 128 → ℝ} {B : Fin 8 → Fin 128 → ℝ} (h : Args m c p y g b W B)
include h

/-- What one chunk adds to lane `l` of the gain's gradient. -/
def gainPart (p : Fin 2048 → Fin 4096 → ℝ) (y : Fin 2048 → Fin 2048 → ℝ) (W : Fin 8 → Fin 128 → Fin 128 → ℝ) (n : Fin 16)
    (l : Fin 2048) : ℝ :=
  ∑ s, normGrad (chunk p n) (chunk y n) W s l * unit (chunk p n s) l

/-- A stored piece of the gain's gradient. -/
theorem pieceGain (t : Fin cfg0.N) (k : Fin 8) (x : S1x256.Idx) (a : Vec Ideal S1x256 .f32) (j : S1x2048.Idx) (r : EReal)
    (ha : a x = r) (h1 : (j 1).val = 256 * k.val + (x 1).val) :
    gainS (iblk m c 0 t) (iblk m c 1 t) (iblk m c 4 t) k a x = r + ((gainPart p y W (num t) (j 1) : ℝ) : EReal) := by
  idx_vars x
  obtain rfl : x0 = 0 := Subsingleton.elim _ _
  have e : (j 1 : Fin 2048) = lane k x1 := Fin.ext (by rw [h1]; simp only [lane]; omega)
  rw [gainS_at _ _ _ _ _ _ (block_at m c h t) k a x1, ha]
  exact congrArg (fun l => r + ((gainPart p y W (num t) l : ℝ) : EReal)) e.symm

theorem gain_first (t : Fin cfg0.N) (h0 : t.val % 16 = 0) (j : S1x2048.Idx) :
    (outsAt0 m c t.val t.isLt).2.1 j = 0 + ((gainPart p y W (num t) (j 1) : ℝ) : EReal) := by
  rw [outsAt0_A m c t h0]
  frame_open
  simp (disch := decide) only [↓View.readCov_skip, ↓View.readCov_cons_toLoadRect, ↓View.readCov_fill]
  frame_out
  generalize eM : k0_pay25 (F := Ideal) _ _ = M
  obtain rfl : meanS (iblk m c 0 t) = M := eM
  generalize eR : rsqrt (F := Ideal) (s := S128x1) (φ := .f32) _ = R
  obtain rfl : scaleS (iblk m c 0 t) = R := eR
  refine (Cert.Fill.canon_append_of_cover [_] j [_, _, _, _, _, _, _, _] (View.cover_of_tiled_head _ _ _ (by rfl) _)).trans ?_
  canon_tiles j q
  case piece0 => exact pieceGain m c h t 7 j _ _ 0 (by pointwise [k0_pay2]) (by simp only [q1]; omega)
  case piece1 => exact pieceGain m c h t 6 j _ _ 0 (by pointwise [k0_pay2]) (by simp only [q1]; omega)
  case piece2 => exact pieceGain m c h t 5 j _ _ 0 (by pointwise [k0_pay2]) (by simp only [q1]; omega)
  case piece3 => exact pieceGain m c h t 4 j _ _ 0 (by pointwise [k0_pay2]) (by simp only [q1]; omega)
  case piece4 => exact pieceGain m c h t 3 j _ _ 0 (by pointwise [k0_pay2]) (by simp only [q1]; omega)
  case piece5 => exact pieceGain m c h t 2 j _ _ 0 (by pointwise [k0_pay2]) (by simp only [q1]; omega)
  case piece6 => exact pieceGain m c h t 1 j _ _ 0 (by pointwise [k0_pay2]) (by simp only [q1]; omega)
  case piece7 => exact pieceGain m c h t 0 j _ _ 0 (by pointwise [k0_pay2]) (by simp only [q1]; omega)

theorem gain_next (t : Fin cfg0.N) (h0 : ¬ t.val % 16 = 0) (j : S1x2048.Idx) :
    (outsAt0 m c t.val t.isLt).2.1 j
      = (outsAt0 m c (t.val - 1) (by omega)).2.1 j + ((gainPart p y W (num t) (j 1) : ℝ) : EReal) := by
  rw [outsAt0_B m c t h0]
  frame_open
  try simp (disch := decide) only [↓View.readCov_skip, ↓View.readCov_cons_toLoadRect]
  frame_out
  generalize eM : k0_pay25 (F := Ideal) _ _ = M
  obtain rfl : meanS (iblk m c 0 t) = M := eM
  generalize eR : rsqrt (F := Ideal) (s := S128x1) (φ := .f32) _ = R
  obtain rfl : scaleS (iblk m c 0 t) = R := eR
  canon_tiles j q
  case piece0 => exact pieceGain m c h t 7 j _ _ _ (by pointwise; blk_ext [q0, q1]) (by simp only [q1]; omega)
  case piece1 => exact pieceGain m c h t 6 j _ _ _ (by pointwise; blk_ext [q0, q1]) (by simp only [q1]; omega)
  case piece2 => exact pieceGain m c h t 5 j _ _ _ (by pointwise; blk_ext [q0, q1]) (by simp only [q1]; omega)
  case piece3 => exact pieceGain m c h t 4 j _ _ _ (by pointwise; blk_ext [q0, q1]) (by simp only [q1]; omega)
  case piece4 => exact pieceGain m c h t 3 j _ _ _ (by pointwise; blk_ext [q0, q1]) (by simp only [q1]; omega)
  case piece5 => exact pieceGain m c h t 2 j _ _ _ (by pointwise; blk_ext [q0, q1]) (by simp only [q1]; omega)
  case piece6 => exact pieceGain m c h t 1 j _ _ _ (by pointwise; blk_ext [q0, q1]) (by simp only [q1]; omega)
  case piece7 => exact pieceGain m c h t 0 j _ _ _ (by pointwise; blk_ext [q0, q1]) (by simp only [q1]; omega)

/-- The array holds the gain's gradient. -/
theorem final7 : (dats m 0 c).arrAt 7 (cfgs 0).N = fun i => ((outGain p y W (i 1) : ℝ) : EReal) := by
  refine (dats m 0 c).arrAt_eq_of_covers 7 _ (by decide +kernel) fun t hf j => ?_
  blk_simp
  rw [after0_7]
  rw [Pipeline.eq_sum_fin_of_reset_step_apply_of_flush (fun n h => (outsAt0 m c n h).2.1) 16 (fun _ => 0)
    (fun q j => ((gainPart p y W (num q) (j 1) : ℝ) : EReal))
    (fun t h0 j => gain_first m c h t h0 j) (fun t h0 j => gain_next m c h t h0 j) t ((flush0_7 t).mp hf) _, zero_add]
  have ht : t.val / 16 = 0 := by have := lt_of_lt_of_eq t.isLt N_0; omega
  have hn : ∀ s : Fin 16, num ⟨_, Pipeline.run_point_lt_of_flush t ((flush0_7 t).mp hf) s⟩ = s := fun s =>
    Fin.ext (by simp only [num]; omega)
  have hj : (win0_7.blk t).view.emb j = j := by
    idx_vars j
    blk_ext [idx t]
  rw [hj]
  simp only [hn, ← coe_sum]
  rfl

/-- What one chunk adds to lane `l` of the shift's gradient. -/
def biasPart (p : Fin 2048 → Fin 4096 → ℝ) (y : Fin 2048 → Fin 2048 → ℝ) (W : Fin 8 → Fin 128 → Fin 128 → ℝ) (n : Fin 16)
    (l : Fin 2048) : ℝ :=
  ∑ s, normGrad (chunk p n) (chunk y n) W s l

/-- A stored piece of the shift's gradient. -/
theorem pieceBias (t : Fin cfg0.N) (k : Fin 8) (x : S1x256.Idx) (a : Vec Ideal S1x256 .f32) (j : S1x2048.Idx) (r : EReal)
    (ha : a x = r) (h1 : (j 1).val = 256 * k.val + (x 1).val) :
    biasS (iblk m c 0 t) (iblk m c 1 t) (iblk m c 4 t) k a x = r + ((biasPart p y W (num t) (j 1) : ℝ) : EReal) := by
  idx_vars x
  obtain rfl : x0 = 0 := Subsingleton.elim _ _
  have e : (j 1 : Fin 2048) = lane k x1 := Fin.ext (by rw [h1]; simp only [lane]; omega)
  rw [biasS_at _ _ _ _ _ _ (block_at m c h t) k a x1, ha]
  exact congrArg (fun l => r + ((biasPart p y W (num t) l : ℝ) : EReal)) e.symm

theorem bias_first (t : Fin cfg0.N) (h0 : t.val % 16 = 0) (j : S1x2048.Idx) :
    (outsAt0 m c t.val t.isLt).2.2.1 j = 0 + ((biasPart p y W (num t) (j 1) : ℝ) : EReal) := by
  rw [outsAt0_A m c t h0]
  frame_open
  simp (disch := decide) only [↓View.readCov_skip, ↓View.readCov_cons_toLoadRect, ↓View.readCov_fill]
  frame_out
  refine (Cert.Fill.canon_append_of_cover [_] j [_, _, _, _, _, _, _, _] (View.cover_of_tiled_head _ _ _ (by rfl) _)).trans ?_
  canon_tiles j q
  case piece0 => exact pieceBias m c h t 7 j _ _ 0 (by pointwise [k0_pay3]) (by simp only [q1]; omega)
  case piece1 => exact pieceBias m c h t 6 j _ _ 0 (by pointwise [k0_pay3]) (by simp only [q1]; omega)
  case piece2 => exact pieceBias m c h t 5 j _ _ 0 (by pointwise [k0_pay3]) (by simp only [q1]; omega)
  case piece3 => exact pieceBias m c h t 4 j _ _ 0 (by pointwise [k0_pay3]) (by simp only [q1]; omega)
  case piece4 => exact pieceBias m c h t 3 j _ _ 0 (by pointwise [k0_pay3]) (by simp only [q1]; omega)
  case piece5 => exact pieceBias m c h t 2 j _ _ 0 (by pointwise [k0_pay3]) (by simp only [q1]; omega)
  case piece6 => exact pieceBias m c h t 1 j _ _ 0 (by pointwise [k0_pay3]) (by simp only [q1]; omega)
  case piece7 => exact pieceBias m c h t 0 j _ _ 0 (by pointwise [k0_pay3]) (by simp only [q1]; omega)

theorem bias_next (t : Fin cfg0.N) (h0 : ¬ t.val % 16 = 0) (j : S1x2048.Idx) :
    (outsAt0 m c t.val t.isLt).2.2.1 j
      = (outsAt0 m c (t.val - 1) (by omega)).2.2.1 j + ((biasPart p y W (num t) (j 1) : ℝ) : EReal) := by
  rw [outsAt0_B m c t h0]
  frame_open
  try simp (disch := decide) only [↓View.readCov_skip, ↓View.readCov_cons_toLoadRect]
  frame_out
  canon_tiles j q
  case piece0 => exact pieceBias m c h t 7 j _ _ _ (by pointwise; blk_ext [q0, q1]) (by simp only [q1]; omega)
  case piece1 => exact pieceBias m c h t 6 j _ _ _ (by pointwise; blk_ext [q0, q1]) (by simp only [q1]; omega)
  case piece2 => exact pieceBias m c h t 5 j _ _ _ (by pointwise; blk_ext [q0, q1]) (by simp only [q1]; omega)
  case piece3 => exact pieceBias m c h t 4 j _ _ _ (by pointwise; blk_ext [q0, q1]) (by simp only [q1]; omega)
  case piece4 => exact pieceBias m c h t 3 j _ _ _ (by pointwise; blk_ext [q0, q1]) (by simp only [q1]; omega)
  case piece5 => exact pieceBias m c h t 2 j _ _ _ (by pointwise; blk_ext [q0, q1]) (by simp only [q1]; omega)
  case piece6 => exact pieceBias m c h t 1 j _ _ _ (by pointwise; blk_ext [q0, q1]) (by simp only [q1]; omega)
  case piece7 => exact pieceBias m c h t 0 j _ _ _ (by pointwise; blk_ext [q0, q1]) (by simp only [q1]; omega)

/-- The array holds the shift's gradient. -/
theorem final8 : (dats m 0 c).arrAt 8 (cfgs 0).N = fun i => ((outBias p y W (i 1) : ℝ) : EReal) := by
  refine (dats m 0 c).arrAt_eq_of_covers 8 _ (by decide +kernel) fun t hf j => ?_
  blk_simp
  rw [after0_8]
  rw [Pipeline.eq_sum_fin_of_reset_step_apply_of_flush (fun n h => (outsAt0 m c n h).2.2.1) 16 (fun _ => 0)
    (fun q j => ((biasPart p y W (num q) (j 1) : ℝ) : EReal))
    (fun t h0 j => bias_first m c h t h0 j) (fun t h0 j => bias_next m c h t h0 j) t ((flush0_8 t).mp hf) _, zero_add]
  have ht : t.val / 16 = 0 := by have := lt_of_lt_of_eq t.isLt N_0; omega
  have hn : ∀ s : Fin 16, num ⟨_, Pipeline.run_point_lt_of_flush t ((flush0_8 t).mp hf) s⟩ = s := fun s =>
    Fin.ext (by simp only [num]; omega)
  have hj : (win0_8.blk t).view.emb j = j := by
    idx_vars j
    blk_ext [idx t]
  rw [hj]
  simp only [hn, ← coe_sum]
  rfl

end Cert.GateIdeal.Value
end
-- ==== Proof.GateMats.lean ====
/- The spatial gate's backward call: the gradients of the spatial weights and of the spatial shift, summed over the chunks. -/
module

public import proofs.«01_k».proof.Proof.GateKernel
public import proofs.«01_k».proof.Proof.Fill
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value
open Cert.GateIdeal Cert.GateIdeal.Gen Cert.Reals Cert.GateSpec

variable (m : (ℓ : Loc nD τ sig) → Buf (Elt Ideal) ℓ) (c : Dev nD)
  {p : Fin 2048 → Fin 4096 → ℝ} {y : Fin 2048 → Fin 2048 → ℝ} {g b : Fin 2048 → ℝ}
  {W : Fin 8 → Fin 128 → Fin 128 → ℝ} {B : Fin 8 → Fin 128 → ℝ} (h : Args m c p y g b W B)
include h

/-- What one chunk adds to the gradient of the weight of token `s` in token `t`'s gate. -/
def weightPart (p : Fin 2048 → Fin 4096 → ℝ) (y : Fin 2048 → Fin 2048 → ℝ) (g b : Fin 2048 → ℝ) (n : Fin 16)
    (k : Fin 8) (t s : Fin 128) : ℝ :=
  if s ≤ t then ∑ d, gateGrad (chunk p n) (chunk y n) t (lane k d) * GateSpec.norm (chunk p n s) g b (lane k d) else 0

omit h in
theorem k0_pay4_at (j : S8x128x128.Idx) : k0_pay4 (F := Ideal) j = 0 := by pointwise [k0_pay4]

/-- A stored piece of the spatial weights' gradient. -/
theorem pieceWeight (t : Fin cfg0.N) (k : Fin 8) (x : S1x128x128.Idx) (a : Vec Ideal S8x128x128 .f32) (j : S8x128x128.Idx) (r : EReal)
    (hr : a j = r) (h0 : (j 0).val = k.val) (h1 : (j 1).val = (x 1).val) (h2 : (j 2).val = (x 2).val) :
    weightGradS (iblk m c 0 t) (iblk m c 1 t) (iblk m c 2 t) (iblk m c 3 t) k (weightS a k) x
      = r + ((weightPart p y g b (num t) (j 0) (j 1) (j 2) : ℝ) : EReal) := by
  idx_vars x
  obtain rfl : x0 = 0 := Subsingleton.elim _ _
  have e0 : (j 0 : Fin 8) = k := Fin.ext h0
  have e1 : (j 1 : Fin 128) = x1 := Fin.ext h1
  have e2 : (j 2 : Fin 128) = x2 := Fin.ext h2
  rw [weightGradS_at _ _ _ _ _ _ (block_at m c h t) k (weightS a k) x1 x2]
  subst e0 e1 e2
  refine congrArg (· + _) (Eq.trans ?_ hr)
  idx_vars j
  pointwise [weightS]
  blk_ext

theorem weight_first (t : Fin cfg0.N) (h0 : t.val % 16 = 0) (j : S8x128x128.Idx) :
    (outsAt0 m c t.val t.isLt).2.2.2.1 j = 0 + ((weightPart p y g b (num t) (j 0) (j 1) (j 2) : ℝ) : EReal) := by
  rw [outsAt0_A m c t h0]
  frame_open
  simp (disch := decide) only [↓View.readCov_skip, ↓View.readCov_cons_toLoadRect, ↓View.readCov_fill]
  frame_out
  generalize eM : k0_pay25 (F := Ideal) _ _ = M
  obtain rfl : meanS (iblk m c 0 t) = M := eM
  generalize eR : rsqrt (F := Ideal) (s := S128x1) (φ := .f32) _ = R
  obtain rfl : scaleS (iblk m c 0 t) = R := eR
  refine (Cert.Fill.canon_append_of_cover [_] j [_, _, _, _, _, _, _, _] (View.cover_of_tiled_head _ _ _ (by rfl) _)).trans ?_
  canon_tiles j q
  case piece0 => exact pieceWeight m c h t 7 j (k0_pay4 (F := Ideal)) _ 0 (k0_pay4_at _) (by simp only [q0]; omega) q1 q2
  case piece1 => exact pieceWeight m c h t 6 j (k0_pay4 (F := Ideal)) _ 0 (k0_pay4_at _) (by simp only [q0]; omega) q1 q2
  case piece2 => exact pieceWeight m c h t 5 j (k0_pay4 (F := Ideal)) _ 0 (k0_pay4_at _) (by simp only [q0]; omega) q1 q2
  case piece3 => exact pieceWeight m c h t 4 j (k0_pay4 (F := Ideal)) _ 0 (k0_pay4_at _) (by simp only [q0]; omega) q1 q2
  case piece4 => exact pieceWeight m c h t 3 j (k0_pay4 (F := Ideal)) _ 0 (k0_pay4_at _) (by simp only [q0]; omega) q1 q2
  case piece5 => exact pieceWeight m c h t 2 j (k0_pay4 (F := Ideal)) _ 0 (k0_pay4_at _) (by simp only [q0]; omega) q1 q2
  case piece6 => exact pieceWeight m c h t 1 j (k0_pay4 (F := Ideal)) _ 0 (k0_pay4_at _) (by simp only [q0]; omega) q1 q2
  case piece7 => exact pieceWeight m c h t 0 j (k0_pay4 (F := Ideal)) _ 0 (k0_pay4_at _) (by simp only [q0]; omega) q1 q2

theorem weight_next (t : Fin cfg0.N) (h0 : ¬ t.val % 16 = 0) (j : S8x128x128.Idx) :
    (outsAt0 m c t.val t.isLt).2.2.2.1 j
      = (outsAt0 m c (t.val - 1) (by omega)).2.2.2.1 j + ((weightPart p y g b (num t) (j 0) (j 1) (j 2) : ℝ) : EReal) := by
  rw [outsAt0_B m c t h0]
  frame_open
  try simp (disch := decide) only [↓View.readCov_skip, ↓View.readCov_cons_toLoadRect]
  frame_out
  generalize eM : k0_pay25 (F := Ideal) _ _ = M
  obtain rfl : meanS (iblk m c 0 t) = M := eM
  generalize eR : rsqrt (F := Ideal) (s := S128x1) (φ := .f32) _ = R
  obtain rfl : scaleS (iblk m c 0 t) = R := eR
  canon_tiles j q
  case piece0 => exact pieceWeight m c h t 7 j _ _ _ rfl (by simp only [q0]; omega) q1 q2
  case piece1 => exact pieceWeight m c h t 6 j _ _ _ rfl (by simp only [q0]; omega) q1 q2
  case piece2 => exact pieceWeight m c h t 5 j _ _ _ rfl (by simp only [q0]; omega) q1 q2
  case piece3 => exact pieceWeight m c h t 4 j _ _ _ rfl (by simp only [q0]; omega) q1 q2
  case piece4 => exact pieceWeight m c h t 3 j _ _ _ rfl (by simp only [q0]; omega) q1 q2
  case piece5 => exact pieceWeight m c h t 2 j _ _ _ rfl (by simp only [q0]; omega) q1 q2
  case piece6 => exact pieceWeight m c h t 1 j _ _ _ rfl (by simp only [q0]; omega) q1 q2
  case piece7 => exact pieceWeight m c h t 0 j _ _ _ rfl (by simp only [q0]; omega) q1 q2

/-- The array holds the spatial weights' gradient. -/
theorem final9 : (dats m 0 c).arrAt 9 (cfgs 0).N = fun i => ((outWeight p y g b (i 0) (i 1) (i 2) : ℝ) : EReal) := by
  refine (dats m 0 c).arrAt_eq_of_covers 9 _ (by decide +kernel) fun t hf j => ?_
  blk_simp
  rw [after0_9]
  rw [Pipeline.eq_sum_fin_of_reset_step_apply_of_flush (fun n h => (outsAt0 m c n h).2.2.2.1) 16 (fun _ => 0)
    (fun q j => ((weightPart p y g b (num q) (j 0) (j 1) (j 2) : ℝ) : EReal))
    (fun t h0 j => weight_first m c h t h0 j) (fun t h0 j => weight_next m c h t h0 j) t ((flush0_9 t).mp hf) _, zero_add]
  have ht : t.val / 16 = 0 := by have := lt_of_lt_of_eq t.isLt N_0; omega
  have hn : ∀ s : Fin 16, num ⟨_, Pipeline.run_point_lt_of_flush t ((flush0_9 t).mp hf) s⟩ = s := fun s =>
    Fin.ext (by simp only [num]; omega)
  have hj : (win0_9.blk t).view.emb j = j := by
    idx_vars j
    blk_ext [idx t]
  rw [hj]
  simp only [hn, ← coe_sum]
  simp only [weightPart, outWeight]
  split
  · rfl
  · rw [Finset.sum_const_zero]

/-- What one chunk adds to the gradient of the shift of token `t`. -/
def shiftPart (p : Fin 2048 → Fin 4096 → ℝ) (y : Fin 2048 → Fin 2048 → ℝ) (n : Fin 16) (k : Fin 8) (t : Fin 128) : ℝ :=
  ∑ d, gateGrad (chunk p n) (chunk y n) t (lane k d)

omit h in
theorem k0_pay5_at (j : S8x128x1.Idx) : k0_pay5 (F := Ideal) j = 0 := by pointwise [k0_pay5]

/-- A stored piece of the spatial shift's gradient. -/
theorem pieceShift (t : Fin cfg0.N) (k : Fin 8) (x : S1x128x1.Idx) (a : Vec Ideal S8x128x1 .f32) (j : S8x128x1.Idx) (r : EReal)
    (hr : a j = r) (h0 : (j 0).val = k.val) (h1 : (j 1).val = (x 1).val) :
    shiftGradS (iblk m c 0 t) (iblk m c 1 t) k (shiftS a k) x = r + ((shiftPart p y (num t) (j 0) (j 1) : ℝ) : EReal) := by
  idx_vars x
  obtain rfl : x0 = 0 := Subsingleton.elim _ _
  obtain rfl : x2 = 0 := Subsingleton.elim _ _
  have e0 : (j 0 : Fin 8) = k := Fin.ext h0
  have e1 : (j 1 : Fin 128) = x1 := Fin.ext h1
  rw [shiftGradS_at _ _ _ _ _ _ (block_at m c h t) k (shiftS a k) x1]
  subst e0 e1
  refine congrArg (· + _) (Eq.trans ?_ hr)
  idx_vars j
  obtain rfl : j2 = 0 := Subsingleton.elim _ _
  pointwise [shiftS]
  blk_ext

theorem shift_first (t : Fin cfg0.N) (h0 : t.val % 16 = 0) (j : S8x128x1.Idx) :
    (outsAt0 m c t.val t.isLt).2.2.2.2 j = 0 + ((shiftPart p y (num t) (j 0) (j 1) : ℝ) : EReal) := by
  rw [outsAt0_A m c t h0]
  frame_open
  simp (disch := decide) only [↓View.readCov_skip, ↓View.readCov_cons_toLoadRect, ↓View.readCov_fill]
  frame_out
  refine (Cert.Fill.canon_append_of_cover [_] j [_, _, _, _, _, _, _, _] (View.cover_of_tiled_head _ _ _ (by rfl) _)).trans ?_
  canon_tiles j q
  case piece0 => exact pieceShift m c h t 7 j (k0_pay5 (F := Ideal)) _ 0 (k0_pay5_at _) (by simp only [q0]; omega) q1
  case piece1 => exact pieceShift m c h t 6 j (k0_pay5 (F := Ideal)) _ 0 (k0_pay5_at _) (by simp only [q0]; omega) q1
  case piece2 => exact pieceShift m c h t 5 j (k0_pay5 (F := Ideal)) _ 0 (k0_pay5_at _) (by simp only [q0]; omega) q1
  case piece3 => exact pieceShift m c h t 4 j (k0_pay5 (F := Ideal)) _ 0 (k0_pay5_at _) (by simp only [q0]; omega) q1
  case piece4 => exact pieceShift m c h t 3 j (k0_pay5 (F := Ideal)) _ 0 (k0_pay5_at _) (by simp only [q0]; omega) q1
  case piece5 => exact pieceShift m c h t 2 j (k0_pay5 (F := Ideal)) _ 0 (k0_pay5_at _) (by simp only [q0]; omega) q1
  case piece6 => exact pieceShift m c h t 1 j (k0_pay5 (F := Ideal)) _ 0 (k0_pay5_at _) (by simp only [q0]; omega) q1
  case piece7 => exact pieceShift m c h t 0 j (k0_pay5 (F := Ideal)) _ 0 (k0_pay5_at _) (by simp only [q0]; omega) q1

theorem shift_next (t : Fin cfg0.N) (h0 : ¬ t.val % 16 = 0) (j : S8x128x1.Idx) :
    (outsAt0 m c t.val t.isLt).2.2.2.2 j
      = (outsAt0 m c (t.val - 1) (by omega)).2.2.2.2 j + ((shiftPart p y (num t) (j 0) (j 1) : ℝ) : EReal) := by
  rw [outsAt0_B m c t h0]
  frame_open
  try simp (disch := decide) only [↓View.readCov_skip, ↓View.readCov_cons_toLoadRect]
  frame_out
  canon_tiles j q
  case piece0 => exact pieceShift m c h t 7 j _ _ _ rfl (by simp only [q0]; omega) q1
  case piece1 => exact pieceShift m c h t 6 j _ _ _ rfl (by simp only [q0]; omega) q1
  case piece2 => exact pieceShift m c h t 5 j _ _ _ rfl (by simp only [q0]; omega) q1
  case piece3 => exact pieceShift m c h t 4 j _ _ _ rfl (by simp only [q0]; omega) q1
  case piece4 => exact pieceShift m c h t 3 j _ _ _ rfl (by simp only [q0]; omega) q1
  case piece5 => exact pieceShift m c h t 2 j _ _ _ rfl (by simp only [q0]; omega) q1
  case piece6 => exact pieceShift m c h t 1 j _ _ _ rfl (by simp only [q0]; omega) q1
  case piece7 => exact pieceShift m c h t 0 j _ _ _ rfl (by simp only [q0]; omega) q1

/-- The array holds the spatial shift's gradient. -/
theorem final10 : (dats m 0 c).arrAt 10 (cfgs 0).N = fun i => ((outShift p y (i 0) (i 1) : ℝ) : EReal) := by
  refine (dats m 0 c).arrAt_eq_of_covers 10 _ (by decide +kernel) fun t hf j => ?_
  blk_simp
  rw [after0_10]
  rw [Pipeline.eq_sum_fin_of_reset_step_apply_of_flush (fun n h => (outsAt0 m c n h).2.2.2.2) 16 (fun _ => 0)
    (fun q j => ((shiftPart p y (num q) (j 0) (j 1) : ℝ) : EReal))
    (fun t h0 j => shift_first m c h t h0 j) (fun t h0 j => shift_next m c h t h0 j) t ((flush0_10 t).mp hf) _, zero_add]
  have ht : t.val / 16 = 0 := by have := lt_of_lt_of_eq t.isLt N_0; omega
  have hn : ∀ s : Fin 16, num ⟨_, Pipeline.run_point_lt_of_flush t ((flush0_10 t).mp hf) s⟩ = s := fun s =>
    Fin.ext (by simp only [num]; omega)
  have hj : (win0_10.blk t).view.emb j = j := by
    idx_vars j
    blk_ext [idx t]
  rw [hj]
  simp only [hn, ← coe_sum]
  rfl

end Cert.GateIdeal.Value
end
-- ==== Proof.GateRefValue.lean ====
/- The gradient of the chunked spatial gate: what the reference computes, stage by stage, where its arguments are reals. -/
module

public import proofs.«01_k».proof.Proof.Gen.GateRefIdeal.Run
public import proofs.«01_k».proof.Proof.Sums
public import proofs.«01_k».proof.Proof.GateSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateRefIdeal.Value
open Cert.GateRefIdeal Cert.GateRefIdeal.Gen Cert.Reals Cert.GateSpec

variable (V0 : Valuation τ sig (Elt Ideal)) {p : Fin 2048 → Fin 4096 → ℝ} {y : Fin 2048 → Fin 2048 → ℝ}
  {g b : Fin 2048 → ℝ} {W : Fin 8 → Fin 128 → Fin 128 → ℝ} {B : Fin 8 → Fin 128 → ℝ}

/-- The reference's arguments are the reals `p`, `y`, `g`, `b`, `W` and `B`. -/
structure Args (V0 : Valuation τ sig (Elt Ideal)) (p : Fin 2048 → Fin 4096 → ℝ) (y : Fin 2048 → Fin 2048 → ℝ)
    (g b : Fin 2048 → ℝ) (W : Fin 8 → Fin 128 → Fin 128 → ℝ) (B : Fin 8 → Fin 128 → ℝ) : Prop where
  pre : ∀ i l, V0 (Proc.devRef .tc main_arg0) (ix2 i l) = (p i l : EReal)
  cot : ∀ i l, V0 (Proc.devRef .tc main_arg1) (ix2 i l) = (y i l : EReal)
  gain : ∀ l, V0 (Proc.devRef .tc main_arg2) (ix2 0 l) = (g l : EReal)
  bias : ∀ l, V0 (Proc.devRef .tc main_arg3) (ix2 0 l) = (b l : EReal)
  weight : ∀ k t s, V0 (Proc.devRef .tc main_arg4) (ix4 0 k t s) = (W k t s : EReal)
  shift : ∀ k t, V0 (Proc.devRef .tc main_arg5) (ix3 0 k t) = (B k t : EReal)

variable (h : Args V0 p y g b W B)
include h

theorem root_at : res_main_v9 V0 ix0 = (root : EReal) := by
  show Ideal.sqrt (Ideal.ofBits .f32 0x3F000000#32) = _
  rw [lit_half, Ideal.sqrt_coe, if_neg (by norm_num)]
  rfl

theorem half_at (i : Fin 2048) (l : Fin 4096) : res_main_v6 V0 (ix3 0 i l) = ((1 / 2 * p i l : ℝ) : EReal) := by
  pointwise [res_main_v6, res_main_v0]
  simp only [h.pre, lit_half, ← EReal.coe_mul]

theorem arg_at (i : Fin 2048) (l : Fin 4096) : res_main_v11 V0 (ix3 0 i l) = ((-p i l * root : ℝ) : EReal) := by
  pointwise [res_main_v11, res_main_v0]
  simp only [h.pre, root_at V0 h, ← EReal.coe_mul, ← EReal.coe_neg]

theorem erfc_at (i : Fin 2048) (l : Fin 4096) : res_main_v12 V0 (ix3 0 i l) = ((1 + erf (p i l * root) : ℝ) : EReal) := by
  pointwise [res_main_v12]
  rw [arg_at V0 h, neg_mul, EReal.coe_neg, Ideal.erfc_neg, erf_coe, ← EReal.coe_one, ← EReal.coe_add]

theorem gelu_at (i : Fin 2048) (l : Fin 4096) : res_main_v16 V0 (ix3 0 i l) = (gelu (p i l) : EReal) := by
  pointwise [res_main_v16]
  rw [half_at V0 h, erfc_at V0 h, ← EReal.coe_mul]
  rfl

theorem lo_at (i l : Fin 2048) : res_main_v17 V0 (ix3 0 i l) = (gelu (p i (lo l)) : EReal) := by
  pointwise [res_main_v17]
  exact gelu_at V0 h i (lo l)

theorem val_at (i l : Fin 2048) : res_main_v18 V0 (ix3 0 i l) = (val (p i) l : EReal) := by
  pointwise [res_main_v18]
  exact gelu_at V0 h i (hi l)

theorem dev_at (i l : Fin 2048) : res_main_v24 V0 (ix3 0 i l) = (dev (p i) l : EReal) := by
  pointwise [res_main_v24]
  simp only [val_at V0 h, lit_2048, ← coe_sum, div_2048, ← EReal.coe_sub]
  rfl

theorem spread_at (i : Fin 2048) : res_main_v31 V0 (ix3 0 i 0) = (spread (p i) : EReal) := by
  pointwise [res_main_v31]
  simp only [dev_at V0 h, lit_2048, lit_eps, ← EReal.coe_mul, ← coe_sum, div_2048, ← EReal.coe_add]
  rfl

theorem scale_at (i : Fin 2048) : res_main_v32 V0 (ix3 0 i 0) = (scale (p i) : EReal) := by
  pointwise [res_main_v32]
  rw [spread_at V0 h, rsqrt_coe (spread_pos _)]
  rfl

theorem unit_at (i l : Fin 2048) : res_main_v37 V0 (ix3 0 i l) = (unit (p i) l : EReal) := by
  pointwise [res_main_v37]
  rw [dev_at V0 h, scale_at V0 h, ← EReal.coe_mul]
  rfl

theorem gain_at (l : Fin 2048) : res_main_v38 V0 (ix3 0 0 l) = (g l : EReal) := by
  pointwise [res_main_v38]
  exact h.gain l

theorem mask_at (k : Fin 8) (t s : Fin 128) : res_main_v49 V0 (ix3 k t s) = (mask W k t s : EReal) := by
  pointwise [res_main_v49, res_main_v47]
  rw [h.weight, show IntOp.addi (BitVec.ofNat 32 t.val) 0#32 = BitVec.ofNat 32 t.val from BitVec.add_zero _]
  exact select_coe W k t s

/-- The gate. -/
theorem gate_at (i l : Fin 2048) :
    res_main_v56 V0 (ix3 0 i l) = (gate (chunk p (blk i)) g b W B (pos i) l : EReal) := by
  pointwise [res_main_v56, res_main_v44]
  simp only [unit_at V0 h, gain_at V0 h, h.bias, h.shift, mask_at V0 h, ← EReal.coe_mul, ← EReal.coe_add, ← coe_sum]
  exact congrArg _ (congrArg (· + _) (Finset.sum_congr rfl fun s _ => mul_comm _ _))

theorem cot_at (i l : Fin 2048) : res_main_v58 V0 (ix3 0 i l) = (y i l : EReal) := by
  pointwise [res_main_v58]
  exact h.cot i l

/-- The gradient of the normalised rows. -/
theorem normGrad_at (i l : Fin 2048) :
    res_main_v72 V0 (ix3 0 i l) = (normGrad (chunk p (blk i)) (chunk y (blk i)) W (pos i) l : EReal) := by
  pointwise [res_main_v72, res_main_v66, res_main_v61]
  simp only [lo_at V0 h, cot_at V0 h, mask_at V0 h, ← EReal.coe_mul, ← coe_sum]
  exact congrArg _ (Finset.sum_congr rfl fun t _ => by
    rw [mul_comm, mul_comm (gelu _)]
    rfl)

/-- The cotangent of row `i`, normalised. -/
abbrev cot (p : Fin 2048 → Fin 4096 → ℝ) (y : Fin 2048 → Fin 2048 → ℝ) (g : Fin 2048 → ℝ)
    (W : Fin 8 → Fin 128 → Fin 128 → ℝ) (i k : Fin 2048) : ℝ :=
  normGrad (chunk p (blk i)) (chunk y (blk i)) W (pos i) k * g k

theorem unitCot_at (i l : Fin 2048) : res_main_v80 V0 (ix3 0 i l) = (cot p y g W i l : EReal) := by
  pointwise [res_main_v80]
  rw [normGrad_at V0 h, gain_at V0 h, ← EReal.coe_mul]

theorem spreadGrad_at (i l : Fin 2048) :
    res_main_v92 V0 (ix3 0 i l) = (spreadGrad (p i) (cot p y g W i) : EReal) := by
  pointwise [res_main_v92, Ideal.hostReduceAdd_ends]
  simp only [Fin.sum_univ_one, dev_at V0 h, unitCot_at V0 h, scale_at V0 h, spread_at V0 h, lit_neg_half, lit_2048,
    div_coe (spread_pos _).ne', ← EReal.coe_mul, ← coe_sum, div_2048]
  rfl

theorem devGrad_at (i l : Fin 2048) : res_main_v96 V0 (ix3 0 i l) = (devGrad (p i) (cot p y g W i) l : EReal) := by
  pointwise [res_main_v96]
  simp only [dev_at V0 h, unitCot_at V0 h, scale_at V0 h, spreadGrad_at V0 h, ← EReal.coe_mul, ← EReal.coe_add]
  rfl

/-- The gradient of the GELU's result: its gated half. -/
theorem geluLo_at (i l : Fin 2048) :
    res_main_v106 V0 (ix3 0 i (lo l)) = (y i l * gate (chunk p (blk i)) g b W B (pos i) l : EReal) := by
  pointwise [res_main_v106, lo]
  rw [cot_at V0 h, gate_at V0 h]

/-- The gradient of the GELU's result: its gating half. -/
theorem geluHi_at (i l : Fin 2048) :
    res_main_v106 V0 (ix3 0 i (hi l)) = (unitGrad (p i) (cot p y g W i) l : EReal) := by
  pointwise [res_main_v106, hi, Ideal.hostReduceAdd_ends]
  simp only [Fin.sum_univ_one, devGrad_at V0 h, lit_2048, ← EReal.coe_neg, ← coe_sum, div_2048, ← EReal.coe_add]
  exact congrArg _ (unitGrad_eq _ _ _)

omit h

/-- The gradient of `pre`, as the reference ends with it. -/
def resPre (V0 : Valuation τ sig (Elt Ideal)) : FVec Ideal S2048x4096 .bf16 :=
  truncf .bf16 (shapeCast _ (addf (Host.negf (mulf (mulf (mulf (broadcastInDim S1x2048x4096 ![] bcast_S_S1x2048x4096 (constant S_ .f32 0xBF906EBB#32)) (mulf (res_main_v6 V0) (res_main_v106 V0))) (Host.exp (Host.negf (mulf (res_main_v11 V0) (res_main_v11 V0))))) (broadcastInDim S1x2048x4096 ![] bcast_S_S1x2048x4096 (res_main_v9 V0)))) (mulf (broadcastInDim S1x2048x4096 ![] bcast_S_S1x2048x4096 (constant S_ .f32 0x3F000000#32)) (mulf (res_main_v106 V0) (res_main_v12 V0)))) shapeCasts_S1x2048x4096_S2048x4096) bitsLt_bf16_f32

/-- The gradient of the layer norm's gain. -/
def resGain (V0 : Valuation τ sig (Elt Ideal)) : FVec Ideal S1x2048 .f32 :=
  broadcastInDim S1x2048 ![1] bcast_S2048_S1x2048_1 (Host.reduceAdd (shapeCast _ (Host.reduceAdd (mulf (res_main_v37 V0) (res_main_v72 V0)) (constant S_ .f32 0x00000000#32) reducesTo_S1x2048x2048_S1x2048_d1 h_S_) shapeCasts_S1x2048_S1x1x2048) (constant S_ .f32 0x00000000#32) reducesTo_S1x1x2048_S2048_d0_1 h_S_)

/-- The gradient of the layer norm's shift. -/
def resBias (V0 : Valuation τ sig (Elt Ideal)) : FVec Ideal S1x2048 .f32 :=
  broadcastInDim S1x2048 ![1] bcast_S2048_S1x2048_1 (Host.reduceAdd (shapeCast _ (Host.reduceAdd (res_main_v72 V0) (constant S_ .f32 0x00000000#32) reducesTo_S1x2048x2048_S1x2048_d1 h_S_) shapeCasts_S1x2048_S1x1x2048) (constant S_ .f32 0x00000000#32) reducesTo_S1x1x2048_S2048_d0_1 h_S_)

/-- The gradient of the spatial weights. -/
def resWeight (V0 : Valuation τ sig (Elt Ideal)) : FVec Ideal S8x128x128 .f32 :=
  mulf (Host.dotGeneral dot_S8x1x16x256x128_S1x16x128x8x256_S8x128x128_123_014_4_2_0_3 none (φ₁ := .f32) (φ₂ := .f32) (res_main_v66 V0) (res_main_v44 V0)) (broadcastInDim S8x128x128 ![0, 1, 2] bcast_S1x128x128_S8x128x128_0_1_2 (res_main_v47 V0))

/-- The gradient of the spatial shift. -/
def resShift (V0 : Valuation τ sig (Elt Ideal)) : FVec Ideal S8x128x1 .f32 :=
  broadcastInDim S8x128x1 ![0, 1] bcast_S8x128_S8x128x1_0_1 (transpose S8x128 [1, 0] (Host.reduceAdd (shapeCast _ (Host.reduceAdd (res_main_v61 V0) (constant S_ .f32 0x00000000#32) reducesTo_S1x16x128x8x256_S1x128x8_d1_4 h_S_) shapeCasts_S1x128x8_S1x1x128x8x1) (constant S_ .f32 0x00000000#32) reducesTo_S1x1x128x8x1_S128x8_d0_1_4 h_S_) transposes_S128x8_S8x128_1_0)

include h

theorem resPre_mul (i : Fin 2048) (l : Fin 4096) (G : ℝ) (hG : res_main_v106 V0 (ix3 0 i l) = (G : EReal)) :
    resPre V0 (ix2 i l) = (G * slope (p i l) : ℝ) := by
  pointwise [resPre]
  rw [hG, half_at V0 h, erfc_at V0 h, arg_at V0 h, root_at V0 h, lit_erfc, lit_half]
  simp only [← EReal.coe_mul, ← EReal.coe_neg, Ideal.exp_coe, ← EReal.coe_add]
  exact congrArg _ (slope_mul _ _)

theorem resPre_at (i : Fin 2048) (l : Fin 4096) : resPre V0 (ix2 i l) = (outPre p y g b W B i l : EReal) := by
  rw [outPre]
  split
  · rename_i hl
    refine (resPre_mul V0 h i l _ (geluLo_at V0 h i ⟨l.val, hl⟩)).trans ?_
    simp only [preLo, chunk_pos]
    rfl
  · rename_i hl
    have e : l = hi ⟨l.val - 2048, by omega⟩ := Fin.ext (by simp only [hi]; omega)
    refine (resPre_mul V0 h i l _ (by rw [e]; exact geluHi_at V0 h i ⟨l.val - 2048, by omega⟩)).trans ?_
    simp only [preHi, chunk_pos, ← e]

theorem resGain_at (l : Fin 2048) : resGain V0 (ix2 0 l) = (outGain p y W l : EReal) := by
  pointwise [resGain, Ideal.hostReduceAdd_outer]
  simp only [Fin.sum_univ_one, normGrad_at V0 h, unit_at V0 h, ← EReal.coe_mul, ← coe_sum, sum_rows, blk_row, pos_row]
  exact congrArg _ (Finset.sum_congr rfl fun n _ => Finset.sum_congr rfl fun s _ => mul_comm _ _)

theorem resBias_at (l : Fin 2048) : resBias V0 (ix2 0 l) = (outBias p y W l : EReal) := by
  pointwise [resBias, Ideal.hostReduceAdd_outer]
  simp only [Fin.sum_univ_one, normGrad_at V0 h, ← coe_sum, sum_rows, blk_row, pos_row]
  rfl

omit h in
/-- The product of the weights' gradient: over the chunks and the lanes of a group. -/
theorem weight_dot (x : FVec Ideal S8x1x16x256x128 .f32) (z : FVec Ideal S1x16x128x8x256 .f32) (acc : FVec Ideal S8x128x128 .f32)
    (k : Fin 8) (t s : Fin 128) :
    Ideal.matmul dot_S8x1x16x256x128_S1x16x128x8x256_S8x128x128_123_014_4_2_0_3 x z acc (ix3 k t s)
      = acc (ix3 k t s) + ∑ c : Fin 1, ∑ n : Fin 16, ∑ d : Fin 256, x (ix5 k c n d t) * z (ix5 c n s k d) := by
  refine congrArg (acc (ix3 k t s) + ·) ((Shape.sum_triple (n0 := 1) (n1 := 16) (n2 := 256) _).trans ?_)
  refine Finset.sum_congr rfl fun c _ => Finset.sum_congr rfl fun n _ => Finset.sum_congr rfl fun d _ => ?_
  refine congrArg₂ (· * ·) (congrArg x ?_) (congrArg z ?_)
  all_goals
    funext a; apply Fin.ext
    match a with
    | ⟨0, _⟩ => rfl
    | ⟨1, _⟩ => rfl
    | ⟨2, _⟩ => rfl
    | ⟨3, _⟩ => rfl
    | ⟨4, _⟩ => rfl

theorem resWeight_at (k : Fin 8) (t s : Fin 128) : resWeight V0 (ix3 k t s) = (outWeight p y g b k t s : EReal) := by
  pointwise [resWeight, res_main_v66, res_main_v44, res_main_v61, res_main_v47]
  rw [show ∀ x, IntOp.addi x 0#32 = x from BitVec.add_zero, select_mask, outWeight]
  split
  · rw [weight_dot]
    simp only [zero_add, Fin.sum_univ_one]
    pointwise
    simp only [lo_at V0 h, cot_at V0 h, unit_at V0 h, gain_at V0 h, h.bias, ← EReal.coe_mul, ← EReal.coe_add, ← coe_sum]
    exact congrArg _ (Finset.sum_congr rfl fun n _ => Finset.sum_congr rfl fun d _ => congrArg (· * _) (mul_comm _ _))
  · rfl

theorem resShift_at (k : Fin 8) (t : Fin 128) : resShift V0 (ix3 k t 0) = (outShift p y k t : EReal) := by
  pointwise [resShift, res_main_v61, Ideal.hostReduceAdd_blocks, Ideal.hostReduceAdd_all_blocks]
  simp only [Fin.sum_univ_one, lo_at V0 h, cot_at V0 h, ← EReal.coe_mul, ← coe_sum]
  exact congrArg _ (Finset.sum_congr rfl fun n _ => Finset.sum_congr rfl fun d _ => mul_comm _ _)

end Cert.GateRefIdeal.Value
end
-- ==== Proof.GateClaim.lean ====
/- The spatial gate's backward call: at finite arguments the kernel's five gradients are the reference's. -/
module

public import proofs.«01_k».proof.Defs
public import proofs.«01_k».proof.Proof.GateRows
public import proofs.«01_k».proof.Proof.GateMats
public import proofs.«01_k».proof.Proof.GateRefValue

@[expose] public section

noncomputable section

open Idealize.ShloMosaic Idealize.ShloMosaic.TcCoe Idealize.SL.Sem

namespace Cert.Pre_gate_finite

instance facts : Facts := by constructor <;> decide

end Cert.Pre_gate_finite

/-- Finite arguments are arrays of reals. -/
theorem Cert.Proof.gate_args (m : (ℓ : Loc Cert.GateIdeal.nD Cert.GateIdeal.τ Cert.GateIdeal.sig) → Buf (Elt Ideal) ℓ)
    (h : Cert.Pre_GateIdeal_gate_finite m) (c : Dev Cert.GateIdeal.nD) :
    ∃ p y g b W B, Cert.GateIdeal.Value.Args m c p y g b W B := by
  obtain ⟨h, h5⟩ := IntOp.andi_eq_one.1 (congrFun (h c) ix0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  choose p hp using Cert.Reals.real_of_all _ _ _ _ _ _ h0
  choose y hy using Cert.Reals.real_of_all _ _ _ _ _ _ h1
  choose g hg using Cert.Reals.real_of_all _ _ _ _ _ _ h2
  choose b hb using Cert.Reals.real_of_all _ _ _ _ _ _ h3
  choose W hW using Cert.Reals.real_of_all _ _ _ _ _ _ h4
  choose B hB using Cert.Reals.real_of_all _ _ _ _ _ _ h5
  exact ⟨fun i l => p (ix2 i l), fun i l => y (ix2 i l), fun l => g (ix2 0 l), fun l => b (ix2 0 l),
    fun k t s => W (ix4 0 k t s), fun k t => B (ix3 0 k t),
    fun i l => hp _, fun i l => hy _, fun l => hg _, fun l => hb _, fun k t s => hW _, fun k t => hB _⟩

open Cert.GateRefIdeal.Value in
/-- The reference's arguments are the same reals. -/
theorem Cert.Proof.gate_ref_args {m : (ℓ : Loc Cert.GateIdeal.nD Cert.GateIdeal.τ Cert.GateIdeal.sig) → Buf (Elt Ideal) ℓ}
    {m' : (ℓ : Loc Cert.GateRefIdeal.nD Cert.GateRefIdeal.τ Cert.GateRefIdeal.sig) → Buf (Elt Ideal) ℓ} {c : Dev Cert.GateIdeal.nD}
    (e : m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5))
    {p y g b W B} (h : Cert.GateIdeal.Value.Args m c p y g b W B) :
    Args (StableHlo.launchContents m' c) p y g b W B :=
  ⟨fun i l => (congrFun e.1 _).trans (h.pre i l), fun i l => (congrFun e.2.1 _).trans (h.cot i l),
    fun l => (congrFun e.2.2.1 _).trans (h.gain l), fun l => (congrFun e.2.2.2.1 _).trans (h.bias l),
    fun k t s => (congrFun e.2.2.2.2.1 _).trans (h.weight k t s), fun k t => (congrFun e.2.2.2.2.2 _).trans (h.shift k t)⟩

open Cert.GateIdeal.Value Cert.GateRefIdeal.Value in
/-- From finite arguments that agree the two programs end with the same five gradients. -/
theorem Cert.Proof.gate : Cert.algebraic_GateIdeal_GateRefIdeal_pre_gate_finite := by
  pair_intro
  · run_from Cert.GateIdeal.Gen.run_main m g
  · run_from Cert.GateRefIdeal.Value.run m' g'
    all_goals
      obtain ⟨p, y, g, b, W, B, h⟩ := Cert.Proof.gate_args m hpre c
      have hr := Cert.Proof.gate_ref_args (hagree c) h
    · exact Eq.trans (funext fun i => by idx_vars i; exact resPre_at _ hr i0 i1) (final6 m c h).symm
    · exact Eq.trans (funext fun i => by
        idx_vars i
        obtain rfl : i0 = 0 := Subsingleton.elim _ _
        exact resGain_at _ hr i1) (final7 m c h).symm
    · exact Eq.trans (funext fun i => by
        idx_vars i
        obtain rfl : i0 = 0 := Subsingleton.elim _ _
        exact resBias_at _ hr i1) (final8 m c h).symm
    · exact Eq.trans (funext fun i => by idx_vars i; exact resWeight_at _ hr i0 i1 i2) (final9 m c h).symm
    · exact Eq.trans (funext fun i => by
        idx_vars i
        obtain rfl : i2 = 0 := Subsingleton.elim _ _
        exact resShift_at _ hr i0 i1) (final10 m c h).symm

end
-- ==== Proof.DownRun.lean ====
/- The squared ReLU's two calls, run one after the other: which region's array each of the three result buffers
   holds when @main has ended. -/
module

public import proofs.«01_k».proof.Proof.Gen.DownIdeal.Frame

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen
open Idealize.ShloMosaic.Tactic Idealize.ShloMosaic.Rounds Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- @main ends, nothing faulting, with every buffer that outlives the launch at the contents `W4` that the two regions
    and the host operations between them leave. -/
theorem run : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) := by
  refine Pipeline.θ_run_regions_kit_sems (pcfgs (F := F)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩) (hinit := ?_)
    (QY := fun c s => ∀ b ∈ Pipeline.ucRefs τ sig, s.mem ((c : Thread nD τ).1, b) = W4 m ρ c b) (hfin := ?_)
    (hQ := fun s h _ => h)
  · iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  · refine Pipeline.initEach L lv fun c => ?_
    rw [show unscopedBufs c (fun b => m ((c : Thread nD τ).loc b))
      = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => ((c : Thread nD τ).1, b)) (W4 m ρ c) s')
    isplitl [Hh] <;> iassumption

/-- The activations are the first region's array: nothing after it writes them. -/
theorem W4_act (c : Dev nD) : W4 m ρ c (Proc.devRef .tc main_v3_0) = (dat0 (V1 m ρ) c).arrAt 2 cfg0.N :=
  (W4_of m ρ c main_v3_0 (by decide +kernel)).trans
    ((W3_of m ρ c main_v3_0 (by decide +kernel)).trans (W2_arr m ρ c 2))

theorem W4_sq (c : Dev nD) : W4 m ρ c (Proc.devRef .tc main_v3_1) = (dat0 (V1 m ρ) c).arrAt 3 cfg0.N :=
  (W4_of m ρ c main_v3_1 (by decide +kernel)).trans
    ((W3_of m ρ c main_v3_1 (by decide +kernel)).trans (W2_arr m ρ c 3))

/-- What the three result buffers and the arguments hold at the end. -/
theorem run_main : θ_run defs (onTc (τ := τ) (main (F := F))) ⟨m, fun _ => 0, ρ⟩ (fun r => ∀ c : Dev nD,
    r.2.mem ((c.tc : Thread nD τ).loc main_v3_0) = (dat0 (V1 m ρ) c).arrAt 2 cfg0.N
    ∧ r.2.mem ((c.tc : Thread nD τ).loc main_v3_1) = (dat0 (V1 m ρ) c).arrAt 3 cfg0.N
    ∧ r.2.mem ((c.tc : Thread nD τ).loc main_v5) = (dat1 (V3 m ρ) c).arrAt 3 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨(h c _ (mem_uc main_v3_0 (by decide))).trans (W4_act m ρ c),
     (h c _ (mem_uc main_v3_1 (by decide))).trans (W4_sq m ρ c),
     (h c _ (mem_uc main_v5 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run m ρ)

end Cert.DownIdeal.Value

end
-- ==== Proof.DownValue.lean ====
/- The squared ReLU: the activations, their squares and the gradient of the hidden products, each result array as
   the term that the reference computes of the same arguments. -/
module

public import proofs.«01_k».proof.Proof.DownRun
public import proofs.«01_k».proof.Proof.Gen.DownRefIdeal.Run
public import proofs.«01_k».proof.Proof.Reals
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

/-- The hidden products of the tokens with the first weight. -/
def hidden (X : FVec Ideal S2048x2048 .bf16) (W : FVec Ideal S2048x8192 .f32) : FVec Ideal S2048x8192 .f32 :=
  Host.dotGeneral (φ₁ := .f32) (φ₂ := .f32) dot_S2048x2048_S2048x8192_S2048x8192_1_0_0_1_n_n none
    (extf .f32 X bitsLt_bf16_f32) W

/-- All zeros. -/
def zeros : FVec Ideal S2048x8192 .f32 := broadcastInDim S2048x8192 ![] bcast_S_S2048x8192 (constant S_ .f32 0x00000000#32)

/-- The reference's activations, before the cast. -/
def relu (X : FVec Ideal S2048x2048 .bf16) (W : FVec Ideal S2048x8192 .f32) : FVec Ideal S2048x8192 .f32 :=
  maximumf (hidden X W) zeros

/-- The gradient that reaches the squares. -/
def back (DY : FVec Ideal S2048x2048 .bf16) (W : FVec Ideal S8192x2048 .f32) : FVec Ideal S2048x8192 .f32 :=
  Host.dotGeneral (φ₁ := .f32) (φ₂ := .f32) dot_S2048x2048_S8192x2048_S2048x8192_1_1_0_0_n_n none
    (extf .f32 DY bitsLt_bf16_f32) W

/-- The reference's activations. -/
def refAct (X : FVec Ideal S2048x2048 .bf16) (W : FVec Ideal S2048x8192 .f32) : FVec Ideal S2048x8192 .bf16 :=
  truncf .bf16 (relu X W) bitsLt_bf16_f32

/-- Their squares. -/
def refSq (X : FVec Ideal S2048x2048 .bf16) (W : FVec Ideal S2048x8192 .f32) : FVec Ideal S2048x8192 .bf16 :=
  truncf .bf16 (mulf (relu X W) (relu X W)) bitsLt_bf16_f32

/-- The reference's gradient of the hidden products. -/
def refGrad (X : FVec Ideal S2048x2048 .bf16) (W : FVec Ideal S2048x8192 .f32) (W' : FVec Ideal S8192x2048 .f32)
    (DY : FVec Ideal S2048x2048 .bf16) : FVec Ideal S2048x8192 .bf16 :=
  truncf .bf16 (select (cmpf .ogt (hidden X W) zeros)
    (addf (mulf (relu X W) (back DY W')) (mulf (back DY W') (relu X W))) zeros) bitsLt_bf16_f32

theorem refAct_at (X : FVec Ideal S2048x2048 .bf16) (W : FVec Ideal S2048x8192 .f32) (i : Fin 2048) (j : Fin 8192) :
    refAct X W (ix2 i j) = max (∑ k : Fin 2048, X (ix2 i k) * W (ix2 k j)) 0 := by
  pointwise [refAct, relu, hidden, zeros]

theorem refSq_at (X : FVec Ideal S2048x2048 .bf16) (W : FVec Ideal S2048x8192 .f32) (i : Fin 2048) (j : Fin 8192) :
    refSq X W (ix2 i j) = refAct X W (ix2 i j) * refAct X W (ix2 i j) := by
  rw [refAct_at]
  pointwise [refSq, relu, hidden, zeros]

theorem two_mul_eq (x : EReal) : 2 * x = x + x := by
  rw [← one_add_one_eq_two, EReal.right_distrib_of_nonneg zero_le_one zero_le_one, one_mul]

/-- Twice the activation times the gradient that reaches its square: where the product is not positive the activation
    is zero, and so is its multiple by any extended real. -/
theorem refGrad_at (X : FVec Ideal S2048x2048 .bf16) (W : FVec Ideal S2048x8192 .f32) (W' : FVec Ideal S8192x2048 .f32)
    (DY : FVec Ideal S2048x2048 .bf16) (i : Fin 2048) (j : Fin 8192) :
    refGrad X W W' DY (ix2 i j)
      = 2 * refAct X W (ix2 i j) * ∑ k : Fin 2048, DY (ix2 i k) * W' (ix2 j k) := by
  rw [refAct_at]
  pointwise [refGrad, relu, hidden, zeros, back]
  generalize (∑ k : Fin 2048, X (ix2 i k) * W (ix2 k j)) = p
  generalize (∑ k : Fin 2048, DY (ix2 i k) * W' (ix2 j k)) = g
  split_ifs with h
  · rw [mul_comm g, ← two_mul_eq, mul_assoc]
  · rw [max_eq_right (not_lt.1 h), mul_zero, zero_mul]

end Cert.DownRefIdeal.Value

namespace Cert.DownIdeal.Value

open Cert.DownIdeal Cert.DownIdeal.Gen

variable (m : (ℓ : Loc nD τ sig) → Buf (Elt Ideal) ℓ) (ρ : Dev nD → PrngReg)

theorem pay2_at (v0 : Vec Ideal S1024x2048 .bf16) (v1 : Vec Ideal S1x2048x1024 .bf16) (i j : Fin 1024) :
    k0_pay2 v0 v1 (ix2 i j) = max (∑ k : Fin 2048, v0 (ix2 i k) * v1 (ix3 0 k j)) 0 := by
  pointwise [k0_pay2, k0_pay1]

theorem pay3_at (v0 : Vec Ideal S1024x2048 .bf16) (v1 : Vec Ideal S1x2048x1024 .bf16) (i j : Fin 1024) :
    k0_pay3 v0 v1 (ix2 i j) = k0_pay2 v0 v1 (ix2 i j) * k0_pay2 v0 v1 (ix2 i j) := by
  rw [pay2_at]
  pointwise [k0_pay3, k0_pay1]

theorem lit_two : Ideal.ofBits .f32 0x40000000#32 = 2 := by
  have h : Ideal.ofBits .f32 0x40000000#32 = ((2 : ℝ) : EReal) := by
    simp [Ideal.ofBits, Ideal.ieee, -EReal.coe_mul]; norm_num
  rw [h]; rfl

theorem pay1_at (v0 v1 : Vec Ideal S1024x2048 .bf16) (v4 : Vec Ideal S1024x1024 .bf16) (i j : Fin 1024) :
    k1_pay1 v0 v1 v4 (ix2 i j) = 2 * v4 (ix2 i j) * ∑ k : Fin 2048, v0 (ix2 i k) * v1 (ix2 j k) := by
  pointwise [k1_pay1]
  rw [lit_two]

theorem idx0 : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

theorem idx1 : ∀ t : Fin cfg1.N, win1_0.index t = ![t.val / 8, 0] ∧ win1_1.index t = ![t.val % 8, 0]
    ∧ win1_2.index t = ![t.val / 8, t.val % 8] ∧ win1_3.index t = ![t.val / 8, t.val % 8] :=
  (by decide +kernel : ∀ t : Fin grid1.N, _)

/-- The weight's slabs that the host hands to the first region: columns in runs of 1024. -/
theorem slab (c : Dev nD) (s : Fin 8) (k : Fin 2048) (j : Fin 1024) : V1 m ρ c main_v2 (ix3 s k j)
    = m ((c : Thread nD τ).loc main_arg1) (ix2 k ⟨s.val * 1024 + j.val, by omega⟩) := by
  show StableHlo.after hostOps0 (W0 m ρ c) (Proc.devRef .tc main_v2) _ = _
  entry_read
  pointwise

/-- One block of activations. -/
theorem act_block (c : Dev nD) (t : Fin cfg0.N) (i j : Fin 1024) :
    k0_pay2 (iblk0 (V1 m ρ) c 0 t) (iblk0 (V1 m ρ) c 1 t) (ix2 i j)
      = Cert.DownRefIdeal.Value.refAct (m ((c : Thread nD τ).loc main_arg0)) (m ((c : Thread nD τ).loc main_arg1))
          ((win0_2.blk t).view.emb (ix2 i j)) := by
  have ht := lt_of_lt_of_eq t.isLt N_0
  have he : (win0_2.blk t).view.emb (ix2 i j) = ix2 ⟨t.val / 8 * 1024 + i.val, by omega⟩ ⟨t.val % 8 * 1024 + j.val, by omega⟩ := by
    blk_ext [idx0 t]
  refine Eq.trans ?_ ((congrArg _ he).trans (Cert.DownRefIdeal.Value.refAct_at _ _ _ _)).symm
  rw [pay2_at]
  congr 1
  refine Fin.sum_fin_congr fun k => ?_
  have h1 : iblk0 (V1 m ρ) c 1 t (ix3 0 k j) = V1 m ρ c main_v2 (ix3 ⟨t.val % 8, by omega⟩ k j) := by
    blk_point [iblk0, idx0 t]
  rw [h1, slab]
  have h0 : iblk0 (V1 m ρ) c 0 t (ix2 i k)
      = m ((c : Thread nD τ).loc main_arg0) (ix2 ⟨t.val / 8 * 1024 + i.val, by omega⟩ k) := by
    rw [← W1_args m ρ c main_arg0 (by decide)]
    blk_point [iblk0, idx0 t]
  rw [h0]

/-- The activations are the reference's. -/
theorem final2 (c : Dev nD) : (dat0 (V1 m ρ) c).arrAt 2 cfg0.N
    = Cert.DownRefIdeal.Value.refAct (m ((c : Thread nD τ).loc main_arg0)) (m ((c : Thread nD τ).loc main_arg1)) := by
  refine (dat0 (V1 m ρ) c).arrAt_eq_of_covers 2 _ (by decide +kernel) fun t hf y => ?_
  blk_simp
  rw [after0_2]
  idx_vars y
  simp only [out0_2]
  frame_out
  exact act_block m ρ c t y0 y1

/-- So are their squares. -/
theorem final3 (c : Dev nD) : (dat0 (V1 m ρ) c).arrAt 3 cfg0.N
    = Cert.DownRefIdeal.Value.refSq (m ((c : Thread nD τ).loc main_arg0)) (m ((c : Thread nD τ).loc main_arg1)) := by
  refine (dat0 (V1 m ρ) c).arrAt_eq_of_covers 3 _ (by decide +kernel) fun t hf y => ?_
  blk_simp
  rw [after0_3]
  idx_vars y
  simp only [out0_3]
  frame_out
  have ht := lt_of_lt_of_eq t.isLt N_0
  have he : (win0_3.blk t).view.emb (ix2 y0 y1) = ix2 ⟨t.val / 8 * 1024 + y0.val, by omega⟩ ⟨t.val % 8 * 1024 + y1.val, by omega⟩ := by
    blk_ext [idx0 t]
  have he' : (win0_2.blk t).view.emb (ix2 y0 y1) = ix2 ⟨t.val / 8 * 1024 + y0.val, by omega⟩ ⟨t.val % 8 * 1024 + y1.val, by omega⟩ := by
    blk_ext [idx0 t]
  have hb := act_block m ρ c t y0 y1
  rw [he'] at hb
  refine Eq.trans ?_ ((congrArg _ he).trans (Cert.DownRefIdeal.Value.refSq_at _ _ _ _)).symm
  exact (pay3_at _ _ _ _).trans (congrArg₂ (· * ·) hb hb)

/-- The second weight as the second region reads it. -/
theorem weight (c : Dev nD) (i : Fin 8192) (k : Fin 2048) : V3 m ρ c main_v4 (ix2 i k)
    = m ((c : Thread nD τ).loc main_arg2) (ix2 i k) := by
  rw [← W2_args m ρ c main_arg2 (by decide)]
  show StableHlo.after hostOps1 (W2 m ρ c) (Proc.devRef .tc main_v4) _ = _
  entry_read
  pointwise

/-- The activations as the second region reads them. -/
theorem act (c : Dev nD) : V3 m ρ c main_v3_0
    = Cert.DownRefIdeal.Value.refAct (m ((c : Thread nD τ).loc main_arg0)) (m ((c : Thread nD τ).loc main_arg1)) :=
  (W3_of m ρ c main_v3_0 (by decide +kernel)).trans ((W2_arr m ρ c 2).trans (final2 m ρ c))

/-- The gradient of the hidden products is the reference's. -/
theorem final5 (c : Dev nD) : (dat1 (V3 m ρ) c).arrAt 3 cfg1.N
    = Cert.DownRefIdeal.Value.refGrad (m ((c : Thread nD τ).loc main_arg0)) (m ((c : Thread nD τ).loc main_arg1))
        (m ((c : Thread nD τ).loc main_arg2)) (m ((c : Thread nD τ).loc main_arg3)) := by
  refine (dat1 (V3 m ρ) c).arrAt_eq_of_covers 3 _ (by decide +kernel) fun t hf y => ?_
  blk_simp
  rw [after1_3]
  idx_vars y
  simp only [out1_3]
  frame_out
  have ht := lt_of_lt_of_eq t.isLt N_1
  have he : (win1_3.blk t).view.emb (ix2 y0 y1) = ix2 ⟨t.val / 8 * 1024 + y0.val, by omega⟩ ⟨t.val % 8 * 1024 + y1.val, by omega⟩ := by
    blk_ext [idx1 t]
  refine Eq.trans ?_ ((congrArg _ he).trans (Cert.DownRefIdeal.Value.refGrad_at _ _ _ _ _ _)).symm
  refine (pay1_at _ _ _ _ _).trans ?_
  have h2 : iblk1 (V3 m ρ) c 2 t (ix2 y0 y1) = V3 m ρ c main_v3_0 (ix2 ⟨t.val / 8 * 1024 + y0.val, by omega⟩ ⟨t.val % 8 * 1024 + y1.val, by omega⟩) := by
    blk_point [iblk1, idx1 t]
  rw [h2, act]
  congr 1
  refine Fin.sum_fin_congr fun k => ?_
  have h1 : iblk1 (V3 m ρ) c 1 t (ix2 y1 k) = V3 m ρ c main_v4 (ix2 ⟨t.val % 8 * 1024 + y1.val, by omega⟩ k) := by
    blk_point [iblk1, idx1 t]
  have h0 : iblk1 (V3 m ρ) c 0 t (ix2 y0 k)
      = m ((c : Thread nD τ).loc main_arg3) (ix2 ⟨t.val / 8 * 1024 + y0.val, by omega⟩ k) := by
    rw [← W3_args m ρ c main_arg3 (by decide)]
    blk_point [iblk1, idx1 t]
  rw [h1, h0, weight]

end Cert.DownIdeal.Value

end
-- ==== Proof.DownClaim.lean ====
/- The squared ReLU: the three results of its two calls are the reference's. -/
module

public import proofs.«01_k».proof.Defs
public import proofs.«01_k».proof.Proof.DownValue

@[expose] public section

set_option maxRecDepth 16384

noncomputable section

open Idealize.ShloMosaic Idealize.ShloMosaic.TcCoe Idealize.SL.Sem
open Idealize.ShloMosaic.Pipeline (Dat)

/-- From arguments that agree the two programs end with the same activations, squares and gradients. -/
theorem Cert.Proof.down : Cert.algebraic_DownIdeal_DownRefIdeal := by
  pair_intro
  · run_from Cert.DownIdeal.Value.run_main m g
  · run_from Cert.DownRefIdeal.Value.run m' g'
    · exact (Cert.DownIdeal.Value.final2 m g c).symm
    · exact (Cert.DownIdeal.Value.final3 m g c).symm
    · exact (Cert.DownIdeal.Value.final5 m g c).symm

end
-- ==== Proof.PoolSpec.lean ====
/- Windows of rows: the sum over the rows of a window that starts at a row, as the reference's two running sums and
   as the kernel's repeated doubling have it, over the reals. -/
module

public import proofs.«01_k».proof.Proof.Reals
public import Idealize.ShloMosaic.Lib.WordCmp
public import Idealize.ShloMosaic.Lib.WordArith
public import Idealize.ShloMosaic.Lib.PlanTiles.Rows
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pool.Spec

open Finset

/-- Row `n` of a column `p` over the number of rows that the window of `w` rows ending there holds; zero past the end. -/
def row (p : Fin 2048 → ℝ) (w n : ℕ) : ℝ := if h : n < 2048 then p ⟨n, h⟩ / ((min (n + 1) w : ℕ) : ℝ) else 0

/-- The sum of the window of `w` rows that starts at row `n`. -/
def window (p : Fin 2048 → ℝ) (w n : ℕ) : ℝ := ∑ i ∈ range w, row p w (n + i)

theorem row_past (p : Fin 2048 → ℝ) (w n : ℕ) (h : 2048 ≤ n) : row p w n = 0 := dif_neg (by omega)

/-- A window is the difference of the sums from its first row on and from the row past its last. -/
theorem window_eq (p : Fin 2048 → ℝ) (w n : ℕ) :
    ∑ k : Fin 2048, (row p w (n + k) - row p w (n + k + w)) = window p w n := by
  rw [Fin.sum_univ_eq_sum_range (fun k => row p w (n + k) - row p w (n + k + w)) 2048, sum_sub_distrib]
  have h₁ := sum_range_add (fun k => row p w (n + k)) w 2048
  have h₂ := sum_range_add (fun k => row p w (n + k)) 2048 w
  have h₃ : ∑ k ∈ range w, row p w (n + (2048 + k)) = 0 := sum_eq_zero fun k _ => row_past p w _ (by omega)
  have h₄ : ∑ k ∈ range 2048, row p w (n + (w + k)) = ∑ k ∈ range 2048, row p w (n + k + w) :=
    sum_congr rfl fun k _ => congrArg _ (by omega)
  rw [add_comm w 2048] at h₁
  rw [h₃, add_zero] at h₂
  rw [h₄] at h₁
  unfold window
  linarith

/-- Doubling a window. -/
theorem double (e : ℕ → ℝ) (s n : ℕ) :
    ∑ i ∈ range s, e (n + i) + ∑ i ∈ range s, e (n + s + i) = ∑ i ∈ range (s + s), e (n + i) := by
  rw [sum_range_add]
  exact congrArg _ (sum_congr rfl fun i _ => congrArg e (by omega))

/-- The number of rows in the window that ends at row `r`, as the integer operations count it. -/
theorem count (r w : ℕ) (hr : r < 2048) (hw : w < 2048) :
    (IntOp.minsi (BitVec.ofNat 32 (r + 1)) (BitVec.ofNat 32 w)).toInt = ((min (r + 1) w : ℕ) : ℤ) := by
  rw [PlanTiles.minsi_word (by omega) (by omega), WordCmp.toInt_ofNat_of_lt (by omega), min_comm]

end Cert.Pool.Spec

end
-- ==== Proof.PoolStrip.lean ====
/- The pooling's backward call: what one strip of 128 lanes computes. -/
module

public import proofs.«01_k».proof.Proof.Gen.PoolIdeal.Skeleton
public import proofs.«01_k».proof.Proof.PoolSpec

@[expose] public section

set_option maxRecDepth 16384

noncomputable section

open Idealize.ShloMosaic Idealize.ShloMosaic.TcCoe Idealize.SL.Sem
open Idealize.ShloMosaic.Pipeline (Dat)

namespace Cert.PoolIdeal.Value

open Cert.PoolIdeal Cert.PoolIdeal.Gen Cert.Pool.Spec Finset

/-- One over the number of rows that the window of `w` rows ending at each row holds. -/
def inv (w : BitVec 32) : FVec Ideal S2048x128 .f32 :=
  divf (broadcast S2048x128 (Scalar.ofBits .f32 0x3F800000#32))
    (sitofp .f32 (minsi (addi (iota .tc S2048x128 32 [0] iota_S2048x128_d0_w32) (broadcast S2048x128 1#32))
      (broadcast S2048x128 w)))

/-- One doubling of the window: each row and the row `2048 - k` below it, if there is one. -/
def step (k : BitVec 32) (y : FVec Ideal S2048x128 .f32) : FVec Ideal S2048x128 .f32 :=
  addf y (select (cmpi .slt (iota .tc S2048x128 32 [0] iota_S2048x128_d0_w32) (broadcast S2048x128 k))
    (dynamicRotate 0 k none y rotates_S2048x128_d0) (broadcast S2048x128 (Scalar.ofBits .f32 0x00000000#32)))

theorem last_at (y x : FVec Ideal S2048x128 .f32) (r : Fin 2048) (l : Fin 128) :
    (truncf .bf16 (subf y x) bitsLt_bf16_f32 : FVec Ideal S2048x128 .bf16) (ix2 r l) = y (ix2 r l) - x (ix2 r l) := by
  pointwise

/-- A column over the counts of its windows. -/
theorem scaled_at (x : FVec Ideal S2048x128 .f32) (p : Fin 2048 → ℝ) (l : Fin 128)
    (h : ∀ r : Fin 2048, x (ix2 r l) = (p r : EReal)) (w : ℕ) (h0 : 0 < w) (hw : w < 2048) (r : Fin 2048) :
    mulf x (inv (BitVec.ofNat 32 w)) (ix2 r l) = ((∑ i ∈ range 1, row p w (r + i) : ℝ) : EReal) := by
  pointwise [inv]
  rw [show IntOp.addi (BitVec.ofNat 32 r.val) 1#32 = BitVec.ofNat 32 (r.val + 1) from (BitVec.ofNat_add _ _).symm]
  show x (ix2 r l) * Ideal.div 1 (((IntOp.minsi (BitVec.ofNat 32 (r.val + 1)) (BitVec.ofNat 32 w)).toInt : ℝ) : EReal) = _
  rw [count r w r.isLt hw, h r, Int.cast_natCast, ← EReal.coe_one,
    Cert.Reals.div_coe (Nat.cast_ne_zero.2 (by omega)), ← EReal.coe_mul]
  simp only [sum_range_one, add_zero, row, r.isLt, dif_pos]
  rw [mul_one_div]

/-- A column of windows of `s` rows, doubled. -/
theorem step_at {y : FVec Ideal S2048x128 .f32} {p : Fin 2048 → ℝ} {l : Fin 128} {w : ℕ} (s : ℕ) (h0 : 0 < s) (hs : s < 2048)
    (h : ∀ r : Fin 2048, y (ix2 r l) = ((∑ i ∈ range s, row p w (r + i) : ℝ) : EReal)) (r : Fin 2048) :
    step (BitVec.ofNat 32 (2048 - s)) y (ix2 r l) = ((∑ i ∈ range (s + s), row p w (r + i) : ℝ) : EReal) := by
  pointwise [step]
  rw [WordCmp.cmpi_slt_ofNat (by have := r.isLt; omega) (by omega), ← double, EReal.coe_add, h r]
  congr 1
  unfold Scalar.select
  by_cases hr : r.val < 2048 - s
  · rw [if_pos (by simp [hr]), h]
    refine congrArg _ (congrArg _ (funext fun i => congrArg _ ?_))
    have := r.isLt
    simp only [WordCmp.toNat_ofNat_of_lt (show 2048 - s < 2 ^ 32 by omega)]
    omega
  · rw [if_neg (by simp [hr]), sum_eq_zero fun i _ => row_past p w _ (by omega), EReal.coe_zero]

/-- A strip of the group whose windows hold 2 rows. -/
def strip2 (x : FVec Ideal S2048x128 .f32) : FVec Ideal S2048x128 .bf16 :=
  truncf .bf16 (subf (step 2047#32 (mulf x (inv 2#32))) x) bitsLt_bf16_f32

/-- A strip of the group whose windows hold 4 rows. -/
def strip4 (x : FVec Ideal S2048x128 .f32) : FVec Ideal S2048x128 .bf16 :=
  truncf .bf16 (subf (step 2046#32 (step 2047#32 (mulf x (inv 4#32)))) x) bitsLt_bf16_f32

/-- A strip of the group whose windows hold 8 rows. -/
def strip8 (x : FVec Ideal S2048x128 .f32) : FVec Ideal S2048x128 .bf16 :=
  truncf .bf16 (subf (step 2044#32 (step 2046#32 (step 2047#32 (mulf x (inv 8#32))))) x) bitsLt_bf16_f32

/-- A strip of the group whose windows hold 16 rows. -/
def strip16 (x : FVec Ideal S2048x128 .f32) : FVec Ideal S2048x128 .bf16 :=
  truncf .bf16 (subf (step 2040#32 (step 2044#32 (step 2046#32 (step 2047#32 (mulf x (inv 16#32)))))) x) bitsLt_bf16_f32

theorem strip2_at (x : FVec Ideal S2048x128 .f32) (p : Fin 2048 → ℝ) (l : Fin 128)
    (h : ∀ r : Fin 2048, x (ix2 r l) = (p r : EReal)) (r : Fin 2048) :
    strip2 x (ix2 r l) = ((window p 2 r - p r : ℝ) : EReal) :=
  (last_at _ x r l).trans (by
    rw [step_at 1 (by norm_num) (by norm_num) (scaled_at x p l h 2 (by norm_num) (by norm_num)) r, h r, ← EReal.coe_sub]; rfl)

theorem strip4_at (x : FVec Ideal S2048x128 .f32) (p : Fin 2048 → ℝ) (l : Fin 128)
    (h : ∀ r : Fin 2048, x (ix2 r l) = (p r : EReal)) (r : Fin 2048) :
    strip4 x (ix2 r l) = ((window p 4 r - p r : ℝ) : EReal) :=
  (last_at _ x r l).trans (by
    rw [step_at 2 (by norm_num) (by norm_num) (step_at 1 (by norm_num) (by norm_num) (scaled_at x p l h 4 (by norm_num) (by norm_num))) r, h r, ← EReal.coe_sub]; rfl)

theorem strip8_at (x : FVec Ideal S2048x128 .f32) (p : Fin 2048 → ℝ) (l : Fin 128)
    (h : ∀ r : Fin 2048, x (ix2 r l) = (p r : EReal)) (r : Fin 2048) :
    strip8 x (ix2 r l) = ((window p 8 r - p r : ℝ) : EReal) :=
  (last_at _ x r l).trans (by
    rw [step_at 4 (by norm_num) (by norm_num) (step_at 2 (by norm_num) (by norm_num) (step_at 1 (by norm_num) (by norm_num) (scaled_at x p l h 8 (by norm_num) (by norm_num)))) r, h r, ← EReal.coe_sub]; rfl)

theorem strip16_at (x : FVec Ideal S2048x128 .f32) (p : Fin 2048 → ℝ) (l : Fin 128)
    (h : ∀ r : Fin 2048, x (ix2 r l) = (p r : EReal)) (r : Fin 2048) :
    strip16 x (ix2 r l) = ((window p 16 r - p r : ℝ) : EReal) :=
  (last_at _ x r l).trans (by
    rw [step_at 8 (by norm_num) (by norm_num) (step_at 4 (by norm_num) (by norm_num) (step_at 2 (by norm_num) (by norm_num) (step_at 1 (by norm_num) (by norm_num) (scaled_at x p l h 16 (by norm_num) (by norm_num))))) r, h r, ← EReal.coe_sub]; rfl)

end Cert.PoolIdeal.Value

end
-- ==== Proof.PoolKernel.lean ====
/- The pooling's backward call: the array that it leaves. -/
module

public import proofs.«01_k».proof.Proof.Gen.PoolIdeal.Frame
public import proofs.«01_k».proof.Proof.PoolStrip

@[expose] public section

set_option maxRecDepth 16384

noncomputable section

open Idealize.ShloMosaic Idealize.ShloMosaic.TcCoe Idealize.SL.Sem
open Idealize.ShloMosaic.Pipeline (Dat)

namespace Cert.PoolIdeal.Value

open Cert.PoolIdeal Cert.PoolIdeal.Gen Cert.Pool.Spec Finset

variable (m : (ℓ : Loc nD τ sig) → Buf (Elt Ideal) ℓ)

/-- The gradient that the pooling hands back at real arguments `p`: in the group of a lane, the sum of the window that
    starts at the row, less the row. -/
def result (p : Fin 2048 → Fin 2048 → ℝ) (i : S2048x2048.Idx) : EReal :=
  ((window (fun r => p r (i 1)) (2 ^ ((i 1).val / 512 + 1)) (i 0).val - p (i 0) (i 1) : ℝ) : EReal)

theorem idx : ∀ t : Fin cfg0.N, win0_0.index t = ![0, t.val] ∧ win0_1.index t = ![0, t.val] :=
  (by decide +kernel : ∀ t : Fin grid0.N, _)

variable (p : Fin 2048 → Fin 2048 → ℝ)
variable (c : Dev nD) (hp : ∀ i j : Fin 2048, m ((c : Thread nD τ).loc main_arg0) (ix2 i j) = (p i j : EReal))

include hp in
/-- One strip of a group, whatever its offset `o`. -/
theorem piece (t : Fin cfg0.N) (w : ℕ) (hw : w = 2 ^ (t.val + 1)) (S : FVec Ideal S2048x128 .f32 → FVec Ideal S2048x128 .bf16)
    (hS : ∀ (x : FVec Ideal S2048x128 .f32) (p : Fin 2048 → ℝ) (l : Fin 128),
      (∀ r : Fin 2048, x (ix2 r l) = (p r : EReal)) → ∀ r : Fin 2048, S x (ix2 r l) = ((window p w r - p r : ℝ) : EReal))
    (o : ℕ) (ho : ∀ a : Fin 2, ![0, o] a + ![2048, 128] a ≤ S2048x512.size a) (j : S2048x512.Idx) (x : S2048x128.Idx)
    (h0 : (j 0).val = (x 0).val) (h1 : (j 1).val = o + (x 1).val) :
    S (View.ld (Val := Elt Ideal) (iblk m c 0 t) (Rect.unit (s := S2048x512) ![0, o] ![2048, 128] ho)) x
      = result p ((win0_1.blk t).view.emb j) := by
  have ht := lt_of_lt_of_eq t.isLt N_0
  have hj : (j 1).val < 512 := (j 1).isLt
  have he : (win0_1.blk t).view.emb j = ix2 ⟨(x 0).val, (x 0).isLt⟩ ⟨t.val * 512 + o + (x 1).val, by omega⟩ := by
    blk_ext [idx t, h0, h1]
  have hd : (t.val * 512 + o + (x 1).val) / 512 = t.val := by omega
  refine Eq.trans ?_ (congrArg (result p) he).symm
  idx_vars x
  refine (hS _ (fun r => p r ⟨t.val * 512 + o + x1.val, by omega⟩) x1 (fun r => ?_) x0).trans ?_
  · rw [← hp]
    blk_point [iblk, V, idx t]
  · rw [hw, show 2 ^ (t.val + 1) = 2 ^ ((t.val * 512 + o + x1.val) / 512 + 1) by rw [hd]]
    rfl

include hp in
/-- The block of the group whose windows hold 2 rows. -/
theorem blockA (t : Fin cfg0.N) (h : t.val = 0) (j : S2048x512.Idx) :
    outsAt0 m c t.val t.isLt j = result p ((win0_1.blk t).view.emb j) := by
  rw [outsAt0_A m c t (by omega) (by omega) (by omega) (by omega)]
  frame_out
  canon_tiles j q
  case piece0 => exact piece m p c hp t 2 (by rw [h]; norm_num) strip2 strip2_at 384 _ _ _ (by omega) (by omega)
  case piece1 => exact piece m p c hp t 2 (by rw [h]; norm_num) strip2 strip2_at 256 _ _ _ (by omega) (by omega)
  case piece2 => exact piece m p c hp t 2 (by rw [h]; norm_num) strip2 strip2_at 128 _ _ _ (by omega) (by omega)
  case piece3 => exact piece m p c hp t 2 (by rw [h]; norm_num) strip2 strip2_at 0 _ _ _ (by omega) (by omega)

include hp in
/-- The block of the group whose windows hold 4 rows. -/
theorem blockB (t : Fin cfg0.N) (h : t.val = 1) (j : S2048x512.Idx) :
    outsAt0 m c t.val t.isLt j = result p ((win0_1.blk t).view.emb j) := by
  rw [outsAt0_B m c t (by omega) (by omega) (by omega) (by omega)]
  frame_out
  canon_tiles j q
  case piece0 => exact piece m p c hp t 4 (by rw [h]; norm_num) strip4 strip4_at 384 _ _ _ (by omega) (by omega)
  case piece1 => exact piece m p c hp t 4 (by rw [h]; norm_num) strip4 strip4_at 256 _ _ _ (by omega) (by omega)
  case piece2 => exact piece m p c hp t 4 (by rw [h]; norm_num) strip4 strip4_at 128 _ _ _ (by omega) (by omega)
  case piece3 => exact piece m p c hp t 4 (by rw [h]; norm_num) strip4 strip4_at 0 _ _ _ (by omega) (by omega)

include hp in
/-- The block of the group whose windows hold 8 rows. -/
theorem blockC (t : Fin cfg0.N) (h : t.val = 2) (j : S2048x512.Idx) :
    outsAt0 m c t.val t.isLt j = result p ((win0_1.blk t).view.emb j) := by
  rw [outsAt0_C m c t (by omega) (by omega) (by omega) (by omega)]
  frame_out
  canon_tiles j q
  case piece0 => exact piece m p c hp t 8 (by rw [h]; norm_num) strip8 strip8_at 384 _ _ _ (by omega) (by omega)
  case piece1 => exact piece m p c hp t 8 (by rw [h]; norm_num) strip8 strip8_at 256 _ _ _ (by omega) (by omega)
  case piece2 => exact piece m p c hp t 8 (by rw [h]; norm_num) strip8 strip8_at 128 _ _ _ (by omega) (by omega)
  case piece3 => exact piece m p c hp t 8 (by rw [h]; norm_num) strip8 strip8_at 0 _ _ _ (by omega) (by omega)

include hp in
/-- The block of the group whose windows hold 16 rows. -/
theorem blockD (t : Fin cfg0.N) (h : t.val = 3) (j : S2048x512.Idx) :
    outsAt0 m c t.val t.isLt j = result p ((win0_1.blk t).view.emb j) := by
  rw [outsAt0_D m c t (by omega) (by omega) (by omega) (by omega)]
  frame_out
  canon_tiles j q
  case piece0 => exact piece m p c hp t 16 (by rw [h]; norm_num) strip16 strip16_at 384 _ _ _ (by omega) (by omega)
  case piece1 => exact piece m p c hp t 16 (by rw [h]; norm_num) strip16 strip16_at 256 _ _ _ (by omega) (by omega)
  case piece2 => exact piece m p c hp t 16 (by rw [h]; norm_num) strip16 strip16_at 128 _ _ _ (by omega) (by omega)
  case piece3 => exact piece m p c hp t 16 (by rw [h]; norm_num) strip16 strip16_at 0 _ _ _ (by omega) (by omega)

include hp in
/-- The array that the call leaves. -/
theorem final1 : (dats m 0 c).arrAt 1 (cfgs 0).N = result p := by
  refine (dats m 0 c).arrAt_eq_of_covers 1 _ (by decide +kernel) fun t hf y => ?_
  blk_simp
  rw [after0_1]
  have ht := lt_of_lt_of_eq t.isLt N_0
  obtain h | h | h | h : t.val = 0 ∨ t.val = 1 ∨ t.val = 2 ∨ t.val = 3 := by omega
  · exact blockA m p c hp t h y
  · exact blockB m p c hp t h y
  · exact blockC m p c hp t h y
  · exact blockD m p c hp t h y

end Cert.PoolIdeal.Value

end
-- ==== Proof.PoolRefValue.lean ====
/- The gradient of the pooling: what the reference computes where its argument is real. The sums from a row on that
   transpose its running sums, each group's quotient by its counts, and the four groups side by side. -/
module

public import proofs.«01_k».proof.Proof.Gen.PoolRefIdeal.Run
public import proofs.«01_k».proof.Proof.PoolSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolRefIdeal.Value
open Cert.PoolRefIdeal Cert.PoolRefIdeal.Gen Cert.Reals Cert.Pool.Spec

/-- Adding up along a list. -/
theorem foldl_add {ι : Type} (L : List ι) (f : ι → EReal) (v : EReal) :
    L.foldl (fun r n => r + f n) v = v + (L.map f).sum := by
  induction L generalizing v with
  | nil => simp
  | cons a L ih => rw [List.foldl_cons, ih, List.map_cons, List.sum_cons, add_assoc]

/-- A sum over windows, from zero: the elements of the operand that lie in the window. -/
theorem windowSum {s t : Shape} (window strides lo hi : Fin s.rank → ℕ) (h : s.ReduceWindows window strides lo hi t)
    (x : s.Idx → EReal) (j : t.Idx) :
    Ideal.hostReduceWindowAdd window strides lo hi h x 0 j = ∑ i : (⟨s.rank, window⟩ : Shape).Idx,
      if hin : ∀ a, lo a ≤ (j (a.cast h.1.symm)).val * strides a + (i a).val
        ∧ (j (a.cast h.1.symm)).val * strides a + (i a).val - lo a < s.size a
      then x (fun a => ⟨(j (a.cast h.1.symm)).val * strides a + (i a).val - lo a, (hin a).2⟩) else 0 := by
  unfold Ideal.hostReduceWindowAdd Host.reduceWindow
  refine (foldl_add _ _ _).trans ?_
  rw [zero_add, ← Fin.sum_univ_def]
  refine (Finset.sum_congr rfl fun i _ => ?_).trans (Equiv.sum_comp (Shape.rowMajor ⟨s.rank, window⟩).symm (fun i : (⟨s.rank, window⟩ : Shape).Idx =>
    if hin : ∀ a, lo a ≤ (j (a.cast h.1.symm)).val * strides a + (i a).val
      ∧ (j (a.cast h.1.symm)).val * strides a + (i a).val - lo a < s.size a
    then x (fun a => ⟨(j (a.cast h.1.symm)).val * strides a + (i a).val - lo a, (hin a).2⟩) else 0))
  congr

/-- The sums from each row to the end: the operand padded past its last row. -/
def fromRow (x : FVec Ideal S1x2048x512 .f32) : FVec Ideal S1x2048x512 .f32 :=
  Host.reduceWindowAdd ![1, 2048, 1] ![1, 1, 1] ![0, 0, 0] ![0, 2047, 0] x
    (broadcastInDim S_ ![] bcast_S_S_ (constant S_ .f32 0x00000000#32))
    reduceWindows_S1x2048x512_S1x2048x512_w1s1p0_0_w2048s1p0_2047_w1s1p0_0 h_S_

theorem fromRow_at (x : FVec Ideal S1x2048x512 .f32) (e : ℕ → ℝ) (l : Fin 512) (he : ∀ n, 2048 ≤ n → e n = 0)
    (h : ∀ r : Fin 2048, x (ix3 0 r l) = (e r : EReal)) (r : Fin 2048) :
    fromRow x (ix3 0 r l) = ((∑ k : Fin 2048, e (r + k) : ℝ) : EReal) := by
  have hv : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  have hw := windowSum (s := S1x2048x512) _ _ _ _ reduceWindows_S1x2048x512_S1x2048x512_w1s1p0_0_w2048s1p0_2047_w1s1p0_0 x (ix3 0 r l)
  rw [← hv] at hw
  unfold fromRow Host.reduceWindowAdd
  refine Eq.trans hw ?_
  rw [hv]
  refine (sum_idx3 (n0 := 1) (n1 := 2048) (n2 := 1) _).trans ?_
  rw [Fin.sum_univ_one, coe_sum]
  refine Finset.sum_congr rfl fun k _ => ?_
  rw [Fin.sum_univ_one]
  by_cases hk : r.val + k.val < 2048
  · refine (dif_pos fun a => ?_).trans (Eq.trans (congrArg x ?_) (h ⟨r + k, hk⟩))
    · match a with
      | ⟨0, _⟩ => exact ⟨Nat.zero_le _, by show 0 * 1 + 0 - 0 < 1; omega⟩
      | ⟨1, _⟩ => exact ⟨Nat.zero_le _, by show r.val * 1 + k.val - 0 < 2048; omega⟩
      | ⟨2, _⟩ => exact ⟨Nat.zero_le _, by show l.val * 1 + 0 - 0 < 512; omega⟩
    · funext a
      match a with
      | ⟨0, _⟩ => rfl
      | ⟨1, _⟩ => exact Fin.ext (by show r.val * 1 + k.val - 0 = r.val + k.val; omega)
      | ⟨2, _⟩ => exact Fin.ext (by show l.val * 1 + 0 - 0 = l.val; omega)
  · rw [he _ (by omega)]
    refine dif_neg fun hin => hk ?_
    have h1 := (hin ⟨1, by decide⟩).2
    have h2 : r.val * 1 + k.val - 0 < 2048 := h1
    omega

/-- An array over the number of rows in the window of `w` rows that ends at each row. -/
def quotient (w : ℕ) (x : FVec Ideal S1x2048x512 .f32) : FVec Ideal S1x2048x512 .f32 :=
  Host.divf x (broadcastInDim S1x2048x512 ![0, 1, 2] bcast_S1x2048x1_S1x2048x512_0_1_2
    (broadcastInDim S1x2048x1 ![1] bcast_S2048_S1x2048x1_1 (sitofp .f32 (minsi
      (addi (broadcastInDim S2048 ![] bcast_S_S2048 (constantI S_ 32 1#32)) (iotaInDim S2048 32 0))
      (broadcastInDim S2048 ![] bcast_S_S2048 (constantI S_ 32 (BitVec.ofNat 32 w)))))))

/-- Each row less the row that lies `w` further on, zero past the last. -/
def difference (w n : ℕ) (hs : S1x2048x512.Slices ![0, w, 0] ⟨3, ![1, n, 512]⟩)
    (hd : (⟨3, ![1, n, 512]⟩ : Shape).Pads ![0, 0, 0] ![0, w, 0] ![0, 0, 0] S1x2048x512) (x : FVec Ideal S1x2048x512 .f32) :
    FVec Ideal S1x2048x512 .f32 :=
  addf x (pad S1x2048x512 ![0, 0, 0] ![0, w, 0] ![0, 0, 0] (extractStridedSlice ⟨3, ![1, n, 512]⟩ ![0, w, 0] (Host.negf x) hs)
    (constant S_ .f32 0x00000000#32) hd h_S_)

section Group

variable (w n : ℕ) (hw : 0 < w) (hn : w + n = 2048) (hm : w < 2048) (hs : S1x2048x512.Slices ![0, w, 0] ⟨3, ![1, n, 512]⟩)
  (hd : (⟨3, ![1, n, 512]⟩ : Shape).Pads ![0, 0, 0] ![0, w, 0] ![0, 0, 0] S1x2048x512)
  (x : FVec Ideal S1x2048x512 .f32) (p : Fin 2048 → ℝ) (l : Fin 512) (h : ∀ r : Fin 2048, x (ix3 0 r l) = (p r : EReal))

include hm in
theorem count_at (r : Fin 2048) : FloatOps.sitofp (F := Ideal) .f32 (IntOp.minsi (IntOp.addi 1#32 (BitVec.ofNat 32 r)) (BitVec.ofNat 32 w))
    = (((min (r.val + 1) w : ℕ) : ℝ) : EReal) := by
  have e : IntOp.addi 1#32 (BitVec.ofNat 32 r) = BitVec.ofNat 32 (r.val + 1) := by
    rw [add_comm, BitVec.ofNat_add]; rfl
  rw [e]
  show (((IntOp.minsi (BitVec.ofNat 32 (r.val + 1)) (BitVec.ofNat 32 w)).toInt : ℝ) : EReal) = _
  rw [count r w r.isLt hm, Int.cast_natCast]

include hw hn hm h in
theorem quotient_at (r : Fin 2048) : quotient w x (ix3 0 r l) = (row p w r : EReal) := by
  pointwise [quotient]
  have hc : ((min (r.val + 1) w : ℕ) : ℝ) ≠ 0 := by
    have : 0 < min (r.val + 1) w := by omega
    exact_mod_cast this.ne'
  rw [h, count_at w hm, div_coe hc, row, dif_pos r.isLt]

include hw hn hm h in
theorem difference_at (r : Fin 2048) :
    difference w n hs hd (quotient w x) (ix3 0 r l) = ((row p w r - row p w (r + w) : ℝ) : EReal) := by
  pointwise [difference]
  rw [quotient_at w n hw hn hm x p l h]
  by_cases hr : r.val < n
  · rw [dif_pos hr, EReal.coe_sub, sub_eq_add_neg]
    refine congrArg (fun y : EReal => (row p w r : EReal) + -y)
      ((congrArg (quotient w x) ?_).trans (quotient_at w n hw hn hm x p l h ⟨r + w, by omega⟩))
    funext a
    match a with
    | ⟨0, _⟩ => rfl
    | ⟨1, _⟩ => exact Fin.ext (by show w + (r.val - 0) / (0 + 1) = r.val + w; omega)
    | ⟨2, _⟩ => exact Fin.ext (by show (l.val - 0) / (0 + 1) = l.val; omega)
  · rw [dif_neg hr, add_zero, row_past p w (r + w) (by omega), sub_zero]

include hw hn hm h in
theorem window_at (r : Fin 2048) :
    fromRow (difference w n hs hd (quotient w x)) (ix3 0 r l) = (window p w r : EReal) := by
  refine (fromRow_at _ (fun k => row p w k - row p w (k + w)) l
    (fun k hk => by rw [row_past _ _ k hk, row_past _ _ (k + w) (by omega), sub_zero])
    (difference_at w n hw hn hm hs hd x p l h) r).trans ?_
  rw [window_eq]

end Group

variable (V0 : Valuation τ sig (Elt Ideal)) (q : Fin 2048 → Fin 2048 → ℝ)
  (hq : ∀ i j : Fin 2048, V0 (Proc.devRef .tc main_arg0) (ix2 i j) = (q i j : EReal))

/-- Column `l` of group `g`. -/
def col (g : Fin 4) (l : Fin 512) : Fin 2048 := ⟨g.val * 512 + l.val, by omega⟩

include hq in
theorem grouped_at (r : Fin 2048) (g : Fin 4) (l : Fin 512) : res_main_v93 V0 (ix4 0 r g l) = (q r (col g l) : EReal) := by
  rw [← hq]
  pointwise [res_main_v93, col]

include hq in
theorem part_at (r : Fin 2048) (l : Fin 512) :
    res_main_v95 V0 (ix3 0 r l) = (q r (col 0 l) : EReal) ∧ res_main_v97 V0 (ix3 0 r l) = (q r (col 1 l) : EReal)
    ∧ res_main_v99 V0 (ix3 0 r l) = (q r (col 2 l) : EReal) ∧ res_main_v101 V0 (ix3 0 r l) = (q r (col 3 l) : EReal) := by
  refine ⟨?_, ?_, ?_, ?_⟩
  · pointwise [res_main_v95]
    exact grouped_at V0 q hq r 0 l
  · pointwise [res_main_v97]
    exact grouped_at V0 q hq r 1 l
  · pointwise [res_main_v99]
    exact grouped_at V0 q hq r 2 l
  · pointwise [res_main_v101]
    exact grouped_at V0 q hq r 3 l

/-- The window sums of the group whose windows hold 2 rows. -/
def sums2 := fromRow (difference 2 2046 slices_S1x2048x512_S1x2046x512_0_2_0 pads_S1x2046x512_S1x2048x512_000_020_000 (quotient 2 (res_main_v95 V0)))
/-- The window sums of the group whose windows hold 4 rows. -/
def sums4 := fromRow (difference 4 2044 slices_S1x2048x512_S1x2044x512_0_4_0 pads_S1x2044x512_S1x2048x512_000_040_000 (quotient 4 (res_main_v97 V0)))
/-- The window sums of the group whose windows hold 8 rows. -/
def sums8 := fromRow (difference 8 2040 slices_S1x2048x512_S1x2040x512_0_8_0 pads_S1x2040x512_S1x2048x512_000_080_000 (quotient 8 (res_main_v99 V0)))
/-- The window sums of the group whose windows hold 16 rows. -/
def sums16 := fromRow (difference 16 2032 slices_S1x2048x512_S1x2032x512_0_16_0 pads_S1x2032x512_S1x2048x512_000_0160_000 (quotient 16 (res_main_v101 V0)))

/-- The groups side by side, each the sum of its windows less itself. -/
def stack : FVec Ideal S1x2048x4x512 .f32 :=
  let at0 (y : FVec Ideal S1x2048x512 .f32) := pad S1x2048x4x512 ![0, 0, 0, 0] ![0, 0, 3, 0] ![0, 0, 0, 0] (broadcastInDim S1x2048x1x512 ![0, 1, 3] bcast_S1x2048x512_S1x2048x1x512_0_1_3 y) (constant S_ .f32 0x00000000#32) pads_S1x2048x1x512_S1x2048x4x512_000_000_030_000 h_S_
  let at1 (y : FVec Ideal S1x2048x512 .f32) := pad S1x2048x4x512 ![0, 0, 1, 0] ![0, 0, 2, 0] ![0, 0, 0, 0] (broadcastInDim S1x2048x1x512 ![0, 1, 3] bcast_S1x2048x512_S1x2048x1x512_0_1_3 y) (constant S_ .f32 0x00000000#32) pads_S1x2048x1x512_S1x2048x4x512_000_000_120_000 h_S_
  let at2 (y : FVec Ideal S1x2048x512 .f32) := pad S1x2048x4x512 ![0, 0, 2, 0] ![0, 0, 1, 0] ![0, 0, 0, 0] (broadcastInDim S1x2048x1x512 ![0, 1, 3] bcast_S1x2048x512_S1x2048x1x512_0_1_3 y) (constant S_ .f32 0x00000000#32) pads_S1x2048x1x512_S1x2048x4x512_000_000_210_000 h_S_
  let at3 (y : FVec Ideal S1x2048x512 .f32) := pad S1x2048x4x512 ![0, 0, 3, 0] ![0, 0, 0, 0] ![0, 0, 0, 0] (broadcastInDim S1x2048x1x512 ![0, 1, 3] bcast_S1x2048x512_S1x2048x1x512_0_1_3 y) (constant S_ .f32 0x00000000#32) pads_S1x2048x1x512_S1x2048x4x512_000_000_300_000 h_S_
  addf (addf (addf (addf (addf (addf (addf (at3 (Host.negf (res_main_v101 V0))) (at3 (sums16 V0))) (at2 (Host.negf (res_main_v99 V0)))) (at2 (sums8 V0)))
    (at1 (Host.negf (res_main_v97 V0)))) (at1 (sums4 V0))) (at0 (Host.negf (res_main_v95 V0)))) (at0 (sums2 V0))

theorem out_eq : res_main_v163 V0 = truncf .bf16 (shapeCast _ (shapeCast _ (stack V0) shapeCasts_S1x2048x4x512_S1x2048x2048) shapeCasts_S1x2048x2048_S2048x2048) := rfl

include hq in
theorem stack_at (r : Fin 2048) (g : Fin 4) (l : Fin 512) : stack V0 (ix4 0 r g l)
    = ((window (fun r => q r (col g l)) (2 ^ (g.val + 1)) r - q r (col g l) : ℝ) : EReal) := by
  obtain ⟨h0, h1, h2, h3⟩ := part_at V0 q hq r l
  have s0 : sums2 V0 (ix3 0 r l) = _ := window_at 2 2046 (by omega) (by omega) (by omega) _ _ _ _ l (fun r => (part_at V0 q hq r l).1) r
  have s1 : sums4 V0 (ix3 0 r l) = _ := window_at 4 2044 (by omega) (by omega) (by omega) _ _ _ _ l (fun r => (part_at V0 q hq r l).2.1) r
  have s2 : sums8 V0 (ix3 0 r l) = _ := window_at 8 2040 (by omega) (by omega) (by omega) _ _ _ _ l (fun r => (part_at V0 q hq r l).2.2.1) r
  have s3 : sums16 V0 (ix3 0 r l) = _ := window_at 16 2032 (by omega) (by omega) (by omega) _ _ _ _ l (fun r => (part_at V0 q hq r l).2.2.2) r
  obtain rfl | rfl | rfl | rfl : g = 0 ∨ g = 1 ∨ g = 2 ∨ g = 3 := by omega
  · pointwise [stack]
    rw [h0, s0, EReal.coe_sub, sub_eq_add_neg, add_comm]
    norm_num
  · pointwise [stack]
    rw [h1, s1, EReal.coe_sub, sub_eq_add_neg, add_comm]
    norm_num
  · pointwise [stack]
    rw [h2, s2, EReal.coe_sub, sub_eq_add_neg, add_comm]
    norm_num
  · pointwise [stack]
    rw [h3, s3, EReal.coe_sub, sub_eq_add_neg, add_comm]
    norm_num

include hq in
/-- The reference's result. -/
theorem out_at (i j : Fin 2048) : res_main_v163 V0 (ix2 i j)
    = ((window (fun r => q r j) (2 ^ (j.val / 512 + 1)) i - q i j : ℝ) : EReal) := by
  have hj : col ⟨j.val / 512, by omega⟩ ⟨j.val % 512, by omega⟩ = j := Fin.ext (Nat.div_add_mod' _ _)
  have hs := stack_at V0 q hq i ⟨j.val / 512, by omega⟩ ⟨j.val % 512, by omega⟩
  rw [hj] at hs
  rw [out_eq, ← hs]
  pointwise []

end Cert.PoolRefIdeal.Value
end
-- ==== Proof.PoolClaim.lean ====
/- The pooling's backward call: at a finite argument the kernel's array is the reference's. -/
module

public import proofs.«01_k».proof.Defs
public import proofs.«01_k».proof.Proof.PoolKernel
public import proofs.«01_k».proof.Proof.PoolRefValue

@[expose] public section

noncomputable section

open Idealize.ShloMosaic Idealize.ShloMosaic.TcCoe Idealize.SL.Sem

namespace Cert.Pre_pool_finite

instance facts : Facts := by constructor <;> decide

end Cert.Pre_pool_finite

/-- From a finite argument that agrees the two programs end with the same gradient. -/
theorem Cert.Proof.pool : Cert.algebraic_PoolIdeal_PoolRefIdeal_pre_pool_finite := by
  pair_intro
  · run_from Cert.PoolIdeal.Gen.run_main m g
  · run_from Cert.PoolRefIdeal.Value.run m' g'
    choose p hp using Cert.Reals.real_of_all _ _ _ _ _ _ (congrFun (hpre c) ix0)
    refine Eq.trans (funext fun i => ?_)
      (Cert.PoolIdeal.Value.final1 m (fun i j => p (ix2 i j)) c (fun i j => hp _)).symm
    idx_vars i
    exact Cert.PoolRefIdeal.Value.out_at _ (fun i j => p (ix2 i j))
      (fun i j => (congrFun (hagree c) _).trans (hp _)) i0 i1

end
-- ==== Proof.NormSpec.lean ====
/- The gradient of a root mean square normalisation over the reals: the mathematics that the programs share. -/
module

public import proofs.«01_k».proof.Proof.Reals
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormSpec
open Cert.Reals

/-- The mean square of a row, the small number added. -/
def spread (h : Fin 2048 → ℝ) : ℝ := (∑ l, h l * h l) / 2048 + eps

theorem spread_pos (h : Fin 2048 → ℝ) : 0 < spread h :=
  add_pos_of_nonneg_of_pos (div_nonneg (Finset.sum_nonneg fun l _ => mul_self_nonneg (h l)) (by norm_num)) eps_pos

/-- What a row is multiplied by. -/
def scale (h : Fin 2048 → ℝ) : ℝ := (Real.sqrt (spread h))⁻¹

theorem scale_sq (h : Fin 2048 → ℝ) : scale h * scale h = 1 / spread h := by
  rw [scale, ← mul_inv, Real.mul_self_sqrt (spread_pos h).le, one_div]

/-- The normalised row. -/
def unit (h : Fin 2048 → ℝ) (l : Fin 2048) : ℝ := h l * scale h

/-- The gradient of the row from the cotangent `q` of the normalised row. -/
def grad (h q : Fin 2048 → ℝ) (l : Fin 2048) : ℝ := scale h * (q l - unit h l * ((∑ k, q k * unit h k) / 2048))

/-- The half of the derivative's second term: the square's rule adds it twice. -/
def spreadGrad (h q : Fin 2048 → ℝ) : ℝ := (∑ k, h k * q k) * (-(1 / 2) * (scale h / spread h)) / 2048

/-- The derivative, rule by rule, is the gradient in closed form. -/
theorem grad_eq (h q : Fin 2048 → ℝ) (l : Fin 2048) :
    q l * scale h + h l * spreadGrad h q + spreadGrad h q * h l = grad h q l := by
  have e : ∑ k, q k * unit h k = (∑ k, h k * q k) * scale h := by
    rw [Finset.sum_mul]
    exact Finset.sum_congr rfl fun k _ => by rw [unit]; ring
  rw [spreadGrad, grad, e, unit, div_eq_mul_one_div (scale h) (spread h), ← scale_sq]
  ring

/-- The gradient of the gain: over all rows. -/
def gainGrad (x h : Fin 2048 → Fin 2048 → ℝ) (l : Fin 2048) : ℝ := ∑ i, x i l * unit (h i) l

/-- A sum over 16 lanes of 128 rows each is the sum over the 2048 rows. -/
theorem sum_lanes (f : ℕ → ℝ) : ∑ r : Fin 16, ∑ j ∈ Finset.range 128, f (16 * j + r.val) = ∑ i : Fin 2048, f i.val := by
  rw [Finset.sum_comm, Finset.sum_range (fun j => ∑ r : Fin 16, f (16 * j + r.val)), ← Fintype.sum_prod_type']
  exact Fintype.sum_equiv (finProdFinEquiv (m := 128) (n := 16)) _ (fun i : Fin 2048 => f i.val) fun ⟨j, r⟩ => by
    congr 1
    show 16 * j.val + r.val = r.val + 16 * j.val
    omega

end Cert.NormSpec

end
-- ==== Proof.NormKernel.lean ====
/- The gradient of the normalisation: the arrays that the kernel leaves where its arguments are reals. -/
module

public import proofs.«01_k».proof.Proof.NormFrame
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Value
open Cert.NormIdeal Cert.NormIdeal.Gen Cert.Reals
open Cert.RowChunks (chunk)

/-- The block indices of the windows: the rows' windows follow the grid, the others stay. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-! What one trip computes, from rows that are reals. -/

section Trip

variable {hb xb db : Vec Ideal S16x2048 .f32} {v : FVec Ideal S1x2048 .f32} {h x : Fin 16 → Fin 2048 → ℝ} {g : Fin 2048 → ℝ}
  (hh : ∀ (r : Fin 16) (l : Fin 2048), hb (ix2 r l) = (h r l : EReal)) (hx : ∀ (r : Fin 16) (l : Fin 2048), xb (ix2 r l) = (x r l : EReal))
  (hg : ∀ l : Fin 2048, v (ix2 0 l) = (g l : EReal))

include hh in
theorem scale_at (r : Fin 16) : k0_pay4 hb (ix2 r 0) = (NormSpec.scale (h r) : EReal) := by
  pointwise [k0_pay4]
  simp only [hh, lit_2048, lit_eps, ← EReal.coe_mul, ← coe_sum, div_2048, ← EReal.coe_add]
  exact rsqrt_coe (NormSpec.spread_pos (h r))

include hh in
theorem unit_at (r : Fin 16) (l : Fin 2048) : k0_pay5 hb (ix2 r l) = (NormSpec.unit (h r) l : EReal) := by
  pointwise [k0_pay5]
  rw [hh, scale_at hh, ← EReal.coe_mul]
  rfl

include hh hx hg in
theorem rows_at (r : Fin 16) (l : Fin 2048) : k0_pay6 v hb xb db (ix2 r l)
    = db (ix2 r l) + (NormSpec.grad (h r) (fun k => x r k * g k) l : EReal) := by
  pointwise [k0_pay6]
  simp only [hx, hg, unit_at hh, scale_at hh, lit_2048, ← EReal.coe_mul, ← coe_sum, div_2048, ← EReal.coe_sub]
  rfl

include hh hx in
theorem acc_at (a : Vec Ideal S16x2048 .f32) (r : Fin 16) (l : Fin 2048) : k0_pay8 hb xb a (ix2 r l)
    = a (ix2 r l) + (x r l * NormSpec.unit (h r) l : ℝ) := by
  pointwise [k0_pay8]
  rw [hx, unit_at hh, ← EReal.coe_mul]

end Trip

variable (m : (ℓ : Loc nD τ sig) → Buf (Elt Ideal) ℓ) (c : Dev nD)

/-- The kernel's arguments but the last are the reals `x`, `h` and `g`. -/
structure Args (x h : Fin 2048 → Fin 2048 → ℝ) (g : Fin 2048 → ℝ) : Prop where
  cot : ∀ i l : Fin 2048, m ((c.tc : Thread nD τ).loc main_arg0) (ix2 i l) = (x i l : EReal)
  rows : ∀ i l : Fin 2048, m ((c.tc : Thread nD τ).loc main_arg1) (ix2 i l) = (h i l : EReal)
  gain : ∀ l : Fin 2048, m ((c.tc : Thread nD τ).loc main_arg2) (ix1 l) = (g l : EReal)

variable {m c} {x h : Fin 2048 → Fin 2048 → ℝ} {g : Fin 2048 → ℝ} (H : Args m c x h g)

/-- Row `i`, counted round, so that every natural number names one. -/
def row (i : ℕ) : Fin 2048 := ⟨i % 2048, Nat.mod_lt _ (by decide)⟩

/-- The row of the arrays that lane `r` of trip `k` of point `t` works on. -/
def rowOf (t : Fin cfg0.N) (k : ℕ) (r : Fin 16) : Fin 2048 := row (16 * (32 * t.val + k) + r.val)

theorem coord (t : Fin cfg0.N) (k : ℕ) (hk : k < 32) (r : Fin 16) : t.val * 512 + (16 * k + r.val) % 512 = (rowOf t k r).val := by
  have ht := lt_of_lt_of_eq t.isLt N_0
  show _ = (16 * (32 * t.val + k) + r.val) % 2048
  omega

include H in
theorem cot_at (t : Fin cfg0.N) (k : ℕ) (hk : k < 32) (r : Fin 16) (l : Fin 2048) :
    chunk (cotB m c t) k (ix2 r l) = (x (rowOf t k r) l : EReal) := by
  rw [← H.cot]
  have e := coord t k hk r
  show iblk m c 0 t (ix2 ⟨(16 * k + r.val) % 512, _⟩ l) = _
  blk_point [iblk, V, idx t]

include H in
theorem rows_at' (t : Fin cfg0.N) (k : ℕ) (hk : k < 32) (r : Fin 16) (l : Fin 2048) :
    chunk (rowB m c t) k (ix2 r l) = (h (rowOf t k r) l : EReal) := by
  rw [← H.rows]
  have e := coord t k hk r
  show iblk m c 1 t (ix2 ⟨(16 * k + r.val) % 512, _⟩ l) = _
  blk_point [iblk, V, idx t]

theorem res_at (t : Fin cfg0.N) (k : ℕ) (hk : k < 32) (r : Fin 16) (l : Fin 2048) :
    chunk (resB m c t) k (ix2 r l) = m ((c.tc : Thread nD τ).loc main_arg3) (ix2 (rowOf t k r) l) := by
  have e := coord t k hk r
  show iblk m c 3 t (ix2 ⟨(16 * k + r.val) % 512, _⟩ l) = _
  blk_point [iblk, V, idx t]

include H in
theorem gain_at (t : Fin cfg0.N) (l : Fin 2048) : k0_pay2 (wgtB m c t) (ix2 0 l) = (g l : EReal) := by
  rw [← H.gain]
  pointwise [k0_pay2]
  have e : iblk m c 2 t (ix2 0 l) = V m c main_v0 (ix2 0 l) := by blk_point [iblk, idx t]
  refine e.trans ?_
  entry_read
  pointwise

/-- The gradient of the rows, as an array. -/
def gradRows (m : (ℓ : Loc nD τ sig) → Buf (Elt Ideal) ℓ) (c : Dev nD) (x h : Fin 2048 → Fin 2048 → ℝ) (g : Fin 2048 → ℝ) : FVec Ideal S2048x2048 .f32 :=
  fun i => (show FVec Ideal S2048x2048 .f32 from m ((c.tc : Thread nD τ).loc main_arg3)) i + (NormSpec.grad (h (i 0)) (fun k => x (i 0) k * g k) (i 1) : EReal)

include H in
/-- One block of the gradient of the rows. -/
theorem block4 (t : Fin cfg0.N) (i : Fin 512) (l : Fin 2048) :
    outF (cotB m c t) (rowB m c t) (wgtB m c t) (resB m c t) (ix2 i l) = gradRows m c x h g (ix2 (rowOf t (i.val / 16) ⟨i.val % 16, by omega⟩) l) := by
  have hk : i.val / 16 < 32 := by omega
  refine (rows_at (fun r l => rows_at' H t (i.val / 16) hk r l) (fun r l => cot_at H t (i.val / 16) hk r l) (gain_at H t)
    ⟨i.val % 16, by omega⟩ l).trans ?_
  exact congrArg (· + _) (res_at t (i.val / 16) hk ⟨i.val % 16, by omega⟩ l)

theorem rowOf_val (t : Fin cfg0.N) (i : Fin 512) : (rowOf t (i.val / 16) ⟨i.val % 16, by omega⟩).val = t.val * 512 + i.val := by
  have ht := lt_of_lt_of_eq t.isLt N_0
  show (16 * (32 * t.val + i.val / 16) + i.val % 16) % 2048 = _
  omega

include H in
/-- The gradient of the rows that the call leaves. -/
theorem final4 : (dats m 0 c).arrAt 4 (cfgs 0).N = gradRows m c x h g := by
  refine (dats m 0 c).arrAt_eq_of_covers 4 _ (by decide +kernel) fun t hf y => ?_
  blk_simp
  rw [after0_4]
  idx_vars y
  refine (block4 H t y0 y1).trans (congrArg _ ?_)
  have e := rowOf_val t y0
  symm
  blk_ext [idx t]

include H in
/-- The same array rounded to bf16, which over the reals it is not. -/
theorem final5 : (dats m 0 c).arrAt 5 (cfgs 0).N = gradRows m c x h g := by
  refine (dats m 0 c).arrAt_eq_of_covers 5 _ (by decide +kernel) fun t hf y => ?_
  blk_simp
  rw [after0_5]
  idx_vars y
  refine (block4 H t y0 y1).trans (congrArg _ ?_)
  have e := rowOf_val t y0
  symm
  blk_ext [idx t]

include H in
/-- The accumulator within a point: every lane the sum of its rows so far. -/
theorem accAfter_at (t : Fin cfg0.N) (a : Vec Ideal S16x2048 .f32) (r : Fin 16) (l : Fin 2048)
    (ha : a (ix2 r l) = ((∑ j ∈ Finset.range (32 * t.val), x (row (16 * j + r.val)) l * NormSpec.unit (h (row (16 * j + r.val))) l : ℝ) : EReal))
    (k : ℕ) (hk : k ≤ 32) : accAfter (cotB m c t) (rowB m c t) a k (ix2 r l)
      = ((∑ j ∈ Finset.range (32 * t.val + k), x (row (16 * j + r.val)) l * NormSpec.unit (h (row (16 * j + r.val))) l : ℝ) : EReal) := by
  induction k with
  | zero => exact ha
  | succ k ih =>
    refine (acc_at (fun r l => rows_at' H t k (by omega) r l) (fun r l => cot_at H t k (by omega) r l) _ r l).trans ?_
    rw [ih (by omega), ← EReal.coe_add, ← add_assoc, Finset.sum_range_succ]
    rfl

include H in
/-- The accumulator after a point. -/
theorem accAt_at (n : ℕ) (hn : n < cfg0.N) (r : Fin 16) (l : Fin 2048) : accAt m c n hn (ix2 r l)
    = ((∑ j ∈ Finset.range (32 * (n + 1)), x (row (16 * j + r.val)) l * NormSpec.unit (h (row (16 * j + r.val))) l : ℝ) : EReal) := by
  induction n with
  | zero =>
    have e : k0_pay1 (F := Ideal) (ix2 r l) = 0 := by pointwise [k0_pay1]
    have e' := accAfter_at H ⟨0, hn⟩ (k0_pay1 (F := Ideal)) r l (by rw [e]; simp) 32 le_rfl
    rw [accAt]
    exact e'
  | succ n ih =>
    have e' := accAfter_at H ⟨n + 1, hn⟩ (accAt m c n (Nat.lt_of_succ_lt hn)) r l (ih _) 32 le_rfl
    rw [accAt, Nat.mul_add 32 (n + 1) 1]
    exact e'

/-- The gradient of the gain, as an array. -/
def gradGain (x h : Fin 2048 → Fin 2048 → ℝ) : FVec Ideal S1x2048 .f32 := fun i => (NormSpec.gainGrad x h (i 1) : EReal)

include H in
/-- The gradient of the gain that the call leaves. -/
theorem final6 : (dats m 0 c).arrAt 6 (cfgs 0).N = gradGain x h := by
  refine (dats m 0 c).arrAt_eq_of_covers 6 _ (by decide +kernel) fun t hf y => ?_
  have ht : t.val = 3 := by
    revert hf; revert t; decide +kernel
  blk_simp
  rw [after0_6]
  idx_vars y
  obtain rfl : y0 = 0 := Subsingleton.elim _ _
  have he : (win0_6.blk t).view.emb (ix2 0 y1) = ix2 0 y1 := by blk_ext [idx t]
  refine Eq.trans ?_ (congrArg _ he).symm
  pointwise [k0_pay3]
  simp only [accAt_at H, ht, ← coe_sum]
  refine congrArg _ ((NormSpec.sum_lanes fun i => x (row i) y1 * NormSpec.unit (h (row i)) y1).trans ?_)
  refine Finset.sum_congr rfl fun i _ => ?_
  rw [show row i.val = i from Fin.ext (Nat.mod_eq_of_lt i.isLt)]
  rfl

end Cert.NormIdeal.Value

end
-- ==== Proof.NormRefValue.lean ====
/- The gradient of the normalisation: what the reference computes where its arguments are reals. -/
module

public import proofs.«01_k».proof.Proof.Gen.NormRefIdeal.Run
public import proofs.«01_k».proof.Proof.Sums
public import proofs.«01_k».proof.Proof.NormSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormRefIdeal.Value
open Cert.NormRefIdeal Cert.NormRefIdeal.Gen Cert.Reals

/- The cotangent, the rows, the gain and the gradient that is added. -/
variable (X H : FVec Ideal S2048x2048 .f32) (G : FVec Ideal S2048 .f32) (D : FVec Ideal S2048x2048 .f32)

/-- The mean square of every row, the small number added. -/
def spread : FVec Ideal S2048x1 .f32 :=
  addf (Host.divf (broadcastInDim S2048x1 ![0] bcast_S2048_S2048x1_0 (Host.reduceAdd (mulf H H) (constant S_ .f32 0x00000000#32) reducesTo_S2048x2048_S2048_d1 h_S_)) (broadcastInDim S2048x1 ![] bcast_S_S2048x1 (constant S_ .f32 0x45000000#32)))
    (broadcastInDim S2048x1 ![] bcast_S_S2048x1 (constant S_ .f32 0x358637BD#32))

/-- The cotangent of the normalised rows. -/
def pull : FVec Ideal S2048x2048 .f32 :=
  mulf X (broadcastInDim S2048x2048 ![0, 1] bcast_S1x2048_S2048x2048_0_1 (broadcastInDim S1x2048 ![1] bcast_S2048_S1x2048_1 G))

/-- The gradient of every row's mean square, its factor ½ of the square's rule included. -/
def back : FVec Ideal S2048x2048 .f32 :=
  broadcastInDim S2048x2048 ![0] bcast_S2048_S2048x2048_0 (Host.reduceAdd (Host.divf (mulf (shapeCast _ (Host.reduceAdd (mulf H (pull X G))
    (constant S_ .f32 0x00000000#32) reducesTo_S2048x2048_S2048_d1 h_S_) shapeCasts_S2048_S2048x1)
    (mulf (broadcastInDim S2048x1 ![] bcast_S_S2048x1 (constant S_ .f32 0xBF000000#32)) (Host.divf (Host.rsqrt (spread H)) (spread H))))
    (broadcastInDim S2048x1 ![] bcast_S_S2048x1 (constant S_ .f32 0x45000000#32))) (constant S_ .f32 0x00000000#32) reducesTo_S2048x1_S2048_d1 h_S_)

/-- The gradient of the rows. -/
def resRows : FVec Ideal S2048x2048 .f32 :=
  addf (addf (addf D (mulf (pull X G) (broadcastInDim S2048x2048 ![0, 1] bcast_S2048x1_S2048x2048_0_1 (Host.rsqrt (spread H)))))
    (mulf H (back X H G))) (mulf (back X H G) H)

/-- The gradient of the gain. -/
def resGain : FVec Ideal S1x2048 .f32 :=
  broadcastInDim S1x2048 ![1] bcast_S2048_S1x2048_1 (Host.reduceAdd (shapeCast _ (Host.reduceAdd (mulf (mulf H
    (broadcastInDim S2048x2048 ![0, 1] bcast_S2048x1_S2048x2048_0_1 (Host.rsqrt (spread H)))) X) (constant S_ .f32 0x00000000#32)
    reducesTo_S2048x2048_S2048_d0 h_S_) shapeCasts_S2048_S1x2048) (constant S_ .f32 0x00000000#32) reducesTo_S1x2048_S2048_d0 h_S_)

variable {X H : FVec Ideal S2048x2048 .f32} {G : FVec Ideal S2048 .f32} {D : FVec Ideal S2048x2048 .f32}
  {x h : Fin 2048 → Fin 2048 → ℝ} {g : Fin 2048 → ℝ}
  (hX : ∀ i l : Fin 2048, X (ix2 i l) = (x i l : EReal)) (hH : ∀ i l : Fin 2048, H (ix2 i l) = (h i l : EReal))
  (hG : ∀ l : Fin 2048, G (ix1 l) = (g l : EReal))

include hH in
theorem spread_at (i : Fin 2048) : spread H (ix2 i 0) = (NormSpec.spread (h i) : EReal) := by
  pointwise [spread]
  simp only [hH, lit_2048, lit_eps, ← EReal.coe_mul, ← coe_sum, div_2048, ← EReal.coe_add]
  rfl

include hH in
theorem scale_at (i : Fin 2048) : Host.rsqrt (spread H) (ix2 i 0) = (NormSpec.scale (h i) : EReal) := by
  show Ideal.rsqrt (spread H (ix2 i 0)) = _
  rw [spread_at hH, rsqrt_coe (NormSpec.spread_pos _)]
  rfl

include hX hG in
theorem pull_at (i l : Fin 2048) : pull X G (ix2 i l) = (x i l * g l : ℝ) := by
  pointwise [pull]
  rw [hX, hG, ← EReal.coe_mul]

include hX hH hG in
theorem back_at (i l : Fin 2048) : back X H G (ix2 i l) = (NormSpec.spreadGrad (h i) (fun k => x i k * g k) : EReal) := by
  pointwise [back]
  simp only [Fin.sum_univ_one, hH, pull_at hX hG, spread_at hH, rsqrt_coe (NormSpec.spread_pos _), lit_neg_half, lit_2048,
    div_coe (NormSpec.spread_pos _).ne', ← EReal.coe_mul, ← coe_sum, div_2048]
  rfl

include hX hH hG in
theorem resRows_at (i l : Fin 2048) : resRows X H G D (ix2 i l)
    = D (ix2 i l) + (NormSpec.grad (h i) (fun k => x i k * g k) l : EReal) := by
  pointwise [resRows]
  simp only [hH, pull_at hX hG, back_at hX hH hG, spread_at hH, rsqrt_coe (NormSpec.spread_pos _), ← EReal.coe_mul]
  rw [add_assoc, add_assoc, ← EReal.coe_add, ← EReal.coe_add, ← NormSpec.grad_eq, add_assoc]
  rfl

include hX hH in
theorem resGain_at (l : Fin 2048) : resGain X H (ix2 0 l) = (NormSpec.gainGrad x h l : EReal) := by
  pointwise [resGain]
  simp only [Fin.sum_univ_one, hX, hH, spread_at hH, rsqrt_coe (NormSpec.spread_pos _), ← EReal.coe_mul, ← coe_sum]
  exact congrArg _ (Finset.sum_congr rfl fun i _ => mul_comm _ _)

end Cert.NormRefIdeal.Value

end
-- ==== Proof.NormClaim.lean ====
/- The normalisation's backward call: at finite arguments the kernel's arrays are the reference's. -/
module

public import proofs.«01_k».proof.Defs
public import proofs.«01_k».proof.Proof.NormKernel
public import proofs.«01_k».proof.Proof.NormRefValue

@[expose] public section

noncomputable section

open Idealize.ShloMosaic Idealize.ShloMosaic.TcCoe Idealize.SL.Sem

namespace Cert.Pre_norm_finite

instance facts : Facts := by constructor <;> decide

end Cert.Pre_norm_finite

/-- The precondition says that the kernel's arguments but the last are reals. -/
theorem Cert.Proof.norm_args (m : (ℓ : Loc Cert.NormIdeal.nD Cert.NormIdeal.τ Cert.NormIdeal.sig) → Buf (Elt Ideal) ℓ)
    (hpre : Cert.Pre_NormIdeal_norm_finite m) (c : Dev Cert.NormIdeal.nD) : ∃ x h g, Cert.NormIdeal.Value.Args m c x h g := by
  obtain ⟨h01, h2⟩ := IntOp.andi_eq_one.1 (congrFun (hpre c) ix0)
  obtain ⟨h0, h1⟩ := IntOp.andi_eq_one.1 h01
  choose x hx using Cert.Reals.real_of_all _ _ _ _ _ _ h0
  choose h hh using Cert.Reals.real_of_all _ _ _ _ _ _ h1
  choose g hg using Cert.Reals.real_of_all _ _ _ _ _ _ h2
  exact ⟨fun i l => x (ix2 i l), fun i l => h (ix2 i l), fun l => g (ix1 l), fun i l => hx _, fun i l => hh _, fun l => hg _⟩

open Cert.NormIdeal.Value Cert.NormRefIdeal.Value in
/-- The reference's gradient of the rows is the kernel's. -/
theorem Cert.Proof.norm_rows {m : (ℓ : Loc Cert.NormIdeal.nD Cert.NormIdeal.τ Cert.NormIdeal.sig) → Buf (Elt Ideal) ℓ} {c : Dev Cert.NormIdeal.nD}
    {x h : Fin 2048 → Fin 2048 → ℝ} {g : Fin 2048 → ℝ} (H : Args m c x h g) :
    resRows (m ((c.tc : Thread Cert.NormIdeal.nD Cert.NormIdeal.τ).loc Cert.NormIdeal.main_arg0))
      (m ((c.tc : Thread Cert.NormIdeal.nD Cert.NormIdeal.τ).loc Cert.NormIdeal.main_arg1))
      (m ((c.tc : Thread Cert.NormIdeal.nD Cert.NormIdeal.τ).loc Cert.NormIdeal.main_arg2))
      (m ((c.tc : Thread Cert.NormIdeal.nD Cert.NormIdeal.τ).loc Cert.NormIdeal.main_arg3)) = gradRows m c x h g := by
  funext i
  idx_vars i
  exact resRows_at H.cot H.rows H.gain i0 i1

open Cert.NormIdeal.Value Cert.NormRefIdeal.Value in
/-- From arguments that agree, the cotangent, the rows and the gain finite, the two programs end with the same gradients. -/
theorem Cert.Proof.norm : Cert.algebraic_NormIdeal_NormRefIdeal_pre_norm_finite := by
  pair_intro
  · run_from Cert.NormIdeal.Value.run_main m g
  · run_from Cert.NormRefIdeal.Value.run m' g'
    all_goals
      obtain ⟨x, h, g, H⟩ := Cert.Proof.norm_args m hpre c
    · exact Eq.trans (Cert.Proof.norm_rows H) (final4 H).symm
    · exact Eq.trans (Cert.Proof.norm_rows H) (final5 H).symm
    · exact Eq.trans (funext fun i => by
        idx_vars i
        obtain rfl : i0 = 0 := Subsingleton.elim _ _
        exact resGain_at H.cot H.rows i1) (final6 H).symm

end
-- ==== Proof.HeadRefValue.lean ====
/- The loss and its gradient: what the reference computes where its arguments are reals. The gradient of the norm in it is
   the one of NormRefValue, from the cotangent that the loss gives. -/
module

public import proofs.«01_k».proof.Proof.Gen.HeadRefIdeal.Run
public import proofs.«01_k».proof.Proof.Sums
public import proofs.«01_k».proof.Proof.NormRefValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadSpec

/-- The normalised row times the gain, less the target. -/
def err (h g t : Fin 2048 → ℝ) (l : Fin 2048) : ℝ := NormSpec.unit h l * g l - t l

/-- The cotangent of the normalised row times the gain. -/
def cot (h g t : Fin 2048 → ℝ) (l : Fin 2048) : ℝ := err h g t l * (1 / 2048)

/-- The mean square of a row's errors. -/
def meanSq (h g t : Fin 2048 → ℝ) : ℝ := (∑ l, err h g t l * err h g t l) / 2048

/-- The loss: half the sum of the rows' mean squares. -/
def loss (h t : Fin 2048 → Fin 2048 → ℝ) (g : Fin 2048 → ℝ) : ℝ := 1 / 2 * ∑ i, meanSq (h i) g (t i)

end Cert.HeadSpec

namespace Cert.HeadRefIdeal.Value
open Cert.HeadRefIdeal Cert.HeadRefIdeal.Gen Cert.Reals
open Cert.NormRefIdeal.Value (spread scale_at pull pull_at back back_at resGain resGain_at spread_at)

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

/- The rows, the gain and the target. -/
variable (H : FVec Ideal S2048x2048 .f32) (G : FVec Ideal S2048 .f32) (T : FVec Ideal S2048x2048 .f32)

/-- The errors: the normalised rows times the gain, less the target. -/
def err : FVec Ideal S2048x2048 .f32 :=
  subf (mulf (mulf H (broadcastInDim S2048x2048 ![0, 1] bcast_S2048x1_S2048x2048_0_1 (Host.rsqrt (spread H))))
    (broadcastInDim S2048x2048 ![0, 1] bcast_S1x2048_S2048x2048_0_1 (broadcastInDim S1x2048 ![1] bcast_S2048_S1x2048_1 G))) T

/-- Their cotangent: the half, the mean's divisor and the square's two. -/
def cot : FVec Ideal S2048x2048 .f32 :=
  mulf (broadcastInDim S2048x2048 ![0] bcast_S2048_S2048x2048_0 (Host.divf (broadcastInDim S2048 ![] bcast_S_S2048
    (mulf (constant S_ .f32 0x3F000000#32) (constant S_ .f32 0x3F800000#32))) (broadcastInDim S2048 ![] bcast_S_S2048 (constant S_ .f32 0x45000000#32))))
    (mulf (broadcastInDim S2048x2048 ![] bcast_S_S2048x2048 (constant S_ .f32 0x40000000#32)) (err H G T))

/-- The gradient of the rows. -/
def resRows : FVec Ideal S2048x2048 .f32 :=
  addf (addf (mulf (pull (cot H G T) G) (broadcastInDim S2048x2048 ![0, 1] bcast_S2048x1_S2048x2048_0_1 (Host.rsqrt (spread H))))
    (mulf H (back (cot H G T) H G))) (mulf (back (cot H G T) H G) H)

/-- The loss. -/
def resLoss : FVec Ideal S1x1 .f32 :=
  broadcastInDim S1x1 ![] bcast_S_S1x1 (mulf (constant S_ .f32 0x3F000000#32) (Host.reduceAdd (Host.divf
    (Host.reduceAdd (mulf (err H G T) (err H G T)) (constant S_ .f32 0x00000000#32) reducesTo_S2048x2048_S2048_d1 h_S_)
    (broadcastInDim S2048 ![] bcast_S_S2048 (constant S_ .f32 0x45000000#32))) (constant S_ .f32 0x00000000#32) reducesTo_S2048_S_d0 h_S_))

variable {H : FVec Ideal S2048x2048 .f32} {G : FVec Ideal S2048 .f32} {T : FVec Ideal S2048x2048 .f32}
  {h t : Fin 2048 → Fin 2048 → ℝ} {g : Fin 2048 → ℝ}
  (hH : ∀ i l : Fin 2048, H (ix2 i l) = (h i l : EReal)) (hG : ∀ l : Fin 2048, G (ix1 l) = (g l : EReal))
  (hT : ∀ i l : Fin 2048, T (ix2 i l) = (t i l : EReal))

include hH hG hT in
theorem err_at (i l : Fin 2048) : err H G T (ix2 i l) = (HeadSpec.err (h i) g (t i) l : EReal) := by
  pointwise [err]
  simp only [hH, hG, hT, spread_at hH, rsqrt_coe (NormSpec.spread_pos _), ← EReal.coe_mul, ← EReal.coe_sub]
  rfl

include hH hG hT in
theorem cot_at (i l : Fin 2048) : cot H G T (ix2 i l) = (HeadSpec.cot (h i) g (t i) l : EReal) := by
  pointwise [cot]
  simp only [err_at hH hG hT, lit_half, lit_one, lit_two, lit_2048, ← EReal.coe_mul, div_2048]
  refine congrArg _ ?_
  rw [HeadSpec.cot]; ring

include hH hG hT in
theorem resRows_at (i l : Fin 2048) : resRows H G T (ix2 i l)
    = (NormSpec.grad (h i) (fun k => HeadSpec.cot (h i) g (t i) k * g k) l : EReal) := by
  have hc := cot_at hH hG hT
  pointwise [resRows]
  simp only [hH, pull_at hc hG, back_at hc hH hG, spread_at hH, rsqrt_coe (NormSpec.spread_pos _), ← EReal.coe_mul, ← EReal.coe_add]
  rw [← NormSpec.grad_eq]
  rfl

include hH hG hT in
theorem resGain_at' (l : Fin 2048) : resGain (cot H G T) H (ix2 0 l)
    = (NormSpec.gainGrad (fun i => HeadSpec.cot (h i) g (t i)) h l : EReal) :=
  resGain_at (cot_at hH hG hT) hH l

include hH hG hT in
theorem resLoss_at : resLoss H G T (ix2 0 0) = (HeadSpec.loss h t g : EReal) := by
  pointwise [resLoss]
  simp only [err_at hH hG hT, lit_half, lit_2048, ← EReal.coe_mul, ← coe_sum, div_2048]
  rfl

/-- The run's first result is the gradient of the rows. -/
theorem run_rows (m : (ℓ : Loc nD τ sig) → Buf (Elt Ideal) ℓ) (c : Dev nD) : res_main_v50 m c
    = resRows (m ((c.tc : Thread nD τ).loc main_arg0)) (m ((c.tc : Thread nD τ).loc main_arg1)) (m ((c.tc : Thread nD τ).loc main_arg2)) := by
  unfold res_main_v50; rfl

/-- Its second result is the same rounded to bf16, which over the reals it is not. -/
theorem run_rows_bf16 (m : (ℓ : Loc nD τ sig) → Buf (Elt Ideal) ℓ) (c : Dev nD) : res_main_v51 m c
    = resRows (m ((c.tc : Thread nD τ).loc main_arg0)) (m ((c.tc : Thread nD τ).loc main_arg1)) (m ((c.tc : Thread nD τ).loc main_arg2)) := by
  unfold res_main_v51; rfl

end Cert.HeadRefIdeal.Value

end
-- ==== Proof.HeadKernel.lean ====
/- The loss and its gradient: the arrays that the kernel leaves where its arguments are reals. -/
module

public import proofs.«01_k».proof.Proof.HeadFrame
public import proofs.«01_k».proof.Proof.HeadRefValue
public import proofs.«01_k».proof.Proof.NormKernel
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadIdeal.Value
open Cert.HeadIdeal Cert.HeadIdeal.Gen Cert.Reals
open Cert.RowChunks (chunk)
open Cert.NormIdeal.Value (row)

/-- The block indices of the windows: the rows' windows follow the grid, the others stay. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-! What one trip computes, from rows that are reals. -/

section Trip

variable {hb tb : Vec Ideal S16x2048 .f32} {v : FVec Ideal S1x2048 .f32} {h t : Fin 16 → Fin 2048 → ℝ} {g : Fin 2048 → ℝ}
  (hh : ∀ (r : Fin 16) (l : Fin 2048), hb (ix2 r l) = (h r l : EReal)) (ht : ∀ (r : Fin 16) (l : Fin 2048), tb (ix2 r l) = (t r l : EReal))
  (hg : ∀ l : Fin 2048, v (ix2 0 l) = (g l : EReal))

include hh in
theorem scale_at (r : Fin 16) : k0_pay8 hb (ix2 r 0) = (NormSpec.scale (h r) : EReal) := NormIdeal.Value.scale_at hh r

include hh in
theorem unit_at (r : Fin 16) (l : Fin 2048) : k0_pay9 hb (ix2 r l) = (NormSpec.unit (h r) l : EReal) := NormIdeal.Value.unit_at hh r l

include hh ht hg in
theorem err_at (r : Fin 16) (l : Fin 2048) : k0_pay10 v hb tb (ix2 r l) = (HeadSpec.err (h r) g (t r) l : EReal) := by
  pointwise [k0_pay10]
  rw [hg, ht, unit_at hh, ← EReal.coe_mul, ← EReal.coe_sub]
  rfl

include hh ht hg in
theorem cot_at (r : Fin 16) (l : Fin 2048) : k0_pay11 v hb tb (ix2 r l) = (HeadSpec.cot (h r) g (t r) l : EReal) := by
  pointwise [k0_pay11]
  rw [err_at hh ht hg, lit_inv_2048, ← EReal.coe_mul]
  rfl

include hh ht hg in
theorem rows_at (r : Fin 16) (l : Fin 2048) : k0_pay12 v hb tb (ix2 r l)
    = (NormSpec.grad (h r) (fun k => HeadSpec.cot (h r) g (t r) k * g k) l : EReal) := by
  pointwise [k0_pay12]
  simp only [hg, cot_at hh ht hg, unit_at hh, scale_at hh, lit_2048, ← EReal.coe_mul, ← coe_sum, div_2048, ← EReal.coe_sub]
  rfl

include hh ht hg in
theorem acc_at (a : Vec Ideal S16x2048 .f32) (r : Fin 16) (l : Fin 2048) : k0_pay4 (k0_pay14 v hb tb a) (ix2 r l)
    = a (ix2 r l) + (HeadSpec.cot (h r) g (t r) l * NormSpec.unit (h r) l : ℝ) := by
  pointwise [k0_pay4, k0_pay14]
  rw [cot_at hh ht hg, unit_at hh, ← EReal.coe_mul]

include hh ht hg in
theorem lossAcc_at (a : Vec Ideal S16x1 .f32) (r : Fin 16) : k0_pay5 (k0_pay10 v hb tb) a (ix2 r 0)
    = a (ix2 r 0) + (HeadSpec.meanSq (h r) g (t r) : EReal) := by
  pointwise [k0_pay5]
  simp only [err_at hh ht hg, lit_2048, ← EReal.coe_mul, ← coe_sum, div_2048]
  rfl

end Trip

variable (m : (ℓ : Loc nD τ sig) → Buf (Elt Ideal) ℓ) (c : Dev nD)

/-- The kernel's arguments are the reals `h`, `g` and `t`. -/
structure Args (h t : Fin 2048 → Fin 2048 → ℝ) (g : Fin 2048 → ℝ) : Prop where
  rows : ∀ i l : Fin 2048, m ((c.tc : Thread nD τ).loc main_arg0) (ix2 i l) = (h i l : EReal)
  gain : ∀ l : Fin 2048, m ((c.tc : Thread nD τ).loc main_arg1) (ix1 l) = (g l : EReal)
  target : ∀ i l : Fin 2048, m ((c.tc : Thread nD τ).loc main_arg2) (ix2 i l) = (t i l : EReal)

variable {m c} {h t : Fin 2048 → Fin 2048 → ℝ} {g : Fin 2048 → ℝ} (H : Args m c h t g)

/-- The row of the arrays that lane `r` of trip `k` of point `p` works on. -/
def rowOf (p : Fin cfg0.N) (k : ℕ) (r : Fin 16) : Fin 2048 := row (16 * (32 * p.val + k) + r.val)

theorem coord (p : Fin cfg0.N) (k : ℕ) (hk : k < 32) (r : Fin 16) : p.val * 512 + (16 * k + r.val) % 512 = (rowOf p k r).val := by
  have hp := lt_of_lt_of_eq p.isLt N_0
  show _ = (16 * (32 * p.val + k) + r.val) % 2048
  omega

theorem rowOf_val (p : Fin cfg0.N) (i : Fin 512) : (rowOf p (i.val / 16) ⟨i.val % 16, by omega⟩).val = p.val * 512 + i.val := by
  have hp := lt_of_lt_of_eq p.isLt N_0
  show (16 * (32 * p.val + i.val / 16) + i.val % 16) % 2048 = _
  omega

include H in
theorem rows_at' (p : Fin cfg0.N) (k : ℕ) (hk : k < 32) (r : Fin 16) (l : Fin 2048) :
    chunk (rowB m c p) k (ix2 r l) = (h (rowOf p k r) l : EReal) := by
  rw [← H.rows]
  have e := coord p k hk r
  show iblk m c 0 p (ix2 ⟨(16 * k + r.val) % 512, _⟩ l) = _
  blk_point [iblk, V, idx p]

include H in
theorem target_at (p : Fin cfg0.N) (k : ℕ) (hk : k < 32) (r : Fin 16) (l : Fin 2048) :
    chunk (tgtB m c p) k (ix2 r l) = (t (rowOf p k r) l : EReal) := by
  rw [← H.target]
  have e := coord p k hk r
  show iblk m c 2 p (ix2 ⟨(16 * k + r.val) % 512, _⟩ l) = _
  blk_point [iblk, V, idx p]

include H in
theorem gain_at (p : Fin cfg0.N) (l : Fin 2048) : k0_pay3 (wgtB m c p) (ix2 0 l) = (g l : EReal) := by
  rw [← H.gain]
  pointwise [k0_pay3]
  have e : iblk m c 1 p (ix2 0 l) = V m c main_v0 (ix2 0 l) := by blk_point [iblk, idx p]
  refine e.trans ?_
  entry_read
  pointwise

/-- The gradient of the rows, as an array. -/
def gradRows (h t : Fin 2048 → Fin 2048 → ℝ) (g : Fin 2048 → ℝ) : FVec Ideal S2048x2048 .f32 :=
  fun i => (NormSpec.grad (h (i 0)) (fun k => HeadSpec.cot (h (i 0)) g (t (i 0)) k * g k) (i 1) : EReal)

include H in
/-- One block of the gradient of the rows. -/
theorem block3 (p : Fin cfg0.N) (i : Fin 512) (l : Fin 2048) :
    outF (rowB m c p) (wgtB m c p) (tgtB m c p) (ix2 i l) = gradRows h t g (ix2 (rowOf p (i.val / 16) ⟨i.val % 16, by omega⟩) l) := by
  have hk : i.val / 16 < 32 := by omega
  exact rows_at (fun r l => rows_at' H p (i.val / 16) hk r l) (fun r l => target_at H p (i.val / 16) hk r l) (gain_at H p)
    ⟨i.val % 16, by omega⟩ l

include H in
/-- The gradient of the rows that the call leaves. -/
theorem final3 : (dats m 0 c).arrAt 3 (cfgs 0).N = gradRows h t g := by
  refine (dats m 0 c).arrAt_eq_of_covers 3 _ (by decide +kernel) fun p hf y => ?_
  blk_simp
  rw [after0_3]
  idx_vars y
  refine (block3 H p y0 y1).trans (congrArg _ ?_)
  have e := rowOf_val p y0
  symm
  blk_ext [idx p]

include H in
/-- The same array rounded to bf16, which over the reals it is not. -/
theorem final4 : (dats m 0 c).arrAt 4 (cfgs 0).N = gradRows h t g := by
  refine (dats m 0 c).arrAt_eq_of_covers 4 _ (by decide +kernel) fun p hf y => ?_
  blk_simp
  rw [after0_4]
  idx_vars y
  refine (block3 H p y0 y1).trans (congrArg _ ?_)
  have e := rowOf_val p y0
  symm
  blk_ext [idx p]

include H in
/-- The gain's accumulator within a point: every lane the sum of its rows so far. -/
theorem accAfter_at (p : Fin cfg0.N) (a : Vec Ideal S16x2048 .f32) (r : Fin 16) (l : Fin 2048)
    (ha : a (ix2 r l) = ((∑ j ∈ Finset.range (32 * p.val), HeadSpec.cot (h (row (16 * j + r.val))) g (t (row (16 * j + r.val))) l * NormSpec.unit (h (row (16 * j + r.val))) l : ℝ) : EReal))
    (k : ℕ) (hk : k ≤ 32) : accAfter (rowB m c p) (wgtB m c p) (tgtB m c p) a k (ix2 r l)
      = ((∑ j ∈ Finset.range (32 * p.val + k), HeadSpec.cot (h (row (16 * j + r.val))) g (t (row (16 * j + r.val))) l * NormSpec.unit (h (row (16 * j + r.val))) l : ℝ) : EReal) := by
  induction k with
  | zero => exact ha
  | succ k ih =>
    refine (acc_at (fun r l => rows_at' H p k (by omega) r l) (fun r l => target_at H p k (by omega) r l) (gain_at H p) _ r l).trans ?_
    rw [ih (by omega), ← EReal.coe_add, ← add_assoc, Finset.sum_range_succ]
    rfl

include H in
/-- The loss's accumulator within a point, likewise. -/
theorem lossAfter_at (p : Fin cfg0.N) (a : Vec Ideal S16x1 .f32) (r : Fin 16)
    (ha : a (ix2 r 0) = ((∑ j ∈ Finset.range (32 * p.val), HeadSpec.meanSq (h (row (16 * j + r.val))) g (t (row (16 * j + r.val))) : ℝ) : EReal))
    (k : ℕ) (hk : k ≤ 32) : lossAfter (rowB m c p) (wgtB m c p) (tgtB m c p) a k (ix2 r 0)
      = ((∑ j ∈ Finset.range (32 * p.val + k), HeadSpec.meanSq (h (row (16 * j + r.val))) g (t (row (16 * j + r.val))) : ℝ) : EReal) := by
  induction k with
  | zero => exact ha
  | succ k ih =>
    refine (lossAcc_at (fun r l => rows_at' H p k (by omega) r l) (fun r l => target_at H p k (by omega) r l) (gain_at H p) _ r).trans ?_
    rw [ih (by omega), ← EReal.coe_add, ← add_assoc, Finset.sum_range_succ]
    rfl

include H in
/-- The gain's accumulator after a point. -/
theorem accAt_at (n : ℕ) (hn : n < cfg0.N) (r : Fin 16) (l : Fin 2048) : accAt m c n hn (ix2 r l)
    = ((∑ j ∈ Finset.range (32 * (n + 1)), HeadSpec.cot (h (row (16 * j + r.val))) g (t (row (16 * j + r.val))) l * NormSpec.unit (h (row (16 * j + r.val))) l : ℝ) : EReal) := by
  induction n with
  | zero =>
    have e : k0_pay1 (F := Ideal) (ix2 r l) = 0 := by pointwise [k0_pay1]
    have e' := accAfter_at H ⟨0, hn⟩ (k0_pay1 (F := Ideal)) r l (by rw [e]; simp) 32 le_rfl
    rw [accAt]
    exact e'
  | succ n ih =>
    have e' := accAfter_at H ⟨n + 1, hn⟩ (accAt m c n (Nat.lt_of_succ_lt hn)) r l (ih _) 32 le_rfl
    rw [accAt, Nat.mul_add 32 (n + 1) 1]
    exact e'

include H in
/-- The loss's accumulator after a point. -/
theorem lossAt_at (n : ℕ) (hn : n < cfg0.N) (r : Fin 16) : lossAt m c n hn (ix2 r 0)
    = ((∑ j ∈ Finset.range (32 * (n + 1)), HeadSpec.meanSq (h (row (16 * j + r.val))) g (t (row (16 * j + r.val))) : ℝ) : EReal) := by
  induction n with
  | zero =>
    have e : k0_pay2 (F := Ideal) (ix2 r 0) = 0 := by pointwise [k0_pay2]
    have e' := lossAfter_at H ⟨0, hn⟩ (k0_pay2 (F := Ideal)) r (by rw [e]; simp) 32 le_rfl
    rw [lossAt]
    exact e'
  | succ n ih =>
    have e' := lossAfter_at H ⟨n + 1, hn⟩ (lossAt m c n (Nat.lt_of_succ_lt hn)) r (ih _) 32 le_rfl
    rw [lossAt, Nat.mul_add 32 (n + 1) 1]
    exact e'

/-- The gradient of the gain, as an array. -/
def gradGain (h t : Fin 2048 → Fin 2048 → ℝ) (g : Fin 2048 → ℝ) : FVec Ideal S1x2048 .f32 :=
  fun i => (NormSpec.gainGrad (fun i => HeadSpec.cot (h i) g (t i)) h (i 1) : EReal)

include H in
/-- The gradient of the gain that the call leaves. -/
theorem final5 : (dats m 0 c).arrAt 5 (cfgs 0).N = gradGain h t g := by
  refine (dats m 0 c).arrAt_eq_of_covers 5 _ (by decide +kernel) fun p hf y => ?_
  have hp : p.val = 3 := by
    revert hf; revert p; decide +kernel
  blk_simp
  rw [after0_5]
  idx_vars y
  obtain rfl : y0 = 0 := Subsingleton.elim _ _
  have he : (win0_5.blk p).view.emb (ix2 0 y1) = ix2 0 y1 := by blk_ext [idx p]
  refine Eq.trans ?_ (congrArg _ he).symm
  pointwise [k0_pay6]
  simp only [accAt_at H, hp, ← coe_sum]
  refine congrArg _ ((NormSpec.sum_lanes fun i => HeadSpec.cot (h (row i)) g (t (row i)) y1 * NormSpec.unit (h (row i)) y1).trans ?_)
  refine Finset.sum_congr rfl fun i _ => ?_
  rw [show row i.val = i from Fin.ext (Nat.mod_eq_of_lt i.isLt)]
  rfl

include H in
/-- The loss that the call leaves. -/
theorem final6 : (dats m 0 c).arrAt 6 (cfgs 0).N = (fun _ => (HeadSpec.loss h t g : EReal) : FVec Ideal S1x1 .f32) := by
  refine (dats m 0 c).arrAt_eq_of_covers 6 _ (by decide +kernel) fun p hf y => ?_
  have hp : p.val = 3 := by
    revert hf; revert p; decide +kernel
  blk_simp
  rw [after0_6]
  idx_vars y
  obtain rfl : y0 = 0 := Subsingleton.elim _ _
  obtain rfl : y1 = 0 := Subsingleton.elim _ _
  pointwise [k0_pay7]
  simp only [lossAt_at H, hp, ← coe_sum, lit_half, ← EReal.coe_mul]
  refine congrArg (fun x : ℝ => ((1 / 2 * x : ℝ) : EReal)) ((NormSpec.sum_lanes fun i => HeadSpec.meanSq (h (row i)) g (t (row i))).trans ?_)
  refine Finset.sum_congr rfl fun i _ => ?_
  rw [show row i.val = i from Fin.ext (Nat.mod_eq_of_lt i.isLt)]

end Cert.HeadIdeal.Value

end
-- ==== Proof.HeadClaim.lean ====
/- The loss head's call: at finite arguments the kernel's arrays are the reference's. -/
module

public import proofs.«01_k».proof.Defs
public import proofs.«01_k».proof.Proof.HeadKernel

@[expose] public section

noncomputable section

open Idealize.ShloMosaic Idealize.ShloMosaic.TcCoe Idealize.SL.Sem

namespace Cert.Pre_head_finite

instance facts : Facts := by constructor <;> decide

end Cert.Pre_head_finite

/-- The precondition says that the kernel's arguments are reals. -/
theorem Cert.Proof.head_args (m : (ℓ : Loc Cert.HeadIdeal.nD Cert.HeadIdeal.τ Cert.HeadIdeal.sig) → Buf (Elt Ideal) ℓ)
    (hpre : Cert.Pre_HeadIdeal_head_finite m) (c : Dev Cert.HeadIdeal.nD) : ∃ h t g, Cert.HeadIdeal.Value.Args m c h t g := by
  obtain ⟨h01, h2⟩ := IntOp.andi_eq_one.1 (congrFun (hpre c) ix0)
  obtain ⟨h0, h1⟩ := IntOp.andi_eq_one.1 h01
  choose h hh using Cert.Reals.real_of_all _ _ _ _ _ _ h0
  choose g hg using Cert.Reals.real_of_all _ _ _ _ _ _ h1
  choose t ht using Cert.Reals.real_of_all _ _ _ _ _ _ h2
  exact ⟨fun i l => h (ix2 i l), fun i l => t (ix2 i l), fun l => g (ix1 l), fun i l => hh _, fun l => hg _, fun i l => ht _⟩

open Cert.HeadIdeal.Value Cert.HeadRefIdeal.Value in
/-- The reference's gradient of the rows is the kernel's. -/
theorem Cert.Proof.head_rows {m : (ℓ : Loc Cert.HeadIdeal.nD Cert.HeadIdeal.τ Cert.HeadIdeal.sig) → Buf (Elt Ideal) ℓ} {c : Dev Cert.HeadIdeal.nD}
    {h t : Fin 2048 → Fin 2048 → ℝ} {g : Fin 2048 → ℝ} (H : Args m c h t g) :
    resRows (m ((c.tc : Thread Cert.HeadIdeal.nD Cert.HeadIdeal.τ).loc Cert.HeadIdeal.main_arg0))
      (m ((c.tc : Thread Cert.HeadIdeal.nD Cert.HeadIdeal.τ).loc Cert.HeadIdeal.main_arg1))
      (m ((c.tc : Thread Cert.HeadIdeal.nD Cert.HeadIdeal.τ).loc Cert.HeadIdeal.main_arg2)) = gradRows h t g := by
  funext i
  idx_vars i
  exact resRows_at H.rows H.gain H.target i0 i1

open Cert.HeadIdeal.Value Cert.HeadRefIdeal.Value in
/-- The reference's gradient of the gain is the kernel's. -/
theorem Cert.Proof.head_gain {m : (ℓ : Loc Cert.HeadIdeal.nD Cert.HeadIdeal.τ Cert.HeadIdeal.sig) → Buf (Elt Ideal) ℓ} {c : Dev Cert.HeadIdeal.nD}
    {h t : Fin 2048 → Fin 2048 → ℝ} {g : Fin 2048 → ℝ} (H : Args m c h t g) :
    Cert.NormRefIdeal.Value.resGain (cot (m ((c.tc : Thread Cert.HeadIdeal.nD Cert.HeadIdeal.τ).loc Cert.HeadIdeal.main_arg0))
      (m ((c.tc : Thread Cert.HeadIdeal.nD Cert.HeadIdeal.τ).loc Cert.HeadIdeal.main_arg1))
      (m ((c.tc : Thread Cert.HeadIdeal.nD Cert.HeadIdeal.τ).loc Cert.HeadIdeal.main_arg2))) (m ((c.tc : Thread Cert.HeadIdeal.nD Cert.HeadIdeal.τ).loc Cert.HeadIdeal.main_arg0)) = gradGain h t g := by
  funext i
  idx_vars i
  obtain rfl : i0 = 0 := Subsingleton.elim _ _
  exact resGain_at' H.rows H.gain H.target i1

open Cert.HeadIdeal.Value Cert.HeadRefIdeal.Value in
/-- The reference's loss is the kernel's. -/
theorem Cert.Proof.head_loss {m : (ℓ : Loc Cert.HeadIdeal.nD Cert.HeadIdeal.τ Cert.HeadIdeal.sig) → Buf (Elt Ideal) ℓ} {c : Dev Cert.HeadIdeal.nD}
    {h t : Fin 2048 → Fin 2048 → ℝ} {g : Fin 2048 → ℝ} (H : Args m c h t g) :
    resLoss (m ((c.tc : Thread Cert.HeadIdeal.nD Cert.HeadIdeal.τ).loc Cert.HeadIdeal.main_arg0))
      (m ((c.tc : Thread Cert.HeadIdeal.nD Cert.HeadIdeal.τ).loc Cert.HeadIdeal.main_arg1))
      (m ((c.tc : Thread Cert.HeadIdeal.nD Cert.HeadIdeal.τ).loc Cert.HeadIdeal.main_arg2)) = fun _ => (HeadSpec.loss h t g : EReal) := by
  funext i
  idx_vars i
  obtain rfl : i0 = 0 := Subsingleton.elim _ _
  obtain rfl : i1 = 0 := Subsingleton.elim _ _
  exact resLoss_at H.rows H.gain H.target

open Cert.HeadIdeal.Value Cert.HeadRefIdeal.Value in
/-- From arguments that agree and are finite the two programs end with the same loss and the same gradients. -/
theorem Cert.Proof.head : Cert.algebraic_HeadIdeal_HeadRefIdeal_pre_head_finite := by
  pair_intro
  · run_from Cert.HeadIdeal.Value.run_main m g
  · run_from Cert.HeadRefIdeal.Value.run m' g'
    all_goals
      obtain ⟨h, t, g, H⟩ := Cert.Proof.head_args m hpre c
    · rw [run_rows, (hagree c).1, (hagree c).2.1, (hagree c).2.2]
      exact Eq.trans (Cert.Proof.head_rows H) (final3 H).symm
    · rw [run_rows_bf16, (hagree c).1, (hagree c).2.1, (hagree c).2.2]
      exact Eq.trans (Cert.Proof.head_rows H) (final4 H).symm
    · exact Eq.trans (Cert.Proof.head_gain H) (final5 H).symm
    · exact Eq.trans (Cert.Proof.head_loss H) (final6 H).symm

end
-- ==== Proof.GateFwdSpec.lean ====
/- The chunked spatial gate of the forward pass over the extended reals, row by row. -/
module

public import proofs.«01_k».proof.Proof.GateSpec

@[expose] public section

set_option maxRecDepth 16384

noncomputable section

open Idealize.ShloMosaic Idealize.ShloMosaic.TcCoe Idealize.SL.Sem
open Idealize.ShloMosaic.Pipeline (Dat)

namespace Cert.GateFwdSpec
open Cert.Reals
open Cert.GateSpec (root lo hi lane grp blk pos row)

def gelu (x : EReal) : EReal := ((1 / 2 : ℝ) : EReal) * x * (1 + Ideal.erf (x * (root : EReal)))

/-- The GELU by the complementary error function is the same at every extended real. -/
theorem gelu_erfc (x : EReal) : ((1 / 2 : ℝ) : EReal) * x * Ideal.erfc (-x * (root : EReal)) = gelu x := by
  rw [neg_mul, Ideal.erfc_neg, gelu]

/-- Lane `l` of the gating half after the GELU, and its row's mean. -/
def val (p : Fin 4096 → EReal) (l : Fin 2048) : EReal := gelu (p (hi l))

def mean (p : Fin 4096 → EReal) : EReal := (∑ l, val p l) * ((1 / 2048 : ℝ) : EReal)

def dev (p : Fin 4096 → EReal) (l : Fin 2048) : EReal := val p l - mean p

/-- One over the root of the row's variance. -/
def scale (p : Fin 4096 → EReal) : EReal :=
  Ideal.rsqrt ((∑ l, dev p l * dev p l) * ((1 / 2048 : ℝ) : EReal) + (eps : EReal))

def norm (p : Fin 4096 → EReal) (g b : Fin 2048 → EReal) (l : Fin 2048) : EReal := dev p l * scale p * g l + b l

/-- The weight of token `s` in token `t`'s gate. -/
def mask (W : Fin 8 → Fin 128 → Fin 128 → EReal) (k : Fin 8) (t s : Fin 128) : EReal := if s ≤ t then W k t s else 0

/-- Lane `l` of the gated token `t` of a chunk. -/
def gated (P : Fin 128 → Fin 4096 → EReal) (g b : Fin 2048 → EReal) (W : Fin 8 → Fin 128 → Fin 128 → EReal)
    (B : Fin 8 → Fin 128 → EReal) (t : Fin 128) (l : Fin 2048) : EReal :=
  gelu (P t (lo l)) * ((∑ s, mask W (grp l) t s * norm (P s) g b l) + B (grp l) t)

/-- The whole array. -/
def out (p : Fin 2048 → Fin 4096 → EReal) (g b : Fin 2048 → EReal) (W : Fin 8 → Fin 128 → Fin 128 → EReal)
    (B : Fin 8 → Fin 128 → EReal) (i l : Fin 2048) : EReal :=
  gated (fun s => p (row (blk i) s)) g b W B (pos i) l

end Cert.GateFwdSpec
end
-- ==== Proof.GateFwdKernel.lean ====
/- The chunked spatial gate of the forward pass: what one chunk stores, and what the array holds. -/
module

public import proofs.«01_k».proof.Proof.Gen.GateFwdIdeal.Frame
public import proofs.«01_k».proof.Proof.GateFwdSpec
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateFwdIdeal.Value
open Cert.GateFwdIdeal Cert.GateFwdIdeal.Gen Cert.Reals Cert.GateFwdSpec
open Cert.GateSpec (root lo hi lane grp blk pos row sum_lanes grp_lane blk_row pos_row select_mask)

theorem named_root : Named.named (F := Ideal) κ "sqrt_half" (φ := .f32) 0x3F3504F3#32 = (root : EReal) :=
  IdealRules.named_const.ideal_named_scalar _ _ _ _ rfl

theorem erf_float (x : EReal) : FloatOps.erf (F := Ideal) (φ := .f32) x = Ideal.erf x := rfl

variable (x0 : Vec Ideal S128x4096 .f32) (x1 x2 : Vec Ideal S1x2048 .f32) (x3 : Vec Ideal S8x128x128 .f32)
  (x4 : Vec Ideal S8x128x1 .f32)

/-! The loads of group `k`: its lanes of the gated and of the gating half and of a row, its spatial weights and its
    shift. -/

def lowS (k : Fin 8) : Vec Ideal S128x256 .f32 :=
  View.ld (Val := Elt Ideal) x0 (Rect.unit (s := S128x4096) ![0, 256 * k.val] S128x256.size (by intro a; fin_cases a <;> simp <;> omega))

def highS (k : Fin 8) : Vec Ideal S128x256 .f32 :=
  View.ld (Val := Elt Ideal) x0 (Rect.unit (s := S128x4096) ![0, 2048 + 256 * k.val] S128x256.size (by intro a; fin_cases a <;> simp <;> omega))

def rowS (k : Fin 8) : Vec Ideal S1x256 .f32 :=
  View.ld (Val := Elt Ideal) x1 (Rect.unit (s := S1x2048) ![0, 256 * k.val] S1x256.size (by intro a; fin_cases a <;> simp <;> omega))

def weightS (k : Fin 8) : Vec Ideal S1x128x128 .f32 :=
  View.ld (Val := Elt Ideal) x3 (Rect.unit (s := S8x128x128) ![k.val, 0, 0] S1x128x128.size (by intro a; fin_cases a <;> simp <;> omega))

def shiftS (k : Fin 8) : Vec Ideal S1x128x1 .f32 :=
  View.ld (Val := Elt Ideal) x4 (Rect.unit (s := S8x128x1) ![k.val, 0, 0] S1x128x1.size (by intro a; fin_cases a <;> simp <;> omega))

theorem lowS_at (k : Fin 8) (t : Fin 128) (d : Fin 256) : lowS x0 k (ix2 t d) = x0 (ix2 t (lo (lane k d))) := by
  pointwise [lowS]
  blk_ext [lo, hi, lane, mul_comm, add_assoc]

theorem highS_at (k : Fin 8) (t : Fin 128) (d : Fin 256) : highS x0 k (ix2 t d) = x0 (ix2 t (hi (lane k d))) := by
  pointwise [highS]
  blk_ext [lo, hi, lane, mul_comm, add_assoc]

theorem rowS_at (k : Fin 8) (d : Fin 256) : rowS x1 k (ix2 0 d) = x1 (ix2 0 (lane k d)) := by
  pointwise [rowS]
  blk_ext [lo, hi, lane, mul_comm, add_assoc]

theorem weightS_at (k : Fin 8) (t s : Fin 128) : weightS x3 k (ix3 0 t s) = x3 (ix3 k t s) := by
  pointwise [weightS]
  blk_ext [lo, hi, lane, mul_comm, add_assoc]

theorem shiftS_at (k : Fin 8) (t : Fin 128) : shiftS x4 k (ix3 0 t 0) = x4 (ix3 k t 0) := by
  pointwise [shiftS]
  blk_ext [lo, hi, lane, mul_comm, add_assoc]

/-! What the body computes of them. -/

/-- The gating half after the GELU. -/
def valS (k : Fin 8) : FVec Ideal S128x256 .f32 := k0_pay3 (highS x0 k)

/-- The sum of each row but for its last group, and its mean. -/
def partS : FVec Ideal S128x1 .f32 :=
  k0_pay20 (k0_pay13 (k0_pay6 (highS x0 0) (highS x0 1)) (k0_pay7 (highS x0 2)) (k0_pay8 (highS x0 2)) (highS x0 3))
    (k0_pay14 (highS x0 4)) (highS x0 5) (highS x0 6)
def meanS : FVec Ideal S128x1 .f32 := k0_pay25 (partS x0) (k0_pay21 (highS x0 7)) (k0_pay22 (highS x0 7))

/-- One over the root of each row's variance. -/
def scaleS : FVec Ideal S128x1 .f32 :=
  k0_pay27 (meanS x0) (k0_pay26 (partS x0) (k0_pay21 (highS x0 7)) (k0_pay22 (highS x0 7)) (valS x0 0) (valS x0 1) (valS x0 2)
    (valS x0 3)) (valS x0 4) (valS x0 5) (valS x0 6) (valS x0 7)

/-- The layer norm. -/
def normS (k : Fin 8) : FVec Ideal S128x256 .f32 := k0_pay37 (meanS x0) (scaleS x0) (valS x0 k) (rowS x1 k) (rowS x2 k)

/-- The gated lanes of group `k`. -/
def gatedS (k : Fin 8) : FVec Ideal S128x256 .bf16 := k0_pay38 (normS x0 x1 x2 k) (weightS x3 k) (shiftS x4 k) (lowS x0 k)

theorem gelu_strip (v : Vec Ideal S128x256 .f32) (t : Fin 128) (d : Fin 256) : k0_pay2 v (ix2 t d) = gelu (v (ix2 t d)) := by
  pointwise [k0_pay2]
  simp only [lit_half, named_root, erf_float]
  rfl

/-- The eight groups' GELUs are one function. -/
theorem strips : k0_pay4 (F := Ideal) = k0_pay2 ∧ (∀ v, k0_pay9 (F := Ideal) (k0_pay7 v) (k0_pay8 v) = k0_pay2 v)
    ∧ k0_pay11 (F := Ideal) = k0_pay2 ∧ k0_pay14 (F := Ideal) = k0_pay2 ∧ k0_pay16 (F := Ideal) = k0_pay2 ∧ k0_pay18 (F := Ideal) = k0_pay2
    ∧ (∀ v, k0_pay23 (F := Ideal) (k0_pay21 v) (k0_pay22 v) = k0_pay2 v) :=
  ⟨rfl, fun _ => rfl, rfl, rfl, rfl, rfl, fun _ => rfl⟩

theorem geluS_at (k : Fin 8) (t : Fin 128) (d : Fin 256) :
    k0_pay2 (highS x0 k) (ix2 t d) = val (fun l => x0 (ix2 t l)) (lane k d) := by
  rw [gelu_strip, highS_at]
  rfl

theorem valS_at (k : Fin 8) (t : Fin 128) (d : Fin 256) : valS x0 k (ix2 t d) = val (fun l => x0 (ix2 t l)) (lane k d) := by
  pointwise [valS, k0_pay3]
  exact geluS_at x0 k t d

theorem meanS_at (t : Fin 128) : meanS x0 (ix2 t 0) = mean (fun l => x0 (ix2 t l)) := by
  obtain ⟨e4, e9, e11, e14, e16, e18, e23⟩ := strips
  pointwise [meanS, k0_pay25, partS, k0_pay20, k0_pay13, k0_pay6]
  simp only [e4, e9, e11, e14, e16, e18, e23, geluS_at, lit_inv_2048]
  rw [mean, sum_lanes, Fin.sum_univ_eight]

theorem scaleS_at (t : Fin 128) : scaleS x0 (ix2 t 0) = scale (fun l => x0 (ix2 t l)) := by
  have hm : k0_pay25 (partS x0) (k0_pay21 (highS x0 7)) (k0_pay22 (highS x0 7)) = meanS x0 := rfl
  pointwise [scaleS, k0_pay27, k0_pay26]
  simp only [hm, valS_at, meanS_at, lit_inv_2048, lit_eps]
  rw [scale, sum_lanes, Fin.sum_univ_eight]
  rfl

theorem normS_at (k : Fin 8) (t : Fin 128) (d : Fin 256) : normS x0 x1 x2 k (ix2 t d)
    = norm (fun l => x0 (ix2 t l)) (fun l => x1 (ix2 0 l)) (fun l => x2 (ix2 0 l)) (lane k d) := by
  pointwise [normS, k0_pay37]
  simp only [valS_at, meanS_at, scaleS_at, rowS_at]
  rfl

theorem gatedS_at (k : Fin 8) (t : Fin 128) (d : Fin 256) : gatedS x0 x1 x2 x3 x4 k (ix2 t d)
    = gated (fun s l => x0 (ix2 s l)) (fun l => x1 (ix2 0 l)) (fun l => x2 (ix2 0 l)) (fun k t s => x3 (ix3 k t s))
        (fun k t => x4 (ix3 k t 0)) t (lane k d) := by
  pointwise [gatedS, k0_pay38]
  simp only [normS_at, weightS_at, shiftS_at, lowS_at, lit_half, named_root, erf_float, select_mask]
  rw [gated, grp_lane]
  simp only [mask, ite_mul, zero_mul]
  rfl

/-! The blocks of a chunk, and the array. -/

variable (m : (ℓ : Loc nD τ sig) → Buf (Elt Ideal) ℓ) (c : Dev nD)

theorem idx : ∀ t : Fin cfg0.N, win0_0.index t = ![t.val, 0] ∧ win0_1.index t = ![0, 0]
    ∧ win0_2.index t = ![0, 0] ∧ win0_3.index t = ![0, 0, 0] ∧ win0_4.index t = ![0, 0, 0] ∧ win0_5.index t = ![t.val, 0] :=
  (by decide +kernel : ∀ t : Fin grid0.N, _)

/-- The chunk of point `t`. -/
abbrev num (t : Fin cfg0.N) : Fin 16 := ⟨t.val, lt_of_lt_of_eq t.isLt N_0⟩

theorem pre_at (t : Fin cfg0.N) (s : Fin 128) (l : Fin 4096) :
    iblk m c 0 t (ix2 s l) = m ((c : Thread nD τ).loc main_arg0) (ix2 (row (num t) s) l) := by
  blk_point [iblk, V, idx t, row]

theorem gain_at (t : Fin cfg0.N) (l : Fin 2048) : iblk m c 1 t (ix2 0 l) = m ((c : Thread nD τ).loc main_arg1) (ix2 0 l) := by
  blk_point [iblk, V, idx t]

theorem bias_at (t : Fin cfg0.N) (l : Fin 2048) : iblk m c 2 t (ix2 0 l) = m ((c : Thread nD τ).loc main_arg2) (ix2 0 l) := by
  blk_point [iblk, V, idx t]

theorem weight_at (t : Fin cfg0.N) (k : Fin 8) (r s : Fin 128) :
    iblk m c 3 t (ix3 k r s) = m ((c : Thread nD τ).loc main_arg3) (ix4 0 k r s) := by
  blk_simp [iblk, idx t]
  entry_read
  pointwise
  blk_ext [idx t]

theorem shift_at (t : Fin cfg0.N) (k : Fin 8) (r : Fin 128) :
    iblk m c 4 t (ix3 k r 0) = m ((c : Thread nD τ).loc main_arg4) (ix3 0 k r) := by
  blk_simp [iblk, idx t]
  entry_read
  pointwise
  blk_ext [idx t]

/-- The gated array of the kernel's arguments. -/
def result (i l : Fin 2048) : EReal :=
  out (fun i l => m ((c : Thread nD τ).loc main_arg0) (ix2 i l)) (fun l => m ((c : Thread nD τ).loc main_arg1) (ix2 0 l))
    (fun l => m ((c : Thread nD τ).loc main_arg2) (ix2 0 l)) (fun k t s => m ((c : Thread nD τ).loc main_arg3) (ix4 0 k t s))
    (fun k t => m ((c : Thread nD τ).loc main_arg4) (ix3 0 k t)) i l

/-- A stored piece of a chunk. -/
theorem piece (t : Fin cfg0.N) (k : Fin 8) (x : S128x256.Idx) (i : S2048x2048.Idx) (h0 : (i 0).val = t.val * 128 + (x 0).val)
    (h1 : (i 1).val = 256 * k.val + (x 1).val) :
    gatedS (iblk m c 0 t) (iblk m c 1 t) (iblk m c 2 t) (iblk m c 3 t) (iblk m c 4 t) k x = result m c (i 0) (i 1) := by
  idx_vars x
  have e0 : (i 0 : Fin 2048) = row (num t) x0 := Fin.ext h0
  have e1 : (i 1 : Fin 2048) = lane k x1 := Fin.ext (by rw [h1]; simp only [lane]; omega)
  rw [gatedS_at, e0, e1, result, out, blk_row, pos_row]
  simp only [pre_at, gain_at, bias_at, weight_at, shift_at]

set_option maxHeartbeats 4000000 in
theorem final5 : (dats m 0 c).arrAt 5 (cfgs 0).N = fun i => result m c (i 0) (i 1) := by
  refine (dats m 0 c).arrAt_eq_of_covers 5 _ (by decide +kernel) fun t hf y => ?_
  blk_simp
  rw [after0_5]
  unfold outsAt0
  frame_open
  simp (disch := decide) only [↓View.readCov_skip, ↓View.readCov_cons_toLoadRect]
  frame_out
  generalize eM : k0_pay25 (F := Ideal) _ _ _ = M
  obtain rfl : meanS (iblk m c 0 t) = M := eM
  canon_tiles x q
  case piece0 => exact piece m c t 7 x _ (by blk_simp [idx t]; omega) (by blk_simp [idx t]; omega)
  case piece1 => exact piece m c t 6 x _ (by blk_simp [idx t]; omega) (by blk_simp [idx t]; omega)
  case piece2 => exact piece m c t 5 x _ (by blk_simp [idx t]; omega) (by blk_simp [idx t]; omega)
  case piece3 => exact piece m c t 4 x _ (by blk_simp [idx t]; omega) (by blk_simp [idx t]; omega)
  case piece4 => exact piece m c t 3 x _ (by blk_simp [idx t]; omega) (by blk_simp [idx t]; omega)
  case piece5 => exact piece m c t 2 x _ (by blk_simp [idx t]; omega) (by blk_simp [idx t]; omega)
  case piece6 => exact piece m c t 1 x _ (by blk_simp [idx t]; omega) (by blk_simp [idx t]; omega)
  case piece7 => exact piece m c t 0 x _ (by blk_simp [idx t]; omega) (by blk_simp [idx t]; omega)

end Cert.GateFwdIdeal.Value
end
-- ==== Proof.GateFwdRefValue.lean ====
/- The chunked spatial gate of the forward pass: what the reference computes, stage by stage. -/
module

public import proofs.«01_k».proof.Proof.Gen.GateFwdRefIdeal.Run
public import proofs.«01_k».proof.Proof.Sums
public import proofs.«01_k».proof.Proof.GateFwdSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateFwdRefIdeal.Value
open Cert.GateFwdRefIdeal Cert.GateFwdRefIdeal.Gen Cert.Reals Cert.GateFwdSpec
open Cert.GateSpec (root lo hi lane grp blk pos row)

variable (p : FVec Ideal S2048x4096 .f32) (g b : FVec Ideal S1x2048 .f32) (w : FVec Ideal S1x8x128x128 .f32)
  (s : FVec Ideal S1x8x128 .f32)

/-- The GELU of every element. -/
def act : FVec Ideal S1x2048x4096 .f32 :=
  mulf (mulf (broadcastInDim S1x2048x4096 ![] bcast_S_S1x2048x4096 (constant S_ .f32 0x3F000000#32))
      (broadcastInDim S1x2048x4096 ![1, 2] bcast_S2048x4096_S1x2048x4096_1_2 p))
    (Host.erfc (mulf (Host.negf (broadcastInDim S1x2048x4096 ![1, 2] bcast_S2048x4096_S1x2048x4096_1_2 p))
      (broadcastInDim S1x2048x4096 ![] bcast_S_S1x2048x4096 (id (Host.sqrt (constant S_ .f32 0x3F000000#32))))))

/-- The gating half. -/
def high : FVec Ideal S1x2048x2048 .f32 :=
  extractStridedSlice S1x2048x2048 ![0, 0, 2048] (act p) slices_S1x2048x4096_S1x2048x2048_0_0_2048

/-- The mean of each row of an array. -/
def rowMean (x : FVec Ideal S1x2048x2048 .f32) : FVec Ideal S1x2048x1 .f32 :=
  Host.divf (broadcastInDim S1x2048x1 ![0, 1] bcast_S1x2048_S1x2048x1_0_1
      (Host.reduceAdd x (constant S_ .f32 0x00000000#32) reducesTo_S1x2048x2048_S1x2048_d2 h_S_))
    (broadcastInDim S1x2048x1 ![] bcast_S_S1x2048x1 (constant S_ .f32 0x45000000#32))

/-- The gating half less its rows' means. -/
def centred : FVec Ideal S1x2048x2048 .f32 :=
  subf (high p) (broadcastInDim S1x2048x2048 ![0, 1, 2] bcast_S1x2048x1_S1x2048x2048_0_1_2 (rowMean (high p)))

/-- One over the root of each row's variance. -/
def rowScale : FVec Ideal S1x2048x1 .f32 :=
  Host.rsqrt (addf (rowMean (mulf (centred p) (centred p)))
    (broadcastInDim S1x2048x1 ![] bcast_S_S1x2048x1 (constant S_ .f32 0x358637BD#32)))

/-- The layer norm. -/
def normed : FVec Ideal S1x2048x2048 .f32 :=
  addf (mulf (mulf (centred p) (broadcastInDim S1x2048x2048 ![0, 1, 2] bcast_S1x2048x1_S1x2048x2048_0_1_2 (rowScale p)))
      (broadcastInDim S1x2048x2048 ![0, 1, 2] bcast_S1x1x2048_S1x2048x2048_0_1_2
        (broadcastInDim S1x1x2048 ![2] bcast_S2048_S1x1x2048_2 (shapeCast _ g shapeCasts_S1x2048_S2048))))
    (broadcastInDim S1x2048x2048 ![0, 1, 2] bcast_S1x1x2048_S1x2048x2048_0_1_2
      (broadcastInDim S1x1x2048 ![2] bcast_S2048_S1x1x2048_2 (shapeCast _ b shapeCasts_S1x2048_S2048)))

/-- The spatial weights, those of later tokens zero. -/
def masked : FVec Ideal S8x128x128 .f32 :=
  mulf (shapeCast _ w shapeCasts_S1x8x128x128_S8x128x128)
    (broadcastInDim S8x128x128 ![0, 1, 2] bcast_S1x128x128_S8x128x128_0_1_2
      (broadcastInDim S1x128x128 ![1, 2] bcast_S128x128_S1x128x128_1_2
        (select (cmpi .sge (addi (iotaInDim S128x128 32 0) (broadcastInDim S128x128 ![] bcast_S_S128x128 (constantI S_ 32 0#32)))
            (iotaInDim S128x128 32 1))
          (broadcastInDim S128x128 ![] bcast_S_S128x128 (constant S_ .f32 0x3F800000#32))
          (broadcastInDim S128x128 ![] bcast_S_S128x128 (constant S_ .f32 0x00000000#32)))))

/-- The spatial product and its shift. -/
def gate : FVec Ideal S1x2048x2048 .f32 :=
  shapeCast _ (addf (transpose S1x16x128x8x256 [1, 2, 4, 0, 3]
      (Host.dotGeneral (φ₁ := .f32) (φ₂ := .f32) dot_S1x16x128x8x256_S8x128x128_S8x1x16x256x128_2_2_014_1_3_0 none
        (shapeCast _ (normed p g b) shapeCasts_S1x2048x2048_S1x16x128x8x256) (masked w))
      transposes_S8x1x16x256x128_S1x16x128x8x256_1_2_4_0_3)
    (broadcastInDim S1x16x128x8x256 ![0, 1, 2, 3, 4] bcast_S1x1x128x8x1_S1x16x128x8x256_0_1_2_3_4
      (broadcastInDim S1x1x128x8x1 ![2, 3] bcast_S128x8_S1x1x128x8x1_2_3
        (transpose S128x8 [1, 0] (shapeCast _ s shapeCasts_S1x8x128_S8x128) transposes_S8x128_S128x8_1_0))))
    shapeCasts_S1x16x128x8x256_S1x2048x2048

/-- The result. -/
def res : FVec Ideal S2048x2048 .bf16 :=
  truncf .bf16 (shapeCast _ (mulf (extractStridedSlice S1x2048x2048 ![0, 0, 0] (act p) slices_S1x2048x4096_S1x2048x2048_0_0_0)
    (gate p g b w s)) shapeCasts_S1x2048x2048_S2048x2048) bitsLt_bf16_f32

theorem run_out (m : (ℓ : Loc nD τ sig) → Buf (Elt Ideal) ℓ) (c : Dev nD) :
    res_main_v53 m c = res (m ((c : Thread nD τ).loc main_arg0)) (m ((c : Thread nD τ).loc main_arg1))
      (m ((c : Thread nD τ).loc main_arg2)) (m ((c : Thread nD τ).loc main_arg3)) (m ((c : Thread nD τ).loc main_arg4)) := by
  unfold res_main_v53
  rfl

theorem root_at : Ideal.sqrt (Ideal.ofBits .f32 0x3F000000#32) = (root : EReal) := by
  rw [lit_half, Ideal.sqrt_coe, if_neg (by norm_num)]
  rfl

theorem act_at (i : Fin 2048) (l : Fin 4096) : act p (ix3 0 i l) = gelu (p (ix2 i l)) := by
  pointwise [act]
  rw [lit_half, ← gelu_erfc]
  exact congrArg (fun r => _ * Ideal.erfc (_ * r)) (root_at)

theorem high_at (i l : Fin 2048) : high p (ix3 0 i l) = val (fun l => p (ix2 i l)) l := by
  pointwise [high]
  exact act_at p i (hi l)

theorem centred_at (i l : Fin 2048) : centred p (ix3 0 i l) = dev (fun l => p (ix2 i l)) l := by
  pointwise [centred, rowMean]
  simp only [high_at, lit_2048, Ideal.div_coe (show (2048 : ℝ) ≠ 0 by norm_num)]
  rfl

theorem rowScale_at (i : Fin 2048) : rowScale p (ix3 0 i 0) = scale (fun l => p (ix2 i l)) := by
  pointwise [rowScale, rowMean]
  simp only [centred_at, lit_2048, lit_eps, Ideal.div_coe (show (2048 : ℝ) ≠ 0 by norm_num)]
  rfl

theorem normed_at (i l : Fin 2048) : normed p g b (ix3 0 i l)
    = norm (fun l => p (ix2 i l)) (fun l => g (ix2 0 l)) (fun l => b (ix2 0 l)) l := by
  pointwise [normed]
  simp only [centred_at, rowScale_at]
  rfl

theorem masked_at (k : Fin 8) (t u : Fin 128) : masked w (ix3 k t u) = mask (fun k t u => w (ix4 0 k t u)) k t u := by
  pointwise [masked]
  rw [show IntOp.addi (BitVec.ofNat 32 t.val) 0#32 = BitVec.ofNat 32 t.val from BitVec.add_zero _, Cert.GateSpec.select_mask]
  rfl

theorem res_at (i l : Fin 2048) : res p g b w s (ix2 i l)
    = out (fun i l => p (ix2 i l)) (fun l => g (ix2 0 l)) (fun l => b (ix2 0 l)) (fun k t u => w (ix4 0 k t u))
        (fun k t => s (ix3 0 k t)) i l := by
  pointwise [res, gate]
  simp only [normed_at, masked_at, act_at]
  simp only [mul_comm (GateFwdSpec.norm _ _ _ _), out, gated, Cert.GateSpec.row_blk_pos]
  rfl

end Cert.GateFwdRefIdeal.Value
end
-- ==== Proof.GateFwdClaim.lean ====
/- The chunked spatial gate of the forward pass: what the call leaves in its result array is what the reference computes. -/
module

public import proofs.«01_k».proof.Defs
public import proofs.«01_k».proof.Proof.GateFwdKernel
public import proofs.«01_k».proof.Proof.GateFwdRefValue

@[expose] public section

set_option maxRecDepth 16384

noncomputable section

open Idealize.ShloMosaic Idealize.ShloMosaic.TcCoe Idealize.SL.Sem
open Idealize.ShloMosaic.Pipeline (Dat)

/-- From arguments that agree the two programs end with the same gated array, whatever the arguments are. -/
theorem Cert.Proof.gateFwd : Cert.algebraic_GateFwdIdeal_GateFwdRefIdeal := by
  pair_intro
  · run_from Cert.GateFwdIdeal.Gen.run_main m g
  · run_from Cert.GateFwdRefIdeal.Value.run m' g'
    · obtain ⟨h0, h1, h2, h3, h4⟩ := hagree c
      rw [Cert.GateFwdIdeal.Value.final5, Cert.GateFwdRefIdeal.Value.run_out]
      funext i
      idx_vars i
      rw [Cert.GateFwdRefIdeal.Value.res_at, h0, h1, h2, h3, h4]
      rfl

end
-- ==== Proof.NormFwdClaim.lean ====
/- The norm of the forward pass: what the call leaves in its result array is what the reference computes. -/
module

public import proofs.«01_k».proof.Defs
public import proofs.«01_k».proof.Proof.Gen.NormFwdIdeal.Frame
public import proofs.«01_k».proof.Proof.Gen.NormFwdRefIdeal.Run
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwdRefIdeal.Value

open Cert.NormFwdRefIdeal Cert.NormFwdRefIdeal.Gen

/-- The reference's norm: a row over the root of its mean square, times the gain. -/
def out (H : FVec Ideal S2048x2048 .f32) (G : FVec Ideal S2048 .f32) : FVec Ideal S2048x2048 .bf16 :=
  truncf .bf16 (mulf (mulf H (broadcastInDim S2048x2048 ![0, 1] bcast_S2048x1_S2048x2048_0_1
      (Host.rsqrt (addf (Host.divf (broadcastInDim S2048x1 ![0] bcast_S2048_S2048x1_0
          (Host.reduceAdd (mulf H H) (constant S_ .f32 0x00000000#32) reducesTo_S2048x2048_S2048_d1 h_S_))
        (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1
      (broadcastInDim S1x2048 ![1] bcast_S2048_S1x2048_1 G))) bitsLt_bf16_f32

end Cert.NormFwdRefIdeal.Value

namespace Cert.NormFwdIdeal.Value

open Cert.NormFwdIdeal Cert.NormFwdIdeal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] :=
  (by decide +kernel : ∀ t : Fin grid0.N, _)

/-- The gain as the call reads it. -/
theorem gain (c : Dev nD) (j : Fin 2048) :
    V m c main_v0 (ix2 0 j) = m ((c : Thread nD τ).loc main_arg1) (ix1 j) := by
  entry_read
  pointwise

/-- The normed rows, block by block. -/
theorem final2 (c : Dev nD) : (dats m 0 c).arrAt 2 (cfgs 0).N
    = Cert.NormFwdRefIdeal.Value.out (m ((c : Thread nD τ).loc main_arg0)) (m ((c : Thread nD τ).loc main_arg1)) := by
  refine (dats m 0 c).arrAt_eq_of_covers 2 _ (by decide +kernel) fun t hf y => ?_
  blk_simp
  rw [after0_2]
  idx_vars y
  simp only [out0_2]
  frame_out
  have ht := lt_of_lt_of_eq t.isLt N_0
  have he : (win0_2.blk t).view.emb (ix2 y0 y1) = ix2 ⟨t.val * 512 + y0.val, by omega⟩ y1 := by
    blk_ext [idx t]
  refine Eq.trans ?_ (congrArg _ he).symm
  pointwise [k0_pay1, Cert.NormFwdRefIdeal.Value.out]
  have h0 (j : Fin 2048) : iblk m c 0 t (ix2 y0 j)
      = m ((c : Thread nD τ).loc main_arg0) (ix2 ⟨t.val * 512 + y0.val, by omega⟩ j) := by
    blk_point [iblk, V, idx t]
  have h1 : iblk m c 1 t (ix2 0 y1) = m ((c : Thread nD τ).loc main_arg1) (ix1 y1) := by
    rw [← gain m c]
    blk_point [iblk, idx t]
  simp only [h0, h1]

end Cert.NormFwdIdeal.Value

/-- From arguments that agree the two programs end with the same normed rows. -/
theorem Cert.Proof.normFwd : Cert.algebraic_NormFwdIdeal_NormFwdRefIdeal := by
  pair_intro
  · run_from Cert.NormFwdIdeal.Gen.run_main m g
  · run_from Cert.NormFwdRefIdeal.Value.run m' g'
    · exact (Cert.NormFwdIdeal.Value.final2 m c).symm

end
-- ==== Proof.PoolFwdKernel.lean ====
/- The pooling of the forward pass: the sum of the window of rows that ends at a row, over the rows in it, less the row;
   and the array that the call leaves. -/
module

public import proofs.«01_k».proof.Proof.Gen.PoolFwdIdeal.Frame
public import proofs.«01_k».proof.Proof.PoolSpec
public import proofs.«01_k».proof.Proof.Reals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolFwd.Spec

open Finset Cert.Pool.Spec

/-- Row `n` of a column, zero past its end. -/
def elem (p : Fin 2048 → ℝ) (n : ℕ) : ℝ := if h : n < 2048 then p ⟨n, h⟩ else 0

/-- The row `i` rows above row `n`, zero before the first. -/
def past (p : Fin 2048 → ℝ) (n i : ℕ) : ℝ := if i ≤ n then elem p (n - i) else 0

/-- The sum of the window of `w` rows that ends at row `n`. -/
def trail (p : Fin 2048 → ℝ) (w n : ℕ) : ℝ := ∑ i ∈ range w, past p n i

/-- The mean of the window that ends at row `r`, less the row. -/
def pooled (p : Fin 2048 → ℝ) (w : ℕ) (r : Fin 2048) : ℝ := trail p w r / ((min (r.val + 1) w : ℕ) : ℝ) - p r

/-- Doubling a window. -/
theorem trail_double (p : Fin 2048 → ℝ) (s n : ℕ) :
    trail p s n + (if s ≤ n then trail p s (n - s) else 0) = trail p (s + s) n := by
  unfold trail
  rw [sum_range_add]
  refine congrArg (∑ i ∈ range s, past p n i + ·) ?_
  split_ifs with h
  · refine sum_congr rfl fun i _ => ?_
    unfold past
    by_cases h' : i ≤ n - s
    · rw [if_pos h', if_pos (by omega)]; exact congrArg _ (by omega)
    · rw [if_neg h', if_neg (by omega)]
  · exact (sum_eq_zero fun i _ => if_neg (by omega)).symm

/-- The sum of the rows up to row `n`. -/
def upTo (p : Fin 2048 → ℝ) (n : ℕ) : ℝ := ∑ i ∈ range (n + 1), elem p i

theorem upTo_past (p : Fin 2048 → ℝ) (n k : ℕ) (h : n < k) : ∑ i ∈ range k, past p n i = upTo p n := by
  obtain ⟨d, rfl⟩ := Nat.exists_eq_add_of_lt h
  rw [show n + d + 1 = (n + 1) + d by omega, sum_range_add,
    sum_eq_zero (f := fun i => past p n (n + 1 + i)) fun i _ => if_neg (by omega), add_zero]
  unfold upTo
  rw [← sum_range_reflect]
  refine sum_congr rfl fun i hi => ?_
  have := mem_range.1 hi
  unfold past
  rw [if_pos (by omega)]
  exact congrArg _ (by omega)

/-- A window is the difference of two sums from the first row on. -/
theorem trail_eq (p : Fin 2048 → ℝ) (w n : ℕ) : upTo p n - (if w ≤ n then upTo p (n - w) else 0) = trail p w n := by
  unfold trail
  split_ifs with h
  · have h1 : ∑ i ∈ range (w + (n - w + 1)), past p n i = upTo p n := upTo_past p n _ (by omega)
    have h2 : ∑ i ∈ range (n - w + 1), past p n (w + i) = upTo p (n - w) := by
      rw [← upTo_past p (n - w) (n - w + 1) (by omega)]
      refine sum_congr rfl fun i hi => ?_
      have := mem_range.1 hi
      unfold past
      rw [if_pos (by omega), if_pos (by omega)]
      exact congrArg _ (by omega)
    rw [sum_range_add, h2] at h1
    linarith
  · rw [sub_zero]; exact (upTo_past p n w (by omega)).symm

end Cert.PoolFwd.Spec

namespace Cert.PoolFwdIdeal.Value

open Cert.PoolFwdIdeal Cert.PoolFwdIdeal.Gen Cert.Pool.Spec Cert.PoolFwd.Spec Finset

/-- One over the number of rows that the window of `w` rows ending at each row holds. -/
def inv (w : BitVec 32) : FVec Ideal S2048x128 .f32 :=
  divf (broadcast S2048x128 (Scalar.ofBits .f32 0x3F800000#32))
    (sitofp .f32 (minsi (addi (iota .tc S2048x128 32 [0] iota_S2048x128_d0_w32) (broadcast S2048x128 1#32))
      (broadcast S2048x128 w)))

/-- One doubling of the window: each row and the row `k` above it, if there is one. -/
def step (k : BitVec 32) (y : FVec Ideal S2048x128 .f32) : FVec Ideal S2048x128 .f32 :=
  addf y (select (cmpi .sge (iota .tc S2048x128 32 [0] iota_S2048x128_d0_w32) (broadcast S2048x128 k))
    (dynamicRotate 0 k none y rotates_S2048x128_d0) (broadcast S2048x128 (Scalar.ofBits .f32 0x00000000#32)))

/-- A column of window sums over the windows' counts, less the column. -/
def less (w : BitVec 32) (y x : FVec Ideal S2048x128 .f32) : FVec Ideal S2048x128 .bf16 :=
  truncf .bf16 (subf (mulf y (inv w)) x) bitsLt_bf16_f32

theorem base_at (x : FVec Ideal S2048x128 .f32) (p : Fin 2048 → ℝ) (l : Fin 128)
    (h : ∀ r : Fin 2048, x (ix2 r l) = (p r : EReal)) (r : Fin 2048) : x (ix2 r l) = (trail p 1 r : EReal) := by
  rw [h]
  simp [trail, past, elem]

theorem less_at (w : ℕ) (h0 : 0 < w) (hw : w < 2048) (y x : FVec Ideal S2048x128 .f32) (p : Fin 2048 → ℝ) (l : Fin 128)
    (h : ∀ r : Fin 2048, x (ix2 r l) = (p r : EReal)) (hy : ∀ r : Fin 2048, y (ix2 r l) = (trail p w r : EReal))
    (r : Fin 2048) : less (BitVec.ofNat 32 w) y x (ix2 r l) = (pooled p w r : EReal) := by
  pointwise [less, inv]
  rw [show IntOp.addi (BitVec.ofNat 32 r.val) 1#32 = BitVec.ofNat 32 (r.val + 1) from (BitVec.ofNat_add _ _).symm]
  show y (ix2 r l) * Ideal.div 1 (((IntOp.minsi (BitVec.ofNat 32 (r.val + 1)) (BitVec.ofNat 32 w)).toInt : ℝ) : EReal) - x (ix2 r l) = _
  rw [count r w r.isLt hw, h r, hy r, Int.cast_natCast, ← EReal.coe_one,
    Cert.Reals.div_coe (Nat.cast_ne_zero.2 (by omega)), ← EReal.coe_mul, ← EReal.coe_sub, mul_one_div]
  rfl

/-- A column of windows of `s` rows, doubled. -/
theorem step_at {y : FVec Ideal S2048x128 .f32} {p : Fin 2048 → ℝ} {l : Fin 128} (s : ℕ) (h0 : 0 < s) (hs : s < 2048)
    (h : ∀ r : Fin 2048, y (ix2 r l) = (trail p s r : EReal)) (r : Fin 2048) :
    step (BitVec.ofNat 32 s) y (ix2 r l) = (trail p (s + s) r : EReal) := by
  pointwise [step]
  rw [WordCmp.cmpi_sge_ofNat (by have := r.isLt; omega) (by omega), ← trail_double, EReal.coe_add, h r]
  congr 1
  unfold Scalar.select
  by_cases hr : s ≤ r.val
  · rw [if_pos (by simp [hr]), if_pos hr, h]
    refine congrArg _ (congrArg _ ?_)
    have := r.isLt
    simp only [WordCmp.toNat_ofNat_of_lt (show s < 2 ^ 32 by omega)]
    omega
  · rw [if_neg (by simp [hr]), if_neg hr, EReal.coe_zero]

/-- A strip of the group whose windows hold 2 rows. -/
def strip2 (x : FVec Ideal S2048x128 .f32) : FVec Ideal S2048x128 .bf16 := less (BitVec.ofNat 32 2) (step 1#32 x) x

/-- A strip of the group whose windows hold 4 rows. -/
def strip4 (x : FVec Ideal S2048x128 .f32) : FVec Ideal S2048x128 .bf16 := less (BitVec.ofNat 32 4) (step 2#32 (step 1#32 x)) x

/-- A strip of the group whose windows hold 8 rows. -/
def strip8 (x : FVec Ideal S2048x128 .f32) : FVec Ideal S2048x128 .bf16 := less (BitVec.ofNat 32 8) (step 4#32 (step 2#32 (step 1#32 x))) x

/-- A strip of the group whose windows hold 16 rows. -/
def strip16 (x : FVec Ideal S2048x128 .f32) : FVec Ideal S2048x128 .bf16 := less (BitVec.ofNat 32 16) (step 8#32 (step 4#32 (step 2#32 (step 1#32 x)))) x

theorem strip2_at (x : FVec Ideal S2048x128 .f32) (p : Fin 2048 → ℝ) (l : Fin 128)
    (h : ∀ r : Fin 2048, x (ix2 r l) = (p r : EReal)) (r : Fin 2048) :
    strip2 x (ix2 r l) = (pooled p 2 r : EReal) :=
  less_at 2 (by norm_num) (by norm_num) _ x p l h
    (step_at 1 (by norm_num) (by norm_num) (base_at x p l h)) r

theorem strip4_at (x : FVec Ideal S2048x128 .f32) (p : Fin 2048 → ℝ) (l : Fin 128)
    (h : ∀ r : Fin 2048, x (ix2 r l) = (p r : EReal)) (r : Fin 2048) :
    strip4 x (ix2 r l) = (pooled p 4 r : EReal) :=
  less_at 4 (by norm_num) (by norm_num) _ x p l h
    (step_at 2 (by norm_num) (by norm_num) (step_at 1 (by norm_num) (by norm_num) (base_at x p l h))) r

theorem strip8_at (x : FVec Ideal S2048x128 .f32) (p : Fin 2048 → ℝ) (l : Fin 128)
    (h : ∀ r : Fin 2048, x (ix2 r l) = (p r : EReal)) (r : Fin 2048) :
    strip8 x (ix2 r l) = (pooled p 8 r : EReal) :=
  less_at 8 (by norm_num) (by norm_num) _ x p l h
    (step_at 4 (by norm_num) (by norm_num) (step_at 2 (by norm_num) (by norm_num) (step_at 1 (by norm_num) (by norm_num) (base_at x p l h)))) r

theorem strip16_at (x : FVec Ideal S2048x128 .f32) (p : Fin 2048 → ℝ) (l : Fin 128)
    (h : ∀ r : Fin 2048, x (ix2 r l) = (p r : EReal)) (r : Fin 2048) :
    strip16 x (ix2 r l) = (pooled p 16 r : EReal) :=
  less_at 16 (by norm_num) (by norm_num) _ x p l h
    (step_at 8 (by norm_num) (by norm_num) (step_at 4 (by norm_num) (by norm_num) (step_at 2 (by norm_num) (by norm_num) (step_at 1 (by norm_num) (by norm_num) (base_at x p l h))))) r

variable (m : (ℓ : Loc nD τ sig) → Buf (Elt Ideal) ℓ)

/-- The pooled tokens at real arguments `p`: each lane at the window of its group. -/
def result (p : Fin 2048 → Fin 2048 → ℝ) (i : S2048x2048.Idx) : EReal :=
  (pooled (fun r => p r (i 1)) (2 ^ ((i 1).val / 512 + 1)) (i 0) : EReal)

theorem idx : ∀ t : Fin cfg0.N, win0_0.index t = ![0, t.val] ∧ win0_1.index t = ![0, t.val] :=
  (by decide +kernel : ∀ t : Fin grid0.N, _)

variable (p : Fin 2048 → Fin 2048 → ℝ)
variable (c : Dev nD) (hp : ∀ i j : Fin 2048, m ((c : Thread nD τ).loc main_arg0) (ix2 i j) = (p i j : EReal))

include hp in
/-- One strip of a group, whatever its offset `o`. -/
theorem piece (t : Fin cfg0.N) (w : ℕ) (hw : w = 2 ^ (t.val + 1)) (S : FVec Ideal S2048x128 .f32 → FVec Ideal S2048x128 .bf16)
    (hS : ∀ (x : FVec Ideal S2048x128 .f32) (p : Fin 2048 → ℝ) (l : Fin 128),
      (∀ r : Fin 2048, x (ix2 r l) = (p r : EReal)) → ∀ r : Fin 2048, S x (ix2 r l) = (pooled p w r : EReal))
    (o : ℕ) (ho : ∀ a : Fin 2, ![0, o] a + ![2048, 128] a ≤ S2048x512.size a) (j : S2048x512.Idx) (x : S2048x128.Idx)
    (h0 : (j 0).val = (x 0).val) (h1 : (j 1).val = o + (x 1).val) :
    S (View.ld (Val := Elt Ideal) (iblk m c 0 t) (Rect.unit (s := S2048x512) ![0, o] ![2048, 128] ho)) x
      = result p ((win0_1.blk t).view.emb j) := by
  have ht := lt_of_lt_of_eq t.isLt N_0
  have hj : (j 1).val < 512 := (j 1).isLt
  have he : (win0_1.blk t).view.emb j = ix2 ⟨(x 0).val, (x 0).isLt⟩ ⟨t.val * 512 + o + (x 1).val, by omega⟩ := by
    blk_ext [idx t, h0, h1]
  have hd : (t.val * 512 + o + (x 1).val) / 512 = t.val := by omega
  refine Eq.trans ?_ (congrArg (result p) he).symm
  idx_vars x
  refine (hS _ (fun r => p r ⟨t.val * 512 + o + x1.val, by omega⟩) x1 (fun r => ?_) x0).trans ?_
  · rw [← hp]
    blk_point [iblk, V, idx t]
  · rw [hw, show 2 ^ (t.val + 1) = 2 ^ ((t.val * 512 + o + x1.val) / 512 + 1) by rw [hd]]
    rfl

include hp in
/-- The block of the group whose windows hold 2 rows. -/
theorem blockA (t : Fin cfg0.N) (h : t.val = 0) (j : S2048x512.Idx) :
    outsAt0 m c t.val t.isLt j = result p ((win0_1.blk t).view.emb j) := by
  rw [outsAt0_A m c t (by omega) (by omega) (by omega) (by omega)]
  frame_out
  canon_tiles j q
  case piece0 => exact piece m p c hp t 2 (by rw [h]; norm_num) strip2 strip2_at 384 _ _ _ (by omega) (by omega)
  case piece1 => exact piece m p c hp t 2 (by rw [h]; norm_num) strip2 strip2_at 256 _ _ _ (by omega) (by omega)
  case piece2 => exact piece m p c hp t 2 (by rw [h]; norm_num) strip2 strip2_at 128 _ _ _ (by omega) (by omega)
  case piece3 => exact piece m p c hp t 2 (by rw [h]; norm_num) strip2 strip2_at 0 _ _ _ (by omega) (by omega)

include hp in
/-- The block of the group whose windows hold 4 rows. -/
theorem blockB (t : Fin cfg0.N) (h : t.val = 1) (j : S2048x512.Idx) :
    outsAt0 m c t.val t.isLt j = result p ((win0_1.blk t).view.emb j) := by
  rw [outsAt0_B m c t (by omega) (by omega) (by omega) (by omega)]
  frame_out
  canon_tiles j q
  case piece0 => exact piece m p c hp t 4 (by rw [h]; norm_num) strip4 strip4_at 384 _ _ _ (by omega) (by omega)
  case piece1 => exact piece m p c hp t 4 (by rw [h]; norm_num) strip4 strip4_at 256 _ _ _ (by omega) (by omega)
  case piece2 => exact piece m p c hp t 4 (by rw [h]; norm_num) strip4 strip4_at 128 _ _ _ (by omega) (by omega)
  case piece3 => exact piece m p c hp t 4 (by rw [h]; norm_num) strip4 strip4_at 0 _ _ _ (by omega) (by omega)

include hp in
/-- The block of the group whose windows hold 8 rows. -/
theorem blockC (t : Fin cfg0.N) (h : t.val = 2) (j : S2048x512.Idx) :
    outsAt0 m c t.val t.isLt j = result p ((win0_1.blk t).view.emb j) := by
  rw [outsAt0_C m c t (by omega) (by omega) (by omega) (by omega)]
  frame_out
  canon_tiles j q
  case piece0 => exact piece m p c hp t 8 (by rw [h]; norm_num) strip8 strip8_at 384 _ _ _ (by omega) (by omega)
  case piece1 => exact piece m p c hp t 8 (by rw [h]; norm_num) strip8 strip8_at 256 _ _ _ (by omega) (by omega)
  case piece2 => exact piece m p c hp t 8 (by rw [h]; norm_num) strip8 strip8_at 128 _ _ _ (by omega) (by omega)
  case piece3 => exact piece m p c hp t 8 (by rw [h]; norm_num) strip8 strip8_at 0 _ _ _ (by omega) (by omega)

include hp in
/-- The block of the group whose windows hold 16 rows. -/
theorem blockD (t : Fin cfg0.N) (h : t.val = 3) (j : S2048x512.Idx) :
    outsAt0 m c t.val t.isLt j = result p ((win0_1.blk t).view.emb j) := by
  rw [outsAt0_D m c t (by omega) (by omega) (by omega) (by omega)]
  frame_out
  canon_tiles j q
  case piece0 => exact piece m p c hp t 16 (by rw [h]; norm_num) strip16 strip16_at 384 _ _ _ (by omega) (by omega)
  case piece1 => exact piece m p c hp t 16 (by rw [h]; norm_num) strip16 strip16_at 256 _ _ _ (by omega) (by omega)
  case piece2 => exact piece m p c hp t 16 (by rw [h]; norm_num) strip16 strip16_at 128 _ _ _ (by omega) (by omega)
  case piece3 => exact piece m p c hp t 16 (by rw [h]; norm_num) strip16 strip16_at 0 _ _ _ (by omega) (by omega)

include hp in
/-- The array that the call leaves. -/
theorem final1 : (dats m 0 c).arrAt 1 (cfgs 0).N = result p := by
  refine (dats m 0 c).arrAt_eq_of_covers 1 _ (by decide +kernel) fun t hf y => ?_
  blk_simp
  rw [after0_1]
  have ht := lt_of_lt_of_eq t.isLt N_0
  obtain h | h | h | h : t.val = 0 ∨ t.val = 1 ∨ t.val = 2 ∨ t.val = 3 := by omega
  · exact blockA m p c hp t h y
  · exact blockB m p c hp t h y
  · exact blockC m p c hp t h y
  · exact blockD m p c hp t h y

end Cert.PoolFwdIdeal.Value

end
-- ==== Proof.PoolFwdRefValue.lean ====
/- What the reference of the forward pooling computes: the difference of two running sums is the sum of a window. -/
module

public import proofs.«01_k».proof.Proof.PoolFwdKernel
public import proofs.«01_k».proof.Proof.PoolRefValue
public import proofs.«01_k».proof.Proof.Gen.PoolFwdRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolFwdRefIdeal.Value

open Cert.PoolFwdRefIdeal Cert.PoolFwdRefIdeal.Gen Cert.Reals Cert.Pool.Spec Cert.PoolFwd.Spec
open Cert.PoolRefIdeal.Value (windowSum col)

/-- The sum of the rows up to row `n`, as a window of 2048 rows that ends there has it. -/
theorem padded (p : Fin 2048 → ℝ) (n : ℕ) (hn : n < 2048) :
    ∑ k ∈ Finset.range 2048, (if 2047 ≤ n + k then elem p (n + k - 2047) else 0) = upTo p n := by
  rw [show 2048 = (2047 - n) + (n + 1) by omega, Finset.sum_range_add,
    Finset.sum_eq_zero fun k hk => if_neg (by have := Finset.mem_range.1 hk; omega), zero_add]
  refine Finset.sum_congr rfl fun k _ => ?_
  rw [if_pos (by omega)]
  exact congrArg _ (by omega)

/-- The sums of the rows up to each row. -/
def running (x : FVec Ideal S1x2048x512 .f32) : FVec Ideal S1x2048x512 .f32 :=
  Host.reduceWindowAdd ![1, 2048, 1] ![1, 1, 1] ![0, 2047, 0] ![0, 0, 0] x
    (broadcastInDim S_ ![] bcast_S_S_ (constant S_ .f32 0x00000000#32))
    reduceWindows_S1x2048x512_S1x2048x512_w1s1p0_0_w2048s1p2047_0_w1s1p0_0 h_S_

theorem running_at (x : FVec Ideal S1x2048x512 .f32) (p : Fin 2048 → ℝ) (l : Fin 512)
    (h : ∀ r : Fin 2048, x (ix3 0 r l) = (p r : EReal)) (r : Fin 2048) :
    running x (ix3 0 r l) = (upTo p r : EReal) := by
  have hv : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  have hw := windowSum (s := S1x2048x512) _ _ _ _ reduceWindows_S1x2048x512_S1x2048x512_w1s1p0_0_w2048s1p2047_0_w1s1p0_0 x (ix3 0 r l)
  rw [← hv] at hw
  unfold running Host.reduceWindowAdd
  refine Eq.trans hw ?_
  rw [hv]
  refine (sum_idx3 (n0 := 1) (n1 := 2048) (n2 := 1) _).trans ?_
  rw [Fin.sum_univ_one]
  have hs : upTo p r = ∑ k : Fin 2048, (if 2047 ≤ r.val + k.val then elem p (r.val + k.val - 2047) else 0) := by
    rw [Fin.sum_univ_eq_sum_range (fun k => if 2047 ≤ r.val + k then elem p (r.val + k - 2047) else 0) 2048]
    exact (padded p r.val r.isLt).symm
  rw [hs, coe_sum]
  refine Finset.sum_congr rfl fun k _ => ?_
  rw [Fin.sum_univ_one]
  by_cases hk : 2047 ≤ r.val + k.val
  · have hb : r.val + k.val - 2047 < 2048 := by omega
    rw [if_pos hk, elem, dif_pos hb]
    refine (dif_pos fun a => ?_).trans (Eq.trans (congrArg x ?_) (h ⟨r.val + k.val - 2047, hb⟩))
    · match a with
      | ⟨0, _⟩ => exact ⟨Nat.zero_le _, by show 0 * 1 + 0 - 0 < 1; omega⟩
      | ⟨1, _⟩ => exact ⟨by show 2047 ≤ r.val * 1 + k.val; omega, by show r.val * 1 + k.val - 2047 < 2048; omega⟩
      | ⟨2, _⟩ => exact ⟨Nat.zero_le _, by show l.val * 1 + 0 - 0 < 512; omega⟩
    · funext a
      match a with
      | ⟨0, _⟩ => rfl
      | ⟨1, _⟩ => exact Fin.ext (by show r.val * 1 + k.val - 2047 = r.val + k.val - 2047; omega)
      | ⟨2, _⟩ => exact Fin.ext (by show l.val * 1 + 0 - 0 = l.val; omega)
  · rw [if_neg hk]
    refine dif_neg fun hin => hk ?_
    have h1 := (hin ⟨1, by decide⟩).1
    have h2 : 2047 ≤ r.val * 1 + k.val := h1
    omega

/-- The mean of a group's windows of `w` rows, less the group. -/
def branch (w n : ℕ) (hz : S_.BroadcastsInDim ⟨3, ![1, w, 512]⟩ ![])
    (hs : S1x2048x512.Slices ![0, 0, 0] ⟨3, ![1, n, 512]⟩)
    (hc : Shape.Concatenates [⟨3, ![1, w, 512]⟩, ⟨3, ![1, n, 512]⟩] S1x2048x512 1)
    (x : FVec Ideal S1x2048x512 .f32) : FVec Ideal S1x2048x512 .f32 :=
  subf (Host.divf (subf (running x) (concatenate S1x2048x512 1
      [⟨⟨3, ![1, w, 512]⟩, broadcastInDim ⟨3, ![1, w, 512]⟩ ![] hz (constant S_ .f32 0x00000000#32)⟩,
       ⟨⟨3, ![1, n, 512]⟩, extractStridedSlice ⟨3, ![1, n, 512]⟩ ![0, 0, 0] (running x) hs⟩] hc))
    (broadcastInDim S1x2048x512 ![0, 1, 2] bcast_S1x2048x1_S1x2048x512_0_1_2
      (broadcastInDim S1x2048x1 ![1] bcast_S2048_S1x2048x1_1 (sitofp .f32 (minsi
        (addi (broadcastInDim S2048 ![] bcast_S_S2048 (constantI S_ 32 1#32)) (iotaInDim S2048 32 0))
        (broadcastInDim S2048 ![] bcast_S_S2048 (constantI S_ 32 (BitVec.ofNat 32 w)))))))) x

theorem branch_at (w n : ℕ) (h0 : 0 < w) (hn : w + n = 2048) (hm : w < 2048) (hz : S_.BroadcastsInDim ⟨3, ![1, w, 512]⟩ ![])
    (hs : S1x2048x512.Slices ![0, 0, 0] ⟨3, ![1, n, 512]⟩)
    (hc : Shape.Concatenates [⟨3, ![1, w, 512]⟩, ⟨3, ![1, n, 512]⟩] S1x2048x512 1)
    (x : FVec Ideal S1x2048x512 .f32) (p : Fin 2048 → ℝ) (l : Fin 512)
    (h : ∀ r : Fin 2048, x (ix3 0 r l) = (p r : EReal)) (r : Fin 2048) :
    branch w n hz hs hc x (ix3 0 r l) = (pooled p w r : EReal) := by
  pointwise [branch]
  have hc : ((min (r.val + 1) w : ℕ) : ℝ) ≠ 0 := by
    have : 0 < min (r.val + 1) w := by omega
    exact_mod_cast this.ne'
  have hprev : (if hr : r.val < w then (0 : EReal) else running x (ix3 0 ⟨r.val - w, by omega⟩ l))
      = ((if w ≤ r.val then upTo p (r.val - w) else 0 : ℝ) : EReal) := by
    by_cases hr : r.val < w
    · rw [dif_pos hr, if_neg (by omega), EReal.coe_zero]
    · rw [dif_neg hr, if_pos (by omega), running_at x p l h]
  rw [running_at x p l h, Cert.PoolRefIdeal.Value.count_at w hm, h]
  refine Eq.trans (congrArg (fun z => Ideal.div ((upTo p r : EReal) - z) (((min (r.val + 1) w : ℕ) : ℝ) : EReal) - (p r : EReal)) hprev) ?_
  rw [← EReal.coe_sub, trail_eq, div_coe hc, ← EReal.coe_sub]
  rfl

variable (X : FVec Ideal S2048x2048 .f32) (q : Fin 2048 → Fin 2048 → ℝ) (hq : ∀ i j : Fin 2048, X (ix2 i j) = (q i j : EReal))

/-- One group of lanes. -/
def group (o : Fin 4 → ℕ) (ho : S1x2048x4x512.Slices o S1x2048x1x512) : FVec Ideal S1x2048x512 .f32 :=
  shapeCast _ (extractStridedSlice S1x2048x1x512 o (shapeCast _
    (broadcastInDim S1x2048x2048 ![1, 2] bcast_S2048x2048_S1x2048x2048_1_2 X) shapeCasts_S1x2048x2048_S1x2048x4x512) ho)
    shapeCasts_S1x2048x1x512_S1x2048x512

def mean2 := branch 2 2046 bcast_S_S1x2x512 slices_S1x2048x512_S1x2046x512_0_0_0 concatenates_S1x2x512_S1x2046x512_S1x2048x512_d1
  (group X ![0, 0, 0, 0] slices_S1x2048x4x512_S1x2048x1x512_0_0_0_0)
def mean4 := branch 4 2044 bcast_S_S1x4x512 slices_S1x2048x512_S1x2044x512_0_0_0 concatenates_S1x4x512_S1x2044x512_S1x2048x512_d1
  (group X ![0, 0, 1, 0] slices_S1x2048x4x512_S1x2048x1x512_0_0_1_0)
def mean8 := branch 8 2040 bcast_S_S1x8x512 slices_S1x2048x512_S1x2040x512_0_0_0 concatenates_S1x8x512_S1x2040x512_S1x2048x512_d1
  (group X ![0, 0, 2, 0] slices_S1x2048x4x512_S1x2048x1x512_0_0_2_0)
def mean16 := branch 16 2032 bcast_S_S1x16x512 slices_S1x2048x512_S1x2032x512_0_0_0 concatenates_S1x16x512_S1x2032x512_S1x2048x512_d1
  (group X ![0, 0, 3, 0] slices_S1x2048x4x512_S1x2048x1x512_0_0_3_0)

include hq in
theorem mean2_at (r : Fin 2048) (l : Fin 512) :
    mean2 X (ix3 0 r l) = (pooled (fun r => q r (col 0 l)) 2 r : EReal) :=
  branch_at 2 2046 (by norm_num) (by norm_num) (by norm_num) _ _ _ _ (fun r => q r (col 0 l)) l
    (fun r => by rw [← hq]; pointwise [group, col]) r

include hq in
theorem mean4_at (r : Fin 2048) (l : Fin 512) :
    mean4 X (ix3 0 r l) = (pooled (fun r => q r (col 1 l)) 4 r : EReal) :=
  branch_at 4 2044 (by norm_num) (by norm_num) (by norm_num) _ _ _ _ (fun r => q r (col 1 l)) l
    (fun r => by rw [← hq]; pointwise [group, col]) r

include hq in
theorem mean8_at (r : Fin 2048) (l : Fin 512) :
    mean8 X (ix3 0 r l) = (pooled (fun r => q r (col 2 l)) 8 r : EReal) :=
  branch_at 8 2040 (by norm_num) (by norm_num) (by norm_num) _ _ _ _ (fun r => q r (col 2 l)) l
    (fun r => by rw [← hq]; pointwise [group, col]) r

include hq in
theorem mean16_at (r : Fin 2048) (l : Fin 512) :
    mean16 X (ix3 0 r l) = (pooled (fun r => q r (col 3 l)) 16 r : EReal) :=
  branch_at 16 2032 (by norm_num) (by norm_num) (by norm_num) _ _ _ _ (fun r => q r (col 3 l)) l
    (fun r => by rw [← hq]; pointwise [group, col]) r

/-- The groups side by side. -/
def stack : FVec Ideal S1x2048x4x512 .f32 := concatenate S1x2048x4x512 2 [⟨S1x2048x1x512, broadcastInDim S1x2048x1x512 ![0, 1, 3] bcast_S1x2048x512_S1x2048x1x512_0_1_3 (mean2 X)⟩, ⟨S1x2048x1x512, broadcastInDim S1x2048x1x512 ![0, 1, 3] bcast_S1x2048x512_S1x2048x1x512_0_1_3 (mean4 X)⟩, ⟨S1x2048x1x512, broadcastInDim S1x2048x1x512 ![0, 1, 3] bcast_S1x2048x512_S1x2048x1x512_0_1_3 (mean8 X)⟩, ⟨S1x2048x1x512, broadcastInDim S1x2048x1x512 ![0, 1, 3] bcast_S1x2048x512_S1x2048x1x512_0_1_3 (mean16 X)⟩] concatenates_S1x2048x1x512_S1x2048x1x512_S1x2048x1x512_S1x2048x1x512_S1x2048x4x512_d2

include hq in
theorem stack_at (r : Fin 2048) (g : Fin 4) (l : Fin 512) : stack X (ix4 0 r g l)
    = (pooled (fun r => q r (col g l)) (2 ^ (g.val + 1)) r : EReal) := by
  obtain rfl | rfl | rfl | rfl : g = 0 ∨ g = 1 ∨ g = 2 ∨ g = 3 := by omega
  · exact (by pointwise [stack] : stack X (ix4 0 r 0 l) = mean2 X (ix3 0 r l)).trans (mean2_at X q hq r l)
  · exact (by pointwise [stack] : stack X (ix4 0 r 1 l) = mean4 X (ix3 0 r l)).trans (mean4_at X q hq r l)
  · exact (by pointwise [stack] : stack X (ix4 0 r 2 l) = mean8 X (ix3 0 r l)).trans (mean8_at X q hq r l)
  · exact (by pointwise [stack] : stack X (ix4 0 r 3 l) = mean16 X (ix3 0 r l)).trans (mean16_at X q hq r l)

/-- The reference's pooled tokens. -/
def out : FVec Ideal S2048x2048 .bf16 := truncf .bf16 (shapeCast _ (shapeCast _ (stack X) shapeCasts_S1x2048x4x512_S1x2048x2048) shapeCasts_S1x2048x2048_S2048x2048) bitsLt_bf16_f32

include hq in
theorem out_at (i j : Fin 2048) : out X (ix2 i j)
    = (pooled (fun r => q r j) (2 ^ (j.val / 512 + 1)) i : EReal) := by
  have hj : col ⟨j.val / 512, by omega⟩ ⟨j.val % 512, by omega⟩ = j := Fin.ext (Nat.div_add_mod' _ _)
  have hs := stack_at X q hq i ⟨j.val / 512, by omega⟩ ⟨j.val % 512, by omega⟩
  rw [hj] at hs
  rw [← hs]
  pointwise [out]

theorem run_out (m : (ℓ : Loc nD τ sig) → Buf (Elt Ideal) ℓ) (c : Dev nD) :
    res_main_v89 m c = out (m ((c.tc : Thread nD τ).loc main_arg0)) := by
  unfold res_main_v89
  rfl

end Cert.PoolFwdRefIdeal.Value

end
-- ==== Proof.PoolFwdClaim.lean ====
/- The pooling of the forward pass: the kernel's result is the reference's. -/
module

public import proofs.«01_k».proof.Defs
public import proofs.«01_k».proof.Proof.PoolFwdRefValue
public import proofs.«01_k».proof.Proof.PoolClaim

@[expose] public section

set_option maxRecDepth 16384

noncomputable section

open Idealize.ShloMosaic Idealize.ShloMosaic.TcCoe Idealize.SL.Sem
open Idealize.ShloMosaic.Pipeline (Dat)

/-- From a finite argument that agrees the two programs end with the same pooled tokens. -/
theorem Cert.Proof.poolFwd : Cert.algebraic_PoolFwdIdeal_PoolFwdRefIdeal_pre_pool_finite := by
  pair_intro
  · run_from Cert.PoolFwdIdeal.Gen.run_main m g
  · run_from Cert.PoolFwdRefIdeal.Value.run m' g'
    choose p hp using Cert.Reals.real_of_all _ _ _ _ _ _ (congrFun (hpre c) ix0)
    refine Eq.trans (funext fun i => ?_)
      (Cert.PoolFwdIdeal.Value.final1 m (fun i j => p (ix2 i j)) c (fun i j => hp _)).symm
    idx_vars i
    rw [Cert.PoolFwdRefIdeal.Value.run_out]
    exact Cert.PoolFwdRefIdeal.Value.out_at _ (fun i j => p (ix2 i j))
      (fun i j => (congrFun (hagree c) _).trans (hp _)) i0 i1

end
-- ==== Proof.GroupClaim.lean ====
/- The grouped product of the pooling mixer and its scaled copy: what the call leaves in its two result arrays is what
   the reference computes. -/
module

public import proofs.«01_k».proof.Defs
public import proofs.«01_k».proof.Proof.Gen.GroupIdeal.Frame
public import proofs.«01_k».proof.Proof.Gen.GroupRefIdeal.Run
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupRefIdeal.Value

open Cert.GroupRefIdeal Cert.GroupRefIdeal.Gen

/-- The grouped product of the pooled tokens. -/
def mixed (X : FVec Ideal S2048x2048 .bf16) (G : FVec Ideal S1x4x512x512 .f32) : FVec Ideal S1x2048x2048 .f32 :=
  shapeCast _ (transpose S1x2048x4x512 [2, 3, 0, 1]
    (Host.dotGeneral dot_S4x512x512_S1x2048x4x512_S4x512x1x2048_1_3_2_01_0_2 none
      (shapeCast _ G shapeCasts_S1x4x512x512_S4x512x512)
      (shapeCast _ (extf .f32 X bitsLt_bf16_f32) shapeCasts_S2048x2048_S1x2048x4x512))
    transposes_S4x512x1x2048_S1x2048x4x512_2_3_0_1) shapeCasts_S1x2048x4x512_S1x2048x2048

/-- The reference's mixed tokens. -/
def out (X : FVec Ideal S2048x2048 .bf16) (G : FVec Ideal S1x4x512x512 .f32) : FVec Ideal S2048x2048 .bf16 :=
  truncf .bf16 (shapeCast _ (mixed X G) shapeCasts_S1x2048x2048_S2048x2048) bitsLt_bf16_f32

/-- The reference's mixed tokens times the scale. -/
def scaled (X : FVec Ideal S2048x2048 .bf16) (G : FVec Ideal S1x4x512x512 .f32) (SC : FVec Ideal S1x2048 .f32) :
    FVec Ideal S2048x2048 .bf16 :=
  truncf .bf16 (shapeCast _ (mulf (mixed X G)
    (broadcastInDim S1x2048x2048 ![0, 1, 2] bcast_S1x1x2048_S1x2048x2048_0_1_2
      (broadcastInDim S1x1x2048 ![2] bcast_S2048_S1x1x2048_2 (shapeCast _ SC shapeCasts_S1x2048_S2048))))
    shapeCasts_S1x2048x2048_S2048x2048) bitsLt_bf16_f32

/-- Lane `l` of group `g`. -/
def lane (g : Fin 4) (l : Fin 512) : Fin 2048 := ⟨g.val * 512 + l.val, by omega⟩

theorem out_at (X : FVec Ideal S2048x2048 .bf16) (G : FVec Ideal S1x4x512x512 .f32) (i : Fin 2048) (g : Fin 4)
    (l : Fin 512) : out X G (ix2 i (lane g l)) = ∑ k : Fin 512, X (ix2 i (lane g k)) * G (ix4 0 g k l) := by
  have hl : (lane g l).val / 512 = g.val ∧ (lane g l).val % 512 = l.val := by simp only [lane]; omega
  pointwise [out, mixed]
  refine Fin.sum_fin_congr fun k => (mul_comm _ _).trans (congrArg₂ (· * ·) ?_ ?_)
  · exact congrArg (fun z => X (ix2 i z)) (Fin.ext (by show _ / 512 * 512 + k.val = g.val * 512 + k.val; rw [hl.1]))
  · exact congrArg₂ (fun y z => G (ix4 0 y k z)) (Fin.ext hl.1) (Fin.ext hl.2)

theorem scaled_at (X : FVec Ideal S2048x2048 .bf16) (G : FVec Ideal S1x4x512x512 .f32) (SC : FVec Ideal S1x2048 .f32)
    (i j : Fin 2048) : scaled X G SC (ix2 i j) = out X G (ix2 i j) * SC (ix2 0 j) := by
  pointwise [scaled, out]

end Cert.GroupRefIdeal.Value

namespace Cert.GroupIdeal.Value

open Cert.GroupIdeal Cert.GroupIdeal.Gen
open Cert.GroupRefIdeal.Value (lane)

variable (m : (ℓ : Loc nD τ sig) → Buf (Elt Ideal) ℓ)

theorem pay2_at (v0 : Vec Ideal S1024x512 .bf16) (v1 : Vec Ideal S1x512x512 .bf16) (i : Fin 1024) (l : Fin 512) :
    k0_pay2 v0 v1 (ix2 i l) = ∑ k : Fin 512, v0 (ix2 i k) * v1 (ix3 0 k l) := by
  pointwise [k0_pay2, k0_pay1]

theorem pay3_at (v0 : Vec Ideal S1024x512 .bf16) (v1 : Vec Ideal S1x512x512 .bf16) (v4 : Vec Ideal S1x512 .f32)
    (i : Fin 1024) (l : Fin 512) : k0_pay3 v0 v1 v4 (ix2 i l) = k0_pay2 v0 v1 (ix2 i l) * v4 (ix2 0 l) := by
  pointwise [k0_pay3, k0_pay2]

theorem idx : ∀ t : Fin cfg0.N, win0_0.index t = ![t.val / 4, t.val % 4] ∧ win0_1.index t = ![t.val % 4, 0, 0]
    ∧ win0_2.index t = ![0, t.val % 4] ∧ win0_3.index t = ![t.val / 4, t.val % 4]
    ∧ win0_4.index t = ![t.val / 4, t.val % 4] :=
  (by decide +kernel : ∀ t : Fin grid0.N, _)

/-- The weight as the call reads it. -/
theorem weight (c : Dev nD) (g : Fin 4) (k l : Fin 512) :
    V m c main_v1 (ix3 g k l) = m ((c : Thread nD τ).loc main_arg1) (ix4 0 g k l) := by
  entry_read
  pointwise

/-- Row `i` of block `t`. -/
def row (t : Fin cfg0.N) (i : Fin 1024) : Fin 2048 :=
  ⟨t.val / 4 * 1024 + i.val, by have := lt_of_lt_of_eq t.isLt N_0; omega⟩

def grp (t : Fin cfg0.N) : Fin 4 := ⟨t.val % 4, by omega⟩

/-- One block of mixed tokens. -/
theorem block (c : Dev nD) (t : Fin cfg0.N) (i : Fin 1024) (l : Fin 512) :
    k0_pay2 (iblk m c 0 t) (iblk m c 1 t) (ix2 i l)
      = Cert.GroupRefIdeal.Value.out (m ((c : Thread nD τ).loc main_arg0)) (m ((c : Thread nD τ).loc main_arg1))
          (ix2 (row t i) (lane (grp t) l)) := by
  rw [pay2_at, Cert.GroupRefIdeal.Value.out_at]
  refine Fin.sum_fin_congr fun k => ?_
  have h0 : iblk m c 0 t (ix2 i k) = m ((c : Thread nD τ).loc main_arg0) (ix2 (row t i) (lane (grp t) k)) := by
    blk_point [iblk, V, idx t, row, lane, grp]
  have h1 : iblk m c 1 t (ix3 0 k l) = m ((c : Thread nD τ).loc main_arg1) (ix4 0 (grp t) k l) := by
    rw [← weight m c]
    blk_point [iblk, idx t, grp]
  rw [h0, h1]

/-- The mixed tokens. -/
theorem final3 (c : Dev nD) : (dats m 0 c).arrAt 3 (cfgs 0).N
    = Cert.GroupRefIdeal.Value.out (m ((c : Thread nD τ).loc main_arg0)) (m ((c : Thread nD τ).loc main_arg1)) := by
  refine (dats m 0 c).arrAt_eq_of_covers 3 _ (by decide +kernel) fun t hf y => ?_
  blk_simp
  rw [after0_3]
  idx_vars y
  simp only [out0_3]
  frame_out
  have he : (win0_3.blk t).view.emb (ix2 y0 y1) = ix2 (row t y0) (lane (grp t) y1) := by
    blk_ext [idx t, row, lane, grp]
  exact (block m c t y0 y1).trans (congrArg _ he).symm

/-- The scaled ones. -/
theorem final4 (c : Dev nD) : (dats m 0 c).arrAt 4 (cfgs 0).N
    = Cert.GroupRefIdeal.Value.scaled (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  idx_vars y
  simp only [out0_4]
  frame_out
  have he : (win0_4.blk t).view.emb (ix2 y0 y1) = ix2 (row t y0) (lane (grp t) y1) := by
    blk_ext [idx t, row, lane, grp]
  refine Eq.trans ?_ ((congrArg _ he).trans (Cert.GroupRefIdeal.Value.scaled_at _ _ _ _ _)).symm
  refine (pay3_at _ _ _ _ _).trans (congrArg₂ (· * ·) (block m c t y0 y1) ?_)
  blk_point [iblk, V, idx t, lane, grp]

end Cert.GroupIdeal.Value

/-- From arguments that agree the two programs end with the same mixed tokens and the same scaled ones. -/
theorem Cert.Proof.group : Cert.algebraic_GroupIdeal_GroupRefIdeal := by
  pair_intro
  · run_from Cert.GroupIdeal.Gen.run_main m g
  · run_from Cert.GroupRefIdeal.Value.run m' g'
    · exact (Cert.GroupIdeal.Value.final3 m c).symm
    · exact (Cert.GroupIdeal.Value.final4 m c).symm

end
-- ==== Proof.ExchangeRun.lean ====
/- The exchange of the group gradient's halves between the two devices of a pair, one core at a time. Device `c` sends
   the half of its argument that belongs to the other device straight into that device's result, waits until the
   sending is done, then waits until its own result has landed. No device tells the other that its result buffer is
   free: so each core starts owning the OTHER device's result buffer, and gets its own from its receive counter. -/
module

public import proofs.«01_k».proof.Proof.Gen.Exchange
public import proofs.«01_k».proof.Proof.Gen.Exchange.Skeleton
public import proofs.«01_k».proof.Proof.Gen.Exchange.Launch
public import Idealize.ShloMosaic.Lib.Pipeline.Launch
public import Idealize.ShloMosaic.Lib.Pipeline.Kit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ExchangeRun

open Cert.Exchange Cert.Exchange.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the rounds of the pipeline's own cells (it has none) and the rounds of the two counters. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

variable (m : (ℓ : Loc nD τ sig) → Buf (Elt F) ℓ)

/-! ## The pair -/

/-- The other device of the pair. -/
def other (c : Dev nD) : Dev nD := ⟨1 - c.val, Nat.lt_of_le_of_lt (Nat.sub_le 1 c.val) (by decide)⟩

theorem other_other (c : Dev nD) : other (other c) = c := by revert c; decide

/-- The device the transfer names is the other one. -/
theorem dev_eq (c : Dev nD) : (⟨k0_dev1 c, k0_dev1_lt c⟩ : Dev nD) = other c := Fin.ext (k0_dev1_eq c)

/-- The two devices exchanged. -/
def flip : Dev nD ≃ Dev nD := ⟨other, other, other_other, other_other⟩

/-! ## The half sent, the buffer it lands in, the two counters -/

/-- The half of device `c`'s argument that belongs to the other device. -/
abbrev srcM (c : Dev nD) : Memref sig .tc .hbm S4x256x512 .bf16 :=
  ((Memref.whole main_arg0 : Memref sig .tc .hbm S4x2x256x512 .bf16).slice
    (Rect.unit (s := S4x2x256x512) (k0_off1 c) S4x1x256x512.size (k0_off1_inb c)) (fun _ => rfl)).squeeze S4x256x512
      squeezes_S4x1x256x512_S4x256x512
/-- The result, where the other device's half lands. -/
abbrev dstM : Memref sig .tc .hbm S4x256x512 .bf16 := Memref.whole main_v1

abbrev sendS : DmaSem sig := ((cc0_scratch0.slice (Rect.unit (s := S1) ![0] S1.size inb_S1_S1_0)).squeeze S_ squeezes_S1_S_).sem
abbrev recvS : DmaSem sig := ((cc0_scratch1.slice (Rect.unit (s := S1) ![0] S1.size inb_S1_S1_0)).squeeze S_ squeezes_S1_S_).sem

abbrev sendCell (c : Dev nD) : GSem nD τ sig := ((c : Thread nD τ), .dma sendS)
abbrev recvCell (c : Dev nD) : GSem nD τ sig := ((c : Thread nD τ), .dma recvS)
abbrev osem : Fin 2 → SemLoc sig := fun | 0 => .dma sendS | 1 => .dma recvS
abbrev kcell (ck : Dev nD × Fin 2) : GSem nD τ sig := ((ck.1 : Thread nD τ), osem ck.2)

/-- The credit of one transfer. -/
abbrev N : ℕ := (dstM : Memref sig .tc .hbm S4x256x512 .bf16).view.dmaCredit
theorem N_pos : 0 < N := View.dmaCredit_pos _ (by decide)

/-- The half sent counts what the result it lands in counts. -/
theorem src_credit (c : Dev nD) : (srcM c).view.dmaCredit = N := rfl

theorem send_ne_recv : (SemLoc.dma sendS : SemLoc sig) ≠ .dma recvS := by decide
theorem recv_ne_send : (SemLoc.dma recvS : SemLoc sig) ≠ .dma sendS := by decide

/-! ## What lands -/

/-- The half device `c` sends. -/
def sent (c : Dev nD) : main_v1.ty.Contents (Elt F) := (srcM c).view.read (Elt F) (m ((c : Thread nD τ).loc main_arg0))

omit [FloatOps F] in
theorem lands_eq (c : Dev nD) (f : Buf (Elt F) ((dstM : Memref sig .tc .hbm S4x256x512 .bf16).view.loc (c : Thread nD τ)))
    (w : main_v1.ty.Contents (Elt F)) :
    (dstM : Memref sig .tc .hbm S4x256x512 .bf16).view.write (Elt F) f w Finset.univ = w := View.write_whole_univ _ _ _

/-- The half device `c` sends, held at its memory. -/
def halfPts (c : Dev nD) : sProp 𝕄 :=
  (srcM c).view.loc (c : Thread nD τ) ↦[(srcM c).view.set]{fullShare} m ((c : Thread nD τ).loc main_arg0)
/-- The half it keeps. -/
def keptPts (c : Dev nD) : sProp 𝕄 :=
  (srcM c).view.loc (c : Thread nD τ) ↦[Finset.univ \ (srcM c).view.set]{fullShare} m ((c : Thread nD τ).loc main_arg0)
/-- The result buffer of device `c` at `f`. -/
def resPts (c : Dev nD) (f : Buf (Elt F) ((dstM : Memref sig .tc .hbm S4x256x512 .bf16).view.loc (c : Thread nD τ))) : sProp 𝕄 :=
  (dstM : Memref sig .tc .hbm S4x256x512 .bf16).view.loc (c : Thread nD τ)
    ↦[(dstM : Memref sig .tc .hbm S4x256x512 .bf16).view.set]{fullShare} f

omit [FloatOps F] in
instance halfPts_storable (c : Dev nD) : BI.Storable (upEmb : UEmb _ 𝕄) (halfPts (F := F) m c) := by unfold halfPts; infer_instance
omit [FloatOps F] in
instance resPts_storable (c : Dev nD) (f) : BI.Storable (upEmb : UEmb _ 𝕄) (resPts (F := F) c f) := by unfold resPts; infer_instance

omit [FloatOps F] in
theorem arg_split (c : Dev nD) :
    (((c : Thread nD τ).loc main_arg0 ↦{fullShare} m ((c : Thread nD τ).loc main_arg0)) : sProp 𝕄)
      ⊣⊢ iprop(halfPts m c ∗ keptPts m c) := by
  unfold halfPts keptPts
  exact pointsTo_split_subset (Finset.subset_univ _)

omit [FloatOps F] in
theorem resPts_eq (c : Dev nD) (f : Buf (Elt F) ((c : Thread nD τ).loc main_v1)) :
    resPts c f = (((c : Thread nD τ).loc main_v1) ↦{fullShare} f : sProp 𝕄) := by unfold resPts; rw [View.set_whole]

/-! ## The schedule of the two counters: one round each -/

abbrev IsOwn (g : GSem nD τ sig) : Prop := g.1.2 = .tc ∧ (g.2 = .dma sendS ∨ g.2 = .dma recvS)

/-- The send counter gives the half sent back; the receive counter gives the result at what the other device sent. -/
def rounds : Rounds.Schedule (GSem nD τ sig) Unit 𝕄 where
  duties g r := if r = 0 ∧ IsOwn g then {()} else ∅
  unitless _ := False
  amount _ _ _ := N
  payload g _ _ := if g.2 = .dma recvS then resPts g.1.1 (sent m (other g.1.1)) else halfPts m g.1.1
  amount_pos _ _ _ _ := N_pos

instance rounds_storable (g : GSem nD τ sig) (r : ℕ) (d : Unit) : BI.Storable (upEmb : UEmb _ 𝕄) ((rounds (F := F) m).payload g r d) := by
  show BI.Storable upEmb (if g.2 = .dma recvS then resPts g.1.1 (sent m (other g.1.1)) else halfPts m g.1.1)
  split <;> infer_instance

section Sched
variable (c : Dev nD)

omit [FloatOps F] in
theorem duties_send : (rounds (F := F) m).duties (sendCell c) 0 = {()} := by dsimp only [rounds]; exact if_pos ⟨rfl, rfl, .inl rfl⟩
omit [FloatOps F] in
theorem duties_recv : (rounds (F := F) m).duties (recvCell c) 0 = {()} := by dsimp only [rounds]; exact if_pos ⟨rfl, rfl, .inr rfl⟩
omit [FloatOps F] in
theorem duties_later (g : GSem nD τ sig) : ∀ r, 1 ≤ r → (rounds (F := F) m).duties g r = ∅ :=
  fun r hr => by dsimp only [rounds]; exact if_neg fun h => by omega
omit [FloatOps F] in
theorem expect_send : (rounds (F := F) m).expect (sendCell c) 0 = N := by
  unfold Schedule.expect Schedule.amountOf; rw [duties_send, Finset.sum_singleton]; rfl
omit [FloatOps F] in
theorem expect_recv : (rounds (F := F) m).expect (recvCell c) 0 = N := by
  unfold Schedule.expect Schedule.amountOf; rw [duties_recv, Finset.sum_singleton]; rfl
omit [FloatOps F] in
theorem payload_send (u : Unit) : (rounds (F := F) m).payload (sendCell c) 0 u = halfPts m c := by
  dsimp only [rounds]; exact if_neg send_ne_recv
omit [FloatOps F] in
theorem payload_recv (u : Unit) : (rounds (F := F) m).payload (recvCell c) 0 u = resPts c (sent m (other c)) := by
  dsimp only [rounds]; exact if_pos rfl
omit [FloatOps F] in
theorem rest_send : bigSep ((rounds (F := F) m).duties (sendCell c) 0 \ ∅) (fun u => (rounds (F := F) m).payload (sendCell c) 0 u) = halfPts m c := by
  rw [Finset.sdiff_empty, duties_send, bigSep_singleton, payload_send]
omit [FloatOps F] in
theorem rest_recv : bigSep ((rounds (F := F) m).duties (recvCell c) 0 \ ∅) (fun u => (rounds (F := F) m).payload (recvCell c) 0 u)
    = resPts c (sent m (other c)) := by
  rw [Finset.sdiff_empty, duties_recv, bigSep_singleton, payload_recv]

end Sched

/-! ## What each core starts from and ends with -/

/-- Each device owes the other's receive counter one transfer. -/
def O₀ (c : Dev nD) : CellTallies nD τ sig Unit := tallyAt (recvCell (other c)) () N

def invs (K : Dev nD × Fin 2 → ℕ) (c : Dev nD) : sProp 𝕄 :=
  iprop(cellInv ER (rounds m) (K (c, 0)) (sendCell c) ∗ cellInv ER (rounds m) (K (c, 1)) (recvCell c)
    ∗ cellInv ER (rounds m) (K (other c, 1)) (recvCell (other c)))

instance invs_persistent (K : Dev nD × Fin 2 → ℕ) (c : Dev nD) : BI.Persistent (invs m K c) := by unfold invs; infer_instance

def ghost (K : Dev nD × Fin 2 → ℕ) (c : Dev nD) : sProp 𝕄 :=
  iprop(invs m K c
    ∗ atPos ER (sendCell c) 0 ∅ 0 ∗ atPos ER (recvCell c) 0 ∅ 0
    ∗ reached ER (sendCell c) 0 ∗ reached ER (recvCell (other c)) 0
    ∗ dutyTok ER (sendCell c) 0 () ∗ dutyTok ER (recvCell (other c)) 0 ())

/-- What a core holds as it enters: its argument, the OTHER device's result buffer, its share of the protocol, the
    credit of its own receive counter. -/
def Φ₀ (c : Dev nD) : sProp 𝕄 :=
  iprop((∃ K, ghost m K c) ∗ cred (tallyAt (recvCell c) () N)
    ∗ (((c : Thread nD τ).loc main_arg0) ↦{fullShare} m ((c : Thread nD τ).loc main_arg0))
    ∗ resPts (other c) (m (((other c : Dev nD) : Thread nD τ).loc main_v1)))
/-- What it leaves with: its argument, its own result at what the other device sent, both counters at zero. -/
def Φ₁ (c : Dev nD) : sProp 𝕄 :=
  iprop((((c : Thread nD τ).loc main_arg0) ↦{fullShare} m ((c : Thread nD τ).loc main_arg0))
    ∗ (((c : Thread nD τ).loc main_v1) ↦{fullShare} sent m (other c))
    ∗ semVal (sendCell c) 0 ∗ semVal (recvCell c) 0)

/-- The region's data: no window, one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem wp_send_half (K : Dev nD × Fin 2 → ℕ) (c n : Dev nD) (hn : n = other c)
    {hsc : (dstM : Memref sig (Dev.tc n : Thread nD τ).2.kind .hbm S4x256x512 .bf16).view.ref.isScScratch = false}
    {hsrc : (srcM c).view.WordExact} {hdst : (dstM : Memref sig .tc .hbm S4x256x512 .bf16).view.WordExact}
    {hsem : DmaTarget.Typed .hbm (.dma recvS) (.remote (Dev.tc n : Thread nD τ) (dstM : Memref sig .tc .hbm S4x256x512 .bf16) (.dma sendS) hsc)}
    {α : Type} {Q : α → sProp 𝕄} {k : PUnit → Prog (TpuEff nD τ sig (Elt F) Λ₀ .tc) α}
    (f : Buf (Elt F) ((dstM : Memref sig .tc .hbm S4x256x512 .bf16).view.loc (other c : Thread nD τ))) (W : Waits sig Unit) :
    iprop(cellInv ER (rounds m) (K (c, 0)) (sendCell c) ∗ cellInv ER (rounds m) (K (other c, 1)) (recvCell (other c))
        ∗ halfPts m c ∗ resPts (other c) f ∗ owes (c : Thread nD τ) (O₀ c) W
        ∗ dutyTok ER (sendCell c) 0 () ∗ reached ER (sendCell c) 0 ∗ dutyTok ER (recvCell (other c)) 0 () ∗ reached ER (recvCell (other c)) 0)
      ⊢ iprop(((cred (tallyAt (sendCell c) () N) ∗ owes (c : Thread nD τ) 0 W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c) (.remote (Dev.tc n : Thread nD τ) dstM (.dma sendS) hsc) (.dma recvS) hsrc hdst hsem) k) Q) := by
  subst hn
  unfold halfPts resPts
  exact Rounds.wp_send_pointsTo 𝒱₀ ER (rounds m) (c : Thread nD τ) none (κ₁ := K (c, 0)) (κ₂ := K (other c, 1))
    (r₁ := 0) (r₂ := 0) (d₁ := ()) (d₂ := ()) (fd := f)
    (by rw [duties_send]; exact Finset.mem_singleton_self _) (by rw [duties_recv]; exact Finset.mem_singleton_self _)
    () () N rfl rfl rfl 0 (by rw [zero_add]; rfl) (W := W)
    (by rw [payload_send]; exact BI.Entails.refl _)
    (by rw [payload_recv]; unfold resPts; rw [lands_eq, other_other]; exact BI.Entails.refl _)

/-- One core's exchange: from what it enters with, to what it leaves with. -/
theorem sound_body (K : Dev nD × Fin 2 → ℕ) (c : Dev nD) (W : Waits sig Unit) (Kt : PUnit → sProp 𝕄) :
    iprop((ghost m K c ∗ cred (tallyAt (recvCell c) () N)
          ∗ (((c : Thread nD τ).loc main_arg0) ↦{fullShare} m ((c : Thread nD τ).loc main_arg0))
          ∗ resPts (other c) (m (((other c : Dev nD) : Thread nD τ).loc main_v1)))
        ∗ owes (c : Thread nD τ) (O₀ c) W
        ∗ ((Φ₁ m c ∗ owes (c : Thread nD τ) 0 (insert (SemLoc.dma recvS, ()) (insert (SemLoc.dma sendS, ()) W))) -∗ Kt ⟨⟩))
      ⊢ wp frame (wpE (defs₀ (F := F)) 𝒱₀ c none) Set.univ
          (cc0_mixb_grp_dw_to_sibling (Memref.whole main_arg0) (Memref.isWhole_whole _) (Memref.whole main_v1) (Memref.isWhole_whole _)
            cc0_scratch0 cc0_scratch1) Kt := by
  simp only [cc0_mixb_grp_dw_to_sibling_eq_skeleton]; unfold cc0_mixb_grp_dw_to_sibling_skel
  simp only [Prog.lift, Prog.bind_op, Prog.bind_ret, Prog.pure_eq_ret, wp_deviceId]
  unfold ghost invs
  iintro ⟨⟨⟨⟨#HIs, #HIv, #HIvP⟩, HatS, HatV, #HrS, #HrVP, HtS, HtVP⟩, HcV, Harg, Hres⟩, HO, Hk⟩
  ihave Ha := (arg_split m c).1 $$ Harg
  icases Ha with ⟨Hhalf, Hkept⟩
  iapply (wp_send_half m K c _ (dev_eq c) _ W) $$ [Hhalf Hres HO HtS HtVP]
  · isplitr; · iexact HIs
    isplitr; · iexact HIvP
    isplitl [Hhalf]; · iexact Hhalf
    isplitl [Hres]; · iexact Hres
    isplitl [HO]; · iexact HO
    isplitl [HtS]; · iexact HtS
    isplitr; · iexact HrS
    isplitl [HtVP]; · iexact HtVP
    iexact HrVP
  iintro ⟨HcS, HO⟩
  iapply (Rounds.wp_wait_rest_token 𝒱₀ ER (rounds m) (c : Thread nD τ) none (κ := K (c, 0))
      (wpE_waitDma2_eq 𝒱₀ (c : Thread nD τ) none Set.univ) (Set.mem_univ _) () (O := 0) (W := W) (R := 0) (m := 0) (T := ∅)
      (by rw [Nat.zero_add, expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hhalf := (Entails.of_eq (rest_send m c)) $$ Hpay
  iapply (Rounds.wp_wait_rest_token 𝒱₀ ER (rounds m) (c : Thread nD τ) none (κ := K (c, 1))
      (wpE_waitDma2_eq 𝒱₀ (c : Thread nD τ) none Set.univ) (Set.mem_univ _) () (O := 0)
      (W := insert (SemLoc.dma sendS, ()) W) (R := 0) (m := 0) (T := ∅)
      (by rw [Nat.zero_add, expect_recv])) $$ [HcV HO HatV]
  · isplitr; · iexact HIv
    isplitl [HcV]; · iexact HcV
    isplitl [HO]; · iexact HO
    isplitr; · rw [MayWait_zero]; iempintro
    iexact HatV
  iintro ⟨HO, HatV, -, Hpay⟩
  ihave Hres := (Entails.of_eq ((rest_recv m c).trans (resPts_eq c _))) $$ Hpay
  imod (Rounds.cell_close ER (rounds m) (Set.mem_univ (K (c, 0))) (fun h => h) (R := 0 + 1) (duties_later m (sendCell c))) $$ [HatS] with HzS
  · isplitr; · iexact HIs
    iexact HatS
  imod (Rounds.cell_close ER (rounds m) (Set.mem_univ (K (c, 1))) (fun h => h) (R := 0 + 1) (duties_later m (recvCell c))) $$ [HatV] with HzV
  · isplitr; · iexact HIv
    iexact HatV
  ihave Harg := (arg_split m c).2 $$ [Hhalf Hkept]
  · isplitl [Hhalf] <;> iassumption
  rw [wp_ret]; imodintro
  iapply Hk
  unfold Φ₁
  isplitr [HO]
  · isplitl [Harg]; · iexact Harg
    isplitl [Hres]; · iexact Hres
    isplitl [HzS] <;> iassumption
  iexact HO

/-- The region's obligation: its one point is the exchange. -/
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wp frame (wpE (defs₀ (F := F)) 𝒱₀ c none) Set.univ
    (cc0_mixb_grp_dw_to_sibling (Memref.whole main_arg0) (Memref.isWhole_whole _) (Memref.whole main_v1) (Memref.isWhole_whole _)
            cc0_scratch0 cc0_scratch1) (fun _ => iprop(Φ₁ m c ∗ (dats m 0 c).owesAt () t0_0.succ ∗ _))
  unfold Φ₀ Dat.owesAt Pipeline.owesWithin
  iintro ⟨⟨⟨%K, Hg⟩, Hrest⟩, ⟨%W, %hW, HO⟩, Hwin⟩
  iapply (sound_body m K c W _)
  isplitl [Hg Hrest]
  · isplitl [Hg] <;> iassumption
  isplitl [HO]; · iexact HO
  iintro ⟨HΦ, HO⟩
  isplitl [HΦ]; · iexact HΦ
  isplitl [HO]
  · iexists (insert (SemLoc.dma recvS, ()) (insert (SemLoc.dma sendS, ()) W))
    isplitr; · ipureintro; exact fun _ _ => Or.inl trivial
    iexact HO
  iexact Hwin

end Cert.ExchangeRun

end
-- ==== Proof.PairLaunch.lean ====
/- The launch of a program whose cores hand each other buffers AND counters before any of them starts. One step
   of the whole machine makes every core's first state from all that the launch deals: each core's scoped storage
   and counters (its `boundary`), its unscoped buffers and counters, what it owes, its credit. A kernel that writes
   a peer's result with no word from the peer first needs exactly this: the sender must own the peer's buffer, and
   the peer's receive counter must be under an invariant, before either core has run a step. -/
module

public import Idealize.ShloMosaic.Lib.Pipeline.Launch
public import Idealize.ShloMosaic.Lib.Pipeline.Regions

@[expose] public section

set_option Elab.async false

noncomputable section

namespace Cert.PairLaunch

open Idealize.ShloMosaic Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.ShloMosaic.Pipeline

variable {nD : Nat} {τ : Topo} {sig : RefSig} {Val : EltTy → Type} {Λ : Labels}
variable {Ix : Type} [DecidableEq Ix] {Name : Type} [DecidableEq Name] {U : Type} [URA U] {Lvl : Type}

local notation "𝕄" => MT nD τ sig Ix Val Name U Lvl

/-- All that the launch deals core `c` but its level cells: the scoped storage, the unscoped buffers at the memory
    `m`, the unscoped counters at zero, what the core owes, its credit and its random state. -/
def dealt (O₀ : Dev nD → CellTallies nD τ sig Ix) (m : (ℓ : Loc nD τ sig) → Buf Val ℓ) (g : Dev nD → PrngReg)
    (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The launch bundle of a core is what it is dealt and its level cells, none assigned. -/
theorem coreInit_dealt (O₀ : Dev nD → CellTallies nD τ sig Ix) (m : (ℓ : Loc nD τ sig) → Buf Val ℓ) (g : Dev nD → PrngReg)
    (c : Dev nD) :
    coreInit (Ix := Ix) (Name := Name) (U := U) (Lvl := Lvl) (owing O₀) 0 ⟨m, fun _ => 0, g⟩ (c.tc : Thread nD τ)
      ⊢ iprop(dealt O₀ m g c ∗ levels0 c) := by
  refine (coreInit_boundary_owing O₀ m g c).trans ?_
  unfold dealt
  iintro ⟨Hb, Hub, Hus, HL, Hlv, Hpr, Hcr⟩
  isplitr [Hlv]
  · isplitl [Hb]; · iexact Hb
    isplitl [Hub]; · iexact Hub
    isplitl [Hus]; · iexact Hus
    isplitl [HL]; · iexact HL
    isplitl [Hcr] <;> iassumption
  · iexact Hlv

variable (L : GSem nD τ sig → Finset Ix) (lv : GSem nD τ sig → Ix → Lvl)

/-- The TensorCores' level cells assigned, when every level set is a TensorCore's. -/
theorem levels_assign (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  refine (bigSep_mono fun c _ => lev_assign_cells (c.tc : Thread nD τ) L lv).trans <| (BI.bigSep_bupd _ _).trans <| BI.bupd_mono ?_
  -- a thread other than a TensorCore has no level to assign
  have hne (d : Dev nD) (p : Proc τ) (hp : p ≠ .tc) : (coreLevAts ((d, p) : Thread nD τ) L lv : sProp 𝕄) = BI.emp := by
    unfold coreLevAts
    rw [bigSep_congr (Ψ := fun _ : SemLoc sig => (BI.emp : sProp 𝕄)) fun sm _ => by
      rw [hL (((d, p) : Thread nD τ), sm) hp, BI.bigSep_empty], BI.bigSep_emp_const]
  have hsc : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => hne d p (Finset.ne_of_mem_erase hp)).trans
        (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  refine Entails.trans ?_ (sep_mono_right (Entails.of_eq hsc.symm))
  rw [bigSep_sep']
  iintro ⟨-, H⟩
  isplitl [H]; · iexact H
  iempintro

/-- THE LAUNCH. One step of the machine (`hinit`) makes every core's first state `T₀` from what all cores are dealt,
    the level assignment and the ghost state `u₀`; each core runs `main` from it to a last state `Tₙ`, with its scoped
    storage back and nothing owed; `hfin` reads the memory off the last states. -/
theorem run [Preorder Lvl] (defs : Defs nD τ sig Val Λ) (𝒱 : Variants) [∀ e, Nonempty (Val e)] [Infinite Name]
    (m : (ℓ : Loc nD τ sig) → Buf Val ℓ) (g : Dev nD → PrngReg)
    (main : Dev nD → Prog (TpuEff nD τ sig Val Λ .tc) PUnit)
    (O₀ : Dev nD → CellTallies nD τ sig Ix) (hL : ∀ g : GSem nD τ sig, g.1.2 ≠ .tc → L g = ∅) (u₀ : U)
    (T₀ Tₙ : Dev nD → sProp 𝕄)
    (hinit : iprop((bigSep Finset.univ fun c : Dev nD => dealt O₀ m g c) ∗ levAts L lv ∗ ownU u₀)
      ⊢ |={Set.univ}=> bigSep Finset.univ T₀)
    (hrun : ∀ c, T₀ c ⊢ wp frame (wpE defs 𝒱 (c.tc : Thread nD τ) none) Set.univ (main c) fun _ =>
      iprop((Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => T₀)
      (fun _ c => iprop(Tₙ c ∗ boundary (c.tc : Thread nD τ))) (fun _ => iprop(emp)) Set.univ ?_ (fun _ c => ?_) fun _ => ?_))
  · iintro ⟨Hcores, Hu⟩
    have hcores : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ fun c : Dev nD => dealt O₀ m g c) ∗ bigSep Finset.univ fun c : Dev nD => levels0 c : sProp 𝕄) := by
      rw [← bigSep_sep']; exact bigSep_mono fun c _ => coreInit_dealt O₀ m g c
    ihave Hc := hcores $$ Hcores
    icases Hc with ⟨Hd, Hlv⟩
    imod (levels_assign L lv hL) $$ Hlv with Hla
    imod hinit $$ [Hd Hla Hu] with HT
    · isplitl [Hd]; · iexact Hd
      isplitl [Hla] <;> iassumption
    imodintro
    iexists ()
    isplitl [HT]; · iexact HT
    iempintro
  · refine (hrun c).trans (wp_mono _ _ _ fun _ => ?_)
    unfold post; simp only [liftTc_tc]
    exact BI.Entails.refl _
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.PairLaunch

end
-- ==== Proof.ExchangeLaunch.lean ====
/- The exchange of the group gradient's halves as one run of the two devices. One step at the launch puts the four
   counters under their invariants and hands each core the OTHER device's result buffer and the duty on its receive
   counter; then each core runs its exchange (`ExchangeRun`), and the run of the pair follows. -/
module

public import proofs.«01_k».proof.Proof.ExchangeRun
public import proofs.«01_k».proof.Proof.PairLaunch

@[expose] public section

set_option maxRecDepth 16384

noncomputable section

open Idealize.ShloMosaic Idealize.ShloMosaic.TcCoe Idealize.SL.Sem
open Idealize.ShloMosaic.Pipeline (Dat)

namespace Cert.ExchangeRun

open Cert.Exchange Cert.Exchange.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (g : Dev nD → PrngReg)

/-! ## The storage and the counters a core is dealt -/

theorem ownSemFacts : Pipeline.OwnSemFacts cfg0.spec osem := by decide

/-- The scoped counters but the two of the exchange, at zero. -/
abbrev idle (c : Dev nD) : sProp 𝕄 := Pipeline.idleSems0 cfgs cellOf_inj 0 ownSemFacts c

omit [FloatOps F] in
/-- A sum over no window is nothing. -/
theorem noWindow (Φ : Fin 0 → sProp 𝕄) : (BI.emp : sProp 𝕄) ⊢ bigSep Finset.univ Φ := by
  rw [Finset.univ_eq_empty, bigSep_empty]

omit [FloatOps F] in
theorem scopedSems0_eq (c : Dev nD) :
    (scopedSems0 (c : Thread nD τ) : sProp 𝕄)
      = iprop((Pipeline.cellsSems0 cfgs 0 c ∗ (semVal (sendCell c) 0 ∗ semVal (recvCell c) 0)) ∗ idle c) := by
  rw [Pipeline.scopedSems0_split cfgs cellOf_inj 0 winFacts0.to₀ ownSemFacts c]
  unfold Pipeline.ownSems0
  rw [bigSep_univ_eq_bigSepL [0, 1] (by decide) (by decide)]
  rfl

/-- What a core keeps from the launch until its region: its scoped storage, the counters but the exchange's two, its
    argument, what it owes. -/
def kept (c : Dev nD) : sProp 𝕄 :=
  iprop(scopedBufs (c : Thread nD τ) ∗ idle c ∗ opIdle (c : Thread nD τ)
    ∗ (((c : Thread nD τ).loc main_arg0) ↦{fullShare} m ((c : Thread nD τ).loc main_arg0))
    ∗ owes (c : Thread nD τ) (O₀ c) ∅ ∗ cred (tallyAt (recvCell c) () N))

/-- The two counters of the exchange, at zero. -/
def counters (c : Dev nD) : sProp 𝕄 := iprop(semVal (sendCell c) 0 ∗ semVal (recvCell c) 0)

/-- What it gives to the common step: the two counters, its result buffer. -/
def given (c : Dev nD) : sProp 𝕄 :=
  iprop(counters c ∗ resPts c (m ((c : Thread nD τ).loc main_v1)))

/-! ## The credit of the receive counters -/

theorem owed_recv (d c : Dev nD) : O₀ d (recvCell c) () = if d = other c then N else 0 := by
  unfold O₀
  rw [tallyAt_apply]
  by_cases h : d = other c
  · subst h; rw [other_other, if_pos ⟨rfl, rfl⟩, if_pos rfl]
  · have hn : ¬ (recvCell c = recvCell (other d) ∧ () = ()) := fun ⟨h1, _⟩ => h (by
      have h2 : c = other d := congrArg (fun g : GSem nD τ sig => g.1.1) h1
      rw [h2, other_other])
    rw [if_neg hn, if_neg h]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (other c) fun _ => N, if_pos (Finset.mem_univ _)]

omit [FloatOps F] in
theorem credit (c : Dev nD) : (Pipeline.launchCred O₀ c : sProp 𝕄) ⊢ cred (tallyAt (recvCell c) () N) := by
  unfold Pipeline.launchCred
  rw [← launch_recv]
  exact bigSep_elim (Finset.mem_univ _)

/-- A core's launch state is what it keeps and what it gives. -/
theorem dealt_split (c : Dev nD) : (Cert.PairLaunch.dealt O₀ m g c : sProp 𝕄) ⊢ iprop(kept m c ∗ given m c) := by
  have hu : (unscopedBufs c (fun b => m ((c : Thread nD τ).loc b)) : sProp 𝕄)
      ⊢ iprop((((c : Thread nD τ).loc main_arg0) ↦{fullShare} m ((c : Thread nD τ).loc main_arg0))
          ∗ (((c : Thread nD τ).loc main_v1) ↦{fullShare} m ((c : Thread nD τ).loc main_v1))) := by
    rw [Pipeline.unscopedBufs_split₀ cfgs 0 (fun w => w.elim0) c]
    rw [show (Pipeline.unscopedRest (cfgs 0).spec c (fun b => m ((c : Thread nD τ).loc b)) : sProp 𝕄) = _ from unscopedRest0_eq c _]
    iintro ⟨-, H⟩; iexact H
  unfold Cert.PairLaunch.dealt boundary kept given counters
  rw [scopedSems0_eq, resPts_eq]
  iintro ⟨⟨Hsb, ⟨⟨-, Hown⟩, Hidle⟩, Hop⟩, Hub, -, HO, Hcr, -⟩
  ihave Hb := hu $$ Hub
  icases Hb with ⟨Harg, Hres⟩
  ihave Hc := (credit c) $$ Hcr
  isplitr [Hown Hres]
  · isplitl [Hsb]; · iexact Hsb
    isplitl [Hidle]; · iexact Hidle
    isplitl [Hop]; · iexact Hop
    isplitl [Harg]; · iexact Harg
    isplitl [HO] <;> iassumption
  isplitl [Hown] <;> iassumption

/-! ## The common step: the counters' invariants, the tokens and the result buffers dealt across the pair -/

theorem kcell_injective : Function.Injective (kcell : Dev nD × Fin 2 → GSem nD τ sig) := by
  rintro ⟨c, k⟩ ⟨c', k'⟩ h
  have h1 : c = c' := congrArg (fun g : GSem nD τ sig => g.1.1) h
  subst h1
  have h2 : osem k = osem k' := congrArg Prod.snd h
  have : k = k' := by fin_cases k <;> fin_cases k' <;> first | rfl | exact absurd h2 (by decide)
  subst this; rfl

/-- The four counters of the pair. -/
def ownCells : Finset (GSem nD τ sig) := Finset.univ.map ⟨kcell, kcell_injective⟩
/-- Their four duties, one each. -/
def ownToks : Finset (GSem nD τ sig × ℕ × Unit) :=
  Finset.univ.map ⟨fun ck : Dev nD × Fin 2 => (kcell ck, 0, ()), fun _ _ h => kcell_injective (congrArg Prod.fst h)⟩

def u₀ : UU := (initOf ∅ ∅, initOf ownCells ownToks)

/-- Each core's own protocol state, before it is dealt across. -/
def raw (c : Dev nD) : sProp 𝕄 :=
  iprop((bigSep Finset.univ fun k : Fin 2 => roundState ER (rounds m) (kcell (c, k)) 0)
    ∗ ((bigSep Finset.univ fun k : Fin 2 => atPos ER (kcell (c, k)) 0 ∅ 0) ∗ bigSep Finset.univ fun k : Fin 2 => reached ER (kcell (c, k)) 0)
    ∗ bigSep Finset.univ fun k : Fin 2 => dutyTok ER (kcell (c, k)) 0 ())

omit [FloatOps F] in
theorem bigSep_two (Φ : Fin 2 → sProp 𝕄) : bigSep Finset.univ Φ = iprop(Φ 0 ∗ Φ 1) :=
  bigSep_univ_eq_bigSepL [0, 1] (by decide) (by decide) Φ

omit [FloatOps F] in
theorem fund_raw : BI.own (ER (initOf ownCells ownToks)) ⊢ (|==> bigSep Finset.univ (raw m) : sProp 𝕄) := by
  have hX (Φ : GSem nD τ sig → sProp 𝕄) : bigSep ownCells Φ = bigSep Finset.univ fun c : Dev nD => bigSep Finset.univ fun k : Fin 2 => Φ (kcell (c, k)) := by
    unfold ownCells; rw [bigSep_map, bigSep_univ_prod]; rfl
  have hT : bigSep ownToks (fun x => (dutyTok ER x.1 x.2.1 x.2.2 : sProp 𝕄))
      = bigSep Finset.univ fun c : Dev nD => bigSep Finset.univ fun k : Fin 2 => dutyTok ER (kcell (c, k)) 0 () := by
    unfold ownToks; rw [bigSep_map, bigSep_univ_prod]; rfl
  iintro HX
  imod (Rounds.fund ER (rounds m) ownCells ownToks) $$ HX with ⟨Hst, Hr, Hat, Htok⟩
  imodintro
  ihave Hst' := (Entails.of_eq (hX fun g => roundState ER (rounds m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold raw; simp only [bigSep_sep']
  isplitl [Hst']; · iexact Hst'
  isplitl [Hat' Hr']
  · isplitl [Hat'] <;> iassumption
  iexact Htok'

/-- The invariants of all four counters, and that each has reached its round. -/
def records (K : Dev nD × Fin 2 → ℕ) : sProp 𝕄 :=
  iprop((bigSep Finset.univ fun ck : Dev nD × Fin 2 => cellInv ER (rounds m) (K ck) (kcell ck))
    ∗ bigSep Finset.univ fun ck : Dev nD × Fin 2 => reached ER (kcell ck) 0)
instance records_persistent (K : Dev nD × Fin 2 → ℕ) : BI.Persistent (records m K) := by unfold records; infer_instance

omit [FloatOps F] in
theorem inv_at (K : Dev nD × Fin 2 → ℕ) (ck : Dev nD × Fin 2) : records (F := F) m K ⊢ cellInv ER (rounds m) (K ck) (kcell ck) := by
  have h : (bigSep Finset.univ fun ck : Dev nD × Fin 2 => (cellInv ER (rounds m) (K ck) (kcell ck) : sProp 𝕄))
      ⊢ cellInv ER (rounds m) (K ck) (kcell ck) := bigSep_elim (Finset.mem_univ ck)
  unfold records; iintro ⟨H, -⟩
  iapply h; iexact H
omit [FloatOps F] in
theorem reached_at (K : Dev nD × Fin 2 → ℕ) (ck : Dev nD × Fin 2) : records (F := F) m K ⊢ reached ER (kcell ck) 0 := by
  have h : (bigSep Finset.univ fun ck : Dev nD × Fin 2 => (reached ER (kcell ck) 0 : sProp 𝕄))
      ⊢ reached ER (kcell ck) 0 := bigSep_elim (Finset.mem_univ ck)
  unfold records; iintro ⟨-, H⟩
  iapply h; iexact H

/-- What a core holds alone after the deal: its two positions, its duty on its send counter and on the OTHER device's
    receive counter, the OTHER device's result buffer. -/
def linear (c : Dev nD) : sProp 𝕄 :=
  iprop((atPos ER (sendCell c) 0 ∅ 0 ∗ atPos ER (recvCell c) 0 ∅ 0)
    ∗ (dutyTok ER (sendCell c) 0 () ∗ dutyTok ER (recvCell (other c)) 0 ())
    ∗ resPts (other c) (m (((other c : Dev nD) : Thread nD τ).loc main_v1)))

/-- A core's share of the protocol and the buffer it writes. -/
def share (c : Dev nD) : sProp 𝕄 :=
  iprop((∃ K, ghost m K c) ∗ resPts (other c) (m (((other c : Dev nD) : Thread nD τ).loc main_v1)))

omit [FloatOps F] in
theorem share_intro (K : Dev nD × Fin 2 → ℕ) (c : Dev nD) : iprop(records m K ∗ linear m c) ⊢ share m c := by
  unfold linear share ghost invs
  iintro ⟨#HR, ⟨HaS, HaV⟩, ⟨HtS, HtV⟩, Hres⟩
  isplitr [Hres]
  · iexists K
    isplitr
    · isplitr; · iapply (inv_at m K (c, 0)); iexact HR
      isplitr; · iapply (inv_at m K (c, 1)); iexact HR
      iapply (inv_at m K (other c, 1)); iexact HR
    isplitl [HaS]; · iexact HaS
    isplitl [HaV]; · iexact HaV
    isplitr; · iapply (reached_at m K (c, 0)); iexact HR
    isplitr; · iapply (reached_at m K (other c, 1)); iexact HR
    isplitl [HtS] <;> iassumption
  iexact Hres

omit [FloatOps F] in
/-- Receive duties and result buffers, each core's handed to the other. -/
theorem across : iprop((bigSep Finset.univ fun c : Dev nD => bigSep Finset.univ fun k : Fin 2 => (atPos ER (kcell (c, k)) 0 ∅ 0 : sProp 𝕄))
      ∗ (bigSep Finset.univ fun c : Dev nD => bigSep Finset.univ fun k : Fin 2 => (dutyTok ER (kcell (c, k)) 0 () : sProp 𝕄))
      ∗ (bigSep Finset.univ fun c : Dev nD => resPts c (m ((c : Thread nD τ).loc main_v1))))
    ⊢ bigSep Finset.univ (linear (F := F) m) := by
  have hA : (bigSep Finset.univ fun c : Dev nD => bigSep Finset.univ fun k : Fin 2 => (atPos ER (kcell (c, k)) 0 ∅ 0 : sProp 𝕄))
      = bigSep Finset.univ fun c : Dev nD => iprop(atPos ER (sendCell c) 0 ∅ 0 ∗ atPos ER (recvCell c) 0 ∅ 0) :=
    bigSep_congr fun c _ => bigSep_two _
  have hT : (bigSep Finset.univ fun c : Dev nD => bigSep Finset.univ fun k : Fin 2 => (dutyTok ER (kcell (c, k)) 0 () : sProp 𝕄))
      = bigSep Finset.univ fun c : Dev nD => iprop(dutyTok ER (sendCell c) 0 () ∗ dutyTok ER (recvCell c) 0 ()) :=
    bigSep_congr fun c _ => bigSep_two _
  rw [hA, hT]
  unfold linear
  simp only [bigSep_sep']
  rw [bigSep_univ_equiv flip (fun c : Dev nD => (dutyTok ER (recvCell c) 0 () : sProp 𝕄)),
    bigSep_univ_equiv flip (fun c : Dev nD => (resPts c (m ((c : Thread nD τ).loc main_v1)) : sProp 𝕄))]
  exact BI.Entails.refl _

omit [FloatOps F] in
theorem with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem core_alloc (c : Dev nD) :
    iprop(counters c ∗ bigSep Finset.univ fun k : Fin 2 => roundState ER (rounds m) (kcell (c, k)) 0)
      ⊢ (|={Set.univ}=> bigSep Finset.univ fun k : Fin 2 => iprop(∃ κ : ℕ, cellInv ER (rounds m) κ (kcell (c, k))) : sProp 𝕄) := by
  have h : iprop((bigSep Finset.univ fun k : Fin 2 => semVal (kcell (c, k)) 0) ∗ bigSep Finset.univ fun k : Fin 2 => roundState ER (rounds m) (kcell (c, k)) 0)
      ⊢ (|={Set.univ}=> bigSep Finset.univ fun k : Fin 2 => iprop(∃ κ : ℕ, cellInv ER (rounds m) κ (kcell (c, k))) : sProp 𝕄) := by
    rw [← bigSep_sep']
    exact (bigSep_mono fun k _ => (Rounds.body_intro ER (rounds m) (kcell (c, k))).trans inv_alloc).trans (bigSep_fupd _ _)
  rw [bigSep_two fun k : Fin 2 => (semVal (kcell (c, k)) 0 : sProp 𝕄)] at h
  unfold counters; exact h

/-- The common step. -/
theorem deal : iprop((bigSep Finset.univ fun c : Dev nD => given m c) ∗ bigSep Finset.univ (raw m))
    ⊢ (|={Set.univ}=> bigSep Finset.univ (share m) : sProp 𝕄) := by
  unfold given raw
  simp only [bigSep_sep' (M := 𝕄) (I := Dev nD)]
  iintro ⟨⟨Hown, Hres⟩, Hst, ⟨Hat, #Hr⟩, Htok⟩
  imod (show iprop((bigSep Finset.univ fun c : Dev nD => (counters c : sProp 𝕄))
        ∗ bigSep Finset.univ fun c : Dev nD => bigSep Finset.univ fun k : Fin 2 => roundState ER (rounds m) (kcell (c, k)) 0)
      ⊢ (|={Set.univ}=> bigSep Finset.univ fun c : Dev nD => bigSep Finset.univ fun k : Fin 2 => iprop(∃ κ : ℕ, cellInv ER (rounds m) κ (kcell (c, k))) : sProp 𝕄) from by
        rw [← bigSep_sep']
        exact (bigSep_mono fun c _ => core_alloc m c).trans (bigSep_fupd _ _)) $$ [Hown Hst] with HI
  · isplitl [Hown] <;> iassumption
  imodintro
  ihave HI2 := (Entails.of_eq (bigSep_univ_prod (fun ck : Dev nD × Fin 2 => (iprop(∃ κ : ℕ, cellInv ER (rounds m) κ (kcell ck)) : sProp 𝕄))).symm) $$ HI
  ihave HK := (BI.bigSep_exists_pi Finset.univ (fun (ck : Dev nD × Fin 2) (κ : ℕ) => (cellInv ER (rounds m) κ (kcell ck) : sProp 𝕄))) $$ HI2
  icases HK with ⟨%K, #HI⟩
  ihave Hlin := (across m) $$ [Hat Htok Hres]
  · isplitl [Hat]; · iexact Hat
    isplitl [Htok] <;> iassumption
  iapply (with_records (R := records m K) fun c => share_intro m K c)
  isplitr
  · unfold records
    isplitr; · iexact HI
    rw [bigSep_univ_prod (fun ck : Dev nD × Fin 2 => (reached ER (kcell ck) 0 : sProp 𝕄))]
    iexact Hr
  iexact Hlin

/-! ## The run -/

/-- No level is used: a core that waits owes nothing. -/
def L (g : GSem nD τ sig) : Finset Unit := if g.1.2 = .tc then {()} else ∅
def lv (_ : GSem nD τ sig) (_ : Unit) : ℕ := 0

/-- A core's state before its first step. -/
def T₀ (c : Dev nD) : sProp 𝕄 := iprop(kept m c ∗ share m c)
/-- Its state at the end: its argument, its result. -/
def Tₙ (c : Dev nD) : sProp 𝕄 :=
  iprop((((c : Thread nD τ).loc main_arg0) ↦{fullShare} m ((c : Thread nD τ).loc main_arg0))
    ∗ (((c : Thread nD τ).loc main_v1) ↦{fullShare} sent m (other c)))

theorem start : iprop((bigSep Finset.univ fun c : Dev nD => Cert.PairLaunch.dealt O₀ m g c) ∗ levAts L lv ∗ ownU u₀)
    ⊢ (|={Set.univ}=> bigSep Finset.univ (T₀ m) : sProp 𝕄) := by
  iintro ⟨Hd, -, Hu⟩
  ihave Hd2 := (show (bigSep Finset.univ fun c : Dev nD => (Cert.PairLaunch.dealt O₀ m g c : sProp 𝕄))
      ⊢ iprop((bigSep Finset.univ fun c : Dev nD => kept m c) ∗ bigSep Finset.univ fun c : Dev nD => given m c) from by
        rw [← bigSep_sep']; exact bigSep_mono fun c _ => dealt_split m g c) $$ Hd
  icases Hd2 with ⟨Hk, Hg⟩
  unfold u₀
  ihave H := (ownU_pair _ _) $$ Hu
  icases H with ⟨-, HX⟩
  imod (fund_raw m) $$ HX with Hraw
  imod (deal m) $$ [Hg Hraw] with Hs
  · isplitl [Hg] <;> iassumption
  imodintro
  unfold T₀
  rw [bigSep_sep']
  isplitl [Hk] <;> iassumption

/-- The adm of the one pipeline, which prefetches nothing. -/
abbrev adm : (p : Fin 1) → (pcfgs (F := F) p).Adm := fun p => (cfgs p).toPCfg_adm

/-- One core's whole run: from its state before its first step to its argument and its result. -/
theorem core_run (c : Dev nD) : T₀ m c ⊢ wp frame (wpE (defs (F := F)) (Variants.lift 𝒱₀) (c : Thread nD τ) none) Set.univ (main c) fun _ =>
      iprop((Tₙ m c ∗ boundary (c : Thread nD τ)) ∗ ∃ W, owes (c : Thread nD τ) (0 : CellTallies nD τ sig Unit) W) := by
  have hsb : (scopedBufs (c : Thread nD τ) : sProp 𝕄) ⊢ iprop(Dat.staging cfg0 c ∗ BI.emp) :=
    Entails.of_eq ((Pipeline.scopedBufs_split cfgs 0 winFacts0.stage_scoped winFacts0.stage_inj stage_whole0 c).trans
      (by rw [← scopedRest0_eq c]))
  have hsb' : iprop(Dat.staging cfg0 c ∗ BI.emp) ⊢ (scopedBufs (c : Thread nD τ) : sProp 𝕄) :=
    Entails.of_eq ((Pipeline.scopedBufs_split cfgs 0 winFacts0.stage_scoped winFacts0.stage_inj stage_whole0 c).trans
      (by rw [← scopedRest0_eq c])).symm
  have hin : iprop(Φ₀ m c ∗ Pipeline.prefHeld (pcfgs (F := F) 0).pre c (fun k => k.elim0) (adm (F := F) 0).1 ∗ BI.emp) ⊢ (dats m 0 c).Φ 0 := by
    rw [show (dats m 0 c).Φ 0 = Φ₀ m c from rfl]
    iintro ⟨H, -, -⟩; iexact H
  have hnoArr : (BI.emp : sProp 𝕄) ⊢ (dats m 0 c).arrays ((dats m 0 c).arrAt · 0) := by unfold Dat.arrays; exact noWindow _
  have hnoWait : (BI.emp : sProp 𝕄) ⊢ Pipeline.cellsWaits cfgs (dats m) () 0 c := noWindow _
  have hnoInit : (BI.emp : sProp 𝕄) ⊢ Pipeline.cellsInit cfgs (dats m) EP (fun _ => 0) 0 c := noWindow _
  have hnoTok : (BI.emp : sProp 𝕄) ⊢ Pipeline.toksInit cfgs EP 0 c := noWindow _
  have hnoTab : (BI.emp : sProp 𝕄) ⊢ Pipeline.prefHeld (pcfgs (F := F) 0).pre c (fun k => k.elim0) (adm (F := F) 0).1 := noWindow _
  have hout : iprop((dats m 0 c).Φ (Fin.last cfg0.N) ∗ Pipeline.cellsSems0 cfgs 0 c ∗ Dat.staging cfg0 c ∗ idle c)
      ⊢ iprop(Tₙ m c ∗ scopedSems0 (c : Thread nD τ) ∗ scopedBufs (c : Thread nD τ)) := by
    rw [show (dats m 0 c).Φ (Fin.last cfg0.N) = Φ₁ m c from rfl, scopedSems0_eq]
    unfold Φ₁ Tₙ
    iintro ⟨⟨Harg, Hres, HzS, HzV⟩, Hcells, Hst, Hidle⟩
    isplitl [Harg Hres]; · isplitl [Harg] <;> iassumption
    isplitr [Hst]
    · isplitr [Hidle]
      · isplitl [Hcells]; · iexact Hcells
        isplitl [HzS] <;> iassumption
      iexact Hidle
    iapply hsb'
    isplitl [Hst]; · iexact Hst
    iempintro
  unfold main T₀ kept share
  simp only [Prog.lift, Prog.bind_op, Prog.bind_ret, Prog.pure_eq_ret]
  iintro ⟨⟨Hsb, Hidle, Hop, Harg, HO, Hcr⟩, Hg, Hres⟩
  iapply (Pipeline.wp_customCall_entry_frame (pcfgs (F := F)) adm (dats m) () EP (fun _ => 0) cellOf_inj 0 defs₀ 𝒱₀ (fun k => k.elim0) c Set.univ
      (fun _ _ => Set.mem_univ _) (body_obligation m c).loose block_pos0 none (fun u hu => absurd hu (by simp))
      (X := Φ₀ m c) (Y := Tₙ m c) (R := BI.emp) (I := idle c) hsb hin hout) $$ [Hsb Hidle Harg HO Hcr Hg Hres]
  · isplitl [HO]
    · unfold Pipeline.EntryPre Pipeline.PerCore.EntryPre
      isplitr; · iapply hnoArr; iempintro
      isplitl [HO]
      · unfold Dat.owesAt Pipeline.owesWithin
        iexists ∅
        isplitr; · ipureintro; exact fun _ h => absurd h (by simp)
        iexact HO
      isplitr; · iapply hnoWait; iempintro
      isplitr; · iapply hnoInit; iempintro
      iapply hnoTok; iempintro
    isplitr; · iapply hnoTab; iempintro
    isplitl [Harg Hcr Hg Hres]
    · unfold Φ₀
      isplitl [Hg]; · iexact Hg
      isplitl [Hcr]; · iexact Hcr
      isplitl [Harg] <;> iassumption
    isplitl [Hidle] <;> iassumption
  iintro ⟨Hpost, HT, Hss, Hsb⟩
  rw [wp_ret]; imodintro
  unfold Pipeline.EntryPost Pipeline.PerCore.EntryPost Dat.owesAt Pipeline.owesWithin boundary
  icases Hpost with ⟨-, ⟨%W, -, HO⟩⟩
  isplitr [HO]
  · isplitl [HT]; · iexact HT
    isplitl [Hsb]; · iexact Hsb
    isplitl [Hss] <;> iassumption
  iexists W; iexact HO

/-- From any memory with zero counters, in any float values, every run of the pair terminates with each device's
    argument unchanged, its result at the half the other device sent, and every counter at zero. -/
theorem run_main : θ_run (defs (F := F)) (onTc (τ := τ) main) ⟨m, fun _ => 0, g⟩ fun r =>
    (∀ c : Dev nD, r.2.mem ((c : Thread nD τ).loc main_arg0) = m ((c : Thread nD τ).loc main_arg0)
      ∧ r.2.mem ((c : Thread nD τ).loc main_v1) = sent m (other c)) ∧ r.2.sem = fun _ => 0 :=
  Cert.PairLaunch.run L lv (defs (F := F)) (Variants.lift 𝒱₀) m g main O₀ (fun g h => if_neg h) u₀ (T₀ m) (Tₙ m) (start m g) (core_run m)
    (fun c s => s.mem ((c : Thread nD τ).loc main_arg0) = m ((c : Thread nD τ).loc main_arg0)
      ∧ s.mem ((c : Thread nD τ).loc main_v1) = sent m (other c))
    (fun c s' => by
      unfold Tₙ
      iintro ⟨⟨Ha, Hr⟩, HSI⟩
      icombine HSI Ha gives %ha
      icombine HSI Hr gives %hr
      imodintro
      isplitr; · ipureintro; exact ⟨Buf.eq_of_forall_mem_univ ha, Buf.eq_of_forall_mem_univ hr⟩
      iexact HSI)
    (fun s h hs => ⟨h, sem_eq_zero_of_scoped (by decide) hs⟩)

end Cert.ExchangeRun

end
-- ==== Proof.ExchangeClaim.lean ====
/- The exchange of the group gradient's halves between the two devices of a pair: the frames, and that what each
   device ends holding is its block of the plain rearrangement of the whole array. -/
module

public import proofs.«01_k».proof.Defs
public import proofs.«01_k».proof.Proof.ExchangeLaunch
public import proofs.«01_k».proof.Proof.Gen.ExchangeIdeal
public import proofs.«01_k».proof.Proof.Gen.ExchangeRefIdeal.Run
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof

/-! ## The frames -/

/-- The pair runs to its end, its arguments unchanged, every counter at zero. -/
theorem Frames.exchange : Cert.quiescent_Exchange := fun m g _ =>
  (θ_run Cert.Exchange.defs _ _).mono (fun r h => ⟨fun c => (h.1 c).1, h.2⟩) (Cert.ExchangeRun.run_main (F := Bits) m g)

/-- The ideal program is the same text over the extended reals: its run. -/
theorem exchangeIdeal_run (m : (ℓ : Loc Cert.ExchangeIdeal.nD Cert.ExchangeIdeal.τ Cert.ExchangeIdeal.sig) → Buf (Elt Ideal) ℓ)
    (g : Dev Cert.ExchangeIdeal.nD → PrngReg) :
    θ_run (Cert.ExchangeIdeal.defs (F := Ideal)) (onTc (τ := Cert.ExchangeIdeal.τ) (Cert.ExchangeIdeal.main (F := Ideal))) ⟨m, fun _ => 0, g⟩ fun r =>
      (∀ c : Dev Cert.ExchangeIdeal.nD, r.2.mem ((c : Thread Cert.ExchangeIdeal.nD Cert.ExchangeIdeal.τ).loc Cert.ExchangeIdeal.main_arg0) = m ((c : Thread Cert.ExchangeIdeal.nD Cert.ExchangeIdeal.τ).loc Cert.ExchangeIdeal.main_arg0)
        ∧ r.2.mem ((c : Thread Cert.ExchangeIdeal.nD Cert.ExchangeIdeal.τ).loc Cert.ExchangeIdeal.main_v1) = Cert.ExchangeRun.sent (F := Ideal) m (Cert.ExchangeRun.other c))
      ∧ r.2.sem = fun _ => 0 :=
  Cert.ExchangeRun.run_main (F := Ideal) m g

theorem Frames.exchangeIdeal : Cert.quiescent_ExchangeIdeal := fun m g _ =>
  (θ_run Cert.ExchangeIdeal.defs _ _).mono (fun r h => ⟨fun c => (h.1 c).1, h.2⟩) (exchangeIdeal_run m g)

theorem Frames.exchangeRef : Cert.quiescent_ExchangeRefIdeal := fun m g _ =>
  (θ_run Cert.ExchangeRefIdeal.defs _ _).mono (fun r h => ⟨fun c => (h c).2,
    sem_eq_zero_of_no_sems (by decide) r.2⟩) (Cert.ExchangeRefIdeal.Value.run (F := Ideal) m g)

/-! ## The value -/

open Cert.ExchangeRun (other sent srcM)
open Idealize.ShloMosaic.Pointwise

/-- A block with one half, its unit axis dropped. -/
theorem dropHalf {α : Type} (y : Cert.Exchange.S4x1x256x512.Idx → α) (h : Cert.Exchange.S4x1x256x512.ShapeCasts Cert.Exchange.S4x256x512)
    (p : Fin 4) (q : Fin 256) (l : Fin 512) : shapeCast Cert.Exchange.S4x256x512 y h (ix3 p q l) = y (ix4 p 0 q l) := by
  pointwise

/-- The half device `c` sends, an element at a time: its argument at the other device's half. -/
theorem sent_at {F : FTy → Type} [FloatOps F] (m : (ℓ : Loc Cert.Exchange.nD Cert.Exchange.τ Cert.Exchange.sig) → Buf (Elt F) ℓ) (c : Dev Cert.Exchange.nD)
    (p : Fin 4) (q : Fin 256) (l : Fin 512) :
    sent m c (ix3 p q l) = m ((c : Thread Cert.Exchange.nD Cert.Exchange.τ).loc Cert.Exchange.main_arg0)
      (ix4 p (other c) q l) := by
  refine (dropHalf (fun j => m ((c : Thread Cert.Exchange.nD Cert.Exchange.τ).loc Cert.Exchange.main_arg0)
    ((Rect.unit (s := Cert.Exchange.S4x2x256x512) (Cert.Exchange.k0_off1 c) Cert.Exchange.S4x1x256x512.size (Cert.Exchange.Gen.k0_off1_inb c)).emb j))
    (by decide) p q l).trans ?_
  refine congrArg _ (funext fun a => Fin.ext ?_)
  match a with
  | 0 => simp [Rect.emb, Rect.unit, Cert.Exchange.Gen.k0_off1_eq]
  | 1 =>
    simp only [Rect.emb, Rect.unit, Cert.Exchange.Gen.k0_off1_eq, ix4_1]
    match c with
    | 0 => rfl
    | 1 => rfl
  | 2 => simp [Rect.emb, Rect.unit, Cert.Exchange.Gen.k0_off1_eq]
  | 3 => simp [Rect.emb, Rect.unit, Cert.Exchange.Gen.k0_off1_eq]

/-- The first device's block of the rearranged array: the second group's first halves. -/
theorem firstPiece {α : Type} (w : Cert.ExchangeRefIdeal.S8x2x256x512.Idx → α) (h₁ h₂ h₃)
    (p : Fin 4) (q : Fin 256) (l : Fin 512) :
    shapeCast Cert.ExchangeRefIdeal.S4x256x512 (extractStridedSlice Cert.ExchangeRefIdeal.S1x4x1x256x512 ![1, 0, 0, 0, 0]
      (shapeCast Cert.ExchangeRefIdeal.S2x4x2x256x512 w h₁) h₂) h₃ (ix3 p q l) = w (ix4 ⟨4 + p.val, by omega⟩ 0 q l) := by
  pointwise

/-- The second device's: the first group's second halves. -/
theorem secondPiece {α : Type} (w : Cert.ExchangeRefIdeal.S8x2x256x512.Idx → α) (h₁ h₂ h₃)
    (p : Fin 4) (q : Fin 256) (l : Fin 512) :
    shapeCast Cert.ExchangeRefIdeal.S4x256x512 (extractStridedSlice Cert.ExchangeRefIdeal.S1x4x1x256x512 ![0, 0, 1, 0, 0]
      (shapeCast Cert.ExchangeRefIdeal.S2x4x2x256x512 w h₁) h₂) h₃ (ix3 p q l) = w (ix4 ⟨p.val, by omega⟩ 1 q l) := by
  pointwise

theorem exchange : Cert.algebraic_ExchangeIdeal_ExchangeRefIdeal := by
  intro m g m' g' _ hagree
  refine ⟨_, (θ_run Cert.ExchangeIdeal.defs _ _).mono (fun r h c => ⟨?_, (h.1 c).1⟩) (exchangeIdeal_run m g),
    (θ_run Cert.ExchangeRefIdeal.defs _ _).mono (fun r h => h 0) (Cert.ExchangeRefIdeal.Value.run (F := Ideal) m' g')⟩
  rw [(h.1 c).2]
  funext i
  obtain ⟨p, q, l, rfl⟩ : ∃ (p : Fin 4) (q : Fin 256) (l : Fin 512), i = ix3 p q l := ⟨i 0, i 1, i 2, by idx_ext⟩
  refine (sent_at (F := Ideal) m (other c) p q l).trans ?_
  have ho : other (other c) = c := by revert c; decide
  rw [Layout.block_apply, ho]
  refine (congrFun (hagree (other c)) (ix4 p c q l)).trans ?_
  rw [Layout.block_apply]
  match c with
  | 0 =>
    refine Eq.trans ?_ (concatenate_pair_apply_left (t := Cert.ExchangeRefIdeal.S8x256x512) (s₁ := Cert.ExchangeRefIdeal.S4x256x512) (s₂ := Cert.ExchangeRefIdeal.S4x256x512) 0 _ _ _ _ rfl (ix3 p q l) ?_).symm
    · rw [firstPiece]
      refine congrArg _ (funext fun a => Fin.ext ?_)
      match a with | 0 => rfl | 1 => rfl | 2 => rfl | 3 => rfl
    · intro b; match b with | 0 => simp [Layout.Tiles.idx_val] | 1 => rfl | 2 => rfl
  | 1 =>
    refine Eq.trans ?_ (concatenate_pair_apply_right (t := Cert.ExchangeRefIdeal.S8x256x512) (s₁ := Cert.ExchangeRefIdeal.S4x256x512) (s₂ := Cert.ExchangeRefIdeal.S4x256x512) 0 _ _ _ _ rfl rfl (ix3 p q l) ?_ ?_).symm
    · rw [secondPiece]
      refine congrArg _ (funext fun a => Fin.ext ?_)
      match a with | 0 => simp [Layout.Tiles.idx_val, show other 1 = 0 from rfl] | 1 => rfl | 2 => rfl | 3 => rfl
    · intro b hb; match b with | 0 => exact absurd rfl hb | 1 => rfl | 2 => rfl
    · simp [Layout.Tiles.idx_val, Nat.add_comm]

end Cert.Proof

end
-- ==== Proof.MlpDownClaim.lean ====
/- The last product of a layer: the call accumulates it in four strips of the middle axis and adds the residual; what it
   leaves is what the reference computes. -/
module

public import proofs.«01_k».proof.Defs
public import proofs.«01_k».proof.Proof.Gen.MlpDownIdeal.Frame
public import proofs.«01_k».proof.Proof.Gen.MlpDownRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDownRefIdeal.Value

open Cert.MlpDownRefIdeal Cert.MlpDownRefIdeal.Gen

/-- The reference's result: the residual plus the product. -/
def out (A : FVec Ideal S2048x8192 .bf16) (W : FVec Ideal S8192x2048 .f32) (H : FVec Ideal S2048x2048 .f32) :
    FVec Ideal S2048x2048 .f32 :=
  addf H (Host.dotGeneral dot_S2048x8192_S8192x2048_S2048x2048_1_0_0_1_n_n none (extf .f32 A bitsLt_bf16_f32) W)

/-- The part of the product that one strip of the middle axis gives. -/
def strip (A : FVec Ideal S2048x8192 .bf16) (W : FVec Ideal S8192x2048 .f32) (i j : Fin 2048) (q : Fin 4) : EReal :=
  ∑ k : Fin 2048, A (ix2 i ⟨q.val * 2048 + k.val, by omega⟩) * W (ix2 ⟨q.val * 2048 + k.val, by omega⟩ j)

theorem out_at (A : FVec Ideal S2048x8192 .bf16) (W : FVec Ideal S8192x2048 .f32) (H : FVec Ideal S2048x2048 .f32)
    (i j : Fin 2048) : out A W H (ix2 i j)
      = strip A W i j 0 + strip A W i j 1 + strip A W i j 2 + strip A W i j 3 + H (ix2 i j) := by
  rw [← Fin.sum_univ_four (strip A W i j), add_comm]
  pointwise [out]
  rw [Fin.sum_univ_tiles 4 2048 rfl]
  rfl

end Cert.MlpDownRefIdeal.Value

namespace Cert.MlpDownIdeal.Value

open Cert.MlpDownIdeal Cert.MlpDownIdeal.Gen
open Cert.MlpDownRefIdeal.Value (strip)

variable (m : (ℓ : Loc nD τ sig) → Buf (Elt Ideal) ℓ)

theorem pay1_at (x : Vec Ideal S1024x2048 .bf16) (w : Vec Ideal S2048x1024 .bf16) (i j : Fin 1024) :
    k0_pay1 x w (ix2 i j) = ∑ k : Fin 2048, x (ix2 i k) * w (ix2 k j) := by
  pointwise [k0_pay1]

theorem pay2_at (a : Vec Ideal S1024x1024 .f32) (x : Vec Ideal S1024x2048 .bf16) (w : Vec Ideal S2048x1024 .bf16)
    (i j : Fin 1024) : k0_pay2 a x w (ix2 i j) = a (ix2 i j) + k0_pay1 x w (ix2 i j) := by
  pointwise [k0_pay2, k0_pay1]

theorem pay3_at (a : Vec Ideal S1024x1024 .f32) (x : Vec Ideal S1024x2048 .bf16) (w : Vec Ideal S2048x1024 .bf16)
    (h : Vec Ideal S1024x1024 .f32) (i j : Fin 1024) :
    k0_pay3 a x w h (ix2 i j) = a (ix2 i j) + k0_pay1 x w (ix2 i j) + h (ix2 i j) := by
  pointwise [k0_pay3, k0_pay1]

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

/-- The weight as the call reads it. -/
theorem weight (c : Dev nD) (k : Fin 8192) (j : Fin 2048) :
    V m c main_v0 (ix2 k j) = m ((c : Thread nD τ).loc main_arg1) (ix2 k j) := by
  entry_read
  pointwise

/-- Row `i` of block `t`, and column `j`. -/
def row (t : Fin cfg0.N) (i : Fin 1024) : Fin 2048 :=
  ⟨t.val / 8 * 1024 + i.val, by have := lt_of_lt_of_eq t.isLt N_0; omega⟩

def col (t : Fin cfg0.N) (j : Fin 1024) : Fin 2048 := ⟨t.val / 4 % 2 * 1024 + j.val, by omega⟩

/-- The product of point `t`, of the block whose last point is `u`: its strip. -/
theorem block (c : Dev nD) (t u : Fin cfg0.N) (q : Fin 4) (hq : t.val % 4 = q.val) (hu : t.val / 4 = u.val / 4)
    (i j : Fin 1024) : k0_pay1 (iblk m c 0 t) (iblk m c 1 t) (ix2 i j)
      = strip (m ((c : Thread nD τ).loc main_arg0)) (m ((c : Thread nD τ).loc main_arg1)) (row u i) (col u j) q := by
  have hk : q = ⟨t.val % 4, Nat.mod_lt _ (by omega)⟩ := Fin.ext hq.symm
  rw [hk]
  rw [show row u i = row t i from Fin.ext (by simp only [row]; omega),
    show col u j = col t j from Fin.ext (by simp only [col]; omega), pay1_at, strip]
  refine Fin.sum_fin_congr fun k => congrArg₂ (· * ·) ?_ ?_
  · blk_point [iblk, V, idx t, row]
  · rw [← weight m c]
    blk_point [iblk, idx t, col]

/-- The accumulator after the first point of a block. -/
theorem first (c : Dev nD) (t : Fin cfg0.N) (h : t.val % 4 = 0) (i j : Fin 1024) :
    (outsAt0 m c t.val t.isLt).2 (ix2 i j) = k0_pay1 (iblk m c 0 t) (iblk m c 1 t) (ix2 i j) := by
  rw [outsAt0_A m c t h (by omega) (by omega)]
  frame_open
  frame_out

/-- After a middle point. -/
theorem next (c : Dev nD) (t : Fin cfg0.N) (h : 1 ≤ t.val % 4 ∧ t.val % 4 ≤ 2) (i j : Fin 1024) :
    (outsAt0 m c t.val t.isLt).2 (ix2 i j)
      = (outsAt0 m c (t.val - 1) (by omega)).2 (ix2 i j) + k0_pay1 (iblk m c 0 t) (iblk m c 1 t) (ix2 i j) := by
  rw [outsAt0_B m c t (by omega) h (by omega)]
  frame_open
  frame_out
  rw [pay2_at, read_unread_whole]

/-- The result. -/
theorem final3 (c : Dev nD) : (dats m 0 c).arrAt 3 (cfgs 0).N
    = Cert.MlpDownRefIdeal.Value.out (m ((c : Thread nD τ).loc main_arg0)) (m ((c : Thread nD τ).loc main_arg1))
        (m ((c : Thread nD τ).loc main_arg2)) := by
  refine (dats m 0 c).arrAt_eq_of_covers 3 _ (by decide +kernel) fun t hf y => ?_
  have ht : t.val % 4 = 3 := (flush0_3 t).mp hf
  blk_simp
  rw [after0_3, outsAt0_C m c t (by omega) (by omega) ht]
  idx_vars y
  frame_open
  frame_out
  have he : (win0_3.blk t).view.emb (ix2 y0 y1) = ix2 (row t y0) (col t y1) := by
    blk_ext [idx t, row, col]
  refine Eq.trans ?_ ((congrArg _ he).trans (Cert.MlpDownRefIdeal.Value.out_at _ _ _ _ _)).symm
  refine (pay3_at _ _ _ _ _ _).trans (congrArg₂ (· + ·) ?_ ?_)
  · have p1 : t.val - 1 < cfg0.N := lt_of_le_of_lt (Nat.sub_le _ _) t.isLt
    have p2 : t.val - 1 - 1 < cfg0.N := lt_of_le_of_lt (Nat.sub_le _ _) p1
    have p3 : t.val - 1 - 1 - 1 < cfg0.N := lt_of_le_of_lt (Nat.sub_le _ _) p2
    have h2 := next m c ⟨t.val - 1, p1⟩ (by simp only; omega) y0 y1
    have h1 := next m c ⟨t.val - 1 - 1, p2⟩ (by simp only; omega) y0 y1
    have h0 := first m c ⟨t.val - 1 - 1 - 1, p3⟩ (by simp only; omega) y0 y1
    rw [block m c _ t 2 (by simp only [Fin.val_two]; omega) (by simp only; omega)] at h2
    rw [block m c _ t 1 (by simp only [Fin.val_one]; omega) (by simp only; omega)] at h1
    rw [block m c _ t 0 (by simp only [Fin.val_zero]; omega) (by simp only; omega)] at h0
    rw [read_unread_whole, block m c t t 3 ht rfl]
    exact congrArg (· + _) (h2.trans (congrArg (· + _) (h1.trans (congrArg (· + _) h0))))
  · blk_point [iblk, V, idx t, row, col]

end Cert.MlpDownIdeal.Value

/-- From arguments that agree the two programs end with the same result. -/
theorem Cert.Proof.mlpDown : Cert.algebraic_MlpDownIdeal_MlpDownRefIdeal := by
  pair_intro
  · run_from Cert.MlpDownIdeal.Gen.run_main m g
  · run_from Cert.MlpDownRefIdeal.Value.run m' g'
    · exact (Cert.MlpDownIdeal.Value.final3 m c).symm

end
-- ==== Proof.UpDxClaim.lean ====
/- The gradient through the first product of a layer: the call accumulates it in four strips of two slabs each; what it
   leaves is what the reference computes. -/
module

public import proofs.«01_k».proof.Defs
public import proofs.«01_k».proof.Proof.Gen.UpDxIdeal.Frame
public import proofs.«01_k».proof.Proof.Gen.UpDxRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpDxRefIdeal.Value

open Cert.UpDxRefIdeal Cert.UpDxRefIdeal.Gen

/-- The reference's result: the derivative of the product in its rows. -/
def out (A : FVec Ideal S2048x8192 .bf16) (W : FVec Ideal S2048x8192 .f32) : FVec Ideal S2048x2048 .f32 :=
  Host.dotGeneral dot_S2048x8192_S2048x8192_S2048x2048_1_1_0_0_n_n none (extf .f32 A bitsLt_bf16_f32) W

/-- The part of it that one slab of the weight gives. -/
def slab (A : FVec Ideal S2048x8192 .bf16) (W : FVec Ideal S2048x8192 .f32) (i j : Fin 2048) (q : Fin 8) : EReal :=
  ∑ k : Fin 1024, A (ix2 i ⟨q.val * 1024 + k.val, by omega⟩) * W (ix2 j ⟨q.val * 1024 + k.val, by omega⟩)

theorem out_at (A : FVec Ideal S2048x8192 .bf16) (W : FVec Ideal S2048x8192 .f32) (i j : Fin 2048) :
    out A W (ix2 i j) = slab A W i j 0 + slab A W i j 1 + (slab A W i j 2 + slab A W i j 3)
      + (slab A W i j 4 + slab A W i j 5) + (slab A W i j 6 + slab A W i j 7) := by
  have e : out A W (ix2 i j) = ∑ q : Fin 8, slab A W i j q := by
    pointwise [out]
    rw [Fin.sum_univ_tiles 8 1024 rfl]
    rfl
  rw [e, Fin.sum_univ_eight]
  simp only [add_assoc]

end Cert.UpDxRefIdeal.Value

namespace Cert.UpDxIdeal.Value

open Cert.UpDxIdeal Cert.UpDxIdeal.Gen
open Cert.UpDxRefIdeal.Value (slab)

variable (m : (ℓ : Loc nD τ sig) → Buf (Elt Ideal) ℓ)

theorem pay1_at (x : Vec Ideal S1024x1024 .bf16) (w : Vec Ideal S1x1024x1024 .bf16) (y : Vec Ideal S1024x1024 .bf16)
    (v : Vec Ideal S1x1024x1024 .bf16) (i j : Fin 1024) :
    k0_pay1 x w y v (ix2 i j) = (∑ k : Fin 1024, x (ix2 i k) * w (ix3 0 j k)) + ∑ k : Fin 1024, y (ix2 i k) * v (ix3 0 j k) := by
  pointwise [k0_pay1]

theorem pay2_at (a : Vec Ideal S1024x1024 .f32) (x : Vec Ideal S1024x1024 .bf16) (w : Vec Ideal S1x1024x1024 .bf16)
    (y : Vec Ideal S1024x1024 .bf16) (v : Vec Ideal S1x1024x1024 .bf16) (i j : Fin 1024) :
    k0_pay2 a x w y v (ix2 i j) = a (ix2 i j) + k0_pay1 x w y v (ix2 i j) := by
  pointwise [k0_pay2, k0_pay1]

theorem pay3_at (a : Vec Ideal S1024x1024 .f32) (x : Vec Ideal S1024x1024 .bf16) (w : Vec Ideal S1x1024x1024 .bf16)
    (y : Vec Ideal S1024x1024 .bf16) (v : Vec Ideal S1x1024x1024 .bf16) (i j : Fin 1024) :
    k0_pay3 a x w y v (ix2 i j) = a (ix2 i j) + k0_pay1 x w y v (ix2 i j) := by
  pointwise [k0_pay3, k0_pay1]

theorem idx : ∀ t : Fin cfg0.N, win0_0.index t = ![t.val / 8, t.val % 4] ∧ win0_1.index t = ![t.val % 4, t.val / 4 % 2, 0]
    ∧ win0_2.index t = ![t.val / 8, t.val / 4 % 2] :=
  (by decide +kernel : ∀ t : Fin grid0.N, _)

/-- The weight as the call reads it: its slabs. -/
theorem weight (c : Dev nD) (q : Fin 8) (j : Fin 2048) (k : Fin 1024) :
    V m c main_v2 (ix3 q j k) = m ((c : Thread nD τ).loc main_arg1) (ix2 j ⟨q.val * 1024 + k.val, by omega⟩) := by
  entry_read
  pointwise

/-- Row `i` of block `t`, and column `j`. -/
def row (t : Fin cfg0.N) (i : Fin 1024) : Fin 2048 :=
  ⟨t.val / 8 * 1024 + i.val, by have := lt_of_lt_of_eq t.isLt N_0; omega⟩

def col (t : Fin cfg0.N) (j : Fin 1024) : Fin 2048 := ⟨t.val / 4 % 2 * 1024 + j.val, by omega⟩

/-- The product of point `t` over its two slabs. -/
def prod (c : Dev nD) (t : Fin cfg0.N) : FVec Ideal S1024x1024 .f32 :=
  k0_pay1 (View.ld (iblk m c 0 t) (Rect.unit ![0, 0] ![1024, 1024] inb_S1024x2048_S1024x1024_0_0))
    (View.ld (iblk m c 1 t) (Rect.unit ![0, 0, 0] ![1, 1024, 1024] inb_S2x1024x1024_S1x1024x1024_0_0_0))
    (View.ld (iblk m c 0 t) (Rect.unit ![0, 1024] ![1024, 1024] inb_S1024x2048_S1024x1024_0_1024))
    (View.ld (iblk m c 1 t) (Rect.unit ![1, 0, 0] ![1, 1024, 1024] inb_S2x1024x1024_S1x1024x1024_1_0_0))

theorem lower (x : Vec Ideal S2x1024x1024 .bf16) (j k : Fin 1024) :
    View.ld x (Rect.unit ![0, 0, 0] ![1, 1024, 1024] inb_S2x1024x1024_S1x1024x1024_0_0_0) (ix3 0 j k) = x (ix3 0 j k) := by
  pointwise

theorem upper (x : Vec Ideal S2x1024x1024 .bf16) (j k : Fin 1024) :
    View.ld x (Rect.unit ![1, 0, 0] ![1, 1024, 1024] inb_S2x1024x1024_S1x1024x1024_1_0_0) (ix3 0 j k) = x (ix3 1 j k) := by
  pointwise

/-- Of the block whose last point is `u`, point `t`'s product is the two slabs `q` and `q'`. -/
theorem block (c : Dev nD) (t u : Fin cfg0.N) (q q' : Fin 8) (hq : t.val % 4 * 2 = q.val) (hq' : t.val % 4 * 2 + 1 = q'.val)
    (hu : t.val / 4 = u.val / 4) (i j : Fin 1024) : prod m c t (ix2 i j)
      = slab (m ((c : Thread nD τ).loc main_arg0)) (m ((c : Thread nD τ).loc main_arg1)) (row u i) (col u j) q
        + slab (m ((c : Thread nD τ).loc main_arg0)) (m ((c : Thread nD τ).loc main_arg1)) (row u i) (col u j) q' := by
  have hi : (row u i).val = t.val / 8 * 1024 + i.val := by simp only [row]; omega
  have hj : (col u j).val = t.val / 4 % 2 * 1024 + j.val := by simp only [col]; omega
  rw [prod, pay1_at, slab, slab]
  refine congrArg₂ (· + ·) ?_ ?_ <;> refine Fin.sum_fin_congr fun k => congrArg₂ (· * ·) ?_ ?_
  · blk_point [iblk, V, idx t, hi, ← hq]
  · refine (lower _ j k).trans ((?_ : _ = V m c main_v2 (ix3 q (col u j) k)).trans (weight m c q (col u j) k))
    blk_point [iblk, idx t, hj, ← hq]
  · blk_point [iblk, V, idx t, hi, ← hq']
  · refine (upper _ j k).trans ((?_ : _ = V m c main_v2 (ix3 q' (col u j) k)).trans (weight m c q' (col u j) k))
    blk_point [iblk, idx t, hj, ← hq']

/-- The accumulator after the first point of a block. -/
theorem first (c : Dev nD) (t : Fin cfg0.N) (h : t.val % 4 = 0) (i j : Fin 1024) :
    (outsAt0 m c t.val t.isLt).2 (ix2 i j) = prod m c t (ix2 i j) := by
  rw [outsAt0_A m c t h (by omega) (by omega)]
  frame_open
  frame_out
  rfl

/-- After a middle point. -/
theorem next (c : Dev nD) (t : Fin cfg0.N) (h : 1 ≤ t.val % 4 ∧ t.val % 4 ≤ 2) (i j : Fin 1024) :
    (outsAt0 m c t.val t.isLt).2 (ix2 i j)
      = (outsAt0 m c (t.val - 1) (by omega)).2 (ix2 i j) + prod m c t (ix2 i j) := by
  rw [outsAt0_B m c t (by omega) h (by omega)]
  frame_open
  frame_out
  rw [pay2_at, read_unread_whole]
  rfl

/-- The result. -/
theorem final2 (c : Dev nD) : (dats m 0 c).arrAt 2 (cfgs 0).N
    = Cert.UpDxRefIdeal.Value.out (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have p1 : t.val - 1 < cfg0.N := lt_of_le_of_lt (Nat.sub_le _ _) t.isLt
  have p2 : t.val - 1 - 1 < cfg0.N := lt_of_le_of_lt (Nat.sub_le _ _) p1
  have p3 : t.val - 1 - 1 - 1 < cfg0.N := lt_of_le_of_lt (Nat.sub_le _ _) p2
  blk_simp
  rw [after0_2, outsAt0_C m c t (by omega) (by omega) ht]
  idx_vars y
  frame_open
  frame_out
  have he : (win0_2.blk t).view.emb (ix2 y0 y1) = ix2 (row t y0) (col t y1) := by
    blk_ext [idx t, row, col]
  refine Eq.trans ?_ ((congrArg _ he).trans (Cert.UpDxRefIdeal.Value.out_at _ _ _ _)).symm
  have h2 := next m c ⟨t.val - 1, p1⟩ (by simp only; omega) y0 y1
  have h1 := next m c ⟨t.val - 1 - 1, p2⟩ (by simp only; omega) y0 y1
  have h0 := first m c ⟨t.val - 1 - 1 - 1, p3⟩ (by simp only; omega) y0 y1
  have h3 := block m c t t 6 7 (by rw [ht]; rfl) (by rw [ht]; rfl) rfl y0 y1
  rw [block m c _ t 4 5 (by change _ = 4; simp only; omega) (by change _ = 5; simp only; omega) (by simp only; omega)] at h2
  rw [block m c _ t 2 3 (by change _ = 2; simp only; omega) (by change _ = 3; simp only; omega) (by simp only; omega)] at h1
  rw [block m c _ t 0 1 (by change _ = 0; simp only; omega) (by change _ = 1; simp only; omega) (by simp only; omega)] at h0
  rw [pay3_at, read_unread_whole]
  exact congrArg₂ (· + ·) (h2.trans (congrArg (· + _) (h1.trans (congrArg (· + _) h0)))) h3

end Cert.UpDxIdeal.Value

/-- From arguments that agree the two programs end with the same result. -/
theorem Cert.Proof.upDx : Cert.algebraic_UpDxIdeal_UpDxRefIdeal := by
  pair_intro
  · run_from Cert.UpDxIdeal.Gen.run_main m g
  · run_from Cert.UpDxRefIdeal.Value.run m' g'
    · exact (Cert.UpDxIdeal.Value.final2 m c).symm

end
-- ==== Proof.WeightClaim.lean ====
/- The weight gradient of a layer's last product, on the core's own half of the rows, plus the half received from the
   other core. The half is chosen by a prefetched table, which the host fills with the core's number, here zero; what the
   call leaves is what the reference computes. -/
module

public import proofs.«01_k».proof.Defs
public import proofs.«01_k».proof.Proof.Gen.Weight.Frame
public import proofs.«01_k».proof.Proof.Gen.WeightIdeal.Frame
public import proofs.«01_k».proof.Proof.Gen.WeightRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Weight.Gen

/-- The table the call reads: the core's number, which is zero. -/
def zero : pre0.Contents (Elt Bits) := fun | ⟨0, _⟩ => fun _ => 0#32 | ⟨_ + 1, h⟩ => absurd h (Nat.not_lt.2 (Nat.le_add_left _ _))

theorem tbl_eq (m : (ℓ : Loc nD τ sig) → Buf (Elt Bits) ℓ) : tbl m = zero := by
  funext j
  obtain rfl : j = 0 := Subsingleton.elim _ _
  funext x
  change V m 0 main_v0 x = 0#32
  entry_read
  rfl

theorem ok (m : (ℓ : Loc nD τ sig) → Buf (Elt Bits) ℓ) : Ok m := by
  unfold Ok
  rw [tbl_eq]
  decide

end Cert.Weight.Gen

namespace Cert.WeightIdeal.Gen

/-- The table the call reads: the core's number, which is zero. -/
def zero : pre0.Contents (Elt Ideal) := fun | ⟨0, _⟩ => fun _ => 0#32 | ⟨_ + 1, h⟩ => absurd h (Nat.not_lt.2 (Nat.le_add_left _ _))

theorem tbl_eq (m : (ℓ : Loc nD τ sig) → Buf (Elt Ideal) ℓ) : tbl m = zero := by
  funext j
  obtain rfl : j = 0 := Subsingleton.elim _ _
  funext x
  change V m 0 main_v0 x = 0#32
  entry_read
  rfl

theorem ok (m : (ℓ : Loc nD τ sig) → Buf (Elt Ideal) ℓ) : Ok m := by
  unfold Ok
  rw [tbl_eq]
  decide

end Cert.WeightIdeal.Gen

namespace Cert.WeightRefIdeal.Value

open Cert.WeightRefIdeal Cert.WeightRefIdeal.Gen

/-- The reference's result: the core's half of the rows of the weight gradient, plus the received one. -/
def out (A : FVec Ideal S2048x8192 .bf16) (G : FVec Ideal S2048x2048 .bf16) (r : FVec Ideal S4x1024x2048 .bf16) :
    FVec Ideal S4x1024x2048 .bf16 :=
  truncf .bf16 (addf (shapeCast _ (extractStridedSlice S4x1x1024x2048 ![0, 0, 0, 0] (shapeCast _ (transpose S8192x2048 [1, 0]
    (Host.dotGeneral dot_S2048x2048_S2048x8192_S2048x8192_0_0_1_1_n_n none (extf .f32 G bitsLt_bf16_f32)
      (extf .f32 A bitsLt_bf16_f32)) transposes_S2048x8192_S8192x2048_1_0) shapeCasts_S8192x2048_S4x2x1024x2048)
    slices_S4x2x1024x2048_S4x1x1024x2048_0_0_0_0) shapeCasts_S4x1x1024x2048_S4x1024x2048)
    (extf .f32 r bitsLt_bf16_f32)) bitsLt_bf16_f32

theorem out_at (A : FVec Ideal S2048x8192 .bf16) (G : FVec Ideal S2048x2048 .bf16) (r : FVec Ideal S4x1024x2048 .bf16)
    (p : Fin 4) (i : Fin 1024) (j : Fin 2048) : out A G r (ix3 p i j)
      = (∑ k : Fin 2048, A (ix2 k ⟨p.val * 2048 + i.val, by omega⟩) * G (ix2 k j)) + r (ix3 p i j) := by
  pointwise [out]
  refine congrArg (· + _) (Fin.sum_fin_congr fun k => (mul_comm _ _).trans ?_)
  pointwise

end Cert.WeightRefIdeal.Value

namespace Cert.WeightIdeal.Value

open Cert.WeightIdeal Cert.WeightIdeal.Gen

variable (m : (ℓ : Loc nD τ sig) → Buf (Elt Ideal) ℓ)

theorem pay1_at (x y : Vec Ideal S2048x1024 .bf16) (r : Vec Ideal S1x1024x1024 .bf16) (z : Fin 1) (i j : Fin 1024) :
    k0_pay1 x y r (ix3 z i j) = (∑ k : Fin 2048, x (ix2 k i) * y (ix2 k j)) + r (ix3 0 i j) := by
  pointwise [k0_pay1]

/-- The columns of the first operand at a point: that chip's pair of halves, the core's one. -/
theorem idx0 (t : Fin (cfgM m (ok m)).N) : ((cfgM m (ok m)).win 0).index t = ![0, t.val / 2 * 2] := by
  change cc0_transform_0 _ _ (tbl m) (grid0.coords t) = _
  rw [tbl_eq]
  exact (by decide +kernel : ∀ t : Fin grid0.N, cc0_transform_0 _ _ zero (grid0.coords t) = ![0, t.val / 2 * 2]) t

theorem idx1 (t : Fin (cfgM m (ok m)).N) : ((cfgM m (ok m)).win 1).index t = ![0, t.val % 2] :=
  (by decide +kernel : ∀ t : Fin grid0.N, cc0_transform_1 (grid0.coords t) = ![0, t.val % 2]) t

theorem idx2 (t : Fin (cfgM m (ok m)).N) : ((cfgM m (ok m)).win 2).index t = ![t.val / 2, 0, t.val % 2] :=
  (by decide +kernel : ∀ t : Fin grid0.N, cc0_transform_2 (grid0.coords t) = ![t.val / 2, 0, t.val % 2]) t

theorem idx3 (t : Fin (cfgM m (ok m)).N) : ((cfgM m (ok m)).win 3).index t = ![t.val / 2, 0, t.val % 2] :=
  (by decide +kernel : ∀ t : Fin grid0.N, cc0_transform_3 (grid0.coords t) = ![t.val / 2, 0, t.val % 2]) t

/-- The blocks of the result cover it. -/
theorem covers : ((cfgM m (ok m)).win 3).Covers :=
  (by decide +kernel : ((cfg0 ⟨zero, by decide⟩).win 3).Covers)

/-- The chip of point `t`, and the column. -/
def chip (t : Fin (cfgM m (ok m)).N) : Fin 4 := ⟨t.val / 2, by have := lt_of_lt_of_eq t.isLt N_0; omega⟩

def col (t : Fin (cfgM m (ok m)).N) (j : Fin 1024) : Fin 2048 := ⟨t.val % 2 * 1024 + j.val, by omega⟩

/-- The result. -/
theorem final3 (c : Dev nD) : (dats m (ok m) 0 c).arrAt 3 (cfgM m (ok m)).N
    = Cert.WeightRefIdeal.Value.out (m ((c : Thread nD τ).loc main_arg0)) (m ((c : Thread nD τ).loc main_arg1))
        (m ((c : Thread nD τ).loc main_arg2)) := by
  refine (dats m (ok m) 0 c).arrAt_eq_of_covers 3 _ (covers m) fun t hf y => ?_
  blk_simp
  rw [after0_3, outsAt0]
  revert y
  intro (y : S1x1024x1024.Idx)
  idx_vars y
  frame_open
  frame_out
  have he : (((cfgM m (ok m)).win 3).blk t).view.emb (ix3 y0 y1 y2) = ix3 (chip m t) y1 (col m t y2) := by
    blk_ext [idx3 m t, chip, col]
  refine Eq.trans ?_ ((congrArg _ he).trans (Cert.WeightRefIdeal.Value.out_at _ _ _ _ _ _)).symm
  rw [pay1_at]
  refine congrArg₂ (· + ·) (Fin.sum_fin_congr fun k => congrArg₂ (· * ·) ?_ ?_) ?_
  · refine (congrFun ((hs0_0 m (ok m) t).read_unread _) _).trans ?_
    have h0 : (((cfgM m (ok m)).win 0).blk t).view.emb (ix2 k y1) = ix2 k ⟨(chip m t).val * 2048 + y1.val, by omega⟩ := by
      blk_ext [idx0 m t, chip]
    exact congrArg (m ((c : Thread nD τ).loc main_arg0)) h0
  · refine (congrFun ((hs0_1 m (ok m) t).read_unread _) _).trans ?_
    have h1 : (((cfgM m (ok m)).win 1).blk t).view.emb (ix2 k y2) = ix2 k (col m t y2) := by
      blk_ext [idx1 m t, col]
    exact congrArg (m ((c : Thread nD τ).loc main_arg1)) h1
  · refine (congrFun ((hs0_2 m (ok m) t).read_unread _) _).trans ?_
    have h2 : (((cfgM m (ok m)).win 2).blk t).view.emb (ix3 0 y1 y2) = ix3 (chip m t) y1 (col m t y2) := by
      blk_ext [idx2 m t, chip, col]
    exact congrArg (m ((c : Thread nD τ).loc main_arg2)) h2

/-- The kernel's run, with its result named. -/
theorem run (g : Dev nD → PrngReg) : θ_run defs (onTc (τ := τ) (main (F := Ideal))) ⟨m, fun _ => 0, g⟩ fun r => ∀ c : Dev nD,
    r.2.mem ((c.tc : Thread nD τ).loc main_v1)
      = Cert.WeightRefIdeal.Value.out (m ((c : Thread nD τ).loc main_arg0)) (m ((c : Thread nD τ).loc main_arg1))
          (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h c).1 3).trans (final3 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c)))⟩)
    (run_main m g (ok m))

end Cert.WeightIdeal.Value

/-- From arguments that agree the two programs end with the same result. -/
theorem Cert.Proof.weight : Cert.algebraic_WeightIdeal_WeightRefIdeal := by
  pair_intro
  · run_from Cert.WeightIdeal.Value.run m g
  · run_from Cert.WeightRefIdeal.Value.run m' g'
    · rfl

end
-- ==== Proof.GroupGradClaim.lean ====
/- The weight gradient of the grouped product: the call accumulates it over two halves of the tokens; what it
   leaves is what the reference computes. -/
module

public import proofs.«01_k».proof.Defs
public import proofs.«01_k».proof.Proof.Gen.GroupGradIdeal.Frame
public import proofs.«01_k».proof.Proof.Gen.GroupGradRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupGradRefIdeal.Value

open Cert.GroupGradRefIdeal Cert.GroupGradRefIdeal.Gen

/-- The reference's result: the derivative of the grouped product in its weight. -/
def out (P G : FVec Ideal S2048x2048 .bf16) : FVec Ideal S4x512x512 .bf16 :=
  truncf .bf16 (transpose S4x512x512 [0, 2, 1] (Host.dotGeneral dot_S4x512x2048_S2048x4x512_S4x512x512_2_0_1_2_0_1 none
    (transpose S4x512x2048 [1, 2, 0] (shapeCast _ (extf .f32 G bitsLt_bf16_f32) shapeCasts_S2048x2048_S2048x4x512)
      transposes_S2048x4x512_S4x512x2048_1_2_0)
    (shapeCast _ (extf .f32 P bitsLt_bf16_f32) shapeCasts_S2048x2048_S2048x4x512))
    transposes_S4x512x512_S4x512x512_0_2_1) bitsLt_bf16_f32

/-- The column of a group's lane. -/
def lane (g : Fin 4) (i : Fin 512) : Fin 2048 := ⟨g.val * 512 + i.val, by omega⟩

/-- One token's product in a group's weight gradient, summed over one half of the tokens. -/
def strip (P G : FVec Ideal S2048x2048 .bf16) (g : Fin 4) (i j : Fin 512) (q : Fin 2) : EReal :=
  ∑ k : Fin 1024, P (ix2 ⟨q.val * 1024 + k.val, by omega⟩ (lane g i)) * G (ix2 ⟨q.val * 1024 + k.val, by omega⟩ (lane g j))

theorem out_at (P G : FVec Ideal S2048x2048 .bf16) (g : Fin 4) (i j : Fin 512) :
    out P G (ix3 g i j) = strip P G g i j 0 + strip P G g i j 1 := by
  rw [← Fin.sum_univ_two (strip P G g i j)]
  pointwise [out]
  rw [Fin.sum_univ_tiles 2 1024 rfl]
  refine Fin.sum_fin_congr fun q => Fin.sum_fin_congr fun k => (mul_comm _ _).trans ?_
  pointwise [lane]

end Cert.GroupGradRefIdeal.Value

namespace Cert.GroupGradIdeal.Value

open Cert.GroupGradIdeal Cert.GroupGradIdeal.Gen
open Cert.GroupGradRefIdeal.Value (strip lane)

variable (m : (ℓ : Loc nD τ sig) → Buf (Elt Ideal) ℓ)

theorem pay1_at (x y : Vec Ideal S1024x512 .bf16) (i j : Fin 512) :
    k0_pay1 x y (ix2 i j) = ∑ k : Fin 1024, x (ix2 k i) * y (ix2 k j) := by
  pointwise [k0_pay1]

theorem pay2_at (a : Vec Ideal S512x512 .f32) (x y : Vec Ideal S1024x512 .bf16) (z : Fin 1) (i j : Fin 512) :
    k0_pay2 a x y (ix3 z i j) = a (ix2 i j) + k0_pay1 x y (ix2 i j) := by
  pointwise [k0_pay2, k0_pay1]

theorem idx : ∀ t : Fin cfg0.N, win0_0.index t = ![t.val % 2, t.val / 2] ∧ win0_1.index t = ![t.val % 2, t.val / 2]
    ∧ win0_2.index t = ![t.val / 2, 0, 0] :=
  (by decide +kernel : ∀ t : Fin grid0.N, _)

/-- The group of point `t`. -/
def grp (t : Fin cfg0.N) : Fin 4 := ⟨t.val / 2, by have := lt_of_lt_of_eq t.isLt N_0; omega⟩

/-- The product of point `t`, of the group `g`: its half of the tokens. -/
theorem block (c : Dev nD) (t : Fin cfg0.N) (g : Fin 4) (q : Fin 2) (hq : t.val % 2 = q.val) (hg : t.val / 2 = g.val)
    (i j : Fin 512) : k0_pay1 (iblk m c 0 t) (iblk m c 1 t) (ix2 i j)
      = strip (m ((c : Thread nD τ).loc main_arg0)) (m ((c : Thread nD τ).loc main_arg1)) g i j q := by
  rw [pay1_at, strip]
  refine Fin.sum_fin_congr fun k => congrArg₂ (· * ·) ?_ ?_
  · simp only [← hq, ← hg, lane]
    blk_point [iblk, V, idx t]
  · simp only [← hq, ← hg, lane]
    blk_point [iblk, V, idx t]

/-- The accumulator after the first point of a group. -/
theorem first (c : Dev nD) (t : Fin cfg0.N) (h : t.val % 2 = 0) (i j : Fin 512) :
    (outsAt0 m c t.val t.isLt).2 (ix2 i j) = k0_pay1 (iblk m c 0 t) (iblk m c 1 t) (ix2 i j) := by
  rw [outsAt0_A m c t h (by omega)]
  frame_open
  frame_out

/-- The result. -/
theorem final2 (c : Dev nD) : (dats m 0 c).arrAt 2 (cfgs 0).N
    = Cert.GroupGradRefIdeal.Value.out (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hp : t.val - 1 < cfg0.N := lt_of_le_of_lt (Nat.sub_le _ _) t.isLt
  blk_simp
  rw [after0_2, outsAt0_B m c t (by omega) ht]
  idx_vars y
  frame_open
  frame_out
  have he : (win0_2.blk t).view.emb (ix3 y0 y1 y2) = ix3 (grp t) y1 y2 := by
    blk_ext [idx t, grp]
  refine Eq.trans ?_ ((congrArg _ he).trans (Cert.GroupGradRefIdeal.Value.out_at _ _ _ _ _)).symm
  have h0 := first m c ⟨t.val - 1, hp⟩ (by simp only; omega) y1 y2
  rw [block m c _ (grp t) 0 (by simp only [Fin.val_zero]; omega) (by simp only [grp]; omega)] at h0
  rw [pay2_at, read_unread_whole, block m c t (grp t) 1 ht rfl]
  exact congrArg (· + _) h0

end Cert.GroupGradIdeal.Value

/-- From arguments that agree the two programs end with the same result. -/
theorem Cert.Proof.groupGrad : Cert.algebraic_GroupGradIdeal_GroupGradRefIdeal := by
  pair_intro
  · run_from Cert.GroupGradIdeal.Gen.run_main m g
  · run_from Cert.GroupGradRefIdeal.Value.run m' g'
    · exact (Cert.GroupGradIdeal.Value.final2 m c).symm

end
-- ==== Proof.AddSibClaim.lean ====
/- The sum of a core's own half of a gradient and the half received from the other core. The half is chosen by a
   prefetched table, which the host fills with the core's number, here zero; what the call leaves is what the reference
   computes. -/
module

public import proofs.«01_k».proof.Defs
public import proofs.«01_k».proof.Proof.Gen.AddSib.Frame
public import proofs.«01_k».proof.Proof.Gen.AddSibIdeal.Frame
public import proofs.«01_k».proof.Proof.Gen.AddSibRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AddSib.Gen

/-- The table the call reads: the core's number, which is zero. -/
def zero : pre0.Contents (Elt Bits) := fun | ⟨0, _⟩ => fun _ => 0#32 | ⟨_ + 1, h⟩ => absurd h (Nat.not_lt.2 (Nat.le_add_left _ _))

theorem tbl_eq (m : (ℓ : Loc nD τ sig) → Buf (Elt Bits) ℓ) : tbl m = zero := by
  funext j
  obtain rfl : j = 0 := Subsingleton.elim _ _
  funext x
  change V m 0 main_v0 x = 0#32
  entry_read
  rfl

theorem ok (m : (ℓ : Loc nD τ sig) → Buf (Elt Bits) ℓ) : Ok m := by
  unfold Ok
  rw [tbl_eq]
  decide

end Cert.AddSib.Gen

namespace Cert.AddSibIdeal.Gen

/-- The table the call reads: the core's number, which is zero. -/
def zero : pre0.Contents (Elt Ideal) := fun | ⟨0, _⟩ => fun _ => 0#32 | ⟨_ + 1, h⟩ => absurd h (Nat.not_lt.2 (Nat.le_add_left _ _))

theorem tbl_eq (m : (ℓ : Loc nD τ sig) → Buf (Elt Ideal) ℓ) : tbl m = zero := by
  funext j
  obtain rfl : j = 0 := Subsingleton.elim _ _
  funext x
  change V m 0 main_v0 x = 0#32
  entry_read
  rfl

theorem ok (m : (ℓ : Loc nD τ sig) → Buf (Elt Ideal) ℓ) : Ok m := by
  unfold Ok
  rw [tbl_eq]
  decide

end Cert.AddSibIdeal.Gen

namespace Cert.AddSibRefIdeal.Value

open Cert.AddSibRefIdeal Cert.AddSibRefIdeal.Gen

/-- The reference's result: the core's half plus the received one. -/
def out (f : FVec Ideal S4x2x256x512 .bf16) (r : FVec Ideal S4x256x512 .bf16) : FVec Ideal S4x256x512 .bf16 :=
  truncf .bf16 (addf (extf .f32 (shapeCast _ (extractStridedSlice S4x1x256x512 ![0, 0, 0, 0] f
    slices_S4x2x256x512_S4x1x256x512_0_0_0_0) shapeCasts_S4x1x256x512_S4x256x512) bitsLt_bf16_f32)
    (extf .f32 r bitsLt_bf16_f32)) bitsLt_bf16_f32

theorem out_at (f : FVec Ideal S4x2x256x512 .bf16) (r : FVec Ideal S4x256x512 .bf16) (g : Fin 4) (i : Fin 256) (j : Fin 512) :
    out f r (ix3 g i j) = f (ix4 g 0 i j) + r (ix3 g i j) := by
  pointwise [out]

end Cert.AddSibRefIdeal.Value

namespace Cert.AddSibIdeal.Value

open Cert.AddSibIdeal Cert.AddSibIdeal.Gen

variable (m : (ℓ : Loc nD τ sig) → Buf (Elt Ideal) ℓ)

theorem pay1_at (f : Vec Ideal S1x1x256x512 .bf16) (r : Vec Ideal S1x256x512 .bf16) (z : Fin 1) (i : Fin 256) (j : Fin 512) :
    k0_pay1 f r (ix3 z i j) = f (ix4 0 0 i j) + r (ix3 0 i j) := by
  pointwise [k0_pay1]

/-- The block of the gradient at a point: that group, the core's half. -/
theorem idx0 (t : Fin (cfgM m (ok m)).N) : ((cfgM m (ok m)).win 0).index t = ![t.val, 0, 0, 0] := by
  change cc0_transform_0 _ _ (tbl m) (grid0.coords t) = _
  rw [tbl_eq]
  exact (by decide +kernel : ∀ t : Fin grid0.N, cc0_transform_0 _ _ zero (grid0.coords t) = ![t.val, 0, 0, 0]) t

theorem idx1 (t : Fin (cfgM m (ok m)).N) : ((cfgM m (ok m)).win 1).index t = ![t.val, 0, 0] :=
  (by decide +kernel : ∀ t : Fin grid0.N, cc0_transform_1 (grid0.coords t) = ![t.val, 0, 0]) t

theorem idx2 (t : Fin (cfgM m (ok m)).N) : ((cfgM m (ok m)).win 2).index t = ![t.val, 0, 0] :=
  (by decide +kernel : ∀ t : Fin grid0.N, cc0_transform_2 (grid0.coords t) = ![t.val, 0, 0]) t

/-- The blocks of the result cover it. -/
theorem covers : ((cfgM m (ok m)).win 2).Covers :=
  (by decide +kernel : ((cfg0 ⟨zero, by decide⟩).win 2).Covers)

/-- The group of point `t`. -/
def grp (t : Fin (cfgM m (ok m)).N) : Fin 4 := ⟨t.val, lt_of_lt_of_eq t.isLt N_0⟩

/-- The result. -/
theorem final2 (c : Dev nD) : (dats m (ok m) 0 c).arrAt 2 (cfgM m (ok m)).N
    = Cert.AddSibRefIdeal.Value.out (m ((c : Thread nD τ).loc main_arg0)) (m ((c : Thread nD τ).loc main_arg1)) := by
  refine (dats m (ok m) 0 c).arrAt_eq_of_covers 2 _ (covers m) fun t hf y => ?_
  blk_simp
  rw [after0_2, outsAt0]
  revert y
  intro (y : S1x256x512.Idx)
  idx_vars y
  frame_open
  frame_out
  have he : (((cfgM m (ok m)).win 2).blk t).view.emb (ix3 y0 y1 y2) = ix3 (grp m t) y1 y2 := by
    blk_ext [idx2 m t, grp]
  refine Eq.trans ?_ ((congrArg _ he).trans (Cert.AddSibRefIdeal.Value.out_at _ _ _ _ _)).symm
  rw [pay1_at]
  refine congrArg₂ (· + ·) ?_ ?_
  · refine (congrFun ((hs0_0 m (ok m) t).read_unread _) _).trans ?_
    have h0 : (((cfgM m (ok m)).win 0).blk t).view.emb (ix4 0 0 y1 y2) = ix4 (grp m t) 0 y1 y2 := by
      blk_ext [idx0 m t, grp]
    exact congrArg (m ((c : Thread nD τ).loc main_arg0)) h0
  · refine (congrFun ((hs0_1 m (ok m) t).read_unread _) _).trans ?_
    have h1 : (((cfgM m (ok m)).win 1).blk t).view.emb (ix3 0 y1 y2) = ix3 (grp m t) y1 y2 := by
      blk_ext [idx1 m t, grp]
    exact congrArg (m ((c : Thread nD τ).loc main_arg1)) h1

/-- The kernel's run, with its result named. -/
theorem run (g : Dev nD → PrngReg) : θ_run defs (onTc (τ := τ) (main (F := Ideal))) ⟨m, fun _ => 0, g⟩ fun r => ∀ c : Dev nD,
    r.2.mem ((c.tc : Thread nD τ).loc main_v1)
      = Cert.AddSibRefIdeal.Value.out (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1 2).trans (final2 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩)
    (run_main m g (ok m))

end Cert.AddSibIdeal.Value

/-- From arguments that agree the two programs end with the same result. -/
theorem Cert.Proof.addSib : Cert.algebraic_AddSibIdeal_AddSibRefIdeal := by
  pair_intro
  · run_from Cert.AddSibIdeal.Value.run m g
  · run_from Cert.AddSibRefIdeal.Value.run m' g'
    · rfl

end
-- ==== Proof.SmallAdamClaim.lean ====
/- The optimiser's step of the small weights: the call works on the rows of eight arrays in turn, the reference on all the
   rows at once, cut into the eight arrays afterwards. -/
module

public import proofs.«01_k».proof.Defs
public import proofs.«01_k».proof.Proof.Gen.SmallAdam.Frame
public import proofs.«01_k».proof.Proof.Gen.SmallAdamIdeal.Value
public import proofs.«01_k».proof.Proof.Gen.SmallAdamRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SmallAdamIdeal.Value

open Cert.SmallAdamIdeal Cert.SmallAdamIdeal.Gen

/-- The `n` rows from row `k` on, loaded by the call, are the slice that the reference cuts. -/
theorem rows (k n : ℕ) (x : Vec Ideal S1146x128 .f32) (h : ∀ a, ![k, 0] a + (⟨2, ![n, 128]⟩ : Shape).size a ≤ S1146x128.size a) :
    View.ld x (Rect.unit (s := S1146x128) ![k, 0] (⟨2, ![n, 128]⟩ : Shape).size h) = extractStridedSlice ⟨2, ![n, 128]⟩ ![k, 0] x ⟨rfl, h⟩ := by
  funext y
  exact congrArg x (funext fun a => Fin.ext (by
    match a with
    | 0 => simp [Rect.emb, Rect.unit]
    | 1 => simp [Rect.emb, Rect.unit]))

end Cert.SmallAdamIdeal.Value

set_option maxHeartbeats 2000000 in
/-- From arguments that agree the two programs end with the same steps and the same moments, array by array. -/
theorem Cert.Proof.smallAdam : Cert.algebraic_SmallAdamIdeal_SmallAdamRefIdeal := by
  pair_intro
  · run_from Cert.SmallAdamIdeal.Value.run m g
  · run_from Cert.SmallAdamRefIdeal.Value.run m' g'
    all_goals
      generalize m ((c.tc : Thread Cert.SmallAdamIdeal.nD Cert.SmallAdamIdeal.τ).loc Cert.SmallAdamIdeal.main_arg0) = G
      generalize m ((c.tc : Thread Cert.SmallAdamIdeal.nD Cert.SmallAdamIdeal.τ).loc Cert.SmallAdamIdeal.main_arg1) = W
      generalize m ((c.tc : Thread Cert.SmallAdamIdeal.nD Cert.SmallAdamIdeal.τ).loc Cert.SmallAdamIdeal.main_arg2) = M
      generalize m ((c.tc : Thread Cert.SmallAdamIdeal.nD Cert.SmallAdamIdeal.τ).loc Cert.SmallAdamIdeal.main_arg3) = N
      try simp only [Cert.SmallAdamIdeal.Gen.k0_pay29, Cert.SmallAdamIdeal.Gen.k0_pay30, Cert.SmallAdamIdeal.Gen.k0_pay31, Cert.SmallAdamIdeal.Gen.k0_pay32, Cert.SmallAdamIdeal.Gen.k0_pay33]
      simp only [Cert.SmallAdamIdeal.Value.rows]
      rfl

end
-- ==== Proof.SmallSumClaim.lean ====
/- The sum of the small gradients over the eight devices: the device's own part stands in the place that a prefetched
   number names, whatever that number is; what the call leaves is what the reference computes. -/
module

public import proofs.«01_k».proof.Defs
public import proofs.«01_k».proof.Proof.Gen.SmallSum.Frame
public import proofs.«01_k».proof.Proof.Gen.SmallSumIdeal.Frame
public import proofs.«01_k».proof.Proof.Gen.SmallSumRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SmallSumRefIdeal.Value

open Cert.SmallSumRefIdeal Cert.SmallSumRefIdeal.Gen

/-- The reference's result: the parts of the devices, one of them replaced by the device's own, summed. -/
def out (g : FVec Ideal S8x1161x128 .f32) (o : FVec Ideal S1161x128 .f32) (d : IVec S1 32) : FVec Ideal S1161x128 .f32 :=
  Host.reduceAdd (select (broadcastInDim S8x1161x128 ![0, 1, 2] bcast_S8x1x1_S8x1161x128_0_1_2
      (broadcastInDim S8x1x1 ![0] bcast_S8_S8x1x1_0 (cmpi .eq (iotaInDim S8 32 0)
        (broadcastInDim S8 ![] bcast_S_S8 (shapeCast _ d shapeCasts_S1_S_)))))
    (broadcastInDim S8x1161x128 ![0, 1, 2] bcast_S1x1161x128_S8x1161x128_0_1_2
      (broadcastInDim S1x1161x128 ![1, 2] bcast_S1161x128_S1x1161x128_1_2 o)) g)
    (constant S_ .f32 0x00000000#32) reducesTo_S8x1161x128_S1161x128_d0 h_S_

/-- The part of device `q`, the own one in the place `d`. -/
def part (g : FVec Ideal S8x1161x128 .f32) (o : FVec Ideal S1161x128 .f32) (d : BitVec 32) (q : Fin 8) (i : Fin 1161) (j : Fin 128) : EReal :=
  Scalar.select (IntOp.cmpi .eq (BitVec.ofNat 32 q.val) d) (o (ix2 i j)) (g (ix3 q i j))

theorem out_at (g : FVec Ideal S8x1161x128 .f32) (o : FVec Ideal S1161x128 .f32) (d : IVec S1 32) (i : Fin 1161) (j : Fin 128) :
    out g o d (ix2 i j) = ∑ q : Fin 8, part g o (d (ix1 0)) q i j := by
  pointwise [out, part]

end Cert.SmallSumRefIdeal.Value

namespace Cert.SmallSumIdeal.Value

open Cert.SmallSumIdeal Cert.SmallSumIdeal.Gen
open Cert.SmallSumRefIdeal.Value (part)

variable (m : (ℓ : Loc nD τ sig) → Buf (Elt Ideal) ℓ)

theorem ok : Ok m := trivial

theorem idx0 (t : Fin (cfgM m (ok m)).N) : ((cfgM m (ok m)).win 0).index t = ![0, 0, 0] :=
  (by decide +kernel : ∀ t : Fin grid0.N, cc0_transform_0 (grid0.coords t) = ![0, 0, 0]) t

theorem idx1 (t : Fin (cfgM m (ok m)).N) : ((cfgM m (ok m)).win 1).index t = ![0, 0] :=
  (by decide +kernel : ∀ t : Fin grid0.N, cc0_transform_1 (grid0.coords t) = ![0, 0]) t

theorem idx2 (t : Fin (cfgM m (ok m)).N) : ((cfgM m (ok m)).win 2).index t = ![0, 0] :=
  (by decide +kernel : ∀ t : Fin grid0.N, cc0_transform_2 (grid0.coords t) = ![0, 0]) t

/-- A table of numbers: the blocks of the result do not depend on it. -/
def zero : pre0.Contents (Elt Ideal) := fun | ⟨0, _⟩ => fun _ => 0#32 | ⟨_ + 1, h⟩ => absurd h (Nat.not_lt.2 (Nat.le_add_left _ _))

/-- The one block of the result covers it. -/
theorem covers : ((cfgM m (ok m)).win 2).Covers :=
  (by decide +kernel : ((cfg0 ⟨zero, trivial⟩).win 2).Covers)

/-- Part `q` of the gathered ones, as the call loads it. -/
theorem slab (x : Vec Ideal S8x1161x128 .f32) (q : ℕ) (hq : q < 8)
    (h : ∀ a, ![q, 0, 0] a + S1x1161x128.size a ≤ S8x1161x128.size a) (i : Fin 1161) (j : Fin 128) :
    View.ld x (Rect.unit (s := S8x1161x128) ![q, 0, 0] S1x1161x128.size h) (ix3 0 i j) = x (ix3 ⟨q, hq⟩ i j) := by
  refine congrArg x (funext fun a => Fin.ext ?_)
  match a with
  | 0 => simp [Rect.emb, Rect.unit]
  | 1 => simp [Rect.emb, Rect.unit]
  | 2 => simp [Rect.emb, Rect.unit]

/-- Whether a number is that of a device may be asked either way round. -/
theorem swap (a b : BitVec 32) : IntOp.cmpi .eq a b = IntOp.cmpi .eq b a := by
  simp only [IntOp.cmpi, Bool.beq_comm (a := a)]

/-- What the body stores: the eight parts summed. -/
theorem sum_at (d : BitVec 32) (x : Vec Ideal S8x1161x128 .f32) (o : Vec Ideal S1161x128 .f32) (i : Fin 1161) (j : Fin 128) :
    k0_pay1 d o (k0_pay2 d o
        (View.ld x (Rect.unit ![0, 0, 0] ![1, 1161, 128] inb_S8x1161x128_S1x1161x128_0_0_0))
        (View.ld x (Rect.unit ![1, 0, 0] ![1, 1161, 128] inb_S8x1161x128_S1x1161x128_1_0_0))
        (View.ld x (Rect.unit ![2, 0, 0] ![1, 1161, 128] inb_S8x1161x128_S1x1161x128_2_0_0))
        (View.ld x (Rect.unit ![3, 0, 0] ![1, 1161, 128] inb_S8x1161x128_S1x1161x128_3_0_0))
        (View.ld x (Rect.unit ![4, 0, 0] ![1, 1161, 128] inb_S8x1161x128_S1x1161x128_4_0_0))
        (View.ld x (Rect.unit ![5, 0, 0] ![1, 1161, 128] inb_S8x1161x128_S1x1161x128_5_0_0))) 6#32
        (View.ld x (Rect.unit ![6, 0, 0] ![1, 1161, 128] inb_S8x1161x128_S1x1161x128_6_0_0))
        (View.ld x (Rect.unit ![7, 0, 0] ![1, 1161, 128] inb_S8x1161x128_S1x1161x128_7_0_0)) (ix2 i j)
      = ∑ q : Fin 8, part x o d q i j := by
  rw [Fin.sum_univ_eight]
  pointwise [k0_pay1, k0_pay2, part]
  simp only [swap _ d]
  rfl

/-- The result. -/
theorem final2 (c : Dev nD) : (dats m (ok m) 0 c).arrAt 2 (cfgM m (ok m)).N
    = Cert.SmallSumRefIdeal.Value.out (m ((c : Thread nD τ).loc main_arg0)) (m ((c : Thread nD τ).loc main_arg1))
      (m ((c : Thread nD τ).loc main_arg2)) := by
  refine (dats m (ok m) 0 c).arrAt_eq_of_covers 2 _ (covers m) fun t hf y => ?_
  blk_simp
  rw [after0_2, outsAt0]
  revert y
  intro (y : S1161x128.Idx)
  idx_vars y
  frame_open
  frame_out
  have he : (((cfgM m (ok m)).win 2).blk t).view.emb (ix2 y0 y1) = ix2 y0 y1 := by
    blk_ext [idx2 m t]
  refine Eq.trans ?_ ((congrArg _ he).trans (Cert.SmallSumRefIdeal.Value.out_at _ _ _ _ _)).symm
  have h0 : View.read (Elt Ideal) (ms0_0 m (ok m) t).view ((hs0_0 m (ok m) t).unread (iblk m (ok m) c 0 t))
      = m ((c : Thread nD τ).loc main_arg0) := by
    refine ((hs0_0 m (ok m) t).read_unread _).trans (funext fun (z : S8x1161x128.Idx) => ?_)
    idx_vars z
    exact congrArg (m ((c : Thread nD τ).loc main_arg0)) (by blk_ext [idx0 m t])
  have h1 : View.read (Elt Ideal) (ms0_1 m (ok m) t).view ((hs0_1 m (ok m) t).unread (iblk m (ok m) c 1 t))
      = m ((c : Thread nD τ).loc main_arg1) := by
    refine ((hs0_1 m (ok m) t).read_unread _).trans (funext fun (z : S1161x128.Idx) => ?_)
    idx_vars z
    exact congrArg (m ((c : Thread nD τ).loc main_arg1)) (by blk_ext [idx1 m t])
  rw [h0, h1]
  have h2 (h) : View.readAt (Elt Ideal) (View.whole main_arg2) (Rect.unit ![0] ![1] inb_S1_S1_0).toLoadRect
      (tbl m 0) (Shape.Idx.first h) = m ((c : Thread nD τ).loc main_arg2) (ix1 0) := by
    obtain rfl : c = 0 := Subsingleton.elim _ _
    exact congrArg (m (((0 : Dev nD) : Thread nD τ).loc main_arg2))
      (funext fun a => match a with | 0 => Subsingleton.elim (α := Fin 1) _ _)
  rw [h2]
  exact sum_at _ _ _ _ _

/-- The kernel's run, with its result named. -/
theorem run (g : Dev nD → PrngReg) : θ_run defs (onTc (τ := τ) (main (F := Ideal))) ⟨m, fun _ => 0, g⟩ fun r => ∀ c : Dev nD,
    r.2.mem ((c.tc : Thread nD τ).loc main_v0)
      = Cert.SmallSumRefIdeal.Value.out (m ((c : Thread nD τ).loc main_arg0)) (m ((c : Thread nD τ).loc main_arg1))
        (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h c).1 2).trans (final2 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).2 main_arg2 (by decide : main_arg2 ∈ Pipeline.restRefs sig spec0)).trans (V_main_arg2 m c)⟩)
    (run_main m g (ok m))

end Cert.SmallSumIdeal.Value

/-- From arguments that agree the two programs end with the same result. -/
theorem Cert.Proof.smallSum : Cert.algebraic_SmallSumIdeal_SmallSumRefIdeal := by
  pair_intro
  · run_from Cert.SmallSumIdeal.Value.run m g
  · run_from Cert.SmallSumRefIdeal.Value.run m' g'
    · rfl

end
-- ==== Proof.ReduceBody.lean ====
module

public import proofs.«01_k».proof.Proof.Gen.ReduceIdeal.Launch
public import proofs.«01_k».proof.Proof.Gen.ReduceIdeal.Skeleton
public import Idealize.ShloMosaic.Lib.Pipeline.FrameValue
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ReduceIdeal.Hand

open Cert.ReduceIdeal Cert.ReduceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The buffers the body is handed, each as a whole memref -/

abbrev tab : Memref sig .tc .smem S1 .i32 := Memref.whole main_v0
abbrev inP : Memref sig .tc .hbm S4x256x512 .bf16 := Memref.whole main_arg0
abbrev inR : Memref sig .tc .hbm S3x256x512 .bf16 := Memref.whole main_arg1
abbrev inW : Memref sig .tc .hbm S1x256x512 .f32 := Memref.whole main_arg2
abbrev inM : Memref sig .tc .hbm S1x256x512 .f32 := Memref.whole main_arg3
abbrev inV : Memref sig .tc .hbm S1x256x512 .f32 := Memref.whole main_arg4
abbrev outG : Memref sig .tc .hbm S1x256x512 .f32 := Memref.whole main_v1_0
abbrev outD : Memref sig .tc .hbm S1x256x512 .f32 := Memref.whole main_v1_1
abbrev outM : Memref sig .tc .hbm S1x256x512 .f32 := Memref.whole main_v1_2
abbrev outV : Memref sig .tc .hbm S1x256x512 .f32 := Memref.whole main_v1_3
abbrev bufP : Memref sig .tc .vmem S3x256x512 .bf16 := Memref.whole cc0_scratch0
abbrev bufR : Memref sig .tc .vmem S3x3x256x512 .bf16 := Memref.whole cc0_scratch1
abbrev bufW : Memref sig .tc .vmem S3x256x512 .f32 := Memref.whole cc0_scratch2
abbrev bufM : Memref sig .tc .vmem S3x256x512 .f32 := Memref.whole cc0_scratch3
abbrev bufV : Memref sig .tc .vmem S3x256x512 .f32 := Memref.whole cc0_scratch4
abbrev accG : Memref sig .tc .vmem S2x256x512 .f32 := Memref.whole cc0_scratch5
abbrev accD : Memref sig .tc .vmem S2x256x512 .f32 := Memref.whole cc0_scratch6
abbrev accM : Memref sig .tc .vmem S2x256x512 .f32 := Memref.whole cc0_scratch7
abbrev accV : Memref sig .tc .vmem S2x256x512 .f32 := Memref.whole cc0_scratch8

/-- A buffer's contents on core `c`, and the buffer held whole at them. -/
abbrev Con (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Con (F := F) c M) : sProp 𝕄 :=
  M.view.loc (c : Thread nD τ) ↦{fullShare} f
/-- A semaphore of the core at zero. -/
abbrev idle (c : Dev nD) (n : Fin 23) : sProp 𝕄 := semVal ((c : Thread nD τ), SemLoc.dma n) 0
/-- The table, half of it, all zero. -/
abbrev zeroTab (c : Dev nD) : sProp 𝕄 := tab.view.loc (c : Thread nD τ) ↦{fullShare.right} (fun _ => 0#32 : Con (F := F) c tab)

/-- Chip 0's slab lies inside the array and at whole words. -/
theorem slab0 : k0_chk1 0#32 := ⟨by decide, by decide⟩

set_option maxHeartbeats 4000000 in
def bodyRun (i : grid0.Coords) (c : Dev nD) (p : Con (F := F) c inP) (r : Con (F := F) c inR) (w : Con (F := F) c inW) (m : Con (F := F) c inM) (v : Con (F := F) c inV)
    (og : Con (F := F) c outG) (od : Con (F := F) c outD) (om : Con (F := F) c outM) (ov : Con (F := F) c outV)
    (bp : Con (F := F) c bufP) (br : Con (F := F) c bufR) (bw : Con (F := F) c bufW) (bm : Con (F := F) c bufM) (bv : Con (F := F) c bufV)
    (ag : Con (F := F) c accG) (ad : Con (F := F) c accD) (am : Con (F := F) c accM) (av : Con (F := F) c accV) :
    { o : Con (F := F) c outG × Con (F := F) c outD × Con (F := F) c outM × Con (F := F) c outV //
      ∀ (W : Waits sig Unit) (K : PUnit → sProp 𝕄),
        iprop(zeroTab (F := F) c ∗ held c inP p ∗ held c inR r ∗ held c inW w ∗ held c inM m ∗ held c inV v
            ∗ held c outG og ∗ held c outD od ∗ held c outM om ∗ held c outV ov
            ∗ held c bufP bp ∗ held c bufR br ∗ held c bufW bw ∗ held c bufM bm ∗ held c bufV bv
            ∗ held c accG ag ∗ held c accD ad ∗ held c accM am ∗ held c accV av
            ∗ idle (F := F) c 0 ∗ idle (F := F) c 1 ∗ idle (F := F) c 2 ∗ idle (F := F) c 3 ∗ idle (F := F) c 4
            ∗ idle (F := F) c 15 ∗ idle (F := F) c 16 ∗ idle (F := F) c 17 ∗ idle (F := F) c 18
            ∗ owes (c : Thread nD τ) 0 W
            ∗ (iprop(zeroTab (F := F) c ∗ held c inP p ∗ held c inR r ∗ held c inW w ∗ held c inM m ∗ held c inV v
                ∗ held c outG o.1 ∗ held c outD o.2.1 ∗ held c outM o.2.2.1 ∗ held c outV o.2.2.2
                ∗ (∃ f, held c bufP f) ∗ (∃ f, held c bufR f) ∗ (∃ f, held c bufW f) ∗ (∃ f, held c bufM f) ∗ (∃ f, held c bufV f)
                ∗ (∃ f, held c accG f) ∗ (∃ f, held c accD f) ∗ (∃ f, held c accM f) ∗ (∃ f, held c accV f)
                ∗ idle (F := F) c 0 ∗ idle (F := F) c 1 ∗ idle (F := F) c 2 ∗ idle (F := F) c 3 ∗ idle (F := F) c 4
                ∗ idle (F := F) c 15 ∗ idle (F := F) c 16 ∗ idle (F := F) c 17 ∗ idle (F := F) c 18
                ∗ (∃ W', owes (c : Thread nD τ) 0 W')) -∗ K ⟨⟩))
          ⊢ wp frame (wpE (defs₀ (F := F)) Variants.none c none) Set.univ
              (cc0_mixb_grads_reduce_adam_1 i tab (Memref.isWhole_whole _) inP (Memref.isWhole_whole _) inR (Memref.isWhole_whole _)
                inW (Memref.isWhole_whole _) inM (Memref.isWhole_whole _) inV (Memref.isWhole_whole _)
                outG (Memref.isWhole_whole _) outD (Memref.isWhole_whole _) outM (Memref.isWhole_whole _) outV (Memref.isWhole_whole _)
                bufP (Memref.isWhole_whole _) bufR (Memref.isWhole_whole _) bufW (Memref.isWhole_whole _) bufM (Memref.isWhole_whole _)
                bufV (Memref.isWhole_whole _) accG (Memref.isWhole_whole _) accD (Memref.isWhole_whole _) accM (Memref.isWhole_whole _)
                accV (Memref.isWhole_whole _) cc0_scratch9 cc0_scratch10) K } := by
  refine ⟨⟨?_, ?_, ?_, ?_⟩, fun W K => ?run⟩
  case run =>
    simp only [cc0_mixb_grads_reduce_adam_1_eq_skeleton]; unfold cc0_mixb_grads_reduce_adam_1_skel
    simp only [k0_part1_eq_skeleton, k0_part2_eq_skeleton, k0_part3_eq_skeleton, k0_part4_eq_skeleton, k0_part5_eq_skeleton, k0_part6_eq_skeleton]
    iintro ⟨Ht, Hp, Hr, Hw, Hm, Hv, Hog, Hod, Hom, Hov, Hbp, Hbr, Hbw, Hbm, Hbv, Hag, Had, Ham, Hav,
      Hs0, Hs1, Hs2, Hs3, Hs4, Hs15, Hs16, Hs17, Hs18, HW, Hk⟩
    sl_exec (disch := exact slab0)
    sl_step
    iapply Hk
    isplitl [Ht]; · iexact Ht
    isplitl [Hp]; · iexact Hp
    isplitl [Hr]; · iexact Hr
    isplitl [Hw]; · iexact Hw
    isplitl [Hm]; · iexact Hm
    isplitl [Hv]; · iexact Hv
    isplitl [Hog]; · iexact Hog
    isplitl [Hod]; · iexact Hod
    isplitl [Hom]; · iexact Hom
    isplitl [Hov]; · iexact Hov
    isplitl [Hbp]; · iexists _; iexact Hbp
    isplitl [Hbr]; · iexists _; iexact Hbr
    isplitl [Hbw]; · iexists _; iexact Hbw
    isplitl [Hbm]; · iexists _; iexact Hbm
    isplitl [Hbv]; · iexists _; iexact Hbv
    isplitl [Hag]; · iexists _; iexact Hag
    isplitl [Had]; · iexists _; iexact Had
    isplitl [Ham]; · iexists _; iexact Ham
    isplitl [Hav]; · iexists _; iexact Hav
    isplitl [Hs0]; · iexact Hs0
    isplitl [Hs1]; · iexact Hs1
    isplitl [Hs2]; · iexact Hs2
    isplitl [Hs3]; · iexact Hs3
    isplitl [Hs4]; · iexact Hs4
    isplitl [Hs15]; · iexact Hs15
    isplitl [Hs16]; · iexact Hs16
    isplitl [Hs17]; · iexact Hs17
    isplitl [Hs18]; · iexact Hs18
    iexists _; iexact HW

end Cert.ReduceIdeal.Hand

end
-- ==== Proof.ReduceOut.lean ====
module

public import proofs.«01_k».proof.Proof.ReduceBody
public import Idealize.ShloMosaic.Lib.ValueLayout
public import Idealize.ShloMosaic.Lib.Pointwise

@[expose] public section

set_option maxRecDepth 16384

noncomputable section

namespace Cert.ReduceIdeal.Hand

open Cert.ReduceIdeal Cert.ReduceIdeal.Gen
open Idealize.ShloMosaic Idealize.ShloMosaic.TcCoe

variable {F : FTy → Type} [FloatOps F]

/-! ## A transfer between slabs of like shape, read back

The body moves slabs of one leading entry, that entry dropped on both sides. -/

/-- What one slab held, moved with its leading entry dropped into another slab, is what the other slab then holds. -/
theorem carried {κ κ' : Kind} {sp sp' : Space} {s s' : Shape} {e : EltTy} (a : Memref sig κ sp s e) (b : Memref sig κ' sp' s e)
    (h : s.Squeezes s') (f : a.view.ty.Contents (Elt F)) (g : b.view.ty.Contents (Elt F)) :
    b.view.read (Elt F) ((b.squeeze s' h).view.write (Elt F) g ((a.squeeze s' h).view.read (Elt F) f) Finset.univ)
      = a.view.read (Elt F) f := by
  funext x
  have hb := congrFun (View.read_write_univ (v := (b.squeeze s' h).view) g ((a.squeeze s' h).view.read (Elt F) f))
    ((Shape.reshapeEquiv h.numel_eq).symm x)
  have hx : Shape.reshapeEquiv h.numel_eq ((Shape.reshapeEquiv h.numel_eq).symm x) = x := Equiv.apply_symm_apply _ _
  have h1 : (b.squeeze s' h).view.emb ((Shape.reshapeEquiv h.numel_eq).symm x) = b.view.emb x := congrArg b.view.emb hx
  have h2 : (a.squeeze s' h).view.emb ((Shape.reshapeEquiv h.numel_eq).symm x) = a.view.emb x := congrArg a.view.emb hx
  rw [View.read_apply, View.read_apply, h1, h2] at hb
  exact hb

/-! ## The values the body computes from -/

/-- Chip 0's part, and part `k` of the received ones. -/
def mine (p : Vec F S4x256x512 .bf16) : Vec F S1x256x512 .bf16 := fun y => p (ix3 0 (y 1) (y 2))
def theirs (r : Vec F S3x256x512 .bf16) (k : Fin 3) : Vec F S1x1x256x512 .bf16 := fun y => r (ix3 k (y 2) (y 3))

abbrev slab4 : Rect S4x256x512 := Rect.unit (k0_off1 0#32) S1x256x512.size slab0.1
abbrev slab3 : Rect S3x256x512 := Rect.unit ![0, 0, 0] S1x256x512.size inb_S3x256x512_S1x256x512_0_0_0
abbrev slab2 : Rect S2x256x512 := Rect.unit ![0, 0, 0] S1x256x512.size inb_S2x256x512_S1x256x512_0_0_0
abbrev slab1 : Rect S1x256x512 := Rect.unit ![0, 0, 0] S1x256x512.size inb_S1x256x512_S1x256x512_0_0_0

theorem slab1_emb (y : S1x256x512.Idx) : slab1.emb y = y := funext fun a => Fin.ext <| by
  match a with
  | 0 => simp [Rect.emb, Rect.unit]
  | 1 => simp [Rect.emb, Rect.unit]
  | 2 => simp [Rect.emb, Rect.unit]

theorem slab4_emb (y : S1x256x512.Idx) : slab4.emb y = ix3 0 (y 1) (y 2) := funext fun a => Fin.ext <| by
  match a with
  | 0 => simpa [Rect.emb, Rect.unit, k0_off1] using Nat.lt_one_iff.mp (y 0).isLt
  | 1 => simp [Rect.emb, Rect.unit, k0_off1]
  | 2 => simp [Rect.emb, Rect.unit, k0_off1]

theorem v60_eq (c : Dev nD) (p : Con (F := F) c inP) (bp : Con (F := F) c bufP) : bodyRun.sl.v60 c p bp = mine p :=
  (carried (inP.slice slab4 fun _ => rfl) (bufP.slice slab3 fun _ => rfl) squeezes_S1x256x512_S256x512 p bp).trans
    (funext fun y => congrArg p (slab4_emb y))

theorem v78_eq (c : Dev nD) (w : Con (F := F) c inW) (bw : Con (F := F) c bufW) : bodyRun.sl.v78 c w bw = w :=
  (carried (inW.slice slab1 fun _ => rfl) (bufW.slice slab3 fun _ => rfl) squeezes_S1x256x512_S256x512 w bw).trans
    (funext fun y => congrArg w (slab1_emb y))
theorem v80_eq (c : Dev nD) (w : Con (F := F) c inM) (bw : Con (F := F) c bufM) : bodyRun.sl.v80 c w bw = w :=
  (carried (inM.slice slab1 fun _ => rfl) (bufM.slice slab3 fun _ => rfl) squeezes_S1x256x512_S256x512 w bw).trans
    (funext fun y => congrArg w (slab1_emb y))
theorem v82_eq (c : Dev nD) (w : Con (F := F) c inV) (bw : Con (F := F) c bufV) : bodyRun.sl.v82 c w bw = w :=
  (carried (inV.slice slab1 fun _ => rfl) (bufV.slice slab3 fun _ => rfl) squeezes_S1x256x512_S256x512 w bw).trans
    (funext fun y => congrArg w (slab1_emb y))

/-! The three received parts land in one transfer and are loaded one by one. -/

theorem full3_emb (y : S3x256x512.Idx) :
    (Rect.unit (s := S3x256x512) ![0, 0, 0] S3x256x512.size inb_S3x256x512_S3x256x512_0_0_0).emb y = y := funext fun a => Fin.ext <| by
  match a with
  | 0 => simp [Rect.emb, Rect.unit]
  | 1 => simp [Rect.emb, Rect.unit]
  | 2 => simp [Rect.emb, Rect.unit]

/-- The receiving buffer once the three parts have landed. -/
def landing (c : Dev nD) (r : Con (F := F) c inR) (br : Con (F := F) c bufR) : Con (F := F) c bufR :=
  View.write (Elt F) ((bufR.slice (Rect.unit ![0, 0, 0, 0] S1x3x256x512.size inb_S3x3x256x512_S1x3x256x512_0_0_0_0)
    fun _ => rfl).squeeze S3x256x512 squeezes_S1x3x256x512_S3x256x512).view br (bodyRun.sl.dma1_1 c r) Finset.univ

theorem landed (c : Dev nD) (r : Con (F := F) c inR) (br : Con (F := F) c bufR) (k : Fin 3) (i : Fin 256) (j : Fin 512) :
    landing c r br (ix4 0 k i j) = r (ix3 k i j) := by
  have h := congrFun (View.read_write_univ (v := ((bufR.slice (Rect.unit ![0, 0, 0, 0] S1x3x256x512.size inb_S3x3x256x512_S1x3x256x512_0_0_0_0)
        fun _ => rfl).squeeze S3x256x512 squeezes_S1x3x256x512_S3x256x512).view) br (bodyRun.sl.dma1_1 c r)) (ix3 k i j)
  rw [View.read_apply] at h
  have he : ((bufR.slice (Rect.unit ![0, 0, 0, 0] S1x3x256x512.size inb_S3x3x256x512_S1x3x256x512_0_0_0_0)
        fun _ => rfl).squeeze S3x256x512 squeezes_S1x3x256x512_S3x256x512).view.emb (ix3 k i j) = ix4 0 k i j := by
    refine (congrArg (Rect.unit (s := S3x3x256x512) ![0, 0, 0, 0] S1x3x256x512.size inb_S3x3x256x512_S1x3x256x512_0_0_0_0).emb
      (ValueIdx.reshapeEquiv_ix3_1abc squeezes_S1x3x256x512_S3x256x512.numel_eq k i j)).trans (funext fun a => Fin.ext ?_)
    match a with
    | 0 => simp [Rect.emb, Rect.unit]
    | 1 => simp [Rect.emb, Rect.unit]
    | 2 => simp [Rect.emb, Rect.unit]
    | 3 => simp [Rect.emb, Rect.unit]
  rw [he] at h
  exact h.trans (congrArg r (full3_emb (ix3 k i j)))

theorem row4 (k : ℕ) (hk : k < 3) (h : ∀ a, ![0, k, 0, 0] a + S1x1x256x512.size a ≤ S3x3x256x512.size a) (y : S1x1x256x512.Idx) :
    (Rect.unit (s := S3x3x256x512) ![0, k, 0, 0] S1x1x256x512.size h).emb y = ix4 0 ⟨k, hk⟩ (y 2) (y 3) := funext fun a => Fin.ext <| by
  match a with
  | 0 => simpa [Rect.emb, Rect.unit] using Nat.lt_one_iff.mp (y 0).isLt
  | 1 => simpa [Rect.emb, Rect.unit] using Nat.lt_one_iff.mp (y 1).isLt
  | 2 => simp [Rect.emb, Rect.unit]
  | 3 => simp [Rect.emb, Rect.unit]

theorem v63_eq (c : Dev nD) (r : Con (F := F) c inR) (br : Con (F := F) c bufR) : bodyRun.sl.v63 c r br = theirs r 0 := funext fun y =>
  (congrArg (landing c r br) (row4 0 (by decide) inb_S3x3x256x512_S1x1x256x512_0_0_0_0 y)).trans (landed c r br 0 (y 2) (y 3))
theorem v67_eq (c : Dev nD) (r : Con (F := F) c inR) (br : Con (F := F) c bufR) : bodyRun.sl.v67 c r br = theirs r 1 := funext fun y =>
  (congrArg (landing c r br) (row4 1 (by decide) inb_S3x3x256x512_S1x1x256x512_0_1_0_0 y)).trans (landed c r br 1 (y 2) (y 3))
theorem v71_eq (c : Dev nD) (r : Con (F := F) c inR) (br : Con (F := F) c bufR) : bodyRun.sl.v71 c r br = theirs r 2 := funext fun y =>
  (congrArg (landing c r br) (row4 2 (by decide) inb_S3x3x256x512_S1x1x256x512_0_2_0_0 y)).trans (landed c r br 2 (y 2) (y 3))

/-! ## What the body leaves in the results -/

/-- Chip 0's part and two received ones, added. -/
def partial3 (p : Vec F S4x256x512 .bf16) (r : Vec F S3x256x512 .bf16) : FVec F S256x512 .f32 :=
  k0_pay1 (mine p) (theirs r 0) (theirs r 1)
def outGv (p : Vec F S4x256x512 .bf16) (r : Vec F S3x256x512 .bf16) : Vec F S1x256x512 .f32 := k0_pay3 (partial3 p r) (theirs r 2)
def outDv (p : Vec F S4x256x512 .bf16) (r : Vec F S3x256x512 .bf16) (w m v : Vec F S1x256x512 .f32) : Vec F S1x256x512 .f32 :=
  k0_pay7 (k0_pay6 (partial3 p r) (theirs r 2) w m v)
def outMv (p : Vec F S4x256x512 .bf16) (r : Vec F S3x256x512 .bf16) (m : Vec F S1x256x512 .f32) : Vec F S1x256x512 .f32 :=
  k0_pay8 (k0_pay4 (partial3 p r) (theirs r 2) m)
def outVv (p : Vec F S4x256x512 .bf16) (r : Vec F S3x256x512 .bf16) (v : Vec F S1x256x512 .f32) : Vec F S1x256x512 .f32 :=
  k0_pay9 (k0_pay5 (partial3 p r) (theirs r 2) v)

section Run

variable (i : grid0.Coords) (c : Dev nD) (p : Con (F := F) c inP) (r : Con (F := F) c inR) (w : Con (F := F) c inW) (m : Con (F := F) c inM) (v : Con (F := F) c inV)
    (og : Con (F := F) c outG) (od : Con (F := F) c outD) (om : Con (F := F) c outM) (ov : Con (F := F) c outV)
    (bp : Con (F := F) c bufP) (br : Con (F := F) c bufR) (bw : Con (F := F) c bufW) (bm : Con (F := F) c bufM) (bv : Con (F := F) c bufV)
    (ag : Con (F := F) c accG) (ad : Con (F := F) c accD) (am : Con (F := F) c accM) (av : Con (F := F) c accV)

theorem r1_eq : bodyRun.sl.r_1 c p r bp br = partial3 p r := by
  unfold bodyRun.sl.r_1 partial3
  rw [v60_eq, v63_eq, v67_eq]

theorem r2_eq : bodyRun.sl.r_2 c p r m bp br bm = k0_pay4 (partial3 p r) (theirs r 2) m := by
  unfold bodyRun.sl.r_2
  rw [r1_eq, v71_eq, v80_eq]
theorem r3_eq : bodyRun.sl.r_3 c p r v bp br bv = k0_pay5 (partial3 p r) (theirs r 2) v := by
  unfold bodyRun.sl.r_3
  rw [r1_eq, v71_eq, v82_eq]
theorem r4_eq : bodyRun.sl.r_4 c p r w m v bp br bw bm bv = k0_pay6 (partial3 p r) (theirs r 2) w m v := by
  unfold bodyRun.sl.r_4
  rw [r1_eq, v71_eq, v78_eq, v80_eq, v82_eq]

theorem outG_eq : (bodyRun i c p r w m v og od om ov bp br bw bm bv ag ad am av).1.1 = outGv p r := by
  have h := carried (F := F) (accG.slice slab2 fun _ => rfl) (outG.slice slab1 fun _ => rfl) squeezes_S1x256x512_S256x512
    (accG.view.writes (Elt F) ag (bodyRun.sl.Hag_1 c p r bp br)) og
  have hr : (accG.slice slab2 fun _ => rfl).view.read (Elt F) (accG.view.writes (Elt F) ag (bodyRun.sl.Hag_1 c p r bp br))
      = k0_pay3 (bodyRun.sl.r_1 c p r bp br) (bodyRun.sl.v71 c r br) := View.read_write_univ (v := (accG.slice slab2 fun _ => rfl).view) _ _
  rw [hr, r1_eq, v71_eq] at h
  exact (funext fun y => (congrArg _ (slab1_emb y)).symm).trans h

theorem outD_eq : (bodyRun i c p r w m v og od om ov bp br bw bm bv ag ad am av).1.2.1 = outDv p r w m v := by
  have h := carried (F := F) (accD.slice slab2 fun _ => rfl) (outD.slice slab1 fun _ => rfl) squeezes_S1x256x512_S256x512
    (accD.view.writes (Elt F) ad (bodyRun.sl.Had_1 c p r w m v bp br bw bm bv)) od
  have hr : (accD.slice slab2 fun _ => rfl).view.read (Elt F) (accD.view.writes (Elt F) ad (bodyRun.sl.Had_1 c p r w m v bp br bw bm bv))
      = k0_pay7 (bodyRun.sl.r_4 c p r w m v bp br bw bm bv) := View.read_write_univ (v := (accD.slice slab2 fun _ => rfl).view) _ _
  rw [hr, r4_eq] at h
  exact (funext fun y => (congrArg _ (slab1_emb y)).symm).trans h

theorem outM_eq : (bodyRun i c p r w m v og od om ov bp br bw bm bv ag ad am av).1.2.2.1 = outMv p r m := by
  have h := carried (F := F) (accM.slice slab2 fun _ => rfl) (outM.slice slab1 fun _ => rfl) squeezes_S1x256x512_S256x512
    (accM.view.writes (Elt F) am (bodyRun.sl.Ham_1 c p r m bp br bm)) om
  have hr : (accM.slice slab2 fun _ => rfl).view.read (Elt F) (accM.view.writes (Elt F) am (bodyRun.sl.Ham_1 c p r m bp br bm))
      = k0_pay8 (bodyRun.sl.r_2 c p r m bp br bm) := View.read_write_univ (v := (accM.slice slab2 fun _ => rfl).view) _ _
  rw [hr, r2_eq] at h
  exact (funext fun y => (congrArg _ (slab1_emb y)).symm).trans h

theorem outV_eq : (bodyRun i c p r w m v og od om ov bp br bw bm bv ag ad am av).1.2.2.2 = outVv p r v := by
  have h := carried (F := F) (accV.slice slab2 fun _ => rfl) (outV.slice slab1 fun _ => rfl) squeezes_S1x256x512_S256x512
    (accV.view.writes (Elt F) av (bodyRun.sl.Hav_1 c p r v bp br bv)) ov
  have hr : (accV.slice slab2 fun _ => rfl).view.read (Elt F) (accV.view.writes (Elt F) av (bodyRun.sl.Hav_1 c p r v bp br bv))
      = k0_pay9 (bodyRun.sl.r_3 c p r v bp br bv) := View.read_write_univ (v := (accV.slice slab2 fun _ => rfl).view) _ _
  rw [hr, r3_eq] at h
  exact (funext fun y => (congrArg _ (slab1_emb y)).symm).trans h

end Run

end Cert.ReduceIdeal.Hand

end
-- ==== Proof.ReduceRun.lean ====
module

public import proofs.«01_k».proof.Proof.ReduceOut
public import Idealize.ShloMosaic.Lib.Claim

@[expose] public section

set_option maxRecDepth 16384

noncomputable section

namespace Cert.ReduceIdeal.Hand

open Cert.ReduceIdeal Cert.ReduceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the kernel -/

/-- Core `c`'s buffers when the kernel is entered: the table has been filled with zeros. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the two host operations leave alone is found as launched. -/
theorem V_keep (c : Dev nD) (b : Ref sig .tc) (h1 : b ≠ main_c) (h2 : b ≠ main_v0) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h1, StableHlo.devRef_ne_of_ne h2⟩))

/-- The table's contents. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem tbl_zero : tbl m 0 = fun _ => 0#32 := by
  unfold tbl
  show StableHlo.after hostOps0 (fun b => m (0, b)) (Proc.devRef .tc main_v0) = _
  after_results_simp
  rfl

theorem PhiT0_eq (c : Dev nD) : (Pipeline.ΦT pre0 (tbl m) c : sProp 𝕄) = zeroTab c := by
  unfold Pipeline.ΦT Pipeline.prefHeld
  rw [show (Finset.univ : Finset (Fin 1)) = {(0 : Fin 1)} from by decide, bigSep_singleton, tbl_zero]
  rfl

/-! ## What the body owns beside the windows -/

abbrev osem0 : Fin 9 → SemLoc sig := fun j =>
  (![SemLoc.dma 0, SemLoc.dma 1, SemLoc.dma 2, SemLoc.dma 3, SemLoc.dma 4, SemLoc.dma 15, SemLoc.dma 16, SemLoc.dma 17, SemLoc.dma 18] : Fin 9 → SemLoc sig) j
theorem ownSemFacts0 : Pipeline.OwnSemFacts spec0 osem0 := by decide
/-- The arguments, read; the results, written. -/
def H0 : Finset (Ref sig .tc) := {main_arg0, main_arg1, main_arg2, main_arg3, main_arg4}
def R0 : Finset (Ref sig .tc) := {main_v1_0, main_v1_1, main_v1_2, main_v1_3}
theorem H0_sub : H0 ⊆ Pipeline.restRefsP sig pre0 spec0 := by decide
theorem R0_sub : R0 ⊆ Pipeline.restRefsP sig pre0 spec0 \ H0 := by decide

/-- The buffers when the kernel is done: the four results at their values, the others as found. -/
def G (c : Dev nD) : (b : Ref sig .tc) → Buf (Elt F) ((c : Thread nD τ).loc b) :=
  Function.update (Function.update (Function.update (Function.update (V m c)
    main_v1_0 (outGv (V m c main_arg0) (V m c main_arg1)))
    main_v1_1 (outDv (V m c main_arg0) (V m c main_arg1) (V m c main_arg2) (V m c main_arg3) (V m c main_arg4)))
    main_v1_2 (outMv (V m c main_arg0) (V m c main_arg1) (V m c main_arg3)))
    main_v1_3 (outVv (V m c main_arg0) (V m c main_arg1) (V m c main_arg4))

theorem G_0 (c : Dev nD) : G m c main_v1_0 = outGv (V m c main_arg0) (V m c main_arg1) := by
  unfold G
  rw [Function.update_of_ne (by decide), Function.update_of_ne (by decide), Function.update_of_ne (by decide), Function.update_self]
theorem G_1 (c : Dev nD) : G m c main_v1_1 = outDv (V m c main_arg0) (V m c main_arg1) (V m c main_arg2) (V m c main_arg3) (V m c main_arg4) := by
  unfold G
  rw [Function.update_of_ne (by decide), Function.update_of_ne (by decide), Function.update_self]
theorem G_2 (c : Dev nD) : G m c main_v1_2 = outMv (V m c main_arg0) (V m c main_arg1) (V m c main_arg3) := by
  unfold G
  rw [Function.update_of_ne (by decide), Function.update_self]
theorem G_3 (c : Dev nD) : G m c main_v1_3 = outVv (V m c main_arg0) (V m c main_arg1) (V m c main_arg4) := by
  unfold G
  rw [Function.update_self]

/-- What the body owns, conjunct by conjunct, the results at `W`. -/
theorem Phi_eq (c : Dev nD) (W : (c : Dev nD) → (b : Ref sig .tc) → Buf (Elt F) ((c : Thread nD τ).loc b)) :
    (Pipeline.ΦDRG osem0 spec0 H0 R0 (V m) W c : sProp 𝕄)
      = iprop(iprop((∃ f, held c bufP f) ∗ (∃ f, held c bufR f) ∗ (∃ f, held c bufW f) ∗ (∃ f, held c bufM f) ∗ (∃ f, held c bufV f)
                ∗ (∃ f, held c accG f) ∗ (∃ f, held c accD f) ∗ (∃ f, held c accM f) ∗ (∃ f, held c accV f))
          ∗ (∃ r, prngReg c r)
          ∗ iprop(idle c 0 ∗ idle c 1 ∗ idle c 2 ∗ idle c 3 ∗ idle c 4 ∗ idle c 15 ∗ idle c 16 ∗ idle c 17 ∗ idle c 18)
          ∗ iprop(held c inP (V m c main_arg0) ∗ held c inR (V m c main_arg1) ∗ held c inW (V m c main_arg2)
              ∗ held c inM (V m c main_arg3) ∗ held c inV (V m c main_arg4))
          ∗ iprop(held c outG (W c main_v1_0) ∗ held c outD (W c main_v1_1) ∗ held c outM (W c main_v1_2) ∗ held c outV (W c main_v1_3))) := by
  rw [Pipeline.ΦDRG_eq, scopedRest0_eq, Pipeline.ownSems0_eq_of_list c osem0 [0, 1, 2, 3, 4, 5, 6, 7, 8] (by decide) (by decide),
    BI.bigSep_eq_bigSepL_of_eq (S := H0) [main_arg0, main_arg1, main_arg2, main_arg3, main_arg4] (by decide) (by decide)]
  unfold Pipeline.routed
  rw [BI.bigSep_eq_bigSepL_of_eq (S := R0) [main_v1_0, main_v1_1, main_v1_2, main_v1_3] (by decide) (by decide)]
  rfl

/-! ## The proof data and the body obligation -/

/-- Before the one grid point the results are as found, after it at their values. -/
def dats (_ : Fin 1) (c : Dev nD) : Dat τ (Elt F) Unit ℕ (Pipeline.UD sig nD τ) ℕ (cfgM m) c where
  A w := V m c (Pipeline.arrRef spec0 w)
  after w _ := w.elim0
  Φ t := iprop(Pipeline.ΦDRG osem0 spec0 H0 R0 (V m) (if t.val = 0 then V m else G m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem Phi_first (c : Dev nD) : (dats m 0 c).Φ (t0_0 : Fin (cfgM m).N).castSucc
    = iprop(Pipeline.ΦDRG osem0 spec0 H0 R0 (V m) (V m) c ∗ Pipeline.ΦT pre0 (tbl m) c) := rfl
theorem Phi_second (c : Dev nD) : (dats m 0 c).Φ (t0_0 : Fin (cfgM m).N).succ
    = iprop(Pipeline.ΦDRG osem0 spec0 H0 R0 (V m) (G m) c ∗ Pipeline.ΦT pre0 (tbl m) c) := rfl

abbrev bodyAt0 : Prog (TpuEff nD τ sig (Elt F) Λ₀ .tc) PUnit :=
  cc0_mixb_grads_reduce_adam_1 (grid0.coords t0_0) tab (Memref.isWhole_whole _) inP (Memref.isWhole_whole _) inR (Memref.isWhole_whole _)
    inW (Memref.isWhole_whole _) inM (Memref.isWhole_whole _) inV (Memref.isWhole_whole _)
    outG (Memref.isWhole_whole _) outD (Memref.isWhole_whole _) outM (Memref.isWhole_whole _) outV (Memref.isWhole_whole _)
    bufP (Memref.isWhole_whole _) bufR (Memref.isWhole_whole _) bufW (Memref.isWhole_whole _) bufM (Memref.isWhole_whole _)
    bufV (Memref.isWhole_whole _) accG (Memref.isWhole_whole _) accD (Memref.isWhole_whole _) accM (Memref.isWhole_whole _)
    accV (Memref.isWhole_whole _) cc0_scratch9 cc0_scratch10

theorem sound_body (c : Dev nD) :
    iprop((dats m 0 c).Φ (t0_0 : Fin (cfgM m).N).castSucc ∗ (dats m 0 c).owesAt () (t0_0 : Fin (cfgM m).N).castSucc)
      ⊢ wp frame (wpE (defs₀ (F := F)) Variants.none c none) Set.univ bodyAt0 (fun _ =>
        iprop((dats m 0 c).Φ (t0_0 : Fin (cfgM m).N).succ ∗ (dats m 0 c).owesAt () (t0_0 : Fin (cfgM m).N).succ)) := by
  rw [Phi_first, Phi_second, PhiT0_eq, Phi_eq, Phi_eq, G_0, G_1, G_2, G_3]
  unfold Dat.owesAt Pipeline.owesWithin
  rw [show (dats m 0 c).owed (t0_0 : Fin (cfgM m).N).castSucc = 0 from rfl, show (dats m 0 c).owed (t0_0 : Fin (cfgM m).N).succ = 0 from rfl]
  iintro ⟨⟨⟨⟨⟨%bp, Hbp⟩, ⟨%br, Hbr⟩, ⟨%bw, Hbw⟩, ⟨%bm, Hbm⟩, ⟨%bv, Hbv⟩, ⟨%ag, Hag⟩, ⟨%ad, Had⟩, ⟨%am, Ham⟩, ⟨%av, Hav⟩⟩, Hg,
    ⟨Hs0, Hs1, Hs2, Hs3, Hs4, Hs15, Hs16, Hs17, Hs18⟩, ⟨Hp, Hr, Hw, Hm, Hv⟩, ⟨Hog, Hod, Hom, Hov⟩⟩, Ht⟩, ⟨%W, -, HW⟩⟩
  have run := (bodyRun (F := F) (grid0.coords t0_0) c (V m c main_arg0) (V m c main_arg1) (V m c main_arg2) (V m c main_arg3) (V m c main_arg4)
    (V m c main_v1_0) (V m c main_v1_1) (V m c main_v1_2) (V m c main_v1_3) bp br bw bm bv ag ad am av).2
  rw [outG_eq, outD_eq, outM_eq, outV_eq] at run
  iapply (run W _)
  isplitl [Ht]; · iexact Ht
  isplitl [Hp]; · iexact Hp
  isplitl [Hr]; · iexact Hr
  isplitl [Hw]; · iexact Hw
  isplitl [Hm]; · iexact Hm
  isplitl [Hv]; · iexact Hv
  isplitl [Hog]; · iexact Hog
  isplitl [Hod]; · iexact Hod
  isplitl [Hom]; · iexact Hom
  isplitl [Hov]; · iexact Hov
  isplitl [Hbp]; · iexact Hbp
  isplitl [Hbr]; · iexact Hbr
  isplitl [Hbw]; · iexact Hbw
  isplitl [Hbm]; · iexact Hbm
  isplitl [Hbv]; · iexact Hbv
  isplitl [Hag]; · iexact Hag
  isplitl [Had]; · iexact Had
  isplitl [Ham]; · iexact Ham
  isplitl [Hav]; · iexact Hav
  isplitl [Hs0]; · iexact Hs0
  isplitl [Hs1]; · iexact Hs1
  isplitl [Hs2]; · iexact Hs2
  isplitl [Hs3]; · iexact Hs3
  isplitl [Hs4]; · iexact Hs4
  isplitl [Hs15]; · iexact Hs15
  isplitl [Hs16]; · iexact Hs16
  isplitl [Hs17]; · iexact Hs17
  isplitl [Hs18]; · iexact Hs18
  isplitl [HW]; · iexact HW
  iintro ⟨Ht, Hp, Hr, Hw, Hm, Hv, Hog, Hod, Hom, Hov, Hbp, Hbr, Hbw, Hbm, Hbv, Hag, Had, Ham, Hav,
    Hs0, Hs1, Hs2, Hs3, Hs4, Hs15, Hs16, Hs17, Hs18, ⟨%W', HW'⟩⟩
  isplitr [HW']
  · isplitr [Ht]
    · isplitl [Hbp Hbr Hbw Hbm Hbv Hag Had Ham Hav]
      · isplitl [Hbp]; · iexact Hbp
        isplitl [Hbr]; · iexact Hbr
        isplitl [Hbw]; · iexact Hbw
        isplitl [Hbm]; · iexact Hbm
        isplitl [Hbv]; · iexact Hbv
        isplitl [Hag]; · iexact Hag
        isplitl [Had]; · iexact Had
        isplitl [Ham]; · iexact Ham
        iexact Hav
      isplitl [Hg]; · iexact Hg
      isplitl [Hs0 Hs1 Hs2 Hs3 Hs4 Hs15 Hs16 Hs17 Hs18]
      · isplitl [Hs0]; · iexact Hs0
        isplitl [Hs1]; · iexact Hs1
        isplitl [Hs2]; · iexact Hs2
        isplitl [Hs3]; · iexact Hs3
        isplitl [Hs4]; · iexact Hs4
        isplitl [Hs15]; · iexact Hs15
        isplitl [Hs16]; · iexact Hs16
        isplitl [Hs17]; · iexact Hs17
        iexact Hs18
      isplitl [Hp Hr Hw Hm Hv]
      · isplitl [Hp]; · iexact Hp
        isplitl [Hr]; · iexact Hr
        isplitl [Hw]; · iexact Hw
        isplitl [Hm]; · iexact Hm
        iexact Hv
      isplitl [Hog]; · iexact Hog
      isplitl [Hod]; · iexact Hod
      isplitl [Hom]; · iexact Hom
      iexact Hov
    iexact Ht
  iexists W'; isplitr; · ipureintro; exact fun _ _ => Or.inl trivial
  iexact HW'

theorem defs₀_row : defs₀ (F := F) .tc (cfgM m).body ((cfgM m).bodyArgs t0_0 ((cfgM m).slots t0_0)) = bodyAt0 := by
  unfold defs₀; rw [Defs.onTc_tc]

/-- No operand is staged. -/
theorem bigSep_W0 (Φ : Fin 0 → sProp 𝕄) : bigSep Finset.univ Φ = (BI.emp : sProp 𝕄) := bigSep_univ_eq_bigSepL [] (by decide) (by decide) Φ

theorem body_obligation (c : Dev nD) : BodyObligation (dats (F := F) m 0 c) (defs₀ (F := F)) Variants.none () Set.univ := fun t => by
  obtain rfl := fin_N0 t
  have e : ∀ P : sProp 𝕄, iprop(P ∗ BI.emp) = P := fun _ => equiv_iff.mp BI.sep_emp
  rw [bigSep_W0, bigSep_W0, defs₀_row, e, e]
  exact sound_body m c

/-! ## The run -/

set_option backward.isDefEq.respectTransparency.types false in
theorem run_main : θ_run defs (onTc (τ := τ) (main (F := F))) (s₀ m ρ) (fun r =>
    Pipeline.FramePostRG (Pipeline.pin pcfgs fun _ => adm m) (dats m) 0 R0 (V m) (G m) r ∧ r.2.sem = fun _ => 0) :=
  Pipeline.θ_run_frameP_dmaRG (Q' := _) pcfgs (fun _ => adm m) (dats m) (0 : Fin 1) launch0 osem0 defs₀ Variants.none ownSemFacts0
    H0 R0 H0_sub R0_sub m ρ main
    (hbody := fun c => (body_obligation m c).loose) (hshare := fun c => (dats m 0 c).share_full fun _ => rfl)
    (howed := fun _ _ => rfl) (V := V m) (hmain := hmain m Variants.none) (hA := A_eq m) (hpf := V_pre m) (G := G m)
    (hin := fun _ => .rfl) (hout := fun c => by
      show iprop(Pipeline.ΦDRG osem0 spec0 H0 R0 (V m) (G m) c ∗ Pipeline.ΦT pre0 (tbl m) c) ⊢ _
      iintro ⟨H, -⟩; iexact H)

/-- Every execution ends, the results at their values, the arguments as launched, the counters at zero. -/
theorem run : θ_run defs (onTc (τ := τ) (main (F := F))) ⟨m, fun _ => 0, ρ⟩ (fun r => (∀ c : Dev nD,
      r.2.mem ((c.tc : Thread nD τ).loc main_v1_0) = outGv (m ((c.tc : Thread nD τ).loc main_arg0)) (m ((c.tc : Thread nD τ).loc main_arg1))
      ∧ r.2.mem ((c.tc : Thread nD τ).loc main_v1_1) = outDv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v1_2) = outMv (m ((c.tc : Thread nD τ).loc main_arg0)) (m ((c.tc : Thread nD τ).loc main_arg1))
          (m ((c.tc : Thread nD τ).loc main_arg3))
      ∧ r.2.mem ((c.tc : Thread nD τ).loc main_v1_3) = outVv (m ((c.tc : Thread nD τ).loc main_arg0)) (m ((c.tc : Thread nD τ).loc main_arg1))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have rest : ∀ b ∈ H0, b ∈ Pipeline.restRefs sig spec0 \ R0 := by decide
    have a0 := V_keep m c main_arg0 (by decide) (by decide)
    have a1 := V_keep m c main_arg1 (by decide) (by decide)
    have a2 := V_keep m c main_arg2 (by decide) (by decide)
    have a3 := V_keep m c main_arg3 (by decide) (by decide)
    have a4 := V_keep m c main_arg4 (by decide) (by decide)
    have g0 := (h.1.written c (b := main_v1_0) (by decide)).trans (G_0 m c)
    have g1 := (h.1.written c (b := main_v1_1) (by decide)).trans (G_1 m c)
    have g2 := (h.1.written c (b := main_v1_2) (by decide)).trans (G_2 m c)
    have g3 := (h.1.written c (b := main_v1_3) (by decide)).trans (G_3 m c)
    rw [a0, a1] at g0; rw [a0, a1, a2, a3, a4] at g1; rw [a0, a1, a3] at g2; rw [a0, a1, a4] at g3
    exact ⟨g0, g1, g2, g3, ((h.1.1 c).2 main_arg0 (rest main_arg0 (by decide))).trans a0, ((h.1.1 c).2 main_arg1 (rest main_arg1 (by decide))).trans a1,
      ((h.1.1 c).2 main_arg2 (rest main_arg2 (by decide))).trans a2, ((h.1.1 c).2 main_arg3 (rest main_arg3 (by decide))).trans a3,
      ((h.1.1 c).2 main_arg4 (rest main_arg4 (by decide))).trans a4⟩, h.2⟩) (run_main m ρ)

end Cert.ReduceIdeal.Hand

end
-- ==== Proof.ReduceClaim.lean ====
/- The sum of four chips' parts of a weight gradient and the optimiser's step from it: the call brings slabs into scratch,
   works on them and sends the results out, the reference works on the arrays. -/
module

public import proofs.«01_k».proof.Defs
public import proofs.«01_k».proof.Proof.ReduceRun
public import proofs.«01_k».proof.Proof.Gen.Reduce
public import proofs.«01_k».proof.Proof.Gen.ReduceRefIdeal.Run

@[expose] public section

set_option maxRecDepth 16384

noncomputable section

open Idealize.ShloMosaic Idealize.ShloMosaic.TcCoe Idealize.SL.Sem

namespace Cert.ReduceRefIdeal.Value

open Cert.ReduceRefIdeal Cert.ReduceRefIdeal.Gen

/-- The four parts summed. -/
def grad (p : FVec Ideal S4x256x512 .bf16) (r : FVec Ideal S3x256x512 .bf16) : FVec Ideal S256x512 .f32 :=
  addf (extf .f32 (shapeCast _ (extractStridedSlice S1x256x512 ![0, 0, 0] p slices_S4x256x512_S1x256x512_0_0_0)
      shapeCasts_S1x256x512_S256x512) bitsLt_bf16_f32)
    (Host.reduceAdd (extf .f32 r bitsLt_bf16_f32) (constant S_ .f32 0x00000000#32) reducesTo_S3x256x512_S256x512_d0 h_S_)

/-- At an element: the device's own part and the sum of the three received. -/
theorem grad_at (p : FVec Ideal S4x256x512 .bf16) (r : FVec Ideal S3x256x512 .bf16) (i : Fin 256) (j : Fin 512) :
    grad p r (ix2 i j) = p (ix3 0 i j) + ∑ k : Fin 3, r (ix3 k i j) := by
  pointwise [grad]

end Cert.ReduceRefIdeal.Value

namespace Cert.ReduceIdeal.Hand

open Cert.ReduceIdeal Cert.ReduceIdeal.Gen
open Cert.ReduceRefIdeal.Value (grad grad_at)

/-- The call adds the received parts one after another. -/
theorem sum_eq (p : Vec Ideal S4x256x512 .bf16) (r : Vec Ideal S3x256x512 .bf16) : k0_pay2 (partial3 p r) (theirs r 2) = grad p r := by
  funext (y : S256x512.Idx)
  idx_vars y
  refine Eq.trans ?_ (grad_at p r y0 y1).symm
  rw [Fin.sum_univ_three]
  pointwise [k0_pay2, k0_pay1, partial3, mine, theirs]
  simp only [add_assoc]

/-- What the run says of the memory alone. -/
theorem values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1_0) = outGv (m ((c.tc : Thread nD τ).loc main_arg0)) (m ((c.tc : Thread nD τ).loc main_arg1))
      ∧ r.2.mem ((c.tc : Thread nD τ).loc main_v1_1) = outDv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v1_2) = outMv (m ((c.tc : Thread nD τ).loc main_arg0)) (m ((c.tc : Thread nD τ).loc main_arg1))
          (m ((c.tc : Thread nD τ).loc main_arg3))
      ∧ r.2.mem ((c.tc : Thread nD τ).loc main_v1_3) = outVv (m ((c.tc : Thread nD τ).loc main_arg0)) (m ((c.tc : Thread nD τ).loc main_arg1))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h => h.1) (run m ρ)

end Cert.ReduceIdeal.Hand

/-- Every execution of the call ends, its arguments unchanged and its counters at zero. -/
theorem Cert.Proof.Frames.reduceIdeal : Cert.quiescent_ReduceIdeal := fun m g _ =>
  (θ_run Cert.ReduceIdeal.defs _ _).mono (fun _ h => ⟨fun c => (h.1 c).2.2.2.2, h.2⟩) (Cert.ReduceIdeal.Hand.run (F := Ideal) m g)

/-- The same over the machine's floats: the run is stated over any floats, and the two programs' text is one. -/
theorem Cert.Proof.Frames.reduce : Cert.quiescent_Reduce := fun m g _ =>
  (θ_run Cert.ReduceIdeal.defs _ _).mono (fun _ h => ⟨fun c => (h.1 c).2.2.2.2, h.2⟩) (Cert.ReduceIdeal.Hand.run (F := Bits) m g)

set_option maxHeartbeats 2000000 in
open Cert.ReduceIdeal.Gen Cert.ReduceIdeal.Hand in
/-- From arguments that agree the two programs end with the same gradient, the same step and the same moments. -/
theorem Cert.Proof.reduce : Cert.algebraic_ReduceIdeal_ReduceRefIdeal := by
  pair_intro
  · run_from Cert.ReduceIdeal.Hand.values m g
  · run_from Cert.ReduceRefIdeal.Value.run m' g'
    all_goals
      generalize m ((c.tc : Thread Cert.ReduceIdeal.nD Cert.ReduceIdeal.τ).loc Cert.ReduceIdeal.main_arg0) = P
      generalize m ((c.tc : Thread Cert.ReduceIdeal.nD Cert.ReduceIdeal.τ).loc Cert.ReduceIdeal.main_arg1) = R
      generalize m ((c.tc : Thread Cert.ReduceIdeal.nD Cert.ReduceIdeal.τ).loc Cert.ReduceIdeal.main_arg2) = W
      generalize m ((c.tc : Thread Cert.ReduceIdeal.nD Cert.ReduceIdeal.τ).loc Cert.ReduceIdeal.main_arg3) = M
      generalize m ((c.tc : Thread Cert.ReduceIdeal.nD Cert.ReduceIdeal.τ).loc Cert.ReduceIdeal.main_arg4) = N
      simp only [outGv, outDv, outMv, outVv, k0_pay3, k0_pay4, k0_pay5, k0_pay6, k0_pay7, k0_pay8,
        k0_pay9, sum_eq]
      funext (y : Cert.ReduceIdeal.S1x256x512.Idx)
      idx_vars y
      obtain rfl : y0 = 0 := Subsingleton.elim _ _
      pointwise [Cert.ReduceRefIdeal.Value.grad]

end
-- ==== Proof.SentClaim.lean ====
/- The weight gradient of a layer's last product, on the other core's half of the rows: the half that is sent. The half is
   chosen by a prefetched table, which the host fills with the core's number, here zero, so that the other's is one. -/
module

public import proofs.«01_k».proof.Defs
public import proofs.«01_k».proof.Proof.Gen.Sent.Frame
public import proofs.«01_k».proof.Proof.Gen.SentIdeal.Frame
public import proofs.«01_k».proof.Proof.Gen.SentRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Sent.Gen

/-- The table the call reads: the core's number, which is zero. -/
def zero : pre0.Contents (Elt Bits) := fun | ⟨0, _⟩ => fun _ => 0#32 | ⟨_ + 1, h⟩ => absurd h (Nat.not_lt.2 (Nat.le_add_left _ _))

theorem ok (m : (ℓ : Loc nD τ sig) → Buf (Elt Bits) ℓ) : Ok m := by
  have h : tbl m = zero := by
    funext j
    obtain rfl : j = 0 := Subsingleton.elim _ _
    funext x
    change V m 0 main_v0 x = 0#32
    entry_read
    rfl
  unfold Ok
  rw [h]
  decide

end Cert.Sent.Gen

namespace Cert.SentIdeal.Gen

/-- The table the call reads: the core's number, which is zero. -/
def zero : pre0.Contents (Elt Ideal) := fun | ⟨0, _⟩ => fun _ => 0#32 | ⟨_ + 1, h⟩ => absurd h (Nat.not_lt.2 (Nat.le_add_left _ _))

theorem tbl_eq (m : (ℓ : Loc nD τ sig) → Buf (Elt Ideal) ℓ) : tbl m = zero := by
  funext j
  obtain rfl : j = 0 := Subsingleton.elim _ _
  funext x
  change V m 0 main_v0 x = 0#32
  entry_read
  rfl

theorem ok (m : (ℓ : Loc nD τ sig) → Buf (Elt Ideal) ℓ) : Ok m := by
  unfold Ok
  rw [tbl_eq]
  decide

end Cert.SentIdeal.Gen

namespace Cert.SentRefIdeal.Value

open Cert.SentRefIdeal Cert.SentRefIdeal.Gen

/-- The reference's result: the other core's half of the rows of the weight gradient. -/
def out (A : FVec Ideal S2048x8192 .bf16) (G : FVec Ideal S2048x2048 .bf16) : FVec Ideal S4x1024x2048 .bf16 :=
  truncf .bf16 (shapeCast _ (extractStridedSlice S4x1x1024x2048 ![0, 1, 0, 0] (shapeCast _ (transpose S8192x2048 [1, 0]
    (Host.dotGeneral dot_S2048x2048_S2048x8192_S2048x8192_0_0_1_1_n_n none (extf .f32 G bitsLt_bf16_f32)
      (extf .f32 A bitsLt_bf16_f32)) transposes_S2048x8192_S8192x2048_1_0) shapeCasts_S8192x2048_S4x2x1024x2048)
    slices_S4x2x1024x2048_S4x1x1024x2048_0_1_0_0) shapeCasts_S4x1x1024x2048_S4x1024x2048) bitsLt_bf16_f32

theorem out_at (A : FVec Ideal S2048x8192 .bf16) (G : FVec Ideal S2048x2048 .bf16) (p : Fin 4) (i : Fin 1024) (j : Fin 2048) :
    out A G (ix3 p i j) = ∑ k : Fin 2048, A (ix2 k ⟨p.val * 2048 + 1024 + i.val, by omega⟩) * G (ix2 k j) := by
  pointwise [out]
  refine Fin.sum_fin_congr fun k => (mul_comm _ _).trans ?_
  pointwise

end Cert.SentRefIdeal.Value

namespace Cert.SentIdeal.Value

open Cert.SentIdeal Cert.SentIdeal.Gen

variable (m : (ℓ : Loc nD τ sig) → Buf (Elt Ideal) ℓ)

theorem pay1_at (x y : Vec Ideal S2048x1024 .bf16) (z : Fin 1) (i j : Fin 1024) :
    k0_pay1 x y (ix3 z i j) = ∑ k : Fin 2048, x (ix2 k i) * y (ix2 k j) := by
  pointwise [k0_pay1]

/-- The columns of the first operand at a point: that chip's pair of halves, the other core's one. -/
theorem idx0 (t : Fin (cfgM m (ok m)).N) : ((cfgM m (ok m)).win 0).index t = ![0, t.val / 2 * 2 + 1] := by
  change cc0_transform_0 _ _ (tbl m) (grid0.coords t) = _
  rw [tbl_eq]
  exact (by decide +kernel : ∀ t : Fin grid0.N, cc0_transform_0 _ _ zero (grid0.coords t) = ![0, t.val / 2 * 2 + 1]) t

theorem idx1 (t : Fin (cfgM m (ok m)).N) : ((cfgM m (ok m)).win 1).index t = ![0, t.val % 2] :=
  (by decide +kernel : ∀ t : Fin grid0.N, cc0_transform_1 (grid0.coords t) = ![0, t.val % 2]) t

theorem idx2 (t : Fin (cfgM m (ok m)).N) : ((cfgM m (ok m)).win 2).index t = ![t.val / 2, 0, t.val % 2] :=
  (by decide +kernel : ∀ t : Fin grid0.N, cc0_transform_2 (grid0.coords t) = ![t.val / 2, 0, t.val % 2]) t

/-- The blocks of the result cover it. -/
theorem covers : ((cfgM m (ok m)).win 2).Covers :=
  (by decide +kernel : ((cfg0 ⟨zero, by decide⟩).win 2).Covers)

/-- The chip of point `t`, and the column. -/
def chip (t : Fin (cfgM m (ok m)).N) : Fin 4 := ⟨t.val / 2, by have := lt_of_lt_of_eq t.isLt N_0; omega⟩

def col (t : Fin (cfgM m (ok m)).N) (j : Fin 1024) : Fin 2048 := ⟨t.val % 2 * 1024 + j.val, by omega⟩

/-- The result. -/
theorem final2 (c : Dev nD) : (dats m (ok m) 0 c).arrAt 2 (cfgM m (ok m)).N
    = Cert.SentRefIdeal.Value.out (m ((c : Thread nD τ).loc main_arg0)) (m ((c : Thread nD τ).loc main_arg1)) := by
  refine (dats m (ok m) 0 c).arrAt_eq_of_covers 2 _ (covers m) fun t hf y => ?_
  blk_simp
  rw [after0_2, outsAt0]
  revert y
  intro (y : S1x1024x1024.Idx)
  idx_vars y
  frame_open
  frame_out
  have he : (((cfgM m (ok m)).win 2).blk t).view.emb (ix3 y0 y1 y2) = ix3 (chip m t) y1 (col m t y2) := by
    blk_ext [idx2 m t, chip, col]
  refine Eq.trans ?_ ((congrArg _ he).trans (Cert.SentRefIdeal.Value.out_at _ _ _ _ _)).symm
  rw [pay1_at]
  refine Fin.sum_fin_congr fun k => congrArg₂ (· * ·) ?_ ?_
  · refine (congrFun ((hs0_0 m (ok m) t).read_unread _) _).trans ?_
    have h0 : (((cfgM m (ok m)).win 0).blk t).view.emb (ix2 k y1) = ix2 k ⟨(chip m t).val * 2048 + 1024 + y1.val, by omega⟩ := by
      blk_ext [idx0 m t, chip]
    exact congrArg (m ((c : Thread nD τ).loc main_arg0)) h0
  · refine (congrFun ((hs0_1 m (ok m) t).read_unread _) _).trans ?_
    have h1 : (((cfgM m (ok m)).win 1).blk t).view.emb (ix2 k y2) = ix2 k (col m t y2) := by
      blk_ext [idx1 m t, col]
    exact congrArg (m ((c : Thread nD τ).loc main_arg1)) h1

/-- The kernel's run, with its result named. -/
theorem run (g : Dev nD → PrngReg) : θ_run defs (onTc (τ := τ) (main (F := Ideal))) ⟨m, fun _ => 0, g⟩ fun r => ∀ c : Dev nD,
    r.2.mem ((c.tc : Thread nD τ).loc main_v1)
      = Cert.SentRefIdeal.Value.out (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).1 2).trans (final2 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩)
    (run_main m g (ok m))

end Cert.SentIdeal.Value

/-- From arguments that agree the two programs end with the same result. -/
theorem Cert.Proof.sent : Cert.algebraic_SentIdeal_SentRefIdeal := by
  pair_intro
  · run_from Cert.SentIdeal.Value.run m g
  · run_from Cert.SentRefIdeal.Value.run m' g'
    · rfl

end
-- ==== Proof.GroupDxClaim.lean ====
/- The gradient of the grouped product in its left factor: each group's columns times the transpose of the group's weight.
   What the call leaves is what the reference computes. -/
module

public import proofs.«01_k».proof.Defs
public import proofs.«01_k».proof.Proof.Gen.GroupDx.Frame
public import proofs.«01_k».proof.Proof.Gen.GroupDxIdeal.Frame
public import proofs.«01_k».proof.Proof.Gen.GroupDxRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupDxRefIdeal.Value

open Cert.GroupDxRefIdeal Cert.GroupDxRefIdeal.Gen

/-- The reference's result: the derivative of the grouped product in the tokens. -/
def out (D : FVec Ideal S2048x2048 .bf16) (W : FVec Ideal S1x4x512x512 .f32) : FVec Ideal S2048x2048 .f32 :=
  shapeCast _ (transpose S2048x4x512 [1, 0, 2] (Host.dotGeneral dot_S4x512x2048_S4x512x512_S4x2048x512_1_2_2_1_0_0 none
    (transpose S4x512x2048 [1, 2, 0] (shapeCast _ (extf .f32 D bitsLt_bf16_f32) shapeCasts_S2048x2048_S2048x4x512)
      transposes_S2048x4x512_S4x512x2048_1_2_0)
    (shapeCast _ W shapeCasts_S1x4x512x512_S4x512x512))
    transposes_S4x2048x512_S2048x4x512_1_0_2) shapeCasts_S2048x4x512_S2048x2048

/-- The column of a group's lane. -/
def lane (g : Fin 4) (l : Fin 512) : Fin 2048 := ⟨g.val * 512 + l.val, by omega⟩

theorem out_at (D : FVec Ideal S2048x2048 .bf16) (W : FVec Ideal S1x4x512x512 .f32) (i : Fin 2048) (g : Fin 4) (l : Fin 512) :
    out D W (ix2 i (lane g l)) = ∑ k : Fin 512, D (ix2 i (lane g k)) * W (ix4 0 g l k) := by
  have hl : (lane g l).val / 512 = g.val ∧ (lane g l).val % 512 = l.val := by simp only [lane]; omega
  pointwise [out]
  refine Fin.sum_fin_congr fun k => congrArg₂ (· * ·) ?_ ?_
  · exact congrArg (fun z => D (ix2 i z)) (Fin.ext (by show _ / 512 * 512 + k.val = g.val * 512 + k.val; rw [hl.1]))
  · exact congrArg₂ (fun y z => W (ix4 0 y z k)) (Fin.ext hl.1) (Fin.ext hl.2)

end Cert.GroupDxRefIdeal.Value

namespace Cert.GroupDxIdeal.Value

open Cert.GroupDxIdeal Cert.GroupDxIdeal.Gen
open Cert.GroupDxRefIdeal.Value (lane)

variable (m : (ℓ : Loc nD τ sig) → Buf (Elt Ideal) ℓ)

theorem pay1_at (x : Vec Ideal S1024x512 .bf16) (w : Vec Ideal S1x512x512 .bf16) (i : Fin 1024) (l : Fin 512) :
    k0_pay1 x w (ix2 i l) = ∑ k : Fin 512, x (ix2 i k) * w (ix3 0 l k) := by
  pointwise [k0_pay1]

theorem idx : ∀ t : Fin cfg0.N, win0_0.index t = ![t.val / 4, t.val % 4] ∧ win0_1.index t = ![t.val % 4, 0, 0]
    ∧ win0_2.index t = ![t.val / 4, t.val % 4] :=
  (by decide +kernel : ∀ t : Fin grid0.N, _)

/-- The weight as the call reads it. -/
theorem weight (c : Dev nD) (g : Fin 4) (k l : Fin 512) :
    V m c main_v1 (ix3 g k l) = m ((c : Thread nD τ).loc main_arg1) (ix4 0 g k l) := by
  entry_read
  pointwise

/-- Row `i` of block `t`, and its group. -/
def row (t : Fin cfg0.N) (i : Fin 1024) : Fin 2048 :=
  ⟨t.val / 4 * 1024 + i.val, by have := lt_of_lt_of_eq t.isLt N_0; omega⟩

def grp (t : Fin cfg0.N) : Fin 4 := ⟨t.val % 4, by omega⟩

/-- The result. -/
theorem final2 (c : Dev nD) : (dats m 0 c).arrAt 2 (cfgs 0).N
    = Cert.GroupDxRefIdeal.Value.out (m ((c : Thread nD τ).loc main_arg0)) (m ((c : Thread nD τ).loc main_arg1)) := by
  refine (dats m 0 c).arrAt_eq_of_covers 2 _ (by decide +kernel) fun t hf y => ?_
  blk_simp
  rw [after0_2]
  idx_vars y
  simp only [out0_2]
  frame_out
  have he : (win0_2.blk t).view.emb (ix2 y0 y1) = ix2 (row t y0) (lane (grp t) y1) := by
    blk_ext [idx t, row, lane, grp]
  refine Eq.trans ?_ ((congrArg _ he).trans (Cert.GroupDxRefIdeal.Value.out_at _ _ _ _ _)).symm
  rw [pay1_at]
  refine Fin.sum_fin_congr fun k => congrArg₂ (· * ·) ?_ ?_
  · blk_point [iblk, V, idx t, row, lane, grp]
  · rw [← weight m c]
    blk_point [iblk, idx t, grp]

end Cert.GroupDxIdeal.Value

/-- From arguments that agree the two programs end with the same gradient. -/
theorem Cert.Proof.groupDx : Cert.algebraic_GroupDxIdeal_GroupDxRefIdeal := by
  pair_intro
  · run_from Cert.GroupDxIdeal.Gen.run_main m g
  · run_from Cert.GroupDxRefIdeal.Value.run m' g'
    · exact (Cert.GroupDxIdeal.Value.final2 m c).symm

end
-- ==== Proof.ColumnsClaim.lean ====
/- The weight gradient of a layer's first product, on the core's own half of the columns, plus the half received from the
   other core. The half is chosen by a prefetched table, which the host fills with the core's number, here zero; a point of
   the grid computes half the rows of one chip's columns. -/
module

public import proofs.«01_k».proof.Defs
public import proofs.«01_k».proof.Proof.Gen.Columns.Frame
public import proofs.«01_k».proof.Proof.Gen.ColumnsIdeal.Frame
public import proofs.«01_k».proof.Proof.Gen.ColumnsRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Columns.Gen

/-- The table the call reads: the core's number, which is zero. -/
def zero : pre0.Contents (Elt Bits) := fun | ⟨0, _⟩ => fun _ => 0#32 | ⟨_ + 1, h⟩ => absurd h (Nat.not_lt.2 (Nat.le_add_left _ _))

theorem ok (m : (ℓ : Loc nD τ sig) → Buf (Elt Bits) ℓ) : Ok m := by
  have h : tbl m = zero := by
    funext j
    obtain rfl : j = 0 := Subsingleton.elim _ _
    funext x
    change V m 0 main_v0 x = 0#32
    entry_read
    rfl
  unfold Ok
  rw [h]
  decide

end Cert.Columns.Gen

namespace Cert.ColumnsIdeal.Gen

/-- The table the call reads: the core's number, which is zero. -/
def zero : pre0.Contents (Elt Ideal) := fun | ⟨0, _⟩ => fun _ => 0#32 | ⟨_ + 1, h⟩ => absurd h (Nat.not_lt.2 (Nat.le_add_left _ _))

theorem tbl_eq (m : (ℓ : Loc nD τ sig) → Buf (Elt Ideal) ℓ) : tbl m = zero := by
  funext j
  obtain rfl : j = 0 := Subsingleton.elim _ _
  funext x
  change V m 0 main_v0 x = 0#32
  entry_read
  rfl

theorem ok (m : (ℓ : Loc nD τ sig) → Buf (Elt Ideal) ℓ) : Ok m := by
  unfold Ok
  rw [tbl_eq]
  decide

end Cert.ColumnsIdeal.Gen

namespace Cert.ColumnsRefIdeal.Value

open Cert.ColumnsRefIdeal Cert.ColumnsRefIdeal.Gen

/-- The reference's result: the core's half of the columns of the weight gradient, plus the received one. -/
def out (A : FVec Ideal S2048x2048 .bf16) (G : FVec Ideal S2048x8192 .bf16) (r : FVec Ideal S4x2048x1024 .bf16) :
    FVec Ideal S4x2048x1024 .bf16 :=
  truncf .bf16 (addf (shapeCast _ (extractStridedSlice S4x1x2048x1024 ![0, 0, 0, 0] (transpose S4x2x2048x1024 [1, 2, 0, 3]
    (shapeCast _ (transpose S2048x8192 [1, 0] (Host.dotGeneral dot_S2048x8192_S2048x2048_S8192x2048_0_0_1_1_n_n none
      (extf .f32 G bitsLt_bf16_f32) (extf .f32 A bitsLt_bf16_f32)) transposes_S8192x2048_S2048x8192_1_0)
      shapeCasts_S2048x8192_S2048x4x2x1024) transposes_S2048x4x2x1024_S4x2x2048x1024_1_2_0_3)
    slices_S4x2x2048x1024_S4x1x2048x1024_0_0_0_0) shapeCasts_S4x1x2048x1024_S4x2048x1024)
    (extf .f32 r bitsLt_bf16_f32)) bitsLt_bf16_f32

theorem out_at (A : FVec Ideal S2048x2048 .bf16) (G : FVec Ideal S2048x8192 .bf16) (r : FVec Ideal S4x2048x1024 .bf16)
    (p : Fin 4) (i : Fin 2048) (j : Fin 1024) : out A G r (ix3 p i j)
      = (∑ k : Fin 2048, A (ix2 k i) * G (ix2 k ⟨p.val * 2048 + j.val, by omega⟩)) + r (ix3 p i j) := by
  pointwise [out]
  refine congrArg (· + _) (Fin.sum_fin_congr fun k => (mul_comm _ _).trans ?_)
  pointwise

end Cert.ColumnsRefIdeal.Value

namespace Cert.ColumnsIdeal.Value

open Cert.ColumnsIdeal Cert.ColumnsIdeal.Gen

variable (m : (ℓ : Loc nD τ sig) → Buf (Elt Ideal) ℓ)

theorem pay1_at (x y : Vec Ideal S2048x1024 .bf16) (r : Vec Ideal S1x1024x1024 .bf16) (z : Fin 1) (i j : Fin 1024) :
    k0_pay1 x y r (ix3 z i j) = (∑ k : Fin 2048, x (ix2 k i) * y (ix2 k j)) + r (ix3 0 i j) := by
  pointwise [k0_pay1]

theorem idx0 (t : Fin (cfgM m (ok m)).N) : ((cfgM m (ok m)).win 0).index t = ![0, t.val / 4] :=
  (by decide +kernel : ∀ t : Fin grid0.N, cc0_transform_0 (grid0.coords t) = ![0, t.val / 4]) t

/-- The columns of the second operand at a point: that chip's pair of halves, the core's one. -/
theorem idx1 (t : Fin (cfgM m (ok m)).N) : ((cfgM m (ok m)).win 1).index t = ![0, t.val % 4 * 2] := by
  change cc0_transform_1 _ _ (tbl m) (grid0.coords t) = _
  rw [tbl_eq]
  exact (by decide +kernel : ∀ t : Fin grid0.N, cc0_transform_1 _ _ zero (grid0.coords t) = ![0, t.val % 4 * 2]) t

theorem idx2 (t : Fin (cfgM m (ok m)).N) : ((cfgM m (ok m)).win 2).index t = ![t.val % 4, t.val / 4, 0] :=
  (by decide +kernel : ∀ t : Fin grid0.N, cc0_transform_2 (grid0.coords t) = ![t.val % 4, t.val / 4, 0]) t

theorem idx3 (t : Fin (cfgM m (ok m)).N) : ((cfgM m (ok m)).win 3).index t = ![t.val % 4, t.val / 4, 0] :=
  (by decide +kernel : ∀ t : Fin grid0.N, cc0_transform_3 (grid0.coords t) = ![t.val % 4, t.val / 4, 0]) t

/-- The blocks of the result cover it. -/
theorem covers : ((cfgM m (ok m)).win 3).Covers :=
  (by decide +kernel : ((cfg0 ⟨zero, by decide⟩).win 3).Covers)

/-- The chip of point `t`, and the row. -/
def chip (t : Fin (cfgM m (ok m)).N) : Fin 4 := ⟨t.val % 4, by omega⟩

def row (t : Fin (cfgM m (ok m)).N) (i : Fin 1024) : Fin 2048 :=
  ⟨t.val / 4 * 1024 + i.val, by have := lt_of_lt_of_eq t.isLt N_0; omega⟩

/-- The result. -/
theorem final3 (c : Dev nD) : (dats m (ok m) 0 c).arrAt 3 (cfgM m (ok m)).N
    = Cert.ColumnsRefIdeal.Value.out (m ((c : Thread nD τ).loc main_arg0)) (m ((c : Thread nD τ).loc main_arg1))
        (m ((c : Thread nD τ).loc main_arg2)) := by
  refine (dats m (ok m) 0 c).arrAt_eq_of_covers 3 _ (covers m) fun t hf y => ?_
  blk_simp
  rw [after0_3, outsAt0]
  revert y
  intro (y : S1x1024x1024.Idx)
  idx_vars y
  frame_open
  frame_out
  have he : (((cfgM m (ok m)).win 3).blk t).view.emb (ix3 y0 y1 y2) = ix3 (chip m t) (row m t y1) y2 := by
    blk_ext [idx3 m t, chip, row]
  refine Eq.trans ?_ ((congrArg _ he).trans (Cert.ColumnsRefIdeal.Value.out_at _ _ _ _ _ _)).symm
  rw [pay1_at]
  refine congrArg₂ (· + ·) (Fin.sum_fin_congr fun k => congrArg₂ (· * ·) ?_ ?_) ?_
  · refine (congrFun ((hs0_0 m (ok m) t).read_unread _) _).trans ?_
    have h0 : (((cfgM m (ok m)).win 0).blk t).view.emb (ix2 k y1) = ix2 k (row m t y1) := by
      blk_ext [idx0 m t, row]
    exact congrArg (m ((c : Thread nD τ).loc main_arg0)) h0
  · refine (congrFun ((hs0_1 m (ok m) t).read_unread _) _).trans ?_
    have h1 : (((cfgM m (ok m)).win 1).blk t).view.emb (ix2 k y2) = ix2 k ⟨(chip m t).val * 2048 + y2.val, by omega⟩ := by
      blk_ext [idx1 m t, chip]
    exact congrArg (m ((c : Thread nD τ).loc main_arg1)) h1
  · refine (congrFun ((hs0_2 m (ok m) t).read_unread _) _).trans ?_
    have h2 : (((cfgM m (ok m)).win 2).blk t).view.emb (ix3 0 y1 y2) = ix3 (chip m t) (row m t y1) y2 := by
      blk_ext [idx2 m t, chip, row]
    exact congrArg (m ((c : Thread nD τ).loc main_arg2)) h2

/-- The kernel's run, with its result named. -/
theorem run (g : Dev nD → PrngReg) : θ_run defs (onTc (τ := τ) (main (F := Ideal))) ⟨m, fun _ => 0, g⟩ fun r => ∀ c : Dev nD,
    r.2.mem ((c.tc : Thread nD τ).loc main_v1)
      = Cert.ColumnsRefIdeal.Value.out (m ((c : Thread nD τ).loc main_arg0)) (m ((c : Thread nD τ).loc main_arg1))
          (m ((c : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h c).1 3).trans (final3 m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c)))⟩)
    (run_main m g (ok m))

end Cert.ColumnsIdeal.Value

/-- From arguments that agree the two programs end with the same result. -/
theorem Cert.Proof.columns : Cert.algebraic_ColumnsIdeal_ColumnsRefIdeal := by
  pair_intro
  · run_from Cert.ColumnsIdeal.Value.run m g
  · run_from Cert.ColumnsRefIdeal.Value.run m' g'
    · rfl

end
-- ==== Proof.lean ====
/- The claim: the frames of the programs, the named constants, and the value claims, put together. -/
module

public import proofs.«01_k».proof.Defs
public import proofs.«01_k».proof.Proof.Frames
public import proofs.«01_k».proof.Proof.ScaleClaim
public import proofs.«01_k».proof.Proof.GateClaim
public import proofs.«01_k».proof.Proof.DownClaim
public import proofs.«01_k».proof.Proof.PoolClaim
public import proofs.«01_k».proof.Proof.NormClaim
public import proofs.«01_k».proof.Proof.HeadClaim
public import proofs.«01_k».proof.Proof.GateFwdClaim
public import proofs.«01_k».proof.Proof.NormFwdClaim
public import proofs.«01_k».proof.Proof.PoolFwdClaim
public import proofs.«01_k».proof.Proof.GroupClaim
public import proofs.«01_k».proof.Proof.ExchangeClaim
public import proofs.«01_k».proof.Proof.MlpDownClaim
public import proofs.«01_k».proof.Proof.UpDxClaim
public import proofs.«01_k».proof.Proof.WeightClaim
public import proofs.«01_k».proof.Proof.GroupGradClaim
public import proofs.«01_k».proof.Proof.AddSibClaim
public import proofs.«01_k».proof.Proof.SmallAdamClaim
public import proofs.«01_k».proof.Proof.SmallSumClaim
public import proofs.«01_k».proof.Proof.ReduceClaim
public import proofs.«01_k».proof.Proof.SentClaim
public import proofs.«01_k».proof.Proof.GroupDxClaim
public import proofs.«01_k».proof.Proof.ColumnsClaim
public import Idealize.ShloMosaic.Adequacy
public import Idealize.ShloMosaic.Init

@[expose] public section

noncomputable section

namespace Cert.Proof

open Idealize.ShloMosaic Idealize.SL.Sem

theorem claim : Cert.Claim :=
  ⟨Cert.Head.Gen.facts, Cert.HeadIdeal.Gen.facts, Cert.HeadRefIdeal.Gen.facts, Cert.Norm.Gen.facts, Cert.NormIdeal.Gen.facts, Cert.NormRefIdeal.Gen.facts, Cert.Gate.Gen.facts, Cert.GateIdeal.Gen.facts, Cert.GateRefIdeal.Gen.facts, Cert.Pool.Gen.facts, Cert.PoolIdeal.Gen.facts, Cert.PoolRefIdeal.Gen.facts, Cert.Scale.Gen.facts, Cert.ScaleIdeal.Gen.facts, Cert.ScaleRefIdeal.Gen.facts, Cert.Down.Gen.facts, Cert.DownIdeal.Gen.facts, Cert.DownRefIdeal.Gen.facts,
    Cert.GateFwd.Gen.facts, Cert.GateFwdIdeal.Gen.facts, Cert.GateFwdRefIdeal.Gen.facts, Cert.NormFwd.Gen.facts, Cert.NormFwdIdeal.Gen.facts, Cert.NormFwdRefIdeal.Gen.facts, Cert.PoolFwd.Gen.facts, Cert.PoolFwdIdeal.Gen.facts, Cert.PoolFwdRefIdeal.Gen.facts, Cert.Group.Gen.facts, Cert.GroupIdeal.Gen.facts, Cert.GroupRefIdeal.Gen.facts, Cert.Exchange.Gen.facts, Cert.ExchangeIdeal.Gen.facts, Cert.ExchangeRefIdeal.Gen.facts,
    Cert.MlpDown.Gen.facts, Cert.MlpDownIdeal.Gen.facts, Cert.MlpDownRefIdeal.Gen.facts,
    Cert.UpDx.Gen.facts, Cert.UpDxIdeal.Gen.facts, Cert.UpDxRefIdeal.Gen.facts,
    Cert.Weight.Gen.facts, Cert.WeightIdeal.Gen.facts, Cert.WeightRefIdeal.Gen.facts,
    Cert.GroupGrad.Gen.facts, Cert.GroupGradIdeal.Gen.facts, Cert.GroupGradRefIdeal.Gen.facts,
    Cert.AddSib.Gen.facts, Cert.AddSibIdeal.Gen.facts, Cert.AddSibRefIdeal.Gen.facts,
    Cert.SmallAdam.Gen.facts, Cert.SmallAdamIdeal.Gen.facts, Cert.SmallAdamRefIdeal.Gen.facts,
    Cert.SmallSum.Gen.facts, Cert.SmallSumIdeal.Gen.facts, Cert.SmallSumRefIdeal.Gen.facts,
    Cert.Reduce.Gen.facts, Cert.ReduceIdeal.Gen.facts, Cert.ReduceRefIdeal.Gen.facts,
    Cert.Sent.Gen.facts, Cert.SentIdeal.Gen.facts, Cert.SentRefIdeal.Gen.facts,
    Cert.GroupDx.Gen.facts, Cert.GroupDxIdeal.Gen.facts, Cert.GroupDxRefIdeal.Gen.facts,
    Cert.Columns.Gen.facts, Cert.ColumnsIdeal.Gen.facts, Cert.ColumnsRefIdeal.Gen.facts,
    Cert.Pre_head_finite.facts, Cert.Pre_norm_finite.facts, Cert.Pre_gate_finite.facts, Cert.Pre_pool_finite.facts,
    Frames.head, fun m ρ _ => Cert.HeadIdeal.Value.frame_main m ρ, fun m ρ _ => Cert.HeadIdeal.Value.frame_main m ρ,
    Frames.headRef, fun m ρ _ => Frames.headRef m ρ trivial,
    Frames.norm, fun m ρ _ => Cert.NormIdeal.Value.frame_main m ρ, fun m ρ _ => Cert.NormIdeal.Value.frame_main m ρ,
    Frames.normRef, fun m ρ _ => Frames.normRef m ρ trivial,
    fun m ρ _ => Cert.Gate.Gen.frame m ρ, fun m ρ _ => Cert.GateIdeal.Gen.frame m ρ, fun m ρ _ => Cert.GateIdeal.Gen.frame m ρ,
    Frames.gateRef, fun m ρ _ => Frames.gateRef m ρ trivial,
    fun m ρ _ => Cert.Pool.Gen.frame m ρ, fun m ρ _ => Cert.PoolIdeal.Gen.frame m ρ, fun m ρ _ => Cert.PoolIdeal.Gen.frame m ρ,
    Frames.poolRef, fun m ρ _ => Frames.poolRef m ρ trivial,
    fun m ρ _ => Cert.Scale.Gen.frame m ρ, fun m ρ _ => Cert.ScaleIdeal.Gen.frame m ρ, Frames.scaleRef,
    fun m ρ _ => Cert.Down.Gen.frame m ρ, fun m ρ _ => Cert.DownIdeal.Gen.frame m ρ, Frames.downRef,
    fun m ρ _ => Cert.GateFwd.Gen.frame m ρ, fun m ρ _ => Cert.GateFwdIdeal.Gen.frame m ρ, Frames.gateFwdRef,
    fun m ρ _ => Cert.NormFwd.Gen.frame m ρ, fun m ρ _ => Cert.NormFwdIdeal.Gen.frame m ρ, Frames.normFwdRef,
    fun m ρ _ => Cert.PoolFwd.Gen.frame m ρ, fun m ρ _ => Cert.PoolFwdIdeal.Gen.frame m ρ, fun m ρ _ => Cert.PoolFwdIdeal.Gen.frame m ρ,
    Frames.poolFwdRef, fun m ρ _ => Frames.poolFwdRef m ρ trivial,
    fun m ρ _ => Cert.Group.Gen.frame m ρ, fun m ρ _ => Cert.GroupIdeal.Gen.frame m ρ, Frames.groupRef,
    Frames.exchange, Frames.exchangeIdeal, Frames.exchangeRef,
    fun m ρ _ => Cert.MlpDown.Gen.frame m ρ, fun m ρ _ => Cert.MlpDownIdeal.Gen.frame m ρ, Frames.mlpDownRef,
    fun m ρ _ => Cert.UpDx.Gen.frame m ρ, fun m ρ _ => Cert.UpDxIdeal.Gen.frame m ρ, Frames.upDxRef,
    fun m ρ _ => Cert.Weight.Gen.frame m ρ (Cert.Weight.Gen.ok m), fun m ρ _ => Cert.WeightIdeal.Gen.frame m ρ (Cert.WeightIdeal.Gen.ok m), Frames.weightRef,
    fun m ρ _ => Cert.GroupGrad.Gen.frame m ρ, fun m ρ _ => Cert.GroupGradIdeal.Gen.frame m ρ, Frames.groupGradRef,
    fun m ρ _ => Cert.AddSib.Gen.frame m ρ (Cert.AddSib.Gen.ok m), fun m ρ _ => Cert.AddSibIdeal.Gen.frame m ρ (Cert.AddSibIdeal.Gen.ok m), Frames.addSibRef,
    fun m ρ _ => Cert.SmallAdam.Gen.frame m ρ, fun m ρ _ => Cert.SmallAdamIdeal.Gen.frame m ρ, Frames.smallAdamRef,
    fun m ρ _ => Cert.SmallSum.Gen.frame m ρ trivial, fun m ρ _ => Cert.SmallSumIdeal.Gen.frame m ρ trivial, Frames.smallSumRef,
    Frames.reduce, Frames.reduceIdeal, Frames.reduceRef,
    fun m ρ _ => Cert.Sent.Gen.frame m ρ (Cert.Sent.Gen.ok m), fun m ρ _ => Cert.SentIdeal.Gen.frame m ρ (Cert.SentIdeal.Gen.ok m), Frames.sentRef,
    fun m ρ _ => Cert.GroupDx.Gen.frame m ρ, fun m ρ _ => Cert.GroupDxIdeal.Gen.frame m ρ, Frames.groupDxRef,
    fun m ρ _ => Cert.Columns.Gen.frame m ρ (Cert.Columns.Gen.ok m), fun m ρ _ => Cert.ColumnsIdeal.Gen.frame m ρ (Cert.ColumnsIdeal.Gen.ok m), Frames.columnsRef,
    trivial, head, trivial, norm, Frames.gateConsts, gate, trivial, pool, trivial, scale, trivial, down, Frames.gateFwdConsts, gateFwd,
    trivial, normFwd, trivial, poolFwd, trivial, group, trivial, exchange,
    trivial, mlpDown, trivial, upDx, trivial, weight, trivial, groupGrad, trivial, addSib, trivial, smallAdam, trivial, smallSum, trivial, reduce,
    trivial, sent, trivial, groupDx, trivial, columns⟩

end Cert.Proof

end
